-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def preserves_Kernel_KernelIdeal : Prop :=
  IdealRules.named_const.Statement Cert.KernelIdeal.κ "scale_log2e" .bf16 0x3E39#16 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)) (v2 : (c : Dev Cert.KernelIdeal.nD) → Buf (Elt Ideal) ((c.tc : Thread Cert.KernelIdeal.nD Cert.KernelIdeal.τ).loc Cert.KernelIdeal.main_v80_2)) (v3 : (c : Dev Cert.KernelIdeal.nD) → Buf (Elt Ideal) ((c.tc : Thread Cert.KernelIdeal.nD Cert.KernelIdeal.τ).loc Cert.KernelIdeal.main_v80_3)) (v4 : (c : Dev Cert.KernelIdeal.nD) → Buf (Elt Ideal) ((c.tc : Thread Cert.KernelIdeal.nD Cert.KernelIdeal.τ).loc Cert.KernelIdeal.main_v80_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_v80_2) = v2 c
          ∧ r.2.mem ((c.tc : Thread Cert.KernelIdeal.nD Cert.KernelIdeal.τ).loc Cert.KernelIdeal.main_v80_3) = v3 c
          ∧ r.2.mem ((c.tc : Thread Cert.KernelIdeal.nD Cert.KernelIdeal.τ).loc Cert.KernelIdeal.main_v80_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v38) = v1 c
          ∧ r.2.mem ((c.tc : Thread Cert.Reference14Ideal.nD Cert.Reference14Ideal.τ).loc Cert.Reference14Ideal.main_v39) = v2 c
          ∧ r.2.mem ((c.tc : Thread Cert.Reference14Ideal.nD Cert.Reference14Ideal.τ).loc Cert.Reference14Ideal.main_v40) = v3 c
          ∧ r.2.mem ((c.tc : Thread Cert.Reference14Ideal.nD Cert.Reference14Ideal.τ).loc Cert.Reference14Ideal.main_v32) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v37) = v0 c
          ∧ r.2.mem ((c.tc : Thread Cert.Reference22Ideal.nD Cert.Reference22Ideal.τ).loc Cert.Reference22Ideal.main_v18) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v57) = v0 c
          ∧ r.2.mem ((c.tc : Thread Cert.Reference23Ideal.nD Cert.Reference23Ideal.τ).loc Cert.Reference23Ideal.main_v58) = v1 c
          ∧ r.2.mem ((c.tc : Thread Cert.Reference23Ideal.nD Cert.Reference23Ideal.τ).loc Cert.Reference23Ideal.main_v40) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S4128x3072 : Shape := ⟨2, ![4128, 3072]⟩
abbrev S4128x1024 : Shape := ⟨2, ![4128, 1024]⟩
abbrev S4128x128 : Shape := ⟨2, ![4128, 128]⟩
abbrev S4128x16 : Shape := ⟨2, ![4128, 16]⟩
abbrev S_ : Shape := ⟨0, ![]⟩

class Facts : Prop where
  slices_S4128x128_S4128x16_0_0 : S4128x128.Slices ![0, 0] S4128x16
  bitsLt_bf16_f32 : FTy.bits .bf16 < FTy.bits .f32
  bcast_S_S4128x3072 : S_.BroadcastsInDim S4128x3072 (![] : Fin 0 → Fin S4128x3072.rank)
  reducesTo_S4128x3072_S_d0_1 : S4128x3072.ReducesTo [0, 1] S_
  h_S_ : 0 < S_.numel
  bcast_S_S4128x1024 : S_.BroadcastsInDim S4128x1024 (![] : Fin 0 → Fin S4128x1024.rank)
  reducesTo_S4128x1024_S_d0_1 : S4128x1024.ReducesTo [0, 1] S_
  bcast_S_S4128x16 : S_.BroadcastsInDim S4128x16 (![] : Fin 0 → Fin S4128x16.rank)
  reducesTo_S4128x16_S_d0_1 : S4128x16.ReducesTo [0, 1] S_

variable [Facts]

def fn_part1 {F : FTy → Type} [FloatOps F] (main_v0 : FVec F S4128x16 .f32) (main_v15 : IVec S_ 1) (main_v16 : FVec F S4128x16 .f32) : IVec S_ 1 :=
  let main_v17 : IVec S4128x16 1 := cmpf .ogt main_v0 main_v16
  let main_cst_5 : FVec F S_ .f32 := constant S_ .f32 0x7F800000#32
  let main_v18 : FVec F S4128x16 .f32 := broadcastInDim S4128x16 ![] bcast_S_S4128x16 main_cst_5
  let main_v19 : IVec S4128x16 1 := cmpf .olt main_v0 main_v18
  let main_v20 : IVec S4128x16 1 := andi main_v17 main_v19
  let main_c_6 : IVec S_ 1 := constantI S_ 1 1#1
  let main_v21 : IVec S_ 1 := (fun x v => Host.reduce IntOp.andi x v reducesTo_S4128x16_S_d0_1 h_S_) main_v20 main_c_6
  let main_v22 : IVec S_ 1 := andi main_v15 main_v21
  main_v22

def fn {F : FTy → Type} [FloatOps F] (main_arg0 : FVec F S4128x3072 .bf16) (main_arg1 : FVec F S4128x1024 .bf16) (main_arg2 : FVec F S4128x128 .f32) : IVec S_ 1 :=
  let main_v0 : FVec F S4128x16 .f32 := (extractStridedSlice S4128x16 ![0, 0] · slices_S4128x128_S4128x16_0_0) main_arg2
  let main_v1 : FVec F S4128x3072 .f32 := (extf .f32 · bitsLt_bf16_f32) main_arg0
  let main_cst : FVec F S_ .f32 := constant S_ .f32 0xFF800000#32
  let main_v2 : FVec F S4128x3072 .f32 := broadcastInDim S4128x3072 ![] bcast_S_S4128x3072 main_cst
  let main_v3 : IVec S4128x3072 1 := cmpf .ogt main_v1 main_v2
  let main_cst_0 : FVec F S_ .f32 := constant S_ .f32 0x7F800000#32
  let main_v4 : FVec F S4128x3072 .f32 := broadcastInDim S4128x3072 ![] bcast_S_S4128x3072 main_cst_0
  let main_v5 : IVec S4128x3072 1 := cmpf .olt main_v1 main_v4
  let main_v6 : IVec S4128x3072 1 := andi main_v3 main_v5
  let main_c : IVec S_ 1 := constantI S_ 1 1#1
  let main_v7 : IVec S_ 1 := (fun x v => Host.reduce IntOp.andi x v reducesTo_S4128x3072_S_d0_1 h_S_) main_v6 main_c
  let main_v8 : FVec F S4128x1024 .f32 := (extf .f32 · bitsLt_bf16_f32) main_arg1
  let main_cst_1 : FVec F S_ .f32 := constant S_ .f32 0xFF800000#32
  let main_v9 : FVec F S4128x1024 .f32 := broadcastInDim S4128x1024 ![] bcast_S_S4128x1024 main_cst_1
  let main_v10 : IVec S4128x1024 1 := cmpf .ogt main_v8 main_v9
  let main_cst_2 : FVec F S_ .f32 := constant S_ .f32 0x7F800000#32
  let main_v11 : FVec F S4128x1024 .f32 := broadcastInDim S4128x1024 ![] bcast_S_S4128x1024 main_cst_2
  let main_v12 : IVec S4128x1024 1 := cmpf .olt main_v8 main_v11
  let main_v13 : IVec S4128x1024 1 := andi main_v10 main_v12
  let main_c_3 : IVec S_ 1 := constantI S_ 1 1#1
  let main_v14 : IVec S_ 1 := (fun x v => Host.reduce IntOp.andi x v reducesTo_S4128x1024_S_d0_1 h_S_) main_v13 main_c_3
  let main_v15 : IVec S_ 1 := andi main_v7 main_v14
  let main_cst_4 : FVec F S_ .f32 := constant S_ .f32 0xFF800000#32
  let main_v16 : FVec F S4128x16 .f32 := broadcastInDim S4128x16 ![] bcast_S_S4128x16 main_cst_4
  fn_part1 (F := F) main_v0 main_v15 main_v16
-- ==== Kernel.lean ====
abbrev S4128x3072 : Shape := ⟨2, ![4128, 3072]⟩
abbrev S4128x1024 : Shape := ⟨2, ![4128, 1024]⟩
abbrev S4128x128 : Shape := ⟨2, ![4128, 128]⟩
abbrev S2x2064x16x64 : Shape := ⟨4, ![2, 2064, 16, 64]⟩
abbrev S4128x16 : Shape := ⟨2, ![4128, 16]⟩
abbrev S2x2064x16 : Shape := ⟨3, ![2, 2064, 16]⟩
abbrev S2x16x2064x2064 : Shape := ⟨4, ![2, 16, 2064, 2064]⟩
abbrev S_ : Shape := ⟨0, ![]⟩
abbrev S2x16x2064 : Shape := ⟨3, ![2, 16, 2064]⟩
abbrev S2x16x2064x1 : Shape := ⟨4, ![2, 16, 2064, 1]⟩
abbrev S2x16x1x2064 : Shape := ⟨4, ![2, 16, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S2x16x64x2064 : Shape := ⟨4, ![2, 16, 64, 2064]⟩
abbrev S2x2064x128 : Shape := ⟨3, ![2, 2064, 128]⟩
abbrev S2x2064x8x2 : Shape := ⟨4, ![2, 2064, 8, 2]⟩
abbrev S2x512x8x2 : Shape := ⟨4, ![2, 512, 8, 2]⟩
abbrev S2x8x2x512 : Shape := ⟨4, ![2, 8, 2, 512]⟩
abbrev S2x8x8x528 : Shape := ⟨4, ![2, 8, 8, 528]⟩
abbrev S2x528x8x2 : Shape := ⟨4, ![2, 528, 8, 2]⟩
abbrev S2x8x2x528 : Shape := ⟨4, ![2, 8, 2, 528]⟩
abbrev S2x8x1x8x528 : Shape := ⟨5, ![2, 8, 1, 8, 528]⟩
abbrev S2x8x4x8x528 : Shape := ⟨5, ![2, 8, 4, 8, 528]⟩
abbrev S2064x128 : Shape := ⟨2, ![2064, 128]⟩
abbrev S1x1x4x8x528 : Shape := ⟨5, ![1, 1, 4, 8, 528]⟩
abbrev S4x128x640 : Shape := ⟨3, ![4, 128, 640]⟩
abbrev S4x8x528 : Shape := ⟨3, ![4, 8, 528]⟩
abbrev S512x128 : Shape := ⟨2, ![512, 128]⟩
abbrev S512x1 : Shape := ⟨2, ![512, 1]⟩
abbrev S512 : Shape := ⟨1, ![512]⟩
abbrev S512x512 : Shape := ⟨2, ![512, 512]⟩
abbrev S1x1x1x1x512 : Shape := ⟨5, ![1, 1, 1, 1, 512]⟩
abbrev S1x512 : Shape := ⟨2, ![1, 512]⟩
abbrev S1x128x512 : Shape := ⟨3, ![1, 128, 512]⟩
abbrev S128x512 : Shape := ⟨2, ![128, 512]⟩
abbrev S528x128 : Shape := ⟨2, ![528, 128]⟩
abbrev S528x1 : Shape := ⟨2, ![528, 1]⟩
abbrev S528 : Shape := ⟨1, ![528]⟩
abbrev S528x512 : Shape := ⟨2, ![528, 512]⟩
abbrev S528x528 : Shape := ⟨2, ![528, 528]⟩
abbrev S1x1x1x1x528 : Shape := ⟨5, ![1, 1, 1, 1, 528]⟩
abbrev S1x528 : Shape := ⟨2, ![1, 528]⟩
abbrev S1x128x528 : Shape := ⟨3, ![1, 128, 528]⟩
abbrev S128x528 : Shape := ⟨2, ![128, 528]⟩
abbrev S1x128x640 : Shape := ⟨3, ![1, 128, 640]⟩
abbrev S128x640 : Shape := ⟨2, ![128, 640]⟩
abbrev S640x128 : Shape := ⟨2, ![640, 128]⟩

abbrev nBuf : Space → Nat
  | .hbm => 109
  | .vmem => 26
  | .smem => 0
  | _ => 0

abbrev bufTy : (tb : Table) → Fin (tcTables nBuf tb) → BufTy
  | .hbm, ⟨0, _⟩ => ⟨S4128x3072, .bf16⟩
  | .hbm, ⟨1, _⟩ => ⟨S4128x1024, .bf16⟩
  | .hbm, ⟨2, _⟩ => ⟨S4128x128, .f32⟩
  | .hbm, ⟨3, _⟩ => ⟨S4128x1024, .bf16⟩
  | .hbm, ⟨4, _⟩ => ⟨S4128x1024, .f32⟩
  | .hbm, ⟨5, _⟩ => ⟨S2x2064x16x64, .f32⟩
  | .hbm, ⟨6, _⟩ => ⟨S4128x1024, .bf16⟩
  | .hbm, ⟨7, _⟩ => ⟨S4128x1024, .f32⟩
  | .hbm, ⟨8, _⟩ => ⟨S2x2064x16x64, .f32⟩
  | .hbm, ⟨9, _⟩ => ⟨S4128x1024, .bf16⟩
  | .hbm, ⟨10, _⟩ => ⟨S4128x1024, .f32⟩
  | .hbm, ⟨11, _⟩ => ⟨S2x2064x16x64, .f32⟩
  | .hbm, ⟨12, _⟩ => ⟨S4128x16, .f32⟩
  | .hbm, ⟨13, _⟩ => ⟨S2x2064x16, .f32⟩
  | .hbm, ⟨14, _⟩ => ⟨S2x16x2064x2064, .f32⟩
  | .hbm, ⟨15, _⟩ => ⟨S_, .f32⟩
  | .hbm, ⟨16, _⟩ => ⟨S2x16x2064x2064, .f32⟩
  | .hbm, ⟨17, _⟩ => ⟨S2x16x2064x2064, .f32⟩
  | .hbm, ⟨18, _⟩ => ⟨S2x16x2064, .f32⟩
  | .hbm, ⟨19, _⟩ => ⟨S2x16x2064x1, .f32⟩
  | .hbm, ⟨20, _⟩ => ⟨S2x16x2064x2064, .f32⟩
  | .hbm, ⟨21, _⟩ => ⟨S2x16x2064x2064, .f32⟩
  | .hbm, ⟨22, _⟩ => ⟨S2x16x2064, .f32⟩
  | .hbm, ⟨23, _⟩ => ⟨S2x16x1x2064, .f32⟩
  | .hbm, ⟨24, _⟩ => ⟨S2x16x2064x2064, .f32⟩
  | .hbm, ⟨25, _⟩ => ⟨S2x16x2064x2064, .f32⟩
  | .hbm, ⟨26, _⟩ => ⟨S2064, .i32⟩
  | .hbm, ⟨27, _⟩ => ⟨S2064x1, .i32⟩
  | .hbm, ⟨28, _⟩ => ⟨S2064, .i32⟩
  | .hbm, ⟨29, _⟩ => ⟨S1x2064, .i32⟩
  | .hbm, ⟨30, _⟩ => ⟨S2064x2064, .i32⟩
  | .hbm, ⟨31, _⟩ => ⟨S2064x2064, .i32⟩
  | .hbm, ⟨32, _⟩ => ⟨S2064x2064, .i1⟩
  | .hbm, ⟨33, _⟩ => ⟨S_, .f32⟩
  | .hbm, ⟨34, _⟩ => ⟨S_, .f32⟩
  | .hbm, ⟨35, _⟩ => ⟨S2x16x2064x2064, .i1⟩
  | .hbm, ⟨36, _⟩ => ⟨S2x16x2064x2064, .f32⟩
  | .hbm, ⟨37, _⟩ => ⟨S2x16x2064x2064, .f32⟩
  | .hbm, ⟨38, _⟩ => ⟨S_, .f32⟩
  | .hbm, ⟨39, _⟩ => ⟨S2x16x2064, .f32⟩
  | .hbm, ⟨40, _⟩ => ⟨S_, .f32⟩
  | .hbm, ⟨41, _⟩ => ⟨S2x16x2064, .f32⟩
  | .hbm, ⟨42, _⟩ => ⟨S2x16x2064, .f32⟩
  | .hbm, ⟨43, _⟩ => ⟨S2x16x2064x1, .f32⟩
  | .hbm, ⟨44, _⟩ => ⟨S2x16x2064x2064, .f32⟩
  | .hbm, ⟨45, _⟩ => ⟨S2x16x2064x2064, .f32⟩
  | .hbm, ⟨46, _⟩ => ⟨S2x16x2064x2064, .f32⟩
  | .hbm, ⟨47, _⟩ => ⟨S_, .f32⟩
  | .hbm, ⟨48, _⟩ => ⟨S2x16x2064, .f32⟩
  | .hbm, ⟨49, _⟩ => ⟨S2x16x2064x1, .f32⟩
  | .hbm, ⟨50, _⟩ => ⟨S2x16x2064x2064, .f32⟩
  | .hbm, ⟨51, _⟩ => ⟨S2x16x2064x2064, .f32⟩
  | .hbm, ⟨52, _⟩ => ⟨S2x16x64x2064, .f32⟩
  | .hbm, ⟨53, _⟩ => ⟨S2x2064x16x64, .f32⟩
  | .hbm, ⟨54, _⟩ => ⟨S4128x1024, .f32⟩
  | .hbm, ⟨55, _⟩ => ⟨S4128x1024, .bf16⟩
  | .hbm, ⟨56, _⟩ => ⟨S_, .f32⟩
  | .hbm, ⟨57, _⟩ => ⟨S2x16x2064, .f32⟩
  | .hbm, ⟨58, _⟩ => ⟨S2x16x2064x1, .f32⟩
  | .hbm, ⟨59, _⟩ => ⟨S2x16x2064x2064, .f32⟩
  | .hbm, ⟨60, _⟩ => ⟨S2x16x2064x2064, .f32⟩
  | .hbm, ⟨61, _⟩ => ⟨S2x16x2064x2064, .f32⟩
  | .hbm, ⟨62, _⟩ => ⟨S_, .f32⟩
  | .hbm, ⟨63, _⟩ => ⟨S2x16x2064, .f32⟩
  | .hbm, ⟨64, _⟩ => ⟨S2x16x2064, .f32⟩
  | .hbm, ⟨65, _⟩ => ⟨S2x16x2064, .f32⟩
  | .hbm, ⟨66, _⟩ => ⟨S2x2064x16, .f32⟩
  | .hbm, ⟨67, _⟩ => ⟨S2x2064x16, .f32⟩
  | .hbm, ⟨68, _⟩ => ⟨S4128x16, .f32⟩
  | .hbm, ⟨69, _⟩ => ⟨S_, .f32⟩
  | .hbm, ⟨70, _⟩ => ⟨S_, .f32⟩
  | .hbm, ⟨71, _⟩ => ⟨S4128x16, .f32⟩
  | .hbm, ⟨72, _⟩ => ⟨S4128x16, .f32⟩
  | .hbm, ⟨73, _⟩ => ⟨S_, .i32⟩
  | .hbm, ⟨74, _⟩ => ⟨S_, .f32⟩
  | .hbm, ⟨75, _⟩ => ⟨S4128x128, .f32⟩
  | .hbm, ⟨76, _⟩ => ⟨S2x2064x128, .f32⟩
  | .hbm, ⟨77, _⟩ => ⟨S2x2064x16, .f32⟩
  | .hbm, ⟨78, _⟩ => ⟨S2x2064x8x2, .f32⟩
  | .hbm, ⟨79, _⟩ => ⟨S2x512x8x2, .f32⟩
  | .hbm, ⟨80, _⟩ => ⟨S2x8x2x512, .f32⟩
  | .hbm, ⟨81, _⟩ => ⟨S_, .i32⟩
  | .hbm, ⟨82, _⟩ => ⟨S_, .f32⟩
  | .hbm, ⟨83, _⟩ => ⟨S2x8x8x528, .f32⟩
  | .hbm, ⟨84, _⟩ => ⟨S2x512x8x2, .f32⟩
  | .hbm, ⟨85, _⟩ => ⟨S2x8x2x512, .f32⟩
  | .hbm, ⟨86, _⟩ => ⟨S_, .i32⟩
  | .hbm, ⟨87, _⟩ => ⟨S_, .f32⟩
  | .hbm, ⟨88, _⟩ => ⟨S2x8x8x528, .f32⟩
  | .hbm, ⟨89, _⟩ => ⟨S2x512x8x2, .f32⟩
  | .hbm, ⟨90, _⟩ => ⟨S2x8x2x512, .f32⟩
  | .hbm, ⟨91, _⟩ => ⟨S_, .i32⟩
  | .hbm, ⟨92, _⟩ => ⟨S_, .f32⟩
  | .hbm, ⟨93, _⟩ => ⟨S2x8x8x528, .f32⟩
  | .hbm, ⟨94, _⟩ => ⟨S2x528x8x2, .f32⟩
  | .hbm, ⟨95, _⟩ => ⟨S2x8x2x528, .f32⟩
  | .hbm, ⟨96, _⟩ => ⟨S_, .i32⟩
  | .hbm, ⟨97, _⟩ => ⟨S_, .f32⟩
  | .hbm, ⟨98, _⟩ => ⟨S2x8x8x528, .f32⟩
  | .hbm, ⟨99, _⟩ => ⟨S2x8x1x8x528, .f32⟩
  | .hbm, ⟨100, _⟩ => ⟨S2x8x1x8x528, .f32⟩
  | .hbm, ⟨101, _⟩ => ⟨S2x8x1x8x528, .f32⟩
  | .hbm, ⟨102, _⟩ => ⟨S2x8x1x8x528, .f32⟩
  | .hbm, ⟨103, _⟩ => ⟨S2x8x4x8x528, .f32⟩
  | .hbm, ⟨104, _⟩ => ⟨S4128x1024, .bf16⟩
  | .hbm, ⟨105, _⟩ => ⟨S4128x1024, .bf16⟩
  | .hbm, ⟨106, _⟩ => ⟨S4128x1024, .bf16⟩
  | .hbm, ⟨107, _⟩ => ⟨S2x8x4x8x528, .f32⟩
  | .hbm, ⟨108, _⟩ => ⟨S4128x128, .f32⟩
  | .local _ .vmem, ⟨0, _⟩ => ⟨S2064x128, .bf16⟩
  | .local _ .vmem, ⟨1, _⟩ => ⟨S2064x128, .bf16⟩
  | .local _ .vmem, ⟨2, _⟩ => ⟨S2064x128, .bf16⟩
  | .local _ .vmem, ⟨3, _⟩ => ⟨S2064x128, .bf16⟩
  | .local _ .vmem, ⟨4, _⟩ => ⟨S2064x128, .bf16⟩
  | .local _ .vmem, ⟨5, _⟩ => ⟨S2064x128, .bf16⟩
  | .local _ .vmem, ⟨6, _⟩ => ⟨S2064x128, .bf16⟩
  | .local _ .vmem, ⟨7, _⟩ => ⟨S2064x128, .bf16⟩
  | .local _ .vmem, ⟨8, _⟩ => ⟨S2064x128, .bf16⟩
  | .local _ .vmem, ⟨9, _⟩ => ⟨S2064x128, .bf16⟩
  | .local _ .vmem, ⟨10, _⟩ => ⟨S2064x128, .f32⟩
  | .local _ .vmem, ⟨11, _⟩ => ⟨S2064x128, .f32⟩
  | .local _ .vmem, ⟨12, _⟩ => ⟨S1x1x4x8x528, .f32⟩
  | .local _ .vmem, ⟨13, _⟩ => ⟨S1x1x4x8x528, .f32⟩
  | .local _ .vmem, ⟨14, _⟩ => ⟨S2064x128, .bf16⟩
  | .local _ .vmem, ⟨15, _⟩ => ⟨S2064x128, .bf16⟩
  | .local _ .vmem, ⟨16, _⟩ => ⟨S2064x128, .bf16⟩
  | .local _ .vmem, ⟨17, _⟩ => ⟨S2064x128, .bf16⟩
  | .local _ .vmem, ⟨18, _⟩ => ⟨S2064x128, .bf16⟩
  | .local _ .vmem, ⟨19, _⟩ => ⟨S2064x128, .bf16⟩
  | .local _ .vmem, ⟨20, _⟩ => ⟨S1x1x4x8x528, .f32⟩
  | .local _ .vmem, ⟨21, _⟩ => ⟨S1x1x4x8x528, .f32⟩
  | .local _ .vmem, ⟨22, _⟩ => ⟨S2064x128, .f32⟩
  | .local _ .vmem, ⟨23, _⟩ => ⟨S2064x128, .f32⟩
  | .local _ .vmem, ⟨24, _⟩ => ⟨S4x128x640, .f32⟩
  | .local _ .vmem, ⟨25, _⟩ => ⟨S4x128x640, .f32⟩
  | _, _ => ⟨S4128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c : Ref sig .tc := ⟨.hbm, 73, rfl⟩
abbrev main_call1_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_7 : Ref sig .tc := ⟨.hbm, 81, rfl⟩
abbrev main_call2_v0 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_8 : Ref sig .tc := ⟨.hbm, 86, rfl⟩
abbrev main_call3_v0 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_9 : Ref sig .tc := ⟨.hbm, 91, rfl⟩
abbrev main_call4_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_10 : Ref sig .tc := ⟨.hbm, 96, rfl⟩
abbrev main_call5_v0 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80_0 : Ref sig .tc := ⟨.hbm, 104, rfl⟩
abbrev main_v80_1 : Ref sig .tc := ⟨.hbm, 105, rfl⟩
abbrev main_v80_2 : Ref sig .tc := ⟨.hbm, 106, rfl⟩
abbrev main_v80_3 : Ref sig .tc := ⟨.hbm, 107, rfl⟩
abbrev main_v80_4 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2064x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2064x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2064x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4x8x528 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2064x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2064x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2064x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x4x8x528 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2064x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== ReferenceIdeal.lean ====
abbrev S4128x3072 : Shape := ⟨2, ![4128, 3072]⟩
abbrev S4128x1024 : Shape := ⟨2, ![4128, 1024]⟩
abbrev S4128x128 : Shape := ⟨2, ![4128, 128]⟩
abbrev S2x2064x16x64 : Shape := ⟨4, ![2, 2064, 16, 64]⟩
abbrev S4128x16 : Shape := ⟨2, ![4128, 16]⟩
abbrev S2x2064x16 : Shape := ⟨3, ![2, 2064, 16]⟩
abbrev S2x16x2064x2064 : Shape := ⟨4, ![2, 16, 2064, 2064]⟩
abbrev S_ : Shape := ⟨0, ![]⟩
abbrev S2x16x2064 : Shape := ⟨3, ![2, 16, 2064]⟩
abbrev S2x16x2064x1 : Shape := ⟨4, ![2, 16, 2064, 1]⟩
abbrev S2x16x1x2064 : Shape := ⟨4, ![2, 16, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S2x16x64x2064 : Shape := ⟨4, ![2, 16, 64, 2064]⟩
abbrev S2x16x2064x64 : Shape := ⟨4, ![2, 16, 2064, 64]⟩
abbrev S2x8x2x2064 : Shape := ⟨4, ![2, 8, 2, 2064]⟩
abbrev S2x8x2x512 : Shape := ⟨4, ![2, 8, 2, 512]⟩
abbrev S2x8x8x528 : Shape := ⟨4, ![2, 8, 8, 528]⟩
abbrev S2x8x2x528 : Shape := ⟨4, ![2, 8, 2, 528]⟩
abbrev S2x8x1x8x528 : Shape := ⟨5, ![2, 8, 1, 8, 528]⟩
abbrev S2x8x4x8x528 : Shape := ⟨5, ![2, 8, 4, 8, 528]⟩

abbrev nBuf : Space → Nat
  | .hbm => 156
  | .vmem => 0
  | .smem => 0
  | _ => 0

abbrev hbmTy0_0 (i : Nat) : BufTy := match i % 128 with
  | 0 => ⟨S4128x3072, .bf16⟩
  | 1 => ⟨S4128x1024, .bf16⟩
  | 2 => ⟨S4128x128, .f32⟩
  | 3 => ⟨S4128x1024, .bf16⟩
  | 4 => ⟨S4128x1024, .f32⟩
  | 5 => ⟨S2x2064x16x64, .f32⟩
  | 6 => ⟨S4128x1024, .bf16⟩
  | 7 => ⟨S4128x1024, .f32⟩
  | 8 => ⟨S2x2064x16x64, .f32⟩
  | 9 => ⟨S4128x1024, .bf16⟩
  | 10 => ⟨S4128x1024, .f32⟩
  | 11 => ⟨S2x2064x16x64, .f32⟩
  | 12 => ⟨S4128x16, .f32⟩
  | 13 => ⟨S2x2064x16, .f32⟩
  | 14 => ⟨S2x16x2064x2064, .f32⟩
  | 15 => ⟨S_, .f32⟩
  | 16 => ⟨S2x16x2064x2064, .f32⟩
  | 17 => ⟨S2x16x2064x2064, .f32⟩
  | 18 => ⟨S2x16x2064, .f32⟩
  | 19 => ⟨S2x16x2064x1, .f32⟩
  | 20 => ⟨S2x16x2064x2064, .f32⟩
  | 21 => ⟨S2x16x2064x2064, .f32⟩
  | 22 => ⟨S2x16x2064, .f32⟩
  | 23 => ⟨S2x16x1x2064, .f32⟩
  | 24 => ⟨S2x16x2064x2064, .f32⟩
  | 25 => ⟨S2x16x2064x2064, .f32⟩
  | 26 => ⟨S2064, .i32⟩
  | 27 => ⟨S2064x1, .i32⟩
  | 28 => ⟨S2064, .i32⟩
  | 29 => ⟨S1x2064, .i32⟩
  | 30 => ⟨S2064x2064, .i32⟩
  | 31 => ⟨S2064x2064, .i32⟩
  | 32 => ⟨S2064x2064, .i1⟩
  | 33 => ⟨S_, .f32⟩
  | 34 => ⟨S_, .f32⟩
  | 35 => ⟨S2x16x2064x2064, .i1⟩
  | 36 => ⟨S2x16x2064x2064, .f32⟩
  | 37 => ⟨S2x16x2064x2064, .f32⟩
  | 38 => ⟨S_, .f32⟩
  | 39 => ⟨S2x16x2064x2064, .f32⟩
  | 40 => ⟨S_, .f32⟩
  | 41 => ⟨S2x16x2064, .f32⟩
  | 42 => ⟨S2x16x2064x1, .f32⟩
  | 43 => ⟨S2x16x2064x2064, .f32⟩
  | 44 => ⟨S2x16x2064x2064, .i1⟩
  | 45 => ⟨S2x16x2064x2064, .f32⟩
  | 46 => ⟨S_, .f32⟩
  | 47 => ⟨S2x16x2064, .f32⟩
  | 48 => ⟨S_, .f32⟩
  | 49 => ⟨S2x16x2064, .f32⟩
  | 50 => ⟨S2x16x2064, .f32⟩
  | 51 => ⟨S_, .f32⟩
  | 52 => ⟨S2x16x2064, .f32⟩
  | 53 => ⟨S2x16x2064, .i1⟩
  | 54 => ⟨S_, .f32⟩
  | 55 => ⟨S2x16x2064, .f32⟩
  | 56 => ⟨S2x16x2064, .i1⟩
  | 57 => ⟨S_, .f32⟩
  | 58 => ⟨S2x16x2064, .f32⟩
  | 59 => ⟨S_, .f32⟩
  | 60 => ⟨S2x16x2064, .f32⟩
  | 61 => ⟨S_, .f32⟩
  | 62 => ⟨S2x16x2064, .f32⟩
  | 63 => ⟨S2x16x2064, .f32⟩
  | 64 => ⟨S2x16x2064, .f32⟩
  | 65 => ⟨S2x16x2064x1, .f32⟩
  | 66 => ⟨S2x16x2064x2064, .f32⟩
  | 67 => ⟨S2x16x2064x2064, .f32⟩
  | 68 => ⟨S2x16x2064x2064, .f32⟩
  | 69 => ⟨S_, .f32⟩
  | 70 => ⟨S2x16x2064, .f32⟩
  | 71 => ⟨S2x16x2064x1, .f32⟩
  | 72 => ⟨S2x16x2064x2064, .f32⟩
  | 73 => ⟨S2x16x2064x2064, .f32⟩
  | 74 => ⟨S2x16x2064x1, .f32⟩
  | 75 => ⟨S_, .f32⟩
  | 76 => ⟨S2x16x2064x1, .f32⟩
  | 77 => ⟨S2x16x2064x1, .f32⟩
  | 78 => ⟨S2x16x64x2064, .f32⟩
  | 79 => ⟨S2x2064x16x64, .f32⟩
  | 80 => ⟨S4128x1024, .f32⟩
  | 81 => ⟨S2x2064x16x64, .f32⟩
  | 82 => ⟨S2x16x64x2064, .f32⟩
  | 83 => ⟨S2x16x2064x2064, .f32⟩
  | 84 => ⟨S2x16x64x2064, .f32⟩
  | 85 => ⟨S2x2064x16x64, .f32⟩
  | 86 => ⟨S2x16x2064x2064, .f32⟩
  | 87 => ⟨S2x16x2064x2064, .f32⟩
  | 88 => ⟨S2x16x2064x2064, .f32⟩
  | 89 => ⟨S_, .f32⟩
  | 90 => ⟨S2x16x2064, .f32⟩
  | 91 => ⟨S2x16x2064x1, .f32⟩
  | 92 => ⟨S2x16x2064x1, .f32⟩
  | 93 => ⟨S2x16x2064x2064, .f32⟩
  | 94 => ⟨S2x16x2064x2064, .f32⟩
  | 95 => ⟨S_, .f32⟩
  | 96 => ⟨S2x16x2064, .f32⟩
  | 97 => ⟨S2x16x2064x2064, .f32⟩
  | 98 => ⟨S2x16x2064x2064, .f32⟩
  | 99 => ⟨S2x16x2064x2064, .f32⟩
  | 100 => ⟨S_, .f32⟩
  | 101 => ⟨S2x16x2064x2064, .f32⟩
  | 102 => ⟨S2x16x2064x2064, .f32⟩
  | 103 => ⟨S2x16x2064x2064, .f32⟩
  | 104 => ⟨S_, .f32⟩
  | 105 => ⟨S2x16x2064, .f32⟩
  | 106 => ⟨S2x16x1x2064, .f32⟩
  | 107 => ⟨S_, .f32⟩
  | 108 => ⟨S2x16x2064, .f32⟩
  | 109 => ⟨S2x2064x16, .f32⟩
  | 110 => ⟨S_, .f32⟩
  | 111 => ⟨S2x16x2064, .f32⟩
  | 112 => ⟨S2x16x2064x1, .f32⟩
  | 113 => ⟨S_, .f32⟩
  | 114 => ⟨S2x16x2064, .f32⟩
  | 115 => ⟨S2x2064x16, .f32⟩
  | 116 => ⟨S_, .f32⟩
  | 117 => ⟨S2x16x2064x2064, .f32⟩
  | 118 => ⟨S2x16x2064x2064, .f32⟩
  | 119 => ⟨S2x16x2064x64, .f32⟩
  | 120 => ⟨S2x2064x16x64, .f32⟩
  | 121 => ⟨S2x16x2064x64, .f32⟩
  | 122 => ⟨S2x2064x16x64, .f32⟩
  | 123 => ⟨S2x16x2064, .f32⟩
  | 124 => ⟨S2x8x2x2064, .f32⟩
  | 125 => ⟨S2x8x2x512, .f32⟩
  | 126 => ⟨S_, .i32⟩
  | 127 => ⟨S_, .f32⟩
  | _ => ⟨S4128x3072, .bf16⟩

abbrev hbmTy0_1 (i : Nat) : BufTy := match i % 128 with
  | 0 => ⟨S2x8x8x528, .f32⟩
  | 1 => ⟨S2x8x2x512, .f32⟩
  | 2 => ⟨S_, .i32⟩
  | 3 => ⟨S_, .f32⟩
  | 4 => ⟨S2x8x8x528, .f32⟩
  | 5 => ⟨S2x8x2x512, .f32⟩
  | 6 => ⟨S_, .i32⟩
  | 7 => ⟨S_, .f32⟩
  | 8 => ⟨S2x8x8x528, .f32⟩
  | 9 => ⟨S2x8x2x528, .f32⟩
  | 10 => ⟨S_, .i32⟩
  | 11 => ⟨S_, .f32⟩
  | 12 => ⟨S2x8x8x528, .f32⟩
  | 13 => ⟨S2x8x1x8x528, .f32⟩
  | 14 => ⟨S2x8x1x8x528, .f32⟩
  | 15 => ⟨S2x8x1x8x528, .f32⟩
  | 16 => ⟨S2x8x1x8x528, .f32⟩
  | 17 => ⟨S2x8x4x8x528, .f32⟩
  | 18 => ⟨S4128x1024, .f32⟩
  | 19 => ⟨S4128x1024, .bf16⟩
  | 20 => ⟨S4128x1024, .f32⟩
  | 21 => ⟨S4128x1024, .bf16⟩
  | 22 => ⟨S4128x1024, .f32⟩
  | 23 => ⟨S4128x1024, .bf16⟩
  | 24 => ⟨S4128x16, .f32⟩
  | 25 => ⟨S_, .i32⟩
  | 26 => ⟨S_, .f32⟩
  | 27 => ⟨S4128x128, .f32⟩
  | _ => ⟨S4128x3072, .bf16⟩

abbrev hbmTy (i : Nat) : BufTy := match i / 128 with
  | 0 => hbmTy0_0 i
  | 1 => hbmTy0_1 i
  | _ => ⟨S4128x3072, .bf16⟩

abbrev bufTy : (tb : Table) → Fin (tcTables nBuf tb) → BufTy
  | .hbm, ⟨i, _⟩ => hbmTy i
  | _, _ => ⟨S4128x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_v29_1 : Ref sig .tc := ⟨.hbm, 35, rfl⟩
abbrev main_call0_v2 : Ref sig .tc := ⟨.hbm, 36, rfl⟩
abbrev main_v29_0 : Ref sig .tc := ⟨.hbm, 37, rfl⟩
abbrev main_call0_cst : Ref sig .tc := ⟨.hbm, 38, rfl⟩
abbrev main_v29_2 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c : Ref sig .tc := ⟨.hbm, 126, rfl⟩
abbrev main_call2_v0 : Ref sig .tc := ⟨.hbm, 127, rfl⟩
abbrev main_v97 : Ref sig .tc := ⟨.hbm, 128, rfl⟩
abbrev main_v98 : Ref sig .tc := ⟨.hbm, 129, rfl⟩
abbrev main_c_18 : Ref sig .tc := ⟨.hbm, 130, rfl⟩
abbrev main_call3_v0 : Ref sig .tc := ⟨.hbm, 131, rfl⟩
abbrev main_v99 : Ref sig .tc := ⟨.hbm, 132, rfl⟩
abbrev main_v100 : Ref sig .tc := ⟨.hbm, 133, rfl⟩
abbrev main_c_19 : Ref sig .tc := ⟨.hbm, 134, rfl⟩
abbrev main_call4_v0 : Ref sig .tc := ⟨.hbm, 135, rfl⟩
abbrev main_v101 : Ref sig .tc := ⟨.hbm, 136, rfl⟩
abbrev main_v102 : Ref sig .tc := ⟨.hbm, 137, rfl⟩
abbrev main_c_20 : Ref sig .tc := ⟨.hbm, 138, rfl⟩
abbrev main_call5_v0 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_21 : Ref sig .tc := ⟨.hbm, 153, rfl⟩
abbrev main_call6_v0 : Ref sig .tc := ⟨.hbm, 154, rfl⟩
abbrev main_v116 : Ref sig .tc := ⟨.hbm, 155, rfl⟩

abbrev nD : Nat := 1
abbrev τ : Topo := Topo.v7x

variable {F : FTy → Type} [FloatOps F]
-- ==== Kernel2.lean ====
abbrev S4128x4096 : Shape := ⟨2, ![4128, 4096]⟩
abbrev S4096x1024 : Shape := ⟨2, ![4096, 1024]⟩
abbrev S4128x1024 : Shape := ⟨2, ![4128, 1024]⟩
abbrev S_ : Shape := ⟨0, ![]⟩
abbrev S1376x1024 : Shape := ⟨2, ![1376, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4128x4096, .bf16⟩
  | .hbm, ⟨1, _⟩ => ⟨S4096x1024, .bf16⟩
  | .hbm, ⟨2, _⟩ => ⟨S4128x1024, .bf16⟩
  | .hbm, ⟨3, _⟩ => ⟨S_, .bf16⟩
  | .hbm, ⟨4, _⟩ => ⟨S4128x4096, .bf16⟩
  | .hbm, ⟨5, _⟩ => ⟨S4128x4096, .bf16⟩
  | .hbm, ⟨6, _⟩ => ⟨S4128x4096, .bf16⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1376x1024, .bf16⟩
  | .local _ .vmem, ⟨5, _⟩ => ⟨S1376x1024, .bf16⟩
  | .local _ .vmem, ⟨6, _⟩ => ⟨S1376x1024, .bf16⟩
  | .local _ .vmem, ⟨7, _⟩ => ⟨S1376x1024, .bf16⟩
  | _, _ => ⟨S4128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4128x4096 : Shape := ⟨2, ![4128, 4096]⟩
abbrev S4096x1024 : Shape := ⟨2, ![4096, 1024]⟩
abbrev S4128x1024 : Shape := ⟨2, ![4128, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4128x4096, .bf16⟩
  | .hbm, ⟨1, _⟩ => ⟨S4096x1024, .bf16⟩
  | .hbm, ⟨2, _⟩ => ⟨S4128x1024, .bf16⟩
  | .hbm, ⟨3, _⟩ => ⟨S4128x4096, .f32⟩
  | .hbm, ⟨4, _⟩ => ⟨S4096x1024, .f32⟩
  | .hbm, ⟨5, _⟩ => ⟨S4128x1024, .f32⟩
  | .hbm, ⟨6, _⟩ => ⟨S_, .f32⟩
  | .hbm, ⟨7, _⟩ => ⟨S4128x4096, .f32⟩
  | .hbm, ⟨8, _⟩ => ⟨S4128x4096, .f32⟩
  | .hbm, ⟨9, _⟩ => ⟨S_, .f32⟩
  | .hbm, ⟨10, _⟩ => ⟨S4128x4096, .f32⟩
  | .hbm, ⟨11, _⟩ => ⟨S4128x4096, .i1⟩
  | .hbm, ⟨12, _⟩ => ⟨S_, .f32⟩
  | .hbm, ⟨13, _⟩ => ⟨S4128x4096, .f32⟩
  | .hbm, ⟨14, _⟩ => ⟨S4128x4096, .f32⟩
  | .hbm, ⟨15, _⟩ => ⟨S_, .f32⟩
  | .hbm, ⟨16, _⟩ => ⟨S4128x4096, .f32⟩
  | .hbm, ⟨17, _⟩ => ⟨S4128x4096, .f32⟩
  | .hbm, ⟨18, _⟩ => ⟨S4128x1024, .f32⟩
  | .hbm, ⟨19, _⟩ => ⟨S4128x4096, .f32⟩
  | .hbm, ⟨20, _⟩ => ⟨S4128x4096, .f32⟩
  | .hbm, ⟨21, _⟩ => ⟨S_, .f32⟩
  | .hbm, ⟨22, _⟩ => ⟨S4128x4096, .f32⟩
  | .hbm, ⟨23, _⟩ => ⟨S4128x4096, .f32⟩
  | .hbm, ⟨24, _⟩ => ⟨S4128x4096, .bf16⟩
  | _, _ => ⟨S4128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8x1024x512 : Shape := ⟨3, ![8, 1024, 512]⟩
abbrev S4128x4096 : Shape := ⟨2, ![4128, 4096]⟩
abbrev S4128x1024 : Shape := ⟨2, ![4128, 1024]⟩
abbrev S1376x512 : Shape := ⟨2, ![1376, 512]⟩
abbrev S1x512x512 : Shape := ⟨3, ![1, 512, 512]⟩
abbrev S512x512 : Shape := ⟨2, ![512, 512]⟩

abbrev nBuf : Space → Nat
  | .hbm => 3
  | .vmem => 34
  | .smem => 0
  | _ => 0

abbrev bufTy : (tb : Table) → Fin (tcTables nBuf tb) → BufTy
  | .hbm, ⟨0, _⟩ => ⟨S8x1024x512, .bf16⟩
  | .hbm, ⟨1, _⟩ => ⟨S4128x4096, .bf16⟩
  | .hbm, ⟨2, _⟩ => ⟨S4128x1024, .bf16⟩
  | .local _ .vmem, ⟨0, _⟩ => ⟨S1376x512, .bf16⟩
  | .local _ .vmem, ⟨1, _⟩ => ⟨S1376x512, .bf16⟩
  | .local _ .vmem, ⟨2, _⟩ => ⟨S1x512x512, .bf16⟩
  | .local _ .vmem, ⟨3, _⟩ => ⟨S1x512x512, .bf16⟩
  | .local _ .vmem, ⟨4, _⟩ => ⟨S1376x512, .bf16⟩
  | .local _ .vmem, ⟨5, _⟩ => ⟨S1376x512, .bf16⟩
  | .local _ .vmem, ⟨6, _⟩ => ⟨S1x512x512, .bf16⟩
  | .local _ .vmem, ⟨7, _⟩ => ⟨S1x512x512, .bf16⟩
  | .local _ .vmem, ⟨8, _⟩ => ⟨S1376x512, .bf16⟩
  | .local _ .vmem, ⟨9, _⟩ => ⟨S1376x512, .bf16⟩
  | .local _ .vmem, ⟨10, _⟩ => ⟨S1x512x512, .bf16⟩
  | .local _ .vmem, ⟨11, _⟩ => ⟨S1x512x512, .bf16⟩
  | .local _ .vmem, ⟨12, _⟩ => ⟨S1376x512, .bf16⟩
  | .local _ .vmem, ⟨13, _⟩ => ⟨S1376x512, .bf16⟩
  | .local _ .vmem, ⟨14, _⟩ => ⟨S1x512x512, .bf16⟩
  | .local _ .vmem, ⟨15, _⟩ => ⟨S1x512x512, .bf16⟩
  | .local _ .vmem, ⟨16, _⟩ => ⟨S1376x512, .bf16⟩
  | .local _ .vmem, ⟨17, _⟩ => ⟨S1376x512, .bf16⟩
  | .local _ .vmem, ⟨18, _⟩ => ⟨S1x512x512, .bf16⟩
  | .local _ .vmem, ⟨19, _⟩ => ⟨S1x512x512, .bf16⟩
  | .local _ .vmem, ⟨20, _⟩ => ⟨S1376x512, .bf16⟩
  | .local _ .vmem, ⟨21, _⟩ => ⟨S1376x512, .bf16⟩
  | .local _ .vmem, ⟨22, _⟩ => ⟨S1x512x512, .bf16⟩
  | .local _ .vmem, ⟨23, _⟩ => ⟨S1x512x512, .bf16⟩
  | .local _ .vmem, ⟨24, _⟩ => ⟨S1376x512, .bf16⟩
  | .local _ .vmem, ⟨25, _⟩ => ⟨S1376x512, .bf16⟩
  | .local _ .vmem, ⟨26, _⟩ => ⟨S1x512x512, .bf16⟩
  | .local _ .vmem, ⟨27, _⟩ => ⟨S1x512x512, .bf16⟩
  | .local _ .vmem, ⟨28, _⟩ => ⟨S1376x512, .bf16⟩
  | .local _ .vmem, ⟨29, _⟩ => ⟨S1376x512, .bf16⟩
  | .local _ .vmem, ⟨30, _⟩ => ⟨S1x512x512, .bf16⟩
  | .local _ .vmem, ⟨31, _⟩ => ⟨S1x512x512, .bf16⟩
  | .local _ .vmem, ⟨32, _⟩ => ⟨S1376x512, .bf16⟩
  | .local _ .vmem, ⟨33, _⟩ => ⟨S1376x512, .bf16⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_11 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_13 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_15 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1376x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1376x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1376x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1376x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1376x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1376x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1376x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x1024x512 : Shape := ⟨3, ![8, 1024, 512]⟩
abbrev S4128x4096 : Shape := ⟨2, ![4128, 4096]⟩
abbrev S1024x8x512 : Shape := ⟨3, ![1024, 8, 512]⟩
abbrev S1024x4096 : Shape := ⟨2, ![1024, 4096]⟩
abbrev S_ : Shape := ⟨0, ![]⟩
abbrev S4128x1024 : Shape := ⟨2, ![4128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S4128x4096, .bf16⟩
  | .hbm, ⟨2, _⟩ => ⟨S8x1024x512, .f32⟩
  | .hbm, ⟨3, _⟩ => ⟨S1024x8x512, .f32⟩
  | .hbm, ⟨4, _⟩ => ⟨S1024x4096, .f32⟩
  | .hbm, ⟨5, _⟩ => ⟨S4128x4096, .f32⟩
  | .hbm, ⟨6, _⟩ => ⟨S_, .f32⟩
  | .hbm, ⟨7, _⟩ => ⟨S4128x1024, .f32⟩
  | .hbm, ⟨8, _⟩ => ⟨S4128x4096, .f32⟩
  | .hbm, ⟨9, _⟩ => ⟨S4128x1024, .f32⟩
  | .hbm, ⟨10, _⟩ => ⟨S4128x1024, .bf16⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4128x1024 : Shape := ⟨2, ![4128, 1024]⟩
abbrev S4128x4096 : Shape := ⟨2, ![4128, 4096]⟩
abbrev S8x1024x512 : Shape := ⟨3, ![8, 1024, 512]⟩
abbrev S4128x512 : Shape := ⟨2, ![4128, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S4128x4096, .bf16⟩
  | .hbm, ⟨2, _⟩ => ⟨S8x1024x512, .bf16⟩
  | .local _ .vmem, ⟨0, _⟩ => ⟨S4128x1024, .bf16⟩
  | .local _ .vmem, ⟨1, _⟩ => ⟨S4128x512, .bf16⟩
  | .local _ .vmem, ⟨2, _⟩ => ⟨S4128x512, .bf16⟩
  | .local _ .vmem, ⟨3, _⟩ => ⟨S1x1024x512, .bf16⟩
  | .local _ .vmem, ⟨4, _⟩ => ⟨S1x1024x512, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference4Ideal.lean ====
abbrev S4128x1024 : Shape := ⟨2, ![4128, 1024]⟩
abbrev S4128x4096 : Shape := ⟨2, ![4128, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x4096, .bf16⟩
  | .hbm, ⟨2, _⟩ => ⟨S4128x1024, .f32⟩
  | .hbm, ⟨3, _⟩ => ⟨S4128x4096, .f32⟩
  | .hbm, ⟨4, _⟩ => ⟨S_, .f32⟩
  | .hbm, ⟨5, _⟩ => ⟨S1024x4096, .f32⟩
  | .hbm, ⟨6, _⟩ => ⟨S4128x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4128x1024 : Shape := ⟨2, ![4128, 1024]⟩
abbrev S8x1024x512 : Shape := ⟨3, ![8, 1024, 512]⟩
abbrev S4128x4096 : Shape := ⟨2, ![4128, 4096]⟩
abbrev S1376x1024 : Shape := ⟨2, ![1376, 1024]⟩
abbrev S1x1024x512 : Shape := ⟨3, ![1, 1024, 512]⟩
abbrev S1376x512 : Shape := ⟨2, ![1376, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4128x1024, .bf16⟩
  | .hbm, ⟨1, _⟩ => ⟨S8x1024x512, .bf16⟩
  | .hbm, ⟨2, _⟩ => ⟨S4128x4096, .bf16⟩
  | .local _ .vmem, ⟨0, _⟩ => ⟨S1376x1024, .bf16⟩
  | .local _ .vmem, ⟨1, _⟩ => ⟨S1376x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1376x512, .bf16⟩
  | .local _ .vmem, ⟨5, _⟩ => ⟨S1376x512, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4128x1024 : Shape := ⟨2, ![4128, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4128x4096 : Shape := ⟨2, ![4128, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S8x1024x512, .bf16⟩
  | .hbm, ⟨2, _⟩ => ⟨S4128x1024, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S4128x4096, .f32⟩
  | .hbm, ⟨7, _⟩ => ⟨S_, .f32⟩
  | .hbm, ⟨8, _⟩ => ⟨S4128x4096, .f32⟩
  | .hbm, ⟨9, _⟩ => ⟨S4128x4096, .f32⟩
  | .hbm, ⟨10, _⟩ => ⟨S4128x4096, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S4128x4096 : Shape := ⟨2, ![4128, 4096]⟩
abbrev S4096x1024 : Shape := ⟨2, ![4096, 1024]⟩
abbrev S_ : Shape := ⟨0, ![]⟩
abbrev S4128x1024 : Shape := ⟨2, ![4128, 1024]⟩
abbrev S688x4096 : Shape := ⟨2, ![688, 4096]⟩
abbrev S688x1024 : Shape := ⟨2, ![688, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4128x4096, .bf16⟩
  | .hbm, ⟨1, _⟩ => ⟨S4096x1024, .bf16⟩
  | .hbm, ⟨2, _⟩ => ⟨S_, .bf16⟩
  | .hbm, ⟨3, _⟩ => ⟨S4128x4096, .bf16⟩
  | .hbm, ⟨4, _⟩ => ⟨S4128x4096, .bf16⟩
  | .hbm, ⟨5, _⟩ => ⟨S4128x1024, .bf16⟩
  | .local _ .vmem, ⟨0, _⟩ => ⟨S688x4096, .bf16⟩
  | .local _ .vmem, ⟨1, _⟩ => ⟨S688x4096, .bf16⟩
  | .local _ .vmem, ⟨2, _⟩ => ⟨S4096x1024, .bf16⟩
  | .local _ .vmem, ⟨3, _⟩ => ⟨S688x1024, .bf16⟩
  | .local _ .vmem, ⟨4, _⟩ => ⟨S688x1024, .bf16⟩
  | _, _ => ⟨S4128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4128x4096 : Shape := ⟨2, ![4128, 4096]⟩
abbrev S4096x1024 : Shape := ⟨2, ![4096, 1024]⟩
abbrev S_ : Shape := ⟨0, ![]⟩
abbrev S4128x1024 : Shape := ⟨2, ![4128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4128x4096, .bf16⟩
  | .hbm, ⟨1, _⟩ => ⟨S4096x1024, .bf16⟩
  | .hbm, ⟨2, _⟩ => ⟨S4128x4096, .f32⟩
  | .hbm, ⟨3, _⟩ => ⟨S4096x1024, .f32⟩
  | .hbm, ⟨4, _⟩ => ⟨S_, .f32⟩
  | .hbm, ⟨5, _⟩ => ⟨S4128x4096, .f32⟩
  | .hbm, ⟨6, _⟩ => ⟨S4128x4096, .f32⟩
  | .hbm, ⟨7, _⟩ => ⟨S4128x4096, .f32⟩
  | .hbm, ⟨8, _⟩ => ⟨S4128x1024, .f32⟩
  | .hbm, ⟨9, _⟩ => ⟨S4128x1024, .bf16⟩
  | _, _ => ⟨S4128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4128x1024 : Shape := ⟨2, ![4128, 1024]⟩
abbrev S1024x7184 : Shape := ⟨2, ![1024, 7184]⟩
abbrev S7184x1024 : Shape := ⟨2, ![7184, 1024]⟩
abbrev S_ : Shape := ⟨0, ![]⟩
abbrev S8x128 : Shape := ⟨2, ![8, 128]⟩
abbrev S4128x3072 : Shape := ⟨2, ![4128, 3072]⟩
abbrev S1376x1024 : Shape := ⟨2, ![1376, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4128x1024, .bf16⟩
  | .hbm, ⟨1, _⟩ => ⟨S1024x7184, .bf16⟩
  | .hbm, ⟨2, _⟩ => ⟨S7184x1024, .bf16⟩
  | .hbm, ⟨3, _⟩ => ⟨S_, .f32⟩
  | .hbm, ⟨4, _⟩ => ⟨S8x128, .f32⟩
  | .hbm, ⟨5, _⟩ => ⟨S4128x3072, .bf16⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S1376x1024, .bf16⟩
  | .local _ .vmem, ⟨6, _⟩ => ⟨S1376x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 3], ![false, false]⟩

def k0_mult1 (i : grid0.Coords) : BitVec 32 :=
  let c0_i32 : BitVec 32 := 0#32
  let c1024_i32 : BitVec 32 := 1024#32
  let arg1 : BitVec 32 := BitVec.ofNat 32 (i 1).val
  let v0 : BitVec 32 := Scalar.muli c1024_i32 arg1
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg1
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4128x1024 : Shape := ⟨2, ![4128, 1024]⟩
abbrev S1024x7184 : Shape := ⟨2, ![1024, 7184]⟩
abbrev S1024x3072 : Shape := ⟨2, ![1024, 3072]⟩
abbrev S4128x3072 : Shape := ⟨2, ![4128, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x7184, .bf16⟩
  | .hbm, ⟨2, _⟩ => ⟨S4128x1024, .f32⟩
  | .hbm, ⟨3, _⟩ => ⟨S1024x7184, .f32⟩
  | .hbm, ⟨4, _⟩ => ⟨S1024x3072, .f32⟩
  | .hbm, ⟨5, _⟩ => ⟨S4128x3072, .f32⟩
  | .hbm, ⟨6, _⟩ => ⟨S4128x3072, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4128x1024 : Shape := ⟨2, ![4128, 1024]⟩
abbrev S1024x7184 : Shape := ⟨2, ![1024, 7184]⟩
abbrev S7184x1024 : Shape := ⟨2, ![7184, 1024]⟩
abbrev S_ : Shape := ⟨0, ![]⟩
abbrev S8x128 : Shape := ⟨2, ![8, 128]⟩
abbrev S4128x2048 : Shape := ⟨2, ![4128, 2048]⟩
abbrev S1376x1024 : Shape := ⟨2, ![1376, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4128x1024, .bf16⟩
  | .hbm, ⟨1, _⟩ => ⟨S1024x7184, .bf16⟩
  | .hbm, ⟨2, _⟩ => ⟨S7184x1024, .bf16⟩
  | .hbm, ⟨3, _⟩ => ⟨S_, .f32⟩
  | .hbm, ⟨4, _⟩ => ⟨S8x128, .f32⟩
  | .hbm, ⟨5, _⟩ => ⟨S4128x2048, .bf16⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S1376x1024, .bf16⟩
  | .local _ .vmem, ⟨6, _⟩ => ⟨S1376x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 2], ![false, false]⟩

def k0_mult1 (i : grid0.Coords) : BitVec 32 :=
  let c3088_i32 : BitVec 32 := 3088#32
  let c1024_i32 : BitVec 32 := 1024#32
  let arg1 : BitVec 32 := BitVec.ofNat 32 (i 1).val
  let v0 : BitVec 32 := Scalar.muli c1024_i32 arg1
  let v1 : BitVec 32 := Scalar.addi c3088_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg1
  let c3088_i32 : BitVec 32 := 3088#32
  let v1 : BitVec 32 := Scalar.addi c3088_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4128x1024 : Shape := ⟨2, ![4128, 1024]⟩
abbrev S1024x7184 : Shape := ⟨2, ![1024, 7184]⟩
abbrev S1024x2048 : Shape := ⟨2, ![1024, 2048]⟩
abbrev S4128x2048 : Shape := ⟨2, ![4128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x7184, .bf16⟩
  | .hbm, ⟨2, _⟩ => ⟨S4128x1024, .f32⟩
  | .hbm, ⟨3, _⟩ => ⟨S1024x7184, .f32⟩
  | .hbm, ⟨4, _⟩ => ⟨S1024x2048, .f32⟩
  | .hbm, ⟨5, _⟩ => ⟨S4128x2048, .f32⟩
  | .hbm, ⟨6, _⟩ => ⟨S4128x2048, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4128x1024 : Shape := ⟨2, ![4128, 1024]⟩
abbrev S1024x7184 : Shape := ⟨2, ![1024, 7184]⟩
abbrev S7184x1024 : Shape := ⟨2, ![7184, 1024]⟩
abbrev S_ : Shape := ⟨0, ![]⟩
abbrev S8x128 : Shape := ⟨2, ![8, 128]⟩
abbrev S4128x2048 : Shape := ⟨2, ![4128, 2048]⟩
abbrev S1376x1024 : Shape := ⟨2, ![1376, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4128x1024, .bf16⟩
  | .hbm, ⟨1, _⟩ => ⟨S1024x7184, .bf16⟩
  | .hbm, ⟨2, _⟩ => ⟨S7184x1024, .bf16⟩
  | .hbm, ⟨3, _⟩ => ⟨S_, .f32⟩
  | .hbm, ⟨4, _⟩ => ⟨S8x128, .f32⟩
  | .hbm, ⟨5, _⟩ => ⟨S4128x2048, .bf16⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S1376x1024, .bf16⟩
  | .local _ .vmem, ⟨6, _⟩ => ⟨S1376x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 2], ![false, false]⟩

def k0_mult1 (i : grid0.Coords) : BitVec 32 :=
  let c5136_i32 : BitVec 32 := 5136#32
  let c1024_i32 : BitVec 32 := 1024#32
  let arg1 : BitVec 32 := BitVec.ofNat 32 (i 1).val
  let v0 : BitVec 32 := Scalar.muli c1024_i32 arg1
  let v1 : BitVec 32 := Scalar.addi c5136_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg1
  let c5136_i32 : BitVec 32 := 5136#32
  let v1 : BitVec 32 := Scalar.addi c5136_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4128x1024 : Shape := ⟨2, ![4128, 1024]⟩
abbrev S1024x7184 : Shape := ⟨2, ![1024, 7184]⟩
abbrev S1024x2048 : Shape := ⟨2, ![1024, 2048]⟩
abbrev S4128x2048 : Shape := ⟨2, ![4128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x7184, .bf16⟩
  | .hbm, ⟨2, _⟩ => ⟨S4128x1024, .f32⟩
  | .hbm, ⟨3, _⟩ => ⟨S1024x7184, .f32⟩
  | .hbm, ⟨4, _⟩ => ⟨S1024x2048, .f32⟩
  | .hbm, ⟨5, _⟩ => ⟨S4128x2048, .f32⟩
  | .hbm, ⟨6, _⟩ => ⟨S4128x2048, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4128x1024 : Shape := ⟨2, ![4128, 1024]⟩
abbrev S1024x1024 : Shape := ⟨2, ![1024, 1024]⟩
abbrev S1376x1024 : Shape := ⟨2, ![1376, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .bf16⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1376x1024, .bf16⟩
  | .local _ .vmem, ⟨4, _⟩ => ⟨S1376x1024, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4128x1024 : Shape := ⟨2, ![4128, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S1024x1024, .bf16⟩
  | .hbm, ⟨2, _⟩ => ⟨S4128x1024, .f32⟩
  | .hbm, ⟨3, _⟩ => ⟨S1024x1024, .f32⟩
  | .hbm, ⟨4, _⟩ => ⟨S4128x1024, .f32⟩
  | .hbm, ⟨5, _⟩ => ⟨S4128x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S1024x1024 : Shape := ⟨2, ![1024, 1024]⟩
abbrev S4128x1024 : Shape := ⟨2, ![4128, 1024]⟩
abbrev S1376x1024 : Shape := ⟨2, ![1376, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S4128x1024, .bf16⟩
  | .hbm, ⟨2, _⟩ => ⟨S4128x1024, .bf16⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1376x1024, .bf16⟩
  | .local _ .vmem, ⟨4, _⟩ => ⟨S1376x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S1024x1024 : Shape := ⟨2, ![1024, 1024]⟩
abbrev S4128x1024 : Shape := ⟨2, ![4128, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S4128x1024, .bf16⟩
  | .hbm, ⟨2, _⟩ => ⟨S1024x1024, .f32⟩
  | .hbm, ⟨3, _⟩ => ⟨S4128x1024, .f32⟩
  | .hbm, ⟨4, _⟩ => ⟨S_, .f32⟩
  | .hbm, ⟨5, _⟩ => ⟨S4128x1024, .f32⟩
  | .hbm, ⟨6, _⟩ => ⟨S4128x1024, .f32⟩
  | .hbm, ⟨7, _⟩ => ⟨S4128x1024, .f32⟩
  | .hbm, ⟨8, _⟩ => ⟨S4128x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4128x1024 : Shape := ⟨2, ![4128, 1024]⟩
abbrev S1024x1024 : Shape := ⟨2, ![1024, 1024]⟩
abbrev S4128x512 : Shape := ⟨2, ![4128, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4128x1024, .bf16⟩
  | .hbm, ⟨1, _⟩ => ⟨S4128x1024, .bf16⟩
  | .hbm, ⟨2, _⟩ => ⟨S1024x1024, .bf16⟩
  | .local _ .vmem, ⟨0, _⟩ => ⟨S4128x1024, .bf16⟩
  | .local _ .vmem, ⟨1, _⟩ => ⟨S4128x512, .bf16⟩
  | .local _ .vmem, ⟨2, _⟩ => ⟨S4128x512, .bf16⟩
  | .local _ .vmem, ⟨3, _⟩ => ⟨S1024x512, .bf16⟩
  | .local _ .vmem, ⟨4, _⟩ => ⟨S1024x512, .bf16⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4128x1024 : Shape := ⟨2, ![4128, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x1024, .bf16⟩
  | .hbm, ⟨2, _⟩ => ⟨S4128x1024, .f32⟩
  | .hbm, ⟨3, _⟩ => ⟨S4128x1024, .f32⟩
  | .hbm, ⟨4, _⟩ => ⟨S_, .f32⟩
  | .hbm, ⟨5, _⟩ => ⟨S1024x1024, .f32⟩
  | .hbm, ⟨6, _⟩ => ⟨S4128x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S1024x7184 : Shape := ⟨2, ![1024, 7184]⟩
abbrev S4128x1024 : Shape := ⟨2, ![4128, 1024]⟩
abbrev S4128x16 : Shape := ⟨2, ![4128, 16]⟩
abbrev S7184x1024 : Shape := ⟨2, ![7184, 1024]⟩
abbrev S_ : Shape := ⟨0, ![]⟩
abbrev S4128x128 : Shape := ⟨2, ![4128, 128]⟩
abbrev S8x128 : Shape := ⟨2, ![8, 128]⟩
abbrev S688x1024 : Shape := ⟨2, ![688, 1024]⟩
abbrev S1024x512 : Shape := ⟨2, ![1024, 512]⟩
abbrev S688x128 : Shape := ⟨2, ![688, 128]⟩
abbrev S128x512 : Shape := ⟨2, ![128, 512]⟩
abbrev S688x512 : Shape := ⟨2, ![688, 512]⟩

abbrev nBuf : Space → Nat
  | .hbm => 16
  | .vmem => 35
  | .smem => 0
  | _ => 0

abbrev bufTy : (tb : Table) → Fin (tcTables nBuf tb) → BufTy
  | .hbm, ⟨0, _⟩ => ⟨S1024x7184, .bf16⟩
  | .hbm, ⟨1, _⟩ => ⟨S4128x1024, .bf16⟩
  | .hbm, ⟨2, _⟩ => ⟨S4128x1024, .bf16⟩
  | .hbm, ⟨3, _⟩ => ⟨S4128x1024, .bf16⟩
  | .hbm, ⟨4, _⟩ => ⟨S4128x16, .bf16⟩
  | .hbm, ⟨5, _⟩ => ⟨S4128x1024, .bf16⟩
  | .hbm, ⟨6, _⟩ => ⟨S4128x1024, .bf16⟩
  | .hbm, ⟨7, _⟩ => ⟨S4128x1024, .bf16⟩
  | .hbm, ⟨8, _⟩ => ⟨S4128x1024, .bf16⟩
  | .hbm, ⟨9, _⟩ => ⟨S7184x1024, .bf16⟩
  | .hbm, ⟨10, _⟩ => ⟨S_, .i32⟩
  | .hbm, ⟨11, _⟩ => ⟨S_, .bf16⟩
  | .hbm, ⟨12, _⟩ => ⟨S4128x128, .bf16⟩
  | .hbm, ⟨13, _⟩ => ⟨S_, .f32⟩
  | .hbm, ⟨14, _⟩ => ⟨S8x128, .f32⟩
  | .hbm, ⟨15, _⟩ => ⟨S4128x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x512, .bf16⟩
  | .local _ .vmem, ⟨3, _⟩ => ⟨S1024x512, .bf16⟩
  | .local _ .vmem, ⟨4, _⟩ => ⟨S688x1024, .bf16⟩
  | .local _ .vmem, ⟨5, _⟩ => ⟨S688x1024, .bf16⟩
  | .local _ .vmem, ⟨6, _⟩ => ⟨S1024x512, .bf16⟩
  | .local _ .vmem, ⟨7, _⟩ => ⟨S1024x512, .bf16⟩
  | .local _ .vmem, ⟨8, _⟩ => ⟨S688x1024, .bf16⟩
  | .local _ .vmem, ⟨9, _⟩ => ⟨S688x1024, .bf16⟩
  | .local _ .vmem, ⟨10, _⟩ => ⟨S1024x512, .bf16⟩
  | .local _ .vmem, ⟨11, _⟩ => ⟨S1024x512, .bf16⟩
  | .local _ .vmem, ⟨12, _⟩ => ⟨S688x1024, .bf16⟩
  | .local _ .vmem, ⟨13, _⟩ => ⟨S688x1024, .bf16⟩
  | .local _ .vmem, ⟨14, _⟩ => ⟨S1024x512, .bf16⟩
  | .local _ .vmem, ⟨15, _⟩ => ⟨S1024x512, .bf16⟩
  | .local _ .vmem, ⟨16, _⟩ => ⟨S688x1024, .bf16⟩
  | .local _ .vmem, ⟨17, _⟩ => ⟨S688x1024, .bf16⟩
  | .local _ .vmem, ⟨18, _⟩ => ⟨S1024x512, .bf16⟩
  | .local _ .vmem, ⟨19, _⟩ => ⟨S1024x512, .bf16⟩
  | .local _ .vmem, ⟨20, _⟩ => ⟨S688x1024, .bf16⟩
  | .local _ .vmem, ⟨21, _⟩ => ⟨S688x1024, .bf16⟩
  | .local _ .vmem, ⟨22, _⟩ => ⟨S1024x512, .bf16⟩
  | .local _ .vmem, ⟨23, _⟩ => ⟨S1024x512, .bf16⟩
  | .local _ .vmem, ⟨24, _⟩ => ⟨S688x1024, .bf16⟩
  | .local _ .vmem, ⟨25, _⟩ => ⟨S688x1024, .bf16⟩
  | .local _ .vmem, ⟨26, _⟩ => ⟨S1024x512, .bf16⟩
  | .local _ .vmem, ⟨27, _⟩ => ⟨S1024x512, .bf16⟩
  | .local _ .vmem, ⟨28, _⟩ => ⟨S688x128, .bf16⟩
  | .local _ .vmem, ⟨29, _⟩ => ⟨S688x128, .bf16⟩
  | .local _ .vmem, ⟨30, _⟩ => ⟨S128x512, .bf16⟩
  | .local _ .vmem, ⟨31, _⟩ => ⟨S128x512, .bf16⟩
  | .local _ .vmem, ⟨32, _⟩ => ⟨S8x128, .f32⟩
  | .local _ .vmem, ⟨33, _⟩ => ⟨S688x512, .bf16⟩
  | .local _ .vmem, ⟨34, _⟩ => ⟨S688x512, .bf16⟩
  | _, _ => ⟨S1024x7184, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![6, 2], ![false, false]⟩

def k0_mult1 (i : grid0.Coords) : BitVec 32 :=
  let c512_i32 : BitVec 32 := 512#32
  let arg1 : BitVec 32 := BitVec.ofNat 32 (i 1).val
  let v0 : BitVec 32 := Scalar.muli c512_i32 arg1
  v0
def k0_mult2 (i : grid0.Coords) : BitVec 32 :=
  let c512_i32 : BitVec 32 := 512#32
  let arg1 : BitVec 32 := BitVec.ofNat 32 (i 1).val
  let v0 : BitVec 32 := Scalar.muli c512_i32 arg1
  v0
def k0_mult3 (i : grid0.Coords) : BitVec 32 :=
  let c512_i32 : BitVec 32 := 512#32
  let arg1 : BitVec 32 := BitVec.ofNat 32 (i 1).val
  let v0 : BitVec 32 := Scalar.muli c512_i32 arg1
  v0
def k0_mult4 (i : grid0.Coords) : BitVec 32 :=
  let c512_i32 : BitVec 32 := 512#32
  let arg1 : BitVec 32 := BitVec.ofNat 32 (i 1).val
  let v0 : BitVec 32 := Scalar.muli c512_i32 arg1
  v0
def k0_mult5 (i : grid0.Coords) : BitVec 32 :=
  let c512_i32 : BitVec 32 := 512#32
  let arg1 : BitVec 32 := BitVec.ofNat 32 (i 1).val
  let v0 : BitVec 32 := Scalar.muli c512_i32 arg1
  v0
def k0_mult6 (i : grid0.Coords) : BitVec 32 :=
  let c512_i32 : BitVec 32 := 512#32
  let arg1 : BitVec 32 := BitVec.ofNat 32 (i 1).val
  let v0 : BitVec 32 := Scalar.muli c512_i32 arg1
  v0
def k0_mult7 (i : grid0.Coords) : BitVec 32 :=
  let c512_i32 : BitVec 32 := 512#32
  let arg1 : BitVec 32 := BitVec.ofNat 32 (i 1).val
  let v0 : BitVec 32 := Scalar.muli c512_i32 arg1
  v0
def k0_mult8 (i : grid0.Coords) : BitVec 32 :=
  let c512_i32 : BitVec 32 := 512#32
  let arg1 : BitVec 32 := BitVec.ofNat 32 (i 1).val
  let v0 : BitVec 32 := Scalar.muli c512_i32 arg1
  v0
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg1
  let v1 : BitVec 32 := v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg1
  let v1 : BitVec 32 := v0
  let c1024_i32 : BitVec 32 := 1024#32
  let c0_i32 : BitVec 32 := 0#32
  ![c1024_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg1
  let v1 : BitVec 32 := v0
  let c2048_i32 : BitVec 32 := 2048#32
  let c0_i32 : BitVec 32 := 0#32
  ![c2048_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg1
  let v1 : BitVec 32 := v0
  let c3088_i32 : BitVec 32 := 3088#32
  let c0_i32 : BitVec 32 := 0#32
  ![c3088_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg1
  let v1 : BitVec 32 := v0
  let c4112_i32 : BitVec 32 := 4112#32
  let c0_i32 : BitVec 32 := 0#32
  ![c4112_i32.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg1
  let v1 : BitVec 32 := v0
  let c5136_i32 : BitVec 32 := 5136#32
  let c0_i32 : BitVec 32 := 0#32
  ![c5136_i32.toNat, v1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg1
  let v1 : BitVec 32 := v0
  let c6160_i32 : BitVec 32 := 6160#32
  let c0_i32 : BitVec 32 := 0#32
  ![c6160_i32.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli c512_i32 arg1
  let v1 : BitVec 32 := v0
  let c3072_i32 : BitVec 32 := 3072#32
  let c0_i32 : BitVec 32 := 0#32
  ![c3072_i32.toNat, v1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S688x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S688x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S688x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S688x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference13Ideal.lean ====
abbrev S1024x7184 : Shape := ⟨2, ![1024, 7184]⟩
abbrev S4128x1024 : Shape := ⟨2, ![4128, 1024]⟩
abbrev S4128x16 : Shape := ⟨2, ![4128, 16]⟩
abbrev S4128x2048 : Shape := ⟨2, ![4128, 2048]⟩
abbrev S_ : Shape := ⟨0, ![]⟩
abbrev S4128x7184 : Shape := ⟨2, ![4128, 7184]⟩

abbrev nBuf : Space → Nat
  | .hbm => 32
  | .vmem => 0
  | .smem => 0
  | _ => 0

abbrev bufTy : (tb : Table) → Fin (tcTables nBuf tb) → BufTy
  | .hbm, ⟨0, _⟩ => ⟨S1024x7184, .bf16⟩
  | .hbm, ⟨1, _⟩ => ⟨S4128x1024, .bf16⟩
  | .hbm, ⟨2, _⟩ => ⟨S4128x1024, .bf16⟩
  | .hbm, ⟨3, _⟩ => ⟨S4128x1024, .bf16⟩
  | .hbm, ⟨4, _⟩ => ⟨S4128x16, .bf16⟩
  | .hbm, ⟨5, _⟩ => ⟨S4128x1024, .bf16⟩
  | .hbm, ⟨6, _⟩ => ⟨S4128x1024, .bf16⟩
  | .hbm, ⟨7, _⟩ => ⟨S4128x1024, .bf16⟩
  | .hbm, ⟨8, _⟩ => ⟨S4128x1024, .bf16⟩
  | .hbm, ⟨9, _⟩ => ⟨S1024x7184, .f32⟩
  | .hbm, ⟨10, _⟩ => ⟨S4128x1024, .f32⟩
  | .hbm, ⟨11, _⟩ => ⟨S4128x1024, .f32⟩
  | .hbm, ⟨12, _⟩ => ⟨S4128x1024, .f32⟩
  | .hbm, ⟨13, _⟩ => ⟨S4128x16, .f32⟩
  | .hbm, ⟨14, _⟩ => ⟨S4128x1024, .f32⟩
  | .hbm, ⟨15, _⟩ => ⟨S4128x1024, .f32⟩
  | .hbm, ⟨16, _⟩ => ⟨S4128x1024, .f32⟩
  | .hbm, ⟨17, _⟩ => ⟨S4128x1024, .f32⟩
  | .hbm, ⟨18, _⟩ => ⟨S4128x2048, .f32⟩
  | .hbm, ⟨19, _⟩ => ⟨S_, .f32⟩
  | .hbm, ⟨20, _⟩ => ⟨S4128x1024, .f32⟩
  | .hbm, ⟨21, _⟩ => ⟨S4128x7184, .f32⟩
  | .hbm, ⟨22, _⟩ => ⟨S4128x1024, .f32⟩
  | .hbm, ⟨23, _⟩ => ⟨S4128x1024, .f32⟩
  | .hbm, ⟨24, _⟩ => ⟨S4128x1024, .f32⟩
  | .hbm, ⟨25, _⟩ => ⟨S4128x16, .f32⟩
  | .hbm, ⟨26, _⟩ => ⟨S4128x2048, .f32⟩
  | .hbm, ⟨27, _⟩ => ⟨S4128x1024, .f32⟩
  | .hbm, ⟨28, _⟩ => ⟨S4128x1024, .f32⟩
  | .hbm, ⟨29, _⟩ => ⟨S4128x7184, .f32⟩
  | .hbm, ⟨30, _⟩ => ⟨S4128x1024, .f32⟩
  | .hbm, ⟨31, _⟩ => ⟨S4128x1024, .bf16⟩
  | _, _ => ⟨S1024x7184, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel14.lean ====
abbrev S4128x1024 : Shape := ⟨2, ![4128, 1024]⟩
abbrev S4128x2048 : Shape := ⟨2, ![4128, 2048]⟩
abbrev S1x1024 : Shape := ⟨2, ![1, 1024]⟩
abbrev S688x512 : Shape := ⟨2, ![688, 512]⟩
abbrev S1x512 : Shape := ⟨2, ![1, 512]⟩
abbrev S512 : Shape := ⟨1, ![512]⟩

abbrev nBuf : Space → Nat
  | .hbm => 10
  | .vmem => 22
  | .smem => 0
  | _ => 0

abbrev bufTy : (tb : Table) → Fin (tcTables nBuf tb) → BufTy
  | .hbm, ⟨0, _⟩ => ⟨S4128x1024, .bf16⟩
  | .hbm, ⟨1, _⟩ => ⟨S4128x2048, .bf16⟩
  | .hbm, ⟨2, _⟩ => ⟨S4128x1024, .bf16⟩
  | .hbm, ⟨3, _⟩ => ⟨S4128x1024, .bf16⟩
  | .hbm, ⟨4, _⟩ => ⟨S1x1024, .f32⟩
  | .hbm, ⟨5, _⟩ => ⟨S4128x1024, .bf16⟩
  | .hbm, ⟨6, _⟩ => ⟨S4128x1024, .bf16⟩
  | .hbm, ⟨7, _⟩ => ⟨S4128x1024, .bf16⟩
  | .hbm, ⟨8, _⟩ => ⟨S4128x1024, .bf16⟩
  | .hbm, ⟨9, _⟩ => ⟨S1x1024, .f32⟩
  | .local _ .vmem, ⟨0, _⟩ => ⟨S688x512, .bf16⟩
  | .local _ .vmem, ⟨1, _⟩ => ⟨S688x512, .bf16⟩
  | .local _ .vmem, ⟨2, _⟩ => ⟨S688x512, .bf16⟩
  | .local _ .vmem, ⟨3, _⟩ => ⟨S688x512, .bf16⟩
  | .local _ .vmem, ⟨4, _⟩ => ⟨S688x512, .bf16⟩
  | .local _ .vmem, ⟨5, _⟩ => ⟨S688x512, .bf16⟩
  | .local _ .vmem, ⟨6, _⟩ => ⟨S688x512, .bf16⟩
  | .local _ .vmem, ⟨7, _⟩ => ⟨S688x512, .bf16⟩
  | .local _ .vmem, ⟨8, _⟩ => ⟨S688x512, .bf16⟩
  | .local _ .vmem, ⟨9, _⟩ => ⟨S688x512, .bf16⟩
  | .local _ .vmem, ⟨10, _⟩ => ⟨S1x512, .f32⟩
  | .local _ .vmem, ⟨11, _⟩ => ⟨S1x512, .f32⟩
  | .local _ .vmem, ⟨12, _⟩ => ⟨S688x512, .bf16⟩
  | .local _ .vmem, ⟨13, _⟩ => ⟨S688x512, .bf16⟩
  | .local _ .vmem, ⟨14, _⟩ => ⟨S688x512, .bf16⟩
  | .local _ .vmem, ⟨15, _⟩ => ⟨S688x512, .bf16⟩
  | .local _ .vmem, ⟨16, _⟩ => ⟨S688x512, .bf16⟩
  | .local _ .vmem, ⟨17, _⟩ => ⟨S688x512, .bf16⟩
  | .local _ .vmem, ⟨18, _⟩ => ⟨S688x512, .bf16⟩
  | .local _ .vmem, ⟨19, _⟩ => ⟨S688x512, .bf16⟩
  | .local _ .vmem, ⟨20, _⟩ => ⟨S1x512, .f32⟩
  | .local _ .vmem, ⟨21, _⟩ => ⟨S1x512, .f32⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S688x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S688x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference14Ideal.lean ====
abbrev S4128x1024 : Shape := ⟨2, ![4128, 1024]⟩
abbrev S4128x2048 : Shape := ⟨2, ![4128, 2048]⟩
abbrev S1x1024 : Shape := ⟨2, ![1, 1024]⟩
abbrev S_ : Shape := ⟨0, ![]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x2048, .bf16⟩
  | .hbm, ⟨2, _⟩ => ⟨S4128x1024, .bf16⟩
  | .hbm, ⟨3, _⟩ => ⟨S4128x1024, .bf16⟩
  | .hbm, ⟨4, _⟩ => ⟨S1x1024, .f32⟩
  | .hbm, ⟨5, _⟩ => ⟨S4128x1024, .f32⟩
  | .hbm, ⟨6, _⟩ => ⟨S4128x2048, .f32⟩
  | .hbm, ⟨7, _⟩ => ⟨S4128x1024, .f32⟩
  | .hbm, ⟨8, _⟩ => ⟨S4128x1024, .f32⟩
  | .hbm, ⟨9, _⟩ => ⟨S4128x1024, .f32⟩
  | .hbm, ⟨10, _⟩ => ⟨S4128x1024, .f32⟩
  | .hbm, ⟨11, _⟩ => ⟨S4128x1024, .f32⟩
  | .hbm, ⟨12, _⟩ => ⟨S4128x1024, .f32⟩
  | .hbm, ⟨13, _⟩ => ⟨S_, .f32⟩
  | .hbm, ⟨14, _⟩ => ⟨S4128x1024, .f32⟩
  | .hbm, ⟨15, _⟩ => ⟨S4128x1024, .f32⟩
  | .hbm, ⟨16, _⟩ => ⟨S_, .f32⟩
  | .hbm, ⟨17, _⟩ => ⟨S4128x1024, .f32⟩
  | .hbm, ⟨18, _⟩ => ⟨S4128x1024, .f32⟩
  | .hbm, ⟨19, _⟩ => ⟨S_, .f32⟩
  | .hbm, ⟨20, _⟩ => ⟨S4128x1024, .f32⟩
  | .hbm, ⟨21, _⟩ => ⟨S4128x1024, .f32⟩
  | .hbm, ⟨22, _⟩ => ⟨S4128x1024, .f32⟩
  | .hbm, ⟨23, _⟩ => ⟨S4128x1024, .f32⟩
  | .hbm, ⟨24, _⟩ => ⟨S4128x1024, .f32⟩
  | .hbm, ⟨25, _⟩ => ⟨S4128x1024, .f32⟩
  | .hbm, ⟨26, _⟩ => ⟨S_, .f32⟩
  | .hbm, ⟨27, _⟩ => ⟨S4128x1024, .f32⟩
  | .hbm, ⟨28, _⟩ => ⟨S4128x1024, .f32⟩
  | .hbm, ⟨29, _⟩ => ⟨S_, .f32⟩
  | .hbm, ⟨30, _⟩ => ⟨S4128x1024, .f32⟩
  | .hbm, ⟨31, _⟩ => ⟨S4128x1024, .f32⟩
  | .hbm, ⟨32, _⟩ => ⟨S_, .f32⟩
  | .hbm, ⟨33, _⟩ => ⟨S4128x1024, .f32⟩
  | .hbm, ⟨34, _⟩ => ⟨S4128x1024, .f32⟩
  | .hbm, ⟨35, _⟩ => ⟨S4128x1024, .f32⟩
  | .hbm, ⟨36, _⟩ => ⟨S4128x1024, .f32⟩
  | .hbm, ⟨37, _⟩ => ⟨S4128x1024, .f32⟩
  | .hbm, ⟨38, _⟩ => ⟨S4128x1024, .f32⟩
  | .hbm, ⟨39, _⟩ => ⟨S4128x1024, .f32⟩
  | .hbm, ⟨40, _⟩ => ⟨S4128x1024, .f32⟩
  | .hbm, ⟨41, _⟩ => ⟨S4128x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4128x1024, .f32⟩
  | .hbm, ⟨46, _⟩ => ⟨S4128x1024, .f32⟩
  | .hbm, ⟨47, _⟩ => ⟨S4128x1024, .f32⟩
  | .hbm, ⟨48, _⟩ => ⟨S4128x1024, .f32⟩
  | .hbm, ⟨49, _⟩ => ⟨S4128x1024, .bf16⟩
  | .hbm, ⟨50, _⟩ => ⟨S4128x1024, .bf16⟩
  | .hbm, ⟨51, _⟩ => ⟨S4128x1024, .bf16⟩
  | .hbm, ⟨52, _⟩ => ⟨S4128x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel15.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference15Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x512x1024 : Shape := ⟨3, ![8, 512, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x1024x512 : Shape := ⟨3, ![8, 1024, 512]⟩
abbrev S1024x512 : Shape := ⟨2, ![1024, 512]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x128x512, .bf16⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x898x1024 : Shape := ⟨3, ![8, 898, 1024]⟩
abbrev S898x1024 : Shape := ⟨2, ![898, 1024]⟩
abbrev S8x898x256 : Shape := ⟨3, ![8, 898, 256]⟩
abbrev S898x256 : Shape := ⟨2, ![898, 256]⟩
abbrev S1x898x256 : Shape := ⟨3, ![1, 898, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x898x1024, .bf16⟩
  | .hbm, ⟨1, _⟩ => ⟨S898x1024, .f32⟩
  | .hbm, ⟨2, _⟩ => ⟨S898x1024, .f32⟩
  | .hbm, ⟨3, _⟩ => ⟨S898x1024, .f32⟩
  | .hbm, ⟨4, _⟩ => ⟨S898x1024, .f32⟩
  | .hbm, ⟨5, _⟩ => ⟨S898x1024, .f32⟩
  | .hbm, ⟨6, _⟩ => ⟨S898x1024, .f32⟩
  | .hbm, ⟨7, _⟩ => ⟨S898x1024, .f32⟩
  | .local _ .vmem, ⟨0, _⟩ => ⟨S8x898x256, .bf16⟩
  | .local _ .vmem, ⟨1, _⟩ => ⟨S8x898x256, .bf16⟩
  | .local _ .vmem, ⟨2, _⟩ => ⟨S898x256, .f32⟩
  | .local _ .vmem, ⟨3, _⟩ => ⟨S898x256, .f32⟩
  | .local _ .vmem, ⟨4, _⟩ => ⟨S898x256, .f32⟩
  | .local _ .vmem, ⟨5, _⟩ => ⟨S898x256, .f32⟩
  | .local _ .vmem, ⟨6, _⟩ => ⟨S898x256, .f32⟩
  | .local _ .vmem, ⟨7, _⟩ => ⟨S898x256, .f32⟩
  | .local _ .vmem, ⟨8, _⟩ => ⟨S898x256, .f32⟩
  | .local _ .vmem, ⟨9, _⟩ => ⟨S898x256, .f32⟩
  | .local _ .vmem, ⟨10, _⟩ => ⟨S898x256, .f32⟩
  | .local _ .vmem, ⟨11, _⟩ => ⟨S898x256, .f32⟩
  | .local _ .vmem, ⟨12, _⟩ => ⟨S898x256, .f32⟩
  | .local _ .vmem, ⟨13, _⟩ => ⟨S898x256, .f32⟩
  | .local _ .vmem, ⟨14, _⟩ => ⟨S898x256, .f32⟩
  | .local _ .vmem, ⟨15, _⟩ => ⟨S898x256, .f32⟩
  | _, _ => ⟨S8x898x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x898x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S898x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S898x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S898x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S898x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S898x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S898x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S898x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S8x898x1024 : Shape := ⟨3, ![8, 898, 1024]⟩
abbrev S898x1024 : Shape := ⟨2, ![898, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x898x1024, .bf16⟩
  | .hbm, ⟨1, _⟩ => ⟨S898x1024, .f32⟩
  | .hbm, ⟨2, _⟩ => ⟨S898x1024, .f32⟩
  | .hbm, ⟨3, _⟩ => ⟨S898x1024, .f32⟩
  | .hbm, ⟨4, _⟩ => ⟨S8x898x1024, .f32⟩
  | .hbm, ⟨5, _⟩ => ⟨S_, .f32⟩
  | .hbm, ⟨6, _⟩ => ⟨S898x1024, .f32⟩
  | .hbm, ⟨7, _⟩ => ⟨S_, .f32⟩
  | .hbm, ⟨8, _⟩ => ⟨S898x1024, .f32⟩
  | .hbm, ⟨9, _⟩ => ⟨S898x1024, .f32⟩
  | .hbm, ⟨10, _⟩ => ⟨S_, .f32⟩
  | .hbm, ⟨11, _⟩ => ⟨S898x1024, .f32⟩
  | .hbm, ⟨12, _⟩ => ⟨S898x1024, .f32⟩
  | .hbm, ⟨13, _⟩ => ⟨S898x1024, .f32⟩
  | .hbm, ⟨14, _⟩ => ⟨S_, .f32⟩
  | .hbm, ⟨15, _⟩ => ⟨S898x1024, .f32⟩
  | .hbm, ⟨16, _⟩ => ⟨S898x1024, .f32⟩
  | .hbm, ⟨17, _⟩ => ⟨S898x1024, .f32⟩
  | .hbm, ⟨18, _⟩ => ⟨S_, .f32⟩
  | .hbm, ⟨19, _⟩ => ⟨S898x1024, .f32⟩
  | .hbm, ⟨20, _⟩ => ⟨S898x1024, .f32⟩
  | .hbm, ⟨21, _⟩ => ⟨S898x1024, .f32⟩
  | .hbm, ⟨22, _⟩ => ⟨S_, .f32⟩
  | .hbm, ⟨23, _⟩ => ⟨S898x1024, .f32⟩
  | .hbm, ⟨24, _⟩ => ⟨S898x1024, .f32⟩
  | .hbm, ⟨25, _⟩ => ⟨S_, .f32⟩
  | .hbm, ⟨26, _⟩ => ⟨S898x1024, .f32⟩
  | .hbm, ⟨27, _⟩ => ⟨S898x1024, .f32⟩
  | .hbm, ⟨28, _⟩ => ⟨S898x1024, .f32⟩
  | .hbm, ⟨29, _⟩ => ⟨S_, .f32⟩
  | .hbm, ⟨30, _⟩ => ⟨S898x1024, .f32⟩
  | .hbm, ⟨31, _⟩ => ⟨S898x1024, .f32⟩
  | .hbm, ⟨32, _⟩ => ⟨S898x1024, .f32⟩
  | .hbm, ⟨33, _⟩ => ⟨S_, .f32⟩
  | .hbm, ⟨34, _⟩ => ⟨S898x1024, .f32⟩
  | .hbm, ⟨35, _⟩ => ⟨S898x1024, .f32⟩
  | .hbm, ⟨36, _⟩ => ⟨S898x1024, .f32⟩
  | .hbm, ⟨37, _⟩ => ⟨S_, .f32⟩
  | .hbm, ⟨38, _⟩ => ⟨S898x1024, .f32⟩
  | .hbm, ⟨39, _⟩ => ⟨S898x1024, .f32⟩
  | _, _ => ⟨S8x898x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S8x16x128 : Shape := ⟨3, ![8, 16, 128]⟩
abbrev S16x128 : Shape := ⟨2, ![16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S8x31x128 : Shape := ⟨3, ![8, 31, 128]⟩
abbrev S31x128 : Shape := ⟨2, ![31, 128]⟩
abbrev S1x31x128 : Shape := ⟨3, ![1, 31, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .hbm, ⟨7, _⟩ => ⟨S31x128, .f32⟩
  | .local _ .vmem, ⟨0, _⟩ => ⟨S8x31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | .local _ .vmem, ⟨7, _⟩ => ⟨S31x128, .f32⟩
  | _, _ => ⟨S8x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference20Ideal.lean ====
abbrev S8x31x128 : Shape := ⟨3, ![8, 31, 128]⟩
abbrev S31x128 : Shape := ⟨2, ![31, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S_, .f32⟩
  | .hbm, ⟨7, _⟩ => ⟨S31x128, .f32⟩
  | .hbm, ⟨8, _⟩ => ⟨S31x128, .f32⟩
  | .hbm, ⟨9, _⟩ => ⟨S_, .f32⟩
  | .hbm, ⟨10, _⟩ => ⟨S31x128, .f32⟩
  | .hbm, ⟨11, _⟩ => ⟨S31x128, .f32⟩
  | .hbm, ⟨12, _⟩ => ⟨S31x128, .f32⟩
  | .hbm, ⟨13, _⟩ => ⟨S_, .f32⟩
  | .hbm, ⟨14, _⟩ => ⟨S31x128, .f32⟩
  | .hbm, ⟨15, _⟩ => ⟨S31x128, .f32⟩
  | .hbm, ⟨16, _⟩ => ⟨S31x128, .f32⟩
  | .hbm, ⟨17, _⟩ => ⟨S_, .f32⟩
  | .hbm, ⟨18, _⟩ => ⟨S31x128, .f32⟩
  | .hbm, ⟨19, _⟩ => ⟨S31x128, .f32⟩
  | .hbm, ⟨20, _⟩ => ⟨S31x128, .f32⟩
  | .hbm, ⟨21, _⟩ => ⟨S_, .f32⟩
  | .hbm, ⟨22, _⟩ => ⟨S31x128, .f32⟩
  | .hbm, ⟨23, _⟩ => ⟨S31x128, .f32⟩
  | .hbm, ⟨24, _⟩ => ⟨S_, .f32⟩
  | .hbm, ⟨25, _⟩ => ⟨S31x128, .f32⟩
  | .hbm, ⟨26, _⟩ => ⟨S31x128, .f32⟩
  | .hbm, ⟨27, _⟩ => ⟨S31x128, .f32⟩
  | .hbm, ⟨28, _⟩ => ⟨S_, .f32⟩
  | .hbm, ⟨29, _⟩ => ⟨S31x128, .f32⟩
  | .hbm, ⟨30, _⟩ => ⟨S31x128, .f32⟩
  | .hbm, ⟨31, _⟩ => ⟨S31x128, .f32⟩
  | .hbm, ⟨32, _⟩ => ⟨S_, .f32⟩
  | .hbm, ⟨33, _⟩ => ⟨S31x128, .f32⟩
  | .hbm, ⟨34, _⟩ => ⟨S31x128, .f32⟩
  | .hbm, ⟨35, _⟩ => ⟨S31x128, .f32⟩
  | .hbm, ⟨36, _⟩ => ⟨S_, .f32⟩
  | .hbm, ⟨37, _⟩ => ⟨S31x128, .f32⟩
  | .hbm, ⟨38, _⟩ => ⟨S31x128, .f32⟩
  | _, _ => ⟨S8x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x1x9344 : Shape := ⟨3, ![8, 1, 9344]⟩
abbrev S1x9344 : Shape := ⟨2, ![1, 9344]⟩
abbrev S1x1x9344 : Shape := ⟨3, ![1, 1, 9344]⟩

abbrev nBuf : Space → Nat
  | .hbm => 8
  | .vmem => 8
  | .smem => 0
  | _ => 0

abbrev bufTy : (tb : Table) → Fin (tcTables nBuf tb) → BufTy
  | .hbm, ⟨0, _⟩ => ⟨S8x1x9344, .f32⟩
  | .hbm, ⟨1, _⟩ => ⟨S1x9344, .f32⟩
  | .hbm, ⟨2, _⟩ => ⟨S1x9344, .f32⟩
  | .hbm, ⟨3, _⟩ => ⟨S1x9344, .f32⟩
  | .hbm, ⟨4, _⟩ => ⟨S1x9344, .f32⟩
  | .hbm, ⟨5, _⟩ => ⟨S1x9344, .f32⟩
  | .hbm, ⟨6, _⟩ => ⟨S1x9344, .f32⟩
  | .hbm, ⟨7, _⟩ => ⟨S1x9344, .f32⟩
  | .local _ .vmem, ⟨0, _⟩ => ⟨S8x1x9344, .f32⟩
  | .local _ .vmem, ⟨1, _⟩ => ⟨S1x9344, .f32⟩
  | .local _ .vmem, ⟨2, _⟩ => ⟨S1x9344, .f32⟩
  | .local _ .vmem, ⟨3, _⟩ => ⟨S1x9344, .f32⟩
  | .local _ .vmem, ⟨4, _⟩ => ⟨S1x9344, .f32⟩
  | .local _ .vmem, ⟨5, _⟩ => ⟨S1x9344, .f32⟩
  | .local _ .vmem, ⟨6, _⟩ => ⟨S1x9344, .f32⟩
  | .local _ .vmem, ⟨7, _⟩ => ⟨S1x9344, .f32⟩
  | _, _ => ⟨S8x1x9344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x1x9344 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x9344 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x9344 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x9344 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x9344 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x9344 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x9344 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x9344 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference21Ideal.lean ====
abbrev S8x1x9344 : Shape := ⟨3, ![8, 1, 9344]⟩
abbrev S1x9344 : Shape := ⟨2, ![1, 9344]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x9344, .f32⟩
  | .hbm, ⟨1, _⟩ => ⟨S1x9344, .f32⟩
  | .hbm, ⟨2, _⟩ => ⟨S1x9344, .f32⟩
  | .hbm, ⟨3, _⟩ => ⟨S1x9344, .f32⟩
  | .hbm, ⟨4, _⟩ => ⟨S_, .f32⟩
  | .hbm, ⟨5, _⟩ => ⟨S1x9344, .f32⟩
  | .hbm, ⟨6, _⟩ => ⟨S_, .f32⟩
  | .hbm, ⟨7, _⟩ => ⟨S1x9344, .f32⟩
  | .hbm, ⟨8, _⟩ => ⟨S1x9344, .f32⟩
  | .hbm, ⟨9, _⟩ => ⟨S_, .f32⟩
  | .hbm, ⟨10, _⟩ => ⟨S1x9344, .f32⟩
  | .hbm, ⟨11, _⟩ => ⟨S1x9344, .f32⟩
  | .hbm, ⟨12, _⟩ => ⟨S1x9344, .f32⟩
  | .hbm, ⟨13, _⟩ => ⟨S_, .f32⟩
  | .hbm, ⟨14, _⟩ => ⟨S1x9344, .f32⟩
  | .hbm, ⟨15, _⟩ => ⟨S1x9344, .f32⟩
  | .hbm, ⟨16, _⟩ => ⟨S1x9344, .f32⟩
  | .hbm, ⟨17, _⟩ => ⟨S_, .f32⟩
  | .hbm, ⟨18, _⟩ => ⟨S1x9344, .f32⟩
  | .hbm, ⟨19, _⟩ => ⟨S1x9344, .f32⟩
  | .hbm, ⟨20, _⟩ => ⟨S1x9344, .f32⟩
  | .hbm, ⟨21, _⟩ => ⟨S_, .f32⟩
  | .hbm, ⟨22, _⟩ => ⟨S1x9344, .f32⟩
  | .hbm, ⟨23, _⟩ => ⟨S1x9344, .f32⟩
  | .hbm, ⟨24, _⟩ => ⟨S_, .f32⟩
  | .hbm, ⟨25, _⟩ => ⟨S1x9344, .f32⟩
  | .hbm, ⟨26, _⟩ => ⟨S1x9344, .f32⟩
  | .hbm, ⟨27, _⟩ => ⟨S1x9344, .f32⟩
  | .hbm, ⟨28, _⟩ => ⟨S_, .f32⟩
  | .hbm, ⟨29, _⟩ => ⟨S1x9344, .f32⟩
  | .hbm, ⟨30, _⟩ => ⟨S1x9344, .f32⟩
  | .hbm, ⟨31, _⟩ => ⟨S1x9344, .f32⟩
  | .hbm, ⟨32, _⟩ => ⟨S_, .f32⟩
  | .hbm, ⟨33, _⟩ => ⟨S1x9344, .f32⟩
  | .hbm, ⟨34, _⟩ => ⟨S1x9344, .f32⟩
  | .hbm, ⟨35, _⟩ => ⟨S1x9344, .f32⟩
  | .hbm, ⟨36, _⟩ => ⟨S_, .f32⟩
  | .hbm, ⟨37, _⟩ => ⟨S1x9344, .f32⟩
  | .hbm, ⟨38, _⟩ => ⟨S1x9344, .f32⟩
  | _, _ => ⟨S8x1x9344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S4128x1024 : Shape := ⟨2, ![4128, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4128x1024, .bf16⟩
  | .hbm, ⟨1, _⟩ => ⟨S4128x1024, .f32⟩
  | .hbm, ⟨2, _⟩ => ⟨S1x1024, .f32⟩
  | .hbm, ⟨3, _⟩ => ⟨S4128x1024, .bf16⟩
  | .hbm, ⟨4, _⟩ => ⟨S4128x1024, .bf16⟩
  | .hbm, ⟨5, _⟩ => ⟨S1x1024, .f32⟩
  | .local _ .vmem, ⟨0, _⟩ => ⟨S688x1024, .bf16⟩
  | .local _ .vmem, ⟨1, _⟩ => ⟨S688x1024, .bf16⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x1024, .bf16⟩
  | .local _ .vmem, ⟨9, _⟩ => ⟨S1x1024, .f32⟩
  | _, _ => ⟨S4128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference22Ideal.lean ====
abbrev S4128x1024 : Shape := ⟨2, ![4128, 1024]⟩
abbrev S1x1024 : Shape := ⟨2, ![1, 1024]⟩
abbrev S_ : Shape := ⟨0, ![]⟩
abbrev S4128 : Shape := ⟨1, ![4128]⟩
abbrev S4128x1 : Shape := ⟨2, ![4128, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4128x1024, .bf16⟩
  | .hbm, ⟨1, _⟩ => ⟨S4128x1024, .f32⟩
  | .hbm, ⟨2, _⟩ => ⟨S1x1024, .f32⟩
  | .hbm, ⟨3, _⟩ => ⟨S4128x1024, .bf16⟩
  | .hbm, ⟨4, _⟩ => ⟨S4128x1024, .f32⟩
  | .hbm, ⟨5, _⟩ => ⟨S_, .f32⟩
  | .hbm, ⟨6, _⟩ => ⟨S4128, .f32⟩
  | .hbm, ⟨7, _⟩ => ⟨S4128x1, .f32⟩
  | .hbm, ⟨8, _⟩ => ⟨S_, .f32⟩
  | .hbm, ⟨9, _⟩ => ⟨S4128x1, .f32⟩
  | .hbm, ⟨10, _⟩ => ⟨S4128x1, .f32⟩
  | .hbm, ⟨11, _⟩ => ⟨S_, .f32⟩
  | .hbm, ⟨12, _⟩ => ⟨S4128x1, .f32⟩
  | .hbm, ⟨13, _⟩ => ⟨S4128x1, .f32⟩
  | .hbm, ⟨14, _⟩ => ⟨S4128x1, .f32⟩
  | .hbm, ⟨15, _⟩ => ⟨S4128x1, .f32⟩
  | .hbm, ⟨16, _⟩ => ⟨S_, .f32⟩
  | .hbm, ⟨17, _⟩ => ⟨S4128x1, .f32⟩
  | .hbm, ⟨18, _⟩ => ⟨S4128x1, .f32⟩
  | .hbm, ⟨19, _⟩ => ⟨S4128x1024, .f32⟩
  | .hbm, ⟨20, _⟩ => ⟨S4128x1024, .f32⟩
  | .hbm, ⟨21, _⟩ => ⟨S4128x1024, .f32⟩
  | .hbm, ⟨22, _⟩ => ⟨S4128x1024, .f32⟩
  | .hbm, ⟨23, _⟩ => ⟨S4128x1024, .f32⟩
  | .hbm, ⟨24, _⟩ => ⟨S4128x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4128x1024, .f32⟩
  | .hbm, ⟨29, _⟩ => ⟨S4128x1024, .f32⟩
  | .hbm, ⟨30, _⟩ => ⟨S4128x1024, .f32⟩
  | .hbm, ⟨31, _⟩ => ⟨S_, .f32⟩
  | .hbm, ⟨32, _⟩ => ⟨S4128, .f32⟩
  | .hbm, ⟨33, _⟩ => ⟨S4128x1, .f32⟩
  | .hbm, ⟨34, _⟩ => ⟨S4128x1024, .f32⟩
  | .hbm, ⟨35, _⟩ => ⟨S4128x1024, .f32⟩
  | .hbm, ⟨36, _⟩ => ⟨S4128x1, .f32⟩
  | .hbm, ⟨37, _⟩ => ⟨S_, .f32⟩
  | .hbm, ⟨38, _⟩ => ⟨S4128x1, .f32⟩
  | .hbm, ⟨39, _⟩ => ⟨S4128x1, .f32⟩
  | .hbm, ⟨40, _⟩ => ⟨S_, .f32⟩
  | .hbm, ⟨41, _⟩ => ⟨S4128, .f32⟩
  | .hbm, ⟨42, _⟩ => ⟨S4128x1024, .f32⟩
  | .hbm, ⟨43, _⟩ => ⟨S4128x1024, .f32⟩
  | .hbm, ⟨44, _⟩ => ⟨S4128x1024, .f32⟩
  | .hbm, ⟨45, _⟩ => ⟨S4128x1024, .f32⟩
  | .hbm, ⟨46, _⟩ => ⟨S4128x1024, .f32⟩
  | .hbm, ⟨47, _⟩ => ⟨S4128x1024, .f32⟩
  | .hbm, ⟨48, _⟩ => ⟨S4128x1024, .f32⟩
  | .hbm, ⟨49, _⟩ => ⟨S4128x1024, .bf16⟩
  | _, _ => ⟨S4128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel23.lean ====
abbrev S4128x1024 : Shape := ⟨2, ![4128, 1024]⟩
abbrev S1x1024 : Shape := ⟨2, ![1, 1024]⟩
abbrev S8x128 : Shape := ⟨2, ![8, 128]⟩
abbrev S688x1024 : Shape := ⟨2, ![688, 1024]⟩
abbrev S688 : Shape := ⟨1, ![688]⟩
abbrev S688x1 : Shape := ⟨2, ![688, 1]⟩
abbrev S1x688x1024 : Shape := ⟨3, ![1, 688, 1024]⟩
abbrev S1 : Shape := ⟨1, ![1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4128x1024, .f32⟩
  | .hbm, ⟨1, _⟩ => ⟨S4128x1024, .bf16⟩
  | .hbm, ⟨2, _⟩ => ⟨S4128x1024, .f32⟩
  | .hbm, ⟨3, _⟩ => ⟨S1x1024, .f32⟩
  | .hbm, ⟨4, _⟩ => ⟨S4128x1024, .bf16⟩
  | .hbm, ⟨5, _⟩ => ⟨S8x128, .f32⟩
  | .hbm, ⟨6, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .bf16⟩
  | .local _ .vmem, ⟨3, _⟩ => ⟨S688x1024, .bf16⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S688x1024, .bf16⟩
  | .local _ .vmem, ⟨8, _⟩ => ⟨S688x1024, .bf16⟩
  | .local _ .vmem, ⟨9, _⟩ => ⟨S8x128, .f32⟩
  | .local _ .vmem, ⟨10, _⟩ => ⟨S1x1024, .f32⟩
  | _, _ => ⟨S4128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference23Ideal.lean ====
abbrev S4128x1024 : Shape := ⟨2, ![4128, 1024]⟩
abbrev S1x1024 : Shape := ⟨2, ![1, 1024]⟩
abbrev S_ : Shape := ⟨0, ![]⟩
abbrev S4128 : Shape := ⟨1, ![4128]⟩
abbrev S4128x1 : Shape := ⟨2, ![4128, 1]⟩
abbrev S2x2064x1024 : Shape := ⟨3, ![2, 2064, 1024]⟩
abbrev S2x2048x1024 : Shape := ⟨3, ![2, 2048, 1024]⟩
abbrev S2x2048 : Shape := ⟨2, ![2, 2048]⟩
abbrev S1024 : Shape := ⟨1, ![1024]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S4128x1024, .f32⟩
  | .hbm, ⟨1, _⟩ => ⟨S4128x1024, .bf16⟩
  | .hbm, ⟨2, _⟩ => ⟨S4128x1024, .f32⟩
  | .hbm, ⟨3, _⟩ => ⟨S1x1024, .f32⟩
  | .hbm, ⟨4, _⟩ => ⟨S4128x1024, .f32⟩
  | .hbm, ⟨5, _⟩ => ⟨S4128x1024, .f32⟩
  | .hbm, ⟨6, _⟩ => ⟨S4128x1024, .f32⟩
  | .hbm, ⟨7, _⟩ => ⟨S_, .f32⟩
  | .hbm, ⟨8, _⟩ => ⟨S4128, .f32⟩
  | .hbm, ⟨9, _⟩ => ⟨S4128x1, .f32⟩
  | .hbm, ⟨10, _⟩ => ⟨S_, .f32⟩
  | .hbm, ⟨11, _⟩ => ⟨S4128x1, .f32⟩
  | .hbm, ⟨12, _⟩ => ⟨S4128x1, .f32⟩
  | .hbm, ⟨13, _⟩ => ⟨S_, .f32⟩
  | .hbm, ⟨14, _⟩ => ⟨S4128x1, .f32⟩
  | .hbm, ⟨15, _⟩ => ⟨S4128x1, .f32⟩
  | .hbm, ⟨16, _⟩ => ⟨S4128x1, .f32⟩
  | .hbm, ⟨17, _⟩ => ⟨S4128x1, .f32⟩
  | .hbm, ⟨18, _⟩ => ⟨S_, .f32⟩
  | .hbm, ⟨19, _⟩ => ⟨S4128x1, .f32⟩
  | .hbm, ⟨20, _⟩ => ⟨S4128x1, .f32⟩
  | .hbm, ⟨21, _⟩ => ⟨S4128x1024, .f32⟩
  | .hbm, ⟨22, _⟩ => ⟨S4128x1024, .f32⟩
  | .hbm, ⟨23, _⟩ => ⟨S4128x1024, .f32⟩
  | .hbm, ⟨24, _⟩ => ⟨S4128x1024, .f32⟩
  | .hbm, ⟨25, _⟩ => ⟨S2x2064x1024, .f32⟩
  | .hbm, ⟨26, _⟩ => ⟨S2x2048x1024, .f32⟩
  | .hbm, ⟨27, _⟩ => ⟨S2x2064x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048, .f32⟩
  | .hbm, ⟨36, _⟩ => ⟨S_, .f32⟩
  | .hbm, ⟨37, _⟩ => ⟨S2x2048, .f32⟩
  | .hbm, ⟨38, _⟩ => ⟨S2x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2x2048, .f32⟩
  | .hbm, ⟨47, _⟩ => ⟨S_, .f32⟩
  | .hbm, ⟨48, _⟩ => ⟨S2x2048, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x2064x1024, .f32⟩
  | .hbm, ⟨54, _⟩ => ⟨S4128x1024, .f32⟩
  | .hbm, ⟨55, _⟩ => ⟨S4128x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4128x1024, .f32⟩
  | .hbm, ⟨60, _⟩ => ⟨S4128x1024, .f32⟩
  | .hbm, ⟨61, _⟩ => ⟨S4128x1024, .f32⟩
  | .hbm, ⟨62, _⟩ => ⟨S_, .f32⟩
  | .hbm, ⟨63, _⟩ => ⟨S4128, .f32⟩
  | .hbm, ⟨64, _⟩ => ⟨S4128x1, .f32⟩
  | .hbm, ⟨65, _⟩ => ⟨S4128x1024, .f32⟩
  | .hbm, ⟨66, _⟩ => ⟨S4128x1024, .f32⟩
  | .hbm, ⟨67, _⟩ => ⟨S4128x1, .f32⟩
  | .hbm, ⟨68, _⟩ => ⟨S_, .f32⟩
  | .hbm, ⟨69, _⟩ => ⟨S4128x1, .f32⟩
  | .hbm, ⟨70, _⟩ => ⟨S4128x1, .f32⟩
  | .hbm, ⟨71, _⟩ => ⟨S_, .f32⟩
  | .hbm, ⟨72, _⟩ => ⟨S4128, .f32⟩
  | .hbm, ⟨73, _⟩ => ⟨S4128x1024, .f32⟩
  | .hbm, ⟨74, _⟩ => ⟨S4128x1024, .f32⟩
  | .hbm, ⟨75, _⟩ => ⟨S4128x1024, .f32⟩
  | .hbm, ⟨76, _⟩ => ⟨S4128x1024, .f32⟩
  | .hbm, ⟨77, _⟩ => ⟨S4128x1024, .f32⟩
  | .hbm, ⟨78, _⟩ => ⟨S4128x1024, .bf16⟩
  | .hbm, ⟨79, _⟩ => ⟨S8x128, .f32⟩
  | _, _ => ⟨S4128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_14 : Ref sig .tc := ⟨.hbm, 68, rfl⟩
abbrev main_v49 : Ref sig .tc := ⟨.hbm, 69, rfl⟩
abbrev main_v50 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proof.RealBlock.lean ====
/- Blocks whose entries are real numbers. `R2 x f` says that the two-axis block `x` of extended reals reads the
   real number `f i j` at row `i` and column `j`, and `R1`, `R3` and `R5` say the same of blocks with one axis or with
   leading axes of extent one. Each theorem takes such a reading through one operation of the kernel's body, so that a
   chain of operations is read without ever meeting an infinite entry. -/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.PureOps.Ideal.Laws

@[expose] public section

noncomputable section

namespace Cert.RealBlock

open Idealize.ShloMosaic Idealize.ShloMosaic.ValueIdx
open scoped BigOperators

/-- The row-by-column block `x` holds the real numbers `f`. -/
def R2 {M N : ℕ} (x : (⟨2, ![M, N]⟩ : Shape).Idx → EReal) (f : ℕ → ℕ → ℝ) : Prop :=
  ∀ (i : Fin M) (j : Fin N), x (ix2 i j) = ((f i.val j.val : ℝ) : EReal)

/-- The one-slab block `x` holds the real numbers `f`. -/
def R3 {M N : ℕ} (x : (⟨3, ![1, M, N]⟩ : Shape).Idx → EReal) (f : ℕ → ℕ → ℝ) : Prop :=
  ∀ (u : Fin 1) (i : Fin M) (j : Fin N), x (ix3 u i j) = ((f i.val j.val : ℝ) : EReal)

/-- The one-row block `x`, under four axes of extent one, holds the real numbers `f`. -/
def R5 {N : ℕ} (x : (⟨5, ![1, 1, 1, 1, N]⟩ : Shape).Idx → EReal) (f : ℕ → ℝ) : Prop :=
  ∀ (a b c d : Fin 1) (j : Fin N), x (ix5 a b c d j) = ((f j.val : ℝ) : EReal)

/-- A real sum, seen among the extended reals, is the sum of its terms seen there. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

variable {M N K : ℕ} {φ ψ : FTy}

/-- A reading may be changed where the block has no entry. -/
theorem R2.congr {x : (⟨2, ![M, N]⟩ : Shape).Idx → EReal} {f g : ℕ → ℕ → ℝ} (hx : R2 x f)
    (h : ∀ i j, i < M → j < N → f i j = g i j) : R2 x g :=
  fun i j => (hx i j).trans (by rw [h i j i.isLt j.isLt])

/-- A reading of a one-slab block may be changed where the block has no entry. -/
theorem R3.congr {x : (⟨3, ![1, M, N]⟩ : Shape).Idx → EReal} {f g : ℕ → ℕ → ℝ} (hx : R3 x f)
    (h : ∀ i j, i < M → j < N → f i j = g i j) : R3 x g :=
  fun u i j => (hx u i j).trans (by rw [h i j i.isLt j.isLt])

/-- A one-row reading may be changed where the row has no entry. -/
theorem R5.congr {x : (⟨5, ![1, 1, 1, 1, N]⟩ : Shape).Idx → EReal} {f g : ℕ → ℝ} (hx : R5 x f)
    (h : ∀ j, j < N → f j = g j) : R5 x g :=
  fun a b c d j => (hx a b c d j).trans (by rw [h j j.isLt])

/-- A splat of a real number holds it everywhere. -/
theorem R2.splat {c : EReal} {r : ℝ} (h : c = (r : EReal)) : R2 (broadcast (⟨2, ![M, N]⟩ : Shape) c) fun _ _ => r :=
  fun _ _ => h

/-- The product of two real blocks, entry by entry. -/
theorem R2.mulf {x y : FVec Ideal ⟨2, ![M, N]⟩ φ} {f g : ℕ → ℕ → ℝ} (hx : R2 x f) (hy : R2 y g) :
    R2 (Idealize.ShloMosaic.mulf x y) fun i j => f i j * g i j := fun i j => by
  rw [mulf_apply, hx, hy, EReal.coe_mul]

/-- The sum of two real blocks, entry by entry. -/
theorem R2.addf {x y : FVec Ideal ⟨2, ![M, N]⟩ φ} {f g : ℕ → ℕ → ℝ} (hx : R2 x f) (hy : R2 y g) :
    R2 (Idealize.ShloMosaic.addf x y) fun i j => f i j + g i j := fun i j => by
  rw [addf_apply, hx, hy, EReal.coe_add]

/-- The difference of two real blocks, entry by entry. -/
theorem R2.subf {x y : FVec Ideal ⟨2, ![M, N]⟩ φ} {f g : ℕ → ℕ → ℝ} (hx : R2 x f) (hy : R2 y g) :
    R2 (Idealize.ShloMosaic.subf x y) fun i j => f i j - g i j := fun i j => by
  rw [subf_apply, hx, hy, EReal.coe_sub]

/-- Rounding to a narrower format keeps the numbers. -/
theorem R2.truncf {x : FVec Ideal ⟨2, ![M, N]⟩ φ} {f : ℕ → ℕ → ℝ} (hx : R2 x f) (h : ψ.bits < φ.bits) :
    R2 (Idealize.ShloMosaic.truncf ψ x h) f := hx

/-- Widening to a wider format keeps the numbers. -/
theorem R2.extf {x : FVec Ideal ⟨2, ![M, N]⟩ φ} {f : ℕ → ℕ → ℝ} (hx : R2 x f) (h : φ.bits < ψ.bits) :
    R2 (Idealize.ShloMosaic.extf ψ x h) f := hx

/-- Two to the power of a real block, entry by entry. -/
theorem R2.exp2 {x : FVec Ideal ⟨2, ![M, N]⟩ φ} {f : ℕ → ℕ → ℝ} (hx : R2 x f) :
    R2 (Idealize.ShloMosaic.exp2 x) fun i j => (2 : ℝ) ^ f i j := fun i j =>
  (congrArg Ideal.exp2 (hx i j)).trans rfl

/-- A cast to the same shape changes nothing. -/
theorem R2.castSelf {x : (⟨2, ![M, N]⟩ : Shape).Idx → EReal} {f : ℕ → ℕ → ℝ} (hx : R2 x f)
    (h : (⟨2, ![M, N]⟩ : Shape).ShapeCasts ⟨2, ![M, N]⟩) : R2 (shapeCast ⟨2, ![M, N]⟩ x h) f := fun i j => by
  rw [← hx i j]; exact congrArg x (Shape.reshapeEquiv_self _ _)

/-- A choice by a mask that depends on the place alone. -/
theorem R2.select {c : IVec ⟨2, ![M, N]⟩ 1} {x y : (⟨2, ![M, N]⟩ : Shape).Idx → EReal} {f g : ℕ → ℕ → ℝ}
    (p : ℕ → ℕ → Prop) [∀ i j, Decidable (p i j)] (hc : ∀ (i : Fin M) (j : Fin N), c (ix2 i j) = 1 ↔ p i.val j.val)
    (hx : R2 x f) (hy : R2 y g) :
    R2 (Idealize.ShloMosaic.select c x y) fun i j => if p i j then f i j else g i j := fun i j => by
  show (if c (ix2 i j) = 1 then x (ix2 i j) else y (ix2 i j)) = ((if p i.val j.val then f i.val j.val else g i.val j.val : ℝ) : EReal)
  by_cases h : p i.val j.val
  · rw [if_pos ((hc i j).2 h), if_pos h, hx]
  · rw [if_neg (fun e => h ((hc i j).1 e)), if_neg h, hy]

/-- A sum over `Fin n` of numbers that depend on the value alone, as a sum over the naturals below `n`. -/
theorem sum_fin (n : ℕ) (f : ℕ → ℝ) : ∑ k : Fin n, f k.val = ∑ k ∈ Finset.range n, f k := Fin.sum_univ_eq_sum_range f n

/-- A product of two real blocks, the right one read by its rows, onto a real block. -/
theorem R2.matmulNT {x : FVec Ideal ⟨2, ![M, K]⟩ φ} {y : FVec Ideal ⟨2, ![N, K]⟩ ψ} {acc : FVec Ideal ⟨2, ![M, N]⟩ .f32}
    {f g h : ℕ → ℕ → ℝ} (hx : R2 x f) (hy : R2 y g) (ha : R2 acc h) :
    R2 (matmul (DotDims.transposedRhs M K N) none x y acc) fun i j => h i j + ∑ k ∈ Finset.range K, f i k * g j k :=
  fun i j => by
  refine (Ideal.matmul_transposedRhs_apply none x y acc i j).trans ?_
  rw [ha, EReal.coe_add, ← sum_fin, coe_sum]
  refine congrArg _ (Finset.sum_congr rfl fun k _ => ?_)
  rw [hx, hy, EReal.coe_mul]

/-- A plain product of two real blocks onto a real block. -/
theorem R2.matmulNN {x : FVec Ideal ⟨2, ![M, K]⟩ φ} {y : FVec Ideal ⟨2, ![K, N]⟩ ψ} {acc : FVec Ideal ⟨2, ![M, N]⟩ .f32}
    {f g h : ℕ → ℕ → ℝ} (hx : R2 x f) (hy : R2 y g) (ha : R2 acc h) :
    R2 (matmul (DotDims.plain M K N) none x y acc) fun i j => h i j + ∑ k ∈ Finset.range K, f i k * g k j :=
  fun i j => by
  refine (Ideal.matmul_plain_apply none x y acc i j).trans ?_
  rw [ha, EReal.coe_add, ← sum_fin, coe_sum]
  refine congrArg _ (Finset.sum_congr rfl fun k _ => ?_)
  rw [hx, hy, EReal.coe_mul]

/-- Dimension numbers of `K×M` by `K×N`, both operands contracted over their rows. -/
def dimsTN (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The contraction of `dimsTN` has one coordinate. -/
theorem dimsTN_rank (K M N : ℕ) : (dimsTN K M N).contr.rank = 1 := rfl
/-- That coordinate runs over the `K` rows. -/
theorem dimsTN_size (K M N : ℕ) : (dimsTN K M N).contr.size ⟨0, by rw [dimsTN_rank]; exact Nat.one_pos⟩ = K := rfl

/-- A product of two real blocks over their rows, onto a real block. -/
theorem R2.matmulTN {x : FVec Ideal ⟨2, ![K, M]⟩ φ} {y : FVec Ideal ⟨2, ![K, N]⟩ ψ} {acc : FVec Ideal ⟨2, ![M, N]⟩ .f32}
    {f g h : ℕ → ℕ → ℝ} (hx : R2 x f) (hy : R2 y g) (ha : R2 acc h) :
    R2 (matmul (dimsTN K M N) none x y acc) fun i j => h i j + ∑ k ∈ Finset.range K, f k i * g k j :=
  fun i j => by
  refine (Ideal.matmul_apply ..).trans ?_
  rw [ha, EReal.coe_add, ← sum_fin, coe_sum,
    ← Equiv.sum_comp (contrEquiv1 (dimsTN K M N) K (dimsTN_rank K M N) (dimsTN_size K M N)).symm]
  refine congrArg _ (Finset.sum_congr rfl fun k _ => ?_)
  have hk := contrEquiv1_symm_val _ K (dimsTN_rank K M N) (dimsTN_size K M N) k
  have el : (dimsTN K M N).lhsIdx (ix2 i j) ((contrEquiv1 _ K (dimsTN_rank K M N) (dimsTN_size K M N)).symm k) = ix2 k i := by
    funext a; apply Fin.ext
    match a with
    | ⟨0, _⟩ => exact hk
    | ⟨1, _⟩ => rfl
  have er : (dimsTN K M N).rhsIdx (ix2 i j) ((contrEquiv1 _ K (dimsTN_rank K M N) (dimsTN_size K M N)).symm k) = ix2 k j := by
    funext a; apply Fin.ext
    match a with
    | ⟨0, _⟩ => exact hk
    | ⟨1, _⟩ => rfl
  rw [el, er, hx, hy, EReal.coe_mul]

/-- The sums of a real block's rows, as a column. -/
theorem R2.rowSum {x : FVec Ideal ⟨2, ![M, N]⟩ φ} {f : ℕ → ℕ → ℝ} (hx : R2 x f) {b : BitVec φ.bits}
    (h : (⟨2, ![M, N]⟩ : Shape).Reduces [1] ⟨1, ![M]⟩) (hφ : FKind.Formats φ) (hb : b = FKind.add.neutral φ hφ)
    (h' : (⟨1, ![M]⟩ : Shape).ShapeCasts ⟨2, ![M, 1]⟩) :
    R2 (shapeCast ⟨2, ![M, 1]⟩ (multiReduction .add [1] ⟨1, ![M]⟩ x b h hφ hb) h') fun i _ => ∑ k ∈ Finset.range N, f i k :=
  fun i j => by
  rw [shapeCast_a_a1_apply, Ideal.multiReduction_add_single]
  show _ = ((∑ k ∈ Finset.range N, f i.val k : ℝ) : EReal)
  rw [← sum_fin, coe_sum]
  refine Finset.sum_congr rfl fun k _ => ?_
  rw [← hx i k]
  refine congrArg x ?_
  funext a; apply Fin.ext
  match a with
  | ⟨0, _⟩ => rfl
  | ⟨1, _⟩ => rfl

/-- The sums of a real block's columns, as a row. -/
theorem R2.colSum {x : FVec Ideal ⟨2, ![M, N]⟩ φ} {f : ℕ → ℕ → ℝ} (hx : R2 x f) {b : BitVec φ.bits}
    (h : (⟨2, ![M, N]⟩ : Shape).Reduces [0] ⟨1, ![N]⟩) (hφ : FKind.Formats φ) (hb : b = FKind.add.neutral φ hφ)
    (h' : (⟨1, ![N]⟩ : Shape).ShapeCasts ⟨2, ![1, N]⟩) :
    R2 (shapeCast ⟨2, ![1, N]⟩ (multiReduction .add [0] ⟨1, ![N]⟩ x b h hφ hb) h') fun _ j => ∑ k ∈ Finset.range M, f k j :=
  fun i j => by
  rw [shapeCast_a_1a_apply, Ideal.multiReduction_add_single]
  show _ = ((∑ k ∈ Finset.range M, f k j.val : ℝ) : EReal)
  rw [← sum_fin, coe_sum]
  refine Finset.sum_congr rfl fun k _ => ?_
  rw [← hx k j]
  refine congrArg x ?_
  funext a; apply Fin.ext
  match a with
  | ⟨0, _⟩ => rfl
  | ⟨1, _⟩ => rfl

/-- A row repeated down the rows. -/
theorem R2.rows {x : (⟨2, ![1, N]⟩ : Shape).Idx → EReal} {f : ℕ → ℕ → ℝ} (hx : R2 x f)
    (h : (⟨2, ![1, N]⟩ : Shape).Broadcasts ⟨2, ![M, N]⟩) : R2 (broadcastTo ⟨2, ![M, N]⟩ x h) fun _ j => f 0 j := fun i j => by
  rw [broadcastTo_1b_ab_apply, hx]; rfl

/-- A column repeated across the columns. -/
theorem R2.cols {x : (⟨2, ![M, 1]⟩ : Shape).Idx → EReal} {f : ℕ → ℕ → ℝ} (hx : R2 x f)
    (h : (⟨2, ![M, 1]⟩ : Shape).Broadcasts ⟨2, ![M, N]⟩) : R2 (broadcastTo ⟨2, ![M, N]⟩ x h) fun i _ => f i 0 := fun i j => by
  refine Eq.trans (congrArg x ?_) (hx i (0 : Fin 1))
  funext a; apply Fin.ext
  match a with
  | ⟨0, _⟩ =>
    show (dite _ _ _ : Fin _).val = _
    split
    · rename_i h1; have : M = 1 := h1; have := i.isLt; show 0 = i.val; omega
    · rfl
  | ⟨1, _⟩ => rfl

/-- The transpose of a real block. -/
theorem R2.transpose {x : (⟨2, ![M, N]⟩ : Shape).Idx → EReal} {f : ℕ → ℕ → ℝ} (hx : R2 x f)
    (h : (⟨2, ![M, N]⟩ : Shape).Transposes [1, 0] ⟨2, ![N, M]⟩) :
    R2 (Idealize.ShloMosaic.transpose ⟨2, ![N, M]⟩ [1, 0] x h) fun i j => f j i := fun i j => by
  rw [transpose_ix2_apply, hx]

/-- The first rows of a real block. -/
theorem R2.firstRows {x : (⟨2, ![M, N]⟩ : Shape).Idx → EReal} {f : ℕ → ℕ → ℝ} (hx : R2 x f)
    (h : (⟨2, ![M, N]⟩ : Shape).Slices ![0, 0] ⟨2, ![K, N]⟩) :
    R2 (extractStridedSlice ⟨2, ![K, N]⟩ ![0, 0] x h) f := fun i j => by
  have hK : 0 + K ≤ M := h.2 0
  have hi : i.val < M := by have := i.isLt; omega
  rw [← hx ⟨i.val, hi⟩ j]
  refine congrArg x ?_
  funext a; apply Fin.ext
  match a with
  | ⟨0, _⟩ => exact Nat.zero_add _
  | ⟨1, _⟩ => exact Nat.zero_add _

/-- A one-slab block as a block. -/
theorem R3.slab {x : (⟨3, ![1, M, N]⟩ : Shape).Idx → EReal} {f : ℕ → ℕ → ℝ} (hx : R3 x f)
    (h : (⟨3, ![1, M, N]⟩ : Shape).ShapeCasts ⟨2, ![M, N]⟩) : R2 (shapeCast ⟨2, ![M, N]⟩ x h) f := fun i j => by
  rw [shapeCast_1ab_ab_apply]; exact hx _ i j

/-- A block as a one-slab block. -/
theorem R2.slab {x : (⟨2, ![M, N]⟩ : Shape).Idx → EReal} {f : ℕ → ℕ → ℝ} (hx : R2 x f)
    (h : (⟨2, ![M, N]⟩ : Shape).ShapeCasts ⟨3, ![1, M, N]⟩) : R3 (shapeCast ⟨3, ![1, M, N]⟩ x h) f := fun u i j => by
  rw [Subsingleton.elim u 0, shapeCast_ab_1ab_apply]; exact hx i j

/-- A row under four axes of extent one, as a row. -/
theorem R5.row {x : (⟨5, ![1, 1, 1, 1, N]⟩ : Shape).Idx → EReal} {f : ℕ → ℝ} (hx : R5 x f)
    (h : (⟨5, ![1, 1, 1, 1, N]⟩ : Shape).ShapeCasts ⟨2, ![1, N]⟩) : R2 (shapeCast ⟨2, ![1, N]⟩ x h) fun _ j => f j := fun i j => by
  refine Eq.trans (congrArg x (Shape.reshapeEquiv_eq_of_rowMajor (y := ix5 0 0 0 0 j) _ ?_)) (hx 0 0 0 0 j)
  rw [Shape.rowMajor_val_five, Shape.rowMajor_val_two]
  have := i.isLt
  have h0 : i.val = 0 := by omega
  show (((0 * 1 + 0) * 1 + 0) * 1 + 0) * N + j.val = i.val * N + j.val
  simp [h0]

/-- A row, put under four axes of extent one. -/
theorem R2.row5 {x : (⟨2, ![1, N]⟩ : Shape).Idx → EReal} {f : ℕ → ℕ → ℝ} (hx : R2 x f)
    (h : (⟨2, ![1, N]⟩ : Shape).ShapeCasts ⟨5, ![1, 1, 1, 1, N]⟩) :
    R5 (shapeCast ⟨5, ![1, 1, 1, 1, N]⟩ x h) fun j => f 0 j := fun a b c d j => by
  refine Eq.trans (congrArg x (Shape.reshapeEquiv_eq_of_rowMajor (y := ix2 0 j) _ ?_)) (hx 0 j)
  rw [Shape.rowMajor_val_five, Shape.rowMajor_val_two]
  have h1 : a.val = 0 := by omega
  have h2 : b.val = 0 := by omega
  have h3 : c.val = 0 := by omega
  have h4 : d.val = 0 := by omega
  show 0 * N + j.val = (((a.val * 1 + b.val) * 1 + c.val) * 1 + d.val) * N + j.val
  simp [h1, h2, h3, h4]

end Cert.RealBlock
-- ==== Proof.Attention.lean ====
/- The mathematics of one attention head with forgetting, over the real numbers: the weights of the causal softmax, the
   gradient of its scores, and the forms in which the kernel computes them. Rows and columns are natural numbers; `n` is
   the number of positions and `w` the width of a head. -/
module

public import Mathlib.Analysis.SpecialFunctions.Pow.Real
public import Mathlib.Algebra.BigOperators.Field

@[expose] public section

noncomputable section

namespace Cert.Attention

open scoped BigOperators

/-- What one head reads: its queries, keys, values, the gradient of its output (each by position and column) and the
    running sums of its forget gates (by position). -/
structure Head where
  q : ℕ → ℕ → ℝ
  k : ℕ → ℕ → ℝ
  v : ℕ → ℕ → ℝ
  dout : ℕ → ℕ → ℝ
  cum : ℕ → ℝ

namespace Head

variable (H : Head)

/-- The number of positions. -/
abbrev n : ℕ := 2064
/-- The width of a head. -/
abbrev w : ℕ := 64

/-- The score of position `s` for the query at position `t`. -/
def score (t s : ℕ) : ℝ := (∑ d ∈ Finset.range w, H.q t d * H.k s d) * (1 / 8) + H.cum t - H.cum s

/-- The exponential of a score less the shift `M` of its row, nothing above the diagonal. -/
def expo (M : ℕ → ℝ) (t s : ℕ) : ℝ := if s ≤ t then Real.exp (H.score t s - M t) else 0

/-- The sum of a row's exponentials. -/
def total (M : ℕ → ℝ) (t : ℕ) : ℝ := ∑ s ∈ Finset.range n, H.expo M t s

/-- The softmax weight of position `s` for the query at position `t`. -/
def weight (M : ℕ → ℝ) (t s : ℕ) : ℝ := H.expo M t s / H.total M t

/-- The head's output. -/
def out (M : ℕ → ℝ) (t d : ℕ) : ℝ := ∑ s ∈ Finset.range n, H.v s d * H.weight M t s

/-- The gradient of a weight. -/
def dweight (t s : ℕ) : ℝ := ∑ d ∈ Finset.range w, H.dout t d * H.v s d

/-- The gradient of a score. -/
def dscore (M : ℕ → ℝ) (t s : ℕ) : ℝ :=
  H.weight M t s * (H.dweight t s - ∑ r ∈ Finset.range n, H.weight M t r * H.dweight t r)

/-- The gradient of the queries. -/
def dq (M : ℕ → ℝ) (t d : ℕ) : ℝ := (∑ s ∈ Finset.range n, H.dscore M t s * H.k s d) * (1 / 8)
/-- The gradient of the keys. -/
def dk (M : ℕ → ℝ) (s d : ℕ) : ℝ := (∑ t ∈ Finset.range n, H.dscore M t s * H.q t d) * (1 / 8)
/-- The gradient of the values. -/
def dv (M : ℕ → ℝ) (s d : ℕ) : ℝ := ∑ t ∈ Finset.range n, H.dout t d * H.weight M t s
/-- The gradient of the running sums through the queries' side of the scores. -/
def dcumQ (M : ℕ → ℝ) (t : ℕ) : ℝ := ∑ s ∈ Finset.range n, H.dscore M t s
/-- The gradient of the running sums through the keys' side of the scores. -/
def dcumK (M : ℕ → ℝ) (s : ℕ) : ℝ := -∑ t ∈ Finset.range n, H.dscore M t s

/-- The exponentials are not negative. -/
theorem expo_nonneg (M : ℕ → ℝ) (t s : ℕ) : 0 ≤ H.expo M t s := by
  unfold expo; split
  · exact (Real.exp_pos _).le
  · exact le_rfl

/-- A row's sum of exponentials is positive: the diagonal is never masked. -/
theorem total_pos (M : ℕ → ℝ) {t : ℕ} (ht : t < n) : 0 < H.total M t :=
  Finset.sum_pos' (fun s _ => H.expo_nonneg M t s)
    ⟨t, Finset.mem_range.2 ht, by rw [expo, if_pos le_rfl]; exact Real.exp_pos _⟩

/-- The weight vanishes above the diagonal. -/
theorem weight_above (M : ℕ → ℝ) {t s : ℕ} (h : t < s) : H.weight M t s = 0 := by
  rw [weight, expo, if_neg (Nat.not_le.2 h), zero_div]

/-- The gradient of the score vanishes above the diagonal. -/
theorem dscore_above (M : ℕ → ℝ) {t s : ℕ} (h : t < s) : H.dscore M t s = 0 := by
  rw [dscore, H.weight_above M h, zero_mul]

/-- The row's inner product of output and its gradient is the weighted mean of the weights' gradients. -/
theorem sum_dout_out (M : ℕ → ℝ) (t : ℕ) :
    ∑ d ∈ Finset.range w, H.dout t d * H.out M t d = ∑ r ∈ Finset.range n, H.weight M t r * H.dweight t r := by
  simp only [out, dweight, Finset.mul_sum]
  rw [Finset.sum_comm]
  exact Finset.sum_congr rfl fun r _ => Finset.sum_congr rfl fun d _ => by ring

/-- The kernel's weight, a power of two of scaled scores less the row's scaled log-sum, is the softmax weight. -/
theorem two_rpow_eq_weight (M : ℕ → ℝ) {t s : ℕ} (ht : t < n) (h : s ≤ t) :
    (2 : ℝ) ^ ((∑ d ∈ Finset.range w, H.q t d * (1 / 8 * (Real.log 2)⁻¹) * H.k s d) - H.cum s * (Real.log 2)⁻¹
      - (M t + Real.log (H.total M t) - H.cum t) * (1 / Real.log 2)) = H.weight M t s := by
  have hl : Real.log 2 ≠ 0 := (Real.log_pos one_lt_two).ne'
  have hZ := H.total_pos M ht
  have hs : ∑ d ∈ Finset.range w, H.q t d * (1 / 8 * (Real.log 2)⁻¹) * H.k s d
      = (∑ d ∈ Finset.range w, H.q t d * H.k s d) * (1 / 8) * (Real.log 2)⁻¹ := by
    rw [Finset.sum_mul, Finset.sum_mul]; exact Finset.sum_congr rfl fun d _ => by ring
  rw [Real.rpow_def_of_pos two_pos, hs, weight, expo, if_pos h]
  have he : Real.log 2 * ((∑ d ∈ Finset.range w, H.q t d * H.k s d) * (1 / 8) * (Real.log 2)⁻¹
      - H.cum s * (Real.log 2)⁻¹ - (M t + Real.log (H.total M t) - H.cum t) * (1 / Real.log 2))
      = H.score t s - M t - Real.log (H.total M t) := by
    rw [score]; field_simp; ring
  rw [he, Real.exp_sub, Real.exp_log hZ]

/-- The gradient of a score as the derivative of a quotient gives it. -/
theorem quotient_dscore (M : ℕ → ℝ) {t s : ℕ} (ht : t < n) :
    (H.dweight t s * (1 / H.total M t)
      + -∑ r ∈ Finset.range n, H.dweight t r * (1 * (1 / (H.total M t * H.total M t))) * H.expo M t r) * H.expo M t s
      = H.dscore M t s := by
  have hZ := (H.total_pos M ht).ne'
  have : ∑ r ∈ Finset.range n, H.dweight t r * (1 * (1 / (H.total M t * H.total M t))) * H.expo M t r
      = (∑ r ∈ Finset.range n, H.weight M t r * H.dweight t r) * (1 / H.total M t) := by
    rw [Finset.sum_mul]
    refine Finset.sum_congr rfl fun r _ => ?_
    rw [weight]; field_simp
  rw [this, dscore]
  generalize ∑ r ∈ Finset.range n, H.weight M t r * H.dweight t r = D
  rw [weight]; field_simp; ring

end Head

/-- Heads are pairs of halves of 128 lanes: whether lane `l` belongs to the first (`hh = 0`) or the second half. -/
def inHead (hh l : ℕ) : Prop := if hh = 0 then l < 64 else 64 ≤ l

instance (hh l : ℕ) : Decidable (inHead hh l) := by unfold inHead; infer_instance

/-- A sum over 128 lanes of which one half counts. -/
theorem sum_lanes (hh : ℕ) (hhh : hh < 2) (f : ℕ → ℝ) :
    ∑ l ∈ Finset.range 128, (if inHead hh l then f l else 0) = ∑ d ∈ Finset.range 64, f (64 * hh + d) := by
  rw [show (128 : ℕ) = 64 + 64 from rfl, Finset.sum_range_add]
  obtain rfl | rfl : hh = 0 ∨ hh = 1 := by omega
  · rw [Finset.sum_congr rfl (fun d hd => if_pos (show inHead 0 d from Finset.mem_range.1 hd)),
      Finset.sum_congr rfl (fun d (_ : d ∈ Finset.range 64) => if_neg (c := inHead 0 (64 + d)) fun h => by
        have : 64 + d < 64 := h; omega), Finset.sum_const_zero, add_zero]
    exact Finset.sum_congr rfl fun d _ => by rw [Nat.mul_zero, Nat.zero_add]
  · rw [Finset.sum_congr rfl (fun d hd => if_neg (c := inHead 1 d) fun h => by
        have h1 : 64 ≤ d := h; have := Finset.mem_range.1 hd; omega),
      Finset.sum_congr rfl (fun d (_ : d ∈ Finset.range 64) => if_pos (show inHead 1 (64 + d) from Nat.le_add_right 64 d)),
      Finset.sum_const_zero, zero_add]

/-- A sum over the 2064 positions, block by block. -/
theorem sum_blocks (f : ℕ → ℝ) :
    ∑ s ∈ Finset.range 2064, f s = ∑ s ∈ Finset.range 512, f (0 + s) + ∑ s ∈ Finset.range 512, f (512 + s)
      + ∑ s ∈ Finset.range 512, f (1024 + s) + ∑ s ∈ Finset.range 528, f (1536 + s) := by
  rw [show (2064 : ℕ) = 512 + 512 + 512 + 528 from rfl, Finset.sum_range_add, Finset.sum_range_add, Finset.sum_range_add]
  simp only [Nat.zero_add]

end Cert.Attention
-- ==== Proof.Tile.lean ====
/- One grid step of the backward pass works on a pair of heads side by side in 128 lanes. This module says over the real
   numbers what the step computes from what it reads, and takes each computation the kernel makes on a tile of query
   rows and key rows to that. -/
module

public import proofs.«01_k».proof.Proof.RealBlock
public import proofs.«01_k».proof.Proof.Attention
public import Idealize.ShloMosaic.Lib.WordCmp

@[expose] public section

noncomputable section

namespace Cert.Attention

open Idealize.ShloMosaic Idealize.ShloMosaic.ValueIdx Cert.RealBlock
open scoped BigOperators

/-- What a grid step reads, by position and lane: queries, keys, values, the forward output, its gradient and the scaled
    log-sums; by half and position the running sums; and the lane at which the pair's first log-sum stands. -/
structure Pair where
  q : ℕ → ℕ → ℝ
  k : ℕ → ℕ → ℝ
  v : ℕ → ℕ → ℝ
  o : ℕ → ℕ → ℝ
  dout : ℕ → ℕ → ℝ
  lse : ℕ → ℕ → ℝ
  cum : ℕ → ℕ → ℝ
  first : ℕ

/-- The lanes of half `hh`, the others zeroed. -/
def half (hh : ℕ) (f : ℕ → ℕ → ℝ) (t l : ℕ) : ℝ := if inHead hh l then f t l else 0

namespace Pair

variable (X : Pair)

/-- The queries scaled by an eighth. -/
def qs (t l : ℕ) : ℝ := X.q t l * (1 / 8)
/-- The queries scaled for powers of two. -/
def q2 (t l : ℕ) : ℝ := X.q t l * (1 / 8 * (Real.log 2)⁻¹)
/-- The log-sum of row `t` of half `hh`, picked from its lane. -/
def logsum (hh t : ℕ) : ℝ := ∑ l ∈ Finset.range 128, (if l = X.first + hh then X.lse t l else 0)
/-- The inner product of output and output gradient in half `hh`. -/
def delta (hh t : ℕ) : ℝ := ∑ l ∈ Finset.range 128, half hh X.dout t l * X.o t l
/-- The weight of key `s` for query `t` in half `hh`. -/
def weight (hh t s : ℕ) : ℝ :=
  if s ≤ t then (2 : ℝ) ^ ((∑ l ∈ Finset.range 128, half hh X.q2 t l * X.k s l) - X.cum hh s * (Real.log 2)⁻¹ - X.logsum hh t)
  else 0
/-- The gradient of the score of key `s` for query `t` in half `hh`. -/
def dscore (hh t s : ℕ) : ℝ :=
  X.weight hh t s * ((∑ l ∈ Finset.range 128, half hh X.dout t l * X.v s l) - X.delta hh t)

/-- What the `M` queries from `q0` on add to the gradient of value `s`. -/
def dvPart (hh q0 M l s : ℕ) : ℝ := ∑ i ∈ Finset.range M, half hh X.dout (q0 + i) l * X.weight hh (q0 + i) s
/-- What the `M` queries from `q0` on add to the gradient of key `s`. -/
def dkPart (hh q0 M l s : ℕ) : ℝ := ∑ i ∈ Finset.range M, half hh X.qs (q0 + i) l * X.dscore hh (q0 + i) s
/-- What the `N` keys from `k0` on add to the gradient of query `t`, before its scale. -/
def dqPart (hh k0 N t l : ℕ) : ℝ := ∑ j ∈ Finset.range N, X.dscore hh t (k0 + j) * half hh X.k (k0 + j) l
/-- The column sums of the score gradients over the `M` queries from `q0` on. -/
def colPart (hh q0 M s : ℕ) : ℝ := ∑ i ∈ Finset.range M, X.dscore hh (q0 + i) s
/-- The row sums of the score gradients over the `N` keys from `k0` on. -/
def rowPart (hh k0 N t : ℕ) : ℝ := ∑ j ∈ Finset.range N, X.dscore hh t (k0 + j)

/-- The gradient of the queries, by position and lane. -/
def dq (t l : ℕ) : ℝ := (X.dqPart 0 0 2064 t l + X.dqPart 1 0 2064 t l) * (1 / 8)
/-- The gradient of the keys. -/
def dk (s l : ℕ) : ℝ := X.dkPart 0 0 2064 l s + X.dkPart 1 0 2064 l s
/-- The gradient of the values. -/
def dv (s l : ℕ) : ℝ := X.dvPart 0 0 2064 l s + X.dvPart 1 0 2064 l s

/-- Above the diagonal the weight is nothing. -/
theorem weight_above (hh : ℕ) {t s : ℕ} (h : t < s) : X.weight hh t s = 0 := if_neg (Nat.not_le.2 h)
/-- Above the diagonal the score's gradient is nothing. -/
theorem dscore_above (hh : ℕ) {t s : ℕ} (h : t < s) : X.dscore hh t s = 0 := by rw [dscore, X.weight_above hh h, zero_mul]

/-- Queries before `s` add nothing to the gradient of value `s`. -/
theorem dvPart_before (hh : ℕ) {q0 M l s : ℕ} (h : q0 + M ≤ s) : X.dvPart hh q0 M l s = 0 :=
  Finset.sum_eq_zero fun i hi => by
    rw [X.weight_above hh (by have := Finset.mem_range.1 hi; omega), mul_zero]
/-- Queries before `s` add nothing to the gradient of key `s`. -/
theorem dkPart_before (hh : ℕ) {q0 M l s : ℕ} (h : q0 + M ≤ s) : X.dkPart hh q0 M l s = 0 :=
  Finset.sum_eq_zero fun i hi => by
    rw [X.dscore_above hh (by have := Finset.mem_range.1 hi; omega), mul_zero]
/-- Queries before `s` add nothing to column `s`. -/
theorem colPart_before (hh : ℕ) {q0 M s : ℕ} (h : q0 + M ≤ s) : X.colPart hh q0 M s = 0 :=
  Finset.sum_eq_zero fun i hi => X.dscore_above hh (by have := Finset.mem_range.1 hi; omega)
/-- Keys after `t` add nothing to the gradient of query `t`. -/
theorem dqPart_after (hh : ℕ) {k0 N t l : ℕ} (h : t < k0) : X.dqPart hh k0 N t l = 0 :=
  Finset.sum_eq_zero fun j _ => by rw [X.dscore_above hh (by omega), zero_mul]
/-- Keys after `t` add nothing to row `t`. -/
theorem rowPart_after (hh : ℕ) {k0 N t : ℕ} (h : t < k0) : X.rowPart hh k0 N t = 0 :=
  Finset.sum_eq_zero fun j _ => X.dscore_above hh (by omega)

/-- All queries' part in the gradient of a value, block by block. -/
theorem dvPart_blocks (hh l s : ℕ) : X.dvPart hh 0 2064 l s
    = X.dvPart hh 0 512 l s + X.dvPart hh 512 512 l s + X.dvPart hh 1024 512 l s + X.dvPart hh 1536 528 l s := by
  simp only [dvPart, Nat.zero_add]; rw [sum_blocks]; simp only [Nat.zero_add]
/-- All queries' part in the gradient of a key, block by block. -/
theorem dkPart_blocks (hh l s : ℕ) : X.dkPart hh 0 2064 l s
    = X.dkPart hh 0 512 l s + X.dkPart hh 512 512 l s + X.dkPart hh 1024 512 l s + X.dkPart hh 1536 528 l s := by
  simp only [dkPart, Nat.zero_add]; rw [sum_blocks]; simp only [Nat.zero_add]
/-- All keys' part in the gradient of a query, block by block. -/
theorem dqPart_blocks (hh t l : ℕ) : X.dqPart hh 0 2064 t l
    = X.dqPart hh 0 512 t l + X.dqPart hh 512 512 t l + X.dqPart hh 1024 512 t l + X.dqPart hh 1536 528 t l := by
  simp only [dqPart, Nat.zero_add]; rw [sum_blocks]; simp only [Nat.zero_add]
/-- A column's sum, block by block. -/
theorem colPart_blocks (hh s : ℕ) : X.colPart hh 0 2064 s
    = X.colPart hh 0 512 s + X.colPart hh 512 512 s + X.colPart hh 1024 512 s + X.colPart hh 1536 528 s := by
  simp only [colPart, Nat.zero_add]; rw [sum_blocks]; simp only [Nat.zero_add]
/-- A row's sum, block by block. -/
theorem rowPart_blocks (hh t : ℕ) : X.rowPart hh 0 2064 t
    = X.rowPart hh 0 512 t + X.rowPart hh 512 512 t + X.rowPart hh 1024 512 t + X.rowPart hh 1536 528 t := by
  simp only [rowPart, Nat.zero_add]; rw [sum_blocks]; simp only [Nat.zero_add]

end Pair

/-! ## The kernel's computations on a tile -/

variable {M N : ℕ} {φ ψ : FTy} {X : Pair} {hh q0 k0 : ℕ}

/-- Zeros, as the body writes them. -/
theorem zeros_f32 : R2 (broadcast (⟨2, ![M, N]⟩ : Shape) (Scalar.ofBits (F := Ideal) .f32 0x00000000#32)) fun _ _ => 0 :=
  R2.splat (Ideal.ofBits_zero_f32.trans EReal.coe_zero.symm)
/-- Zeros in the narrow format. -/
theorem zeros_bf16 : R2 (broadcast (⟨2, ![M, N]⟩ : Shape) (Scalar.ofBits (F := Ideal) .bf16 0x0000#16)) fun _ _ => 0 :=
  R2.splat (Ideal.ofBits_zero_bf16.trans EReal.coe_zero.symm)
/-- The zeros a product starts from. -/
theorem zeros_const : R2 (constant (F := Ideal) (⟨2, ![M, N]⟩ : Shape) .f32 0x00000000#32) fun _ _ => 0 :=
  zeros_f32
/-- An eighth, in the narrow format. -/
theorem eighth_bf16 : (Scalar.ofBits (F := Ideal) .bf16 0x3E00#16 : EReal) = ((1 / 8 : ℝ) : EReal) := by
  show Ideal.ofBits .bf16 0x3E00#16 = _
  simp [Ideal.ofBits, Ideal.ieee, -EReal.coe_mul]; norm_num
/-- An eighth. -/
theorem eighth_f32 : (Scalar.ofBits (F := Ideal) .f32 0x3E000000#32 : EReal) = ((1 / 8 : ℝ) : EReal) := by
  show Ideal.ofBits .f32 0x3E000000#32 = _
  simp [Ideal.ofBits, Ideal.ieee, -EReal.coe_mul]; norm_num

/-- The first half of the lanes. -/
theorem lanes0 {x : (⟨2, ![M, 128]⟩ : Shape).Idx → EReal} {z : (⟨2, ![M, 128]⟩ : Shape).Idx → EReal} {f : ℕ → ℕ → ℝ}
    (h : (⟨2, ![M, 128]⟩ : Shape).Iotas .tc 32 [1]) (hx : R2 x fun i l => f (q0 + i) l) (hz : R2 z fun _ _ => 0) :
    R2 (select (cmpi .slt (iota .tc ⟨2, ![M, 128]⟩ 32 [1] h) (broadcast ⟨2, ![M, 128]⟩ 64#32)) x z)
      fun i l => half 0 f (q0 + i) l :=
  R2.congr (R2.select (fun _ l => l < 64) (fun i l => by
      have hl := l.isLt
      show IntOp.cmpi .slt (BitVec.ofNat 32 (0 * 128 + l.val)) (BitVec.ofNat 32 64) = 1 ↔ _
      rw [Nat.zero_mul, Nat.zero_add]
      exact WordCmp.cmpi_slt_ofNat_eq_one_iff (by omega) (by omega)) hx hz) fun _ _ _ _ => rfl

/-- The second half of the lanes. -/
theorem lanes1 {x : (⟨2, ![M, 128]⟩ : Shape).Idx → EReal} {z : (⟨2, ![M, 128]⟩ : Shape).Idx → EReal} {f : ℕ → ℕ → ℝ}
    (h : (⟨2, ![M, 128]⟩ : Shape).Iotas .tc 32 [1]) (hx : R2 x fun i l => f (q0 + i) l) (hz : R2 z fun _ _ => 0) :
    R2 (select (cmpi .sge (iota .tc ⟨2, ![M, 128]⟩ 32 [1] h) (broadcast ⟨2, ![M, 128]⟩ 64#32)) x z)
      fun i l => half 1 f (q0 + i) l :=
  R2.congr (R2.select (fun _ l => 64 ≤ l) (fun i l => by
      have hl := l.isLt
      show IntOp.cmpi .sge (BitVec.ofNat 32 (0 * 128 + l.val)) (BitVec.ofNat 32 64) = 1 ↔ _
      rw [Nat.zero_mul, Nat.zero_add]
      exact WordCmp.cmpi_sge_ofNat_eq_one_iff (by omega) (by omega)) hx hz) fun _ _ _ _ => rfl

/-- The queries scaled by an eighth. -/
theorem tile_qs {x : FVec Ideal ⟨2, ![M, 128]⟩ .bf16} (hx : R2 x fun i l => X.q (q0 + i) l) :
    R2 (mulf x (broadcast ⟨2, ![M, 128]⟩ (Scalar.ofBits (F := Ideal) .bf16 0x3E00#16))) fun i l => X.qs (q0 + i) l :=
  R2.mulf hx (R2.splat eighth_bf16)

/-- The queries scaled for powers of two. -/
theorem tile_q2 {x : FVec Ideal ⟨2, ![M, 128]⟩ .bf16} {c : Ideal .bf16} (hc : c = ((1 / 8 * (Real.log 2)⁻¹ : ℝ) : EReal))
    (hx : R2 x fun i l => X.q (q0 + i) l) :
    R2 (mulf x (broadcast ⟨2, ![M, 128]⟩ c)) fun i l => X.q2 (q0 + i) l :=
  R2.mulf hx (R2.splat hc)

/-- The choice of one lane by its number. -/
theorem pick (n : ℕ) (hn : n < 128) (h : (⟨2, ![M, 128]⟩ : Shape).Iotas .tc 32 [1]) {c : BitVec 32} (hc : c = BitVec.ofNat 32 n)
    {x y : (⟨2, ![M, 128]⟩ : Shape).Idx → EReal} {f g : ℕ → ℕ → ℝ} (hx : R2 x f) (hy : R2 y g) :
    R2 (select (cmpi .eq (iota .tc ⟨2, ![M, 128]⟩ 32 [1] h) (broadcast ⟨2, ![M, 128]⟩ c)) x y)
      fun i l => if l = n then f i l else g i l :=
  R2.select (fun _ l => l = n) (fun i l => by
      have hl := l.isLt
      show IntOp.cmpi .eq (BitVec.ofNat 32 (0 * 128 + l.val)) c = 1 ↔ _
      rw [hc, Nat.zero_mul, Nat.zero_add]
      exact WordCmp.cmpi_eq_ofNat_eq_one_iff (by omega) (by omega)) hx hy

/-- A row's log-sum, picked from its lane. -/
theorem tile_logsum {x z : FVec Ideal ⟨2, ![M, 128]⟩ .f32} {c : BitVec 32} (hh : ℕ)
    (h : (⟨2, ![M, 128]⟩ : Shape).Iotas .tc 32 [1]) (h1 : (⟨2, ![M, 128]⟩ : Shape).ShapeCasts ⟨2, ![M, 128]⟩)
    (h2 : (⟨2, ![M, 128]⟩ : Shape).Reduces [1] ⟨1, ![M]⟩) (h3 : FKind.Formats .f32) (h4 : 0x00000000#32 = FKind.add.neutral .f32 h3)
    (h5 : (⟨1, ![M]⟩ : Shape).ShapeCasts ⟨2, ![M, 1]⟩) (hn : X.first + hh < 128)
    (hc : c = BitVec.ofNat 32 (X.first + hh)) (hx : R2 x fun i l => X.lse (q0 + i) l) (hz : R2 z fun _ _ => 0) :
    R2 (shapeCast ⟨2, ![M, 1]⟩ (multiReduction .add [1] ⟨1, ![M]⟩ (select (cmpi .eq (iota .tc ⟨2, ![M, 128]⟩ 32 [1] h)
      (broadcast ⟨2, ![M, 128]⟩ c)) (shapeCast ⟨2, ![M, 128]⟩ x h1) z) 0x00000000#32 h2 h3 h4) h5) fun i _ => X.logsum hh (q0 + i) :=
  R2.rowSum (pick (X.first + hh) hn h hc (R2.castSelf hx h1) hz) h2 h3 h4 h5

/-- A row's inner product of output and output gradient. -/
theorem tile_delta {x o : FVec Ideal ⟨2, ![M, 128]⟩ .f32}
    (h2 : (⟨2, ![M, 128]⟩ : Shape).Reduces [1] ⟨1, ![M]⟩) (h3 : FKind.Formats .f32) (h4 : 0x00000000#32 = FKind.add.neutral .f32 h3)
    (h5 : (⟨1, ![M]⟩ : Shape).ShapeCasts ⟨2, ![M, 1]⟩) (hx : R2 x fun i l => half hh X.dout (q0 + i) l)
    (ho : R2 o fun i l => X.o (q0 + i) l) :
    R2 (shapeCast ⟨2, ![M, 1]⟩ (multiReduction .add [1] ⟨1, ![M]⟩ (mulf x o) 0x00000000#32 h2 h3 h4) h5)
      fun i _ => X.delta hh (q0 + i) :=
  R2.rowSum (R2.mulf hx ho) h2 h3 h4 h5

/-- The exponent of the kernel's weights. -/
theorem tile_power {x : FVec Ideal ⟨2, ![M, 128]⟩ φ} {k : FVec Ideal ⟨2, ![N, 128]⟩ ψ} {z : FVec Ideal ⟨2, ![M, N]⟩ .f32}
    {cr : FVec Ideal ⟨5, ![1, 1, 1, 1, N]⟩ .f32} {c : Ideal .f32} {lse : FVec Ideal ⟨2, ![M, 1]⟩ .f32}
    (h1 : (⟨5, ![1, 1, 1, 1, N]⟩ : Shape).ShapeCasts ⟨2, ![1, N]⟩) (h2 : (⟨2, ![1, N]⟩ : Shape).Broadcasts ⟨2, ![M, N]⟩)
    (h3 : (⟨2, ![M, 1]⟩ : Shape).Broadcasts ⟨2, ![M, N]⟩)
    (hc : c = (((Real.log 2)⁻¹ : ℝ) : EReal)) (hz : R2 z fun _ _ => 0) (hx : R2 x fun i l => half hh X.q2 (q0 + i) l)
    (hk : R2 k fun j l => X.k (k0 + j) l) (hcr : R5 cr fun j => X.cum hh (k0 + j)) (hl : R2 lse fun i _ => X.logsum hh (q0 + i)) :
    R2 (exp2 (subf (subf (matmul (DotDims.transposedRhs M 128 N) none x k z)
        (broadcastTo ⟨2, ![M, N]⟩ (mulf (shapeCast ⟨2, ![1, N]⟩ cr h1) (broadcast ⟨2, ![1, N]⟩ c)) h2))
        (broadcastTo ⟨2, ![M, N]⟩ lse h3)))
      fun i j => (2 : ℝ) ^ ((∑ l ∈ Finset.range 128, half hh X.q2 (q0 + i) l * X.k (k0 + j) l) - X.cum hh (k0 + j) * (Real.log 2)⁻¹
        - X.logsum hh (q0 + i)) :=
  R2.congr (R2.exp2 (R2.subf (R2.subf (R2.matmulNT hx hk hz) (R2.rows (R2.mulf (R5.row hcr h1) (R2.splat hc)) h2)) (R2.cols hl h3)))
    fun i j _ _ => by rw [zero_add]

/-- The weights of a tile below the diagonal. -/
theorem tile_weight_below {x : FVec Ideal ⟨2, ![M, 128]⟩ φ} {k : FVec Ideal ⟨2, ![N, 128]⟩ ψ} {z : FVec Ideal ⟨2, ![M, N]⟩ .f32}
    {cr : FVec Ideal ⟨5, ![1, 1, 1, 1, N]⟩ .f32} {c : Ideal .f32} {lse : FVec Ideal ⟨2, ![M, 1]⟩ .f32}
    (h1 : (⟨5, ![1, 1, 1, 1, N]⟩ : Shape).ShapeCasts ⟨2, ![1, N]⟩) (h2 : (⟨2, ![1, N]⟩ : Shape).Broadcasts ⟨2, ![M, N]⟩)
    (h3 : (⟨2, ![M, 1]⟩ : Shape).Broadcasts ⟨2, ![M, N]⟩)
    (hc : c = (((Real.log 2)⁻¹ : ℝ) : EReal)) (hz : R2 z fun _ _ => 0) (hx : R2 x fun i l => half hh X.q2 (q0 + i) l)
    (hk : R2 k fun j l => X.k (k0 + j) l) (hcr : R5 cr fun j => X.cum hh (k0 + j)) (hl : R2 lse fun i _ => X.logsum hh (q0 + i))
    (hb : k0 + N ≤ q0) :
    R2 (exp2 (subf (subf (matmul (DotDims.transposedRhs M 128 N) none x k z)
        (broadcastTo ⟨2, ![M, N]⟩ (mulf (shapeCast ⟨2, ![1, N]⟩ cr h1) (broadcast ⟨2, ![1, N]⟩ c)) h2))
        (broadcastTo ⟨2, ![M, N]⟩ lse h3)))
      fun i j => X.weight hh (q0 + i) (k0 + j) :=
  R2.congr (tile_power h1 h2 h3 hc hz hx hk hcr hl) fun i j _ _ => by rw [Pair.weight, if_pos (by omega)]

/-- The weights of a tile on the diagonal. -/
theorem tile_weight_diag {x : FVec Ideal ⟨2, ![M, 128]⟩ φ} {k : FVec Ideal ⟨2, ![M, 128]⟩ ψ} {z z' : FVec Ideal ⟨2, ![M, M]⟩ .f32}
    {cr : FVec Ideal ⟨5, ![1, 1, 1, 1, M]⟩ .f32} {c : Ideal .f32} {lse : FVec Ideal ⟨2, ![M, 1]⟩ .f32}
    (h1 : (⟨5, ![1, 1, 1, 1, M]⟩ : Shape).ShapeCasts ⟨2, ![1, M]⟩) (h2 : (⟨2, ![1, M]⟩ : Shape).Broadcasts ⟨2, ![M, M]⟩)
    (h3 : (⟨2, ![M, 1]⟩ : Shape).Broadcasts ⟨2, ![M, M]⟩) (h4 : (⟨2, ![M, M]⟩ : Shape).Iotas .tc 32 [0])
    (h5 : (⟨2, ![M, M]⟩ : Shape).Iotas .tc 32 [1])
    (hc : c = (((Real.log 2)⁻¹ : ℝ) : EReal)) (hz : R2 z fun _ _ => 0) (hz' : R2 z' fun _ _ => 0)
    (hx : R2 x fun i l => half hh X.q2 (q0 + i) l)
    (hk : R2 k fun j l => X.k (q0 + j) l) (hcr : R5 cr fun j => X.cum hh (q0 + j)) (hl : R2 lse fun i _ => X.logsum hh (q0 + i))
    (hM : M < 2 ^ 31) :
    R2 (select (cmpi .sge (iota .tc ⟨2, ![M, M]⟩ 32 [0] h4) (iota .tc ⟨2, ![M, M]⟩ 32 [1] h5))
      (exp2 (subf (subf (matmul (DotDims.transposedRhs M 128 M) none x k z)
        (broadcastTo ⟨2, ![M, M]⟩ (mulf (shapeCast ⟨2, ![1, M]⟩ cr h1) (broadcast ⟨2, ![1, M]⟩ c)) h2))
        (broadcastTo ⟨2, ![M, M]⟩ lse h3))) z')
      fun i j => X.weight hh (q0 + i) (q0 + j) :=
  R2.congr (R2.select (fun i j => j ≤ i) (fun i j => by
      have hi := i.isLt
      have hj := j.isLt
      show IntOp.cmpi .sge (BitVec.ofNat 32 (0 * M + i.val)) (BitVec.ofNat 32 (0 * M + j.val)) = 1 ↔ _
      rw [Nat.zero_mul, Nat.zero_add, Nat.zero_add]
      exact WordCmp.cmpi_sge_ofNat_eq_one_iff (by omega) (by omega)) (tile_power h1 h2 h3 hc hz hx hk hcr hl) hz')
    fun i j _ _ => by
      rw [Pair.weight]
      by_cases h : j ≤ i
      · rw [if_pos h, if_pos (by omega)]
      · rw [if_neg h, if_neg (by omega)]

/-- The gradients of a tile's scores. -/
theorem tile_dscore {p : FVec Ideal ⟨2, ![M, N]⟩ .f32} {x : FVec Ideal ⟨2, ![M, 128]⟩ φ} {v : FVec Ideal ⟨2, ![N, 128]⟩ ψ}
    {z : FVec Ideal ⟨2, ![M, N]⟩ .f32} {d : FVec Ideal ⟨2, ![M, 1]⟩ .f32} (h3 : (⟨2, ![M, 1]⟩ : Shape).Broadcasts ⟨2, ![M, N]⟩)
    (hz : R2 z fun _ _ => 0) (hx : R2 x fun i l => half hh X.dout (q0 + i) l) (hv : R2 v fun j l => X.v (k0 + j) l)
    (hd : R2 d fun i _ => X.delta hh (q0 + i)) (hp : R2 p fun i j => X.weight hh (q0 + i) (k0 + j)) :
    R2 (mulf p (subf (matmul (DotDims.transposedRhs M 128 N) none x v z) (broadcastTo ⟨2, ![M, N]⟩ d h3)))
      fun i j => X.dscore hh (q0 + i) (k0 + j) :=
  R2.congr (R2.mulf hp (R2.subf (R2.matmulNT hx hv hz) (R2.cols hd h3))) fun i j _ _ => by rw [zero_add, Pair.dscore]

/-- One tile's step of the values' gradient. -/
theorem tile_dv {a : FVec Ideal ⟨3, ![1, 128, N]⟩ .f32} {x : FVec Ideal ⟨2, ![M, 128]⟩ φ} {p : FVec Ideal ⟨2, ![M, N]⟩ ψ}
    {z : FVec Ideal ⟨2, ![128, N]⟩ .f32} {f : ℕ → ℕ → ℝ} (h1 : (⟨3, ![1, 128, N]⟩ : Shape).ShapeCasts ⟨2, ![128, N]⟩)
    (h2 : (⟨2, ![128, N]⟩ : Shape).ShapeCasts ⟨3, ![1, 128, N]⟩) (hz : R2 z fun _ _ => 0)
    (hx : R2 x fun i l => half hh X.dout (q0 + i) l) (hp : R2 p fun i j => X.weight hh (q0 + i) (k0 + j)) (ha : R3 a f) :
    R3 (shapeCast ⟨3, ![1, 128, N]⟩ (addf (shapeCast ⟨2, ![128, N]⟩ a h1) (matmul (dimsTN M 128 N) none x p z)) h2)
      fun l j => f l j + X.dvPart hh q0 M l (k0 + j) :=
  R3.congr (R2.slab (R2.addf (R3.slab ha h1) (R2.matmulTN hx hp hz)) h2) fun l j _ _ => by rw [zero_add, Pair.dvPart]

/-- One tile's step of the keys' gradient. -/
theorem tile_dk {a : FVec Ideal ⟨3, ![1, 128, N]⟩ .f32} {x : FVec Ideal ⟨2, ![M, 128]⟩ φ} {p : FVec Ideal ⟨2, ![M, N]⟩ ψ}
    {z : FVec Ideal ⟨2, ![128, N]⟩ .f32} {f : ℕ → ℕ → ℝ} (h1 : (⟨3, ![1, 128, N]⟩ : Shape).ShapeCasts ⟨2, ![128, N]⟩)
    (h2 : (⟨2, ![128, N]⟩ : Shape).ShapeCasts ⟨3, ![1, 128, N]⟩) (hz : R2 z fun _ _ => 0)
    (hx : R2 x fun i l => half hh X.qs (q0 + i) l) (hp : R2 p fun i j => X.dscore hh (q0 + i) (k0 + j)) (ha : R3 a f) :
    R3 (shapeCast ⟨3, ![1, 128, N]⟩ (addf (shapeCast ⟨2, ![128, N]⟩ a h1) (matmul (dimsTN M 128 N) none x p z)) h2)
      fun l j => f l j + X.dkPart hh q0 M l (k0 + j) :=
  R3.congr (R2.slab (R2.addf (R3.slab ha h1) (R2.matmulTN hx hp hz)) h2) fun l j _ _ => by rw [zero_add, Pair.dkPart]

/-- One tile's step of the queries' gradient. -/
theorem tile_dq {a : FVec Ideal ⟨2, ![M, 128]⟩ .f32} {x : FVec Ideal ⟨2, ![M, N]⟩ φ} {k : FVec Ideal ⟨2, ![N, 128]⟩ ψ}
    {z : FVec Ideal ⟨2, ![M, 128]⟩ .f32} {f : ℕ → ℕ → ℝ} (hz : R2 z fun _ _ => 0)
    (hk : R2 k fun j l => half hh X.k (k0 + j) l) (hx : R2 x fun i j => X.dscore hh (q0 + i) (k0 + j)) (ha : R2 a f) :
    R2 (addf a (matmul (DotDims.plain M N 128) none x k z)) fun i l => f i l + X.dqPart hh k0 N (q0 + i) l :=
  R2.congr (R2.addf ha (R2.matmulNN hx hk hz)) fun l j _ _ => by rw [zero_add, Pair.dqPart]

/-- One tile's step of the row sums. -/
theorem tile_row {a : FVec Ideal ⟨2, ![M, 1]⟩ .f32} {x : FVec Ideal ⟨2, ![M, N]⟩ .f32} {f : ℕ → ℕ → ℝ}
    (h2 : (⟨2, ![M, N]⟩ : Shape).Reduces [1] ⟨1, ![M]⟩) (h3 : FKind.Formats .f32) (h4 : 0x00000000#32 = FKind.add.neutral .f32 h3)
    (h5 : (⟨1, ![M]⟩ : Shape).ShapeCasts ⟨2, ![M, 1]⟩)
    (hx : R2 x fun i j => X.dscore hh (q0 + i) (k0 + j)) (ha : R2 a f) :
    R2 (addf a (shapeCast ⟨2, ![M, 1]⟩ (multiReduction .add [1] ⟨1, ![M]⟩ x 0x00000000#32 h2 h3 h4) h5))
      fun i j => f i j + X.rowPart hh k0 N (q0 + i) :=
  R2.addf ha (R2.rowSum hx h2 h3 h4 h5)

/-- One tile's step of the column sums. -/
theorem tile_col {a : FVec Ideal ⟨5, ![1, 1, 1, 1, N]⟩ .f32} {x : FVec Ideal ⟨2, ![M, N]⟩ .f32} {f : ℕ → ℝ}
    (h1 : (⟨5, ![1, 1, 1, 1, N]⟩ : Shape).ShapeCasts ⟨2, ![1, N]⟩)
    (h2 : (⟨2, ![M, N]⟩ : Shape).Reduces [0] ⟨1, ![N]⟩) (h3 : FKind.Formats .f32) (h4 : 0x00000000#32 = FKind.add.neutral .f32 h3)
    (h5 : (⟨1, ![N]⟩ : Shape).ShapeCasts ⟨2, ![1, N]⟩) (h6 : (⟨2, ![1, N]⟩ : Shape).ShapeCasts ⟨5, ![1, 1, 1, 1, N]⟩)
    (hx : R2 x fun i j => X.dscore hh (q0 + i) (k0 + j)) (ha : R5 a f) :
    R5 (shapeCast ⟨5, ![1, 1, 1, 1, N]⟩ (subf (shapeCast ⟨2, ![1, N]⟩ a h1)
      (shapeCast ⟨2, ![1, N]⟩ (multiReduction .add [0] ⟨1, ![N]⟩ x 0x00000000#32 h2 h3 h4) h5)) h6)
      fun j => f j - X.colPart hh q0 M (k0 + j) :=
  R5.congr (R2.row5 (R2.subf (R5.row ha h1) (R2.colSum hx h2 h3 h4 h5)) h6) fun j _ => rfl

/-- The lane of the pair's first log-sum, as the word the body computes. -/
theorem word_pair (n : ℕ) : Scalar.muli 2#32 (BitVec.ofNat 32 n) = BitVec.ofNat 32 (2 * n) := BitVec.ofNat_mul_ofNat ..
/-- The lane of the pair's log-sum of half `hh`, as the word the body computes. -/
theorem word_lane (n hh : ℕ) : Scalar.addi (Scalar.muli 2#32 (BitVec.ofNat 32 n)) (BitVec.ofNat 32 hh) = BitVec.ofNat 32 (2 * n + hh) := by
  rw [word_pair]; exact BitVec.ofNat_add_ofNat ..

end Cert.Attention
-- ==== Proof.Store.lean ====
/- Loads and stores of blocks of real numbers. A load of some rows of a buffer reads those rows; stores that tile a buffer
   leave it whole; and a load from a buffer that the same grid step has stored into reads the newest store at its place. -/
module

public import proofs.«01_k».proof.Proof.RealBlock
public import Idealize.ShloMosaic.Lib.Pipeline.ValueKit
public import Idealize.ShloMosaic.Lib.Pipeline.ReadBack

@[expose] public section

noncomputable section

namespace Cert.RealBlock

open Idealize.ShloMosaic hiding ix1 ix2 ix3 ix4 ix5
open Idealize.ShloMosaic.ValueIdx

variable {sig : RefSig} {κ : Kind} {sp : Space} {M N : ℕ}

/-! ## Loads of what a grid step is given -/

/-- A load of rows of a buffer in the narrow format. -/
theorem R2.load_bf16 {m : Memref sig κ sp ⟨2, ![2064, 128]⟩ .bf16} (hm : m.IsWhole) {x : FVec Ideal ⟨2, ![2064, 128]⟩ .bf16}
    {f : ℕ → ℕ → ℝ} (hx : R2 x f) (a : ℕ) (inb : ∀ c, (![a, 0] : Fin 2 → ℕ) c + (![M, 128] : Fin 2 → ℕ) c ≤ (⟨2, ![2064, 128]⟩ : Shape).size c) :
    R2 (M := M) (N := 128) (View.readAt (Elt Ideal) m.view (Rect.unit (s := ⟨2, ![2064, 128]⟩) ![a, 0] ![M, 128] inb).toLoadRect (hm.unread x))
      fun i l => f (a + i) l := fun i l => by
  have hi : a + i.val < 2064 := by have h0 : a + M ≤ 2064 := inb 0; have := i.isLt; omega
  rw [View.readAt_eq_ld, Memref.IsWhole.read_unread]
  refine Eq.trans (congrArg x ?_) (hx ⟨a + i.val, hi⟩ l)
  funext c; apply Fin.ext
  match c with
  | ⟨0, _⟩ => show a + 1 * i.val = a + i.val; omega
  | ⟨1, _⟩ => show 0 + 1 * l.val = l.val; omega

/-- A load of rows of a buffer in the wide format. -/
theorem R2.load_f32 {m : Memref sig κ sp ⟨2, ![2064, 128]⟩ .f32} (hm : m.IsWhole) {x : FVec Ideal ⟨2, ![2064, 128]⟩ .f32}
    {f : ℕ → ℕ → ℝ} (hx : R2 x f) (a : ℕ) (inb : ∀ c, (![a, 0] : Fin 2 → ℕ) c + (![M, 128] : Fin 2 → ℕ) c ≤ (⟨2, ![2064, 128]⟩ : Shape).size c) :
    R2 (M := M) (N := 128) (View.readAt (Elt Ideal) m.view (Rect.unit (s := ⟨2, ![2064, 128]⟩) ![a, 0] ![M, 128] inb).toLoadRect (hm.unread x))
      fun i l => f (a + i) l := fun i l => by
  have hi : a + i.val < 2064 := by have h0 : a + M ≤ 2064 := inb 0; have := i.isLt; omega
  rw [View.readAt_eq_ld, Memref.IsWhole.read_unread]
  refine Eq.trans (congrArg x ?_) (hx ⟨a + i.val, hi⟩ l)
  funext c; apply Fin.ext
  match c with
  | ⟨0, _⟩ => show a + 1 * i.val = a + i.val; omega
  | ⟨1, _⟩ => show 0 + 1 * l.val = l.val; omega

/-- The block of key-side sums holds, at block `j`, row `r` and column `k`, the number `f j r k` wherever `p` says so. -/
def Sums (p : ℕ → ℕ → ℕ → Prop) (x : (⟨5, ![1, 1, 4, 8, 528]⟩ : Shape).Idx → EReal) (f : ℕ → ℕ → ℕ → ℝ) : Prop :=
  ∀ (a b : Fin 1) (j : Fin 4) (r : Fin 8) (k : Fin 528), p j.val r.val k.val → x (ix5 a b j r k) = ((f j.val r.val k.val : ℝ) : EReal)

/-- A load of one row of the key-side sums. -/
theorem R5.load {m : Memref sig κ sp ⟨5, ![1, 1, 4, 8, 528]⟩ .f32} (hm : m.IsWhole) {x : FVec Ideal ⟨5, ![1, 1, 4, 8, 528]⟩ .f32}
    {p : ℕ → ℕ → ℕ → Prop} {f : ℕ → ℕ → ℕ → ℝ} (hx : Sums p x f) (j r : ℕ) (hp : ∀ k, k < N → p j r k)
    (inb : ∀ c, (![0, 0, j, r, 0] : Fin 5 → ℕ) c + (![1, 1, 1, 1, N] : Fin 5 → ℕ) c ≤ (⟨5, ![1, 1, 4, 8, 528]⟩ : Shape).size c) :
    R5 (N := N) (View.readAt (Elt Ideal) m.view (Rect.unit (s := ⟨5, ![1, 1, 4, 8, 528]⟩) ![0, 0, j, r, 0] ![1, 1, 1, 1, N] inb).toLoadRect
      (hm.unread x)) fun k => f j r k := fun a b c d k => by
  have hj : j < 4 := by have h0 : j + 1 ≤ 4 := inb 2; omega
  have hr : r < 8 := by have h0 : r + 1 ≤ 8 := inb 3; omega
  have hk : k.val < 528 := by have h0 : 0 + N ≤ 528 := inb 4; have := k.isLt; omega
  rw [View.readAt_eq_ld, Memref.IsWhole.read_unread]
  refine Eq.trans (congrArg x ?_) (hx a b ⟨j, hj⟩ ⟨r, hr⟩ ⟨k.val, hk⟩ (hp _ k.isLt))
  funext e; apply Fin.ext
  match e with
  | ⟨0, _⟩ => show 0 + 1 * a.val = a.val; omega
  | ⟨1, _⟩ => show 0 + 1 * b.val = b.val; omega
  | ⟨2, _⟩ => show j + 1 * c.val = j; omega
  | ⟨3, _⟩ => show r + 1 * d.val = r; omega
  | ⟨4, _⟩ => show 0 + 1 * k.val = k.val; omega

/-! ## Stores by rows -/

section
variable {Val : EltTy → Type} {e : EltTy} [∀ e, Nonempty (Val e)]

/-- A list of stores by rows, newest first, leaves `F` in `n` rows from row `a` on. -/
def Rows (L : List (View.Piece Val ⟨2, ![2064, 128]⟩ e)) (a n : ℕ) (F : ℕ → ℕ → Val e) : Prop :=
  ∀ (i : Fin 2064) (l : Fin 128), a ≤ i.val → i.val < a + n → View.canon L (ix2 i l) = F i.val l.val

/-- The newest store is found at its rows. -/
theorem Rows.hit {L : List (View.Piece Val ⟨2, ![2064, 128]⟩ e)} {F : ℕ → ℕ → Val e} (a : ℕ)
    (inb : ∀ c, (![a, 0] : Fin 2 → ℕ) c + (![M, 128] : Fin 2 → ℕ) c ≤ (⟨2, ![2064, 128]⟩ : Shape).size c)
    (w : (⟨2, ![M, 128]⟩ : Shape).Idx → Val e) (hw : ∀ (i : Fin M) (l : Fin 128), w (ix2 i l) = F (a + i.val) l.val) :
    Rows (⟨Rect.unit (s := ⟨2, ![2064, 128]⟩) ![a, 0] ![M, 128] inb, w⟩ :: L) a M F := fun i l h1 h2 => by
  have hx : (Rect.unit (s := ⟨2, ![2064, 128]⟩) ![a, 0] ![M, 128] inb).emb (ix2 (⟨i.val - a, by omega⟩ : Fin M) l) = ix2 i l := by
    funext c; apply Fin.ext
    match c with
    | ⟨0, _⟩ => show a + 1 * (i.val - a) = i.val; omega
    | ⟨1, _⟩ => show 0 + 1 * l.val = l.val; omega
  rw [← hx, View.canon_cons_emb]
  refine (hw _ _).trans ?_
  show F (a + (i.val - a)) l.val = _
  rw [Nat.add_sub_cancel' h1]

/-- A store into other rows is passed over. -/
theorem Rows.skip {L : List (View.Piece Val ⟨2, ![2064, 128]⟩ e)} {F : ℕ → ℕ → Val e} {a n : ℕ} (a' : ℕ)
    (inb : ∀ c, (![a', 0] : Fin 2 → ℕ) c + (![M, 128] : Fin 2 → ℕ) c ≤ (⟨2, ![2064, 128]⟩ : Shape).size c)
    (w : (⟨2, ![M, 128]⟩ : Shape).Idx → Val e) (h : a + n ≤ a' ∨ a' + M ≤ a) (hL : Rows L a n F) :
    Rows (⟨Rect.unit (s := ⟨2, ![2064, 128]⟩) ![a', 0] ![M, 128] inb, w⟩ :: L) a n F := fun i l h1 h2 => by
  rw [View.canon_cons_of_not_mem]
  · exact hL i l h1 h2
  · intro hm
    obtain ⟨k, hk, he⟩ := (LoadRect.mem_set _).1 hm 0
    have hk : k < M := hk
    have he : i.val = a' + 1 * k := he
    omega

/-- A load of the rows reads what the stores leave there. -/
theorem Rows.load {L : List (View.Piece Val ⟨2, ![2064, 128]⟩ e)} {F : ℕ → ℕ → Val e} {a n : ℕ} (hL : Rows L a n F)
    (v : View sig κ sp ⟨2, ![2064, 128]⟩ e)
    (inb : ∀ c, (![a, 0] : Fin 2 → ℕ) c + (![n, 128] : Fin 2 → ℕ) c ≤ (⟨2, ![2064, 128]⟩ : Shape).size c) (i : Fin n) (l : Fin 128) :
    v.readCov L (Rect.unit (s := ⟨2, ![2064, 128]⟩) ![a, 0] ![n, 128] inb).toLoadRect (ix2 i l) = F (a + i.val) l.val := by
  have hi : a + i.val < 2064 := by have h0 : a + n ≤ 2064 := inb 0; have := i.isLt; omega
  rw [View.readCov_eq_canon']
  refine Eq.trans (congrArg (View.canon L) ?_) (hL ⟨a + i.val, hi⟩ l (Nat.le_add_right _ _) (by have := i.isLt; show a + i.val < a + n; omega))
  funext c; apply Fin.ext
  match c with
  | ⟨0, _⟩ => show a + 1 * i.val = a + i.val; omega
  | ⟨1, _⟩ => show 0 + 1 * l.val = l.val; omega

/-- Four stores that tile the rows leave `F` everywhere. -/
theorem Rows.all {L : List (View.Piece Val ⟨2, ![2064, 128]⟩ e)} {F : ℕ → ℕ → Val e} (h0 : Rows L 0 512 F)
    (h1 : Rows L 512 512 F) (h2 : Rows L 1024 512 F) (h3 : Rows L 1536 528 F) (i : Fin 2064) (l : Fin 128) :
    View.canon L (ix2 i l) = F i.val l.val := by
  have := i.isLt
  by_cases c1 : i.val < 512
  · exact h0 i l (by omega) (by omega)
  by_cases c2 : i.val < 1024
  · exact h1 i l (by omega) (by omega)
  by_cases c3 : i.val < 1536
  · exact h2 i l (by omega) (by omega)
  · exact h3 i l (by omega) (by omega)

end

/-- The newest store of real numbers is found at its rows, in the narrow format. -/
theorem Rows.hit_bf16 {L : List (View.Piece (Elt Ideal) ⟨2, ![2064, 128]⟩ .bf16)} {f : ℕ → ℕ → ℝ} (a : ℕ)
    {inb : ∀ c, (![a, 0] : Fin 2 → ℕ) c + (![M, 128] : Fin 2 → ℕ) c ≤ (⟨2, ![2064, 128]⟩ : Shape).size c}
    {w : (⟨2, ![M, 128]⟩ : Shape).Idx → EReal} (hw : R2 w fun i l => f (a + i) l) :
    Rows (Val := Elt Ideal) (e := .bf16) (⟨Rect.unit (s := ⟨2, ![2064, 128]⟩) ![a, 0] ![M, 128] inb, w⟩ :: L) a M
      fun i l => ((f i l : ℝ) : EReal) :=
  Rows.hit (Val := Elt Ideal) (e := .bf16) (F := fun i l => ((f i l : ℝ) : EReal)) a inb w fun i l => hw i l

/-- The newest store of real numbers is found at its rows, in the wide format. -/
theorem Rows.hit_f32 {L : List (View.Piece (Elt Ideal) ⟨2, ![2064, 128]⟩ .f32)} {f : ℕ → ℕ → ℝ} (a : ℕ)
    {inb : ∀ c, (![a, 0] : Fin 2 → ℕ) c + (![M, 128] : Fin 2 → ℕ) c ≤ (⟨2, ![2064, 128]⟩ : Shape).size c}
    {w : (⟨2, ![M, 128]⟩ : Shape).Idx → EReal} (hw : R2 w fun i l => f (a + i) l) :
    Rows (Val := Elt Ideal) (e := .f32) (⟨Rect.unit (s := ⟨2, ![2064, 128]⟩) ![a, 0] ![M, 128] inb, w⟩ :: L) a M
      fun i l => ((f i l : ℝ) : EReal) :=
  Rows.hit (Val := Elt Ideal) (e := .f32) (F := fun i l => ((f i l : ℝ) : EReal)) a inb w fun i l => hw i l

/-- A fill with zeros leaves zero. -/
theorem Rows.fill {z : (⟨2, ![2064, 128]⟩ : Shape).Idx → EReal} (hz : ∀ y, z y = 0)
    (inb : ∀ c, (![0, 0] : Fin 2 → ℕ) c + (![2064, 128] : Fin 2 → ℕ) c ≤ (⟨2, ![2064, 128]⟩ : Shape).size c)
    (a n : ℕ) :
    Rows (Val := Elt Ideal) (e := .f32) [⟨Rect.unit (s := ⟨2, ![2064, 128]⟩) ![0, 0] ![2064, 128] inb, z⟩] a n
      fun _ _ => ((0 : ℝ) : EReal) := fun i l _ _ => by
  have hx : (Rect.unit (s := ⟨2, ![2064, 128]⟩) ![0, 0] ![2064, 128] inb).emb (ix2 i l) = ix2 i l := by
    funext c; apply Fin.ext
    match c with
    | ⟨0, _⟩ => show 0 + 1 * i.val = i.val; omega
    | ⟨1, _⟩ => show 0 + 1 * l.val = l.val; omega
  rw [← hx, View.canon_cons_emb]
  exact (hz _).trans EReal.coe_zero.symm

/-- A load of rows of real numbers reads what the stores leave there. -/
theorem Rows.load_f32 {L : List (View.Piece (Elt Ideal) ⟨2, ![2064, 128]⟩ .f32)} {f : ℕ → ℕ → ℝ} {a n : ℕ}
    (hL : Rows (Val := Elt Ideal) (e := .f32) L a n fun i l => ((f i l : ℝ) : EReal))
    (v : View sig κ sp ⟨2, ![2064, 128]⟩ .f32)
    (inb : ∀ c, (![a, 0] : Fin 2 → ℕ) c + (![n, 128] : Fin 2 → ℕ) c ≤ (⟨2, ![2064, 128]⟩ : Shape).size c) :
    R2 (M := n) (N := 128) (v.readCov L (Rect.unit (s := ⟨2, ![2064, 128]⟩) ![a, 0] ![n, 128] inb).toLoadRect)
      fun i l => f (a + i) l := fun i l =>
  Rows.load (Val := Elt Ideal) (e := .f32) (F := fun i l => ((f i l : ℝ) : EReal)) hL v inb i l

/-! ## Stores by slabs -/

/-- A list of stores by slabs, newest first, leaves the real numbers `f` in the first `n` columns of slab `j`. -/
def Slab (L : List (View.Piece (Elt Ideal) ⟨3, ![4, 128, 640]⟩ .f32)) (j n : ℕ) (f : ℕ → ℕ → ℝ) : Prop :=
  ∀ (u : Fin 4) (l : Fin 128) (k : Fin 640), u.val = j → k.val < n → View.canon L (ix3 u l k) = ((f l.val k.val : ℝ) : EReal)

/-- The newest store is found at its slab. -/
theorem Slab.hit {L : List (View.Piece (Elt Ideal) ⟨3, ![4, 128, 640]⟩ .f32)} {f : ℕ → ℕ → ℝ} (j : ℕ)
    (inb : ∀ c, (![j, 0, 0] : Fin 3 → ℕ) c + (![1, 128, N] : Fin 3 → ℕ) c ≤ (⟨3, ![4, 128, 640]⟩ : Shape).size c)
    {w : (⟨3, ![1, 128, N]⟩ : Shape).Idx → EReal} (hw : R3 w f) :
    Slab (⟨Rect.unit (s := ⟨3, ![4, 128, 640]⟩) ![j, 0, 0] ![1, 128, N] inb, w⟩ :: L) j N f := fun u l k hu hk => by
  have hx : (Rect.unit (s := ⟨3, ![4, 128, 640]⟩) ![j, 0, 0] ![1, 128, N] inb).emb
      (ix3 (0 : Fin 1) l (⟨k.val, hk⟩ : Fin N)) = ix3 u l k := by
    funext c; apply Fin.ext
    match c with
    | ⟨0, _⟩ => show j + 1 * 0 = u.val; omega
    | ⟨1, _⟩ => show 0 + 1 * l.val = l.val; omega
    | ⟨2, _⟩ => show 0 + 1 * k.val = k.val; omega
  rw [← hx, View.canon_cons_emb]
  exact hw 0 l ⟨k.val, hk⟩

/-- A store into another slab is passed over. -/
theorem Slab.skip {L : List (View.Piece (Elt Ideal) ⟨3, ![4, 128, 640]⟩ .f32)} {f : ℕ → ℕ → ℝ} {j n : ℕ} (j' : ℕ)
    (inb : ∀ c, (![j', 0, 0] : Fin 3 → ℕ) c + (![1, 128, N] : Fin 3 → ℕ) c ≤ (⟨3, ![4, 128, 640]⟩ : Shape).size c)
    {w : (⟨3, ![1, 128, N]⟩ : Shape).Idx → EReal} (h : j' ≠ j) (hL : Slab L j n f) :
    Slab (⟨Rect.unit (s := ⟨3, ![4, 128, 640]⟩) ![j', 0, 0] ![1, 128, N] inb, w⟩ :: L) j n f := fun u l k hu hk => by
  rw [View.canon_cons_of_not_mem]
  · exact hL u l k hu hk
  · intro hm
    obtain ⟨m, h1, he⟩ := (LoadRect.mem_set _).1 hm 0
    have h1 : m < 1 := h1
    have he : u.val = j' + 1 * m := he
    omega

/-- A fill with zeros leaves zero everywhere. -/
theorem Slab.fill {z : (⟨3, ![4, 128, 640]⟩ : Shape).Idx → EReal} (hz : ∀ y, z y = 0)
    (inb : ∀ c, (![0, 0, 0] : Fin 3 → ℕ) c + (![4, 128, 640] : Fin 3 → ℕ) c ≤ (⟨3, ![4, 128, 640]⟩ : Shape).size c)
    (L : List (View.Piece (Elt Ideal) ⟨3, ![4, 128, 640]⟩ .f32)) (j n : ℕ) :
    Slab (⟨Rect.unit (s := ⟨3, ![4, 128, 640]⟩) ![0, 0, 0] ![4, 128, 640] inb, z⟩ :: L) j n fun _ _ => 0 := fun u l k _ _ => by
  have hx : (Rect.unit (s := ⟨3, ![4, 128, 640]⟩) ![0, 0, 0] ![4, 128, 640] inb).emb (ix3 u l k) = ix3 u l k := by
    funext c; apply Fin.ext
    match c with
    | ⟨0, _⟩ => show 0 + 1 * u.val = u.val; omega
    | ⟨1, _⟩ => show 0 + 1 * l.val = l.val; omega
    | ⟨2, _⟩ => show 0 + 1 * k.val = k.val; omega
  rw [← hx, View.canon_cons_emb]
  exact hz _

/-- A load of the slab's columns reads what the stores leave there. -/
theorem Slab.load {L : List (View.Piece (Elt Ideal) ⟨3, ![4, 128, 640]⟩ .f32)} {j n : ℕ} {f : ℕ → ℕ → ℝ} (hL : Slab L j n f)
    (v : View sig κ sp ⟨3, ![4, 128, 640]⟩ .f32)
    (inb : ∀ c, (![j, 0, 0] : Fin 3 → ℕ) c + (![1, 128, n] : Fin 3 → ℕ) c ≤ (⟨3, ![4, 128, 640]⟩ : Shape).size c) :
    R3 (M := 128) (N := n) (v.readCov L (Rect.unit (s := ⟨3, ![4, 128, 640]⟩) ![j, 0, 0] ![1, 128, n] inb).toLoadRect) f := fun u l k => by
  have hj : j < 4 := by have h0 : j + 1 ≤ 4 := inb 0; omega
  have hk : k.val < 640 := by have h0 : 0 + n ≤ 640 := inb 2; have := k.isLt; omega
  rw [View.readCov_eq_canon']
  refine Eq.trans (congrArg (View.canon L) ?_) (hL ⟨j, hj⟩ l ⟨k.val, hk⟩ rfl k.isLt)
  funext c; apply Fin.ext
  match c with
  | ⟨0, _⟩ => show j + 1 * u.val = j; omega
  | ⟨1, _⟩ => show 0 + 1 * l.val = l.val; omega
  | ⟨2, _⟩ => show 0 + 1 * k.val = k.val; omega

/-- A whole slab loaded, turned, and cut to the positions that were stored. -/
theorem Slab.turn {L : List (View.Piece (Elt Ideal) ⟨3, ![4, 128, 640]⟩ .f32)} {j n : ℕ} {f : ℕ → ℕ → ℝ} (hL : Slab L j n f)
    (v : View sig κ sp ⟨3, ![4, 128, 640]⟩ .f32)
    (inb : ∀ c, (![j, 0, 0] : Fin 3 → ℕ) c + (![1, 128, 640] : Fin 3 → ℕ) c ≤ (⟨3, ![4, 128, 640]⟩ : Shape).size c)
    (h1 : (⟨3, ![1, 128, 640]⟩ : Shape).ShapeCasts ⟨2, ![128, 640]⟩)
    (h2 : (⟨2, ![128, 640]⟩ : Shape).Transposes [1, 0] ⟨2, ![640, 128]⟩)
    (h3 : (⟨2, ![640, 128]⟩ : Shape).Slices ![0, 0] ⟨2, ![n, 128]⟩) (h4 : FTy.bf16.bits < FTy.f32.bits) :
    R2 (truncf .bf16 (extractStridedSlice ⟨2, ![n, 128]⟩ ![0, 0] (transpose ⟨2, ![640, 128]⟩ [1, 0] (shapeCast ⟨2, ![128, 640]⟩
      (show FVec Ideal ⟨3, ![1, 128, 640]⟩ .f32 from
        v.readCov L (Rect.unit (s := ⟨3, ![4, 128, 640]⟩) ![j, 0, 0] ![1, 128, 640] inb).toLoadRect) h1) h2) h3) h4)
      fun i l => f l i := fun i l => by
  have hj : j < 4 := by have h0 : j + 1 ≤ 4 := inb 0; omega
  have hn : 0 + n ≤ 640 := h3.2 0
  have hk : i.val < 640 := by have := i.isLt; omega
  refine Eq.trans (b := transpose ⟨2, ![640, 128]⟩ [1, 0] (shapeCast ⟨2, ![128, 640]⟩
      (show FVec Ideal ⟨3, ![1, 128, 640]⟩ .f32 from
        v.readCov L (Rect.unit (s := ⟨3, ![4, 128, 640]⟩) ![j, 0, 0] ![1, 128, 640] inb).toLoadRect) h1) h2 (ix2 ⟨i.val, hk⟩ l)) ?_ ?_
  · refine congrArg (transpose ⟨2, ![640, 128]⟩ [1, 0] (shapeCast ⟨2, ![128, 640]⟩
      (show FVec Ideal ⟨3, ![1, 128, 640]⟩ .f32 from
        v.readCov L (Rect.unit (s := ⟨3, ![4, 128, 640]⟩) ![j, 0, 0] ![1, 128, 640] inb).toLoadRect) h1) h2) ?_
    funext a; apply Fin.ext
    match a with
    | ⟨0, _⟩ => exact Nat.zero_add _
    | ⟨1, _⟩ => exact Nat.zero_add _
  rw [transpose_ix2_apply, shapeCast_1ab_ab_apply]
  show v.readCov L (Rect.unit (s := ⟨3, ![4, 128, 640]⟩) ![j, 0, 0] ![1, 128, 640] inb).toLoadRect (ix3 0 l ⟨i.val, hk⟩) = _
  rw [View.readCov_eq_canon']
  refine Eq.trans (congrArg (View.canon L) ?_) (hL ⟨j, hj⟩ l ⟨i.val, hk⟩ rfl i.isLt)
  funext c; apply Fin.ext
  match c with
  | ⟨0, _⟩ => show j + 1 * 0 = j; omega
  | ⟨1, _⟩ => show 0 + 1 * l.val = l.val; omega
  | ⟨2, _⟩ => show 0 + 1 * i.val = i.val; omega

/-! ## Stores by rows of the key-side sums -/

/-- A list of stores by rows, newest first, leaves the real numbers `f` in the first `n` columns of row `r` of block `j`. -/
def Line (L : List (View.Piece (Elt Ideal) ⟨5, ![1, 1, 4, 8, 528]⟩ .f32)) (j r n : ℕ) (f : ℕ → ℝ) : Prop :=
  ∀ (a b : Fin 1) (u : Fin 4) (t : Fin 8) (k : Fin 528), u.val = j → t.val = r → k.val < n →
    View.canon L (ix5 a b u t k) = ((f k.val : ℝ) : EReal)

/-- The newest store is found at its row. -/
theorem Line.hit {L : List (View.Piece (Elt Ideal) ⟨5, ![1, 1, 4, 8, 528]⟩ .f32)} {f : ℕ → ℝ} (j r : ℕ)
    (inb : ∀ c, (![0, 0, j, r, 0] : Fin 5 → ℕ) c + (![1, 1, 1, 1, N] : Fin 5 → ℕ) c ≤ (⟨5, ![1, 1, 4, 8, 528]⟩ : Shape).size c)
    {w : (⟨5, ![1, 1, 1, 1, N]⟩ : Shape).Idx → EReal} (hw : R5 w f) :
    Line (⟨Rect.unit (s := ⟨5, ![1, 1, 4, 8, 528]⟩) ![0, 0, j, r, 0] ![1, 1, 1, 1, N] inb, w⟩ :: L) j r N f := fun a b u t k hu ht hk => by
  have hx : (Rect.unit (s := ⟨5, ![1, 1, 4, 8, 528]⟩) ![0, 0, j, r, 0] ![1, 1, 1, 1, N] inb).emb
      (ix5 (0 : Fin 1) (0 : Fin 1) (0 : Fin 1) (0 : Fin 1) (⟨k.val, hk⟩ : Fin N)) = ix5 a b u t k := by
    funext c; apply Fin.ext
    match c with
    | ⟨0, _⟩ => show 0 + 1 * 0 = a.val; omega
    | ⟨1, _⟩ => show 0 + 1 * 0 = b.val; omega
    | ⟨2, _⟩ => show j + 1 * 0 = u.val; omega
    | ⟨3, _⟩ => show r + 1 * 0 = t.val; omega
    | ⟨4, _⟩ => show 0 + 1 * k.val = k.val; omega
  rw [← hx, View.canon_cons_emb]
  exact hw 0 0 0 0 ⟨k.val, hk⟩

/-- A store into another row is passed over. -/
theorem Line.skip {L : List (View.Piece (Elt Ideal) ⟨5, ![1, 1, 4, 8, 528]⟩ .f32)} {f : ℕ → ℝ} {j r n : ℕ} (j' r' : ℕ)
    (inb : ∀ c, (![0, 0, j', r', 0] : Fin 5 → ℕ) c + (![1, 1, 1, 1, N] : Fin 5 → ℕ) c ≤ (⟨5, ![1, 1, 4, 8, 528]⟩ : Shape).size c)
    {w : (⟨5, ![1, 1, 1, 1, N]⟩ : Shape).Idx → EReal} (h : j' ≠ j ∨ r' ≠ r) (hL : Line L j r n f) :
    Line (⟨Rect.unit (s := ⟨5, ![1, 1, 4, 8, 528]⟩) ![0, 0, j', r', 0] ![1, 1, 1, 1, N] inb, w⟩ :: L) j r n f := fun a b u t k hu ht hk => by
  rw [View.canon_cons_of_not_mem]
  · exact hL a b u t k hu ht hk
  · intro hm
    obtain ⟨m, h1, he⟩ := (LoadRect.mem_set _).1 hm 2
    obtain ⟨m', h1', he'⟩ := (LoadRect.mem_set _).1 hm 3
    have h1 : m < 1 := h1
    have he : u.val = j' + 1 * m := he
    have h1' : m' < 1 := h1'
    have he' : t.val = r' + 1 * m' := he'
    omega

/-- A fill with zeros leaves zero everywhere. -/
theorem Line.fill {z : (⟨5, ![1, 1, 4, 8, 528]⟩ : Shape).Idx → EReal} (hz : ∀ y, z y = 0)
    (inb : ∀ c, (![0, 0, 0, 0, 0] : Fin 5 → ℕ) c + (![1, 1, 4, 8, 528] : Fin 5 → ℕ) c ≤ (⟨5, ![1, 1, 4, 8, 528]⟩ : Shape).size c)
    (L : List (View.Piece (Elt Ideal) ⟨5, ![1, 1, 4, 8, 528]⟩ .f32)) (j r n : ℕ) :
    Line (⟨Rect.unit (s := ⟨5, ![1, 1, 4, 8, 528]⟩) ![0, 0, 0, 0, 0] ![1, 1, 4, 8, 528] inb, z⟩ :: L) j r n fun _ => 0 :=
  fun a b u t k _ _ _ => by
  have hx : (Rect.unit (s := ⟨5, ![1, 1, 4, 8, 528]⟩) ![0, 0, 0, 0, 0] ![1, 1, 4, 8, 528] inb).emb (ix5 a b u t k) = ix5 a b u t k := by
    funext c; apply Fin.ext
    match c with
    | ⟨0, _⟩ => show 0 + 1 * a.val = a.val; omega
    | ⟨1, _⟩ => show 0 + 1 * b.val = b.val; omega
    | ⟨2, _⟩ => show 0 + 1 * u.val = u.val; omega
    | ⟨3, _⟩ => show 0 + 1 * t.val = t.val; omega
    | ⟨4, _⟩ => show 0 + 1 * k.val = k.val; omega
  rw [← hx, View.canon_cons_emb]
  exact hz _

/-- A load of the row reads what the stores leave there. -/
theorem Line.load {L : List (View.Piece (Elt Ideal) ⟨5, ![1, 1, 4, 8, 528]⟩ .f32)} {j r n : ℕ} {f : ℕ → ℝ} (hL : Line L j r n f)
    (v : View sig κ sp ⟨5, ![1, 1, 4, 8, 528]⟩ .f32)
    (inb : ∀ c, (![0, 0, j, r, 0] : Fin 5 → ℕ) c + (![1, 1, 1, 1, n] : Fin 5 → ℕ) c ≤ (⟨5, ![1, 1, 4, 8, 528]⟩ : Shape).size c) :
    R5 (N := n) (v.readCov L (Rect.unit (s := ⟨5, ![1, 1, 4, 8, 528]⟩) ![0, 0, j, r, 0] ![1, 1, 1, 1, n] inb).toLoadRect) f :=
  fun a b c d k => by
  have hj : j < 4 := by have h0 : j + 1 ≤ 4 := inb 2; omega
  have hr : r < 8 := by have h0 : r + 1 ≤ 8 := inb 3; omega
  have hk : k.val < 528 := by have h0 : 0 + n ≤ 528 := inb 4; have := k.isLt; omega
  rw [View.readCov_eq_canon']
  refine Eq.trans (congrArg (View.canon L) ?_) (hL a b ⟨j, hj⟩ ⟨r, hr⟩ ⟨k.val, hk⟩ rfl rfl k.isLt)
  funext e; apply Fin.ext
  match e with
  | ⟨0, _⟩ => show 0 + 1 * a.val = a.val; omega
  | ⟨1, _⟩ => show 0 + 1 * b.val = b.val; omega
  | ⟨2, _⟩ => show j + 1 * c.val = j; omega
  | ⟨3, _⟩ => show r + 1 * d.val = r; omega
  | ⟨4, _⟩ => show 0 + 1 * k.val = k.val; omega

/-- The same readings, the numbers said in another way. -/
theorem Line.congr {L : List (View.Piece (Elt Ideal) ⟨5, ![1, 1, 4, 8, 528]⟩ .f32)} {j r n : ℕ} {f g : ℕ → ℝ} (hL : Line L j r n f)
    (h : ∀ k, k < n → f k = g k) : Line L j r n g := fun a b u t k hu ht hk => by
  rw [hL a b u t k hu ht hk, h _ hk]

/-- The places of the key-side sums that hold one: the two rows of every block, up to the block's end. -/
def Inside (j r k : ℕ) : Prop := r < 2 ∧ k < (if j = 3 then 528 else 512)
/-- The places in an ordinary block. -/
theorem inside512 {j r k : ℕ} (hr : r < 2) (hk : k < 512) : Inside j r k := ⟨hr, by split <;> omega⟩
/-- The places in the last block. -/
theorem inside528 {r k : ℕ} (hr : r < 2) (hk : k < 528) : Inside 3 r k := ⟨hr, by rw [if_pos rfl]; exact hk⟩

/-- Eight stores of rows leave all sums. -/
theorem Line.all {L : List (View.Piece (Elt Ideal) ⟨5, ![1, 1, 4, 8, 528]⟩ .f32)} {f : ℕ → ℕ → ℕ → ℝ}
    (h00 : Line L 0 0 512 (f 0 0)) (h01 : Line L 0 1 512 (f 0 1)) (h10 : Line L 1 0 512 (f 1 0)) (h11 : Line L 1 1 512 (f 1 1))
    (h20 : Line L 2 0 512 (f 2 0)) (h21 : Line L 2 1 512 (f 2 1)) (h30 : Line L 3 0 528 (f 3 0)) (h31 : Line L 3 1 528 (f 3 1)) :
    Sums Inside (View.canon L) f := fun a b j r k hp => by
  obtain ⟨hr, hk⟩ := hp
  have hj := j.isLt
  obtain h | h | h | h : j.val = 0 ∨ j.val = 1 ∨ j.val = 2 ∨ j.val = 3 := by omega
  all_goals
    rw [h] at hk ⊢
    obtain h' | h' : r.val = 0 ∨ r.val = 1 := by omega
    all_goals rw [h']
  · exact h00 a b j r k h h' hk
  · exact h01 a b j r k h h' hk
  · exact h10 a b j r k h h' hk
  · exact h11 a b j r k h h' hk
  · exact h20 a b j r k h h' hk
  · exact h21 a b j r k h h' hk
  · exact h30 a b j r k h h' hk
  · exact h31 a b j r k h h' hk

/-- Off the two rows of every block, and past a block's end, there is zero. -/
def Rest (x : (⟨5, ![1, 1, 4, 8, 528]⟩ : Shape).Idx → EReal) : Prop :=
  ∀ (a b : Fin 1) (u : Fin 4) (t : Fin 8) (k : Fin 528), (2 ≤ t.val ∨ (u.val < 3 ∧ 512 ≤ k.val)) → x (ix5 a b u t k) = 0

/-- Off the two rows of every block, and past a block's end, the stores leave zero. -/
def Off (L : List (View.Piece (Elt Ideal) ⟨5, ![1, 1, 4, 8, 528]⟩ .f32)) : Prop :=
  ∀ (a b : Fin 1) (u : Fin 4) (t : Fin 8) (k : Fin 528), (2 ≤ t.val ∨ (u.val < 3 ∧ 512 ≤ k.val)) → View.canon L (ix5 a b u t k) = 0

/-- A store into one of the two rows changes nothing there. -/
theorem Off.skip {L : List (View.Piece (Elt Ideal) ⟨5, ![1, 1, 4, 8, 528]⟩ .f32)} (j r : ℕ)
    (inb : ∀ c, (![0, 0, j, r, 0] : Fin 5 → ℕ) c + (![1, 1, 1, 1, N] : Fin 5 → ℕ) c ≤ (⟨5, ![1, 1, 4, 8, 528]⟩ : Shape).size c)
    {w : (⟨5, ![1, 1, 1, 1, N]⟩ : Shape).Idx → EReal} (hr : r < 2) (h : j = 3 ∨ N = 512) (hL : Off L) :
    Off (⟨Rect.unit (s := ⟨5, ![1, 1, 4, 8, 528]⟩) ![0, 0, j, r, 0] ![1, 1, 1, 1, N] inb, w⟩ :: L) := fun a b u t k ho => by
  rw [View.canon_cons_of_not_mem]
  · exact hL a b u t k ho
  · intro hm
    obtain ⟨m, h1, he⟩ := (LoadRect.mem_set _).1 hm 2
    obtain ⟨m', h1', he'⟩ := (LoadRect.mem_set _).1 hm 3
    obtain ⟨m2, h12, he2⟩ := (LoadRect.mem_set _).1 hm 4
    have h1 : m < 1 := h1
    have he : u.val = j + 1 * m := he
    have h1' : m' < 1 := h1'
    have he' : t.val = r + 1 * m' := he'
    have h12 : m2 < N := h12
    have he2 : k.val = 0 + 1 * m2 := he2
    omega

/-- A fill with zeros leaves zero. -/
theorem Off.fill {z : (⟨5, ![1, 1, 4, 8, 528]⟩ : Shape).Idx → EReal} (hz : ∀ y, z y = 0)
    (inb : ∀ c, (![0, 0, 0, 0, 0] : Fin 5 → ℕ) c + (![1, 1, 4, 8, 528] : Fin 5 → ℕ) c ≤ (⟨5, ![1, 1, 4, 8, 528]⟩ : Shape).size c)
    (L : List (View.Piece (Elt Ideal) ⟨5, ![1, 1, 4, 8, 528]⟩ .f32)) :
    Off (⟨Rect.unit (s := ⟨5, ![1, 1, 4, 8, 528]⟩) ![0, 0, 0, 0, 0] ![1, 1, 4, 8, 528] inb, z⟩ :: L) := fun a b u t k _ =>
  Line.fill hz inb L u.val t.val 528 a b u t k rfl rfl k.isLt

end Cert.RealBlock
-- ==== Proof.StepQ.lean ====
/- What one grid step stores as the gradient of the queries, whether or not it is a batch's first step. -/
module

public import proofs.«01_k».proof.Proof.Gen.KernelIdeal.Frame
public import proofs.«01_k».proof.Proof.Tile
public import proofs.«01_k».proof.Proof.Store

@[expose] public section

set_option maxRecDepth 16384
set_option maxHeartbeats 2000000
noncomputable section
namespace Cert.KernelIdeal.Gen
open Idealize.ShloMosaic hiding ix1 ix2 ix3 ix4 ix5
open Idealize.ShloMosaic.ValueIdx Cert.RealBlock Cert.Attention Cert.KernelIdeal
open Idealize.ShloMosaic.TcCoe Idealize.SL.Sem

/-- A step's gradient of the queries. -/
theorem dq_step (c : Dev nD) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S2064x128 .bf16) (harg5 : arg5.IsWhole) (arg6 : Memref sig .tc .vmem S2064x128 .bf16) (harg6 : arg6.IsWhole) (arg7 : Memref sig .tc .vmem S2064x128 .f32) (harg7 : arg7.IsWhole) (arg8 : Memref sig .tc .vmem S1x1x4x8x528 .f32) (harg8 : arg8.IsWhole) (arg9 : Memref sig .tc .vmem S2064x128 .bf16) (harg9 : arg9.IsWhole) (arg10 : Memref sig .tc .vmem S2064x128 .bf16) (harg10 : arg10.IsWhole) (arg11 : Memref sig .tc .vmem S2064x128 .bf16) (harg11 : arg11.IsWhole) (arg12 : Memref sig .tc .vmem S1x1x4x8x528 .f32) (harg12 : arg12.IsWhole) (arg13 : Memref sig .tc .vmem S2064x128 .f32) (harg13 : arg13.IsWhole) (arg14 : Memref sig .tc .vmem S4x128x640 .f32) (harg14 : arg14.IsWhole) (arg15 : Memref sig .tc .vmem S4x128x640 .f32) (harg15 : arg15.IsWhole)
    (x0 : Vec Ideal S2064x128 .bf16) (x1 : Vec Ideal S2064x128 .bf16) (x2 : Vec Ideal S2064x128 .bf16) (x3 : Vec Ideal S2064x128 .bf16) (x4 : Vec Ideal S2064x128 .bf16) (x5 : Vec Ideal S2064x128 .f32) (x6 : Vec Ideal S1x1x4x8x528 .f32) (xo11 : Vec Ideal S2064x128 .f32) (X : Pair) (h0 : R2 x0 X.q) (h1 : R2 x1 X.k) (h2 : R2 x2 X.v) (h3 : R2 x3 X.o) (h4 : R2 x4 X.dout) (h5 : R2 x5 X.lse)
 (h6 : Sums Inside x6 fun j r k => X.cum r (512 * j + k)) (hF : X.first = 2 * (i 1).val) :
    (∀ hc0 : cond0_0 i, R2 (out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6) X.dq) ∧
    (∀ hc0 : ¬cond0_0 i, R2 (out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo11) X.dq) := by
  have hi : (i 1).val < 8 := (i 1).isLt
  have hn0 : X.first + 0 < 128 := by omega
  have hn1 : X.first + 1 < 128 := by omega
  have hw0 : Scalar.addi (Scalar.muli 2#32 (BitVec.ofNat 32 (i 1).val)) 0#32 = BitVec.ofNat 32 (X.first + 0) := by rw [hF]; exact word_lane _ 0
  have hw1 : Scalar.addi (Scalar.muli 2#32 (BitVec.ofNat 32 (i 1).val)) 1#32 = BitVec.ofNat 32 (X.first + 1) := by rw [hF]; exact word_lane _ 1
  constructor
  all_goals
    intro hc0
    frame_open
    rw [View.read_writes_junk_eq_canon]
    dsimp only [k0_pay166, k0_pay167, k0_pay233, k0_pay234, k0_pay277, k0_pay278, k0_pay279]
    refine Rows.all (Val := Elt Ideal) (e := .bf16) (F := fun i l => ((X.dq i l : ℝ) : EReal)) ?_ ?_ ?_ ?_
    · refine (Rows.skip _ _ _ (by omega) (Rows.skip _ _ _ (by omega) (Rows.skip _ _ _ (by omega) (Rows.hit_bf16 0 (R2.congr (R2.truncf (R2.mulf (tile_dq zeros_const (lanes1 _ (R2.load_bf16 harg3 h1 0 _) zeros_bf16) (R2.truncf (tile_dscore _ zeros_const (lanes1 _ (R2.load_bf16 harg6 h4 0 _) zeros_bf16) (R2.load_bf16 harg4 h2 0 _) (tile_delta _ _ _ _ (R2.extf (lanes1 _ (R2.load_bf16 harg6 h4 0 _) zeros_bf16) _) (R2.extf (R2.castSelf (R2.load_bf16 harg5 h3 0 _) _) _)) (tile_weight_diag _ _ _ _ _ rfl zeros_const zeros_f32 (lanes1 _ (tile_q2 rfl (R2.load_bf16 harg2 h0 0 _)) zeros_bf16) (R2.load_bf16 harg3 h1 0 _) (R5.load harg8 h6 0 1 (fun _ hk => inside512 (by decide) hk) _) (tile_logsum 1 _ _ _ _ _ _ hn1 hw1 (R2.load_f32 harg7 h5 0 _) zeros_f32) (by omega))) _) (tile_dq zeros_const (lanes0 _ (R2.load_bf16 harg3 h1 0 _) zeros_bf16) (R2.truncf (tile_dscore _ zeros_const (lanes0 _ (R2.load_bf16 harg6 h4 0 _) zeros_bf16) (R2.load_bf16 harg4 h2 0 _) (tile_delta _ _ _ _ (R2.extf (lanes0 _ (R2.load_bf16 harg6 h4 0 _) zeros_bf16) _) (R2.extf (R2.castSelf (R2.load_bf16 harg5 h3 0 _) _) _)) (tile_weight_diag _ _ _ _ _ rfl zeros_const zeros_f32 (lanes0 _ (tile_q2 rfl (R2.load_bf16 harg2 h0 0 _)) zeros_bf16) (R2.load_bf16 harg3 h1 0 _) (R5.load harg8 h6 0 0 (fun _ hk => inside512 (by decide) hk) _) (tile_logsum 0 _ _ _ _ _ _ hn0 hw0 (R2.load_f32 harg7 h5 0 _) zeros_f32) (by omega))) _) zeros_f32)) (R2.splat eighth_f32)) _) ?_)))))
      intro t l ht hl
      simp only [Pair.dq, Pair.dqPart_blocks, X.dqPart_after 0 (k0 := 512) (N := 512) (show 0 + t < 512 by omega), X.dqPart_after 1 (k0 := 512) (N := 512) (show 0 + t < 512 by omega), X.dqPart_after 0 (k0 := 1024) (N := 512) (show 0 + t < 1024 by omega), X.dqPart_after 1 (k0 := 1024) (N := 512) (show 0 + t < 1024 by omega), X.dqPart_after 0 (k0 := 1536) (N := 528) (show 0 + t < 1536 by omega), X.dqPart_after 1 (k0 := 1536) (N := 528) (show 0 + t < 1536 by omega)]; ring
    · refine (Rows.skip _ _ _ (by omega) (Rows.skip _ _ _ (by omega) (Rows.hit_bf16 512 (R2.congr (R2.truncf (R2.mulf (tile_dq zeros_const (lanes1 _ (R2.load_bf16 harg3 h1 512 _) zeros_bf16) (R2.truncf (tile_dscore _ zeros_const (lanes1 _ (R2.load_bf16 harg6 h4 512 _) zeros_bf16) (R2.load_bf16 harg4 h2 512 _) (tile_delta _ _ _ _ (R2.extf (lanes1 _ (R2.load_bf16 harg6 h4 512 _) zeros_bf16) _) (R2.extf (R2.castSelf (R2.load_bf16 harg5 h3 512 _) _) _)) (tile_weight_diag _ _ _ _ _ rfl zeros_const zeros_f32 (lanes1 _ (tile_q2 rfl (R2.load_bf16 harg2 h0 512 _)) zeros_bf16) (R2.load_bf16 harg3 h1 512 _) (R5.load harg8 h6 1 1 (fun _ hk => inside512 (by decide) hk) _) (tile_logsum 1 _ _ _ _ _ _ hn1 hw1 (R2.load_f32 harg7 h5 512 _) zeros_f32) (by omega))) _) (tile_dq zeros_const (lanes1 _ (R2.load_bf16 harg3 h1 0 _) zeros_bf16) (R2.truncf (tile_dscore _ zeros_const (lanes1 _ (R2.load_bf16 harg6 h4 512 _) zeros_bf16) (R2.load_bf16 harg4 h2 0 _) (tile_delta _ _ _ _ (R2.extf (lanes1 _ (R2.load_bf16 harg6 h4 512 _) zeros_bf16) _) (R2.extf (R2.castSelf (R2.load_bf16 harg5 h3 512 _) _) _)) (tile_weight_below _ _ _ rfl zeros_const (lanes1 _ (tile_q2 rfl (R2.load_bf16 harg2 h0 512 _)) zeros_bf16) (R2.load_bf16 harg3 h1 0 _) (R5.load harg8 h6 0 1 (fun _ hk => inside512 (by decide) hk) _) (tile_logsum 1 _ _ _ _ _ _ hn1 hw1 (R2.load_f32 harg7 h5 512 _) zeros_f32) (by omega))) _) (tile_dq zeros_const (lanes0 _ (R2.load_bf16 harg3 h1 512 _) zeros_bf16) (R2.truncf (tile_dscore _ zeros_const (lanes0 _ (R2.load_bf16 harg6 h4 512 _) zeros_bf16) (R2.load_bf16 harg4 h2 512 _) (tile_delta _ _ _ _ (R2.extf (lanes0 _ (R2.load_bf16 harg6 h4 512 _) zeros_bf16) _) (R2.extf (R2.castSelf (R2.load_bf16 harg5 h3 512 _) _) _)) (tile_weight_diag _ _ _ _ _ rfl zeros_const zeros_f32 (lanes0 _ (tile_q2 rfl (R2.load_bf16 harg2 h0 512 _)) zeros_bf16) (R2.load_bf16 harg3 h1 512 _) (R5.load harg8 h6 1 0 (fun _ hk => inside512 (by decide) hk) _) (tile_logsum 0 _ _ _ _ _ _ hn0 hw0 (R2.load_f32 harg7 h5 512 _) zeros_f32) (by omega))) _) (tile_dq zeros_const (lanes0 _ (R2.load_bf16 harg3 h1 0 _) zeros_bf16) (R2.truncf (tile_dscore _ zeros_const (lanes0 _ (R2.load_bf16 harg6 h4 512 _) zeros_bf16) (R2.load_bf16 harg4 h2 0 _) (tile_delta _ _ _ _ (R2.extf (lanes0 _ (R2.load_bf16 harg6 h4 512 _) zeros_bf16) _) (R2.extf (R2.castSelf (R2.load_bf16 harg5 h3 512 _) _) _)) (tile_weight_below _ _ _ rfl zeros_const (lanes0 _ (tile_q2 rfl (R2.load_bf16 harg2 h0 512 _)) zeros_bf16) (R2.load_bf16 harg3 h1 0 _) (R5.load harg8 h6 0 0 (fun _ hk => inside512 (by decide) hk) _) (tile_logsum 0 _ _ _ _ _ _ hn0 hw0 (R2.load_f32 harg7 h5 512 _) zeros_f32) (by omega))) _) zeros_f32)))) (R2.splat eighth_f32)) _) ?_))))
      intro t l ht hl
      simp only [Pair.dq, Pair.dqPart_blocks, X.dqPart_after 0 (k0 := 1024) (N := 512) (show 512 + t < 1024 by omega), X.dqPart_after 1 (k0 := 1024) (N := 512) (show 512 + t < 1024 by omega), X.dqPart_after 0 (k0 := 1536) (N := 528) (show 512 + t < 1536 by omega), X.dqPart_after 1 (k0 := 1536) (N := 528) (show 512 + t < 1536 by omega)]; ring
    · refine (Rows.skip _ _ _ (by omega) (Rows.hit_bf16 1024 (R2.congr (R2.truncf (R2.mulf (tile_dq zeros_const (lanes1 _ (R2.load_bf16 harg3 h1 1024 _) zeros_bf16) (R2.truncf (tile_dscore _ zeros_const (lanes1 _ (R2.load_bf16 harg6 h4 1024 _) zeros_bf16) (R2.load_bf16 harg4 h2 1024 _) (tile_delta _ _ _ _ (R2.extf (lanes1 _ (R2.load_bf16 harg6 h4 1024 _) zeros_bf16) _) (R2.extf (R2.castSelf (R2.load_bf16 harg5 h3 1024 _) _) _)) (tile_weight_diag _ _ _ _ _ rfl zeros_const zeros_f32 (lanes1 _ (tile_q2 rfl (R2.load_bf16 harg2 h0 1024 _)) zeros_bf16) (R2.load_bf16 harg3 h1 1024 _) (R5.load harg8 h6 2 1 (fun _ hk => inside512 (by decide) hk) _) (tile_logsum 1 _ _ _ _ _ _ hn1 hw1 (R2.load_f32 harg7 h5 1024 _) zeros_f32) (by omega))) _) (tile_dq zeros_const (lanes1 _ (R2.load_bf16 harg3 h1 512 _) zeros_bf16) (R2.truncf (tile_dscore _ zeros_const (lanes1 _ (R2.load_bf16 harg6 h4 1024 _) zeros_bf16) (R2.load_bf16 harg4 h2 512 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 512 _) (R5.load harg8 h6 1 1 (fun _ hk => inside512 (by decide) hk) _) (tile_logsum 1 _ _ _ _ _ _ hn1 hw1 (R2.load_f32 harg7 h5 1024 _) zeros_f32) (by omega))) _) (tile_dq zeros_const (lanes1 _ (R2.load_bf16 harg3 h1 0 _) zeros_bf16) (R2.truncf (tile_dscore _ zeros_const (lanes1 _ (R2.load_bf16 harg6 h4 1024 _) zeros_bf16) (R2.load_bf16 harg4 h2 0 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 0 _) (R5.load harg8 h6 0 1 (fun _ hk => inside512 (by decide) hk) _) (tile_logsum 1 _ _ _ _ _ _ hn1 hw1 (R2.load_f32 harg7 h5 1024 _) zeros_f32) (by omega))) _) (tile_dq zeros_const (lanes0 _ (R2.load_bf16 harg3 h1 1024 _) zeros_bf16) (R2.truncf (tile_dscore _ zeros_const (lanes0 _ (R2.load_bf16 harg6 h4 1024 _) zeros_bf16) (R2.load_bf16 harg4 h2 1024 _) (tile_delta _ _ _ _ (R2.extf (lanes0 _ (R2.load_bf16 harg6 h4 1024 _) zeros_bf16) _) (R2.extf (R2.castSelf (R2.load_bf16 harg5 h3 1024 _) _) _)) (tile_weight_diag _ _ _ _ _ rfl zeros_const zeros_f32 (lanes0 _ (tile_q2 rfl (R2.load_bf16 harg2 h0 1024 _)) zeros_bf16) (R2.load_bf16 harg3 h1 1024 _) (R5.load harg8 h6 2 0 (fun _ hk => inside512 (by decide) hk) _) (tile_logsum 0 _ _ _ _ _ _ hn0 hw0 (R2.load_f32 harg7 h5 1024 _) zeros_f32) (by omega))) _) (tile_dq zeros_const (lanes0 _ (R2.load_bf16 harg3 h1 512 _) zeros_bf16) (R2.truncf (tile_dscore _ zeros_const (lanes0 _ (R2.load_bf16 harg6 h4 1024 _) zeros_bf16) (R2.load_bf16 harg4 h2 512 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 512 _) (R5.load harg8 h6 1 0 (fun _ hk => inside512 (by decide) hk) _) (tile_logsum 0 _ _ _ _ _ _ hn0 hw0 (R2.load_f32 harg7 h5 1024 _) zeros_f32) (by omega))) _) (tile_dq zeros_const (lanes0 _ (R2.load_bf16 harg3 h1 0 _) zeros_bf16) (R2.truncf (tile_dscore _ zeros_const (lanes0 _ (R2.load_bf16 harg6 h4 1024 _) zeros_bf16) (R2.load_bf16 harg4 h2 0 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 0 _) (R5.load harg8 h6 0 0 (fun _ hk => inside512 (by decide) hk) _) (tile_logsum 0 _ _ _ _ _ _ hn0 hw0 (R2.load_f32 harg7 h5 1024 _) zeros_f32) (by omega))) _) zeros_f32)))))) (R2.splat eighth_f32)) _) ?_)))
      intro t l ht hl
      simp only [Pair.dq, Pair.dqPart_blocks, X.dqPart_after 0 (k0 := 1536) (N := 528) (show 1024 + t < 1536 by omega), X.dqPart_after 1 (k0 := 1536) (N := 528) (show 1024 + t < 1536 by omega)]; ring
    · refine (Rows.hit_bf16 1536 (R2.congr (R2.truncf (R2.mulf (tile_dq zeros_const (lanes1 _ (R2.load_bf16 harg3 h1 1536 _) zeros_bf16) (R2.truncf (tile_dscore _ zeros_const (lanes1 _ (R2.load_bf16 harg6 h4 1536 _) zeros_bf16) (R2.load_bf16 harg4 h2 1536 _) (tile_delta _ _ _ _ (R2.extf (lanes1 _ (R2.load_bf16 harg6 h4 1536 _) zeros_bf16) _) (R2.extf (R2.castSelf (R2.load_bf16 harg5 h3 1536 _) _) _)) (tile_weight_diag _ _ _ _ _ rfl zeros_const zeros_f32 (lanes1 _ (tile_q2 rfl (R2.load_bf16 harg2 h0 1536 _)) zeros_bf16) (R2.load_bf16 harg3 h1 1536 _) (R5.load harg8 h6 3 1 (fun _ hk => inside528 (by decide) hk) _) (tile_logsum 1 _ _ _ _ _ _ hn1 hw1 (R2.load_f32 harg7 h5 1536 _) zeros_f32) (by omega))) _) (tile_dq zeros_const (lanes1 _ (R2.load_bf16 harg3 h1 1024 _) zeros_bf16) (R2.truncf (tile_dscore _ zeros_const (lanes1 _ (R2.load_bf16 harg6 h4 1536 _) zeros_bf16) (R2.load_bf16 harg4 h2 1024 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 1024 _) (R5.load harg8 h6 2 1 (fun _ hk => inside512 (by decide) hk) _) (tile_logsum 1 _ _ _ _ _ _ hn1 hw1 (R2.load_f32 harg7 h5 1536 _) zeros_f32) (by omega))) _) (tile_dq zeros_const (lanes1 _ (R2.load_bf16 harg3 h1 512 _) zeros_bf16) (R2.truncf (tile_dscore _ zeros_const (lanes1 _ (R2.load_bf16 harg6 h4 1536 _) zeros_bf16) (R2.load_bf16 harg4 h2 512 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 512 _) (R5.load harg8 h6 1 1 (fun _ hk => inside512 (by decide) hk) _) (tile_logsum 1 _ _ _ _ _ _ hn1 hw1 (R2.load_f32 harg7 h5 1536 _) zeros_f32) (by omega))) _) (tile_dq zeros_const (lanes1 _ (R2.load_bf16 harg3 h1 0 _) zeros_bf16) (R2.truncf (tile_dscore _ zeros_const (lanes1 _ (R2.load_bf16 harg6 h4 1536 _) zeros_bf16) (R2.load_bf16 harg4 h2 0 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 0 _) (R5.load harg8 h6 0 1 (fun _ hk => inside512 (by decide) hk) _) (tile_logsum 1 _ _ _ _ _ _ hn1 hw1 (R2.load_f32 harg7 h5 1536 _) zeros_f32) (by omega))) _) (tile_dq zeros_const (lanes0 _ (R2.load_bf16 harg3 h1 1536 _) zeros_bf16) (R2.truncf (tile_dscore _ zeros_const (lanes0 _ (R2.load_bf16 harg6 h4 1536 _) zeros_bf16) (R2.load_bf16 harg4 h2 1536 _) (tile_delta _ _ _ _ (R2.extf (lanes0 _ (R2.load_bf16 harg6 h4 1536 _) zeros_bf16) _) (R2.extf (R2.castSelf (R2.load_bf16 harg5 h3 1536 _) _) _)) (tile_weight_diag _ _ _ _ _ rfl zeros_const zeros_f32 (lanes0 _ (tile_q2 rfl (R2.load_bf16 harg2 h0 1536 _)) zeros_bf16) (R2.load_bf16 harg3 h1 1536 _) (R5.load harg8 h6 3 0 (fun _ hk => inside528 (by decide) hk) _) (tile_logsum 0 _ _ _ _ _ _ hn0 hw0 (R2.load_f32 harg7 h5 1536 _) zeros_f32) (by omega))) _) (tile_dq zeros_const (lanes0 _ (R2.load_bf16 harg3 h1 1024 _) zeros_bf16) (R2.truncf (tile_dscore _ zeros_const (lanes0 _ (R2.load_bf16 harg6 h4 1536 _) zeros_bf16) (R2.load_bf16 harg4 h2 1024 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 1024 _) (R5.load harg8 h6 2 0 (fun _ hk => inside512 (by decide) hk) _) (tile_logsum 0 _ _ _ _ _ _ hn0 hw0 (R2.load_f32 harg7 h5 1536 _) zeros_f32) (by omega))) _) (tile_dq zeros_const (lanes0 _ (R2.load_bf16 harg3 h1 512 _) zeros_bf16) (R2.truncf (tile_dscore _ zeros_const (lanes0 _ (R2.load_bf16 harg6 h4 1536 _) zeros_bf16) (R2.load_bf16 harg4 h2 512 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 512 _) (R5.load harg8 h6 1 0 (fun _ hk => inside512 (by decide) hk) _) (tile_logsum 0 _ _ _ _ _ _ hn0 hw0 (R2.load_f32 harg7 h5 1536 _) zeros_f32) (by omega))) _) (tile_dq zeros_const (lanes0 _ (R2.load_bf16 harg3 h1 0 _) zeros_bf16) (R2.truncf (tile_dscore _ zeros_const (lanes0 _ (R2.load_bf16 harg6 h4 1536 _) zeros_bf16) (R2.load_bf16 harg4 h2 0 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 0 _) (R5.load harg8 h6 0 0 (fun _ hk => inside512 (by decide) hk) _) (tile_logsum 0 _ _ _ _ _ _ hn0 hw0 (R2.load_f32 harg7 h5 1536 _) zeros_f32) (by omega))) _) zeros_f32)))))))) (R2.splat eighth_f32)) _) ?_))
      intro t l ht hl
      simp only [Pair.dq, Pair.dqPart_blocks]; ring

end Cert.KernelIdeal.Gen
-- ==== Proof.StepK.lean ====
/- What one grid step stores as the gradient of the keys, whether or not it is a batch's first step. The step adds it up in
   slabs of 128 lanes by up to 528 keys, which it turns over at the end. -/
module

public import proofs.«01_k».proof.Proof.Gen.KernelIdeal.Frame
public import proofs.«01_k».proof.Proof.Tile
public import proofs.«01_k».proof.Proof.Store

@[expose] public section

set_option maxRecDepth 16384
set_option maxHeartbeats 2000000
noncomputable section
namespace Cert.KernelIdeal.Gen
open Idealize.ShloMosaic hiding ix1 ix2 ix3 ix4 ix5
open Idealize.ShloMosaic.ValueIdx Cert.RealBlock Cert.Attention Cert.KernelIdeal
open Idealize.ShloMosaic.TcCoe Idealize.SL.Sem

/-- A step's gradient of the keys. -/
theorem dk_step (c : Dev nD) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S2064x128 .bf16) (harg5 : arg5.IsWhole) (arg6 : Memref sig .tc .vmem S2064x128 .bf16) (harg6 : arg6.IsWhole) (arg7 : Memref sig .tc .vmem S2064x128 .f32) (harg7 : arg7.IsWhole) (arg8 : Memref sig .tc .vmem S1x1x4x8x528 .f32) (harg8 : arg8.IsWhole) (arg9 : Memref sig .tc .vmem S2064x128 .bf16) (harg9 : arg9.IsWhole) (arg10 : Memref sig .tc .vmem S2064x128 .bf16) (harg10 : arg10.IsWhole) (arg11 : Memref sig .tc .vmem S2064x128 .bf16) (harg11 : arg11.IsWhole) (arg12 : Memref sig .tc .vmem S1x1x4x8x528 .f32) (harg12 : arg12.IsWhole) (arg13 : Memref sig .tc .vmem S2064x128 .f32) (harg13 : arg13.IsWhole) (arg14 : Memref sig .tc .vmem S4x128x640 .f32) (harg14 : arg14.IsWhole) (arg15 : Memref sig .tc .vmem S4x128x640 .f32) (harg15 : arg15.IsWhole)
    (x0 : Vec Ideal S2064x128 .bf16) (x1 : Vec Ideal S2064x128 .bf16) (x2 : Vec Ideal S2064x128 .bf16) (x3 : Vec Ideal S2064x128 .bf16) (x4 : Vec Ideal S2064x128 .bf16) (x5 : Vec Ideal S2064x128 .f32) (x6 : Vec Ideal S1x1x4x8x528 .f32) (xo11 : Vec Ideal S2064x128 .f32) (X : Pair) (h0 : R2 x0 X.q) (h1 : R2 x1 X.k) (h2 : R2 x2 X.v) (h3 : R2 x3 X.o) (h4 : R2 x4 X.dout) (h5 : R2 x5 X.lse)
 (h6 : Sums Inside x6 fun j r k => X.cum r (512 * j + k)) (hF : X.first = 2 * (i 1).val) :
    (∀ hc0 : cond0_0 i, R2 (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6) X.dk) ∧
    (∀ hc0 : ¬cond0_0 i, R2 (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo11) X.dk) := by
  have hi : (i 1).val < 8 := (i 1).isLt
  have hn0 : X.first + 0 < 128 := by omega
  have hn1 : X.first + 1 < 128 := by omega
  have hw0 : Scalar.addi (Scalar.muli 2#32 (BitVec.ofNat 32 (i 1).val)) 0#32 = BitVec.ofNat 32 (X.first + 0) := by rw [hF]; exact word_lane _ 0
  have hw1 : Scalar.addi (Scalar.muli 2#32 (BitVec.ofNat 32 (i 1).val)) 1#32 = BitVec.ofNat 32 (X.first + 1) := by rw [hF]; exact word_lane _ 1
  constructor
  all_goals
    intro hc0
    frame_open
    rw [View.read_writes_junk_eq_canon]
    dsimp only [k0_pay166, k0_pay167, k0_pay233, k0_pay234, k0_pay277, k0_pay278, k0_pay279]
    refine Rows.all (Val := Elt Ideal) (e := .bf16) (F := fun i l => ((X.dk i l : ℝ) : EReal)) ?_ ?_ ?_ ?_
    · refine (Rows.skip _ _ _ (by omega) (Rows.skip _ _ _ (by omega) (Rows.skip _ _ _ (by omega) (Rows.hit_bf16 0 (R2.congr (Slab.turn (Slab.skip 3 _ (by decide) (Slab.skip 2 _ (by decide) (Slab.skip 1 _ (by decide) (Slab.hit 0 _ (tile_dk _ _ zeros_const (lanes1 _ (tile_qs (R2.load_bf16 harg2 h0 1536 _)) zeros_bf16) (R2.truncf (tile_dscore _ zeros_const (lanes1 _ (R2.load_bf16 harg6 h4 1536 _) zeros_bf16) (R2.load_bf16 harg4 h2 0 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 0 _) (R5.load harg8 h6 0 1 (fun _ hk => inside512 (by decide) hk) _) (tile_logsum 1 _ _ _ _ _ _ hn1 hw1 (R2.load_f32 harg7 h5 1536 _) zeros_f32) (by omega))) _) (Slab.load (Slab.skip 3 _ (by decide) (Slab.skip 2 _ (by decide) (Slab.skip 1 _ (by decide) (Slab.hit 0 _ (tile_dk _ _ zeros_const (lanes0 _ (tile_qs (R2.load_bf16 harg2 h0 1536 _)) zeros_bf16) (R2.truncf (tile_dscore _ zeros_const (lanes0 _ (R2.load_bf16 harg6 h4 1536 _) zeros_bf16) (R2.load_bf16 harg4 h2 0 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 0 _) (R5.load harg8 h6 0 0 (fun _ hk => inside512 (by decide) hk) _) (tile_logsum 0 _ _ _ _ _ _ hn0 hw0 (R2.load_f32 harg7 h5 1536 _) zeros_f32) (by omega))) _) (Slab.load (Slab.skip 2 _ (by decide) (Slab.skip 1 _ (by decide) (Slab.hit 0 _ (tile_dk _ _ zeros_const (lanes1 _ (tile_qs (R2.load_bf16 harg2 h0 1024 _)) zeros_bf16) (R2.truncf (tile_dscore _ zeros_const (lanes1 _ (R2.load_bf16 harg6 h4 1024 _) zeros_bf16) (R2.load_bf16 harg4 h2 0 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 0 _) (R5.load harg8 h6 0 1 (fun _ hk => inside512 (by decide) hk) _) (tile_logsum 1 _ _ _ _ _ _ hn1 hw1 (R2.load_f32 harg7 h5 1024 _) zeros_f32) (by omega))) _) (Slab.load (Slab.skip 2 _ (by decide) (Slab.skip 1 _ (by decide) (Slab.hit 0 _ (tile_dk _ _ zeros_const (lanes0 _ (tile_qs (R2.load_bf16 harg2 h0 1024 _)) zeros_bf16) (R2.truncf (tile_dscore _ zeros_const (lanes0 _ (R2.load_bf16 harg6 h4 1024 _) zeros_bf16) (R2.load_bf16 harg4 h2 0 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 0 _) (R5.load harg8 h6 0 0 (fun _ hk => inside512 (by decide) hk) _) (tile_logsum 0 _ _ _ _ _ _ hn0 hw0 (R2.load_f32 harg7 h5 1024 _) zeros_f32) (by omega))) _) (Slab.load (Slab.skip 1 _ (by decide) (Slab.hit 0 _ (tile_dk _ _ zeros_const (lanes1 _ (tile_qs (R2.load_bf16 harg2 h0 512 _)) zeros_bf16) (R2.truncf (tile_dscore _ zeros_const (lanes1 _ (R2.load_bf16 harg6 h4 512 _) zeros_bf16) (R2.load_bf16 harg4 h2 0 _) (tile_delta _ _ _ _ (R2.extf (lanes1 _ (R2.load_bf16 harg6 h4 512 _) zeros_bf16) _) (R2.extf (R2.castSelf (R2.load_bf16 harg5 h3 512 _) _) _)) (tile_weight_below _ _ _ rfl zeros_const (lanes1 _ (tile_q2 rfl (R2.load_bf16 harg2 h0 512 _)) zeros_bf16) (R2.load_bf16 harg3 h1 0 _) (R5.load harg8 h6 0 1 (fun _ hk => inside512 (by decide) hk) _) (tile_logsum 1 _ _ _ _ _ _ hn1 hw1 (R2.load_f32 harg7 h5 512 _) zeros_f32) (by omega))) _) (Slab.load (Slab.skip 1 _ (by decide) (Slab.hit 0 _ (tile_dk _ _ zeros_const (lanes0 _ (tile_qs (R2.load_bf16 harg2 h0 512 _)) zeros_bf16) (R2.truncf (tile_dscore _ zeros_const (lanes0 _ (R2.load_bf16 harg6 h4 512 _) zeros_bf16) (R2.load_bf16 harg4 h2 0 _) (tile_delta _ _ _ _ (R2.extf (lanes0 _ (R2.load_bf16 harg6 h4 512 _) zeros_bf16) _) (R2.extf (R2.castSelf (R2.load_bf16 harg5 h3 512 _) _) _)) (tile_weight_below _ _ _ rfl zeros_const (lanes0 _ (tile_q2 rfl (R2.load_bf16 harg2 h0 512 _)) zeros_bf16) (R2.load_bf16 harg3 h1 0 _) (R5.load harg8 h6 0 0 (fun _ hk => inside512 (by decide) hk) _) (tile_logsum 0 _ _ _ _ _ _ hn0 hw0 (R2.load_f32 harg7 h5 512 _) zeros_f32) (by omega))) _) (Slab.load (Slab.hit 0 _ (tile_dk _ _ zeros_const (lanes1 _ (tile_qs (R2.load_bf16 harg2 h0 0 _)) zeros_bf16) (R2.truncf (tile_dscore _ zeros_const (lanes1 _ (R2.load_bf16 harg6 h4 0 _) zeros_bf16) (R2.load_bf16 harg4 h2 0 _) (tile_delta _ _ _ _ (R2.extf (lanes1 _ (R2.load_bf16 harg6 h4 0 _) zeros_bf16) _) (R2.extf (R2.castSelf (R2.load_bf16 harg5 h3 0 _) _) _)) (tile_weight_diag _ _ _ _ _ rfl zeros_const zeros_f32 (lanes1 _ (tile_q2 rfl (R2.load_bf16 harg2 h0 0 _)) zeros_bf16) (R2.load_bf16 harg3 h1 0 _) (R5.load harg8 h6 0 1 (fun _ hk => inside512 (by decide) hk) _) (tile_logsum 1 _ _ _ _ _ _ hn1 hw1 (R2.load_f32 harg7 h5 0 _) zeros_f32) (by omega))) _) (Slab.load (Slab.hit 0 _ (tile_dk _ _ zeros_const (lanes0 _ (tile_qs (R2.load_bf16 harg2 h0 0 _)) zeros_bf16) (R2.truncf (tile_dscore _ zeros_const (lanes0 _ (R2.load_bf16 harg6 h4 0 _) zeros_bf16) (R2.load_bf16 harg4 h2 0 _) (tile_delta _ _ _ _ (R2.extf (lanes0 _ (R2.load_bf16 harg6 h4 0 _) zeros_bf16) _) (R2.extf (R2.castSelf (R2.load_bf16 harg5 h3 0 _) _) _)) (tile_weight_diag _ _ _ _ _ rfl zeros_const zeros_f32 (lanes0 _ (tile_q2 rfl (R2.load_bf16 harg2 h0 0 _)) zeros_bf16) (R2.load_bf16 harg3 h1 0 _) (R5.load harg8 h6 0 0 (fun _ hk => inside512 (by decide) hk) _) (tile_logsum 0 _ _ _ _ _ _ hn0 hw0 (R2.load_f32 harg7 h5 0 _) zeros_f32) (by omega))) _) (Slab.load (Slab.fill (fun _ => Ideal.ofBits_zero_f32) _ _ _ _) _ _))) _ _))) _ _)))) _ _)))) _ _))))) _ _))))) _ _)))))) _ _)))))) _ _ _ _ _ _) ?_)))))
      intro t l ht hl
      simp only [Pair.dk, Pair.dkPart_blocks]; ring
    · refine (Rows.skip _ _ _ (by omega) (Rows.skip _ _ _ (by omega) (Rows.hit_bf16 512 (R2.congr (Slab.turn (Slab.skip 3 _ (by decide) (Slab.skip 2 _ (by decide) (Slab.hit 1 _ (tile_dk _ _ zeros_const (lanes1 _ (tile_qs (R2.load_bf16 harg2 h0 1536 _)) zeros_bf16) (R2.truncf (tile_dscore _ zeros_const (lanes1 _ (R2.load_bf16 harg6 h4 1536 _) zeros_bf16) (R2.load_bf16 harg4 h2 512 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 512 _) (R5.load harg8 h6 1 1 (fun _ hk => inside512 (by decide) hk) _) (tile_logsum 1 _ _ _ _ _ _ hn1 hw1 (R2.load_f32 harg7 h5 1536 _) zeros_f32) (by omega))) _) (Slab.load (Slab.skip 0 _ (by decide) (Slab.skip 3 _ (by decide) (Slab.skip 2 _ (by decide) (Slab.hit 1 _ (tile_dk _ _ zeros_const (lanes0 _ (tile_qs (R2.load_bf16 harg2 h0 1536 _)) zeros_bf16) (R2.truncf (tile_dscore _ zeros_const (lanes0 _ (R2.load_bf16 harg6 h4 1536 _) zeros_bf16) (R2.load_bf16 harg4 h2 512 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 512 _) (R5.load harg8 h6 1 0 (fun _ hk => inside512 (by decide) hk) _) (tile_logsum 0 _ _ _ _ _ _ hn0 hw0 (R2.load_f32 harg7 h5 1536 _) zeros_f32) (by omega))) _) (Slab.load (Slab.skip 0 _ (by decide) (Slab.skip 2 _ (by decide) (Slab.hit 1 _ (tile_dk _ _ zeros_const (lanes1 _ (tile_qs (R2.load_bf16 harg2 h0 1024 _)) zeros_bf16) (R2.truncf (tile_dscore _ zeros_const (lanes1 _ (R2.load_bf16 harg6 h4 1024 _) zeros_bf16) (R2.load_bf16 harg4 h2 512 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 512 _) (R5.load harg8 h6 1 1 (fun _ hk => inside512 (by decide) hk) _) (tile_logsum 1 _ _ _ _ _ _ hn1 hw1 (R2.load_f32 harg7 h5 1024 _) zeros_f32) (by omega))) _) (Slab.load (Slab.skip 0 _ (by decide) (Slab.skip 2 _ (by decide) (Slab.hit 1 _ (tile_dk _ _ zeros_const (lanes0 _ (tile_qs (R2.load_bf16 harg2 h0 1024 _)) zeros_bf16) (R2.truncf (tile_dscore _ zeros_const (lanes0 _ (R2.load_bf16 harg6 h4 1024 _) zeros_bf16) (R2.load_bf16 harg4 h2 512 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 512 _) (R5.load harg8 h6 1 0 (fun _ hk => inside512 (by decide) hk) _) (tile_logsum 0 _ _ _ _ _ _ hn0 hw0 (R2.load_f32 harg7 h5 1024 _) zeros_f32) (by omega))) _) (Slab.load (Slab.skip 0 _ (by decide) (Slab.hit 1 _ (tile_dk _ _ zeros_const (lanes1 _ (tile_qs (R2.load_bf16 harg2 h0 512 _)) zeros_bf16) (R2.truncf (tile_dscore _ zeros_const (lanes1 _ (R2.load_bf16 harg6 h4 512 _) zeros_bf16) (R2.load_bf16 harg4 h2 512 _) (tile_delta _ _ _ _ (R2.extf (lanes1 _ (R2.load_bf16 harg6 h4 512 _) zeros_bf16) _) (R2.extf (R2.castSelf (R2.load_bf16 harg5 h3 512 _) _) _)) (tile_weight_diag _ _ _ _ _ rfl zeros_const zeros_f32 (lanes1 _ (tile_q2 rfl (R2.load_bf16 harg2 h0 512 _)) zeros_bf16) (R2.load_bf16 harg3 h1 512 _) (R5.load harg8 h6 1 1 (fun _ hk => inside512 (by decide) hk) _) (tile_logsum 1 _ _ _ _ _ _ hn1 hw1 (R2.load_f32 harg7 h5 512 _) zeros_f32) (by omega))) _) (Slab.load (Slab.skip 0 _ (by decide) (Slab.hit 1 _ (tile_dk _ _ zeros_const (lanes0 _ (tile_qs (R2.load_bf16 harg2 h0 512 _)) zeros_bf16) (R2.truncf (tile_dscore _ zeros_const (lanes0 _ (R2.load_bf16 harg6 h4 512 _) zeros_bf16) (R2.load_bf16 harg4 h2 512 _) (tile_delta _ _ _ _ (R2.extf (lanes0 _ (R2.load_bf16 harg6 h4 512 _) zeros_bf16) _) (R2.extf (R2.castSelf (R2.load_bf16 harg5 h3 512 _) _) _)) (tile_weight_diag _ _ _ _ _ rfl zeros_const zeros_f32 (lanes0 _ (tile_q2 rfl (R2.load_bf16 harg2 h0 512 _)) zeros_bf16) (R2.load_bf16 harg3 h1 512 _) (R5.load harg8 h6 1 0 (fun _ hk => inside512 (by decide) hk) _) (tile_logsum 0 _ _ _ _ _ _ hn0 hw0 (R2.load_f32 harg7 h5 512 _) zeros_f32) (by omega))) _) (Slab.load (Slab.skip 0 _ (by decide) (Slab.skip 0 _ (by decide) (Slab.skip 0 _ (by decide) (Slab.fill (fun _ => Ideal.ofBits_zero_f32) _ _ _ _)))) _ _)))) _ _)))) _ _))))) _ _))))) _ _)))))) _ _))))) _ _ _ _ _ _) ?_))))
      intro t l ht hl
      simp only [Pair.dk, Pair.dkPart_blocks, X.dkPart_before 0 (q0 := 0) (M := 512) (show 0 + 512 ≤ 512 + t by omega), X.dkPart_before 1 (q0 := 0) (M := 512) (show 0 + 512 ≤ 512 + t by omega)]; ring
    · refine (Rows.skip _ _ _ (by omega) (Rows.hit_bf16 1024 (R2.congr (Slab.turn (Slab.skip 3 _ (by decide) (Slab.hit 2 _ (tile_dk _ _ zeros_const (lanes1 _ (tile_qs (R2.load_bf16 harg2 h0 1536 _)) zeros_bf16) (R2.truncf (tile_dscore _ zeros_const (lanes1 _ (R2.load_bf16 harg6 h4 1536 _) zeros_bf16) (R2.load_bf16 harg4 h2 1024 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 1024 _) (R5.load harg8 h6 2 1 (fun _ hk => inside512 (by decide) hk) _) (tile_logsum 1 _ _ _ _ _ _ hn1 hw1 (R2.load_f32 harg7 h5 1536 _) zeros_f32) (by omega))) _) (Slab.load (Slab.skip 1 _ (by decide) (Slab.skip 0 _ (by decide) (Slab.skip 3 _ (by decide) (Slab.hit 2 _ (tile_dk _ _ zeros_const (lanes0 _ (tile_qs (R2.load_bf16 harg2 h0 1536 _)) zeros_bf16) (R2.truncf (tile_dscore _ zeros_const (lanes0 _ (R2.load_bf16 harg6 h4 1536 _) zeros_bf16) (R2.load_bf16 harg4 h2 1024 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 1024 _) (R5.load harg8 h6 2 0 (fun _ hk => inside512 (by decide) hk) _) (tile_logsum 0 _ _ _ _ _ _ hn0 hw0 (R2.load_f32 harg7 h5 1536 _) zeros_f32) (by omega))) _) (Slab.load (Slab.skip 1 _ (by decide) (Slab.skip 0 _ (by decide) (Slab.hit 2 _ (tile_dk _ _ zeros_const (lanes1 _ (tile_qs (R2.load_bf16 harg2 h0 1024 _)) zeros_bf16) (R2.truncf (tile_dscore _ zeros_const (lanes1 _ (R2.load_bf16 harg6 h4 1024 _) zeros_bf16) (R2.load_bf16 harg4 h2 1024 _) (tile_delta _ _ _ _ (R2.extf (lanes1 _ (R2.load_bf16 harg6 h4 1024 _) zeros_bf16) _) (R2.extf (R2.castSelf (R2.load_bf16 harg5 h3 1024 _) _) _)) (tile_weight_diag _ _ _ _ _ rfl zeros_const zeros_f32 (lanes1 _ (tile_q2 rfl (R2.load_bf16 harg2 h0 1024 _)) zeros_bf16) (R2.load_bf16 harg3 h1 1024 _) (R5.load harg8 h6 2 1 (fun _ hk => inside512 (by decide) hk) _) (tile_logsum 1 _ _ _ _ _ _ hn1 hw1 (R2.load_f32 harg7 h5 1024 _) zeros_f32) (by omega))) _) (Slab.load (Slab.skip 1 _ (by decide) (Slab.skip 0 _ (by decide) (Slab.hit 2 _ (tile_dk _ _ zeros_const (lanes0 _ (tile_qs (R2.load_bf16 harg2 h0 1024 _)) zeros_bf16) (R2.truncf (tile_dscore _ zeros_const (lanes0 _ (R2.load_bf16 harg6 h4 1024 _) zeros_bf16) (R2.load_bf16 harg4 h2 1024 _) (tile_delta _ _ _ _ (R2.extf (lanes0 _ (R2.load_bf16 harg6 h4 1024 _) zeros_bf16) _) (R2.extf (R2.castSelf (R2.load_bf16 harg5 h3 1024 _) _) _)) (tile_weight_diag _ _ _ _ _ rfl zeros_const zeros_f32 (lanes0 _ (tile_q2 rfl (R2.load_bf16 harg2 h0 1024 _)) zeros_bf16) (R2.load_bf16 harg3 h1 1024 _) (R5.load harg8 h6 2 0 (fun _ hk => inside512 (by decide) hk) _) (tile_logsum 0 _ _ _ _ _ _ hn0 hw0 (R2.load_f32 harg7 h5 1024 _) zeros_f32) (by omega))) _) (Slab.load (Slab.skip 1 _ (by decide) (Slab.skip 0 _ (by decide) (Slab.skip 1 _ (by decide) (Slab.skip 0 _ (by decide) (Slab.skip 1 _ (by decide) (Slab.skip 0 _ (by decide) (Slab.skip 0 _ (by decide) (Slab.skip 0 _ (by decide) (Slab.fill (fun _ => Ideal.ofBits_zero_f32) _ _ _ _))))))))) _ _))))) _ _))))) _ _)))))) _ _)))) _ _ _ _ _ _) ?_)))
      intro t l ht hl
      simp only [Pair.dk, Pair.dkPart_blocks, X.dkPart_before 0 (q0 := 0) (M := 512) (show 0 + 512 ≤ 1024 + t by omega), X.dkPart_before 1 (q0 := 0) (M := 512) (show 0 + 512 ≤ 1024 + t by omega), X.dkPart_before 0 (q0 := 512) (M := 512) (show 512 + 512 ≤ 1024 + t by omega), X.dkPart_before 1 (q0 := 512) (M := 512) (show 512 + 512 ≤ 1024 + t by omega)]; ring
    · refine (Rows.hit_bf16 1536 (R2.congr (Slab.turn (Slab.hit 3 _ (tile_dk _ _ zeros_const (lanes1 _ (tile_qs (R2.load_bf16 harg2 h0 1536 _)) zeros_bf16) (R2.truncf (tile_dscore _ zeros_const (lanes1 _ (R2.load_bf16 harg6 h4 1536 _) zeros_bf16) (R2.load_bf16 harg4 h2 1536 _) (tile_delta _ _ _ _ (R2.extf (lanes1 _ (R2.load_bf16 harg6 h4 1536 _) zeros_bf16) _) (R2.extf (R2.castSelf (R2.load_bf16 harg5 h3 1536 _) _) _)) (tile_weight_diag _ _ _ _ _ rfl zeros_const zeros_f32 (lanes1 _ (tile_q2 rfl (R2.load_bf16 harg2 h0 1536 _)) zeros_bf16) (R2.load_bf16 harg3 h1 1536 _) (R5.load harg8 h6 3 1 (fun _ hk => inside528 (by decide) hk) _) (tile_logsum 1 _ _ _ _ _ _ hn1 hw1 (R2.load_f32 harg7 h5 1536 _) zeros_f32) (by omega))) _) (Slab.load (Slab.skip 2 _ (by decide) (Slab.skip 1 _ (by decide) (Slab.skip 0 _ (by decide) (Slab.hit 3 _ (tile_dk _ _ zeros_const (lanes0 _ (tile_qs (R2.load_bf16 harg2 h0 1536 _)) zeros_bf16) (R2.truncf (tile_dscore _ zeros_const (lanes0 _ (R2.load_bf16 harg6 h4 1536 _) zeros_bf16) (R2.load_bf16 harg4 h2 1536 _) (tile_delta _ _ _ _ (R2.extf (lanes0 _ (R2.load_bf16 harg6 h4 1536 _) zeros_bf16) _) (R2.extf (R2.castSelf (R2.load_bf16 harg5 h3 1536 _) _) _)) (tile_weight_diag _ _ _ _ _ rfl zeros_const zeros_f32 (lanes0 _ (tile_q2 rfl (R2.load_bf16 harg2 h0 1536 _)) zeros_bf16) (R2.load_bf16 harg3 h1 1536 _) (R5.load harg8 h6 3 0 (fun _ hk => inside528 (by decide) hk) _) (tile_logsum 0 _ _ _ _ _ _ hn0 hw0 (R2.load_f32 harg7 h5 1536 _) zeros_f32) (by omega))) _) (Slab.load (Slab.skip 2 _ (by decide) (Slab.skip 1 _ (by decide) (Slab.skip 0 _ (by decide) (Slab.skip 2 _ (by decide) (Slab.skip 1 _ (by decide) (Slab.skip 0 _ (by decide) (Slab.skip 2 _ (by decide) (Slab.skip 1 _ (by decide) (Slab.skip 0 _ (by decide) (Slab.skip 1 _ (by decide) (Slab.skip 0 _ (by decide) (Slab.skip 1 _ (by decide) (Slab.skip 0 _ (by decide) (Slab.skip 0 _ (by decide) (Slab.skip 0 _ (by decide) (Slab.fill (fun _ => Ideal.ofBits_zero_f32) _ _ _ _)))))))))))))))) _ _)))))) _ _))) _ _ _ _ _ _) ?_))
      intro t l ht hl
      simp only [Pair.dk, Pair.dkPart_blocks, X.dkPart_before 0 (q0 := 0) (M := 512) (show 0 + 512 ≤ 1536 + t by omega), X.dkPart_before 1 (q0 := 0) (M := 512) (show 0 + 512 ≤ 1536 + t by omega), X.dkPart_before 0 (q0 := 512) (M := 512) (show 512 + 512 ≤ 1536 + t by omega), X.dkPart_before 1 (q0 := 512) (M := 512) (show 512 + 512 ≤ 1536 + t by omega), X.dkPart_before 0 (q0 := 1024) (M := 512) (show 1024 + 512 ≤ 1536 + t by omega), X.dkPart_before 1 (q0 := 1024) (M := 512) (show 1024 + 512 ≤ 1536 + t by omega)]; ring

end Cert.KernelIdeal.Gen
-- ==== Proof.StepV.lean ====
/- What one grid step stores as the gradient of the values, whether or not it is a batch's first step. The step adds it up
   in slabs of 128 lanes by up to 528 keys, which it turns over at the end. -/
module

public import proofs.«01_k».proof.Proof.Gen.KernelIdeal.Frame
public import proofs.«01_k».proof.Proof.Tile
public import proofs.«01_k».proof.Proof.Store

@[expose] public section

set_option maxRecDepth 16384
set_option maxHeartbeats 2000000
noncomputable section
namespace Cert.KernelIdeal.Gen
open Idealize.ShloMosaic hiding ix1 ix2 ix3 ix4 ix5
open Idealize.ShloMosaic.ValueIdx Cert.RealBlock Cert.Attention Cert.KernelIdeal
open Idealize.ShloMosaic.TcCoe Idealize.SL.Sem

/-- A step's gradient of the values. -/
theorem dv_step (c : Dev nD) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S2064x128 .bf16) (harg5 : arg5.IsWhole) (arg6 : Memref sig .tc .vmem S2064x128 .bf16) (harg6 : arg6.IsWhole) (arg7 : Memref sig .tc .vmem S2064x128 .f32) (harg7 : arg7.IsWhole) (arg8 : Memref sig .tc .vmem S1x1x4x8x528 .f32) (harg8 : arg8.IsWhole) (arg9 : Memref sig .tc .vmem S2064x128 .bf16) (harg9 : arg9.IsWhole) (arg10 : Memref sig .tc .vmem S2064x128 .bf16) (harg10 : arg10.IsWhole) (arg11 : Memref sig .tc .vmem S2064x128 .bf16) (harg11 : arg11.IsWhole) (arg12 : Memref sig .tc .vmem S1x1x4x8x528 .f32) (harg12 : arg12.IsWhole) (arg13 : Memref sig .tc .vmem S2064x128 .f32) (harg13 : arg13.IsWhole) (arg14 : Memref sig .tc .vmem S4x128x640 .f32) (harg14 : arg14.IsWhole) (arg15 : Memref sig .tc .vmem S4x128x640 .f32) (harg15 : arg15.IsWhole)
    (x0 : Vec Ideal S2064x128 .bf16) (x1 : Vec Ideal S2064x128 .bf16) (x2 : Vec Ideal S2064x128 .bf16) (x3 : Vec Ideal S2064x128 .bf16) (x4 : Vec Ideal S2064x128 .bf16) (x5 : Vec Ideal S2064x128 .f32) (x6 : Vec Ideal S1x1x4x8x528 .f32) (xo11 : Vec Ideal S2064x128 .f32) (X : Pair) (h0 : R2 x0 X.q) (h1 : R2 x1 X.k) (h2 : R2 x2 X.v) (h3 : R2 x3 X.o) (h4 : R2 x4 X.dout) (h5 : R2 x5 X.lse)
 (h6 : Sums Inside x6 fun j r k => X.cum r (512 * j + k)) (hF : X.first = 2 * (i 1).val) :
    (∀ hc0 : cond0_0 i, R2 (out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6) X.dv) ∧
    (∀ hc0 : ¬cond0_0 i, R2 (out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo11) X.dv) := by
  have hi : (i 1).val < 8 := (i 1).isLt
  have hn0 : X.first + 0 < 128 := by omega
  have hn1 : X.first + 1 < 128 := by omega
  have hw0 : Scalar.addi (Scalar.muli 2#32 (BitVec.ofNat 32 (i 1).val)) 0#32 = BitVec.ofNat 32 (X.first + 0) := by rw [hF]; exact word_lane _ 0
  have hw1 : Scalar.addi (Scalar.muli 2#32 (BitVec.ofNat 32 (i 1).val)) 1#32 = BitVec.ofNat 32 (X.first + 1) := by rw [hF]; exact word_lane _ 1
  constructor
  all_goals
    intro hc0
    frame_open
    rw [View.read_writes_junk_eq_canon]
    dsimp only [k0_pay166, k0_pay167, k0_pay233, k0_pay234, k0_pay277, k0_pay278, k0_pay279]
    refine Rows.all (Val := Elt Ideal) (e := .bf16) (F := fun i l => ((X.dv i l : ℝ) : EReal)) ?_ ?_ ?_ ?_
    · refine (Rows.skip _ _ _ (by omega) (Rows.skip _ _ _ (by omega) (Rows.skip _ _ _ (by omega) (Rows.hit_bf16 0 (R2.congr (Slab.turn (Slab.skip 3 _ (by decide) (Slab.skip 2 _ (by decide) (Slab.skip 1 _ (by decide) (Slab.hit 0 _ (tile_dv _ _ zeros_const (lanes1 _ (R2.load_bf16 harg6 h4 1536 _) zeros_bf16) (R2.truncf (tile_weight_below _ _ _ rfl zeros_const (lanes1 _ (tile_q2 rfl (R2.load_bf16 harg2 h0 1536 _)) zeros_bf16) (R2.load_bf16 harg3 h1 0 _) (R5.load harg8 h6 0 1 (fun _ hk => inside512 (by decide) hk) _) (tile_logsum 1 _ _ _ _ _ _ hn1 hw1 (R2.load_f32 harg7 h5 1536 _) zeros_f32) (by omega)) _) (Slab.load (Slab.skip 3 _ (by decide) (Slab.skip 2 _ (by decide) (Slab.skip 1 _ (by decide) (Slab.hit 0 _ (tile_dv _ _ zeros_const (lanes0 _ (R2.load_bf16 harg6 h4 1536 _) zeros_bf16) (R2.truncf (tile_weight_below _ _ _ rfl zeros_const (lanes0 _ (tile_q2 rfl (R2.load_bf16 harg2 h0 1536 _)) zeros_bf16) (R2.load_bf16 harg3 h1 0 _) (R5.load harg8 h6 0 0 (fun _ hk => inside512 (by decide) hk) _) (tile_logsum 0 _ _ _ _ _ _ hn0 hw0 (R2.load_f32 harg7 h5 1536 _) zeros_f32) (by omega)) _) (Slab.load (Slab.skip 2 _ (by decide) (Slab.skip 1 _ (by decide) (Slab.hit 0 _ (tile_dv _ _ zeros_const (lanes1 _ (R2.load_bf16 harg6 h4 1024 _) zeros_bf16) (R2.truncf (tile_weight_below _ _ _ rfl zeros_const (lanes1 _ (tile_q2 rfl (R2.load_bf16 harg2 h0 1024 _)) zeros_bf16) (R2.load_bf16 harg3 h1 0 _) (R5.load harg8 h6 0 1 (fun _ hk => inside512 (by decide) hk) _) (tile_logsum 1 _ _ _ _ _ _ hn1 hw1 (R2.load_f32 harg7 h5 1024 _) zeros_f32) (by omega)) _) (Slab.load (Slab.skip 2 _ (by decide) (Slab.skip 1 _ (by decide) (Slab.hit 0 _ (tile_dv _ _ zeros_const (lanes0 _ (R2.load_bf16 harg6 h4 1024 _) zeros_bf16) (R2.truncf (tile_weight_below _ _ _ rfl zeros_const (lanes0 _ (tile_q2 rfl (R2.load_bf16 harg2 h0 1024 _)) zeros_bf16) (R2.load_bf16 harg3 h1 0 _) (R5.load harg8 h6 0 0 (fun _ hk => inside512 (by decide) hk) _) (tile_logsum 0 _ _ _ _ _ _ hn0 hw0 (R2.load_f32 harg7 h5 1024 _) zeros_f32) (by omega)) _) (Slab.load (Slab.skip 1 _ (by decide) (Slab.hit 0 _ (tile_dv _ _ zeros_const (lanes1 _ (R2.load_bf16 harg6 h4 512 _) zeros_bf16) (R2.truncf (tile_weight_below _ _ _ rfl zeros_const (lanes1 _ (tile_q2 rfl (R2.load_bf16 harg2 h0 512 _)) zeros_bf16) (R2.load_bf16 harg3 h1 0 _) (R5.load harg8 h6 0 1 (fun _ hk => inside512 (by decide) hk) _) (tile_logsum 1 _ _ _ _ _ _ hn1 hw1 (R2.load_f32 harg7 h5 512 _) zeros_f32) (by omega)) _) (Slab.load (Slab.skip 1 _ (by decide) (Slab.hit 0 _ (tile_dv _ _ zeros_const (lanes0 _ (R2.load_bf16 harg6 h4 512 _) zeros_bf16) (R2.truncf (tile_weight_below _ _ _ rfl zeros_const (lanes0 _ (tile_q2 rfl (R2.load_bf16 harg2 h0 512 _)) zeros_bf16) (R2.load_bf16 harg3 h1 0 _) (R5.load harg8 h6 0 0 (fun _ hk => inside512 (by decide) hk) _) (tile_logsum 0 _ _ _ _ _ _ hn0 hw0 (R2.load_f32 harg7 h5 512 _) zeros_f32) (by omega)) _) (Slab.load (Slab.hit 0 _ (tile_dv _ _ zeros_const (lanes1 _ (R2.load_bf16 harg6 h4 0 _) zeros_bf16) (R2.truncf (tile_weight_diag _ _ _ _ _ rfl zeros_const zeros_f32 (lanes1 _ (tile_q2 rfl (R2.load_bf16 harg2 h0 0 _)) zeros_bf16) (R2.load_bf16 harg3 h1 0 _) (R5.load harg8 h6 0 1 (fun _ hk => inside512 (by decide) hk) _) (tile_logsum 1 _ _ _ _ _ _ hn1 hw1 (R2.load_f32 harg7 h5 0 _) zeros_f32) (by omega)) _) (Slab.load (Slab.hit 0 _ (tile_dv _ _ zeros_const (lanes0 _ (R2.load_bf16 harg6 h4 0 _) zeros_bf16) (R2.truncf (tile_weight_diag _ _ _ _ _ rfl zeros_const zeros_f32 (lanes0 _ (tile_q2 rfl (R2.load_bf16 harg2 h0 0 _)) zeros_bf16) (R2.load_bf16 harg3 h1 0 _) (R5.load harg8 h6 0 0 (fun _ hk => inside512 (by decide) hk) _) (tile_logsum 0 _ _ _ _ _ _ hn0 hw0 (R2.load_f32 harg7 h5 0 _) zeros_f32) (by omega)) _) (Slab.load (Slab.fill (fun _ => Ideal.ofBits_zero_f32) _ _ _ _) _ _))) _ _))) _ _)))) _ _)))) _ _))))) _ _))))) _ _)))))) _ _)))))) _ _ _ _ _ _) ?_)))))
      intro t l ht hl
      simp only [Pair.dv, Pair.dvPart_blocks]; ring
    · refine (Rows.skip _ _ _ (by omega) (Rows.skip _ _ _ (by omega) (Rows.hit_bf16 512 (R2.congr (Slab.turn (Slab.skip 3 _ (by decide) (Slab.skip 2 _ (by decide) (Slab.hit 1 _ (tile_dv _ _ zeros_const (lanes1 _ (R2.load_bf16 harg6 h4 1536 _) zeros_bf16) (R2.truncf (tile_weight_below _ _ _ rfl zeros_const (lanes1 _ (tile_q2 rfl (R2.load_bf16 harg2 h0 1536 _)) zeros_bf16) (R2.load_bf16 harg3 h1 512 _) (R5.load harg8 h6 1 1 (fun _ hk => inside512 (by decide) hk) _) (tile_logsum 1 _ _ _ _ _ _ hn1 hw1 (R2.load_f32 harg7 h5 1536 _) zeros_f32) (by omega)) _) (Slab.load (Slab.skip 0 _ (by decide) (Slab.skip 3 _ (by decide) (Slab.skip 2 _ (by decide) (Slab.hit 1 _ (tile_dv _ _ zeros_const (lanes0 _ (R2.load_bf16 harg6 h4 1536 _) zeros_bf16) (R2.truncf (tile_weight_below _ _ _ rfl zeros_const (lanes0 _ (tile_q2 rfl (R2.load_bf16 harg2 h0 1536 _)) zeros_bf16) (R2.load_bf16 harg3 h1 512 _) (R5.load harg8 h6 1 0 (fun _ hk => inside512 (by decide) hk) _) (tile_logsum 0 _ _ _ _ _ _ hn0 hw0 (R2.load_f32 harg7 h5 1536 _) zeros_f32) (by omega)) _) (Slab.load (Slab.skip 0 _ (by decide) (Slab.skip 2 _ (by decide) (Slab.hit 1 _ (tile_dv _ _ zeros_const (lanes1 _ (R2.load_bf16 harg6 h4 1024 _) zeros_bf16) (R2.truncf (tile_weight_below _ _ _ rfl zeros_const (lanes1 _ (tile_q2 rfl (R2.load_bf16 harg2 h0 1024 _)) zeros_bf16) (R2.load_bf16 harg3 h1 512 _) (R5.load harg8 h6 1 1 (fun _ hk => inside512 (by decide) hk) _) (tile_logsum 1 _ _ _ _ _ _ hn1 hw1 (R2.load_f32 harg7 h5 1024 _) zeros_f32) (by omega)) _) (Slab.load (Slab.skip 0 _ (by decide) (Slab.skip 2 _ (by decide) (Slab.hit 1 _ (tile_dv _ _ zeros_const (lanes0 _ (R2.load_bf16 harg6 h4 1024 _) zeros_bf16) (R2.truncf (tile_weight_below _ _ _ rfl zeros_const (lanes0 _ (tile_q2 rfl (R2.load_bf16 harg2 h0 1024 _)) zeros_bf16) (R2.load_bf16 harg3 h1 512 _) (R5.load harg8 h6 1 0 (fun _ hk => inside512 (by decide) hk) _) (tile_logsum 0 _ _ _ _ _ _ hn0 hw0 (R2.load_f32 harg7 h5 1024 _) zeros_f32) (by omega)) _) (Slab.load (Slab.skip 0 _ (by decide) (Slab.hit 1 _ (tile_dv _ _ zeros_const (lanes1 _ (R2.load_bf16 harg6 h4 512 _) zeros_bf16) (R2.truncf (tile_weight_diag _ _ _ _ _ rfl zeros_const zeros_f32 (lanes1 _ (tile_q2 rfl (R2.load_bf16 harg2 h0 512 _)) zeros_bf16) (R2.load_bf16 harg3 h1 512 _) (R5.load harg8 h6 1 1 (fun _ hk => inside512 (by decide) hk) _) (tile_logsum 1 _ _ _ _ _ _ hn1 hw1 (R2.load_f32 harg7 h5 512 _) zeros_f32) (by omega)) _) (Slab.load (Slab.skip 0 _ (by decide) (Slab.hit 1 _ (tile_dv _ _ zeros_const (lanes0 _ (R2.load_bf16 harg6 h4 512 _) zeros_bf16) (R2.truncf (tile_weight_diag _ _ _ _ _ rfl zeros_const zeros_f32 (lanes0 _ (tile_q2 rfl (R2.load_bf16 harg2 h0 512 _)) zeros_bf16) (R2.load_bf16 harg3 h1 512 _) (R5.load harg8 h6 1 0 (fun _ hk => inside512 (by decide) hk) _) (tile_logsum 0 _ _ _ _ _ _ hn0 hw0 (R2.load_f32 harg7 h5 512 _) zeros_f32) (by omega)) _) (Slab.load (Slab.skip 0 _ (by decide) (Slab.skip 0 _ (by decide) (Slab.skip 0 _ (by decide) (Slab.fill (fun _ => Ideal.ofBits_zero_f32) _ _ _ _)))) _ _)))) _ _)))) _ _))))) _ _))))) _ _)))))) _ _))))) _ _ _ _ _ _) ?_))))
      intro t l ht hl
      simp only [Pair.dv, Pair.dvPart_blocks, X.dvPart_before 0 (q0 := 0) (M := 512) (show 0 + 512 ≤ 512 + t by omega), X.dvPart_before 1 (q0 := 0) (M := 512) (show 0 + 512 ≤ 512 + t by omega)]; ring
    · refine (Rows.skip _ _ _ (by omega) (Rows.hit_bf16 1024 (R2.congr (Slab.turn (Slab.skip 3 _ (by decide) (Slab.hit 2 _ (tile_dv _ _ zeros_const (lanes1 _ (R2.load_bf16 harg6 h4 1536 _) zeros_bf16) (R2.truncf (tile_weight_below _ _ _ rfl zeros_const (lanes1 _ (tile_q2 rfl (R2.load_bf16 harg2 h0 1536 _)) zeros_bf16) (R2.load_bf16 harg3 h1 1024 _) (R5.load harg8 h6 2 1 (fun _ hk => inside512 (by decide) hk) _) (tile_logsum 1 _ _ _ _ _ _ hn1 hw1 (R2.load_f32 harg7 h5 1536 _) zeros_f32) (by omega)) _) (Slab.load (Slab.skip 1 _ (by decide) (Slab.skip 0 _ (by decide) (Slab.skip 3 _ (by decide) (Slab.hit 2 _ (tile_dv _ _ zeros_const (lanes0 _ (R2.load_bf16 harg6 h4 1536 _) zeros_bf16) (R2.truncf (tile_weight_below _ _ _ rfl zeros_const (lanes0 _ (tile_q2 rfl (R2.load_bf16 harg2 h0 1536 _)) zeros_bf16) (R2.load_bf16 harg3 h1 1024 _) (R5.load harg8 h6 2 0 (fun _ hk => inside512 (by decide) hk) _) (tile_logsum 0 _ _ _ _ _ _ hn0 hw0 (R2.load_f32 harg7 h5 1536 _) zeros_f32) (by omega)) _) (Slab.load (Slab.skip 1 _ (by decide) (Slab.skip 0 _ (by decide) (Slab.hit 2 _ (tile_dv _ _ zeros_const (lanes1 _ (R2.load_bf16 harg6 h4 1024 _) zeros_bf16) (R2.truncf (tile_weight_diag _ _ _ _ _ rfl zeros_const zeros_f32 (lanes1 _ (tile_q2 rfl (R2.load_bf16 harg2 h0 1024 _)) zeros_bf16) (R2.load_bf16 harg3 h1 1024 _) (R5.load harg8 h6 2 1 (fun _ hk => inside512 (by decide) hk) _) (tile_logsum 1 _ _ _ _ _ _ hn1 hw1 (R2.load_f32 harg7 h5 1024 _) zeros_f32) (by omega)) _) (Slab.load (Slab.skip 1 _ (by decide) (Slab.skip 0 _ (by decide) (Slab.hit 2 _ (tile_dv _ _ zeros_const (lanes0 _ (R2.load_bf16 harg6 h4 1024 _) zeros_bf16) (R2.truncf (tile_weight_diag _ _ _ _ _ rfl zeros_const zeros_f32 (lanes0 _ (tile_q2 rfl (R2.load_bf16 harg2 h0 1024 _)) zeros_bf16) (R2.load_bf16 harg3 h1 1024 _) (R5.load harg8 h6 2 0 (fun _ hk => inside512 (by decide) hk) _) (tile_logsum 0 _ _ _ _ _ _ hn0 hw0 (R2.load_f32 harg7 h5 1024 _) zeros_f32) (by omega)) _) (Slab.load (Slab.skip 1 _ (by decide) (Slab.skip 0 _ (by decide) (Slab.skip 1 _ (by decide) (Slab.skip 0 _ (by decide) (Slab.skip 1 _ (by decide) (Slab.skip 0 _ (by decide) (Slab.skip 0 _ (by decide) (Slab.skip 0 _ (by decide) (Slab.fill (fun _ => Ideal.ofBits_zero_f32) _ _ _ _))))))))) _ _))))) _ _))))) _ _)))))) _ _)))) _ _ _ _ _ _) ?_)))
      intro t l ht hl
      simp only [Pair.dv, Pair.dvPart_blocks, X.dvPart_before 0 (q0 := 0) (M := 512) (show 0 + 512 ≤ 1024 + t by omega), X.dvPart_before 1 (q0 := 0) (M := 512) (show 0 + 512 ≤ 1024 + t by omega), X.dvPart_before 0 (q0 := 512) (M := 512) (show 512 + 512 ≤ 1024 + t by omega), X.dvPart_before 1 (q0 := 512) (M := 512) (show 512 + 512 ≤ 1024 + t by omega)]; ring
    · refine (Rows.hit_bf16 1536 (R2.congr (Slab.turn (Slab.hit 3 _ (tile_dv _ _ zeros_const (lanes1 _ (R2.load_bf16 harg6 h4 1536 _) zeros_bf16) (R2.truncf (tile_weight_diag _ _ _ _ _ rfl zeros_const zeros_f32 (lanes1 _ (tile_q2 rfl (R2.load_bf16 harg2 h0 1536 _)) zeros_bf16) (R2.load_bf16 harg3 h1 1536 _) (R5.load harg8 h6 3 1 (fun _ hk => inside528 (by decide) hk) _) (tile_logsum 1 _ _ _ _ _ _ hn1 hw1 (R2.load_f32 harg7 h5 1536 _) zeros_f32) (by omega)) _) (Slab.load (Slab.skip 2 _ (by decide) (Slab.skip 1 _ (by decide) (Slab.skip 0 _ (by decide) (Slab.hit 3 _ (tile_dv _ _ zeros_const (lanes0 _ (R2.load_bf16 harg6 h4 1536 _) zeros_bf16) (R2.truncf (tile_weight_diag _ _ _ _ _ rfl zeros_const zeros_f32 (lanes0 _ (tile_q2 rfl (R2.load_bf16 harg2 h0 1536 _)) zeros_bf16) (R2.load_bf16 harg3 h1 1536 _) (R5.load harg8 h6 3 0 (fun _ hk => inside528 (by decide) hk) _) (tile_logsum 0 _ _ _ _ _ _ hn0 hw0 (R2.load_f32 harg7 h5 1536 _) zeros_f32) (by omega)) _) (Slab.load (Slab.skip 2 _ (by decide) (Slab.skip 1 _ (by decide) (Slab.skip 0 _ (by decide) (Slab.skip 2 _ (by decide) (Slab.skip 1 _ (by decide) (Slab.skip 0 _ (by decide) (Slab.skip 2 _ (by decide) (Slab.skip 1 _ (by decide) (Slab.skip 0 _ (by decide) (Slab.skip 1 _ (by decide) (Slab.skip 0 _ (by decide) (Slab.skip 1 _ (by decide) (Slab.skip 0 _ (by decide) (Slab.skip 0 _ (by decide) (Slab.skip 0 _ (by decide) (Slab.fill (fun _ => Ideal.ofBits_zero_f32) _ _ _ _)))))))))))))))) _ _)))))) _ _))) _ _ _ _ _ _) ?_))
      intro t l ht hl
      simp only [Pair.dv, Pair.dvPart_blocks, X.dvPart_before 0 (q0 := 0) (M := 512) (show 0 + 512 ≤ 1536 + t by omega), X.dvPart_before 1 (q0 := 0) (M := 512) (show 0 + 512 ≤ 1536 + t by omega), X.dvPart_before 0 (q0 := 512) (M := 512) (show 512 + 512 ≤ 1536 + t by omega), X.dvPart_before 1 (q0 := 512) (M := 512) (show 512 + 512 ≤ 1536 + t by omega), X.dvPart_before 0 (q0 := 1024) (M := 512) (show 1024 + 512 ≤ 1536 + t by omega), X.dvPart_before 1 (q0 := 1024) (M := 512) (show 1024 + 512 ≤ 1536 + t by omega)]; ring

end Cert.KernelIdeal.Gen
-- ==== Proof.StepCumK.lean ====
/- What one grid step stores as the gradient of the running sums on the keys' side, whether or not it is a batch's first
   step. -/
module

public import proofs.«01_k».proof.Proof.Gen.KernelIdeal.Frame
public import proofs.«01_k».proof.Proof.Tile
public import proofs.«01_k».proof.Proof.Store

@[expose] public section

set_option maxRecDepth 16384
set_option maxHeartbeats 2000000
noncomputable section
namespace Cert.KernelIdeal.Gen
open Idealize.ShloMosaic hiding ix1 ix2 ix3 ix4 ix5
open Idealize.ShloMosaic.ValueIdx Cert.RealBlock Cert.Attention Cert.KernelIdeal
open Idealize.ShloMosaic.TcCoe Idealize.SL.Sem

/-- A step's sums on the keys' side: in each block two rows, and zero elsewhere. -/
theorem dcr_step (c : Dev nD) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S2064x128 .bf16) (harg5 : arg5.IsWhole) (arg6 : Memref sig .tc .vmem S2064x128 .bf16) (harg6 : arg6.IsWhole) (arg7 : Memref sig .tc .vmem S2064x128 .f32) (harg7 : arg7.IsWhole) (arg8 : Memref sig .tc .vmem S1x1x4x8x528 .f32) (harg8 : arg8.IsWhole) (arg9 : Memref sig .tc .vmem S2064x128 .bf16) (harg9 : arg9.IsWhole) (arg10 : Memref sig .tc .vmem S2064x128 .bf16) (harg10 : arg10.IsWhole) (arg11 : Memref sig .tc .vmem S2064x128 .bf16) (harg11 : arg11.IsWhole) (arg12 : Memref sig .tc .vmem S1x1x4x8x528 .f32) (harg12 : arg12.IsWhole) (arg13 : Memref sig .tc .vmem S2064x128 .f32) (harg13 : arg13.IsWhole) (arg14 : Memref sig .tc .vmem S4x128x640 .f32) (harg14 : arg14.IsWhole) (arg15 : Memref sig .tc .vmem S4x128x640 .f32) (harg15 : arg15.IsWhole)
    (x0 : Vec Ideal S2064x128 .bf16) (x1 : Vec Ideal S2064x128 .bf16) (x2 : Vec Ideal S2064x128 .bf16) (x3 : Vec Ideal S2064x128 .bf16) (x4 : Vec Ideal S2064x128 .bf16) (x5 : Vec Ideal S2064x128 .f32) (x6 : Vec Ideal S1x1x4x8x528 .f32) (xo11 : Vec Ideal S2064x128 .f32) (X : Pair) (h0 : R2 x0 X.q) (h1 : R2 x1 X.k) (h2 : R2 x2 X.v) (h3 : R2 x3 X.o) (h4 : R2 x4 X.dout) (h5 : R2 x5 X.lse)
 (h6 : Sums Inside x6 fun j r k => X.cum r (512 * j + k)) (hF : X.first = 2 * (i 1).val) :
    (∀ hc0 : cond0_0 i, Sums Inside (out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6) (fun j r k => -X.colPart r 0 2064 (512 * j + k)) ∧ Rest (out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6)) ∧
    (∀ hc0 : ¬cond0_0 i, Sums Inside (out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo11) (fun j r k => -X.colPart r 0 2064 (512 * j + k)) ∧ Rest (out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo11)) := by
  have hi : (i 1).val < 8 := (i 1).isLt
  have hn0 : X.first + 0 < 128 := by omega
  have hn1 : X.first + 1 < 128 := by omega
  have hw0 : Scalar.addi (Scalar.muli 2#32 (BitVec.ofNat 32 (i 1).val)) 0#32 = BitVec.ofNat 32 (X.first + 0) := by rw [hF]; exact word_lane _ 0
  have hw1 : Scalar.addi (Scalar.muli 2#32 (BitVec.ofNat 32 (i 1).val)) 1#32 = BitVec.ofNat 32 (X.first + 1) := by rw [hF]; exact word_lane _ 1
  constructor
  all_goals
    intro hc0
    frame_open
    rw [View.read_writes_junk_eq_canon]
    dsimp only [k0_pay166, k0_pay167, k0_pay233, k0_pay234, k0_pay277, k0_pay278, k0_pay279]
    refine ⟨Line.all (f := fun j r k => -X.colPart r 0 2064 (512 * j + k)) ?_ ?_ ?_ ?_ ?_ ?_ ?_ ?_, (Off.skip 3 1 _ (by decide) (by decide) (Off.skip 2 1 _ (by decide) (by decide) (Off.skip 1 1 _ (by decide) (by decide) (Off.skip 0 1 _ (by decide) (by decide) (Off.skip 3 0 _ (by decide) (by decide) (Off.skip 2 0 _ (by decide) (by decide) (Off.skip 1 0 _ (by decide) (by decide) (Off.skip 0 0 _ (by decide) (by decide) (Off.skip 2 1 _ (by decide) (by decide) (Off.skip 1 1 _ (by decide) (by decide) (Off.skip 0 1 _ (by decide) (by decide) (Off.skip 2 0 _ (by decide) (by decide) (Off.skip 1 0 _ (by decide) (by decide) (Off.skip 0 0 _ (by decide) (by decide) (Off.skip 1 1 _ (by decide) (by decide) (Off.skip 0 1 _ (by decide) (by decide) (Off.skip 1 0 _ (by decide) (by decide) (Off.skip 0 0 _ (by decide) (by decide) (Off.skip 0 1 _ (by decide) (by decide) (Off.skip 0 0 _ (by decide) (by decide) (Off.fill (fun _ => Ideal.ofBits_zero_f32) _ _)))))))))))))))))))))⟩
    · refine Line.congr (Line.skip 3 1 _ (by decide) (Line.skip 2 1 _ (by decide) (Line.skip 1 1 _ (by decide) (Line.skip 0 1 _ (by decide) (Line.skip 3 0 _ (by decide) (Line.skip 2 0 _ (by decide) (Line.skip 1 0 _ (by decide) (Line.hit 0 0 _ (tile_col _ _ _ _ _ _ (tile_dscore _ zeros_const (lanes0 _ (R2.load_bf16 harg6 h4 1536 _) zeros_bf16) (R2.load_bf16 harg4 h2 0 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 0 _) (R5.load harg8 h6 0 0 (fun _ hk => inside512 (by decide) hk) _) (tile_logsum 0 _ _ _ _ _ _ hn0 hw0 (R2.load_f32 harg7 h5 1536 _) zeros_f32) (by omega))) (Line.load (Line.skip 2 1 _ (by decide) (Line.skip 1 1 _ (by decide) (Line.skip 0 1 _ (by decide) (Line.skip 2 0 _ (by decide) (Line.skip 1 0 _ (by decide) (Line.hit 0 0 _ (tile_col _ _ _ _ _ _ (tile_dscore _ zeros_const (lanes0 _ (R2.load_bf16 harg6 h4 1024 _) zeros_bf16) (R2.load_bf16 harg4 h2 0 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 0 _) (R5.load harg8 h6 0 0 (fun _ hk => inside512 (by decide) hk) _) (tile_logsum 0 _ _ _ _ _ _ hn0 hw0 (R2.load_f32 harg7 h5 1024 _) zeros_f32) (by omega))) (Line.load (Line.skip 1 1 _ (by decide) (Line.skip 0 1 _ (by decide) (Line.skip 1 0 _ (by decide) (Line.hit 0 0 _ (tile_col _ _ _ _ _ _ (tile_dscore _ zeros_const (lanes0 _ (R2.load_bf16 harg6 h4 512 _) zeros_bf16) (R2.load_bf16 harg4 h2 0 _) (tile_delta _ _ _ _ (R2.extf (lanes0 _ (R2.load_bf16 harg6 h4 512 _) zeros_bf16) _) (R2.extf (R2.castSelf (R2.load_bf16 harg5 h3 512 _) _) _)) (tile_weight_below _ _ _ rfl zeros_const (lanes0 _ (tile_q2 rfl (R2.load_bf16 harg2 h0 512 _)) zeros_bf16) (R2.load_bf16 harg3 h1 0 _) (R5.load harg8 h6 0 0 (fun _ hk => inside512 (by decide) hk) _) (tile_logsum 0 _ _ _ _ _ _ hn0 hw0 (R2.load_f32 harg7 h5 512 _) zeros_f32) (by omega))) (Line.load (Line.skip 0 1 _ (by decide) (Line.hit 0 0 _ (tile_col _ _ _ _ _ _ (tile_dscore _ zeros_const (lanes0 _ (R2.load_bf16 harg6 h4 0 _) zeros_bf16) (R2.load_bf16 harg4 h2 0 _) (tile_delta _ _ _ _ (R2.extf (lanes0 _ (R2.load_bf16 harg6 h4 0 _) zeros_bf16) _) (R2.extf (R2.castSelf (R2.load_bf16 harg5 h3 0 _) _) _)) (tile_weight_diag _ _ _ _ _ rfl zeros_const zeros_f32 (lanes0 _ (tile_q2 rfl (R2.load_bf16 harg2 h0 0 _)) zeros_bf16) (R2.load_bf16 harg3 h1 0 _) (R5.load harg8 h6 0 0 (fun _ hk => inside512 (by decide) hk) _) (tile_logsum 0 _ _ _ _ _ _ hn0 hw0 (R2.load_f32 harg7 h5 0 _) zeros_f32) (by omega))) (Line.load (Line.fill (fun _ => Ideal.ofBits_zero_f32) _ _ _ _ _) _ _)))) _ _)))))) _ _)))))))) _ _)))))))))) ?_
      intro k hk
      simp only [Pair.colPart_blocks]; ring
    · refine Line.congr (Line.skip 3 1 _ (by decide) (Line.skip 2 1 _ (by decide) (Line.skip 1 1 _ (by decide) (Line.hit 0 1 _ (tile_col _ _ _ _ _ _ (tile_dscore _ zeros_const (lanes1 _ (R2.load_bf16 harg6 h4 1536 _) zeros_bf16) (R2.load_bf16 harg4 h2 0 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 0 _) (R5.load harg8 h6 0 1 (fun _ hk => inside512 (by decide) hk) _) (tile_logsum 1 _ _ _ _ _ _ hn1 hw1 (R2.load_f32 harg7 h5 1536 _) zeros_f32) (by omega))) (Line.load (Line.skip 3 0 _ (by decide) (Line.skip 2 0 _ (by decide) (Line.skip 1 0 _ (by decide) (Line.skip 0 0 _ (by decide) (Line.skip 2 1 _ (by decide) (Line.skip 1 1 _ (by decide) (Line.hit 0 1 _ (tile_col _ _ _ _ _ _ (tile_dscore _ zeros_const (lanes1 _ (R2.load_bf16 harg6 h4 1024 _) zeros_bf16) (R2.load_bf16 harg4 h2 0 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 0 _) (R5.load harg8 h6 0 1 (fun _ hk => inside512 (by decide) hk) _) (tile_logsum 1 _ _ _ _ _ _ hn1 hw1 (R2.load_f32 harg7 h5 1024 _) zeros_f32) (by omega))) (Line.load (Line.skip 2 0 _ (by decide) (Line.skip 1 0 _ (by decide) (Line.skip 0 0 _ (by decide) (Line.skip 1 1 _ (by decide) (Line.hit 0 1 _ (tile_col _ _ _ _ _ _ (tile_dscore _ zeros_const (lanes1 _ (R2.load_bf16 harg6 h4 512 _) zeros_bf16) (R2.load_bf16 harg4 h2 0 _) (tile_delta _ _ _ _ (R2.extf (lanes1 _ (R2.load_bf16 harg6 h4 512 _) zeros_bf16) _) (R2.extf (R2.castSelf (R2.load_bf16 harg5 h3 512 _) _) _)) (tile_weight_below _ _ _ rfl zeros_const (lanes1 _ (tile_q2 rfl (R2.load_bf16 harg2 h0 512 _)) zeros_bf16) (R2.load_bf16 harg3 h1 0 _) (R5.load harg8 h6 0 1 (fun _ hk => inside512 (by decide) hk) _) (tile_logsum 1 _ _ _ _ _ _ hn1 hw1 (R2.load_f32 harg7 h5 512 _) zeros_f32) (by omega))) (Line.load (Line.skip 1 0 _ (by decide) (Line.skip 0 0 _ (by decide) (Line.hit 0 1 _ (tile_col _ _ _ _ _ _ (tile_dscore _ zeros_const (lanes1 _ (R2.load_bf16 harg6 h4 0 _) zeros_bf16) (R2.load_bf16 harg4 h2 0 _) (tile_delta _ _ _ _ (R2.extf (lanes1 _ (R2.load_bf16 harg6 h4 0 _) zeros_bf16) _) (R2.extf (R2.castSelf (R2.load_bf16 harg5 h3 0 _) _) _)) (tile_weight_diag _ _ _ _ _ rfl zeros_const zeros_f32 (lanes1 _ (tile_q2 rfl (R2.load_bf16 harg2 h0 0 _)) zeros_bf16) (R2.load_bf16 harg3 h1 0 _) (R5.load harg8 h6 0 1 (fun _ hk => inside512 (by decide) hk) _) (tile_logsum 1 _ _ _ _ _ _ hn1 hw1 (R2.load_f32 harg7 h5 0 _) zeros_f32) (by omega))) (Line.load (Line.skip 0 0 _ (by decide) (Line.fill (fun _ => Ideal.ofBits_zero_f32) _ _ _ _ _)) _ _))))) _ _))))))) _ _))))))))) _ _)))))) ?_
      intro k hk
      simp only [Pair.colPart_blocks]; ring
    · refine Line.congr (Line.skip 3 1 _ (by decide) (Line.skip 2 1 _ (by decide) (Line.skip 1 1 _ (by decide) (Line.skip 0 1 _ (by decide) (Line.skip 3 0 _ (by decide) (Line.skip 2 0 _ (by decide) (Line.hit 1 0 _ (tile_col _ _ _ _ _ _ (tile_dscore _ zeros_const (lanes0 _ (R2.load_bf16 harg6 h4 1536 _) zeros_bf16) (R2.load_bf16 harg4 h2 512 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 512 _) (R5.load harg8 h6 1 0 (fun _ hk => inside512 (by decide) hk) _) (tile_logsum 0 _ _ _ _ _ _ hn0 hw0 (R2.load_f32 harg7 h5 1536 _) zeros_f32) (by omega))) (Line.load (Line.skip 0 0 _ (by decide) (Line.skip 2 1 _ (by decide) (Line.skip 1 1 _ (by decide) (Line.skip 0 1 _ (by decide) (Line.skip 2 0 _ (by decide) (Line.hit 1 0 _ (tile_col _ _ _ _ _ _ (tile_dscore _ zeros_const (lanes0 _ (R2.load_bf16 harg6 h4 1024 _) zeros_bf16) (R2.load_bf16 harg4 h2 512 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 512 _) (R5.load harg8 h6 1 0 (fun _ hk => inside512 (by decide) hk) _) (tile_logsum 0 _ _ _ _ _ _ hn0 hw0 (R2.load_f32 harg7 h5 1024 _) zeros_f32) (by omega))) (Line.load (Line.skip 0 0 _ (by decide) (Line.skip 1 1 _ (by decide) (Line.skip 0 1 _ (by decide) (Line.hit 1 0 _ (tile_col _ _ _ _ _ _ (tile_dscore _ zeros_const (lanes0 _ (R2.load_bf16 harg6 h4 512 _) zeros_bf16) (R2.load_bf16 harg4 h2 512 _) (tile_delta _ _ _ _ (R2.extf (lanes0 _ (R2.load_bf16 harg6 h4 512 _) zeros_bf16) _) (R2.extf (R2.castSelf (R2.load_bf16 harg5 h3 512 _) _) _)) (tile_weight_diag _ _ _ _ _ rfl zeros_const zeros_f32 (lanes0 _ (tile_q2 rfl (R2.load_bf16 harg2 h0 512 _)) zeros_bf16) (R2.load_bf16 harg3 h1 512 _) (R5.load harg8 h6 1 0 (fun _ hk => inside512 (by decide) hk) _) (tile_logsum 0 _ _ _ _ _ _ hn0 hw0 (R2.load_f32 harg7 h5 512 _) zeros_f32) (by omega))) (Line.load (Line.skip 0 0 _ (by decide) (Line.skip 0 1 _ (by decide) (Line.skip 0 0 _ (by decide) (Line.fill (fun _ => Ideal.ofBits_zero_f32) _ _ _ _ _)))) _ _)))))) _ _)))))))) _ _))))))))) ?_
      intro k hk
      simp only [Pair.colPart_blocks, X.colPart_before 0 (q0 := 0) (M := 512) (show 0 + 512 ≤ 512 + k by omega)]; ring
    · refine Line.congr (Line.skip 3 1 _ (by decide) (Line.skip 2 1 _ (by decide) (Line.hit 1 1 _ (tile_col _ _ _ _ _ _ (tile_dscore _ zeros_const (lanes1 _ (R2.load_bf16 harg6 h4 1536 _) zeros_bf16) (R2.load_bf16 harg4 h2 512 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 512 _) (R5.load harg8 h6 1 1 (fun _ hk => inside512 (by decide) hk) _) (tile_logsum 1 _ _ _ _ _ _ hn1 hw1 (R2.load_f32 harg7 h5 1536 _) zeros_f32) (by omega))) (Line.load (Line.skip 0 1 _ (by decide) (Line.skip 3 0 _ (by decide) (Line.skip 2 0 _ (by decide) (Line.skip 1 0 _ (by decide) (Line.skip 0 0 _ (by decide) (Line.skip 2 1 _ (by decide) (Line.hit 1 1 _ (tile_col _ _ _ _ _ _ (tile_dscore _ zeros_const (lanes1 _ (R2.load_bf16 harg6 h4 1024 _) zeros_bf16) (R2.load_bf16 harg4 h2 512 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 512 _) (R5.load harg8 h6 1 1 (fun _ hk => inside512 (by decide) hk) _) (tile_logsum 1 _ _ _ _ _ _ hn1 hw1 (R2.load_f32 harg7 h5 1024 _) zeros_f32) (by omega))) (Line.load (Line.skip 0 1 _ (by decide) (Line.skip 2 0 _ (by decide) (Line.skip 1 0 _ (by decide) (Line.skip 0 0 _ (by decide) (Line.hit 1 1 _ (tile_col _ _ _ _ _ _ (tile_dscore _ zeros_const (lanes1 _ (R2.load_bf16 harg6 h4 512 _) zeros_bf16) (R2.load_bf16 harg4 h2 512 _) (tile_delta _ _ _ _ (R2.extf (lanes1 _ (R2.load_bf16 harg6 h4 512 _) zeros_bf16) _) (R2.extf (R2.castSelf (R2.load_bf16 harg5 h3 512 _) _) _)) (tile_weight_diag _ _ _ _ _ rfl zeros_const zeros_f32 (lanes1 _ (tile_q2 rfl (R2.load_bf16 harg2 h0 512 _)) zeros_bf16) (R2.load_bf16 harg3 h1 512 _) (R5.load harg8 h6 1 1 (fun _ hk => inside512 (by decide) hk) _) (tile_logsum 1 _ _ _ _ _ _ hn1 hw1 (R2.load_f32 harg7 h5 512 _) zeros_f32) (by omega))) (Line.load (Line.skip 0 1 _ (by decide) (Line.skip 1 0 _ (by decide) (Line.skip 0 0 _ (by decide) (Line.skip 0 1 _ (by decide) (Line.skip 0 0 _ (by decide) (Line.fill (fun _ => Ideal.ofBits_zero_f32) _ _ _ _ _)))))) _ _))))))) _ _))))))))) _ _))))) ?_
      intro k hk
      simp only [Pair.colPart_blocks, X.colPart_before 1 (q0 := 0) (M := 512) (show 0 + 512 ≤ 512 + k by omega)]; ring
    · refine Line.congr (Line.skip 3 1 _ (by decide) (Line.skip 2 1 _ (by decide) (Line.skip 1 1 _ (by decide) (Line.skip 0 1 _ (by decide) (Line.skip 3 0 _ (by decide) (Line.hit 2 0 _ (tile_col _ _ _ _ _ _ (tile_dscore _ zeros_const (lanes0 _ (R2.load_bf16 harg6 h4 1536 _) zeros_bf16) (R2.load_bf16 harg4 h2 1024 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 1024 _) (R5.load harg8 h6 2 0 (fun _ hk => inside512 (by decide) hk) _) (tile_logsum 0 _ _ _ _ _ _ hn0 hw0 (R2.load_f32 harg7 h5 1536 _) zeros_f32) (by omega))) (Line.load (Line.skip 1 0 _ (by decide) (Line.skip 0 0 _ (by decide) (Line.skip 2 1 _ (by decide) (Line.skip 1 1 _ (by decide) (Line.skip 0 1 _ (by decide) (Line.hit 2 0 _ (tile_col _ _ _ _ _ _ (tile_dscore _ zeros_const (lanes0 _ (R2.load_bf16 harg6 h4 1024 _) zeros_bf16) (R2.load_bf16 harg4 h2 1024 _) (tile_delta _ _ _ _ (R2.extf (lanes0 _ (R2.load_bf16 harg6 h4 1024 _) zeros_bf16) _) (R2.extf (R2.castSelf (R2.load_bf16 harg5 h3 1024 _) _) _)) (tile_weight_diag _ _ _ _ _ rfl zeros_const zeros_f32 (lanes0 _ (tile_q2 rfl (R2.load_bf16 harg2 h0 1024 _)) zeros_bf16) (R2.load_bf16 harg3 h1 1024 _) (R5.load harg8 h6 2 0 (fun _ hk => inside512 (by decide) hk) _) (tile_logsum 0 _ _ _ _ _ _ hn0 hw0 (R2.load_f32 harg7 h5 1024 _) zeros_f32) (by omega))) (Line.load (Line.skip 1 0 _ (by decide) (Line.skip 0 0 _ (by decide) (Line.skip 1 1 _ (by decide) (Line.skip 0 1 _ (by decide) (Line.skip 1 0 _ (by decide) (Line.skip 0 0 _ (by decide) (Line.skip 0 1 _ (by decide) (Line.skip 0 0 _ (by decide) (Line.fill (fun _ => Ideal.ofBits_zero_f32) _ _ _ _ _))))))))) _ _)))))))) _ _)))))))) ?_
      intro k hk
      simp only [Pair.colPart_blocks, X.colPart_before 0 (q0 := 0) (M := 512) (show 0 + 512 ≤ 1024 + k by omega), X.colPart_before 0 (q0 := 512) (M := 512) (show 512 + 512 ≤ 1024 + k by omega)]; ring
    · refine Line.congr (Line.skip 3 1 _ (by decide) (Line.hit 2 1 _ (tile_col _ _ _ _ _ _ (tile_dscore _ zeros_const (lanes1 _ (R2.load_bf16 harg6 h4 1536 _) zeros_bf16) (R2.load_bf16 harg4 h2 1024 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 1024 _) (R5.load harg8 h6 2 1 (fun _ hk => inside512 (by decide) hk) _) (tile_logsum 1 _ _ _ _ _ _ hn1 hw1 (R2.load_f32 harg7 h5 1536 _) zeros_f32) (by omega))) (Line.load (Line.skip 1 1 _ (by decide) (Line.skip 0 1 _ (by decide) (Line.skip 3 0 _ (by decide) (Line.skip 2 0 _ (by decide) (Line.skip 1 0 _ (by decide) (Line.skip 0 0 _ (by decide) (Line.hit 2 1 _ (tile_col _ _ _ _ _ _ (tile_dscore _ zeros_const (lanes1 _ (R2.load_bf16 harg6 h4 1024 _) zeros_bf16) (R2.load_bf16 harg4 h2 1024 _) (tile_delta _ _ _ _ (R2.extf (lanes1 _ (R2.load_bf16 harg6 h4 1024 _) zeros_bf16) _) (R2.extf (R2.castSelf (R2.load_bf16 harg5 h3 1024 _) _) _)) (tile_weight_diag _ _ _ _ _ rfl zeros_const zeros_f32 (lanes1 _ (tile_q2 rfl (R2.load_bf16 harg2 h0 1024 _)) zeros_bf16) (R2.load_bf16 harg3 h1 1024 _) (R5.load harg8 h6 2 1 (fun _ hk => inside512 (by decide) hk) _) (tile_logsum 1 _ _ _ _ _ _ hn1 hw1 (R2.load_f32 harg7 h5 1024 _) zeros_f32) (by omega))) (Line.load (Line.skip 1 1 _ (by decide) (Line.skip 0 1 _ (by decide) (Line.skip 2 0 _ (by decide) (Line.skip 1 0 _ (by decide) (Line.skip 0 0 _ (by decide) (Line.skip 1 1 _ (by decide) (Line.skip 0 1 _ (by decide) (Line.skip 1 0 _ (by decide) (Line.skip 0 0 _ (by decide) (Line.skip 0 1 _ (by decide) (Line.skip 0 0 _ (by decide) (Line.fill (fun _ => Ideal.ofBits_zero_f32) _ _ _ _ _)))))))))))) _ _))))))))) _ _)))) ?_
      intro k hk
      simp only [Pair.colPart_blocks, X.colPart_before 1 (q0 := 0) (M := 512) (show 0 + 512 ≤ 1024 + k by omega), X.colPart_before 1 (q0 := 512) (M := 512) (show 512 + 512 ≤ 1024 + k by omega)]; ring
    · refine Line.congr (Line.skip 3 1 _ (by decide) (Line.skip 2 1 _ (by decide) (Line.skip 1 1 _ (by decide) (Line.skip 0 1 _ (by decide) (Line.hit 3 0 _ (tile_col _ _ _ _ _ _ (tile_dscore _ zeros_const (lanes0 _ (R2.load_bf16 harg6 h4 1536 _) zeros_bf16) (R2.load_bf16 harg4 h2 1536 _) (tile_delta _ _ _ _ (R2.extf (lanes0 _ (R2.load_bf16 harg6 h4 1536 _) zeros_bf16) _) (R2.extf (R2.castSelf (R2.load_bf16 harg5 h3 1536 _) _) _)) (tile_weight_diag _ _ _ _ _ rfl zeros_const zeros_f32 (lanes0 _ (tile_q2 rfl (R2.load_bf16 harg2 h0 1536 _)) zeros_bf16) (R2.load_bf16 harg3 h1 1536 _) (R5.load harg8 h6 3 0 (fun _ hk => inside528 (by decide) hk) _) (tile_logsum 0 _ _ _ _ _ _ hn0 hw0 (R2.load_f32 harg7 h5 1536 _) zeros_f32) (by omega))) (Line.load (Line.skip 2 0 _ (by decide) (Line.skip 1 0 _ (by decide) (Line.skip 0 0 _ (by decide) (Line.skip 2 1 _ (by decide) (Line.skip 1 1 _ (by decide) (Line.skip 0 1 _ (by decide) (Line.skip 2 0 _ (by decide) (Line.skip 1 0 _ (by decide) (Line.skip 0 0 _ (by decide) (Line.skip 1 1 _ (by decide) (Line.skip 0 1 _ (by decide) (Line.skip 1 0 _ (by decide) (Line.skip 0 0 _ (by decide) (Line.skip 0 1 _ (by decide) (Line.skip 0 0 _ (by decide) (Line.fill (fun _ => Ideal.ofBits_zero_f32) _ _ _ _ _)))))))))))))))) _ _))))))) ?_
      intro k hk
      simp only [Pair.colPart_blocks, X.colPart_before 0 (q0 := 0) (M := 512) (show 0 + 512 ≤ 1536 + k by omega), X.colPart_before 0 (q0 := 512) (M := 512) (show 512 + 512 ≤ 1536 + k by omega), X.colPart_before 0 (q0 := 1024) (M := 512) (show 1024 + 512 ≤ 1536 + k by omega)]; ring
    · refine Line.congr (Line.hit 3 1 _ (tile_col _ _ _ _ _ _ (tile_dscore _ zeros_const (lanes1 _ (R2.load_bf16 harg6 h4 1536 _) zeros_bf16) (R2.load_bf16 harg4 h2 1536 _) (tile_delta _ _ _ _ (R2.extf (lanes1 _ (R2.load_bf16 harg6 h4 1536 _) zeros_bf16) _) (R2.extf (R2.castSelf (R2.load_bf16 harg5 h3 1536 _) _) _)) (tile_weight_diag _ _ _ _ _ rfl zeros_const zeros_f32 (lanes1 _ (tile_q2 rfl (R2.load_bf16 harg2 h0 1536 _)) zeros_bf16) (R2.load_bf16 harg3 h1 1536 _) (R5.load harg8 h6 3 1 (fun _ hk => inside528 (by decide) hk) _) (tile_logsum 1 _ _ _ _ _ _ hn1 hw1 (R2.load_f32 harg7 h5 1536 _) zeros_f32) (by omega))) (Line.load (Line.skip 2 1 _ (by decide) (Line.skip 1 1 _ (by decide) (Line.skip 0 1 _ (by decide) (Line.skip 3 0 _ (by decide) (Line.skip 2 0 _ (by decide) (Line.skip 1 0 _ (by decide) (Line.skip 0 0 _ (by decide) (Line.skip 2 1 _ (by decide) (Line.skip 1 1 _ (by decide) (Line.skip 0 1 _ (by decide) (Line.skip 2 0 _ (by decide) (Line.skip 1 0 _ (by decide) (Line.skip 0 0 _ (by decide) (Line.skip 1 1 _ (by decide) (Line.skip 0 1 _ (by decide) (Line.skip 1 0 _ (by decide) (Line.skip 0 0 _ (by decide) (Line.skip 0 1 _ (by decide) (Line.skip 0 0 _ (by decide) (Line.fill (fun _ => Ideal.ofBits_zero_f32) _ _ _ _ _)))))))))))))))))))) _ _))) ?_
      intro k hk
      simp only [Pair.colPart_blocks, X.colPart_before 1 (q0 := 0) (M := 512) (show 0 + 512 ≤ 1536 + k by omega), X.colPart_before 1 (q0 := 512) (M := 512) (show 512 + 512 ≤ 1536 + k by omega), X.colPart_before 1 (q0 := 1024) (M := 512) (show 1024 + 512 ≤ 1536 + k by omega)]; ring

end Cert.KernelIdeal.Gen
-- ==== Proof.StepCumQ.lean ====
/- What one grid step stores as the gradient of the running sums on the queries' side: two lanes of its own, and in the
   others what the batch's earlier steps left there, zeros before the first. -/
module

public import proofs.«01_k».proof.Proof.Gen.KernelIdeal.Frame
public import proofs.«01_k».proof.Proof.Tile
public import proofs.«01_k».proof.Proof.Store

@[expose] public section

set_option maxRecDepth 16384
set_option maxHeartbeats 2000000
noncomputable section
namespace Cert.KernelIdeal.Gen
open Idealize.ShloMosaic hiding ix1 ix2 ix3 ix4 ix5
open Idealize.ShloMosaic.ValueIdx Cert.RealBlock Cert.Attention Cert.KernelIdeal
open Idealize.ShloMosaic.TcCoe Idealize.SL.Sem

/-- A batch's first step leaves its two lanes and zeros. -/
theorem dcq_A (c : Dev nD) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S2064x128 .bf16) (harg5 : arg5.IsWhole) (arg6 : Memref sig .tc .vmem S2064x128 .bf16) (harg6 : arg6.IsWhole) (arg7 : Memref sig .tc .vmem S2064x128 .f32) (harg7 : arg7.IsWhole) (arg8 : Memref sig .tc .vmem S1x1x4x8x528 .f32) (harg8 : arg8.IsWhole) (arg9 : Memref sig .tc .vmem S2064x128 .bf16) (harg9 : arg9.IsWhole) (arg10 : Memref sig .tc .vmem S2064x128 .bf16) (harg10 : arg10.IsWhole) (arg11 : Memref sig .tc .vmem S2064x128 .bf16) (harg11 : arg11.IsWhole) (arg12 : Memref sig .tc .vmem S1x1x4x8x528 .f32) (harg12 : arg12.IsWhole) (arg13 : Memref sig .tc .vmem S2064x128 .f32) (harg13 : arg13.IsWhole) (arg14 : Memref sig .tc .vmem S4x128x640 .f32) (harg14 : arg14.IsWhole) (arg15 : Memref sig .tc .vmem S4x128x640 .f32) (harg15 : arg15.IsWhole) (hc0 : cond0_0 i)
    (x0 : Vec Ideal S2064x128 .bf16) (x1 : Vec Ideal S2064x128 .bf16) (x2 : Vec Ideal S2064x128 .bf16) (x3 : Vec Ideal S2064x128 .bf16) (x4 : Vec Ideal S2064x128 .bf16) (x5 : Vec Ideal S2064x128 .f32) (x6 : Vec Ideal S1x1x4x8x528 .f32) (X : Pair) (h0 : R2 x0 X.q) (h1 : R2 x1 X.k) (h2 : R2 x2 X.v) (h3 : R2 x3 X.o) (h4 : R2 x4 X.dout) (h5 : R2 x5 X.lse)
 (h6 : Sums Inside x6 fun j r k => X.cum r (512 * j + k)) (hF : X.first = 2 * (i 1).val) : R2 (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6) fun t l => if l = X.first then X.rowPart 0 0 2064 t else if l = X.first + 1 then X.rowPart 1 0 2064 t else 0 := by
  have hi : (i 1).val < 8 := (i 1).isLt
  have hn0 : X.first + 0 < 128 := by omega
  have hn1 : X.first + 1 < 128 := by omega
  have hw0 : Scalar.addi (Scalar.muli 2#32 (BitVec.ofNat 32 (i 1).val)) 0#32 = BitVec.ofNat 32 (X.first + 0) := by rw [hF]; exact word_lane _ 0
  have hw1 : Scalar.addi (Scalar.muli 2#32 (BitVec.ofNat 32 (i 1).val)) 1#32 = BitVec.ofNat 32 (X.first + 1) := by rw [hF]; exact word_lane _ 1
  frame_open
  rw [View.read_writes_junk_eq_canon]
  dsimp only [k0_pay166, k0_pay167, k0_pay233, k0_pay234, k0_pay277, k0_pay278, k0_pay279]
  have hw : Scalar.muli 2#32 (BitVec.ofNat 32 (i 1).val) = BitVec.ofNat 32 X.first := by rw [hF]; exact word_pair _
  refine Rows.all (Val := Elt Ideal) (e := .f32) (F := fun i l => (((fun t l => if l = X.first then X.rowPart 0 0 2064 t else if l = X.first + 1 then X.rowPart 1 0 2064 t else 0) i l : ℝ) : EReal)) ?_ ?_ ?_ ?_
  · refine (Rows.skip _ _ _ (by omega) (Rows.skip _ _ _ (by omega) (Rows.skip _ _ _ (by omega) (Rows.hit_f32 0 (R2.congr (pick X.first (by omega) _ hw (R2.cols (R2.castSelf (tile_row _ _ _ _ (tile_dscore _ zeros_const (lanes0 _ (R2.load_bf16 harg6 h4 0 _) zeros_bf16) (R2.load_bf16 harg4 h2 0 _) (tile_delta _ _ _ _ (R2.extf (lanes0 _ (R2.load_bf16 harg6 h4 0 _) zeros_bf16) _) (R2.extf (R2.castSelf (R2.load_bf16 harg5 h3 0 _) _) _)) (tile_weight_diag _ _ _ _ _ rfl zeros_const zeros_f32 (lanes0 _ (tile_q2 rfl (R2.load_bf16 harg2 h0 0 _)) zeros_bf16) (R2.load_bf16 harg3 h1 0 _) (R5.load harg8 h6 0 0 (fun _ hk => inside512 (by decide) hk) _) (tile_logsum 0 _ _ _ _ _ _ hn0 hw0 (R2.load_f32 harg7 h5 0 _) zeros_f32) (by omega))) zeros_f32) _) _) (pick (X.first + 1) hn1 _ hw1 (R2.cols (R2.castSelf (tile_row _ _ _ _ (tile_dscore _ zeros_const (lanes1 _ (R2.load_bf16 harg6 h4 0 _) zeros_bf16) (R2.load_bf16 harg4 h2 0 _) (tile_delta _ _ _ _ (R2.extf (lanes1 _ (R2.load_bf16 harg6 h4 0 _) zeros_bf16) _) (R2.extf (R2.castSelf (R2.load_bf16 harg5 h3 0 _) _) _)) (tile_weight_diag _ _ _ _ _ rfl zeros_const zeros_f32 (lanes1 _ (tile_q2 rfl (R2.load_bf16 harg2 h0 0 _)) zeros_bf16) (R2.load_bf16 harg3 h1 0 _) (R5.load harg8 h6 0 1 (fun _ hk => inside512 (by decide) hk) _) (tile_logsum 1 _ _ _ _ _ _ hn1 hw1 (R2.load_f32 harg7 h5 0 _) zeros_f32) (by omega))) zeros_f32) _) _) (R2.castSelf (Rows.load_f32 (Rows.fill (fun _ => Ideal.ofBits_zero_f32) _ _ _) _ _) _))) ?_)))))
    intro t l ht hl
    simp only [Pair.rowPart_blocks, X.rowPart_after 0 (k0 := 512) (N := 512) (show t < 512 by omega), X.rowPart_after 1 (k0 := 512) (N := 512) (show t < 512 by omega), X.rowPart_after 0 (k0 := 1024) (N := 512) (show t < 1024 by omega), X.rowPart_after 1 (k0 := 1024) (N := 512) (show t < 1024 by omega), X.rowPart_after 0 (k0 := 1536) (N := 528) (show t < 1536 by omega), X.rowPart_after 1 (k0 := 1536) (N := 528) (show t < 1536 by omega), zero_add, add_zero]
  · refine (Rows.skip _ _ _ (by omega) (Rows.skip _ _ _ (by omega) (Rows.hit_f32 512 (R2.congr (pick X.first (by omega) _ hw (R2.cols (R2.castSelf (tile_row _ _ _ _ (tile_dscore _ zeros_const (lanes0 _ (R2.load_bf16 harg6 h4 512 _) zeros_bf16) (R2.load_bf16 harg4 h2 512 _) (tile_delta _ _ _ _ (R2.extf (lanes0 _ (R2.load_bf16 harg6 h4 512 _) zeros_bf16) _) (R2.extf (R2.castSelf (R2.load_bf16 harg5 h3 512 _) _) _)) (tile_weight_diag _ _ _ _ _ rfl zeros_const zeros_f32 (lanes0 _ (tile_q2 rfl (R2.load_bf16 harg2 h0 512 _)) zeros_bf16) (R2.load_bf16 harg3 h1 512 _) (R5.load harg8 h6 1 0 (fun _ hk => inside512 (by decide) hk) _) (tile_logsum 0 _ _ _ _ _ _ hn0 hw0 (R2.load_f32 harg7 h5 512 _) zeros_f32) (by omega))) (tile_row _ _ _ _ (tile_dscore _ zeros_const (lanes0 _ (R2.load_bf16 harg6 h4 512 _) zeros_bf16) (R2.load_bf16 harg4 h2 0 _) (tile_delta _ _ _ _ (R2.extf (lanes0 _ (R2.load_bf16 harg6 h4 512 _) zeros_bf16) _) (R2.extf (R2.castSelf (R2.load_bf16 harg5 h3 512 _) _) _)) (tile_weight_below _ _ _ rfl zeros_const (lanes0 _ (tile_q2 rfl (R2.load_bf16 harg2 h0 512 _)) zeros_bf16) (R2.load_bf16 harg3 h1 0 _) (R5.load harg8 h6 0 0 (fun _ hk => inside512 (by decide) hk) _) (tile_logsum 0 _ _ _ _ _ _ hn0 hw0 (R2.load_f32 harg7 h5 512 _) zeros_f32) (by omega))) zeros_f32)) _) _) (pick (X.first + 1) hn1 _ hw1 (R2.cols (R2.castSelf (tile_row _ _ _ _ (tile_dscore _ zeros_const (lanes1 _ (R2.load_bf16 harg6 h4 512 _) zeros_bf16) (R2.load_bf16 harg4 h2 512 _) (tile_delta _ _ _ _ (R2.extf (lanes1 _ (R2.load_bf16 harg6 h4 512 _) zeros_bf16) _) (R2.extf (R2.castSelf (R2.load_bf16 harg5 h3 512 _) _) _)) (tile_weight_diag _ _ _ _ _ rfl zeros_const zeros_f32 (lanes1 _ (tile_q2 rfl (R2.load_bf16 harg2 h0 512 _)) zeros_bf16) (R2.load_bf16 harg3 h1 512 _) (R5.load harg8 h6 1 1 (fun _ hk => inside512 (by decide) hk) _) (tile_logsum 1 _ _ _ _ _ _ hn1 hw1 (R2.load_f32 harg7 h5 512 _) zeros_f32) (by omega))) (tile_row _ _ _ _ (tile_dscore _ zeros_const (lanes1 _ (R2.load_bf16 harg6 h4 512 _) zeros_bf16) (R2.load_bf16 harg4 h2 0 _) (tile_delta _ _ _ _ (R2.extf (lanes1 _ (R2.load_bf16 harg6 h4 512 _) zeros_bf16) _) (R2.extf (R2.castSelf (R2.load_bf16 harg5 h3 512 _) _) _)) (tile_weight_below _ _ _ rfl zeros_const (lanes1 _ (tile_q2 rfl (R2.load_bf16 harg2 h0 512 _)) zeros_bf16) (R2.load_bf16 harg3 h1 0 _) (R5.load harg8 h6 0 1 (fun _ hk => inside512 (by decide) hk) _) (tile_logsum 1 _ _ _ _ _ _ hn1 hw1 (R2.load_f32 harg7 h5 512 _) zeros_f32) (by omega))) zeros_f32)) _) _) (R2.castSelf (Rows.load_f32 (Rows.skip 0 _ _ (by omega) (Rows.fill (fun _ => Ideal.ofBits_zero_f32) _ _ _)) _ _) _))) ?_))))
    intro t l ht hl
    simp only [Pair.rowPart_blocks, X.rowPart_after 0 (k0 := 1024) (N := 512) (show 512 + t < 1024 by omega), X.rowPart_after 1 (k0 := 1024) (N := 512) (show 512 + t < 1024 by omega), X.rowPart_after 0 (k0 := 1536) (N := 528) (show 512 + t < 1536 by omega), X.rowPart_after 1 (k0 := 1536) (N := 528) (show 512 + t < 1536 by omega), zero_add, add_zero]
  · refine (Rows.skip _ _ _ (by omega) (Rows.hit_f32 1024 (R2.congr (pick X.first (by omega) _ hw (R2.cols (R2.castSelf (tile_row _ _ _ _ (tile_dscore _ zeros_const (lanes0 _ (R2.load_bf16 harg6 h4 1024 _) zeros_bf16) (R2.load_bf16 harg4 h2 1024 _) (tile_delta _ _ _ _ (R2.extf (lanes0 _ (R2.load_bf16 harg6 h4 1024 _) zeros_bf16) _) (R2.extf (R2.castSelf (R2.load_bf16 harg5 h3 1024 _) _) _)) (tile_weight_diag _ _ _ _ _ rfl zeros_const zeros_f32 (lanes0 _ (tile_q2 rfl (R2.load_bf16 harg2 h0 1024 _)) zeros_bf16) (R2.load_bf16 harg3 h1 1024 _) (R5.load harg8 h6 2 0 (fun _ hk => inside512 (by decide) hk) _) (tile_logsum 0 _ _ _ _ _ _ hn0 hw0 (R2.load_f32 harg7 h5 1024 _) zeros_f32) (by omega))) (tile_row _ _ _ _ (tile_dscore _ zeros_const (lanes0 _ (R2.load_bf16 harg6 h4 1024 _) zeros_bf16) (R2.load_bf16 harg4 h2 512 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 512 _) (R5.load harg8 h6 1 0 (fun _ hk => inside512 (by decide) hk) _) (tile_logsum 0 _ _ _ _ _ _ hn0 hw0 (R2.load_f32 harg7 h5 1024 _) zeros_f32) (by omega))) (tile_row _ _ _ _ (tile_dscore _ zeros_const (lanes0 _ (R2.load_bf16 harg6 h4 1024 _) zeros_bf16) (R2.load_bf16 harg4 h2 0 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 0 _) (R5.load harg8 h6 0 0 (fun _ hk => inside512 (by decide) hk) _) (tile_logsum 0 _ _ _ _ _ _ hn0 hw0 (R2.load_f32 harg7 h5 1024 _) zeros_f32) (by omega))) zeros_f32))) _) _) (pick (X.first + 1) hn1 _ hw1 (R2.cols (R2.castSelf (tile_row _ _ _ _ (tile_dscore _ zeros_const (lanes1 _ (R2.load_bf16 harg6 h4 1024 _) zeros_bf16) (R2.load_bf16 harg4 h2 1024 _) (tile_delta _ _ _ _ (R2.extf (lanes1 _ (R2.load_bf16 harg6 h4 1024 _) zeros_bf16) _) (R2.extf (R2.castSelf (R2.load_bf16 harg5 h3 1024 _) _) _)) (tile_weight_diag _ _ _ _ _ rfl zeros_const zeros_f32 (lanes1 _ (tile_q2 rfl (R2.load_bf16 harg2 h0 1024 _)) zeros_bf16) (R2.load_bf16 harg3 h1 1024 _) (R5.load harg8 h6 2 1 (fun _ hk => inside512 (by decide) hk) _) (tile_logsum 1 _ _ _ _ _ _ hn1 hw1 (R2.load_f32 harg7 h5 1024 _) zeros_f32) (by omega))) (tile_row _ _ _ _ (tile_dscore _ zeros_const (lanes1 _ (R2.load_bf16 harg6 h4 1024 _) zeros_bf16) (R2.load_bf16 harg4 h2 512 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 512 _) (R5.load harg8 h6 1 1 (fun _ hk => inside512 (by decide) hk) _) (tile_logsum 1 _ _ _ _ _ _ hn1 hw1 (R2.load_f32 harg7 h5 1024 _) zeros_f32) (by omega))) (tile_row _ _ _ _ (tile_dscore _ zeros_const (lanes1 _ (R2.load_bf16 harg6 h4 1024 _) zeros_bf16) (R2.load_bf16 harg4 h2 0 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 0 _) (R5.load harg8 h6 0 1 (fun _ hk => inside512 (by decide) hk) _) (tile_logsum 1 _ _ _ _ _ _ hn1 hw1 (R2.load_f32 harg7 h5 1024 _) zeros_f32) (by omega))) zeros_f32))) _) _) (R2.castSelf (Rows.load_f32 (Rows.skip 512 _ _ (by omega) (Rows.skip 0 _ _ (by omega) (Rows.fill (fun _ => Ideal.ofBits_zero_f32) _ _ _))) _ _) _))) ?_)))
    intro t l ht hl
    simp only [Pair.rowPart_blocks, X.rowPart_after 0 (k0 := 1536) (N := 528) (show 1024 + t < 1536 by omega), X.rowPart_after 1 (k0 := 1536) (N := 528) (show 1024 + t < 1536 by omega), zero_add, add_zero]
  · refine (Rows.hit_f32 1536 (R2.congr (pick X.first (by omega) _ hw (R2.cols (R2.castSelf (tile_row _ _ _ _ (tile_dscore _ zeros_const (lanes0 _ (R2.load_bf16 harg6 h4 1536 _) zeros_bf16) (R2.load_bf16 harg4 h2 1536 _) (tile_delta _ _ _ _ (R2.extf (lanes0 _ (R2.load_bf16 harg6 h4 1536 _) zeros_bf16) _) (R2.extf (R2.castSelf (R2.load_bf16 harg5 h3 1536 _) _) _)) (tile_weight_diag _ _ _ _ _ rfl zeros_const zeros_f32 (lanes0 _ (tile_q2 rfl (R2.load_bf16 harg2 h0 1536 _)) zeros_bf16) (R2.load_bf16 harg3 h1 1536 _) (R5.load harg8 h6 3 0 (fun _ hk => inside528 (by decide) hk) _) (tile_logsum 0 _ _ _ _ _ _ hn0 hw0 (R2.load_f32 harg7 h5 1536 _) zeros_f32) (by omega))) (tile_row _ _ _ _ (tile_dscore _ zeros_const (lanes0 _ (R2.load_bf16 harg6 h4 1536 _) zeros_bf16) (R2.load_bf16 harg4 h2 1024 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 1024 _) (R5.load harg8 h6 2 0 (fun _ hk => inside512 (by decide) hk) _) (tile_logsum 0 _ _ _ _ _ _ hn0 hw0 (R2.load_f32 harg7 h5 1536 _) zeros_f32) (by omega))) (tile_row _ _ _ _ (tile_dscore _ zeros_const (lanes0 _ (R2.load_bf16 harg6 h4 1536 _) zeros_bf16) (R2.load_bf16 harg4 h2 512 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 512 _) (R5.load harg8 h6 1 0 (fun _ hk => inside512 (by decide) hk) _) (tile_logsum 0 _ _ _ _ _ _ hn0 hw0 (R2.load_f32 harg7 h5 1536 _) zeros_f32) (by omega))) (tile_row _ _ _ _ (tile_dscore _ zeros_const (lanes0 _ (R2.load_bf16 harg6 h4 1536 _) zeros_bf16) (R2.load_bf16 harg4 h2 0 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 0 _) (R5.load harg8 h6 0 0 (fun _ hk => inside512 (by decide) hk) _) (tile_logsum 0 _ _ _ _ _ _ hn0 hw0 (R2.load_f32 harg7 h5 1536 _) zeros_f32) (by omega))) zeros_f32)))) _) _) (pick (X.first + 1) hn1 _ hw1 (R2.cols (R2.castSelf (tile_row _ _ _ _ (tile_dscore _ zeros_const (lanes1 _ (R2.load_bf16 harg6 h4 1536 _) zeros_bf16) (R2.load_bf16 harg4 h2 1536 _) (tile_delta _ _ _ _ (R2.extf (lanes1 _ (R2.load_bf16 harg6 h4 1536 _) zeros_bf16) _) (R2.extf (R2.castSelf (R2.load_bf16 harg5 h3 1536 _) _) _)) (tile_weight_diag _ _ _ _ _ rfl zeros_const zeros_f32 (lanes1 _ (tile_q2 rfl (R2.load_bf16 harg2 h0 1536 _)) zeros_bf16) (R2.load_bf16 harg3 h1 1536 _) (R5.load harg8 h6 3 1 (fun _ hk => inside528 (by decide) hk) _) (tile_logsum 1 _ _ _ _ _ _ hn1 hw1 (R2.load_f32 harg7 h5 1536 _) zeros_f32) (by omega))) (tile_row _ _ _ _ (tile_dscore _ zeros_const (lanes1 _ (R2.load_bf16 harg6 h4 1536 _) zeros_bf16) (R2.load_bf16 harg4 h2 1024 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 1024 _) (R5.load harg8 h6 2 1 (fun _ hk => inside512 (by decide) hk) _) (tile_logsum 1 _ _ _ _ _ _ hn1 hw1 (R2.load_f32 harg7 h5 1536 _) zeros_f32) (by omega))) (tile_row _ _ _ _ (tile_dscore _ zeros_const (lanes1 _ (R2.load_bf16 harg6 h4 1536 _) zeros_bf16) (R2.load_bf16 harg4 h2 512 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 512 _) (R5.load harg8 h6 1 1 (fun _ hk => inside512 (by decide) hk) _) (tile_logsum 1 _ _ _ _ _ _ hn1 hw1 (R2.load_f32 harg7 h5 1536 _) zeros_f32) (by omega))) (tile_row _ _ _ _ (tile_dscore _ zeros_const (lanes1 _ (R2.load_bf16 harg6 h4 1536 _) zeros_bf16) (R2.load_bf16 harg4 h2 0 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 0 _) (R5.load harg8 h6 0 1 (fun _ hk => inside512 (by decide) hk) _) (tile_logsum 1 _ _ _ _ _ _ hn1 hw1 (R2.load_f32 harg7 h5 1536 _) zeros_f32) (by omega))) zeros_f32)))) _) _) (R2.castSelf (Rows.load_f32 (Rows.skip 1024 _ _ (by omega) (Rows.skip 512 _ _ (by omega) (Rows.skip 0 _ _ (by omega) (Rows.fill (fun _ => Ideal.ofBits_zero_f32) _ _ _)))) _ _) _))) ?_))
    intro t l ht hl
    simp only [Pair.rowPart_blocks, zero_add, add_zero]

/-- A later step leaves its two lanes and what it found. -/
theorem dcq_B (c : Dev nD) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S2064x128 .bf16) (harg5 : arg5.IsWhole) (arg6 : Memref sig .tc .vmem S2064x128 .bf16) (harg6 : arg6.IsWhole) (arg7 : Memref sig .tc .vmem S2064x128 .f32) (harg7 : arg7.IsWhole) (arg8 : Memref sig .tc .vmem S1x1x4x8x528 .f32) (harg8 : arg8.IsWhole) (arg9 : Memref sig .tc .vmem S2064x128 .bf16) (harg9 : arg9.IsWhole) (arg10 : Memref sig .tc .vmem S2064x128 .bf16) (harg10 : arg10.IsWhole) (arg11 : Memref sig .tc .vmem S2064x128 .bf16) (harg11 : arg11.IsWhole) (arg12 : Memref sig .tc .vmem S1x1x4x8x528 .f32) (harg12 : arg12.IsWhole) (arg13 : Memref sig .tc .vmem S2064x128 .f32) (harg13 : arg13.IsWhole) (arg14 : Memref sig .tc .vmem S4x128x640 .f32) (harg14 : arg14.IsWhole) (arg15 : Memref sig .tc .vmem S4x128x640 .f32) (harg15 : arg15.IsWhole) (hc0 : ¬cond0_0 i)
    (x0 : Vec Ideal S2064x128 .bf16) (x1 : Vec Ideal S2064x128 .bf16) (x2 : Vec Ideal S2064x128 .bf16) (x3 : Vec Ideal S2064x128 .bf16) (x4 : Vec Ideal S2064x128 .bf16) (x5 : Vec Ideal S2064x128 .f32) (x6 : Vec Ideal S1x1x4x8x528 .f32) (xo11 : Vec Ideal S2064x128 .f32) (X : Pair) (h0 : R2 x0 X.q) (h1 : R2 x1 X.k) (h2 : R2 x2 X.v) (h3 : R2 x3 X.o) (h4 : R2 x4 X.dout) (h5 : R2 x5 X.lse)
 (h6 : Sums Inside x6 fun j r k => X.cum r (512 * j + k)) (hF : X.first = 2 * (i 1).val) {g : ℕ → ℕ → ℝ} (h11 : R2 xo11 g) : R2 (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo11) fun t l => if l = X.first then X.rowPart 0 0 2064 t else if l = X.first + 1 then X.rowPart 1 0 2064 t else g t l := by
  have hi : (i 1).val < 8 := (i 1).isLt
  have hn0 : X.first + 0 < 128 := by omega
  have hn1 : X.first + 1 < 128 := by omega
  have hw0 : Scalar.addi (Scalar.muli 2#32 (BitVec.ofNat 32 (i 1).val)) 0#32 = BitVec.ofNat 32 (X.first + 0) := by rw [hF]; exact word_lane _ 0
  have hw1 : Scalar.addi (Scalar.muli 2#32 (BitVec.ofNat 32 (i 1).val)) 1#32 = BitVec.ofNat 32 (X.first + 1) := by rw [hF]; exact word_lane _ 1
  frame_open
  rw [View.read_writes_junk_eq_canon]
  dsimp only [k0_pay166, k0_pay167, k0_pay233, k0_pay234, k0_pay277, k0_pay278, k0_pay279]
  have hw : Scalar.muli 2#32 (BitVec.ofNat 32 (i 1).val) = BitVec.ofNat 32 X.first := by rw [hF]; exact word_pair _
  refine Rows.all (Val := Elt Ideal) (e := .f32) (F := fun i l => (((fun t l => if l = X.first then X.rowPart 0 0 2064 t else if l = X.first + 1 then X.rowPart 1 0 2064 t else g t l) i l : ℝ) : EReal)) ?_ ?_ ?_ ?_
  · refine (Rows.skip _ _ _ (by omega) (Rows.skip _ _ _ (by omega) (Rows.skip _ _ _ (by omega) (Rows.hit_f32 0 (R2.congr (pick X.first (by omega) _ hw (R2.cols (R2.castSelf (tile_row _ _ _ _ (tile_dscore _ zeros_const (lanes0 _ (R2.load_bf16 harg6 h4 0 _) zeros_bf16) (R2.load_bf16 harg4 h2 0 _) (tile_delta _ _ _ _ (R2.extf (lanes0 _ (R2.load_bf16 harg6 h4 0 _) zeros_bf16) _) (R2.extf (R2.castSelf (R2.load_bf16 harg5 h3 0 _) _) _)) (tile_weight_diag _ _ _ _ _ rfl zeros_const zeros_f32 (lanes0 _ (tile_q2 rfl (R2.load_bf16 harg2 h0 0 _)) zeros_bf16) (R2.load_bf16 harg3 h1 0 _) (R5.load harg8 h6 0 0 (fun _ hk => inside512 (by decide) hk) _) (tile_logsum 0 _ _ _ _ _ _ hn0 hw0 (R2.load_f32 harg7 h5 0 _) zeros_f32) (by omega))) zeros_f32) _) _) (pick (X.first + 1) hn1 _ hw1 (R2.cols (R2.castSelf (tile_row _ _ _ _ (tile_dscore _ zeros_const (lanes1 _ (R2.load_bf16 harg6 h4 0 _) zeros_bf16) (R2.load_bf16 harg4 h2 0 _) (tile_delta _ _ _ _ (R2.extf (lanes1 _ (R2.load_bf16 harg6 h4 0 _) zeros_bf16) _) (R2.extf (R2.castSelf (R2.load_bf16 harg5 h3 0 _) _) _)) (tile_weight_diag _ _ _ _ _ rfl zeros_const zeros_f32 (lanes1 _ (tile_q2 rfl (R2.load_bf16 harg2 h0 0 _)) zeros_bf16) (R2.load_bf16 harg3 h1 0 _) (R5.load harg8 h6 0 1 (fun _ hk => inside512 (by decide) hk) _) (tile_logsum 1 _ _ _ _ _ _ hn1 hw1 (R2.load_f32 harg7 h5 0 _) zeros_f32) (by omega))) zeros_f32) _) _) (R2.castSelf (R2.load_f32 harg13 h11 0 _) _))) ?_)))))
    intro t l ht hl
    simp only [Pair.rowPart_blocks, X.rowPart_after 0 (k0 := 512) (N := 512) (show t < 512 by omega), X.rowPart_after 1 (k0 := 512) (N := 512) (show t < 512 by omega), X.rowPart_after 0 (k0 := 1024) (N := 512) (show t < 1024 by omega), X.rowPart_after 1 (k0 := 1024) (N := 512) (show t < 1024 by omega), X.rowPart_after 0 (k0 := 1536) (N := 528) (show t < 1536 by omega), X.rowPart_after 1 (k0 := 1536) (N := 528) (show t < 1536 by omega), zero_add, add_zero]
  · refine (Rows.skip _ _ _ (by omega) (Rows.skip _ _ _ (by omega) (Rows.hit_f32 512 (R2.congr (pick X.first (by omega) _ hw (R2.cols (R2.castSelf (tile_row _ _ _ _ (tile_dscore _ zeros_const (lanes0 _ (R2.load_bf16 harg6 h4 512 _) zeros_bf16) (R2.load_bf16 harg4 h2 512 _) (tile_delta _ _ _ _ (R2.extf (lanes0 _ (R2.load_bf16 harg6 h4 512 _) zeros_bf16) _) (R2.extf (R2.castSelf (R2.load_bf16 harg5 h3 512 _) _) _)) (tile_weight_diag _ _ _ _ _ rfl zeros_const zeros_f32 (lanes0 _ (tile_q2 rfl (R2.load_bf16 harg2 h0 512 _)) zeros_bf16) (R2.load_bf16 harg3 h1 512 _) (R5.load harg8 h6 1 0 (fun _ hk => inside512 (by decide) hk) _) (tile_logsum 0 _ _ _ _ _ _ hn0 hw0 (R2.load_f32 harg7 h5 512 _) zeros_f32) (by omega))) (tile_row _ _ _ _ (tile_dscore _ zeros_const (lanes0 _ (R2.load_bf16 harg6 h4 512 _) zeros_bf16) (R2.load_bf16 harg4 h2 0 _) (tile_delta _ _ _ _ (R2.extf (lanes0 _ (R2.load_bf16 harg6 h4 512 _) zeros_bf16) _) (R2.extf (R2.castSelf (R2.load_bf16 harg5 h3 512 _) _) _)) (tile_weight_below _ _ _ rfl zeros_const (lanes0 _ (tile_q2 rfl (R2.load_bf16 harg2 h0 512 _)) zeros_bf16) (R2.load_bf16 harg3 h1 0 _) (R5.load harg8 h6 0 0 (fun _ hk => inside512 (by decide) hk) _) (tile_logsum 0 _ _ _ _ _ _ hn0 hw0 (R2.load_f32 harg7 h5 512 _) zeros_f32) (by omega))) zeros_f32)) _) _) (pick (X.first + 1) hn1 _ hw1 (R2.cols (R2.castSelf (tile_row _ _ _ _ (tile_dscore _ zeros_const (lanes1 _ (R2.load_bf16 harg6 h4 512 _) zeros_bf16) (R2.load_bf16 harg4 h2 512 _) (tile_delta _ _ _ _ (R2.extf (lanes1 _ (R2.load_bf16 harg6 h4 512 _) zeros_bf16) _) (R2.extf (R2.castSelf (R2.load_bf16 harg5 h3 512 _) _) _)) (tile_weight_diag _ _ _ _ _ rfl zeros_const zeros_f32 (lanes1 _ (tile_q2 rfl (R2.load_bf16 harg2 h0 512 _)) zeros_bf16) (R2.load_bf16 harg3 h1 512 _) (R5.load harg8 h6 1 1 (fun _ hk => inside512 (by decide) hk) _) (tile_logsum 1 _ _ _ _ _ _ hn1 hw1 (R2.load_f32 harg7 h5 512 _) zeros_f32) (by omega))) (tile_row _ _ _ _ (tile_dscore _ zeros_const (lanes1 _ (R2.load_bf16 harg6 h4 512 _) zeros_bf16) (R2.load_bf16 harg4 h2 0 _) (tile_delta _ _ _ _ (R2.extf (lanes1 _ (R2.load_bf16 harg6 h4 512 _) zeros_bf16) _) (R2.extf (R2.castSelf (R2.load_bf16 harg5 h3 512 _) _) _)) (tile_weight_below _ _ _ rfl zeros_const (lanes1 _ (tile_q2 rfl (R2.load_bf16 harg2 h0 512 _)) zeros_bf16) (R2.load_bf16 harg3 h1 0 _) (R5.load harg8 h6 0 1 (fun _ hk => inside512 (by decide) hk) _) (tile_logsum 1 _ _ _ _ _ _ hn1 hw1 (R2.load_f32 harg7 h5 512 _) zeros_f32) (by omega))) zeros_f32)) _) _) (R2.castSelf (R2.load_f32 harg13 h11 512 _) _))) ?_))))
    intro t l ht hl
    simp only [Pair.rowPart_blocks, X.rowPart_after 0 (k0 := 1024) (N := 512) (show 512 + t < 1024 by omega), X.rowPart_after 1 (k0 := 1024) (N := 512) (show 512 + t < 1024 by omega), X.rowPart_after 0 (k0 := 1536) (N := 528) (show 512 + t < 1536 by omega), X.rowPart_after 1 (k0 := 1536) (N := 528) (show 512 + t < 1536 by omega), zero_add, add_zero]
  · refine (Rows.skip _ _ _ (by omega) (Rows.hit_f32 1024 (R2.congr (pick X.first (by omega) _ hw (R2.cols (R2.castSelf (tile_row _ _ _ _ (tile_dscore _ zeros_const (lanes0 _ (R2.load_bf16 harg6 h4 1024 _) zeros_bf16) (R2.load_bf16 harg4 h2 1024 _) (tile_delta _ _ _ _ (R2.extf (lanes0 _ (R2.load_bf16 harg6 h4 1024 _) zeros_bf16) _) (R2.extf (R2.castSelf (R2.load_bf16 harg5 h3 1024 _) _) _)) (tile_weight_diag _ _ _ _ _ rfl zeros_const zeros_f32 (lanes0 _ (tile_q2 rfl (R2.load_bf16 harg2 h0 1024 _)) zeros_bf16) (R2.load_bf16 harg3 h1 1024 _) (R5.load harg8 h6 2 0 (fun _ hk => inside512 (by decide) hk) _) (tile_logsum 0 _ _ _ _ _ _ hn0 hw0 (R2.load_f32 harg7 h5 1024 _) zeros_f32) (by omega))) (tile_row _ _ _ _ (tile_dscore _ zeros_const (lanes0 _ (R2.load_bf16 harg6 h4 1024 _) zeros_bf16) (R2.load_bf16 harg4 h2 512 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 512 _) (R5.load harg8 h6 1 0 (fun _ hk => inside512 (by decide) hk) _) (tile_logsum 0 _ _ _ _ _ _ hn0 hw0 (R2.load_f32 harg7 h5 1024 _) zeros_f32) (by omega))) (tile_row _ _ _ _ (tile_dscore _ zeros_const (lanes0 _ (R2.load_bf16 harg6 h4 1024 _) zeros_bf16) (R2.load_bf16 harg4 h2 0 _) (tile_delta _ _ _ _ (R2.extf (lanes0 _ (R2.load_bf16 harg6 h4 1024 _) zeros_bf16) _) (R2.extf (R2.castSelf (R2.load_bf16 harg5 h3 1024 _) _) _)) (tile_weight_below _ _ _ rfl zeros_const (lanes0 _ (tile_q2 rfl (R2.load_bf16 harg2 h0 1024 _)) zeros_bf16) (R2.load_bf16 harg3 h1 0 _) (R5.load harg8 h6 0 0 (fun _ hk => inside512 (by decide) hk) _) (tile_logsum 0 _ _ _ _ _ _ hn0 hw0 (R2.load_f32 harg7 h5 1024 _) zeros_f32) (by omega))) zeros_f32))) _) _) (pick (X.first + 1) hn1 _ hw1 (R2.cols (R2.castSelf (tile_row _ _ _ _ (tile_dscore _ zeros_const (lanes1 _ (R2.load_bf16 harg6 h4 1024 _) zeros_bf16) (R2.load_bf16 harg4 h2 1024 _) (tile_delta _ _ _ _ (R2.extf (lanes1 _ (R2.load_bf16 harg6 h4 1024 _) zeros_bf16) _) (R2.extf (R2.castSelf (R2.load_bf16 harg5 h3 1024 _) _) _)) (tile_weight_diag _ _ _ _ _ rfl zeros_const zeros_f32 (lanes1 _ (tile_q2 rfl (R2.load_bf16 harg2 h0 1024 _)) zeros_bf16) (R2.load_bf16 harg3 h1 1024 _) (R5.load harg8 h6 2 1 (fun _ hk => inside512 (by decide) hk) _) (tile_logsum 1 _ _ _ _ _ _ hn1 hw1 (R2.load_f32 harg7 h5 1024 _) zeros_f32) (by omega))) (tile_row _ _ _ _ (tile_dscore _ zeros_const (lanes1 _ (R2.load_bf16 harg6 h4 1024 _) zeros_bf16) (R2.load_bf16 harg4 h2 512 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 512 _) (R5.load harg8 h6 1 1 (fun _ hk => inside512 (by decide) hk) _) (tile_logsum 1 _ _ _ _ _ _ hn1 hw1 (R2.load_f32 harg7 h5 1024 _) zeros_f32) (by omega))) (tile_row _ _ _ _ (tile_dscore _ zeros_const (lanes1 _ (R2.load_bf16 harg6 h4 1024 _) zeros_bf16) (R2.load_bf16 harg4 h2 0 _) (tile_delta _ _ _ _ (R2.extf (lanes1 _ (R2.load_bf16 harg6 h4 1024 _) zeros_bf16) _) (R2.extf (R2.castSelf (R2.load_bf16 harg5 h3 1024 _) _) _)) (tile_weight_below _ _ _ rfl zeros_const (lanes1 _ (tile_q2 rfl (R2.load_bf16 harg2 h0 1024 _)) zeros_bf16) (R2.load_bf16 harg3 h1 0 _) (R5.load harg8 h6 0 1 (fun _ hk => inside512 (by decide) hk) _) (tile_logsum 1 _ _ _ _ _ _ hn1 hw1 (R2.load_f32 harg7 h5 1024 _) zeros_f32) (by omega))) zeros_f32))) _) _) (R2.castSelf (R2.load_f32 harg13 h11 1024 _) _))) ?_)))
    intro t l ht hl
    simp only [Pair.rowPart_blocks, X.rowPart_after 0 (k0 := 1536) (N := 528) (show 1024 + t < 1536 by omega), X.rowPart_after 1 (k0 := 1536) (N := 528) (show 1024 + t < 1536 by omega), zero_add, add_zero]
  · refine (Rows.hit_f32 1536 (R2.congr (pick X.first (by omega) _ hw (R2.cols (R2.castSelf (tile_row _ _ _ _ (tile_dscore _ zeros_const (lanes0 _ (R2.load_bf16 harg6 h4 1536 _) zeros_bf16) (R2.load_bf16 harg4 h2 1536 _) (tile_delta _ _ _ _ (R2.extf (lanes0 _ (R2.load_bf16 harg6 h4 1536 _) zeros_bf16) _) (R2.extf (R2.castSelf (R2.load_bf16 harg5 h3 1536 _) _) _)) (tile_weight_diag _ _ _ _ _ rfl zeros_const zeros_f32 (lanes0 _ (tile_q2 rfl (R2.load_bf16 harg2 h0 1536 _)) zeros_bf16) (R2.load_bf16 harg3 h1 1536 _) (R5.load harg8 h6 3 0 (fun _ hk => inside528 (by decide) hk) _) (tile_logsum 0 _ _ _ _ _ _ hn0 hw0 (R2.load_f32 harg7 h5 1536 _) zeros_f32) (by omega))) (tile_row _ _ _ _ (tile_dscore _ zeros_const (lanes0 _ (R2.load_bf16 harg6 h4 1536 _) zeros_bf16) (R2.load_bf16 harg4 h2 1024 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 1024 _) (R5.load harg8 h6 2 0 (fun _ hk => inside512 (by decide) hk) _) (tile_logsum 0 _ _ _ _ _ _ hn0 hw0 (R2.load_f32 harg7 h5 1536 _) zeros_f32) (by omega))) (tile_row _ _ _ _ (tile_dscore _ zeros_const (lanes0 _ (R2.load_bf16 harg6 h4 1536 _) zeros_bf16) (R2.load_bf16 harg4 h2 512 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 512 _) (R5.load harg8 h6 1 0 (fun _ hk => inside512 (by decide) hk) _) (tile_logsum 0 _ _ _ _ _ _ hn0 hw0 (R2.load_f32 harg7 h5 1536 _) zeros_f32) (by omega))) (tile_row _ _ _ _ (tile_dscore _ zeros_const (lanes0 _ (R2.load_bf16 harg6 h4 1536 _) zeros_bf16) (R2.load_bf16 harg4 h2 0 _) (tile_delta _ _ _ _ (R2.extf (lanes0 _ (R2.load_bf16 harg6 h4 1536 _) zeros_bf16) _) (R2.extf (R2.castSelf (R2.load_bf16 harg5 h3 1536 _) _) _)) (tile_weight_below _ _ _ rfl zeros_const (lanes0 _ (tile_q2 rfl (R2.load_bf16 harg2 h0 1536 _)) zeros_bf16) (R2.load_bf16 harg3 h1 0 _) (R5.load harg8 h6 0 0 (fun _ hk => inside512 (by decide) hk) _) (tile_logsum 0 _ _ _ _ _ _ hn0 hw0 (R2.load_f32 harg7 h5 1536 _) zeros_f32) (by omega))) zeros_f32)))) _) _) (pick (X.first + 1) hn1 _ hw1 (R2.cols (R2.castSelf (tile_row _ _ _ _ (tile_dscore _ zeros_const (lanes1 _ (R2.load_bf16 harg6 h4 1536 _) zeros_bf16) (R2.load_bf16 harg4 h2 1536 _) (tile_delta _ _ _ _ (R2.extf (lanes1 _ (R2.load_bf16 harg6 h4 1536 _) zeros_bf16) _) (R2.extf (R2.castSelf (R2.load_bf16 harg5 h3 1536 _) _) _)) (tile_weight_diag _ _ _ _ _ rfl zeros_const zeros_f32 (lanes1 _ (tile_q2 rfl (R2.load_bf16 harg2 h0 1536 _)) zeros_bf16) (R2.load_bf16 harg3 h1 1536 _) (R5.load harg8 h6 3 1 (fun _ hk => inside528 (by decide) hk) _) (tile_logsum 1 _ _ _ _ _ _ hn1 hw1 (R2.load_f32 harg7 h5 1536 _) zeros_f32) (by omega))) (tile_row _ _ _ _ (tile_dscore _ zeros_const (lanes1 _ (R2.load_bf16 harg6 h4 1536 _) zeros_bf16) (R2.load_bf16 harg4 h2 1024 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 1024 _) (R5.load harg8 h6 2 1 (fun _ hk => inside512 (by decide) hk) _) (tile_logsum 1 _ _ _ _ _ _ hn1 hw1 (R2.load_f32 harg7 h5 1536 _) zeros_f32) (by omega))) (tile_row _ _ _ _ (tile_dscore _ zeros_const (lanes1 _ (R2.load_bf16 harg6 h4 1536 _) zeros_bf16) (R2.load_bf16 harg4 h2 512 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 512 _) (R5.load harg8 h6 1 1 (fun _ hk => inside512 (by decide) hk) _) (tile_logsum 1 _ _ _ _ _ _ hn1 hw1 (R2.load_f32 harg7 h5 1536 _) zeros_f32) (by omega))) (tile_row _ _ _ _ (tile_dscore _ zeros_const (lanes1 _ (R2.load_bf16 harg6 h4 1536 _) zeros_bf16) (R2.load_bf16 harg4 h2 0 _) (tile_delta _ _ _ _ (R2.extf (lanes1 _ (R2.load_bf16 harg6 h4 1536 _) zeros_bf16) _) (R2.extf (R2.castSelf (R2.load_bf16 harg5 h3 1536 _) _) _)) (tile_weight_below _ _ _ rfl zeros_const (lanes1 _ (tile_q2 rfl (R2.load_bf16 harg2 h0 1536 _)) zeros_bf16) (R2.load_bf16 harg3 h1 0 _) (R5.load harg8 h6 0 1 (fun _ hk => inside512 (by decide) hk) _) (tile_logsum 1 _ _ _ _ _ _ hn1 hw1 (R2.load_f32 harg7 h5 1536 _) zeros_f32) (by omega))) zeros_f32)))) _) _) (R2.castSelf (R2.load_f32 harg13 h11 1536 _) _))) ?_))
    intro t l ht hl
    simp only [Pair.rowPart_blocks, zero_add, add_zero]

end Cert.KernelIdeal.Gen
-- ==== Proof.Grid.lean ====
/- From one grid step to the whole run: what the kernel's five result arrays hold when the arrays it stages hold real
   numbers. The grid walks the two batches and in each the eight pairs of heads; every step writes its own block of four
   results, and the eight steps of a batch fill the fifth between them, two lanes each. -/
module

public import proofs.«01_k».proof.Proof.StepQ
public import proofs.«01_k».proof.Proof.StepK
public import proofs.«01_k».proof.Proof.StepV
public import proofs.«01_k».proof.Proof.StepCumK
public import proofs.«01_k».proof.Proof.StepCumQ
public import proofs.«01_k».proof.Proof.Gen.KernelIdeal.Value

@[expose] public section

set_option maxHeartbeats 2000000

noncomputable section

namespace Cert.Attention

/-- The arrays the kernel stages, as real numbers: the joint queries, keys and values, the forward output, its gradient and
    the scaled log-sums by row and column; the running sums by batch, head and position. -/
structure Arrays where
  qkv : ℕ → ℕ → ℝ
  o : ℕ → ℕ → ℝ
  dout : ℕ → ℕ → ℝ
  lse : ℕ → ℕ → ℝ
  cum : ℕ → ℕ → ℕ → ℝ

/-- What the grid step of batch `b` and pair `p` reads of them. -/
def Arrays.pair (A : Arrays) (b p : ℕ) : Pair where
  q t l := A.qkv (2064 * b + t) (128 * p + l)
  k t l := A.qkv (2064 * b + t) (1024 + 128 * p + l)
  v t l := A.qkv (2064 * b + t) (2048 + 128 * p + l)
  o t l := A.o (2064 * b + t) (128 * p + l)
  dout t l := A.dout (2064 * b + t) (128 * p + l)
  lse t l := A.lse (2064 * b + t) l
  cum hh s := A.cum b (2 * p + hh) s
  first := 2 * p

end Cert.Attention

namespace Cert.KernelIdeal.Gen

open Idealize.ShloMosaic hiding ix1 ix2 ix3 ix4 ix5
open Idealize.ShloMosaic.ValueIdx Cert.RealBlock Cert.Attention Cert.KernelIdeal
open Idealize.ShloMosaic.TcCoe Idealize.SL.Sem
open Idealize.ShloMosaic.Pipeline (Dat)

variable (m : (ℓ : Loc nD τ sig) → Buf (Elt Ideal) ℓ) (c : Dev nD) (A : Arrays)

/-- The staged arrays hold the real numbers `A`. -/
structure Staged : Prop where
  qkv : ∀ (r : Fin 4128) (l : Fin 3072), V m c main_arg0 (ix2 r l) = ((A.qkv r.val l.val : ℝ) : EReal)
  o : ∀ (r : Fin 4128) (l : Fin 1024), V m c main_v44 (ix2 r l) = ((A.o r.val l.val : ℝ) : EReal)
  dout : ∀ (r : Fin 4128) (l : Fin 1024), V m c main_arg1 (ix2 r l) = ((A.dout r.val l.val : ℝ) : EReal)
  lse : ∀ (r : Fin 4128) (l : Fin 128), V m c main_v59 (ix2 r l) = ((A.lse r.val l.val : ℝ) : EReal)
  cum : ∀ (b : Fin 2) (p : Fin 8) (j : Fin 4) (r : Fin 8) (k : Fin 528), Inside j.val r.val k.val →
    V m c main_v79 (ix5 b p j r k) = ((A.cum b.val (2 * p.val + r.val) (512 * j.val + k.val) : ℝ) : EReal)

/-- The windows' index maps. -/
theorem idx : ∀ t : Fin cfg0.N, win0_0.index t = ![t.val / 8, t.val % 8] ∧ win0_1.index t = ![t.val / 8, 8 + t.val % 8]
    ∧ win0_2.index t = ![t.val / 8, 16 + t.val % 8] ∧ win0_3.index t = ![t.val / 8, t.val % 8]
    ∧ win0_4.index t = ![t.val / 8, t.val % 8] ∧ win0_5.index t = ![t.val / 8, 0]
    ∧ win0_6.index t = ![t.val / 8, t.val % 8, 0, 0, 0] :=
  (by decide +kernel : ∀ t : Fin grid0.N, _)

/-- The results' index maps. -/
theorem idx_out : ∀ t : Fin cfg0.N, win0_7.index t = ![t.val / 8, t.val % 8] ∧ win0_8.index t = ![t.val / 8, t.val % 8]
    ∧ win0_9.index t = ![t.val / 8, t.val % 8] ∧ win0_10.index t = ![t.val / 8, t.val % 8, 0, 0, 0]
    ∧ win0_11.index t = ![t.val / 8, 0] :=
  (by decide +kernel : ∀ t : Fin grid0.N, _)

/-- The second grid coordinate is the pair. -/
theorem coord_pair : ∀ t : Fin cfg0.N, (grid0.coords t 1).val = t.val % 8 := (by decide +kernel : ∀ t : Fin grid0.N, _)

variable {m c A}

section
variable (H : Staged m c A) (t : Fin cfg0.N)
include H

theorem block_q : R2 (iblk m c 0 t) (A.pair (t.val / 8) (t.val % 8)).q := fun i l => by
  have ht : t.val < 16 := lt_of_lt_of_eq t.isLt N_0
  have hi := i.isLt; have hl := l.isLt
  refine Eq.trans ?_ (H.qkv ⟨2064 * (t.val / 8) + i.val, by omega⟩ ⟨128 * (t.val % 8) + l.val, by omega⟩)
  blk_ext [iblk, idx t] <;> dsimp [ix2, ix5] <;> omega

theorem block_k : R2 (iblk m c 1 t) (A.pair (t.val / 8) (t.val % 8)).k := fun i l => by
  have ht : t.val < 16 := lt_of_lt_of_eq t.isLt N_0
  have hi := i.isLt; have hl := l.isLt
  refine Eq.trans ?_ (H.qkv ⟨2064 * (t.val / 8) + i.val, by omega⟩ ⟨1024 + 128 * (t.val % 8) + l.val, by omega⟩)
  blk_ext [iblk, idx t] <;> dsimp [ix2, ix5] <;> omega

theorem block_v : R2 (iblk m c 2 t) (A.pair (t.val / 8) (t.val % 8)).v := fun i l => by
  have ht : t.val < 16 := lt_of_lt_of_eq t.isLt N_0
  have hi := i.isLt; have hl := l.isLt
  refine Eq.trans ?_ (H.qkv ⟨2064 * (t.val / 8) + i.val, by omega⟩ ⟨2048 + 128 * (t.val % 8) + l.val, by omega⟩)
  blk_ext [iblk, idx t] <;> dsimp [ix2, ix5] <;> omega

theorem block_o : R2 (iblk m c 3 t) (A.pair (t.val / 8) (t.val % 8)).o := fun i l => by
  have ht : t.val < 16 := lt_of_lt_of_eq t.isLt N_0
  have hi := i.isLt; have hl := l.isLt
  refine Eq.trans ?_ (H.o ⟨2064 * (t.val / 8) + i.val, by omega⟩ ⟨128 * (t.val % 8) + l.val, by omega⟩)
  blk_ext [iblk, idx t] <;> dsimp [ix2, ix5] <;> omega

theorem block_dout : R2 (iblk m c 4 t) (A.pair (t.val / 8) (t.val % 8)).dout := fun i l => by
  have ht : t.val < 16 := lt_of_lt_of_eq t.isLt N_0
  have hi := i.isLt; have hl := l.isLt
  refine Eq.trans ?_ (H.dout ⟨2064 * (t.val / 8) + i.val, by omega⟩ ⟨128 * (t.val % 8) + l.val, by omega⟩)
  blk_ext [iblk, idx t] <;> dsimp [ix2, ix5] <;> omega

theorem block_lse : R2 (iblk m c 5 t) (A.pair (t.val / 8) (t.val % 8)).lse := fun i l => by
  have ht : t.val < 16 := lt_of_lt_of_eq t.isLt N_0
  have hi := i.isLt; have hl := l.isLt
  refine Eq.trans ?_ (H.lse ⟨2064 * (t.val / 8) + i.val, by omega⟩ l)
  blk_ext [iblk, idx t] <;> dsimp [ix2, ix5] <;> omega

theorem block_cum : Sums Inside (iblk m c 6 t) fun j r k => (A.pair (t.val / 8) (t.val % 8)).cum r (512 * j + k) := fun a b j r k hp => by
  have ht : t.val < 16 := lt_of_lt_of_eq t.isLt N_0
  refine Eq.trans ?_ (H.cum ⟨t.val / 8, by omega⟩ ⟨t.val % 8, by omega⟩ j r k hp)
  blk_ext [iblk, idx t] <;> dsimp [ix2, ix5] <;> omega

end

end Cert.KernelIdeal.Gen

end
-- ==== Proof.Results.lean ====
/- The kernel's five result arrays, entry by entry, when the arrays it stages hold real numbers. -/
module

public import proofs.«01_k».proof.Proof.Grid

@[expose] public section

set_option maxHeartbeats 2000000

noncomputable section

namespace Cert.KernelIdeal.Gen

open Idealize.ShloMosaic hiding ix1 ix2 ix3 ix4 ix5
open Idealize.ShloMosaic.ValueIdx Cert.RealBlock Cert.Attention Cert.KernelIdeal
open Idealize.ShloMosaic.TcCoe Idealize.SL.Sem
open Idealize.ShloMosaic.Pipeline (Dat)

variable {m : (ℓ : Loc nD τ sig) → Buf (Elt Ideal) ℓ} {c : Dev nD} {A : Arrays}

/-- What the fifth result's block holds after the step of pair `p` of batch `b`: lane `l < 2 * p + 2` the row sums of head
    `l`, the other lanes nothing yet. -/
def lanesDone (A : Arrays) (b p : ℕ) (t l : ℕ) : ℝ :=
  if l < 2 * p + 2 then (A.pair b (l / 2)).rowPart (l % 2) 0 2064 t else 0

/-- A step writes its own two lanes beside those of the steps before it. -/
theorem lanesDone_step (A : Arrays) (b p : ℕ) (g : ℕ → ℕ → ℝ)
    (hg : g = if p = 0 then fun _ _ => 0 else lanesDone A b (p - 1)) :
    (fun t l => if l = (A.pair b p).first then (A.pair b p).rowPart 0 0 2064 t
      else if l = (A.pair b p).first + 1 then (A.pair b p).rowPart 1 0 2064 t else g t l) = lanesDone A b p := by
  funext t l
  show (if l = 2 * p then _ else if l = 2 * p + 1 then _ else _) = _
  unfold lanesDone
  by_cases h0 : l = 2 * p
  · subst h0
    rw [if_pos rfl, if_pos (by omega), show 2 * p / 2 = p by omega, show 2 * p % 2 = 0 by omega]
  by_cases h1 : l = 2 * p + 1
  · subst h1
    rw [if_neg h0, if_pos rfl, if_pos (by omega), show (2 * p + 1) / 2 = p by omega, show (2 * p + 1) % 2 = 1 by omega]
  rw [if_neg h0, if_neg h1, hg]
  by_cases hp : p = 0
  · rw [if_pos hp, if_neg (by omega)]
  · rw [if_neg hp]
    show (if l < 2 * (p - 1) + 2 then _ else _) = _
    by_cases hl : l < 2 * p
    · rw [if_pos (by omega), if_pos (by omega)]
    · rw [if_neg (by omega), if_neg (by omega)]

attribute [local irreducible] out0_A_7 out0_A_8 out0_A_9 out0_A_10 out0_A_11 out0_B_7 out0_B_8 out0_B_9 out0_B_10 out0_B_11

/-- The first head of a step's pair. -/
theorem first_pair (A : Arrays) (t : Fin cfg0.N) : (A.pair (t.val / 8) (t.val % 8)).first = 2 * (grid0.coords t 1).val := by
  rw [coord_pair t]; rfl

/-- The block of the gradient of the queries that a step leaves. -/
theorem step_dq (H : Staged m c A) (t : Fin cfg0.N) :
    R2 (outsAt0 m c t.val t.isLt).1 (A.pair (t.val / 8) (t.val % 8)).dq := by
  by_cases h : t.val % 8 = 0
  · rw [congrArg (fun o => o.1) (outsAt0_A m c t h)]
    exact (@dq_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 5 t)
      (A.pair (t.val / 8) (t.val % 8)) (block_q H t) (block_k H t) (block_v H t) (block_o H t) (block_dout H t) (block_lse H t) (block_cum H t) (first_pair A t)).1 ((hcond0_0 t).2 h)
  · rw [congrArg (fun o => o.1) (outsAt0_B m c t h)]
    exact (@dq_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t) _
      (A.pair (t.val / 8) (t.val % 8)) (block_q H t) (block_k H t) (block_v H t) (block_o H t) (block_dout H t) (block_lse H t) (block_cum H t) (first_pair A t)).2 (fun h' => h ((hcond0_0 t).1 h'))

/-- The block of the gradient of the keys that a step leaves. -/
theorem step_dk (H : Staged m c A) (t : Fin cfg0.N) :
    R2 (outsAt0 m c t.val t.isLt).2.1 (A.pair (t.val / 8) (t.val % 8)).dk := by
  by_cases h : t.val % 8 = 0
  · rw [congrArg (fun o => o.2.1) (outsAt0_A m c t h)]
    exact (@dk_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 5 t)
      (A.pair (t.val / 8) (t.val % 8)) (block_q H t) (block_k H t) (block_v H t) (block_o H t) (block_dout H t) (block_lse H t) (block_cum H t) (first_pair A t)).1 ((hcond0_0 t).2 h)
  · rw [congrArg (fun o => o.2.1) (outsAt0_B m c t h)]
    exact (@dk_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t) _
      (A.pair (t.val / 8) (t.val % 8)) (block_q H t) (block_k H t) (block_v H t) (block_o H t) (block_dout H t) (block_lse H t) (block_cum H t) (first_pair A t)).2 (fun h' => h ((hcond0_0 t).1 h'))

/-- The block of the gradient of the values that a step leaves. -/
theorem step_dv (H : Staged m c A) (t : Fin cfg0.N) :
    R2 (outsAt0 m c t.val t.isLt).2.2.1 (A.pair (t.val / 8) (t.val % 8)).dv := by
  by_cases h : t.val % 8 = 0
  · rw [congrArg (fun o => o.2.2.1) (outsAt0_A m c t h)]
    exact (@dv_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 5 t)
      (A.pair (t.val / 8) (t.val % 8)) (block_q H t) (block_k H t) (block_v H t) (block_o H t) (block_dout H t) (block_lse H t) (block_cum H t) (first_pair A t)).1 ((hcond0_0 t).2 h)
  · rw [congrArg (fun o => o.2.2.1) (outsAt0_B m c t h)]
    exact (@dv_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t) _
      (A.pair (t.val / 8) (t.val % 8)) (block_q H t) (block_k H t) (block_v H t) (block_o H t) (block_dout H t) (block_lse H t) (block_cum H t) (first_pair A t)).2 (fun h' => h ((hcond0_0 t).1 h'))

/-- The block of the gradient of the running sums by key that a step leaves. -/
theorem step_dcr (H : Staged m c A) (t : Fin cfg0.N) :
    Sums Inside (outsAt0 m c t.val t.isLt).2.2.2.1 (fun j r k => -(A.pair (t.val / 8) (t.val % 8)).colPart r 0 2064 (512 * j + k))
    ∧ Rest (outsAt0 m c t.val t.isLt).2.2.2.1 := by
  by_cases h : t.val % 8 = 0
  · rw [congrArg (fun o => o.2.2.2.1) (outsAt0_A m c t h)]
    exact (@dcr_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t) (iblk m c 5 t)
      (A.pair (t.val / 8) (t.val % 8)) (block_q H t) (block_k H t) (block_v H t) (block_o H t) (block_dout H t) (block_lse H t) (block_cum H t) (first_pair A t)).1 ((hcond0_0 t).2 h)
  · rw [congrArg (fun o => o.2.2.2.1) (outsAt0_B m c t h)]
    exact (@dcr_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk m c 0 t) (iblk m c 1 t) (iblk m c 2 t) (iblk m c 3 t) (iblk m c 4 t) (iblk m c 5 t) (iblk m c 6 t) _
      (A.pair (t.val / 8) (t.val % 8)) (block_q H t) (block_k H t) (block_v H t) (block_o H t) (block_dout H t) (block_lse H t) (block_cum H t) (first_pair A t)).2 (fun h' => h ((hcond0_0 t).1 h'))

/-- The first step of a batch leaves its own two lanes. -/
theorem lanes_first (H : Staged m c A) (t : Fin cfg0.N) (h : t.val % 8 = 0) :
    R2 (outsAt0 m c t.val t.isLt).2.2.2.2 (lanesDone A (t.val / 8) (t.val % 8)) := by
  rw [congrArg (fun o => o.2.2.2.2) (outsAt0_A m c t h),
    ← lanesDone_step A (t.val / 8) (t.val % 8) (fun _ _ => 0) (if_pos h).symm]
  exact dcq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    ((hcond0_0 t).2 h) (iblk m c 0 t) (iblk m c 1 t) (iblk m c 2 t) (iblk m c 3 t) (iblk m c 4 t) (iblk m c 5 t) (iblk m c 6 t)
    (A.pair (t.val / 8) (t.val % 8)) (block_q H t) (block_k H t) (block_v H t) (block_o H t) (block_dout H t) (block_lse H t) (block_cum H t) (first_pair A t)

/-- A later step adds its two lanes. -/
theorem lanes_next (H : Staged m c A) (t : Fin cfg0.N) (h : ¬t.val % 8 = 0)
    (hg : R2 (outsAt0 m c (t.val - 1) (by omega)).2.2.2.2 (lanesDone A (t.val / 8) (t.val % 8 - 1))) :
    R2 (outsAt0 m c t.val t.isLt).2.2.2.2 (lanesDone A (t.val / 8) (t.val % 8)) := by
  rw [congrArg (fun o => o.2.2.2.2) (outsAt0_B m c t h),
    ← lanesDone_step A (t.val / 8) (t.val % 8) _ (if_neg h).symm]
  exact dcq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (fun h' => h ((hcond0_0 t).1 h')) (iblk m c 0 t) (iblk m c 1 t) (iblk m c 2 t) (iblk m c 3 t) (iblk m c 4 t) (iblk m c 5 t) (iblk m c 6 t) _
    (A.pair (t.val / 8) (t.val % 8)) (block_q H t) (block_k H t) (block_v H t) (block_o H t) (block_dout H t) (block_lse H t) (block_cum H t) (first_pair A t) hg

/-- What the fifth block holds after a step: the lanes of its batch's pairs so far. -/
theorem step_lanes (H : Staged m c A) : ∀ (n : ℕ) (t : Fin cfg0.N), t.val = n →
    R2 (outsAt0 m c t.val t.isLt).2.2.2.2 (lanesDone A (t.val / 8) (t.val % 8)) := by
  intro n
  induction n with
  | zero =>
    intro t ht
    exact lanes_first H t (by omega)
  | succ n ih =>
    intro t ht
    by_cases h : t.val % 8 = 0
    · exact lanes_first H t h
    · have hg := ih ⟨t.val - 1, by omega⟩ (by show t.val - 1 = n; omega)
      refine lanes_next H t h ?_
      have hb : (t.val - 1) / 8 = t.val / 8 := by omega
      have hp : (t.val - 1) % 8 = t.val % 8 - 1 := by omega
      rw [← hb, ← hp]
      exact hg

/-- An index of a matrix is the pair of its coordinates. -/
theorem eq_ix2 {a b : ℕ} (y : (⟨2, ![a, b]⟩ : Shape).Idx) : y = ix2 (y 0) (y 1) := by
  funext x; fin_cases x <;> rfl

/-- An index of five coordinates is their list. -/
theorem eq_ix5 {a b d e f : ℕ} (y : (⟨5, ![a, b, d, e, f]⟩ : Shape).Idx) : y = ix5 (y 0) (y 1) (y 2) (y 3) (y 4) := by
  funext x; fin_cases x <;> rfl

/-- The gradient of the queries. -/
theorem dq_array (H : Staged m c A) : (dats m 0 c).arrAt 7 (cfgs 0).N = fun i =>
    (((A.pair ((i 0).val / 2064) ((i 1).val / 128)).dq ((i 0).val % 2064) ((i 1).val % 128) : ℝ) : EReal) := by
  refine (dats m 0 c).arrAt_eq_of_covers 7 _ (by decide +kernel) fun t hf y => ?_
  have h0 : (y 0).val < 2064 := (y 0).isLt
  have h1 : (y 1).val < 128 := (y 1).isLt
  blk_simp [idx_out t]
  rw [after0_7, show (t.val / 8 * 2064 + (y 0).val) / 2064 = t.val / 8 by omega,
    show (t.val / 8 * 2064 + (y 0).val) % 2064 = (y 0).val by omega,
    show (t.val % 8 * 128 + (y 1).val) / 128 = t.val % 8 by omega,
    show (t.val % 8 * 128 + (y 1).val) % 128 = (y 1).val by omega]
  exact (congrArg _ (eq_ix2 y)).trans (step_dq H t (y 0) (y 1))

/-- The gradient of the keys. -/
theorem dk_array (H : Staged m c A) : (dats m 0 c).arrAt 8 (cfgs 0).N = fun i =>
    (((A.pair ((i 0).val / 2064) ((i 1).val / 128)).dk ((i 0).val % 2064) ((i 1).val % 128) : ℝ) : EReal) := by
  refine (dats m 0 c).arrAt_eq_of_covers 8 _ (by decide +kernel) fun t hf y => ?_
  have h0 : (y 0).val < 2064 := (y 0).isLt
  have h1 : (y 1).val < 128 := (y 1).isLt
  blk_simp [idx_out t]
  rw [after0_8, show (t.val / 8 * 2064 + (y 0).val) / 2064 = t.val / 8 by omega,
    show (t.val / 8 * 2064 + (y 0).val) % 2064 = (y 0).val by omega,
    show (t.val % 8 * 128 + (y 1).val) / 128 = t.val % 8 by omega,
    show (t.val % 8 * 128 + (y 1).val) % 128 = (y 1).val by omega]
  exact (congrArg _ (eq_ix2 y)).trans (step_dk H t (y 0) (y 1))

/-- The gradient of the values. -/
theorem dv_array (H : Staged m c A) : (dats m 0 c).arrAt 9 (cfgs 0).N = fun i =>
    (((A.pair ((i 0).val / 2064) ((i 1).val / 128)).dv ((i 0).val % 2064) ((i 1).val % 128) : ℝ) : EReal) := by
  refine (dats m 0 c).arrAt_eq_of_covers 9 _ (by decide +kernel) fun t hf y => ?_
  have h0 : (y 0).val < 2064 := (y 0).isLt
  have h1 : (y 1).val < 128 := (y 1).isLt
  blk_simp [idx_out t]
  rw [after0_9, show (t.val / 8 * 2064 + (y 0).val) / 2064 = t.val / 8 by omega,
    show (t.val / 8 * 2064 + (y 0).val) % 2064 = (y 0).val by omega,
    show (t.val % 8 * 128 + (y 1).val) / 128 = t.val % 8 by omega,
    show (t.val % 8 * 128 + (y 1).val) % 128 = (y 1).val by omega]
  exact (congrArg _ (eq_ix2 y)).trans (step_dv H t (y 0) (y 1))

open Classical in
/-- The gradient of the running sums by key, in the blocks of keys; nothing beside them. -/
theorem dcr_array (H : Staged m c A) : (dats m 0 c).arrAt 10 (cfgs 0).N = fun i =>
    if Inside (i 2).val (i 3).val (i 4).val then
      ((-(A.pair (i 0).val (i 1).val).colPart (i 3).val 0 2064 (512 * (i 2).val + (i 4).val) : ℝ) : EReal)
    else 0 := by
  refine (dats m 0 c).arrAt_eq_of_covers 10 _ (by decide +kernel) fun t hf y => ?_
  have h0 : (y 0).val < 1 := (y 0).isLt
  have h1 : (y 1).val < 1 := (y 1).isLt
  have h2 : (y 2).val < 4 := (y 2).isLt
  have h3 : (y 3).val < 8 := (y 3).isLt
  have h4 : (y 4).val < 528 := (y 4).isLt
  blk_simp [idx_out t]
  rw [after0_10, eq_ix5 y]
  have H10 := step_dcr H t
  split
  case isTrue h => exact H10.1 (y 0) (y 1) (y 2) (y 3) (y 4) h
  case isFalse h =>
    refine H10.2 (y 0) (y 1) (y 2) (y 3) (y 4) ?_
    by_contra hc
    refine h ⟨?_, ?_⟩
    · show (y 3).val < 2; omega
    · show (y 4).val < (if (y 2).val = 3 then 528 else 512)
      split <;> omega

/-- The gradient of the running sums by query, head by head in the first lanes; nothing in the others. -/
theorem dcq_array (H : Staged m c A) : (dats m 0 c).arrAt 11 (cfgs 0).N = fun i =>
    if (i 1).val < 16 then
      (((A.pair ((i 0).val / 2064) ((i 1).val / 2)).rowPart ((i 1).val % 2) 0 2064 ((i 0).val % 2064) : ℝ) : EReal)
    else 0 := by
  refine (dats m 0 c).arrAt_eq_of_covers 11 _ (by decide +kernel) fun t hf y => ?_
  have h0 : (y 0).val < 2064 := (y 0).isLt
  have h1 : (y 1).val < 128 := (y 1).isLt
  blk_simp [idx_out t]
  rw [after0_11]
  have h7 := (flush0_11 t).1 hf
  refine (congrArg _ (eq_ix2 y)).trans ((step_lanes H t.val t rfl (y 0) (y 1)).trans ?_)
  rw [show (t.val / 8 * 2064 + (y 0).val) / 2064 = t.val / 8 by omega,
    show (t.val / 8 * 2064 + (y 0).val) % 2064 = (y 0).val by omega, lanesDone, h7]
  show ((if (y 1).val < 16 then _ else _ : ℝ) : EReal) = _
  split <;> rfl

end Cert.KernelIdeal.Gen

end
-- ==== Proof.Heads.lean ====
/- The kernel's pairs of half-filled lanes against the attention heads: with the forward pass's output and scaled log-sums
   staged, each half of a pair computes one head's gradients. -/
module

public import proofs.«01_k».proof.Proof.Attention
public import proofs.«01_k».proof.Proof.Grid

@[expose] public section

noncomputable section

namespace Cert.Attention

open scoped BigOperators

/-- The three arguments as real numbers, by row and column. -/
structure Inputs where
  qkv : ℕ → ℕ → ℝ
  dout : ℕ → ℕ → ℝ
  cum : ℕ → ℕ → ℝ

namespace Inputs

variable (I : Inputs)

/-- What head `h` of batch `b` reads. -/
def head (b h : ℕ) : Head where
  q t d := I.qkv (2064 * b + t) (64 * h + d)
  k t d := I.qkv (2064 * b + t) (1024 + 64 * h + d)
  v t d := I.qkv (2064 * b + t) (2048 + 64 * h + d)
  dout t d := I.dout (2064 * b + t) (64 * h + d)
  cum t := I.cum (2064 * b + t) h

/-- What the host stages for the kernel, with `M b h t` the shift of row `t` of head `h` of batch `b`. -/
def arrays (M : ℕ → ℕ → ℕ → ℝ) : Arrays where
  qkv := I.qkv
  o r l := (I.head (r / 2064) (l / 64)).out (M (r / 2064) (l / 64)) (r % 2064) (l % 64)
  dout := I.dout
  lse r l := if l < 16 then
    (M (r / 2064) l (r % 2064) + Real.log ((I.head (r / 2064) l).total (M (r / 2064) l) (r % 2064)) - I.cum r l)
      * (1 / Real.log 2) else 0
  cum b h s := I.cum (2064 * b + s) h

end Inputs

/-- A half-filled factor of a product over the lanes picks the head's lanes. -/
theorem sum_half_mul (hh : ℕ) (hhh : hh < 2) (f : ℕ → ℕ → ℝ) (t : ℕ) (g : ℕ → ℝ) :
    ∑ l ∈ Finset.range 128, half hh f t l * g l = ∑ d ∈ Finset.range 64, f t (64 * hh + d) * g (64 * hh + d) := by
  rw [← sum_lanes hh hhh fun l => f t l * g l]
  refine Finset.sum_congr rfl fun l _ => ?_
  unfold half
  split
  · rfl
  · rw [zero_mul]

section
variable (I : Inputs) (M : ℕ → ℕ → ℕ → ℝ) {b p hh t s : ℕ}

/-- The row's log-sum is found in its head's lane. -/
theorem logsum_eq (hp : p < 8) (hhh : hh < 2) (ht : t < 2064) :
    ((I.arrays M).pair b p).logsum hh t
      = (M b (2 * p + hh) t + Real.log ((I.head b (2 * p + hh)).total (M b (2 * p + hh)) t)
        - (I.head b (2 * p + hh)).cum t) * (1 / Real.log 2) := by
  unfold Pair.logsum
  rw [Finset.sum_ite_eq' (Finset.range 128) (((I.arrays M).pair b p).first + hh), if_pos]
  · show (if 2 * p + hh < 16 then _ else _) = _
    rw [if_pos (by omega), show (2064 * b + t) / 2064 = b by omega, show (2064 * b + t) % 2064 = t by omega]
    rfl
  · rw [Finset.mem_range]
    show 2 * p + hh < 128
    omega

/-- The kernel's weight is the head's softmax weight. -/
theorem weight_eq (hp : p < 8) (hhh : hh < 2) (ht : t < 2064) :
    ((I.arrays M).pair b p).weight hh t s = (I.head b (2 * p + hh)).weight (M b (2 * p + hh)) t s := by
  by_cases h : s ≤ t
  · rw [← Head.two_rpow_eq_weight _ _ ht h, Pair.weight, if_pos h, sum_half_mul hh hhh, logsum_eq I M hp hhh ht]
    have : ∑ d ∈ Finset.range 64, ((I.arrays M).pair b p).q2 t (64 * hh + d) * ((I.arrays M).pair b p).k s (64 * hh + d)
        = ∑ d ∈ Finset.range 64, (I.head b (2 * p + hh)).q t d * (1 / 8 * (Real.log 2)⁻¹) * (I.head b (2 * p + hh)).k s d := by
      refine Finset.sum_congr rfl fun d _ => ?_
      show I.qkv _ (128 * p + (64 * hh + d)) * _ * I.qkv _ (1024 + 128 * p + (64 * hh + d)) = I.qkv _ (64 * (2 * p + hh) + d) * _ * I.qkv _ (1024 + 64 * (2 * p + hh) + d)
      rw [show 128 * p + (64 * hh + d) = 64 * (2 * p + hh) + d by omega,
        show 1024 + 128 * p + (64 * hh + d) = 1024 + 64 * (2 * p + hh) + d by omega]
    rw [this]
    rfl
  · rw [Pair.weight_above _ _ (Nat.lt_of_not_le h), Head.weight_above _ _ (Nat.lt_of_not_le h)]

/-- The kernel's row product of output and output gradient. -/
theorem delta_eq (hhh : hh < 2) (ht : t < 2064) :
    ((I.arrays M).pair b p).delta hh t = ∑ r ∈ Finset.range 2064,
      (I.head b (2 * p + hh)).weight (M b (2 * p + hh)) t r * (I.head b (2 * p + hh)).dweight t r := by
  rw [Pair.delta, sum_half_mul hh hhh, ← Head.sum_dout_out]
  refine Finset.sum_congr rfl fun d hd => ?_
  have hd : d < 64 := Finset.mem_range.1 hd
  show I.dout _ (128 * p + (64 * hh + d)) * (I.head ((2064 * b + t) / 2064) ((128 * p + (64 * hh + d)) / 64)).out
    (M ((2064 * b + t) / 2064) ((128 * p + (64 * hh + d)) / 64)) ((2064 * b + t) % 2064) ((128 * p + (64 * hh + d)) % 64)
    = I.dout _ (64 * (2 * p + hh) + d) * _
  rw [show (2064 * b + t) / 2064 = b by omega, show (2064 * b + t) % 2064 = t by omega,
    show (128 * p + (64 * hh + d)) / 64 = 2 * p + hh by omega, show (128 * p + (64 * hh + d)) % 64 = d by omega,
    show 128 * p + (64 * hh + d) = 64 * (2 * p + hh) + d by omega]

/-- The kernel's gradient of a score is the head's. -/
theorem dscore_eq (hp : p < 8) (hhh : hh < 2) (ht : t < 2064) :
    ((I.arrays M).pair b p).dscore hh t s = (I.head b (2 * p + hh)).dscore (M b (2 * p + hh)) t s := by
  rw [Pair.dscore, Head.dscore, weight_eq I M hp hhh ht, delta_eq I M hhh ht, sum_half_mul hh hhh]
  congr 2
  refine Finset.sum_congr rfl fun d _ => ?_
  show I.dout _ (128 * p + (64 * hh + d)) * I.qkv _ (2048 + 128 * p + (64 * hh + d))
    = I.dout _ (64 * (2 * p + hh) + d) * I.qkv _ (2048 + 64 * (2 * p + hh) + d)
  rw [show 128 * p + (64 * hh + d) = 64 * (2 * p + hh) + d by omega,
    show 2048 + 128 * p + (64 * hh + d) = 2048 + 64 * (2 * p + hh) + d by omega]

/-- The row sums are the head's gradient of its query-side running sums. -/
theorem rowPart_eq (hp : p < 8) (hhh : hh < 2) (ht : t < 2064) :
    ((I.arrays M).pair b p).rowPart hh 0 2064 t = (I.head b (2 * p + hh)).dcumQ (M b (2 * p + hh)) t :=
  Finset.sum_congr rfl fun s _ => by rw [Nat.zero_add, dscore_eq I M hp hhh ht]

/-- The column sums, negated, are the head's gradient of its key-side running sums. -/
theorem colPart_eq (hp : p < 8) (hhh : hh < 2) :
    -((I.arrays M).pair b p).colPart hh 0 2064 s = (I.head b (2 * p + hh)).dcumK (M b (2 * p + hh)) s :=
  congrArg Neg.neg (Finset.sum_congr rfl fun t ht => by
    rw [Nat.zero_add, dscore_eq I M hp hhh (Finset.mem_range.1 ht)])

variable {l : ℕ}

/-- A lane lies in the half its number says. -/
theorem inHead_iff (hhh : hh < 2) (hl : l < 128) : inHead hh l ↔ l / 64 = hh := by
  unfold inHead
  split <;> omega

/-- Of the two halves' values at a lane, one counts. -/
theorem halves (hl : l < 128) (f : ℕ → ℝ) (h0 : ∀ hh, hh < 2 → l / 64 ≠ hh → f hh = 0) : f 0 + f 1 = f (l / 64) := by
  obtain h | h : l / 64 = 0 ∨ l / 64 = 1 := by omega
  · rw [h0 1 (by omega) (by omega), h, add_zero]
  · rw [h0 0 (by omega) (by omega), h, zero_add]

/-- The kernel's gradient of the queries is the head's. -/
theorem dq_eq (hp : p < 8) (hl : l < 128) (ht : t < 2064) :
    ((I.arrays M).pair b p).dq t l = (I.head b (2 * p + l / 64)).dq (M b (2 * p + l / 64)) t (l % 64) := by
  rw [Pair.dq, Head.dq, halves hl fun hh => ((I.arrays M).pair b p).dqPart hh 0 2064 t l]
  · congr 1
    refine Finset.sum_congr rfl fun s _ => ?_
    rw [Nat.zero_add, dscore_eq I M hp (by omega) ht, half, if_pos ((inHead_iff (by omega) hl).2 rfl)]
    show _ * I.qkv _ (1024 + 128 * p + l) = _ * I.qkv _ (1024 + 64 * (2 * p + l / 64) + l % 64)
    rw [show 1024 + 64 * (2 * p + l / 64) + l % 64 = 1024 + 128 * p + l by omega]
  · intro hh hhh hne
    refine Finset.sum_eq_zero fun s _ => ?_
    rw [half, if_neg (fun h => hne ((inHead_iff hhh hl).1 h)), mul_zero]

/-- The kernel's gradient of the keys is the head's. -/
theorem dk_eq (hp : p < 8) (hl : l < 128) :
    ((I.arrays M).pair b p).dk s l = (I.head b (2 * p + l / 64)).dk (M b (2 * p + l / 64)) s (l % 64) := by
  rw [Pair.dk, Head.dk, halves hl fun hh => ((I.arrays M).pair b p).dkPart hh 0 2064 l s, Finset.sum_mul]
  · refine Finset.sum_congr rfl fun t ht => ?_
    rw [Nat.zero_add, dscore_eq I M hp (by omega) (Finset.mem_range.1 ht), half, if_pos ((inHead_iff (by omega) hl).2 rfl)]
    show I.qkv _ (128 * p + l) * (1 / 8) * _ = _ * I.qkv _ (64 * (2 * p + l / 64) + l % 64) * (1 / 8)
    rw [show 64 * (2 * p + l / 64) + l % 64 = 128 * p + l by omega]
    ring
  · intro hh hhh hne
    refine Finset.sum_eq_zero fun s _ => ?_
    rw [half, if_neg (fun h => hne ((inHead_iff hhh hl).1 h)), zero_mul]

/-- The kernel's gradient of the values is the head's. -/
theorem dv_eq (hp : p < 8) (hl : l < 128) :
    ((I.arrays M).pair b p).dv s l = (I.head b (2 * p + l / 64)).dv (M b (2 * p + l / 64)) s (l % 64) := by
  rw [Pair.dv, Head.dv, halves hl fun hh => ((I.arrays M).pair b p).dvPart hh 0 2064 l s]
  · refine Finset.sum_congr rfl fun t ht => ?_
    rw [Nat.zero_add, weight_eq I M hp (by omega) (Finset.mem_range.1 ht), half, if_pos ((inHead_iff (by omega) hl).2 rfl)]
    show I.dout _ (128 * p + l) * _ = I.dout _ (64 * (2 * p + l / 64) + l % 64) * _
    rw [show 64 * (2 * p + l / 64) + l % 64 = 128 * p + l by omega]
  · intro hh hhh hne
    refine Finset.sum_eq_zero fun s _ => ?_
    rw [half, if_neg (fun h => hne ((inHead_iff hhh hl).1 h)), zero_mul]

end

end Cert.Attention

end
-- ==== Proof.Forward.lean ====
/- The reference's softmax read entry by entry: with real inputs every stage holds the real numbers the mathematics of a
   head names. -/
module

public import proofs.«01_k».proof.Proof.Heads
public import proofs.«01_k».proof.Proof.Tile
public import proofs.«01_k».proof.Proof.Gen.ReferenceIdeal.Read

@[expose] public section

noncomputable section

namespace Cert.ReferenceIdeal.Entries

open Idealize.ShloMosaic Cert.ReferenceIdeal.Gen Cert.ReferenceIdeal Cert.ReferenceIdeal.Read Cert.Attention
open scoped BigOperators

/-- The three-axis array `x` holds the real numbers `f`. -/
def V3 {a b d : ℕ} (x : (⟨3, ![a, b, d]⟩ : Shape).Idx → EReal) (f : ℕ → ℕ → ℕ → ℝ) : Prop :=
  ∀ i, x i = ((f (i 0).val (i 1).val (i 2).val : ℝ) : EReal)

/-- The four-axis array `x` holds the real numbers `f`. -/
def V4 {a b d e : ℕ} (x : (⟨4, ![a, b, d, e]⟩ : Shape).Idx → EReal) (f : ℕ → ℕ → ℕ → ℕ → ℝ) : Prop :=
  ∀ i, x i = ((f (i 0).val (i 1).val (i 2).val (i 3).val : ℝ) : EReal)

/-- The arguments hold the real numbers `I`; of the running sums only the first sixteen lanes count. -/
structure Reads (x0 : (⟨S4128x3072, .bf16⟩ : BufTy).Contents (Elt Ideal)) (x1 : (⟨S4128x1024, .bf16⟩ : BufTy).Contents (Elt Ideal))
    (x2 : (⟨S4128x128, .f32⟩ : BufTy).Contents (Elt Ideal)) (I : Inputs) : Prop where
  qkv : ∀ i, x0 i = ((I.qkv (i 0).val (i 1).val : ℝ) : EReal)
  dout : ∀ i, x1 i = ((I.dout (i 0).val (i 1).val : ℝ) : EReal)
  cum : ∀ i, (i 1).val < 16 → x2 i = ((I.cum (i 0).val (i 1).val : ℝ) : EReal)

/-- A sum of entries that are real. -/
theorem sum_fin {n : ℕ} {F : Fin n → EReal} {f : ℕ → ℝ} (h : ∀ k, F k = ((f k.val : ℝ) : EReal)) :
    ∑ k, F k = ((∑ k ∈ Finset.range n, f k : ℝ) : EReal) := by
  rw [Finset.sum_range, Cert.RealBlock.coe_sum]
  exact Finset.sum_congr rfl fun k _ => h k

/-- The same from an initial zero. -/
theorem zero_sum_fin {n : ℕ} {z : EReal} (hz : z = 0) {F : Fin n → EReal} {f : ℕ → ℝ} (h : ∀ k, F k = ((f k.val : ℝ) : EReal)) :
    z + ∑ k, F k = ((∑ k ∈ Finset.range n, f k : ℝ) : EReal) := by
  rw [hz, zero_add, sum_fin h]

/-- Minus infinity, as printed. -/
theorem neg_inf : Ideal.ofBits .f32 0xFF800000#32 = ⊥ := by simp [Ideal.ofBits, Ideal.ieee]
/-- One, as printed. -/
theorem one_f32 : Ideal.ofBits .f32 0x3F800000#32 = ((1 : ℝ) : EReal) := by
  simp [Ideal.ofBits, Ideal.ieee, -EReal.coe_mul]; norm_num

/-- A maximum, from minus infinity on, of entries that are real or minus infinity, one of them real, is real. -/
theorem fold_max_real {n : ℕ} (F : Fin n → EReal) (hT : ∀ k, F k ≠ ⊤) (k : Fin n) (hk : F k ≠ ⊥) :
    ∃ r : ℝ, (Finset.univ : Finset (Fin n)).fold max ⊥ F = (r : EReal) := by
  have hle : F k ≤ (Finset.univ : Finset (Fin n)).fold max ⊥ F := by
    rw [Finset.le_fold_max]; exact Or.inr ⟨k, Finset.mem_univ k, le_rfl⟩
  have hlt : (Finset.univ : Finset (Fin n)).fold max ⊥ F < ⊤ := by
    rw [Finset.fold_max_lt]; exact ⟨bot_lt_top, fun x _ => lt_top_iff_ne_top.2 (hT x)⟩
  exact ⟨_, (EReal.coe_toReal hlt.ne (fun h => hk (le_bot_iff.1 (h ▸ hle)))).symm⟩

section
variable {x0 : (⟨S4128x3072, .bf16⟩ : BufTy).Contents (Elt Ideal)} {x1 : (⟨S4128x1024, .bf16⟩ : BufTy).Contents (Elt Ideal)}
  {x2 : (⟨S4128x128, .f32⟩ : BufTy).Contents (Elt Ideal)} {I : Inputs} (H : Reads x0 x1 x2 I)
include H

/-- The queries, by batch, position, head and column. -/
theorem queries : V4 (val_main_v2 (F := Ideal) x0) fun b t h d => (I.head b h).q t d := fun i => by
  rw [val_main_v2_apply, val_main_v1_apply, val_main_v0_apply]
  refine (H.qkv _).trans (congrArg _ (congrArg₂ I.qkv ?_ ?_))
  · show ((((i 0).val * 2064 + (i 1).val) * 16 + (i 2).val) * 64 + (i 3).val) / 1024 = 2064 * (i 0).val + (i 1).val
    have h2 : (i 2).val < 16 := (i 2).isLt; have h3 : (i 3).val < 64 := (i 3).isLt; omega
  · show ((((i 0).val * 2064 + (i 1).val) * 16 + (i 2).val) * 64 + (i 3).val) % 1024 = 64 * (i 2).val + (i 3).val
    have h2 : (i 2).val < 16 := (i 2).isLt; have h3 : (i 3).val < 64 := (i 3).isLt; omega

/-- The keys. -/
theorem keys : V4 (val_main_v5 (F := Ideal) x0) fun b t h d => (I.head b h).k t d := fun i => by
  rw [val_main_v5_apply, val_main_v4_apply, val_main_v3_apply]
  refine (H.qkv _).trans (congrArg _ (congrArg₂ I.qkv ?_ ?_))
  · show ((((i 0).val * 2064 + (i 1).val) * 16 + (i 2).val) * 64 + (i 3).val) / 1024 = 2064 * (i 0).val + (i 1).val
    have h2 : (i 2).val < 16 := (i 2).isLt; have h3 : (i 3).val < 64 := (i 3).isLt; omega
  · show 1024 + ((((i 0).val * 2064 + (i 1).val) * 16 + (i 2).val) * 64 + (i 3).val) % 1024 = 1024 + 64 * (i 2).val + (i 3).val
    have h2 : (i 2).val < 16 := (i 2).isLt; have h3 : (i 3).val < 64 := (i 3).isLt; omega

/-- The values. -/
theorem values : V4 (val_main_v8 (F := Ideal) x0) fun b t h d => (I.head b h).v t d := fun i => by
  rw [val_main_v8_apply, val_main_v7_apply, val_main_v6_apply]
  refine (H.qkv _).trans (congrArg _ (congrArg₂ I.qkv ?_ ?_))
  · show ((((i 0).val * 2064 + (i 1).val) * 16 + (i 2).val) * 64 + (i 3).val) / 1024 = 2064 * (i 0).val + (i 1).val
    have h2 : (i 2).val < 16 := (i 2).isLt; have h3 : (i 3).val < 64 := (i 3).isLt; omega
  · show 2048 + ((((i 0).val * 2064 + (i 1).val) * 16 + (i 2).val) * 64 + (i 3).val) % 1024 = 2048 + 64 * (i 2).val + (i 3).val
    have h2 : (i 2).val < 16 := (i 2).isLt; have h3 : (i 3).val < 64 := (i 3).isLt; omega

/-- The running sums, by batch, position and head. -/
theorem cums : V3 (val_main_v10 (F := Ideal) x2) fun b t h => (I.head b h).cum t := fun i => by
  have h1 : (i 1).val < 2064 := (i 1).isLt; have h2 : (i 2).val < 16 := (i 2).isLt
  rw [val_main_v10_apply, val_main_v9_apply]
  refine (H.cum _ ?_).trans (congrArg _ (congrArg₂ I.cum ?_ ?_))
  · show (((i 0).val * 2064 + (i 1).val) * 16 + (i 2).val) % 16 < 16
    omega
  · show (((i 0).val * 2064 + (i 1).val) * 16 + (i 2).val) / 16 = 2064 * (i 0).val + (i 1).val
    omega
  · show (((i 0).val * 2064 + (i 1).val) * 16 + (i 2).val) % 16 = (i 2).val
    omega

/-- The scores before their mask. -/
theorem scores : V4 (val_main_v21 (F := Ideal) x0 x2) fun b h t s => (I.head b h).score t s := fun i => by
  have e11 : val_main_v11 (F := Ideal) x0 i = ((∑ d ∈ Finset.range 64, (I.head (i 0).val (i 1).val).q (i 2).val d
      * (I.head (i 0).val (i 1).val).k (i 3).val d : ℝ) : EReal) := by
    rw [val_main_v11_apply]
    exact sum_fin (f := fun d => (I.head (i 0).val (i 1).val).q (i 2).val d * (I.head (i 0).val (i 1).val).k (i 3).val d)
      fun k => by rw [queries H, keys H]; exact (EReal.coe_mul _ _).symm
  have e12 : val_main_v12 (F := Ideal) i = ((1 / 8 : ℝ) : EReal) := by
    rw [val_main_v12_apply]; exact Cert.Attention.eighth_f32
  have e16 : val_main_v16 (F := Ideal) x2 i = (((I.head (i 0).val (i 1).val).cum (i 2).val : ℝ) : EReal) := by
    rw [val_main_v16_apply, val_main_v15_apply, val_main_v14_apply, cums H]
  have e20 : val_main_v20 (F := Ideal) x2 i = (((I.head (i 0).val (i 1).val).cum (i 3).val : ℝ) : EReal) := by
    rw [val_main_v20_apply, val_main_v19_apply, val_main_v18_apply, cums H]
  beta_reduce
  rw [val_main_v21_apply, val_main_v17_apply, val_main_v13_apply, e11, e12, e16, e20, Head.score, EReal.coe_sub, EReal.coe_add,
    EReal.coe_mul]
  rfl

omit H in
/-- The causal mask. -/
theorem mask (i : S2x16x2064x2064.Idx) :
    val_main_v29_1 (F := Ideal) i = BitVec.ofBool (decide ((i 3).val ≤ (i 2).val)) := by
  have h2 : (i 2).val < 2064 := (i 2).isLt; have h3 : (i 3).val < 2064 := (i 3).isLt
  rw [val_main_v29_1_apply, val_main_v28_apply, val_main_v26_apply, val_main_v27_apply, val_main_v23_apply, val_main_v25_apply,
    val_main_v22_apply, val_main_v24_apply]
  exact WordCmp.cmpi_sge_ofNat (by show (i 2).val < _; norm_num; omega) (by show (i 3).val < _; norm_num; omega)

/-- The masked scores. -/
theorem masked (i : S2x16x2064x2064.Idx) : val_main_v29_0 (F := Ideal) x0 x2 i
    = if (i 3).val ≤ (i 2).val then (((I.head (i 0).val (i 1).val).score (i 2).val (i 3).val : ℝ) : EReal) else ⊥ := by
  rw [val_main_v29_0_apply, mask, scores H]
  by_cases h : (i 3).val ≤ (i 2).val
  · rw [if_pos h, decide_eq_true h]; rfl
  · rw [if_neg h, decide_eq_false h, val_main_call0_v2_apply]; exact neg_inf

end

/-- The row maxima, as real numbers. -/
def rowMax (x0 : (⟨S4128x3072, .bf16⟩ : BufTy).Contents (Elt Ideal)) (x2 : (⟨S4128x128, .f32⟩ : BufTy).Contents (Elt Ideal))
    (b h t : ℕ) : ℝ :=
  if hb : b < 2 ∧ h < 16 ∧ t < 2064 then
    EReal.toReal (val_main_v30 (F := Ideal) x0 x2 (ValueIdx.ix3 (⟨b, hb.1⟩ : Fin 2) (⟨h, hb.2.1⟩ : Fin 16) (⟨t, hb.2.2⟩ : Fin 2064)))
  else 0

section
variable {x0 : (⟨S4128x3072, .bf16⟩ : BufTy).Contents (Elt Ideal)} {x1 : (⟨S4128x1024, .bf16⟩ : BufTy).Contents (Elt Ideal)}
  {x2 : (⟨S4128x128, .f32⟩ : BufTy).Contents (Elt Ideal)} {I : Inputs} (H : Reads x0 x1 x2 I)
include H

/-- A row's maximum is a real number: the diagonal is never masked. -/
theorem maxima : V3 (val_main_v30 (F := Ideal) x0 x2) (rowMax x0 x2) := fun i => by
  have h0 : (i 0).val < 2 := (i 0).isLt; have h1 : (i 1).val < 16 := (i 1).isLt; have h2 : (i 2).val < 2064 := (i 2).isLt
  have key : ∃ r : ℝ, val_main_v30 (F := Ideal) x0 x2 i = (r : EReal) := by
    have hr : S2x16x2064x2064.Reduces [3] S2x16x2064 := by decide
    have e := Host.reduce_eq_fold_single (max : EReal → EReal → EReal) (val_main_v29_0 (F := Ideal) x0 x2)
      (val_main_cst_1 (F := Ideal)) reducesTo_S2x16x2064x2064_S2x16x2064_d3 hr h_S_ i
    have e' : val_main_v30 (F := Ideal) x0 x2 i = (Finset.univ : Finset (Fin 2064)).fold max ⊥
        (fun k => val_main_v29_0 (F := Ideal) x0 x2 (hr.lift i k)) := by
      rw [← neg_inf]; exact e
    rw [e']
    refine fold_max_real _ (fun k => ?_) (⟨0, by norm_num⟩ : Fin 2064) ?_
    · rw [masked H]; split
      · exact EReal.coe_ne_top _
      · exact bot_ne_top
    · rw [masked H, if_pos]
      · exact EReal.coe_ne_bot _
      · exact Nat.zero_le _
  obtain ⟨r, hr⟩ := key
  rw [rowMax, dif_pos ⟨h0, h1, h2⟩]
  have : ValueIdx.ix3 (⟨(i 0).val, h0⟩ : Fin 2) (⟨(i 1).val, h1⟩ : Fin 16) (⟨(i 2).val, h2⟩ : Fin 2064) = i := by
    funext a; fin_cases a <;> rfl
  rw [this, hr]; rfl

/-- The exponentials of a score, real or minus infinity, less its row's maximum. -/
theorem exp_masked (b h t s : ℕ) (m : ℝ) :
    Ideal.exp ((if s ≤ t then (((I.head b h).score t s : ℝ) : EReal) else ⊥) - (m : EReal))
      = (((I.head b h).expo (fun _ => m) t s : ℝ) : EReal) := by
  unfold Head.expo
  split
  · rw [← EReal.coe_sub, Ideal.exp_coe]
  · rw [EReal.bot_sub, Ideal.exp_bot, EReal.coe_zero]

/-- The exponentials. -/
theorem expos : V4 (val_main_v50 (F := Ideal) x0 x2) fun b h t s => (I.head b h).expo (rowMax x0 x2 b h) t s := fun i => by
  have e48 : val_main_v48 (F := Ideal) x0 x2 i = ((rowMax x0 x2 (i 0).val (i 1).val (i 2).val : ℝ) : EReal) := by
    rw [val_main_v48_apply, val_main_v47_apply, val_main_v37_apply, val_main_v36_apply, maxima H]
    refine Eq.trans (b := max (⊥ : EReal) _) (congrArg (max · _) neg_inf) ?_
    rw [max_eq_right bot_le]
  rw [val_main_v50_apply, val_main_v49_apply, masked H, e48]
  exact exp_masked H _ _ _ _ _

/-- The rows' sums of exponentials. -/
theorem totals : V3 (val_main_v51 (F := Ideal) x0 x2) fun b h t => (I.head b h).total (rowMax x0 x2 b h) t := fun i => by
  rw [val_main_v51_apply]
  exact zero_sum_fin Ideal.ofBits_zero_f32 (f := fun s => (I.head (i 0).val (i 1).val).expo (rowMax x0 x2 (i 0).val (i 1).val) (i 2).val s)
    fun k => by rw [expos H]

/-- The softmax weights. -/
theorem weights : V4 (val_main_v54 (F := Ideal) x0 x2) fun b h t s => (I.head b h).weight (rowMax x0 x2 b h) t s := fun i => by
  have h2 : (i 2).val < 2064 := (i 2).isLt
  have e53 : val_main_v53 (F := Ideal) x0 x2 i = (((I.head (i 0).val (i 1).val).total (rowMax x0 x2 (i 0).val (i 1).val) (i 2).val : ℝ) : EReal) := by
    rw [val_main_v53_apply, val_main_v52_apply, totals H]
  beta_reduce
  rw [val_main_v54_apply, expos H, e53, Ideal.hostDivf_def,
    Ideal.div_coe (Head.total_pos _ _ h2).ne', ← EReal.coe_mul, Head.weight, mul_one_div]

/-- The attention's output, by batch, position, head and column. -/
theorem outputs : V4 (val_main_v59 (F := Ideal) x0 x2) fun b t h d => (I.head b h).out (rowMax x0 x2 b h) t d := fun i => by
  rw [val_main_v59_apply, val_main_v58_apply]
  exact sum_fin (f := fun s => (I.head (i 0).val (i 2).val).v s (i 3).val * (I.head (i 0).val (i 2).val).weight (rowMax x0 x2 (i 0).val (i 2).val) (i 1).val s)
    fun k => by rw [values H, weights H]; exact (EReal.coe_mul _ _).symm

end

end Cert.ReferenceIdeal.Entries

end
-- ==== Proof.Backward.lean ====
/- The reference's gradients read entry by entry. -/
module

public import proofs.«01_k».proof.Proof.Forward

@[expose] public section

noncomputable section

namespace Cert.ReferenceIdeal.Entries

open Idealize.ShloMosaic Cert.ReferenceIdeal.Gen Cert.ReferenceIdeal Cert.ReferenceIdeal.Read Cert.Attention
open scoped BigOperators

variable {x0 : (⟨S4128x3072, .bf16⟩ : BufTy).Contents (Elt Ideal)} {x1 : (⟨S4128x1024, .bf16⟩ : BufTy).Contents (Elt Ideal)}
  {x2 : (⟨S4128x128, .f32⟩ : BufTy).Contents (Elt Ideal)} {I : Inputs} (H : Reads x0 x1 x2 I)
include H

/-- The output's gradient, by batch, head, column and position. -/
theorem douts : V4 (val_main_v62 (F := Ideal) x1) fun b h d t => (I.head b h).dout t d := fun i => by
  have h1 : (i 1).val < 16 := (i 1).isLt; have h2 : (i 2).val < 64 := (i 2).isLt; have h3 : (i 3).val < 2064 := (i 3).isLt
  rw [val_main_v62_apply, val_main_v61_apply, val_main_v60_apply]
  refine (H.dout _).trans (congrArg _ (congrArg₂ I.dout ?_ ?_))
  · show ((((i 0).val * 2064 + (i 3).val) * 16 + (i 1).val) * 64 + (i 2).val) / 1024 = 2064 * (i 0).val + (i 3).val
    omega
  · show ((((i 0).val * 2064 + (i 3).val) * 16 + (i 1).val) * 64 + (i 2).val) % 1024 = 64 * (i 1).val + (i 2).val
    omega

/-- The weights' gradients. -/
theorem dweights : V4 (val_main_v63 (F := Ideal) x0 x1) fun b h t s => (I.head b h).dweight t s := fun i => by
  rw [val_main_v63_apply]
  exact sum_fin (f := fun d => (I.head (i 0).val (i 1).val).dout (i 2).val d * (I.head (i 0).val (i 1).val).v (i 3).val d)
    fun k => by rw [douts H, values H]; exact (EReal.coe_mul _ _).symm

/-- The gradient of the values, by batch, position, head and column. -/
theorem dvs : V4 (val_main_v65 (F := Ideal) x0 x1 x2) fun b s h d => (I.head b h).dv (rowMax x0 x2 b h) s d := fun i => by
  rw [val_main_v65_apply, val_main_v64_apply]
  exact sum_fin (f := fun t => (I.head (i 0).val (i 2).val).dout t (i 3).val
      * (I.head (i 0).val (i 2).val).weight (rowMax x0 x2 (i 0).val (i 2).val) t (i 1).val)
    fun k => by rw [douts H, weights H]; exact (EReal.coe_mul _ _).symm

/-- The squares of the rows' sums, inverted. -/
theorem inverse_squares : V4 (val_main_v66 (F := Ideal) x0 x2) fun b h t _ =>
    1 * (1 / ((I.head b h).total (rowMax x0 x2 b h) t * (I.head b h).total (rowMax x0 x2 b h) t)) := fun i => by
  have h2 : (i 2).val < 2064 := (i 2).isLt
  have hZ := Head.total_pos (I.head (i 0).val (i 1).val) (rowMax x0 x2 (i 0).val (i 1).val) h2
  rw [val_main_v66_apply, val_main_v57_apply, val_main_v55_apply, val_main_v52_apply, totals H, val_main_v56_apply]
  refine Eq.trans (b := Ideal.div ((1 : ℝ) : EReal)
    (((I.head (i 0).val (i 1).val).total (rowMax x0 x2 (i 0).val (i 1).val) (i 2).val
      * (I.head (i 0).val (i 1).val).total (rowMax x0 x2 (i 0).val (i 1).val) (i 2).val : ℝ) : EReal)) ?_ ?_
  · refine congrArg₂ Ideal.div one_f32 ?_
    exact (EReal.coe_mul _ _).symm
  · rw [Ideal.div_coe (mul_pos hZ hZ).ne', ← EReal.coe_mul]

/-- What the division by a row's sum passes back to the sum. -/
theorem sum_grads : V3 (val_main_v69 (F := Ideal) x0 x1 x2) fun b h t => ∑ s ∈ Finset.range 2064,
    (I.head b h).dweight t s
      * (1 * (1 / ((I.head b h).total (rowMax x0 x2 b h) t * (I.head b h).total (rowMax x0 x2 b h) t)))
      * (I.head b h).expo (rowMax x0 x2 b h) t s := fun i => by
  rw [val_main_v69_apply]
  exact zero_sum_fin Ideal.ofBits_zero_f32 (f := fun s => (I.head (i 0).val (i 1).val).dweight (i 2).val s
      * (1 * (1 / ((I.head (i 0).val (i 1).val).total (rowMax x0 x2 (i 0).val (i 1).val) (i 2).val
        * (I.head (i 0).val (i 1).val).total (rowMax x0 x2 (i 0).val (i 1).val) (i 2).val)))
      * (I.head (i 0).val (i 1).val).expo (rowMax x0 x2 (i 0).val (i 1).val) (i 2).val s)
    fun k => by
      rw [val_main_v68_apply, val_main_v67_apply, dweights H, inverse_squares H, expos H]
      exact ((EReal.coe_mul _ _).trans (congrArg (· * _) (EReal.coe_mul _ _))).symm

/-- The same, negated, and summed over its one column. -/
theorem sum_grads_neg : V3 (val_main_v74 (F := Ideal) x0 x1 x2) fun b h t => -∑ s ∈ Finset.range 2064,
    (I.head b h).dweight t s
      * (1 * (1 / ((I.head b h).total (rowMax x0 x2 b h) t * (I.head b h).total (rowMax x0 x2 b h) t)))
      * (I.head b h).expo (rowMax x0 x2 b h) t s := fun i => by
  have h1 : (i 1).val < 16 := (i 1).isLt; have h2 : (i 2).val < 2064 := (i 2).isLt
  have h70 : ∀ k : Fin 1, idx_main_v70 (idx_main_v74 i k) = i := fun k => by
    have hk := k.isLt
    funext a; refine Fin.ext ?_
    fin_cases a
    · show ((((i 0).val * 16 + (i 1).val) * 2064 + (i 2).val) * 1 + k.val) / 33024 = (i 0).val
      omega
    · show ((((i 0).val * 16 + (i 1).val) * 2064 + (i 2).val) * 1 + k.val) / 2064 % 16 = (i 1).val
      omega
    · show ((((i 0).val * 16 + (i 1).val) * 2064 + (i 2).val) * 1 + k.val) % 2064 = (i 2).val
      omega
  rw [val_main_v74_apply, Fin.sum_univ_one, val_main_v71_apply, val_main_v70_apply, h70, sum_grads H, EReal.coe_neg]
  exact (congrArg (· + _) Ideal.ofBits_zero_f32).trans (zero_add _)

/-- The scores' gradients. -/
theorem dscores : V4 (val_main_v78 (F := Ideal) x0 x1 x2) fun b h t s => (I.head b h).dscore (rowMax x0 x2 b h) t s := fun i => by
  have h2 : (i 2).val < 2064 := (i 2).isLt
  have hZ := Head.total_pos (I.head (i 0).val (i 1).val) (rowMax x0 x2 (i 0).val (i 1).val) h2
  beta_reduce
  rw [val_main_v78_apply, mask]
  by_cases h : (i 3).val ≤ (i 2).val
  · rw [decide_eq_true h, ← Head.quotient_dscore _ _ h2, EReal.coe_mul, EReal.coe_add, EReal.coe_mul]
    show val_main_v77 (F := Ideal) x0 x1 x2 i = _
    rw [val_main_v77_apply, val_main_v76_apply, val_main_v75_apply, sum_grads_neg H, val_main_v73_apply, val_main_v72_apply,
      val_main_v52_apply, totals H, dweights H, expos H, Ideal.hostDivf_def]
    refine congrArg (· * _) (congrArg (· + _) ?_)
    exact Ideal.div_coe hZ.ne' _
  · rw [decide_eq_false h, Head.dscore_above _ _ (Nat.lt_of_not_le h), EReal.coe_zero]
    show val_main_call1_v0 (F := Ideal) i = _
    rw [val_main_call1_v0_apply]
    exact Ideal.ofBits_zero_f32

/-- The gradient of the running sums through the keys' side, by batch, head and position. -/
theorem dcumKs : V3 (val_main_v82 (F := Ideal) x0 x1 x2) fun b h s => (I.head b h).dcumK (rowMax x0 x2 b h) s := fun i => by
  have h1 : (i 1).val < 16 := (i 1).isLt; have h2 : (i 2).val < 2064 := (i 2).isLt
  have h81 : ∀ k : Fin 1, idx_main_v81 (idx_main_v82 i k) = i := fun k => by
    have hk := k.isLt
    funext a; refine Fin.ext ?_
    fin_cases a
    · show ((((i 0).val * 16 + (i 1).val) * 1 + k.val) * 2064 + (i 2).val) / 33024 = (i 0).val
      omega
    · show ((((i 0).val * 16 + (i 1).val) * 1 + k.val) * 2064 + (i 2).val) / 2064 % 16 = (i 1).val
      omega
    · show ((((i 0).val * 16 + (i 1).val) * 1 + k.val) * 2064 + (i 2).val) % 2064 = (i 2).val
      omega
  beta_reduce
  rw [val_main_v82_apply, Fin.sum_univ_one, val_main_v81_apply, h81, val_main_v80_apply, Head.dcumK, ← Finset.sum_neg_distrib]
  refine (congrArg (· + _) Ideal.ofBits_zero_f32).trans ((zero_add _).trans ?_)
  exact zero_sum_fin Ideal.ofBits_zero_f32
    (f := fun t => -(I.head (i 0).val (i 1).val).dscore (rowMax x0 x2 (i 0).val (i 1).val) t (i 2).val)
    fun k => by rw [val_main_v79_apply, dscores H]; exact (EReal.coe_neg _).symm

/-- The gradient of the running sums through the queries' side, by batch, head and position. -/
theorem dcumQs : V3 (val_main_v86 (F := Ideal) x0 x1 x2) fun b h t => (I.head b h).dcumQ (rowMax x0 x2 b h) t := fun i => by
  have h1 : (i 1).val < 16 := (i 1).isLt; have h2 : (i 2).val < 2064 := (i 2).isLt
  have h85 : ∀ k : Fin 1, idx_main_v85 (idx_main_v86 i k) = i := fun k => by
    have hk := k.isLt
    funext a; refine Fin.ext ?_
    fin_cases a
    · show ((((i 0).val * 16 + (i 1).val) * 2064 + (i 2).val) * 1 + k.val) / 33024 = (i 0).val
      omega
    · show ((((i 0).val * 16 + (i 1).val) * 2064 + (i 2).val) * 1 + k.val) / 2064 % 16 = (i 1).val
      omega
    · show ((((i 0).val * 16 + (i 1).val) * 2064 + (i 2).val) * 1 + k.val) % 2064 = (i 2).val
      omega
  rw [val_main_v86_apply, Fin.sum_univ_one, val_main_v85_apply, h85, val_main_v84_apply]
  refine (congrArg (· + _) Ideal.ofBits_zero_f32).trans ((zero_add _).trans ?_)
  exact zero_sum_fin Ideal.ofBits_zero_f32
    (f := fun s => (I.head (i 0).val (i 1).val).dscore (rowMax x0 x2 (i 0).val (i 1).val) (i 2).val s)
    fun k => by rw [dscores H]

/-- The scores' gradients, scaled. -/
theorem scaled : V4 (val_main_v89 (F := Ideal) x0 x1 x2) fun b h t s => (I.head b h).dscore (rowMax x0 x2 b h) t s * (1 / 8) := fun i => by
  rw [val_main_v89_apply, dscores H, val_main_v88_apply]
  exact (congrArg (_ * ·) eighth_f32).trans (EReal.coe_mul _ _).symm

/-- The gradient of the keys, by batch, position, head and column. -/
theorem dks : V4 (val_main_v91 (F := Ideal) x0 x1 x2) fun b s h d => (I.head b h).dk (rowMax x0 x2 b h) s d := fun i => by
  beta_reduce
  rw [val_main_v91_apply, val_main_v90_apply, Head.dk, Finset.sum_mul]
  exact sum_fin (f := fun t => (I.head (i 0).val (i 2).val).dscore (rowMax x0 x2 (i 0).val (i 2).val) t (i 1).val
      * (I.head (i 0).val (i 2).val).q t (i 3).val * (1 / 8))
    fun k => by rw [scaled H, queries H]; exact (EReal.coe_mul _ _).symm.trans (congrArg _ (mul_right_comm _ _ _))

/-- The gradient of the queries, by batch, position, head and column. -/
theorem dqs : V4 (val_main_v93 (F := Ideal) x0 x1 x2) fun b t h d => (I.head b h).dq (rowMax x0 x2 b h) t d := fun i => by
  beta_reduce
  rw [val_main_v93_apply, val_main_v92_apply, Head.dq, Finset.sum_mul]
  exact sum_fin (f := fun s => (I.head (i 0).val (i 2).val).dscore (rowMax x0 x2 (i 0).val (i 2).val) (i 1).val s
      * (I.head (i 0).val (i 2).val).k s (i 3).val * (1 / 8))
    fun k => by rw [scaled H, keys H]; exact (EReal.coe_mul _ _).symm.trans (congrArg _ (mul_right_comm _ _ _))

end Cert.ReferenceIdeal.Entries

end
-- ==== Proof.Layout.lean ====
/- Padded blocks of rows, stacked: how both programs lay out what belongs to the keys. -/
module

public import proofs.«01_k».proof.Proof.Forward
public import proofs.«01_k».proof.Proof.Store
public import Idealize.ShloMosaic.Lib.KernelVsHost

@[expose] public section

noncomputable section

namespace Cert.Layout

open Idealize.ShloMosaic Cert.ReferenceIdeal.Entries Cert.RealBlock

/-- Two rows of `n` entries in each of eight pairs of two batches, padded with zeros to eight rows of 528. -/
theorem pad_rows {n w : ℕ} {x : (⟨4, ![2, 8, 2, n]⟩ : Shape).Idx → EReal} {f : ℕ → ℕ → ℕ → ℕ → ℝ} (hx : V4 x f)
    {u : Shape} (v : u.Idx → EReal)
    (h : (⟨4, ![2, 8, 2, n]⟩ : Shape).Pads ![0, 0, 0, 0] ![0, 0, 6, w] ![0, 0, 0, 0] ⟨4, ![2, 8, 8, 528]⟩) (hu : 0 < u.numel)
    (hv : v (Shape.Idx.first hu) = 0) (i : (⟨4, ![2, 8, 8, 528]⟩ : Shape).Idx) :
    pad ⟨4, ![2, 8, 8, 528]⟩ ![0, 0, 0, 0] ![0, 0, 6, w] ![0, 0, 0, 0] x v h hu i
      = if (i 2).val < 2 ∧ (i 3).val < n then ((f (i 0).val (i 1).val (i 2).val (i 3).val : ℝ) : EReal) else 0 := by
  split
  case isTrue hc =>
    refine (pad_apply_of_inside _ _ _ x v h hu i
      (ValueIdx.ix4 (i 0 : Fin 2) (i 1 : Fin 8) (⟨(i 2).val, hc.1⟩ : Fin 2) (⟨(i 3).val, hc.2⟩ : Fin n)) fun a => ?_).trans (hx _)
    fin_cases a
    · show (i 0).val = 0 + (i 0).val * (0 + 1); omega
    · show (i 1).val = 0 + (i 1).val * (0 + 1); omega
    · show (i 2).val = 0 + (i 2).val * (0 + 1); omega
    · show (i 3).val = 0 + (i 3).val * (0 + 1); omega
  case isFalse hc =>
    rw [← hv]
    by_cases h2 : (i 2).val < 2
    · refine pad_apply_of_not_inside _ _ _ x v h hu i 3 fun hin => hc ⟨h2, ?_⟩
      have h3 : ((i 3).val - 0) / (0 + 1) < n := hin.2.2
      omega
    · refine pad_apply_of_not_inside _ _ _ x v h hu i 2 fun hin => h2 ?_
      have h3 : ((i 2).val - 0) / (0 + 1) < 2 := hin.2.2
      omega

/-- Sixteen lanes padded with zeros to 128. -/
theorem pad_lanes {x : (⟨2, ![4128, 16]⟩ : Shape).Idx → EReal} {f : ℕ → ℕ → ℝ}
    (hx : ∀ i, x i = ((f (i 0).val (i 1).val : ℝ) : EReal)) {u : Shape} (v : u.Idx → EReal)
    (h : (⟨2, ![4128, 16]⟩ : Shape).Pads ![0, 0] ![0, 112] ![0, 0] ⟨2, ![4128, 128]⟩) (hu : 0 < u.numel)
    (hv : v (Shape.Idx.first hu) = 0) (i : (⟨2, ![4128, 128]⟩ : Shape).Idx) :
    pad ⟨2, ![4128, 128]⟩ ![0, 0] ![0, 112] ![0, 0] x v h hu i
      = if (i 1).val < 16 then ((f (i 0).val (i 1).val : ℝ) : EReal) else 0 := by
  split
  case isTrue hc =>
    refine (pad_apply_of_inside _ _ _ x v h hu i
      (ValueIdx.ix2 (i 0 : Fin 4128) (⟨(i 1).val, hc⟩ : Fin 16)) fun a => ?_).trans (hx _)
    fin_cases a
    · show (i 0).val = 0 + (i 0).val * (0 + 1); omega
    · show (i 1).val = 0 + (i 1).val * (0 + 1); omega
  case isFalse hc =>
    rw [← hv]
    refine pad_apply_of_not_inside _ _ _ x v h hu i 1 fun hin => hc ?_
    have h3 : ((i 1).val - 0) / (0 + 1) < 16 := hin.2.2
    omega

/-- Four slabs stacked. -/
theorem stack {y0 y1 y2 y3 : (⟨5, ![2, 8, 1, 8, 528]⟩ : Shape).Idx → EReal} {G : ℕ → ℕ → ℕ → ℕ → ℕ → EReal}
    (h0 : ∀ i, y0 i = G (i 0).val (i 1).val 0 (i 3).val (i 4).val) (h1 : ∀ i, y1 i = G (i 0).val (i 1).val 1 (i 3).val (i 4).val)
    (h2 : ∀ i, y2 i = G (i 0).val (i 1).val 2 (i 3).val (i 4).val) (h3 : ∀ i, y3 i = G (i 0).val (i 1).val 3 (i 3).val (i 4).val)
    (h : Shape.Concatenates (([⟨⟨5, ![2, 8, 1, 8, 528]⟩, y0⟩, ⟨⟨5, ![2, 8, 1, 8, 528]⟩, y1⟩, ⟨⟨5, ![2, 8, 1, 8, 528]⟩, y2⟩,
      ⟨⟨5, ![2, 8, 1, 8, 528]⟩, y3⟩] : List ((s : Shape) × (s.Idx → EReal))).map (·.1)) ⟨5, ![2, 8, 4, 8, 528]⟩ 2)
    (i : (⟨5, ![2, 8, 4, 8, 528]⟩ : Shape).Idx) :
    concatenate ⟨5, ![2, 8, 4, 8, 528]⟩ 2 ([⟨⟨5, ![2, 8, 1, 8, 528]⟩, y0⟩, ⟨⟨5, ![2, 8, 1, 8, 528]⟩, y1⟩,
      ⟨⟨5, ![2, 8, 1, 8, 528]⟩, y2⟩, ⟨⟨5, ![2, 8, 1, 8, 528]⟩, y3⟩] : List ((s : Shape) × (s.Idx → EReal))) h i
      = G (i 0).val (i 1).val (i 2).val (i 3).val (i 4).val := by
  have hlt : (i 2).val < 4 := (i 2).isLt
  have hb : ∀ b : Fin 5, b ≠ 2 →
      ((ValueIdx.ix5 (i 0 : Fin 2) (i 1 : Fin 8) (0 : Fin 1) (i 3 : Fin 8) (i 4 : Fin 528)) b).val = (i b).val := fun b hne => by
    fin_cases b
    · rfl
    · rfl
    · exact absurd rfl hne
    · rfl
    · rfl
  obtain e | e | e | e : (i 2).val = 0 ∨ (i 2).val = 1 ∨ (i 2).val = 2 ∨ (i 2).val = 3 := by omega
  · rw [concatenate_apply_piece 2 _ h i 0 (show 0 < 4 by omega) _ y0 rfl rfl 0 rfl
      (ValueIdx.ix5 (i 0 : Fin 2) (i 1 : Fin 8) (0 : Fin 1) (i 3 : Fin 8) (i 4 : Fin 528)) hb (by rw [e]; rfl), h0, e]
  · rw [concatenate_apply_piece 2 _ h i 1 (show 1 < 4 by omega) _ y1 rfl rfl 1 rfl
      (ValueIdx.ix5 (i 0 : Fin 2) (i 1 : Fin 8) (0 : Fin 1) (i 3 : Fin 8) (i 4 : Fin 528)) hb (by rw [e]; rfl), h1, e]
  · rw [concatenate_apply_piece 2 _ h i 2 (show 2 < 4 by omega) _ y2 rfl rfl 2 rfl
      (ValueIdx.ix5 (i 0 : Fin 2) (i 1 : Fin 8) (0 : Fin 1) (i 3 : Fin 8) (i 4 : Fin 528)) hb (by rw [e]; rfl), h2, e]
  · rw [concatenate_apply_piece 2 _ h i 3 (show 3 < 4 by omega) _ y3 rfl rfl 3 rfl
      (ValueIdx.ix5 (i 0 : Fin 2) (i 1 : Fin 8) (0 : Fin 1) (i 3 : Fin 8) (i 4 : Fin 528)) hb (by rw [e]; rfl), h3, e]

open Classical in
/-- Entry `k` of row `r` of block `j`: position `512 * j + k` inside, nothing beside. -/
def inBlocks (f : ℕ → ℕ → ℕ → ℝ) (b p j r k : ℕ) : EReal :=
  if Inside j r k then ((f b (2 * p + r) (512 * j + k) : ℝ) : EReal) else 0

/-- A block of 512 positions. -/
theorem inBlocks_512 {f : ℕ → ℕ → ℕ → ℝ} {b p j r k : ℕ} (hj : j < 3) :
    inBlocks f b p j r k = if r < 2 ∧ k < 512 then ((f b (2 * p + r) (512 * j + k) : ℝ) : EReal) else 0 := by
  have e : Inside j r k ↔ r < 2 ∧ k < 512 := by unfold Inside; rw [if_neg (by omega : ¬j = 3)]
  unfold inBlocks
  by_cases h : r < 2 ∧ k < 512
  · rw [if_pos h, if_pos (e.2 h)]
  · rw [if_neg h, if_neg fun h' => h (e.1 h')]

/-- The last block. -/
theorem inBlocks_528 {f : ℕ → ℕ → ℕ → ℝ} {b p r k : ℕ} :
    inBlocks f b p 3 r k = if r < 2 ∧ k < 528 then ((f b (2 * p + r) (512 * 3 + k) : ℝ) : EReal) else 0 := by
  have e : Inside 3 r k ↔ r < 2 ∧ k < 528 := by unfold Inside; rw [if_pos rfl]
  unfold inBlocks
  by_cases h : r < 2 ∧ k < 528
  · rw [if_pos h, if_pos (e.2 h)]
  · rw [if_neg h, if_neg fun h' => h (e.1 h')]

end Cert.Layout

end
-- ==== Proof.Reference.lean ====
/- The reference's five results, entry by entry. -/
module

public import proofs.«01_k».proof.Proof.Backward
public import proofs.«01_k».proof.Proof.Layout

@[expose] public section

noncomputable section

namespace Cert.ReferenceIdeal.Entries

open Idealize.ShloMosaic Cert.ReferenceIdeal.Gen Cert.ReferenceIdeal Cert.ReferenceIdeal.Read Cert.Attention Cert.Layout

variable {x0 : (⟨S4128x3072, .bf16⟩ : BufTy).Contents (Elt Ideal)} {x1 : (⟨S4128x1024, .bf16⟩ : BufTy).Contents (Elt Ideal)}
  {x2 : (⟨S4128x128, .f32⟩ : BufTy).Contents (Elt Ideal)} {I : Inputs} (H : Reads x0 x1 x2 I)

/-- An array by batch, position, head and column, laid out as rows of 1024. -/
theorem rows_of_heads {x : (⟨4, ![2, 2064, 16, 64]⟩ : Shape).Idx → EReal} {f : ℕ → ℕ → ℕ → ℕ → ℝ} (hx : V4 x f)
    (i : (⟨2, ![4128, 1024]⟩ : Shape).Idx) (j : (⟨4, ![2, 2064, 16, 64]⟩ : Shape).Idx)
    (j0 : (j 0).val = ((i 0).val * 1024 + (i 1).val) / 2113536) (j1 : (j 1).val = ((i 0).val * 1024 + (i 1).val) / 1024 % 2064)
    (j2 : (j 2).val = ((i 0).val * 1024 + (i 1).val) / 64 % 16) (j3 : (j 3).val = ((i 0).val * 1024 + (i 1).val) % 64) :
    x j = ((f ((i 0).val / 2064) ((i 0).val % 2064) ((i 1).val / 64) ((i 1).val % 64) : ℝ) : EReal) := by
  have h0 : (i 0).val < 4128 := (i 0).isLt; have h1 : (i 1).val < 1024 := (i 1).isLt
  rw [hx, show (j 0).val = (i 0).val / 2064 by omega, show (j 1).val = (i 0).val % 2064 by omega,
    show (j 2).val = (i 1).val / 64 by omega, show (j 3).val = (i 1).val % 64 by omega]

include H

/-- The gradient of the queries. -/
theorem result_dq (i : S4128x1024.Idx) : val_main_v110 (F := Ideal) x0 x1 x2 i
    = (((I.head ((i 0).val / 2064) ((i 1).val / 64)).dq (rowMax x0 x2 ((i 0).val / 2064) ((i 1).val / 64))
        ((i 0).val % 2064) ((i 1).val % 64) : ℝ) : EReal) := by
  rw [val_main_v110_apply, val_main_v109_apply]
  exact rows_of_heads (dqs H) i _ rfl rfl rfl rfl

/-- The gradient of the keys. -/
theorem result_dk (i : S4128x1024.Idx) : val_main_v112 (F := Ideal) x0 x1 x2 i
    = (((I.head ((i 0).val / 2064) ((i 1).val / 64)).dk (rowMax x0 x2 ((i 0).val / 2064) ((i 1).val / 64))
        ((i 0).val % 2064) ((i 1).val % 64) : ℝ) : EReal) := by
  rw [val_main_v112_apply, val_main_v111_apply]
  exact rows_of_heads (dks H) i _ rfl rfl rfl rfl

/-- The gradient of the values. -/
theorem result_dv (i : S4128x1024.Idx) : val_main_v114 (F := Ideal) x0 x1 x2 i
    = (((I.head ((i 0).val / 2064) ((i 1).val / 64)).dv (rowMax x0 x2 ((i 0).val / 2064) ((i 1).val / 64))
        ((i 0).val % 2064) ((i 1).val % 64) : ℝ) : EReal) := by
  rw [val_main_v114_apply, val_main_v113_apply]
  exact rows_of_heads (dvs H) i _ rfl rfl rfl rfl

/-- The gradient of the running sums through the keys' side, two heads to a pair. -/
theorem dcumK_pairs : V4 (val_main_v95 (F := Ideal) x0 x1 x2) fun b p r s => (I.head b (2 * p + r)).dcumK (rowMax x0 x2 b (2 * p + r)) s := fun i => by
  have h1 : (i 1).val < 8 := (i 1).isLt; have h2 : (i 2).val < 2 := (i 2).isLt; have h3 : (i 3).val < 2064 := (i 3).isLt
  have e0 : ((((i 0).val * 8 + (i 1).val) * 2 + (i 2).val) * 2064 + (i 3).val) / 33024 = (i 0).val := by omega
  have e1 : ((((i 0).val * 8 + (i 1).val) * 2 + (i 2).val) * 2064 + (i 3).val) / 2064 % 16 = 2 * (i 1).val + (i 2).val := by omega
  have e2 : ((((i 0).val * 8 + (i 1).val) * 2 + (i 2).val) * 2064 + (i 3).val) % 2064 = (i 3).val := by omega
  rw [val_main_v95_apply, val_main_v94_apply, val_main_v83_apply, dcumKs H]
  show (((I.head (((((i 0).val * 8 + (i 1).val) * 2 + (i 2).val) * 2064 + (i 3).val) / 33024) (((((i 0).val * 8 + (i 1).val) * 2 + (i 2).val) * 2064 + (i 3).val) / 2064 % 16)).dcumK
    (rowMax x0 x2 (((((i 0).val * 8 + (i 1).val) * 2 + (i 2).val) * 2064 + (i 3).val) / 33024) (((((i 0).val * 8 + (i 1).val) * 2 + (i 2).val) * 2064 + (i 3).val) / 2064 % 16))
    (((((i 0).val * 8 + (i 1).val) * 2 + (i 2).val) * 2064 + (i 3).val) % 2064) : ℝ) : EReal) = _
  rw [e0, e1, e2]

/-- The same in blocks of keys. -/
theorem result_dcumK (i : S2x8x4x8x528.Idx) : val_main_v108 (F := Ideal) x0 x1 x2 i
    = inBlocks (fun b h s => (I.head b h).dcumK (rowMax x0 x2 b h) s) (i 0).val (i 1).val (i 2).val (i 3).val (i 4).val := by
  have V := dcumK_pairs H
  have z : ∀ w : BitVec 32, w = 0#32 → Scalar.sitofp (F := Ideal) .f32 w = 0 := fun w hw => by
    rw [hw, Ideal.scalar_sitofp_def]; simp
  have h96 : V4 (val_main_v96 (F := Ideal) x0 x1 x2) fun b p r k => (I.head b (2 * p + r)).dcumK (rowMax x0 x2 b (2 * p + r)) (512 * 0 + k) :=
    fun j => by
      rw [val_main_v96_apply, V]
      show (((I.head _ _).dcumK _ (j 3).val : ℝ) : EReal) = (((I.head _ _).dcumK _ (512 * 0 + (j 3).val) : ℝ) : EReal)
      rw [Nat.mul_zero, Nat.zero_add]
  have h98 : V4 (val_main_v98 (F := Ideal) x0 x1 x2) fun b p r k => (I.head b (2 * p + r)).dcumK (rowMax x0 x2 b (2 * p + r)) (512 * 1 + k) :=
    fun j => by rw [val_main_v98_apply, V]
  have h100 : V4 (val_main_v100 (F := Ideal) x0 x1 x2) fun b p r k => (I.head b (2 * p + r)).dcumK (rowMax x0 x2 b (2 * p + r)) (512 * 2 + k) :=
    fun j => by rw [val_main_v100_apply, V]
  have h102 : V4 (val_main_v102 (F := Ideal) x0 x1 x2) fun b p r k => (I.head b (2 * p + r)).dcumK (rowMax x0 x2 b (2 * p + r)) (512 * 3 + k) :=
    fun j => by rw [val_main_v102_apply, V]
  unfold val_main_v108
  refine stack (G := inBlocks fun b h s => (I.head b h).dcumK (rowMax x0 x2 b h) s) ?_ ?_ ?_ ?_ _ i
  · intro j
    rw [val_main_v104_apply, inBlocks_512 (by omega)]
    exact pad_rows h96 _ _ _ (z _ rfl) _
  · intro j
    rw [val_main_v105_apply, inBlocks_512 (by omega)]
    exact pad_rows h98 _ _ _ (z _ rfl) _
  · intro j
    rw [val_main_v106_apply, inBlocks_512 (by omega)]
    exact pad_rows h100 _ _ _ (z _ rfl) _
  · intro j
    rw [val_main_v107_apply, inBlocks_528]
    exact pad_rows h102 _ _ _ (z _ rfl) _

/-- The gradient of the running sums through the queries' side, in the first sixteen lanes. -/
theorem result_dcumQ (i : S4128x128.Idx) : val_main_v116 (F := Ideal) x0 x1 x2 i
    = if (i 1).val < 16 then
        (((I.head ((i 0).val / 2064) (i 1).val).dcumQ (rowMax x0 x2 ((i 0).val / 2064) (i 1).val) ((i 0).val % 2064) : ℝ) : EReal)
      else 0 := by
  have z : Scalar.sitofp (F := Ideal) .f32 (0#32) = 0 := by rw [Ideal.scalar_sitofp_def]; simp
  refine pad_lanes (f := fun r h => (I.head (r / 2064) h).dcumQ (rowMax x0 x2 (r / 2064) h) (r % 2064)) (fun j => ?_) _ _ _ z i
  have h1 : (j 1).val < 16 := (j 1).isLt
  have e0 : ((j 0).val * 16 + (j 1).val) / 33024 = (j 0).val / 2064 := by omega
  have e1 : ((j 0).val * 16 + (j 1).val) / 16 % 2064 = (j 0).val % 2064 := by omega
  have e2 : ((j 0).val * 16 + (j 1).val) % 16 = (j 1).val := by omega
  rw [val_main_v115_apply, val_main_v87_apply, dcumQs H]
  show (((I.head (((j 0).val * 16 + (j 1).val) / 33024) (((j 0).val * 16 + (j 1).val) % 16)).dcumQ
    (rowMax x0 x2 (((j 0).val * 16 + (j 1).val) / 33024) (((j 0).val * 16 + (j 1).val) % 16))
    (((j 0).val * 16 + (j 1).val) / 16 % 2064) : ℝ) : EReal) = _
  rw [e0, e1, e2]

end Cert.ReferenceIdeal.Entries

end
-- ==== Proof.Host.lean ====
/- What the kernel's host stages: the attention's output, the scaled log-sums and the running sums in blocks of keys. -/
module

public import proofs.«01_k».proof.Proof.Results
public import proofs.«01_k».proof.Proof.Reference

@[expose] public section

noncomputable section

namespace Cert.KernelIdeal.Gen

open Idealize.ShloMosaic hiding ix1 ix2 ix3 ix4 ix5
open Idealize.ShloMosaic.ValueIdx Cert.RealBlock Cert.Attention Cert.KernelIdeal Cert.Layout
open Idealize.ShloMosaic.TcCoe Idealize.SL.Sem
open Cert.ReferenceIdeal.Read (val_main_v10 val_main_v29_0 val_main_v30 val_main_v37 val_main_v37_apply val_main_v36_apply val_main_v51 val_main_v59)
open Cert.ReferenceIdeal.Entries

variable (m : (ℓ : Loc nD τ sig) → Buf (Elt Ideal) ℓ) (c : Dev nD)

/-- The log-sums from the rows' maxima, their sums of exponentials and the running sums: scaled to powers of two, in the first
    sixteen lanes. -/
def logSums (M T : (⟨S2x16x2064, .f32⟩ : BufTy).Contents (Elt Ideal)) (C : (⟨S2x2064x16, .f32⟩ : BufTy).Contents (Elt Ideal)) :
    (⟨S4128x128, .f32⟩ : BufTy).Contents (Elt Ideal) :=
  pad S4128x128 ![0, 0] ![0, 112] ![0, 0]
    (Host.divf (F := Ideal) (shapeCast S4128x16 (subf (transpose S2x2064x16 [0, 2, 1] (addf M (Host.log T)) transposes_S2x16x2064_S2x2064x16_0_2_1) C)
        shapeCasts_S2x2064x16_S4128x16)
      (broadcastInDim S4128x16 ![] bcast_S_S4128x16 (Host.log (constant S_ .f32 0x40000000#32))) :
      (⟨S4128x16, .f32⟩ : BufTy).Contents (Elt Ideal))
    (sitofp (F := Ideal) .f32 (constantI S_ 32 0#32)) pads_S4128x16_S4128x128_000_01120 h_S_

/-- The running sums by batch, position, pair and half. -/
def pairSums (x : (⟨S4128x128, .f32⟩ : BufTy).Contents (Elt Ideal)) : (⟨S2x2064x8x2, .f32⟩ : BufTy).Contents (Elt Ideal) :=
  shapeCast S2x2064x8x2 (extractStridedSlice S2x2064x16 ![0, 0, 0] (shapeCast S2x2064x128 x shapeCasts_S4128x128_S2x2064x128)
    slices_S2x2064x128_S2x2064x16_0_0_0) shapeCasts_S2x2064x16_S2x2064x8x2

/-- A block of 512 positions of the running sums from position `off` on, padded. -/
def block512 (off : ℕ) (h : S2x2064x8x2.Slices ![0, off, 0, 0] S2x512x8x2) (x : (⟨S2x2064x8x2, .f32⟩ : BufTy).Contents (Elt Ideal)) :
    (⟨S2x8x1x8x528, .f32⟩ : BufTy).Contents (Elt Ideal) :=
  broadcastInDim S2x8x1x8x528 ![0, 1, 3, 4] bcast_S2x8x8x528_S2x8x1x8x528_0_1_3_4
    (pad S2x8x8x528 ![0, 0, 0, 0] ![0, 0, 6, 16] ![0, 0, 0, 0]
      (transpose S2x8x2x512 [0, 2, 3, 1] (extractStridedSlice S2x512x8x2 ![0, off, 0, 0] x h) transposes_S2x512x8x2_S2x8x2x512_0_2_3_1)
      (sitofp (F := Ideal) .f32 (constantI S_ 32 0#32)) pads_S2x8x2x512_S2x8x8x528_000_000_060_0160 h_S_)

/-- The last 528 positions, padded. -/
def block528 (x : (⟨S2x2064x8x2, .f32⟩ : BufTy).Contents (Elt Ideal)) : (⟨S2x8x1x8x528, .f32⟩ : BufTy).Contents (Elt Ideal) :=
  broadcastInDim S2x8x1x8x528 ![0, 1, 3, 4] bcast_S2x8x8x528_S2x8x1x8x528_0_1_3_4
    (pad S2x8x8x528 ![0, 0, 0, 0] ![0, 0, 6, 0] ![0, 0, 0, 0]
      (transpose S2x8x2x528 [0, 2, 3, 1] (extractStridedSlice S2x528x8x2 ![0, 1536, 0, 0] x slices_S2x2064x8x2_S2x528x8x2_0_1536_0_0)
        transposes_S2x528x8x2_S2x8x2x528_0_2_3_1)
      (sitofp (F := Ideal) .f32 (constantI S_ 32 0#32)) pads_S2x8x2x528_S2x8x8x528_000_000_060_000 h_S_)

set_option maxHeartbeats 4000000 in
/-- The host hands the kernel the output of the reference's own forward lines, rounded. -/
theorem host_out : V (F := Ideal) m c main_v44
    = truncf (F := Ideal) .bf16 (shapeCast S4128x1024 (val_main_v59 (F := Ideal) (m (c, main_arg0)) (m (c, main_arg2)) : (⟨S2x2064x16x64, .f32⟩ : BufTy).Contents (Elt Ideal))
        shapeCasts_S2x2064x16x64_S4128x1024) bitsLt_bf16_f32 := by
  unfold V
  simp only [List.flatten_cons, List.flatten_nil, List.cons_append, List.nil_append, List.append_nil, hostOps0, hostOps0_1, hostOps0_2,
    StableHlo.TRef.binary, StableHlo.TRef.nullary, StableHlo.TRef.ternary, StableHlo.TRef.unary, StableHlo.TRef.toBuf, StableHlo.TRef.ofBuf, cast_eq]
  after_results_simp
  rfl

set_option maxHeartbeats 4000000 in
/-- The host hands the kernel the log-sums of the masked scores. -/
theorem host_lse : V (F := Ideal) m c main_v59
    = logSums (val_main_v30 (F := Ideal) (m (c, main_arg0)) (m (c, main_arg2)))
        (Host.reduceAdd (F := Ideal) (Host.exp (F := Ideal) (subf (val_main_v29_0 (F := Ideal) (m (c, main_arg0)) (m (c, main_arg2)))
            (broadcastInDim S2x16x2064x2064 ![0, 1, 2, 3] bcast_S2x16x2064x1_S2x16x2064x2064_0_1_2_3
              (broadcastInDim S2x16x2064x1 ![0, 1, 2] bcast_S2x16x2064_S2x16x2064x1_0_1_2
                (val_main_v30 (F := Ideal) (m (c, main_arg0)) (m (c, main_arg2)))))) :
            (⟨S2x16x2064x2064, .f32⟩ : BufTy).Contents (Elt Ideal))
          (constant S_ .f32 0x00000000#32) reducesTo_S2x16x2064x2064_S2x16x2064_d3 h_S_)
        (val_main_v10 (F := Ideal) (m (c, main_arg2))) := by
  unfold V
  simp only [List.flatten_cons, List.flatten_nil, List.cons_append, List.nil_append, List.append_nil, hostOps0, hostOps0_1, hostOps0_2,
    StableHlo.TRef.binary, StableHlo.TRef.nullary, StableHlo.TRef.ternary, StableHlo.TRef.unary, StableHlo.TRef.toBuf, StableHlo.TRef.ofBuf, cast_eq]
  after_results_simp
  rfl

/-- Equal slabs stack to equal arrays. -/
theorem stack_congr {y0 y1 y2 y3 z0 z1 z2 z3 : (⟨S2x8x1x8x528, .f32⟩ : BufTy).Contents (Elt Ideal)}
    (h0 : y0 = z0) (h1 : y1 = z1) (h2 : y2 = z2) (h3 : y3 = z3)
    (h : Shape.Concatenates [S2x8x1x8x528, S2x8x1x8x528, S2x8x1x8x528, S2x8x1x8x528] S2x8x4x8x528 2) :
    concatenate S2x8x4x8x528 2 [⟨S2x8x1x8x528, y0⟩, ⟨S2x8x1x8x528, y1⟩, ⟨S2x8x1x8x528, y2⟩, ⟨S2x8x1x8x528, y3⟩] h
      = concatenate S2x8x4x8x528 2 [⟨S2x8x1x8x528, z0⟩, ⟨S2x8x1x8x528, z1⟩, ⟨S2x8x1x8x528, z2⟩, ⟨S2x8x1x8x528, z3⟩] h := by
  subst h0 h1 h2 h3; rfl

set_option maxHeartbeats 4000000 in
/-- The host hands the kernel the running sums in four padded blocks. -/
theorem host_cum : V (F := Ideal) m c main_v79
    = concatenate S2x8x4x8x528 2
        [⟨S2x8x1x8x528, block512 0 slices_S2x2064x8x2_S2x512x8x2_0_0_0_0 (pairSums (m (c, main_arg2)))⟩,
          ⟨S2x8x1x8x528, block512 512 slices_S2x2064x8x2_S2x512x8x2_0_512_0_0 (pairSums (m (c, main_arg2)))⟩,
          ⟨S2x8x1x8x528, block512 1024 slices_S2x2064x8x2_S2x512x8x2_0_1024_0_0 (pairSums (m (c, main_arg2)))⟩,
          ⟨S2x8x1x8x528, block528 (pairSums (m (c, main_arg2)))⟩]
        concatenates_S2x8x1x8x528_S2x8x1x8x528_S2x8x1x8x528_S2x8x1x8x528_S2x8x4x8x528_d2 := by
  unfold V
  simp only [List.flatten_cons, List.flatten_nil, List.cons_append, List.nil_append, List.append_nil, hostOps0, hostOps0_1, hostOps0_2,
    StableHlo.TRef.binary, StableHlo.TRef.nullary, StableHlo.TRef.ternary, StableHlo.TRef.unary, StableHlo.TRef.toBuf, StableHlo.TRef.ofBuf, cast_eq]
  after_results_simp
  refine stack_congr ?_ ?_ ?_ ?_ _
  all_goals dsimp only [Matrix.cons_val]
  all_goals after_results_simp
  all_goals rfl

end Cert.KernelIdeal.Gen

end
-- ==== Proof.HostEntries.lean ====
/- What the kernel's host stages, entry by entry: with real arguments the staged arrays hold the real numbers the kernel's
   arithmetic asks for. -/
module

public import proofs.«01_k».proof.Proof.Host

@[expose] public section

noncomputable section

namespace Cert.KernelIdeal.Gen

open Idealize.ShloMosaic hiding ix1 ix2 ix3 ix4 ix5
open Idealize.ShloMosaic.ValueIdx Cert.RealBlock Cert.Attention Cert.KernelIdeal Cert.Layout
open Idealize.ShloMosaic.TcCoe Idealize.SL.Sem
open Cert.ReferenceIdeal.Read (val_main_v10 val_main_v29_0 val_main_v30 val_main_v36 val_main_v37 val_main_v37_apply val_main_v36_apply val_main_v51 val_main_v59)
open Cert.ReferenceIdeal.Entries

/-- Rows of sixteen lanes, from an array by batch, position and head. -/
theorem rows_of_lanes {x : (⟨3, ![2, 2064, 16]⟩ : Shape).Idx → EReal} {f : ℕ → ℕ → ℕ → ℝ} (hx : V3 x f)
    (h : (⟨3, ![2, 2064, 16]⟩ : Shape).ShapeCasts ⟨2, ![4128, 16]⟩) (i : (⟨2, ![4128, 16]⟩ : Shape).Idx) :
    shapeCast ⟨2, ![4128, 16]⟩ x h i = ((f ((i 0).val / 2064) ((i 0).val % 2064) (i 1).val : ℝ) : EReal) := by
  have h0 : (i 0).val < 4128 := (i 0).isLt; have h1 : (i 1).val < 16 := (i 1).isLt
  refine (shapeCast_apply x h i (ix3 (⟨(i 0).val / 2064, by omega⟩ : Fin 2) (⟨(i 0).val % 2064, by omega⟩ : Fin 2064)
    (⟨(i 1).val, h1⟩ : Fin 16)) ?_).trans (hx _)
  rewrite [Shape.rowMajor_val_three, Shape.rowMajor_val_two]
  show ((i 0).val / 2064 * 2064 + (i 0).val % 2064) * 16 + (i 1).val = (i 0).val * 16 + (i 1).val
  omega

/-- Rows of sixteen heads' columns, from an array by batch, position, head and column. -/
theorem rows_of_columns {x : (⟨4, ![2, 2064, 16, 64]⟩ : Shape).Idx → EReal} {f : ℕ → ℕ → ℕ → ℕ → ℝ} (hx : V4 x f)
    (h : (⟨4, ![2, 2064, 16, 64]⟩ : Shape).ShapeCasts ⟨2, ![4128, 1024]⟩) (i : (⟨2, ![4128, 1024]⟩ : Shape).Idx) :
    shapeCast ⟨2, ![4128, 1024]⟩ x h i
      = ((f ((i 0).val / 2064) ((i 0).val % 2064) ((i 1).val / 64) ((i 1).val % 64) : ℝ) : EReal) := by
  have h0 : (i 0).val < 4128 := (i 0).isLt; have h1 : (i 1).val < 1024 := (i 1).isLt
  refine (shapeCast_apply x h i (ix4 (⟨(i 0).val / 2064, by omega⟩ : Fin 2) (⟨(i 0).val % 2064, by omega⟩ : Fin 2064)
    (⟨(i 1).val / 64, by omega⟩ : Fin 16) (⟨(i 1).val % 64, by omega⟩ : Fin 64)) ?_).trans (hx _)
  rewrite [Shape.rowMajor_val_four, Shape.rowMajor_val_two]
  show (((i 0).val / 2064 * 2064 + (i 0).val % 2064) * 16 + (i 1).val / 64) * 64 + (i 1).val % 64 = (i 0).val * 1024 + (i 1).val
  omega

/-- Two, as printed. -/
theorem two_f32 : Ideal.ofBits .f32 0x40000000#32 = ((2 : ℝ) : EReal) := by
  simp [Ideal.ofBits, Ideal.ieee, -EReal.coe_mul]; norm_num

/-- The zero the padding writes. -/
theorem pad_zero (i : S_.Idx) : (sitofp (F := Ideal) .f32 (constantI S_ 32 0#32) : FVec Ideal S_ .f32) i = 0 := by
  show Scalar.sitofp (F := Ideal) .f32 (0#32) = 0
  rw [Ideal.scalar_sitofp_def]; simp

/-- The log-sums, entry by entry. -/
theorem logSums_apply {M T : (⟨S2x16x2064, .f32⟩ : BufTy).Contents (Elt Ideal)} {C : (⟨S2x2064x16, .f32⟩ : BufTy).Contents (Elt Ideal)}
    {f g cum : ℕ → ℕ → ℕ → ℝ} (hM : V3 (a := 2) (b := 16) (d := 2064) M f) (hT : V3 (a := 2) (b := 16) (d := 2064) T g)
    (hC : V3 (a := 2) (b := 2064) (d := 16) C cum)
    (hg : ∀ b h t, t < 2064 → 0 < g b h t) (i : S4128x128.Idx) :
    logSums M T C i = if (i 1).val < 16 then
      (((f ((i 0).val / 2064) (i 1).val ((i 0).val % 2064) + Real.log (g ((i 0).val / 2064) (i 1).val ((i 0).val % 2064))
        - cum ((i 0).val / 2064) ((i 0).val % 2064) (i 1).val) * (1 / Real.log 2) : ℝ) : EReal) else 0 := by
  have hS : V3 (a := 2) (b := 2064) (d := 16)
      (subf (F := Ideal) (φ := .f32) (transpose S2x2064x16 [0, 2, 1] (addf (F := Ideal) (φ := .f32) M (Host.log (F := Ideal) (φ := .f32) T)) transposes_S2x16x2064_S2x2064x16_0_2_1) C)
      fun b t h => f b h t + Real.log (g b h t) - cum b t h := fun j => by
    have h1 : (j 1).val < 2064 := (j 1).isLt
    have e := transpose_apply [0, 2, 1] (addf (F := Ideal) (φ := .f32) M (Host.log (F := Ideal) (φ := .f32) T)) transposes_S2x16x2064_S2x2064x16_0_2_1 j
      (ix3 (j 0 : Fin 2) (j 2 : Fin 16) (j 1 : Fin 2064)) (fun b => match b with
        | ⟨0, _⟩ => rfl
        | ⟨1, _⟩ => rfl
        | ⟨2, _⟩ => rfl)
    show (transpose S2x2064x16 [0, 2, 1] (addf (F := Ideal) (φ := .f32) M (Host.log (F := Ideal) (φ := .f32) T)) transposes_S2x16x2064_S2x2064x16_0_2_1 j : EReal) - C j = _
    rw [e, hC]
    show (M (ix3 (j 0 : Fin 2) (j 2 : Fin 16) (j 1 : Fin 2064)) : EReal) + Ideal.log (T (ix3 (j 0 : Fin 2) (j 2 : Fin 16) (j 1 : Fin 2064))) - _ = _
    rw [hM, hT, Ideal.log_coe, if_neg (not_le.2 (hg _ _ _ h1)), ← EReal.coe_add, ← EReal.coe_sub]
  refine pad_lanes (f := fun r h => (f (r / 2064) h (r % 2064) + Real.log (g (r / 2064) h (r % 2064)) - cum (r / 2064) (r % 2064) h)
    * (1 / Real.log 2)) (fun j => ?_) _ _ _ (pad_zero _) i
  have hlog : Real.log 2 ≠ 0 := (Real.log_pos (by norm_num)).ne'
  show Ideal.div (shapeCast S4128x16 (subf (F := Ideal) (φ := .f32) (transpose S2x2064x16 [0, 2, 1] (addf (F := Ideal) (φ := .f32) M (Host.log (F := Ideal) (φ := .f32) T)) transposes_S2x16x2064_S2x2064x16_0_2_1) C)
        shapeCasts_S2x2064x16_S4128x16 j) (Ideal.log (Ideal.ofBits .f32 0x40000000#32)) = _
  rw [two_f32, Ideal.log_coe, if_neg (by norm_num), Ideal.div_coe hlog, rows_of_lanes hS, ← EReal.coe_mul]

/-- The running sums by pair and half. -/
theorem pairSums_apply {x0 : (⟨Cert.ReferenceIdeal.S4128x3072, .bf16⟩ : BufTy).Contents (Elt Ideal)}
    {x1 : (⟨Cert.ReferenceIdeal.S4128x1024, .bf16⟩ : BufTy).Contents (Elt Ideal)} {x2 : (⟨S4128x128, .f32⟩ : BufTy).Contents (Elt Ideal)}
    {I : Inputs} (H : Reads x0 x1 x2 I) :
    V4 (a := 2) (b := 2064) (d := 8) (e := 2) (pairSums x2) fun b s p r => I.cum (2064 * b + s) (2 * p + r) := fun i => by
  have h0 : (i 0).val < 2 := (i 0).isLt; have h1 : (i 1).val < 2064 := (i 1).isLt
  have h2 : (i 2).val < 8 := (i 2).isLt; have h3 : (i 3).val < 2 := (i 3).isLt
  unfold pairSums
  refine (shapeCast_apply _ _ i (ix3 (⟨(i 0).val, h0⟩ : Fin 2) (⟨(i 1).val, h1⟩ : Fin 2064)
    (⟨2 * (i 2).val + (i 3).val, by omega⟩ : Fin 16)) ?_).trans ?_
  · rewrite [Shape.rowMajor_val_three, Shape.rowMajor_val_four]
    show ((i 0).val * 2064 + (i 1).val) * 16 + (2 * (i 2).val + (i 3).val) = (((i 0).val * 2064 + (i 1).val) * 8 + (i 2).val) * 2 + (i 3).val
    omega
  refine (extractStridedSlice_apply _ _ _ _ (ix3 (⟨(i 0).val, h0⟩ : Fin 2) (⟨(i 1).val, h1⟩ : Fin 2064)
    (⟨2 * (i 2).val + (i 3).val, by omega⟩ : Fin 128)) fun a => match a with
      | ⟨0, _⟩ => (Nat.zero_add _).symm
      | ⟨1, _⟩ => (Nat.zero_add _).symm
      | ⟨2, _⟩ => (Nat.zero_add _).symm).trans ?_
  refine (shapeCast_apply _ _ _ (ix2 (⟨2064 * (i 0).val + (i 1).val, by omega⟩ : Fin 4128)
    (⟨2 * (i 2).val + (i 3).val, by omega⟩ : Fin 128)) ?_).trans ?_
  · rewrite [Shape.rowMajor_val_two, Shape.rowMajor_val_three]
    show (2064 * (i 0).val + (i 1).val) * 128 + (2 * (i 2).val + (i 3).val) = ((i 0).val * 2064 + (i 1).val) * 128 + (2 * (i 2).val + (i 3).val)
    omega
  · exact H.cum _ (show 2 * (i 2).val + (i 3).val < 16 by omega)

/-- Rows of an array by batch, position, pair and half, with the positions moved last. -/
theorem slab {n off : ℕ} {x : (⟨4, ![2, 2064, 8, 2]⟩ : Shape).Idx → EReal} {f : ℕ → ℕ → ℕ → ℕ → ℝ} (hx : V4 x f)
    (h : (⟨4, ![2, 2064, 8, 2]⟩ : Shape).Slices ![0, off, 0, 0] ⟨4, ![2, n, 8, 2]⟩)
    (ht : (⟨4, ![2, n, 8, 2]⟩ : Shape).Transposes [0, 2, 3, 1] ⟨4, ![2, 8, 2, n]⟩) (hn : off + n ≤ 2064) :
    V4 (transpose ⟨4, ![2, 8, 2, n]⟩ [0, 2, 3, 1] (extractStridedSlice ⟨4, ![2, n, 8, 2]⟩ ![0, off, 0, 0] x h) ht)
      fun b p r k => f b (off + k) p r := fun i => by
  have h3 : (i 3).val < n := (i 3).isLt
  refine (transpose_apply [0, 2, 3, 1] (extractStridedSlice ⟨4, ![2, n, 8, 2]⟩ ![0, off, 0, 0] x h) ht i (ix4 (i 0 : Fin 2) (i 3 : Fin n) (i 1 : Fin 8) (i 2 : Fin 2)) fun b => match b with
    | ⟨0, _⟩ => rfl
    | ⟨1, _⟩ => rfl
    | ⟨2, _⟩ => rfl
    | ⟨3, _⟩ => rfl).trans ?_
  exact (extractStridedSlice_apply ![0, off, 0, 0] x h _ (ix4 (i 0 : Fin 2) (⟨off + (i 3).val, by omega⟩ : Fin 2064) (i 1 : Fin 8) (i 2 : Fin 2))
    fun a => match a with
      | ⟨0, _⟩ => (Nat.zero_add _).symm
      | ⟨1, _⟩ => rfl
      | ⟨2, _⟩ => (Nat.zero_add _).symm
      | ⟨3, _⟩ => (Nat.zero_add _).symm).trans (hx _)

/-- An axis of one added between the pairs and the rows. -/
theorem with_axis (y : S2x8x8x528.Idx → EReal) (i : S2x8x1x8x528.Idx) :
    broadcastInDim S2x8x1x8x528 ![0, 1, 3, 4] bcast_S2x8x8x528_S2x8x1x8x528_0_1_3_4 y i
      = y (ix4 (i 0 : Fin 2) (i 1 : Fin 8) (i 3 : Fin 8) (i 4 : Fin 528)) :=
  broadcastInDim_apply _ bcast_S2x8x8x528_S2x8x1x8x528_0_1_3_4 y i _ (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 3).val = if (8 : Nat) = 1 then 0 else (i 3).val; rw [if_neg (by decide)]
    | ⟨3, _⟩ => by show (i 4).val = if (528 : Nat) = 1 then 0 else (i 4).val; rw [if_neg (by decide)])

/-- A row's maximum is at least minus infinity. -/
theorem maxima_eq (x0 : (⟨Cert.ReferenceIdeal.S4128x3072, .bf16⟩ : BufTy).Contents (Elt Ideal))
    (x2 : (⟨Cert.ReferenceIdeal.S4128x128, .f32⟩ : BufTy).Contents (Elt Ideal)) :
    val_main_v30 (F := Ideal) x0 x2 = val_main_v37 (F := Ideal) x0 x2 := by
  funext i
  rw [val_main_v37_apply, val_main_v36_apply]
  symm
  show max (Ideal.ofBits .f32 0xFF800000#32) (val_main_v30 (F := Ideal) x0 x2 i : EReal) = _
  rw [neg_inf]
  exact max_eq_right bot_le

variable (m : (ℓ : Loc nD τ sig) → Buf (Elt Ideal) ℓ) (c : Dev nD)

/-- Where the arguments are real the kernel's region finds what its arithmetic asks for. -/
theorem staged {I : Inputs} (H : Reads (m (c, main_arg0)) (m (c, main_arg1)) (m (c, main_arg2)) I) :
    Staged m c (I.arrays (rowMax (m (c, main_arg0)) (m (c, main_arg2)))) where
  qkv r l := by rw [V_main_arg0]; exact H.qkv _
  dout r l := by rw [V_main_arg1]; exact H.dout _
  o r l := by
    rw [host_out]
    exact rows_of_columns (outputs H) shapeCasts_S2x2064x16x64_S4128x1024 (ix2 r l)
  lse r l := by
    have hl := r.isLt
    have h51 : (Host.reduceAdd (F := Ideal) (Host.exp (F := Ideal) (subf (val_main_v29_0 (F := Ideal) (m (c, main_arg0)) (m (c, main_arg2)))
            (broadcastInDim S2x16x2064x2064 ![0, 1, 2, 3] bcast_S2x16x2064x1_S2x16x2064x2064_0_1_2_3
              (broadcastInDim S2x16x2064x1 ![0, 1, 2] bcast_S2x16x2064_S2x16x2064x1_0_1_2
                (val_main_v30 (F := Ideal) (m (c, main_arg0)) (m (c, main_arg2)))))) :
            (⟨S2x16x2064x2064, .f32⟩ : BufTy).Contents (Elt Ideal))
          (constant S_ .f32 0x00000000#32) reducesTo_S2x16x2064x2064_S2x16x2064_d3 h_S_)
        = val_main_v51 (F := Ideal) (m (c, main_arg0)) (m (c, main_arg2)) := by
      rw [maxima_eq]; rfl
    rw [host_lse, h51]
    refine (logSums_apply (maxima H) (totals H) (cums H) (fun b h t ht => Head.total_pos _ _ ht) (ix2 r l)).trans ?_
    show (if l.val < 16 then _ else _) = (((if l.val < 16 then _ else _) : ℝ) : EReal)
    by_cases h : l.val < 16
    · rw [if_pos h, if_pos h]
      show (((_ + Real.log _ - I.cum (2064 * (r.val / 2064) + r.val % 2064) l.val) * _ : ℝ) : EReal) = _
      rw [show 2064 * (r.val / 2064) + r.val % 2064 = r.val by omega]
    · rw [if_neg h, if_neg h]; exact EReal.coe_zero.symm
  cum b p j r k hin := by
    have P := pairSums_apply H
    rw [host_cum]
    refine (stack (G := inBlocks fun b h s => I.cum (2064 * b + s) h) (fun i => ?_) (fun i => ?_) (fun i => ?_) (fun i => ?_)
      concatenates_S2x8x1x8x528_S2x8x1x8x528_S2x8x1x8x528_S2x8x1x8x528_S2x8x4x8x528_d2 (ix5 b p j r k)).trans ?_
    · rw [inBlocks_512 (by omega)]; unfold block512; rw [with_axis]
      exact pad_rows (slab P _ _ (by omega)) _ _ _ (pad_zero _) _
    · rw [inBlocks_512 (by omega)]; unfold block512; rw [with_axis]
      exact pad_rows (slab P _ _ (by omega)) _ _ _ (pad_zero _) _
    · rw [inBlocks_512 (by omega)]; unfold block512; rw [with_axis]
      exact pad_rows (slab P _ _ (by omega)) _ _ _ (pad_zero _) _
    · rw [inBlocks_528]; unfold block528; rw [with_axis]
      exact pad_rows (slab P _ _ (by omega)) _ _ _ (pad_zero _) _
    · show inBlocks _ b.val p.val j.val r.val k.val = _
      unfold inBlocks
      rw [if_pos hin]; rfl

end Cert.KernelIdeal.Gen

end
-- ==== Proof.Meet.lean ====
/- The kernel's result arrays are the reference's, entry by entry, from arguments that are real. -/
module

public import proofs.«01_k».proof.Proof.HostEntries

@[expose] public section

noncomputable section

namespace Cert.KernelIdeal.Gen

open Idealize.ShloMosaic hiding ix1 ix2 ix3 ix4 ix5
open Idealize.ShloMosaic.ValueIdx Cert.RealBlock Cert.Attention Cert.KernelIdeal Cert.Layout
open Idealize.ShloMosaic.TcCoe Idealize.SL.Sem
open Cert.ReferenceIdeal.Read (val_main_v110 val_main_v112 val_main_v114 val_main_v108 val_main_v116)
open Cert.ReferenceIdeal.Entries

variable (m : (ℓ : Loc nD τ sig) → Buf (Elt Ideal) ℓ) (c : Dev nD) {I : Inputs}
  (H : Reads (m (c, main_arg0)) (m (c, main_arg1)) (m (c, main_arg2)) I)
include H

/-- The gradient of the queries. -/
theorem meet_dq : (dats m 0 c).arrAt 7 (cfgs 0).N
    = val_main_v110 (F := Ideal) (m (c, main_arg0)) (m (c, main_arg1)) (m (c, main_arg2)) := by
  rw [dq_array (staged m c H)]
  refine funext fun (i : S4128x1024.Idx) => ?_
  have h0 : (i 0).val < 4128 := (i 0).isLt; have h1 : (i 1).val < 1024 := (i 1).isLt
  rw [result_dq H i, dq_eq I _ (by omega) (Nat.mod_lt _ (by omega)) (Nat.mod_lt _ (by omega)),
    show 2 * ((i 1).val / 128) + (i 1).val % 128 / 64 = (i 1).val / 64 by omega,
    show (i 1).val % 128 % 64 = (i 1).val % 64 by omega]

/-- The gradient of the keys. -/
theorem meet_dk : (dats m 0 c).arrAt 8 (cfgs 0).N
    = val_main_v112 (F := Ideal) (m (c, main_arg0)) (m (c, main_arg1)) (m (c, main_arg2)) := by
  rw [dk_array (staged m c H)]
  refine funext fun (i : S4128x1024.Idx) => ?_
  have h0 : (i 0).val < 4128 := (i 0).isLt; have h1 : (i 1).val < 1024 := (i 1).isLt
  rw [result_dk H i, dk_eq I _ (by omega) (Nat.mod_lt _ (by omega)),
    show 2 * ((i 1).val / 128) + (i 1).val % 128 / 64 = (i 1).val / 64 by omega,
    show (i 1).val % 128 % 64 = (i 1).val % 64 by omega]

/-- The gradient of the values. -/
theorem meet_dv : (dats m 0 c).arrAt 9 (cfgs 0).N
    = val_main_v114 (F := Ideal) (m (c, main_arg0)) (m (c, main_arg1)) (m (c, main_arg2)) := by
  rw [dv_array (staged m c H)]
  refine funext fun (i : S4128x1024.Idx) => ?_
  have h0 : (i 0).val < 4128 := (i 0).isLt; have h1 : (i 1).val < 1024 := (i 1).isLt
  rw [result_dv H i, dv_eq I _ (by omega) (Nat.mod_lt _ (by omega)),
    show 2 * ((i 1).val / 128) + (i 1).val % 128 / 64 = (i 1).val / 64 by omega,
    show (i 1).val % 128 % 64 = (i 1).val % 64 by omega]

/-- The gradient of the running sums through the keys' side. -/
theorem meet_dcumK : (dats m 0 c).arrAt 10 (cfgs 0).N
    = val_main_v108 (F := Ideal) (m (c, main_arg0)) (m (c, main_arg1)) (m (c, main_arg2)) := by
  rw [dcr_array (staged m c H)]
  refine funext fun (i : S2x8x4x8x528.Idx) => ?_
  have h1 : (i 1).val < 8 := (i 1).isLt
  rw [result_dcumK H i]
  unfold inBlocks
  by_cases h : Inside (i 2).val (i 3).val (i 4).val
  · rw [if_pos h, if_pos h, colPart_eq I _ h1 h.1]
  · rw [if_neg h, if_neg h]

/-- The gradient of the running sums through the queries' side. -/
theorem meet_dcumQ : (dats m 0 c).arrAt 11 (cfgs 0).N
    = val_main_v116 (F := Ideal) (m (c, main_arg0)) (m (c, main_arg1)) (m (c, main_arg2)) := by
  rw [dcq_array (staged m c H)]
  refine funext fun (i : S4128x128.Idx) => ?_
  rw [result_dcumQ H i]
  by_cases h : (i 1).val < 16
  · rw [if_pos h, if_pos h, rowPart_eq I _ (by omega) (Nat.mod_lt _ (by omega)) (Nat.mod_lt _ (by omega)),
      show 2 * ((i 1).val / 2) + (i 1).val % 2 = (i 1).val by omega]
  · rw [if_neg h, if_neg h]

end Cert.KernelIdeal.Gen

end
-- ==== Proof.Finite.lean ====
/- The precondition read back: where it holds every argument entry that counts is a real number. -/
module

public import proofs.«01_k».proof.Pre_finite
public import proofs.«01_k».proof.Proof.Forward
public import Idealize.ShloMosaic.Lib.ReduceAll

@[expose] public section

noncomputable section

namespace Cert.Pre_finite

open Idealize.ShloMosaic Cert.Attention Cert.ReferenceIdeal.Entries

/-- The side conditions the precondition states. -/
theorem facts : Facts := by
  constructor <;> decide

/-- One index only. -/
instance : Subsingleton S_.Idx := ⟨fun a b => funext fun k => k.elim0⟩

/-- An entry above minus infinity and below plus infinity is real. -/
theorem real_of_between {x : EReal}
    (h : IntOp.andi (Ideal.cmp .ogt x (Ideal.ofBits .f32 0xFF800000#32)) (Ideal.cmp .olt x (Ideal.ofBits .f32 0x7F800000#32)) = 1#1) :
    x = ((x.toReal : ℝ) : EReal) := by
  obtain ⟨h1, h2⟩ := IntOp.andi_eq_one.1 h
  have e : Ideal.ofBits .f32 0x7F800000#32 = ⊤ := by simp [Ideal.ofBits, Ideal.ieee]
  rw [neg_inf] at h1
  rw [e] at h2
  simp [Ideal.cmp] at h1 h2
  refine (EReal.coe_toReal ?_ ?_).symm
  · rintro rfl; simp at h2
  · rintro rfl; simp at h1

/-- What the precondition gives: every entry of the packed queries, keys and values, of the output's gradient and of the first
    sixteen lanes of the running sums is real. -/
theorem reads [Facts] {x0 : FVec Ideal S4128x3072 .bf16} {x1 : FVec Ideal S4128x1024 .bf16} {x2 : FVec Ideal S4128x128 .f32}
    (h : fn (F := Ideal) x0 x1 x2 = fun _ => 1#1) : ∃ I : Inputs, Reads x0 x1 x2 I := by
  have h' := congrFun h (Shape.Idx.first Facts.h_S_)
  obtain ⟨h01, h2⟩ := IntOp.andi_eq_one.1 h'
  obtain ⟨h0, h1⟩ := IntOp.andi_eq_one.1 h01
  have e0 : ∀ i, x0 i = (((x0 i : EReal).toReal : ℝ) : EReal) := fun i =>
    real_of_between (Host.reduce_andi_all _ _ _ _ _ h0 i)
  have e1 : ∀ i, x1 i = (((x1 i : EReal).toReal : ℝ) : EReal) := fun i =>
    real_of_between (Host.reduce_andi_all _ _ _ _ _ h1 i)
  have e2 : ∀ i : S4128x16.Idx, extractStridedSlice S4128x16 ![0, 0] x2 Facts.slices_S4128x128_S4128x16_0_0 i
      = (((extractStridedSlice S4128x16 ![0, 0] x2 Facts.slices_S4128x128_S4128x16_0_0 i : EReal).toReal : ℝ) : EReal) := fun i =>
    real_of_between (Host.reduce_andi_all _ _ _ _ _ h2 i)
  refine ⟨⟨fun r l => if h : r < 4128 ∧ l < 3072 then (x0 (ValueIdx.ix2 (⟨r, h.1⟩ : Fin 4128) (⟨l, h.2⟩ : Fin 3072)) : EReal).toReal else 0,
    fun r l => if h : r < 4128 ∧ l < 1024 then (x1 (ValueIdx.ix2 (⟨r, h.1⟩ : Fin 4128) (⟨l, h.2⟩ : Fin 1024)) : EReal).toReal else 0,
    fun r l => if h : r < 4128 ∧ l < 128 then (x2 (ValueIdx.ix2 (⟨r, h.1⟩ : Fin 4128) (⟨l, h.2⟩ : Fin 128)) : EReal).toReal else 0⟩, ?_, ?_, ?_⟩
  · intro i
    have hi : ValueIdx.ix2 (⟨(i 0).val, (i 0).isLt⟩ : Fin 4128) (⟨(i 1).val, (i 1).isLt⟩ : Fin 3072) = i := by funext a; fin_cases a <;> rfl
    show x0 i = ((if h : (i 0).val < 4128 ∧ (i 1).val < 3072 then _ else _ : ℝ) : EReal)
    rw [dif_pos ⟨(i 0).isLt, (i 1).isLt⟩, hi]
    exact e0 i
  · intro i
    have hi : ValueIdx.ix2 (⟨(i 0).val, (i 0).isLt⟩ : Fin 4128) (⟨(i 1).val, (i 1).isLt⟩ : Fin 1024) = i := by funext a; fin_cases a <;> rfl
    show x1 i = ((if h : (i 0).val < 4128 ∧ (i 1).val < 1024 then _ else _ : ℝ) : EReal)
    rw [dif_pos ⟨(i 0).isLt, (i 1).isLt⟩, hi]
    exact e1 i
  · intro i hi16
    have hi : ValueIdx.ix2 (⟨(i 0).val, (i 0).isLt⟩ : Fin 4128) (⟨(i 1).val, (i 1).isLt⟩ : Fin 128) = i := by funext a; fin_cases a <;> rfl
    show x2 i = ((if h : (i 0).val < 4128 ∧ (i 1).val < 128 then _ else _ : ℝ) : EReal)
    rw [dif_pos ⟨(i 0).isLt, (i 1).isLt⟩, hi]
    have e := e2 (ValueIdx.ix2 (i 0 : Fin 4128) (⟨(i 1).val, hi16⟩ : Fin 16))
    rw [extractStridedSlice_apply ![0, 0] x2 Facts.slices_S4128x128_S4128x16_0_0 _ i (fun a => match a with
      | ⟨0, _⟩ => (Nat.zero_add _).symm
      | ⟨1, _⟩ => (Nat.zero_add _).symm)] at e
    exact e

end Cert.Pre_finite

end
-- ==== Proof.Products.lean ====
/- The entries of a block product, of two operands side by side or transposed, as sums; and sums cut into stretches. -/
module

public import proofs.«01_k».proof.Proof.RealBlock

@[expose] public section

noncomputable section

namespace Cert.Products

open Idealize.ShloMosaic
open Idealize.ShloMosaic.ValueIdx Cert.RealBlock

variable {M K N : ℕ} {φ ψ : FTy}

/-- A product onto zeros, rows by columns. -/
theorem nn (x : FVec Ideal ⟨2, ![M, K]⟩ φ) (y : FVec Ideal ⟨2, ![K, N]⟩ ψ) (i : Fin M) (j : Fin N) :
    matmul (DotDims.plain M K N) none x y (constant (F := Ideal) ⟨2, ![M, N]⟩ .f32 0x00000000#32) (ix2 i j)
      = ∑ k : Fin K, x (ix2 i k) * y (ix2 k j) :=
  (Ideal.matmul_plain_apply none x y _ i j).trans
    ((congrArg (· + ∑ k : Fin K, x (ix2 i k) * y (ix2 k j)) Ideal.ofBits_zero_f32).trans (zero_add _))

/-- A product onto zeros, rows by rows. -/
theorem nt (x : FVec Ideal ⟨2, ![M, K]⟩ φ) (y : FVec Ideal ⟨2, ![N, K]⟩ ψ) (i : Fin M) (j : Fin N) :
    matmul (DotDims.transposedRhs M K N) none x y (constant (F := Ideal) ⟨2, ![M, N]⟩ .f32 0x00000000#32) (ix2 i j)
      = ∑ k : Fin K, x (ix2 i k) * y (ix2 j k) :=
  (Ideal.matmul_transposedRhs_apply none x y _ i j).trans
    ((congrArg (· + ∑ k : Fin K, x (ix2 i k) * y (ix2 j k)) Ideal.ofBits_zero_f32).trans (zero_add _))

/-- A product onto zeros, columns by columns. -/
theorem tn (x : FVec Ideal ⟨2, ![K, M]⟩ φ) (y : FVec Ideal ⟨2, ![K, N]⟩ ψ) (i : Fin M) (j : Fin N) :
    matmul (dimsTN K M N) none x y (constant (F := Ideal) ⟨2, ![M, N]⟩ .f32 0x00000000#32) (ix2 i j)
      = ∑ k : Fin K, x (ix2 k i) * y (ix2 k j) := by
  refine (Ideal.matmul_apply ..).trans ((congrArg (· + _) Ideal.ofBits_zero_f32).trans ((zero_add _).trans ?_))
  rw [← Equiv.sum_comp (contrEquiv1 (dimsTN K M N) K (dimsTN_rank K M N) (dimsTN_size K M N)).symm]
  refine Finset.sum_congr rfl fun k _ => ?_
  have hk := contrEquiv1_symm_val _ K (dimsTN_rank K M N) (dimsTN_size K M N) k
  refine congrArg₂ (fun a b => x a * y b) (funext fun a => Fin.ext ?_) (funext fun a => Fin.ext ?_)
  · match a with
    | ⟨0, _⟩ => exact hk
    | ⟨1, _⟩ => rfl
  · match a with
    | ⟨0, _⟩ => exact hk
    | ⟨1, _⟩ => rfl

/-- A real number's two in 32 bits. -/
theorem two_f32 : (Scalar.ofBits (F := Ideal) .f32 0x40000000#32 : EReal) = 2 := by
  show Ideal.ofBits .f32 0x40000000#32 = _
  simp [Ideal.ofBits, Ideal.ieee, -EReal.coe_mul]; norm_num; rfl

/-- The gradient of a squared rectifier: where the argument is not positive, twice its positive part is nothing. -/
theorem squared_relu (g u : EReal) : (if 0 < u then g * (2 * max u 0) else 0) = g * (2 * max u 0) := by
  split
  · rfl
  · next h => rw [max_eq_right (not_lt.mp h), mul_zero, mul_zero]

/-- A choice by whether a number is positive. -/
theorem select_pos (u p q : EReal) :
    (Scalar.select (FloatOps.cmpf (F := Ideal) (φ := .f32) .ogt u (Scalar.ofBits (F := Ideal) .f32 0x00000000#32)) p q : EReal)
      = if 0 < u then p else q := by
  rw [show Scalar.ofBits (F := Ideal) .f32 0x00000000#32 = (0 : EReal) from Ideal.ofBits_zero_f32]
  by_cases h : 0 < u
  · simp [Scalar.select, FloatOps.cmpf, Ideal.cmp, h]
  · simp [Scalar.select, FloatOps.cmpf, Ideal.cmp, h]

/-- The zero of 16 bits. -/
theorem zero_bf16 : (Scalar.ofBits (F := Ideal) .bf16 0#16 : EReal) = 0 := by
  show Ideal.ofBits .bf16 0#16 = _
  simp [Ideal.ofBits, Ideal.ieee]

/-- A sum over `n` stretches of `w` is the sum over all. -/
theorem sum_stretches (n w N : ℕ) (h : n * w = N) (f : Fin N → EReal) :
    ∑ k, f k = ∑ g : Fin n, ∑ k : Fin w, f ⟨w * g.val + k.val, by
      have := g.isLt; have := k.isLt; subst h; calc
        w * g.val + k.val < w * g.val + w := by omega
        _ = (g.val + 1) * w := by ring
        _ ≤ n * w := Nat.mul_le_mul_right w g.isLt⟩ := by
  subst h
  rw [← Equiv.sum_comp finProdFinEquiv, Fintype.sum_prod_type]
  exact Finset.sum_congr rfl fun g _ => Finset.sum_congr rfl fun k _ => congrArg f (Fin.ext (Nat.add_comm _ _))

/-- A sum cut in two. -/
theorem sum_cut (a b n : ℕ) (h : a + b = n) (f : Fin n → EReal) :
    ∑ k, f k = ∑ k : Fin a, f ⟨k.val, by omega⟩ + ∑ k : Fin b, f ⟨a + k.val, by omega⟩ := by
  subst h
  exact Fin.sum_univ_add f

end Cert.Products

end
-- ==== Proof.MlpDown.lean ====
/- The gradient of the MLP's hidden rows through its second product. -/
module

public import proofs.«01_k».proof.Proof.Gen.Kernel2Ideal.Value
public import proofs.«01_k».proof.Proof.Gen.Reference2Ideal.Read
public import proofs.«01_k».proof.Proof.Products
public import Idealize.ShloMosaic.Lib.Pipeline.ValueKit

@[expose] public section

noncomputable section

namespace Cert.Reference2Ideal.Read

open Idealize.ShloMosaic hiding ix1 ix2 ix3 ix4 ix5
open Idealize.ShloMosaic.ValueIdx Cert.Products Cert.Reference2Ideal

/-- The reference's gradient at an entry. -/
theorem entry (u : (⟨S4128x4096, .bf16⟩ : BufTy).Contents (Elt Ideal)) (w : (⟨S4096x1024, .bf16⟩ : BufTy).Contents (Elt Ideal))
    (dy : (⟨S4128x1024, .bf16⟩ : BufTy).Contents (Elt Ideal)) (i : Fin 4128) (j : Fin 4096) :
    (val_main_v15 (F := Ideal) u w dy (ix2 i j) : EReal)
      = (∑ k : Fin 1024, (dy (ix2 i k) * w (ix2 j k) : EReal)) * (2 * max (u (ix2 i j)) 0) := by
  rw [← squared_relu]
  rw [val_main_v15_apply, val_main_v14_apply, val_main_v12_apply, val_main_v11_apply, val_main_v9_apply, val_main_v8_apply,
    val_main_v3_apply, val_main_v5_apply]
  have hs : (∑ k : Fin 1024, (val_main_v2 (F := Ideal) dy (lidx_main_v11 (ix2 i j) k) * val_main_v1 (F := Ideal) w (ridx_main_v11 (ix2 i j) k) : EReal))
      = ∑ k : Fin 1024, (dy (ix2 i k) * w (ix2 j k) : EReal) :=
    Finset.sum_congr rfl fun k _ => congrArg₂ (fun a b => (dy a * w b : EReal)) (ValueIdx.eq_ix2 _) (ValueIdx.eq_ix2 _)
  refine (select_pos (u (ix2 i j)) _ (Scalar.ofBits (F := Ideal) .f32 0x00000000#32)).trans ?_
  rw [show Scalar.ofBits (F := Ideal) .f32 0x00000000#32 = (0 : EReal) from Ideal.ofBits_zero_f32]
  exact congrArg (fun a : EReal => if 0 < (u (ix2 i j) : EReal) then a else 0)
    (congrArg₂ (fun a b : EReal => a * b) hs (congrArg₂ (fun a b : EReal => a * b) two_f32
      (congrArg (max (α := EReal) (u (ix2 i j))) Ideal.ofBits_zero_f32)))

end Cert.Reference2Ideal.Read

namespace Cert.Kernel2Ideal.Gen

open Idealize.ShloMosaic hiding ix1 ix2 ix3 ix4 ix5
open Idealize.ShloMosaic.ValueIdx Cert.Products Cert.Kernel2Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S1376x1024 .bf16) (x1 : Vec Ideal S1024x1024 .bf16) (x2 : Vec Ideal S1376x1024 .bf16) (i : Fin 1376) (j : Fin 1024) :
    (out0_3 x0 x1 x2 (ix2 i j) : EReal) = (∑ k : Fin 1024, (x0 (ix2 i k) * x1 (ix2 j k) : EReal)) * (2 * x2 (ix2 i j)) := by
  unfold out0_3
  rw [View.canon_cons_unit_lit _ _ _ (by decide), View.ld_unit_lit _ _ (by decide), View.ld_unit_lit _ _ (by decide), View.ld_unit_lit _ _ (by decide)]
  unfold k0_pay1
  rw [shapeCast_self]
  exact congrArg₂ (fun a b : EReal => a * b) (nt (φ := .bf16) (ψ := .bf16) x0 x1 i j) (congrArg (fun a : EReal => a * x2 (ix2 i j)) two_f32)

/-- The host hands the kernel the rectified rows. -/
theorem host_relu (i : S4128x4096.Idx) : (V (F := Ideal) m c main_v0 i : EReal) = max (α := EReal) (m (c, main_arg0) i) 0 := by
  unfold V
  simp only [List.flatten_cons, List.flatten_nil, List.cons_append, List.nil_append, List.append_nil, hostOps0,
    StableHlo.TRef.binary, StableHlo.TRef.nullary, StableHlo.TRef.unary, StableHlo.TRef.toBuf, StableHlo.TRef.ofBuf, cast_eq]
  after_results_simp
  exact congrArg (max (α := EReal) (m (c, main_arg0) i)) zero_bf16

/-- The index maps. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

section

variable (t : Fin cfg0.N)

theorem block0 (i : Fin 1376) (k : Fin 1024) (h : 1376 * (t.val / 4) + i.val < 4128) :
    iblk m c 0 t (ix2 i k) = m (c, main_arg2) (ix2 ⟨1376 * (t.val / 4) + i.val, h⟩ k) := by
  rw [show m (c, main_arg2) = V m c main_arg2 from (V_main_arg2 m c).symm]
  blk_ext [iblk, idx t] <;> dsimp [ix2] <;> omega

theorem block1 (j : Fin 1024) (k : Fin 1024) (h : 1024 * (t.val % 4) + j.val < 4096) :
    iblk m c 1 t (ix2 j k) = m (c, main_arg1) (ix2 ⟨1024 * (t.val % 4) + j.val, h⟩ k) := by
  rw [show m (c, main_arg1) = V m c main_arg1 from (V_main_arg1 m c).symm]
  blk_ext [iblk, idx t] <;> dsimp [ix2] <;> omega

theorem block2 (i : Fin 1376) (j : Fin 1024) (h : 1376 * (t.val / 4) + i.val < 4128) (h' : 1024 * (t.val % 4) + j.val < 4096) :
    (iblk m c 2 t (ix2 i j) : EReal)
      = max (α := EReal) (m (c, main_arg0) (ix2 ⟨1376 * (t.val / 4) + i.val, h⟩ ⟨1024 * (t.val % 4) + j.val, h'⟩)) 0 := by
  refine Eq.trans ?_ (host_relu m c _)
  blk_ext [iblk, idx t] <;> dsimp [ix2] <;> omega

/-- A step's block is the reference's. -/
theorem point (i : Fin 1376) (j : Fin 1024) (hi : 1376 * (t.val / 4) + i.val < 4128) (hj : 1024 * (t.val % 4) + j.val < 4096) :
    out0_3 (iblk m c 0 t) (iblk m c 1 t) (iblk m c 2 t) (ix2 i j)
      = Cert.Reference2Ideal.Read.val_main_v15 (F := Ideal) (m (c, main_arg0)) (m (c, main_arg1)) (m (c, main_arg2)) (ix2 ⟨_, hi⟩ ⟨_, hj⟩) := by
  refine (step _ _ _ i j).trans (Eq.trans ?_ (Cert.Reference2Ideal.Read.entry _ _ _ _ _).symm)
  exact congrArg₂ (fun a b : EReal => a * b)
    (Finset.sum_congr rfl fun k _ => congrArg₂ (fun a b : EReal => a * b) (block0 m c t i k hi) (block1 m c t j k hj))
    (congrArg (fun a : EReal => 2 * a) (block2 m c t i j hi hj))

end

/-- The kernel's result is the reference's gradient. -/
theorem array : (dats m 0 c).arrAt 3 (cfgs 0).N
    = Cert.Reference2Ideal.Read.val_main_v15 (F := Ideal) (m (c, main_arg0)) (m (c, main_arg1)) (m (c, main_arg2)) := by
  refine (dats m 0 c).arrAt_eq_of_covers 3 _ (by decide +kernel) fun t hf y => ?_
  have h0 : (y 0).val < 1376 := (y 0).isLt
  have h1 : (y 1).val < 1024 := (y 1).isLt
  have ht : t.val < 12 := lt_of_lt_of_eq t.isLt N_0
  have hi : 1376 * (t.val / 4) + (y 0).val < 4128 := by omega
  have hj : 1024 * (t.val % 4) + (y 1).val < 4096 := by omega
  have hy : (win0_3.blk t).view.emb y = ix2 ⟨1376 * (t.val / 4) + (y 0).val, hi⟩ ⟨1024 * (t.val % 4) + (y 1).val, hj⟩ := by
    blk_ext [idx t] <;> dsimp [ix2] <;> omega
  blk_simp
  rw [after0_3, hy]
  exact (congrArg _ (ValueIdx.eq_ix2 y)).trans (point m c t (y 0) (y 1) hi hj)

end Cert.Kernel2Ideal.Gen

end
-- ==== Proof.MlpUpRows.lean ====
/- The gradient of the MLP's rows through its first product. The matrix comes as eight shards of columns. -/
module

public import proofs.«01_k».proof.Proof.Gen.Kernel3Ideal.Value
public import proofs.«01_k».proof.Proof.Gen.Reference3Ideal.Read
public import proofs.«01_k».proof.Proof.Products
public import Idealize.ShloMosaic.Lib.Pipeline.ValueKit

@[expose] public section

noncomputable section

namespace Cert.Reference3Ideal.Read

open Idealize.ShloMosaic hiding ix1 ix2 ix3 ix4 ix5
open Idealize.ShloMosaic.ValueIdx Cert.Products Cert.Reference3Ideal

/-- The reference's gradient at an entry, shard by shard. -/
theorem entry (w : (⟨S8x1024x512, .bf16⟩ : BufTy).Contents (Elt Ideal)) (du : (⟨S4128x4096, .bf16⟩ : BufTy).Contents (Elt Ideal)) (i : Fin 4128) (j : Fin 1024) :
    (val_main_v7 (F := Ideal) w du (ix2 i j) : EReal)
      = ∑ g : Fin 8, ∑ k : Fin 512, (du (ix2 i ⟨512 * g.val + k.val, by have := g.isLt; have := k.isLt; omega⟩) * w (ix3 g j k) : EReal) := by
  refine (val_main_v6_apply w du (ix2 i j)).trans ((sum_stretches 8 512 4096 rfl _).trans
    (Finset.sum_congr rfl fun g _ => Finset.sum_congr rfl fun k _ => congrArg₂ (fun a b : EReal => a * b)
      (congrArg du (ValueIdx.eq_ix2 _)) ?_))
  refine (val_main_v2_apply (F := Ideal) w _).trans ((val_main_v1_apply (F := Ideal) w _).trans (congrArg w (funext fun a => Fin.ext ?_)))
  have hj := j.isLt
  have hk := k.isLt
  have hg := g.isLt
  match a with
  | ⟨0, _⟩ => show (j.val * 4096 + (512 * g.val + k.val)) / 512 % 8 = g.val; omega
  | ⟨1, _⟩ => show (j.val * 4096 + (512 * g.val + k.val)) / 4096 = j.val; omega
  | ⟨2, _⟩ => show (j.val * 4096 + (512 * g.val + k.val)) % 512 = k.val; omega

end Cert.Reference3Ideal.Read

namespace Cert.Kernel3Ideal.Gen

open Idealize.ShloMosaic hiding ix1 ix2 ix3 ix4 ix5
open Idealize.ShloMosaic.ValueIdx Cert.Products Cert.Kernel3Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S1376x512 .bf16) (x1 : Vec Ideal S1x512x512 .bf16) (x2 : Vec Ideal S1376x512 .bf16) (x3 : Vec Ideal S1x512x512 .bf16) (x4 : Vec Ideal S1376x512 .bf16) (x5 : Vec Ideal S1x512x512 .bf16) (x6 : Vec Ideal S1376x512 .bf16) (x7 : Vec Ideal S1x512x512 .bf16) (x8 : Vec Ideal S1376x512 .bf16) (x9 : Vec Ideal S1x512x512 .bf16) (x10 : Vec Ideal S1376x512 .bf16) (x11 : Vec Ideal S1x512x512 .bf16) (x12 : Vec Ideal S1376x512 .bf16) (x13 : Vec Ideal S1x512x512 .bf16) (x14 : Vec Ideal S1376x512 .bf16) (x15 : Vec Ideal S1x512x512 .bf16)
    (i : Fin 1376) (j : Fin 512) : (out0_16 x0 x1 x2 x3 x4 x5 x6 x7 x8 x9 x10 x11 x12 x13 x14 x15 (ix2 i j) : EReal)
      = (((((((∑ k : Fin 512, (x0 (ix2 i k) * x1 (ix3 0 j k) : EReal)) + (∑ k : Fin 512, (x2 (ix2 i k) * x3 (ix3 0 j k) : EReal))) + (∑ k : Fin 512, (x4 (ix2 i k) * x5 (ix3 0 j k) : EReal))) + (∑ k : Fin 512, (x6 (ix2 i k) * x7 (ix3 0 j k) : EReal))) + (∑ k : Fin 512, (x8 (ix2 i k) * x9 (ix3 0 j k) : EReal))) + (∑ k : Fin 512, (x10 (ix2 i k) * x11 (ix3 0 j k) : EReal))) + (∑ k : Fin 512, (x12 (ix2 i k) * x13 (ix3 0 j k) : EReal))) + (∑ k : Fin 512, (x14 (ix2 i k) * x15 (ix3 0 j k) : EReal)) := by
  unfold out0_16
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  unfold k0_pay1 k0_pay2
  have p (x : Vec Ideal S1376x512 .bf16) (w : Vec Ideal S1x512x512 .bf16) :
      (matmul dot_S1376x512_S512x512_S1376x512_1_1_0_0_n_n none x (shapeCast S512x512 w shapeCasts_S1x512x512_S512x512 : FVec Ideal S512x512 .bf16)
        (constant (F := Ideal) S1376x512 .f32 0x00000000#32) (ix2 i j) : EReal) = ∑ k : Fin 512, (x (ix2 i k) * w (ix3 0 j k) : EReal) :=
    (nt (φ := .bf16) (ψ := .bf16) x (shapeCast S512x512 w shapeCasts_S1x512x512_S512x512) i j).trans
      (Finset.sum_congr rfl fun k _ => congrArg (fun b : EReal => x (ix2 i k) * b) (shapeCast_1ab_ab_apply w _ j k))
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (p x0 x1) (p x2 x3)) (p x4 x5)) (p x6 x7)) (p x8 x9)) (p x10 x11)) (p x12 x13)) (p x14 x15))

/-- The index maps. -/
theorem idx : ∀ t : Fin cfg0.N, (win0_0.index t = ![t.val / 2, 0] ∧ win0_2.index t = ![t.val / 2, 1] ∧ win0_4.index t = ![t.val / 2, 2] ∧ win0_6.index t = ![t.val / 2, 3] ∧ win0_8.index t = ![t.val / 2, 4] ∧ win0_10.index t = ![t.val / 2, 5] ∧ win0_12.index t = ![t.val / 2, 6] ∧ win0_14.index t = ![t.val / 2, 7])
    ∧ (win0_1.index t = ![0, t.val % 2, 0] ∧ win0_3.index t = ![1, t.val % 2, 0] ∧ win0_5.index t = ![2, t.val % 2, 0] ∧ win0_7.index t = ![3, t.val % 2, 0] ∧ win0_9.index t = ![4, t.val % 2, 0] ∧ win0_11.index t = ![5, t.val % 2, 0] ∧ win0_13.index t = ![6, t.val % 2, 0] ∧ win0_15.index t = ![7, t.val % 2, 0])
    ∧ win0_16.index t = ![t.val / 2, t.val % 2] :=
  (by decide +kernel : ∀ t : Fin grid0.N, _)

section

variable (t : Fin cfg0.N)

theorem rows0 (i : Fin 1376) (k : Fin 512) (hi : 1376 * (t.val / 2) + i.val < 4128) :
    iblk m c 0 t (ix2 i k) = m (c, main_arg1) (ix2 ⟨1376 * (t.val / 2) + i.val, hi⟩ ⟨512 * 0 + k.val, by omega⟩) := by
  rw [show m (c, main_arg1) = V m c main_arg1 from (V_main_arg1 m c).symm]
  blk_ext [iblk, idx t] <;> dsimp [ix2, ix3] <;> omega

theorem shard0 (j k : Fin 512) (hj : 512 * (t.val % 2) + j.val < 1024) :
    iblk m c 1 t (ix3 0 j k) = m (c, main_arg0) (ix3 0 ⟨512 * (t.val % 2) + j.val, hj⟩ k) := by
  rw [show m (c, main_arg0) = V m c main_arg0 from (V_main_arg0 m c).symm]
  blk_ext [iblk, idx t] <;> dsimp [ix2, ix3] <;> omega

theorem rows1 (i : Fin 1376) (k : Fin 512) (hi : 1376 * (t.val / 2) + i.val < 4128) :
    iblk m c 2 t (ix2 i k) = m (c, main_arg1) (ix2 ⟨1376 * (t.val / 2) + i.val, hi⟩ ⟨512 * 1 + k.val, by omega⟩) := by
  rw [show m (c, main_arg1) = V m c main_arg1 from (V_main_arg1 m c).symm]
  blk_ext [iblk, idx t] <;> dsimp [ix2, ix3] <;> omega

theorem shard1 (j k : Fin 512) (hj : 512 * (t.val % 2) + j.val < 1024) :
    iblk m c 3 t (ix3 0 j k) = m (c, main_arg0) (ix3 1 ⟨512 * (t.val % 2) + j.val, hj⟩ k) := by
  rw [show m (c, main_arg0) = V m c main_arg0 from (V_main_arg0 m c).symm]
  blk_ext [iblk, idx t] <;> dsimp [ix2, ix3] <;> omega

theorem rows2 (i : Fin 1376) (k : Fin 512) (hi : 1376 * (t.val / 2) + i.val < 4128) :
    iblk m c 4 t (ix2 i k) = m (c, main_arg1) (ix2 ⟨1376 * (t.val / 2) + i.val, hi⟩ ⟨512 * 2 + k.val, by omega⟩) := by
  rw [show m (c, main_arg1) = V m c main_arg1 from (V_main_arg1 m c).symm]
  blk_ext [iblk, idx t] <;> dsimp [ix2, ix3] <;> omega

theorem shard2 (j k : Fin 512) (hj : 512 * (t.val % 2) + j.val < 1024) :
    iblk m c 5 t (ix3 0 j k) = m (c, main_arg0) (ix3 2 ⟨512 * (t.val % 2) + j.val, hj⟩ k) := by
  rw [show m (c, main_arg0) = V m c main_arg0 from (V_main_arg0 m c).symm]
  blk_ext [iblk, idx t] <;> dsimp [ix2, ix3] <;> omega

theorem rows3 (i : Fin 1376) (k : Fin 512) (hi : 1376 * (t.val / 2) + i.val < 4128) :
    iblk m c 6 t (ix2 i k) = m (c, main_arg1) (ix2 ⟨1376 * (t.val / 2) + i.val, hi⟩ ⟨512 * 3 + k.val, by omega⟩) := by
  rw [show m (c, main_arg1) = V m c main_arg1 from (V_main_arg1 m c).symm]
  blk_ext [iblk, idx t] <;> dsimp [ix2, ix3] <;> omega

theorem shard3 (j k : Fin 512) (hj : 512 * (t.val % 2) + j.val < 1024) :
    iblk m c 7 t (ix3 0 j k) = m (c, main_arg0) (ix3 3 ⟨512 * (t.val % 2) + j.val, hj⟩ k) := by
  rw [show m (c, main_arg0) = V m c main_arg0 from (V_main_arg0 m c).symm]
  blk_ext [iblk, idx t] <;> dsimp [ix2, ix3] <;> omega

theorem rows4 (i : Fin 1376) (k : Fin 512) (hi : 1376 * (t.val / 2) + i.val < 4128) :
    iblk m c 8 t (ix2 i k) = m (c, main_arg1) (ix2 ⟨1376 * (t.val / 2) + i.val, hi⟩ ⟨512 * 4 + k.val, by omega⟩) := by
  rw [show m (c, main_arg1) = V m c main_arg1 from (V_main_arg1 m c).symm]
  blk_ext [iblk, idx t] <;> dsimp [ix2, ix3] <;> omega

theorem shard4 (j k : Fin 512) (hj : 512 * (t.val % 2) + j.val < 1024) :
    iblk m c 9 t (ix3 0 j k) = m (c, main_arg0) (ix3 4 ⟨512 * (t.val % 2) + j.val, hj⟩ k) := by
  rw [show m (c, main_arg0) = V m c main_arg0 from (V_main_arg0 m c).symm]
  blk_ext [iblk, idx t] <;> dsimp [ix2, ix3] <;> omega

theorem rows5 (i : Fin 1376) (k : Fin 512) (hi : 1376 * (t.val / 2) + i.val < 4128) :
    iblk m c 10 t (ix2 i k) = m (c, main_arg1) (ix2 ⟨1376 * (t.val / 2) + i.val, hi⟩ ⟨512 * 5 + k.val, by omega⟩) := by
  rw [show m (c, main_arg1) = V m c main_arg1 from (V_main_arg1 m c).symm]
  blk_ext [iblk, idx t] <;> dsimp [ix2, ix3] <;> omega

theorem shard5 (j k : Fin 512) (hj : 512 * (t.val % 2) + j.val < 1024) :
    iblk m c 11 t (ix3 0 j k) = m (c, main_arg0) (ix3 5 ⟨512 * (t.val % 2) + j.val, hj⟩ k) := by
  rw [show m (c, main_arg0) = V m c main_arg0 from (V_main_arg0 m c).symm]
  blk_ext [iblk, idx t] <;> dsimp [ix2, ix3] <;> omega

theorem rows6 (i : Fin 1376) (k : Fin 512) (hi : 1376 * (t.val / 2) + i.val < 4128) :
    iblk m c 12 t (ix2 i k) = m (c, main_arg1) (ix2 ⟨1376 * (t.val / 2) + i.val, hi⟩ ⟨512 * 6 + k.val, by omega⟩) := by
  rw [show m (c, main_arg1) = V m c main_arg1 from (V_main_arg1 m c).symm]
  blk_ext [iblk, idx t] <;> dsimp [ix2, ix3] <;> omega

theorem shard6 (j k : Fin 512) (hj : 512 * (t.val % 2) + j.val < 1024) :
    iblk m c 13 t (ix3 0 j k) = m (c, main_arg0) (ix3 6 ⟨512 * (t.val % 2) + j.val, hj⟩ k) := by
  rw [show m (c, main_arg0) = V m c main_arg0 from (V_main_arg0 m c).symm]
  blk_ext [iblk, idx t] <;> dsimp [ix2, ix3] <;> omega

theorem rows7 (i : Fin 1376) (k : Fin 512) (hi : 1376 * (t.val / 2) + i.val < 4128) :
    iblk m c 14 t (ix2 i k) = m (c, main_arg1) (ix2 ⟨1376 * (t.val / 2) + i.val, hi⟩ ⟨512 * 7 + k.val, by omega⟩) := by
  rw [show m (c, main_arg1) = V m c main_arg1 from (V_main_arg1 m c).symm]
  blk_ext [iblk, idx t] <;> dsimp [ix2, ix3] <;> omega

theorem shard7 (j k : Fin 512) (hj : 512 * (t.val % 2) + j.val < 1024) :
    iblk m c 15 t (ix3 0 j k) = m (c, main_arg0) (ix3 7 ⟨512 * (t.val % 2) + j.val, hj⟩ k) := by
  rw [show m (c, main_arg0) = V m c main_arg0 from (V_main_arg0 m c).symm]
  blk_ext [iblk, idx t] <;> dsimp [ix2, ix3] <;> omega

/-- A step's block is the reference's. -/
theorem point (i : Fin 1376) (j : Fin 512) (hi : 1376 * (t.val / 2) + i.val < 4128) (hj : 512 * (t.val % 2) + j.val < 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i j)
      = Cert.Reference3Ideal.Read.val_main_v7 (F := Ideal) (m (c, main_arg0)) (m (c, main_arg1)) (ix2 ⟨_, hi⟩ ⟨_, hj⟩) := by
  refine (step _ _ _ _ _ _ _ _ _ _ _ _ _ _ _ _ i j).trans (Eq.trans ?_ ((Cert.Reference3Ideal.Read.entry _ _ _ _).trans (Fin.sum_univ_eight _)).symm)
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (Finset.sum_congr rfl fun k _ => congrArg₂ (fun a b : EReal => a * b) (rows0 m c t i k hi) (shard0 m c t j k hj)) (Finset.sum_congr rfl fun k _ => congrArg₂ (fun a b : EReal => a * b) (rows1 m c t i k hi) (shard1 m c t j k hj))) (Finset.sum_congr rfl fun k _ => congrArg₂ (fun a b : EReal => a * b) (rows2 m c t i k hi) (shard2 m c t j k hj))) (Finset.sum_congr rfl fun k _ => congrArg₂ (fun a b : EReal => a * b) (rows3 m c t i k hi) (shard3 m c t j k hj))) (Finset.sum_congr rfl fun k _ => congrArg₂ (fun a b : EReal => a * b) (rows4 m c t i k hi) (shard4 m c t j k hj))) (Finset.sum_congr rfl fun k _ => congrArg₂ (fun a b : EReal => a * b) (rows5 m c t i k hi) (shard5 m c t j k hj))) (Finset.sum_congr rfl fun k _ => congrArg₂ (fun a b : EReal => a * b) (rows6 m c t i k hi) (shard6 m c t j k hj))) (Finset.sum_congr rfl fun k _ => congrArg₂ (fun a b : EReal => a * b) (rows7 m c t i k hi) (shard7 m c t j k hj)))

end

/-- The kernel's result is the reference's. -/
theorem array : (dats m 0 c).arrAt 16 (cfgs 0).N
    = Cert.Reference3Ideal.Read.val_main_v7 (F := Ideal) (m (c, main_arg0)) (m (c, main_arg1)) := by
  refine (dats m 0 c).arrAt_eq_of_covers 16 _ (by decide +kernel) fun t hf y => ?_
  have h0 : (y 0).val < 1376 := (y 0).isLt
  have h1 : (y 1).val < 512 := (y 1).isLt
  have ht : t.val < 6 := lt_of_lt_of_eq t.isLt N_0
  have hi : 1376 * (t.val / 2) + (y 0).val < 4128 := by omega
  have hj : 512 * (t.val % 2) + (y 1).val < 1024 := by omega
  have hy : (win0_16.blk t).view.emb y = ix2 ⟨1376 * (t.val / 2) + (y 0).val, hi⟩ ⟨512 * (t.val % 2) + (y 1).val, hj⟩ := by
    blk_ext [idx t] <;> dsimp [ix2, ix3] <;> omega
  blk_simp
  rw [after0_16, hy]
  exact (congrArg _ (ValueIdx.eq_ix2 y)).trans (point m c t (y 0) (y 1) hi hj)

end Cert.Kernel3Ideal.Gen

end
-- ==== Proof.MlpUpWeights.lean ====
/- The gradient of the matrix of the MLP's first product, in eight shards of columns. -/
module

public import proofs.«01_k».proof.Proof.Gen.Kernel4Ideal.Value
public import proofs.«01_k».proof.Proof.Gen.Reference4Ideal.Read
public import proofs.«01_k».proof.Proof.Products
public import Idealize.ShloMosaic.Lib.Pipeline.ValueKit

@[expose] public section

noncomputable section

namespace Cert.Reference4Ideal.Read

open Idealize.ShloMosaic hiding ix1 ix2 ix3 ix4 ix5
open Idealize.ShloMosaic.ValueIdx Cert.Products Cert.Reference4Ideal

/-- The reference's gradient at an entry: column `512 g + j` of the matrix is column `j` of shard `g`. -/
theorem entry (x : (⟨S4128x1024, .bf16⟩ : BufTy).Contents (Elt Ideal)) (du : (⟨S4128x4096, .bf16⟩ : BufTy).Contents (Elt Ideal)) (g : Fin 8) (i : Fin 1024) (j : Fin 512) (h : 512 * g.val + j.val < 4096) :
    (val_main_v8 (F := Ideal) x du (ix3 g i j) : EReal) = ∑ k : Fin 4128, (x (ix2 k i) * du (ix2 k ⟨512 * g.val + j.val, h⟩) : EReal) := by
  rw [val_main_v8_apply, val_main_v7_apply, val_main_v6_apply, val_main_v5_apply]
  have hi := i.isLt
  have hj := j.isLt
  have hg := g.isLt
  refine (val_main_v4_apply x du _).trans (Finset.sum_congr rfl fun k _ => (mul_comm (G := EReal) _ _).trans
    (congrArg₂ (fun a b => (x a * du b : EReal)) (funext fun a => Fin.ext ?_) (funext fun a => Fin.ext ?_)))
  · match a with
    | ⟨0, _⟩ => rfl
    | ⟨1, _⟩ => show ((i.val * 8 + g.val) * 512 + j.val) / 4096 = i.val; omega
  · match a with
    | ⟨0, _⟩ => rfl
    | ⟨1, _⟩ => show ((i.val * 8 + g.val) * 512 + j.val) % 4096 = 512 * g.val + j.val; omega

end Cert.Reference4Ideal.Read

namespace Cert.Kernel4Ideal.Gen

open Idealize.ShloMosaic hiding ix1 ix2 ix3 ix4 ix5
open Idealize.ShloMosaic.ValueIdx Cert.Products Cert.Kernel4Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S4128x1024 .bf16) (x1 : Vec Ideal S4128x512 .bf16) (a : Fin 1) (i : Fin 1024) (j : Fin 512) :
    (out0_2 x0 x1 (ix3 a i j) : EReal) = ∑ k : Fin 4128, (x0 (ix2 k i) * x1 (ix2 k j) : EReal) := by
  unfold out0_2
  rw [View.canon_cons_unit_lit _ _ _ (by decide), View.ld_unit_lit _ _ (by decide), View.ld_unit_lit _ _ (by decide)]
  unfold k0_pay1
  exact (shapeCast_ab_1ab_apply _ _ a i j).trans (tn (φ := .bf16) (ψ := .bf16) x0 x1 i j)

/-- The index maps. -/
theorem idx : ∀ t : Fin cfg0.N, win0_0.index t = ![0, 0] ∧ win0_1.index t = ![0, t.val] ∧ win0_2.index t = ![t.val, 0, 0] :=
  (by decide +kernel : ∀ t : Fin grid0.N, _)

section

variable (t : Fin cfg0.N)

theorem block0 (k : Fin 4128) (i : Fin 1024) :
    iblk m c 0 t (ix2 k i) = m (c, main_arg0) (ix2 k i) := by
  rw [show m (c, main_arg0) = V m c main_arg0 from (V_main_arg0 m c).symm]
  blk_ext [iblk, idx t] <;> dsimp [ix2, ix3] <;> omega

theorem block1 (k : Fin 4128) (j : Fin 512) (hj : 512 * t.val + j.val < 4096) :
    iblk m c 1 t (ix2 k j) = m (c, main_arg1) (ix2 k ⟨512 * t.val + j.val, hj⟩) := by
  rw [show m (c, main_arg1) = V m c main_arg1 from (V_main_arg1 m c).symm]
  blk_ext [iblk, idx t] <;> dsimp [ix2, ix3] <;> omega

/-- A step's block is the reference's. -/
theorem point (a : Fin 1) (i : Fin 1024) (j : Fin 512) (ht : t.val < 8) :
    out0_2 (iblk m c 0 t) (iblk m c 1 t) (ix3 a i j)
      = Cert.Reference4Ideal.Read.val_main_v8 (F := Ideal) (m (c, main_arg0)) (m (c, main_arg1)) (ix3 ⟨t.val, ht⟩ i j) := by
  have hj : 512 * t.val + j.val < 4096 := by have := j.isLt; omega
  refine (step _ _ a i j).trans (Eq.trans ?_ (Cert.Reference4Ideal.Read.entry _ _ ⟨t.val, ht⟩ i j hj).symm)
  exact Finset.sum_congr rfl fun k _ => congrArg₂ (fun a b : EReal => a * b) (block0 m c t k i) (block1 m c t k j hj)

end

/-- The kernel's result is the reference's. -/
theorem array : (dats m 0 c).arrAt 2 (cfgs 0).N
    = Cert.Reference4Ideal.Read.val_main_v8 (F := Ideal) (m (c, main_arg0)) (m (c, main_arg1)) := by
  refine (dats m 0 c).arrAt_eq_of_covers 2 _ (by decide +kernel) fun t hf y => ?_
  have h0 : (y 0).val < 1 := (y 0).isLt
  have h1 : (y 1).val < 1024 := (y 1).isLt
  have h2 : (y 2).val < 512 := (y 2).isLt
  have ht : t.val < 8 := lt_of_lt_of_eq t.isLt N_0

  have hy : (win0_2.blk t).view.emb y = ix3 ⟨t.val, ht⟩ (y 1) (y 2) := by
    blk_ext [idx t] <;> dsimp [ix2, ix3] <;> omega
  blk_simp
  rw [after0_2, hy]
  exact (congrArg _ (ValueIdx.eq_ix3 y)).trans (point m c t (y 0) (y 1) (y 2) ht)

end Cert.Kernel4Ideal.Gen

end
-- ==== Proof.MlpUp.lean ====
/- The MLP's first product, rectified. Its matrix comes as eight shards of columns. -/
module

public import proofs.«01_k».proof.Proof.Gen.Kernel5Ideal.Value
public import proofs.«01_k».proof.Proof.Gen.Reference5Ideal.Read
public import proofs.«01_k».proof.Proof.Products
public import Idealize.ShloMosaic.Lib.Pipeline.ValueKit

@[expose] public section

noncomputable section

namespace Cert.Reference5Ideal.Read

open Idealize.ShloMosaic hiding ix1 ix2 ix3 ix4 ix5
open Idealize.ShloMosaic.ValueIdx Cert.Products Cert.Reference5Ideal

/-- The reference's rows at an entry: column `512 g + j` of the matrix is column `j` of shard `g`. -/
theorem entry (x : (⟨S4128x1024, .bf16⟩ : BufTy).Contents (Elt Ideal)) (w : (⟨S8x1024x512, .bf16⟩ : BufTy).Contents (Elt Ideal)) (i : Fin 4128) (g : Fin 8) (j : Fin 512) (h : 512 * g.val + j.val < 4096) :
    (val_main_v6 (F := Ideal) x w (ix2 i ⟨512 * g.val + j.val, h⟩) : EReal)
      = max (α := EReal) (∑ k : Fin 1024, (x (ix2 i k) * w (ix3 g k j) : EReal)) 0 := by
  refine congrArg₂ (max (α := EReal)) ?_ Ideal.ofBits_zero_f32
  refine (val_main_v4_apply x w _).trans (Finset.sum_congr rfl fun k _ => congrArg₂ (fun a b : EReal => a * b)
    (congrArg x (ValueIdx.eq_ix2 _)) ?_)
  refine (val_main_v3_apply (F := Ideal) w _).trans ((val_main_v2_apply (F := Ideal) w _).trans (congrArg w (funext fun a => Fin.ext ?_)))
  have hj := j.isLt
  have hk := k.isLt
  match a with
  | ⟨0, _⟩ => show (k.val * 4096 + (512 * g.val + j.val)) / 512 % 8 = g.val; omega
  | ⟨1, _⟩ => show (k.val * 4096 + (512 * g.val + j.val)) / 4096 = k.val; omega
  | ⟨2, _⟩ => show (k.val * 4096 + (512 * g.val + j.val)) % 512 = j.val; omega

end Cert.Reference5Ideal.Read

namespace Cert.Kernel5Ideal.Gen

open Idealize.ShloMosaic hiding ix1 ix2 ix3 ix4 ix5
open Idealize.ShloMosaic.ValueIdx Cert.Products Cert.Kernel5Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S1376x1024 .bf16) (x1 : Vec Ideal S1x1024x512 .bf16) (i : Fin 1376) (j : Fin 512) :
    (out0_2 x0 x1 (ix2 i j) : EReal) = max (α := EReal) (∑ k : Fin 1024, (x0 (ix2 i k) * x1 (ix3 0 k j) : EReal)) 0 := by
  unfold out0_2
  rw [View.canon_cons_unit_lit _ _ _ (by decide), View.ld_unit_lit _ _ (by decide), View.ld_unit_lit _ _ (by decide)]
  unfold k0_pay1
  refine congrArg₂ (max (α := EReal)) ?_ Ideal.ofBits_zero_f32
  refine (nn (φ := .bf16) (ψ := .bf16) x0 (shapeCast S1024x512 x1 shapeCasts_S1x1024x512_S1024x512) i j).trans ?_
  exact Finset.sum_congr rfl fun k _ => congrArg (fun b : EReal => x0 (ix2 i k) * b) (shapeCast_1ab_ab_apply x1 _ k j)

/-- The index maps. -/
theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

section

variable (t : Fin cfg0.N)

theorem block0 (i : Fin 1376) (k : Fin 1024) (hi : 1376 * (t.val / 8) + i.val < 4128) :
    iblk m c 0 t (ix2 i k) = m (c, main_arg0) (ix2 ⟨1376 * (t.val / 8) + i.val, hi⟩ k) := by
  rw [show m (c, main_arg0) = V m c main_arg0 from (V_main_arg0 m c).symm]
  blk_ext [iblk, idx t] <;> dsimp [ix2, ix3] <;> omega

theorem block1 (k : Fin 1024) (j : Fin 512) (h : t.val % 8 < 8) :
    iblk m c 1 t (ix3 0 k j) = m (c, main_arg1) (ix3 ⟨t.val % 8, h⟩ k j) := by
  rw [show m (c, main_arg1) = V m c main_arg1 from (V_main_arg1 m c).symm]
  blk_ext [iblk, idx t] <;> dsimp [ix3] <;> omega

/-- A step's block is the reference's. -/
theorem point (i : Fin 1376) (j : Fin 512) (hi : 1376 * (t.val / 8) + i.val < 4128) (hj : 512 * (t.val % 8) + j.val < 4096) :
    out0_2 (iblk m c 0 t) (iblk m c 1 t) (ix2 i j)
      = Cert.Reference5Ideal.Read.val_main_v6 (F := Ideal) (m (c, main_arg0)) (m (c, main_arg1)) (ix2 ⟨_, hi⟩ ⟨_, hj⟩) := by
  have hg : t.val % 8 < 8 := Nat.mod_lt _ (by decide)
  refine (step _ _ i j).trans (Eq.trans ?_ (Cert.Reference5Ideal.Read.entry _ _ _ ⟨t.val % 8, hg⟩ j hj).symm)
  exact congrArg (fun a => max (α := EReal) a 0) (Finset.sum_congr rfl fun k _ => congrArg₂ (fun a b : EReal => a * b) (block0 m c t i k hi) (block1 m c t k j hg))

end

/-- The kernel's result is the reference's. -/
theorem array : (dats m 0 c).arrAt 2 (cfgs 0).N
    = Cert.Reference5Ideal.Read.val_main_v6 (F := Ideal) (m (c, main_arg0)) (m (c, main_arg1)) := by
  refine (dats m 0 c).arrAt_eq_of_covers 2 _ (by decide +kernel) fun t hf y => ?_
  have h0 : (y 0).val < 1376 := (y 0).isLt
  have h1 : (y 1).val < 512 := (y 1).isLt
  have ht : t.val < 24 := lt_of_lt_of_eq t.isLt N_0
  have hi : 1376 * (t.val / 8) + (y 0).val < 4128 := by omega
  have hj : 512 * (t.val % 8) + (y 1).val < 4096 := by omega
  have hy : (win0_2.blk t).view.emb y = ix2 ⟨1376 * (t.val / 8) + (y 0).val, hi⟩ ⟨512 * (t.val % 8) + (y 1).val, hj⟩ := by
    blk_ext [idx t] <;> dsimp [ix2, ix3] <;> omega
  blk_simp
  rw [after0_2, hy]
  exact (congrArg _ (ValueIdx.eq_ix2 y)).trans (point m c t (y 0) (y 1) hi hj)

end Cert.Kernel5Ideal.Gen

end
-- ==== Proof.MlpDownRows.lean ====
/- The MLP's second product, of the squares of its rectified rows. -/
module

public import proofs.«01_k».proof.Proof.Gen.Kernel6Ideal.Value
public import proofs.«01_k».proof.Proof.Gen.Reference6Ideal.Read
public import proofs.«01_k».proof.Proof.Products
public import Idealize.ShloMosaic.Lib.Pipeline.ValueKit

@[expose] public section

noncomputable section

namespace Cert.Reference6Ideal.Read

open Idealize.ShloMosaic hiding ix1 ix2 ix3 ix4 ix5
open Idealize.ShloMosaic.ValueIdx Cert.Products Cert.Reference6Ideal

/-- The reference's rows at an entry. -/
theorem entry (u : (⟨S4128x4096, .bf16⟩ : BufTy).Contents (Elt Ideal)) (w : (⟨S4096x1024, .bf16⟩ : BufTy).Contents (Elt Ideal)) (i : Fin 4128) (j : Fin 1024) :
    (val_main_v5 (F := Ideal) u w (ix2 i j) : EReal)
      = ∑ k : Fin 4096, (max (α := EReal) (u (ix2 i k)) 0 * max (α := EReal) (u (ix2 i k)) 0 * w (ix2 k j) : EReal) := by
  have hz (k : Fin 4096) : (val_main_v2 (F := Ideal) u (lidx_main_v4 (ix2 i j) k) : EReal) = max (α := EReal) (u (ix2 i k)) 0 :=
    (val_main_v2_apply (F := Ideal) u _).trans (congrArg₂ (max (α := EReal)) (congrArg u (ValueIdx.eq_ix2 _)) Ideal.ofBits_zero_f32)
  exact (val_main_v4_apply u w (ix2 i j)).trans (Finset.sum_congr rfl fun k _ =>
    congrArg₂ (fun a b : EReal => a * b) (congrArg₂ (fun a b : EReal => a * b) (hz k) (hz k)) (congrArg w (ValueIdx.eq_ix2 _)))

end Cert.Reference6Ideal.Read

namespace Cert.Kernel6Ideal.Gen

open Idealize.ShloMosaic hiding ix1 ix2 ix3 ix4 ix5
open Idealize.ShloMosaic.ValueIdx Cert.Products Cert.Kernel6Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S688x4096 .bf16) (x1 : Vec Ideal S4096x1024 .bf16) (i : Fin 688) (j : Fin 1024) :
    (out0_2 x0 x1 (ix2 i j) : EReal) = ∑ k : Fin 4096, (x0 (ix2 i k) * x0 (ix2 i k) * x1 (ix2 k j) : EReal) := by
  unfold out0_2
  rw [View.canon_cons_unit_lit _ _ _ (by decide), View.ld_unit_lit _ _ (by decide), View.ld_unit_lit _ _ (by decide)]
  unfold k0_pay1
  rw [shapeCast_self]
  exact nn (φ := .bf16) (ψ := .bf16) (mulf x0 x0) x1 i j

/-- The host hands the kernel the rectified rows. -/
theorem host_relu (i : S4128x4096.Idx) : (V (F := Ideal) m c main_v0 i : EReal) = max (α := EReal) (m (c, main_arg0) i) 0 := by
  unfold V
  simp only [List.flatten_cons, List.flatten_nil, List.cons_append, List.nil_append, List.append_nil, hostOps0,
    StableHlo.TRef.binary, StableHlo.TRef.nullary, StableHlo.TRef.unary, StableHlo.TRef.toBuf, StableHlo.TRef.ofBuf, cast_eq]
  after_results_simp
  exact congrArg (max (α := EReal) (m (c, main_arg0) i)) zero_bf16

/-- The index maps. -/
theorem idx : ∀ t : Fin cfg0.N, win0_0.index t = ![t.val, 0] ∧ win0_1.index t = ![0, 0] ∧ win0_2.index t = ![t.val, 0] :=
  (by decide +kernel : ∀ t : Fin grid0.N, _)

section

variable (t : Fin cfg0.N)

theorem block0 (i : Fin 688) (k : Fin 4096) (hi : 688 * t.val + i.val < 4128) :
    (iblk m c 0 t (ix2 i k) : EReal) = max (α := EReal) (m (c, main_arg0) (ix2 ⟨688 * t.val + i.val, hi⟩ k)) 0 := by
  refine Eq.trans ?_ (host_relu m c _)
  blk_ext [iblk, idx t] <;> dsimp [ix2] <;> omega

theorem block1 (k : Fin 4096) (j : Fin 1024) :
    iblk m c 1 t (ix2 k j) = m (c, main_arg1) (ix2 k j) := by
  rw [show m (c, main_arg1) = V m c main_arg1 from (V_main_arg1 m c).symm]
  blk_ext [iblk, idx t] <;> dsimp [ix2, ix3] <;> omega

/-- A step's block is the reference's. -/
theorem point (i : Fin 688) (j : Fin 1024) (hi : 688 * t.val + i.val < 4128) :
    out0_2 (iblk m c 0 t) (iblk m c 1 t) (ix2 i j)
      = Cert.Reference6Ideal.Read.val_main_v5 (F := Ideal) (m (c, main_arg0)) (m (c, main_arg1)) (ix2 ⟨_, hi⟩ j) := by
  refine (step _ _ i j).trans (Eq.trans ?_ (Cert.Reference6Ideal.Read.entry _ _ _ _).symm)
  exact Finset.sum_congr rfl fun k _ => congrArg₂ (fun a b : EReal => a * b)
    (congrArg₂ (fun a b : EReal => a * b) (block0 m c t i k hi) (block0 m c t i k hi)) (block1 m c t k j)

end

/-- The kernel's result is the reference's. -/
theorem array : (dats m 0 c).arrAt 2 (cfgs 0).N
    = Cert.Reference6Ideal.Read.val_main_v5 (F := Ideal) (m (c, main_arg0)) (m (c, main_arg1)) := by
  refine (dats m 0 c).arrAt_eq_of_covers 2 _ (by decide +kernel) fun t hf y => ?_
  have h0 : (y 0).val < 688 := (y 0).isLt
  have h1 : (y 1).val < 1024 := (y 1).isLt
  have ht : t.val < 6 := lt_of_lt_of_eq t.isLt N_0
  have hi : 688 * t.val + (y 0).val < 4128 := by omega
  have hy : (win0_2.blk t).view.emb y = ix2 ⟨688 * t.val + (y 0).val, hi⟩ (y 1) := by
    blk_ext [idx t] <;> dsimp [ix2, ix3] <;> omega
  blk_simp
  rw [after0_2, hy]
  exact (congrArg _ (ValueIdx.eq_ix2 y)).trans (point m c t (y 0) (y 1) hi)

end Cert.Kernel6Ideal.Gen

end
-- ==== Proof.ProjQkv.lean ====
/- The queries, keys and values. Their rows through some columns of the input projection. -/
module

public import proofs.«01_k».proof.Proof.Gen.Kernel7Ideal.Value
public import proofs.«01_k».proof.Proof.Gen.Reference7Ideal.Read
public import proofs.«01_k».proof.Proof.Products
public import Idealize.ShloMosaic.Lib.Pipeline.ValueKit

@[expose] public section

noncomputable section

namespace Cert.Reference7Ideal.Read

open Idealize.ShloMosaic hiding ix1 ix2 ix3 ix4 ix5
open Idealize.ShloMosaic.ValueIdx Cert.Products Cert.Reference7Ideal

/-- The reference's rows at an entry. -/
theorem entry (x : (⟨S4128x1024, .bf16⟩ : BufTy).Contents (Elt Ideal)) (w : (⟨S1024x7184, .bf16⟩ : BufTy).Contents (Elt Ideal)) (i : Fin 4128) (j : Fin 3072) (h : j.val < 7184) :
    (val_main_v4 (F := Ideal) x w (ix2 i j) : EReal) = ∑ k : Fin 1024, (x (ix2 i k) * w (ix2 k ⟨j.val, h⟩) : EReal) :=
  (val_main_v3_apply x w (ix2 i j)).trans (Finset.sum_congr rfl fun k _ => congrArg₂ (fun a b : EReal => a * b)
    (congrArg x (ValueIdx.eq_ix2 _))
    ((val_main_v2_apply (F := Ideal) w _).trans (congrArg w (funext fun a => match a with
      | ⟨0, _⟩ => rfl
      | ⟨1, _⟩ => Fin.ext (by first | rfl | exact Nat.add_comm _ _)))))

end Cert.Reference7Ideal.Read

namespace Cert.Kernel7Ideal.Gen

open Idealize.ShloMosaic hiding ix1 ix2 ix3 ix4 ix5
open Idealize.ShloMosaic.ValueIdx Cert.Products Cert.Kernel7Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S1376x1024 .bf16) (x1 : Vec Ideal S1024x1024 .bf16) (x2 : Vec Ideal S8x128 .f32) (i : Fin 1376) (j : Fin 1024) :
    (out0_3 x0 x1 x2 (ix2 i j) : EReal) = ∑ k : Fin 1024, (x0 (ix2 i k) * x1 (ix2 j k) : EReal) := by
  unfold out0_3
  rw [View.canon_cons_unit_lit _ _ _ (by decide), View.ld_unit_lit _ _ (by decide), View.ld_unit_lit _ _ (by decide)]
  unfold k0_pay1
  rw [shapeCast_self]
  exact nt (φ := .bf16) (ψ := .bf16) x0 x1 i j

/-- The host hands the kernel the matrix transposed. -/
theorem host_transpose (i : Fin 7184) (k : Fin 1024) : (V (F := Ideal) m c main_v0 (ix2 i k) : EReal) = m (c, main_arg1) (ix2 k i) := by
  unfold V
  simp only [List.flatten_cons, List.flatten_nil, List.cons_append, List.nil_append, List.append_nil, hostOps0,
    StableHlo.TRef.binary, StableHlo.TRef.nullary, StableHlo.TRef.unary, StableHlo.TRef.toBuf, StableHlo.TRef.ofBuf, cast_eq]
  after_results_simp
  exact transpose_apply [1, 0] (m (c, main_arg1)) _ (ix2 i k) (ix2 k i) (fun b => match b with
    | ⟨0, _⟩ => rfl
    | ⟨1, _⟩ => rfl)

/-- The index maps. -/
theorem idx : ∀ t : Fin cfg0.N, win0_0.index t = ![t.val / 3, 0] ∧ win0_1.index t = ![1024 * (t.val % 3), 0]
    ∧ win0_3.index t = ![t.val / 3, t.val % 3] :=
  (by decide +kernel : ∀ t : Fin grid0.N, _)

section

variable (t : Fin cfg0.N)

theorem block0 (i : Fin 1376) (k : Fin 1024) (hi : 1376 * (t.val / 3) + i.val < 4128) :
    iblk m c 0 t (ix2 i k) = m (c, main_arg0) (ix2 ⟨1376 * (t.val / 3) + i.val, hi⟩ k) := by
  rw [show m (c, main_arg0) = V m c main_arg0 from (V_main_arg0 m c).symm]
  blk_ext [iblk, idx t] <;> dsimp [ix2, ix3] <;> omega

theorem block1 (j k : Fin 1024) (h : (1024 * (t.val % 3) + j.val) < 7184) :
    (iblk m c 1 t (ix2 j k) : EReal) = m (c, main_arg1) (ix2 k ⟨(1024 * (t.val % 3) + j.val), h⟩) := by
  refine Eq.trans ?_ (host_transpose m c _ k)
  unfold iblk
  refine congrArg (V m c main_v0) (funext fun a => Fin.ext ?_)
  match a with
  | ⟨0, _⟩ =>
    refine (Pipeline.Window.rect_emb_val_off win0_1 t (ix2 j k) 0).trans ?_
    rw [(idx t).2.1]
    show 1024 * (t.val % 3) + j.val = (1024 * (t.val % 3) + j.val)
    omega
  | ⟨1, _⟩ =>
    refine (Pipeline.Window.rect_emb_val_off win0_1 t (ix2 j k) 1).trans ?_
    rw [(idx t).2.1]
    show 0 + k.val = k.val
    omega

/-- A step's block is the reference's. -/
theorem point (i : Fin 1376) (j : Fin 1024) (hi : 1376 * (t.val / 3) + i.val < 4128) (hj : 1024 * (t.val % 3) + j.val < 3072) :
    out0_3 (iblk m c 0 t) (iblk m c 1 t) (iblk m c 2 t) (ix2 i j)
      = Cert.Reference7Ideal.Read.val_main_v4 (F := Ideal) (m (c, main_arg0)) (m (c, main_arg1)) (ix2 ⟨_, hi⟩ ⟨_, hj⟩) := by
  refine (step _ _ _ i j).trans (Eq.trans ?_ (Cert.Reference7Ideal.Read.entry _ _ _ _ (by dsimp only; omega)).symm)
  exact Finset.sum_congr rfl fun k _ => congrArg₂ (fun a b : EReal => a * b) (block0 m c t i k hi) (block1 m c t j k _)

end

/-- The kernel's result is the reference's. -/
theorem array : (dats m 0 c).arrAt 3 (cfgs 0).N
    = Cert.Reference7Ideal.Read.val_main_v4 (F := Ideal) (m (c, main_arg0)) (m (c, main_arg1)) := by
  refine (dats m 0 c).arrAt_eq_of_covers 3 _ (by decide +kernel) fun t hf y => ?_
  have h0 : (y 0).val < 1376 := (y 0).isLt
  have h1 : (y 1).val < 1024 := (y 1).isLt
  have ht : t.val < 9 := lt_of_lt_of_eq t.isLt N_0
  have hi : 1376 * (t.val / 3) + (y 0).val < 4128 := by omega
  have hj : 1024 * (t.val % 3) + (y 1).val < 3072 := by omega
  have hy : (win0_3.blk t).view.emb y = ix2 ⟨1376 * (t.val / 3) + (y 0).val, hi⟩ ⟨1024 * (t.val % 3) + (y 1).val, hj⟩ := by
    blk_ext [idx t] <;> dsimp [ix2, ix3] <;> omega
  blk_simp
  rw [after0_3, hy]
  exact (congrArg _ (ValueIdx.eq_ix2 y)).trans (point m c t (y 0) (y 1) hi hj)

end Cert.Kernel7Ideal.Gen

end
-- ==== Proof.ProjGlu.lean ====
/- The two halves of the gated linear unit. Their rows through some columns of the input projection. -/
module

public import proofs.«01_k».proof.Proof.Gen.Kernel8Ideal.Value
public import proofs.«01_k».proof.Proof.Gen.Reference8Ideal.Read
public import proofs.«01_k».proof.Proof.Products
public import Idealize.ShloMosaic.Lib.Pipeline.ValueKit

@[expose] public section

noncomputable section

namespace Cert.Reference8Ideal.Read

open Idealize.ShloMosaic hiding ix1 ix2 ix3 ix4 ix5
open Idealize.ShloMosaic.ValueIdx Cert.Products Cert.Reference8Ideal

/-- The reference's rows at an entry. -/
theorem entry (x : (⟨S4128x1024, .bf16⟩ : BufTy).Contents (Elt Ideal)) (w : (⟨S1024x7184, .bf16⟩ : BufTy).Contents (Elt Ideal)) (i : Fin 4128) (j : Fin 2048) (h : 3088 + j.val < 7184) :
    (val_main_v4 (F := Ideal) x w (ix2 i j) : EReal) = ∑ k : Fin 1024, (x (ix2 i k) * w (ix2 k ⟨3088 + j.val, h⟩) : EReal) :=
  (val_main_v3_apply x w (ix2 i j)).trans (Finset.sum_congr rfl fun k _ => congrArg₂ (fun a b : EReal => a * b)
    (congrArg x (ValueIdx.eq_ix2 _))
    ((val_main_v2_apply (F := Ideal) w _).trans (congrArg w (funext fun a => match a with
      | ⟨0, _⟩ => rfl
      | ⟨1, _⟩ => Fin.ext (by first | rfl | exact Nat.add_comm _ _)))))

end Cert.Reference8Ideal.Read

namespace Cert.Kernel8Ideal.Gen

open Idealize.ShloMosaic hiding ix1 ix2 ix3 ix4 ix5
open Idealize.ShloMosaic.ValueIdx Cert.Products Cert.Kernel8Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S1376x1024 .bf16) (x1 : Vec Ideal S1024x1024 .bf16) (x2 : Vec Ideal S8x128 .f32) (i : Fin 1376) (j : Fin 1024) :
    (out0_3 x0 x1 x2 (ix2 i j) : EReal) = ∑ k : Fin 1024, (x0 (ix2 i k) * x1 (ix2 j k) : EReal) := by
  unfold out0_3
  rw [View.canon_cons_unit_lit _ _ _ (by decide), View.ld_unit_lit _ _ (by decide), View.ld_unit_lit _ _ (by decide)]
  unfold k0_pay1
  rw [shapeCast_self]
  exact nt (φ := .bf16) (ψ := .bf16) x0 x1 i j

/-- The host hands the kernel the matrix transposed. -/
theorem host_transpose (i : Fin 7184) (k : Fin 1024) : (V (F := Ideal) m c main_v0 (ix2 i k) : EReal) = m (c, main_arg1) (ix2 k i) := by
  unfold V
  simp only [List.flatten_cons, List.flatten_nil, List.cons_append, List.nil_append, List.append_nil, hostOps0,
    StableHlo.TRef.binary, StableHlo.TRef.nullary, StableHlo.TRef.unary, StableHlo.TRef.toBuf, StableHlo.TRef.ofBuf, cast_eq]
  after_results_simp
  exact transpose_apply [1, 0] (m (c, main_arg1)) _ (ix2 i k) (ix2 k i) (fun b => match b with
    | ⟨0, _⟩ => rfl
    | ⟨1, _⟩ => rfl)

/-- The index maps. -/
theorem idx : ∀ t : Fin cfg0.N, win0_0.index t = ![t.val / 2, 0] ∧ win0_1.index t = ![3088 + 1024 * (t.val % 2), 0]
    ∧ win0_3.index t = ![t.val / 2, t.val % 2] :=
  (by decide +kernel : ∀ t : Fin grid0.N, _)

section

variable (t : Fin cfg0.N)

theorem block0 (i : Fin 1376) (k : Fin 1024) (hi : 1376 * (t.val / 2) + i.val < 4128) :
    iblk m c 0 t (ix2 i k) = m (c, main_arg0) (ix2 ⟨1376 * (t.val / 2) + i.val, hi⟩ k) := by
  rw [show m (c, main_arg0) = V m c main_arg0 from (V_main_arg0 m c).symm]
  blk_ext [iblk, idx t] <;> dsimp [ix2, ix3] <;> omega

theorem block1 (j k : Fin 1024) (h : 3088 + (1024 * (t.val % 2) + j.val) < 7184) :
    (iblk m c 1 t (ix2 j k) : EReal) = m (c, main_arg1) (ix2 k ⟨3088 + (1024 * (t.val % 2) + j.val), h⟩) := by
  refine Eq.trans ?_ (host_transpose m c _ k)
  unfold iblk
  refine congrArg (V m c main_v0) (funext fun a => Fin.ext ?_)
  match a with
  | ⟨0, _⟩ =>
    refine (Pipeline.Window.rect_emb_val_off win0_1 t (ix2 j k) 0).trans ?_
    rw [(idx t).2.1]
    show 3088 + 1024 * (t.val % 2) + j.val = 3088 + (1024 * (t.val % 2) + j.val)
    omega
  | ⟨1, _⟩ =>
    refine (Pipeline.Window.rect_emb_val_off win0_1 t (ix2 j k) 1).trans ?_
    rw [(idx t).2.1]
    show 0 + k.val = k.val
    omega

/-- A step's block is the reference's. -/
theorem point (i : Fin 1376) (j : Fin 1024) (hi : 1376 * (t.val / 2) + i.val < 4128) (hj : 1024 * (t.val % 2) + j.val < 2048) :
    out0_3 (iblk m c 0 t) (iblk m c 1 t) (iblk m c 2 t) (ix2 i j)
      = Cert.Reference8Ideal.Read.val_main_v4 (F := Ideal) (m (c, main_arg0)) (m (c, main_arg1)) (ix2 ⟨_, hi⟩ ⟨_, hj⟩) := by
  refine (step _ _ _ i j).trans (Eq.trans ?_ (Cert.Reference8Ideal.Read.entry _ _ _ _ (by dsimp only; omega)).symm)
  exact Finset.sum_congr rfl fun k _ => congrArg₂ (fun a b : EReal => a * b) (block0 m c t i k hi) (block1 m c t j k _)

end

/-- The kernel's result is the reference's. -/
theorem array : (dats m 0 c).arrAt 3 (cfgs 0).N
    = Cert.Reference8Ideal.Read.val_main_v4 (F := Ideal) (m (c, main_arg0)) (m (c, main_arg1)) := by
  refine (dats m 0 c).arrAt_eq_of_covers 3 _ (by decide +kernel) fun t hf y => ?_
  have h0 : (y 0).val < 1376 := (y 0).isLt
  have h1 : (y 1).val < 1024 := (y 1).isLt
  have ht : t.val < 6 := lt_of_lt_of_eq t.isLt N_0
  have hi : 1376 * (t.val / 2) + (y 0).val < 4128 := by omega
  have hj : 1024 * (t.val % 2) + (y 1).val < 2048 := by omega
  have hy : (win0_3.blk t).view.emb y = ix2 ⟨1376 * (t.val / 2) + (y 0).val, hi⟩ ⟨1024 * (t.val % 2) + (y 1).val, hj⟩ := by
    blk_ext [idx t] <;> dsimp [ix2, ix3] <;> omega
  blk_simp
  rw [after0_3, hy]
  exact (congrArg _ (ValueIdx.eq_ix2 y)).trans (point m c t (y 0) (y 1) hi hj)

end Cert.Kernel8Ideal.Gen

end
-- ==== Proof.ProjGates.lean ====
/- The two output gates. Their rows through some columns of the input projection. -/
module

public import proofs.«01_k».proof.Proof.Gen.Kernel9Ideal.Value
public import proofs.«01_k».proof.Proof.Gen.Reference9Ideal.Read
public import proofs.«01_k».proof.Proof.Products
public import Idealize.ShloMosaic.Lib.Pipeline.ValueKit

@[expose] public section

noncomputable section

namespace Cert.Reference9Ideal.Read

open Idealize.ShloMosaic hiding ix1 ix2 ix3 ix4 ix5
open Idealize.ShloMosaic.ValueIdx Cert.Products Cert.Reference9Ideal

/-- The reference's rows at an entry. -/
theorem entry (x : (⟨S4128x1024, .bf16⟩ : BufTy).Contents (Elt Ideal)) (w : (⟨S1024x7184, .bf16⟩ : BufTy).Contents (Elt Ideal)) (i : Fin 4128) (j : Fin 2048) (h : 5136 + j.val < 7184) :
    (val_main_v4 (F := Ideal) x w (ix2 i j) : EReal) = ∑ k : Fin 1024, (x (ix2 i k) * w (ix2 k ⟨5136 + j.val, h⟩) : EReal) :=
  (val_main_v3_apply x w (ix2 i j)).trans (Finset.sum_congr rfl fun k _ => congrArg₂ (fun a b : EReal => a * b)
    (congrArg x (ValueIdx.eq_ix2 _))
    ((val_main_v2_apply (F := Ideal) w _).trans (congrArg w (funext fun a => match a with
      | ⟨0, _⟩ => rfl
      | ⟨1, _⟩ => Fin.ext (by first | rfl | exact Nat.add_comm _ _)))))

end Cert.Reference9Ideal.Read

namespace Cert.Kernel9Ideal.Gen

open Idealize.ShloMosaic hiding ix1 ix2 ix3 ix4 ix5
open Idealize.ShloMosaic.ValueIdx Cert.Products Cert.Kernel9Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S1376x1024 .bf16) (x1 : Vec Ideal S1024x1024 .bf16) (x2 : Vec Ideal S8x128 .f32) (i : Fin 1376) (j : Fin 1024) :
    (out0_3 x0 x1 x2 (ix2 i j) : EReal) = ∑ k : Fin 1024, (x0 (ix2 i k) * x1 (ix2 j k) : EReal) := by
  unfold out0_3
  rw [View.canon_cons_unit_lit _ _ _ (by decide), View.ld_unit_lit _ _ (by decide), View.ld_unit_lit _ _ (by decide)]
  unfold k0_pay1
  rw [shapeCast_self]
  exact nt (φ := .bf16) (ψ := .bf16) x0 x1 i j

/-- The host hands the kernel the matrix transposed. -/
theorem host_transpose (i : Fin 7184) (k : Fin 1024) : (V (F := Ideal) m c main_v0 (ix2 i k) : EReal) = m (c, main_arg1) (ix2 k i) := by
  unfold V
  simp only [List.flatten_cons, List.flatten_nil, List.cons_append, List.nil_append, List.append_nil, hostOps0,
    StableHlo.TRef.binary, StableHlo.TRef.nullary, StableHlo.TRef.unary, StableHlo.TRef.toBuf, StableHlo.TRef.ofBuf, cast_eq]
  after_results_simp
  exact transpose_apply [1, 0] (m (c, main_arg1)) _ (ix2 i k) (ix2 k i) (fun b => match b with
    | ⟨0, _⟩ => rfl
    | ⟨1, _⟩ => rfl)

/-- The index maps. -/
theorem idx : ∀ t : Fin cfg0.N, win0_0.index t = ![t.val / 2, 0] ∧ win0_1.index t = ![5136 + 1024 * (t.val % 2), 0]
    ∧ win0_3.index t = ![t.val / 2, t.val % 2] :=
  (by decide +kernel : ∀ t : Fin grid0.N, _)

section

variable (t : Fin cfg0.N)

theorem block0 (i : Fin 1376) (k : Fin 1024) (hi : 1376 * (t.val / 2) + i.val < 4128) :
    iblk m c 0 t (ix2 i k) = m (c, main_arg0) (ix2 ⟨1376 * (t.val / 2) + i.val, hi⟩ k) := by
  rw [show m (c, main_arg0) = V m c main_arg0 from (V_main_arg0 m c).symm]
  blk_ext [iblk, idx t] <;> dsimp [ix2, ix3] <;> omega

theorem block1 (j k : Fin 1024) (h : 5136 + (1024 * (t.val % 2) + j.val) < 7184) :
    (iblk m c 1 t (ix2 j k) : EReal) = m (c, main_arg1) (ix2 k ⟨5136 + (1024 * (t.val % 2) + j.val), h⟩) := by
  refine Eq.trans ?_ (host_transpose m c _ k)
  unfold iblk
  refine congrArg (V m c main_v0) (funext fun a => Fin.ext ?_)
  match a with
  | ⟨0, _⟩ =>
    refine (Pipeline.Window.rect_emb_val_off win0_1 t (ix2 j k) 0).trans ?_
    rw [(idx t).2.1]
    show 5136 + 1024 * (t.val % 2) + j.val = 5136 + (1024 * (t.val % 2) + j.val)
    omega
  | ⟨1, _⟩ =>
    refine (Pipeline.Window.rect_emb_val_off win0_1 t (ix2 j k) 1).trans ?_
    rw [(idx t).2.1]
    show 0 + k.val = k.val
    omega

/-- A step's block is the reference's. -/
theorem point (i : Fin 1376) (j : Fin 1024) (hi : 1376 * (t.val / 2) + i.val < 4128) (hj : 1024 * (t.val % 2) + j.val < 2048) :
    out0_3 (iblk m c 0 t) (iblk m c 1 t) (iblk m c 2 t) (ix2 i j)
      = Cert.Reference9Ideal.Read.val_main_v4 (F := Ideal) (m (c, main_arg0)) (m (c, main_arg1)) (ix2 ⟨_, hi⟩ ⟨_, hj⟩) := by
  refine (step _ _ _ i j).trans (Eq.trans ?_ (Cert.Reference9Ideal.Read.entry _ _ _ _ (by dsimp only; omega)).symm)
  exact Finset.sum_congr rfl fun k _ => congrArg₂ (fun a b : EReal => a * b) (block0 m c t i k hi) (block1 m c t j k _)

end

/-- The kernel's result is the reference's. -/
theorem array : (dats m 0 c).arrAt 3 (cfgs 0).N
    = Cert.Reference9Ideal.Read.val_main_v4 (F := Ideal) (m (c, main_arg0)) (m (c, main_arg1)) := by
  refine (dats m 0 c).arrAt_eq_of_covers 3 _ (by decide +kernel) fun t hf y => ?_
  have h0 : (y 0).val < 1376 := (y 0).isLt
  have h1 : (y 1).val < 1024 := (y 1).isLt
  have ht : t.val < 6 := lt_of_lt_of_eq t.isLt N_0
  have hi : 1376 * (t.val / 2) + (y 0).val < 4128 := by omega
  have hj : 1024 * (t.val % 2) + (y 1).val < 2048 := by omega
  have hy : (win0_3.blk t).view.emb y = ix2 ⟨1376 * (t.val / 2) + (y 0).val, hi⟩ ⟨1024 * (t.val % 2) + (y 1).val, hj⟩ := by
    blk_ext [idx t] <;> dsimp [ix2, ix3] <;> omega
  blk_simp
  rw [after0_3, hy]
  exact (congrArg _ (ValueIdx.eq_ix2 y)).trans (point m c t (y 0) (y 1) hi hj)

end Cert.Kernel9Ideal.Gen

end
-- ==== Proof.MixOut.lean ====
/- A mixer's rows through its square matrix. -/
module

public import proofs.«01_k».proof.Proof.Gen.Kernel10Ideal.Value
public import proofs.«01_k».proof.Proof.Gen.Reference10Ideal.Read
public import proofs.«01_k».proof.Proof.Products
public import Idealize.ShloMosaic.Lib.Pipeline.ValueKit

@[expose] public section

noncomputable section

namespace Cert.Reference10Ideal.Read

open Idealize.ShloMosaic hiding ix1 ix2 ix3 ix4 ix5
open Idealize.ShloMosaic.ValueIdx Cert.Products Cert.Reference10Ideal

/-- The reference's rows at an entry. -/
theorem entry (x : (⟨S4128x1024, .bf16⟩ : BufTy).Contents (Elt Ideal)) (w : (⟨S1024x1024, .bf16⟩ : BufTy).Contents (Elt Ideal)) (i : Fin 4128) (j : Fin 1024) :
    (val_main_v3 (F := Ideal) x w (ix2 i j) : EReal) = ∑ k : Fin 1024, (x (ix2 i k) * w (ix2 k j) : EReal) :=
  (val_main_v2_apply x w (ix2 i j)).trans (Finset.sum_congr rfl fun k _ =>
    congrArg₂ (fun a b => (x a * w b : EReal)) (ValueIdx.eq_ix2 _) (ValueIdx.eq_ix2 _))

end Cert.Reference10Ideal.Read

namespace Cert.Kernel10Ideal.Gen

open Idealize.ShloMosaic hiding ix1 ix2 ix3 ix4 ix5
open Idealize.ShloMosaic.ValueIdx Cert.Products Cert.Kernel10Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S1376x1024 .bf16) (x1 : Vec Ideal S1024x1024 .bf16) (i : Fin 1376) (j : Fin 1024) :
    (out0_2 x0 x1 (ix2 i j) : EReal) = ∑ k : Fin 1024, (x0 (ix2 i k) * x1 (ix2 k j) : EReal) := by
  unfold out0_2
  rw [View.canon_cons_unit_lit _ _ _ (by decide), View.ld_unit_lit _ _ (by decide), View.ld_unit_lit _ _ (by decide)]
  unfold k0_pay1
  exact nn (φ := .bf16) (ψ := .bf16) x0 x1 i j

/-- The index maps. -/
theorem idx : ∀ t : Fin cfg0.N, win0_0.index t = ![t.val, 0] ∧ win0_1.index t = ![0, 0] ∧ win0_2.index t = ![t.val, 0] :=
  (by decide +kernel : ∀ t : Fin grid0.N, _)

section

variable (t : Fin cfg0.N)

theorem block0 (i : Fin 1376) (k : Fin 1024) (hi : 1376 * t.val + i.val < 4128) :
    iblk m c 0 t (ix2 i k) = m (c, main_arg0) (ix2 ⟨1376 * t.val + i.val, hi⟩ k) := by
  rw [show m (c, main_arg0) = V m c main_arg0 from (V_main_arg0 m c).symm]
  blk_ext [iblk, idx t] <;> dsimp [ix2, ix3] <;> omega

theorem block1 (k : Fin 1024) (j : Fin 1024) :
    iblk m c 1 t (ix2 k j) = m (c, main_arg1) (ix2 k j) := by
  rw [show m (c, main_arg1) = V m c main_arg1 from (V_main_arg1 m c).symm]
  blk_ext [iblk, idx t] <;> dsimp [ix2, ix3] <;> omega

/-- A step's block is the reference's. -/
theorem point (i : Fin 1376) (j : Fin 1024) (hi : 1376 * t.val + i.val < 4128) :
    out0_2 (iblk m c 0 t) (iblk m c 1 t) (ix2 i j)
      = Cert.Reference10Ideal.Read.val_main_v3 (F := Ideal) (m (c, main_arg0)) (m (c, main_arg1)) (ix2 ⟨_, hi⟩ j) := by
  refine (step _ _ i j).trans (Eq.trans ?_ (Cert.Reference10Ideal.Read.entry _ _ _ _).symm)
  exact Finset.sum_congr rfl fun k _ => congrArg₂ (fun a b : EReal => a * b) (block0 m c t i k hi) (block1 m c t k j)

end

/-- The kernel's result is the reference's. -/
theorem array : (dats m 0 c).arrAt 2 (cfgs 0).N
    = Cert.Reference10Ideal.Read.val_main_v3 (F := Ideal) (m (c, main_arg0)) (m (c, main_arg1)) := by
  refine (dats m 0 c).arrAt_eq_of_covers 2 _ (by decide +kernel) fun t hf y => ?_
  have h0 : (y 0).val < 1376 := (y 0).isLt
  have h1 : (y 1).val < 1024 := (y 1).isLt
  have ht : t.val < 3 := lt_of_lt_of_eq t.isLt N_0
  have hi : 1376 * t.val + (y 0).val < 4128 := by omega
  have hy : (win0_2.blk t).view.emb y = ix2 ⟨1376 * t.val + (y 0).val, hi⟩ (y 1) := by
    blk_ext [idx t] <;> dsimp [ix2, ix3] <;> omega
  blk_simp
  rw [after0_2, hy]
  exact (congrArg _ (ValueIdx.eq_ix2 y)).trans (point m c t (y 0) (y 1) hi)

end Cert.Kernel10Ideal.Gen

end
-- ==== Proof.MixOutRows.lean ====
/- The gradient of a mixer's rows through its square matrix. -/
module

public import proofs.«01_k».proof.Proof.Gen.Kernel11Ideal.Value
public import proofs.«01_k».proof.Proof.Gen.Reference11Ideal.Read
public import proofs.«01_k».proof.Proof.Products
public import Idealize.ShloMosaic.Lib.Pipeline.ValueKit

@[expose] public section

noncomputable section

namespace Cert.Reference11Ideal.Read

open Idealize.ShloMosaic hiding ix1 ix2 ix3 ix4 ix5
open Idealize.ShloMosaic.ValueIdx Cert.Products Cert.Reference11Ideal

/-- The reference's gradient at an entry. -/
theorem entry (w : (⟨S1024x1024, .bf16⟩ : BufTy).Contents (Elt Ideal)) (dy : (⟨S4128x1024, .bf16⟩ : BufTy).Contents (Elt Ideal)) (i : Fin 4128) (j : Fin 1024) :
    (val_main_v5 (F := Ideal) w dy (ix2 i j) : EReal) = ∑ k : Fin 1024, (dy (ix2 i k) * w (ix2 j k) : EReal) :=
  (val_main_v4_apply w dy (ix2 i j)).trans (Finset.sum_congr rfl fun k _ =>
    congrArg₂ (fun a b => (dy a * w b : EReal)) (ValueIdx.eq_ix2 _) (ValueIdx.eq_ix2 _))

end Cert.Reference11Ideal.Read

namespace Cert.Kernel11Ideal.Gen

open Idealize.ShloMosaic hiding ix1 ix2 ix3 ix4 ix5
open Idealize.ShloMosaic.ValueIdx Cert.Products Cert.Kernel11Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S1376x1024 .bf16) (x1 : Vec Ideal S1024x1024 .bf16) (i : Fin 1376) (j : Fin 1024) :
    (out0_2 x0 x1 (ix2 i j) : EReal) = ∑ k : Fin 1024, (x0 (ix2 i k) * x1 (ix2 j k) : EReal) := by
  unfold out0_2
  rw [View.canon_cons_unit_lit _ _ _ (by decide), View.ld_unit_lit _ _ (by decide), View.ld_unit_lit _ _ (by decide)]
  unfold k0_pay1
  exact nt (φ := .bf16) (ψ := .bf16) x0 x1 i j

/-- The index maps. -/
theorem idx : ∀ t : Fin cfg0.N, win0_0.index t = ![t.val, 0] ∧ win0_1.index t = ![0, 0] ∧ win0_2.index t = ![t.val, 0] :=
  (by decide +kernel : ∀ t : Fin grid0.N, _)

section

variable (t : Fin cfg0.N)

theorem block0 (i : Fin 1376) (k : Fin 1024) (hi : 1376 * t.val + i.val < 4128) :
    iblk m c 0 t (ix2 i k) = m (c, main_arg1) (ix2 ⟨1376 * t.val + i.val, hi⟩ k) := by
  rw [show m (c, main_arg1) = V m c main_arg1 from (V_main_arg1 m c).symm]
  blk_ext [iblk, idx t] <;> dsimp [ix2, ix3] <;> omega

theorem block1 (j : Fin 1024) (k : Fin 1024) :
    iblk m c 1 t (ix2 j k) = m (c, main_arg0) (ix2 j k) := by
  rw [show m (c, main_arg0) = V m c main_arg0 from (V_main_arg0 m c).symm]
  blk_ext [iblk, idx t] <;> dsimp [ix2, ix3] <;> omega

/-- A step's block is the reference's. -/
theorem point (i : Fin 1376) (j : Fin 1024) (hi : 1376 * t.val + i.val < 4128) :
    out0_2 (iblk m c 0 t) (iblk m c 1 t) (ix2 i j)
      = Cert.Reference11Ideal.Read.val_main_v5 (F := Ideal) (m (c, main_arg0)) (m (c, main_arg1)) (ix2 ⟨_, hi⟩ j) := by
  refine (step _ _ i j).trans (Eq.trans ?_ (Cert.Reference11Ideal.Read.entry _ _ _ _).symm)
  exact Finset.sum_congr rfl fun k _ => congrArg₂ (fun a b : EReal => a * b) (block0 m c t i k hi) (block1 m c t j k)

end

/-- The kernel's result is the reference's. -/
theorem array : (dats m 0 c).arrAt 2 (cfgs 0).N
    = Cert.Reference11Ideal.Read.val_main_v5 (F := Ideal) (m (c, main_arg0)) (m (c, main_arg1)) := by
  refine (dats m 0 c).arrAt_eq_of_covers 2 _ (by decide +kernel) fun t hf y => ?_
  have h0 : (y 0).val < 1376 := (y 0).isLt
  have h1 : (y 1).val < 1024 := (y 1).isLt
  have ht : t.val < 3 := lt_of_lt_of_eq t.isLt N_0
  have hi : 1376 * t.val + (y 0).val < 4128 := by omega
  have hy : (win0_2.blk t).view.emb y = ix2 ⟨1376 * t.val + (y 0).val, hi⟩ (y 1) := by
    blk_ext [idx t] <;> dsimp [ix2, ix3] <;> omega
  blk_simp
  rw [after0_2, hy]
  exact (congrArg _ (ValueIdx.eq_ix2 y)).trans (point m c t (y 0) (y 1) hi)

end Cert.Kernel11Ideal.Gen

end
-- ==== Proof.MixOutWeights.lean ====
/- The gradient of a mixer's square matrix. -/
module

public import proofs.«01_k».proof.Proof.Gen.Kernel12Ideal.Value
public import proofs.«01_k».proof.Proof.Gen.Reference12Ideal.Read
public import proofs.«01_k».proof.Proof.Products
public import Idealize.ShloMosaic.Lib.Pipeline.ValueKit

@[expose] public section

noncomputable section

namespace Cert.Reference12Ideal.Read

open Idealize.ShloMosaic hiding ix1 ix2 ix3 ix4 ix5
open Idealize.ShloMosaic.ValueIdx Cert.Products Cert.Reference12Ideal

/-- The reference's gradient at an entry. -/
theorem entry (x dy : (⟨S4128x1024, .bf16⟩ : BufTy).Contents (Elt Ideal)) (i : Fin 1024) (j : Fin 1024) :
    (val_main_v6 (F := Ideal) x dy (ix2 i j) : EReal) = ∑ k : Fin 4128, (x (ix2 k i) * dy (ix2 k j) : EReal) := by
  rw [val_main_v6_apply, val_main_v5_apply]
  exact (val_main_v4_apply x dy _).trans (Finset.sum_congr rfl fun k _ => (mul_comm (G := EReal) _ _).trans
    (congrArg₂ (fun a b => (x a * dy b : EReal)) (ValueIdx.eq_ix2 _) (ValueIdx.eq_ix2 _)))

end Cert.Reference12Ideal.Read

namespace Cert.Kernel12Ideal.Gen

open Idealize.ShloMosaic hiding ix1 ix2 ix3 ix4 ix5
open Idealize.ShloMosaic.ValueIdx Cert.Products Cert.Kernel12Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S4128x1024 .bf16) (x1 : Vec Ideal S4128x512 .bf16) (i : Fin 1024) (j : Fin 512) :
    (out0_2 x0 x1 (ix2 i j) : EReal) = ∑ k : Fin 4128, (x0 (ix2 k i) * x1 (ix2 k j) : EReal) := by
  unfold out0_2
  rw [View.canon_cons_unit_lit _ _ _ (by decide), View.ld_unit_lit _ _ (by decide), View.ld_unit_lit _ _ (by decide)]
  unfold k0_pay1
  exact tn (φ := .bf16) (ψ := .bf16) x0 x1 i j

/-- The index maps. -/
theorem idx : ∀ t : Fin cfg0.N, win0_0.index t = ![0, 0] ∧ win0_1.index t = ![0, t.val] ∧ win0_2.index t = ![0, t.val] :=
  (by decide +kernel : ∀ t : Fin grid0.N, _)

section

variable (t : Fin cfg0.N)

theorem block0 (k : Fin 4128) (i : Fin 1024) :
    iblk m c 0 t (ix2 k i) = m (c, main_arg0) (ix2 k i) := by
  rw [show m (c, main_arg0) = V m c main_arg0 from (V_main_arg0 m c).symm]
  blk_ext [iblk, idx t] <;> dsimp [ix2, ix3] <;> omega

theorem block1 (k : Fin 4128) (j : Fin 512) (hj : 512 * t.val + j.val < 1024) :
    iblk m c 1 t (ix2 k j) = m (c, main_arg1) (ix2 k ⟨512 * t.val + j.val, hj⟩) := by
  rw [show m (c, main_arg1) = V m c main_arg1 from (V_main_arg1 m c).symm]
  blk_ext [iblk, idx t] <;> dsimp [ix2, ix3] <;> omega

/-- A step's block is the reference's. -/
theorem point (i : Fin 1024) (j : Fin 512) (hj : 512 * t.val + j.val < 1024) :
    out0_2 (iblk m c 0 t) (iblk m c 1 t) (ix2 i j)
      = Cert.Reference12Ideal.Read.val_main_v6 (F := Ideal) (m (c, main_arg0)) (m (c, main_arg1)) (ix2 i ⟨_, hj⟩) := by
  refine (step _ _ i j).trans (Eq.trans ?_ (Cert.Reference12Ideal.Read.entry _ _ _ _).symm)
  exact Finset.sum_congr rfl fun k _ => congrArg₂ (fun a b : EReal => a * b) (block0 m c t k i) (block1 m c t k j hj)

end

/-- The kernel's result is the reference's. -/
theorem array : (dats m 0 c).arrAt 2 (cfgs 0).N
    = Cert.Reference12Ideal.Read.val_main_v6 (F := Ideal) (m (c, main_arg0)) (m (c, main_arg1)) := by
  refine (dats m 0 c).arrAt_eq_of_covers 2 _ (by decide +kernel) fun t hf y => ?_
  have h0 : (y 0).val < 1024 := (y 0).isLt
  have h1 : (y 1).val < 512 := (y 1).isLt
  have ht : t.val < 2 := lt_of_lt_of_eq t.isLt N_0
  have hj : 512 * t.val + (y 1).val < 1024 := by omega
  have hy : (win0_2.blk t).view.emb y = ix2 (y 0) ⟨512 * t.val + (y 1).val, hj⟩ := by
    blk_ext [idx t] <;> dsimp [ix2, ix3] <;> omega
  blk_simp
  rw [after0_2, hy]
  exact (congrArg _ (ValueIdx.eq_ix2 y)).trans (point m c t (y 0) (y 1) hj)

end Cert.Kernel12Ideal.Gen

end
-- ==== Proof.ProjIn.lean ====
/- The gradient of the rows through the input projection: the gradients of its eight groups of columns, each through its columns of the matrix. -/
module

public import proofs.«01_k».proof.Proof.Gen.Kernel13Ideal.Value
public import proofs.«01_k».proof.Proof.Gen.Reference13Ideal.Read
public import proofs.«01_k».proof.Proof.Products
public import Idealize.ShloMosaic.Lib.Pipeline.ValueKit
public import Idealize.ShloMosaic.Lib.KernelVsHost

@[expose] public section

noncomputable section

namespace Cert.Reference13Ideal.Read

open Idealize.ShloMosaic hiding ix1 ix2 ix3 ix4 ix5
open Idealize.ShloMosaic.ValueIdx Cert.Products Cert.Reference13Ideal

/-- A sum of products over 128 columns, the first factor zero from the 17th on. -/
theorem padded (f g : Fin 128 → EReal) (f' g' : Fin 16 → EReal) (hf : ∀ k : Fin 16, f ⟨k.val, by omega⟩ = f' k)
    (hg : ∀ k : Fin 16, g ⟨k.val, by omega⟩ = g' k) (h0 : ∀ k : Fin 112, f ⟨16 + k.val, by omega⟩ = 0) :
    ∑ k, f k * g k = ∑ k, f' k * g' k := by
  rw [sum_cut 16 112 128 rfl, Finset.sum_eq_zero (f := fun k : Fin 112 => f ⟨16 + k.val, _⟩ * g ⟨16 + k.val, _⟩) fun k _ => by rw [h0 k, zero_mul],
    add_zero]
  exact Finset.sum_congr rfl fun k _ => by rw [hf k, hg k]

variable (w : (⟨S1024x7184, .bf16⟩ : BufTy).Contents (Elt Ideal)) (dq dk dv : (⟨S4128x1024, .bf16⟩ : BufTy).Contents (Elt Ideal))
    (df : (⟨S4128x16, .bf16⟩ : BufTy).Contents (Elt Ideal)) (da dg dga dgc : (⟨S4128x1024, .bf16⟩ : BufTy).Contents (Elt Ideal))

section

variable (i : Fin 4128)

/-- All the columns side by side, at those of the queries. -/
theorem cols_dq (k : Fin 1024) : val_main_v19 (F := Ideal) dq dk dv df da dg dga dgc (ix2 i ⟨k.val, by omega⟩) = val_main_v1 (F := Ideal) dq (ix2 i k) := by
  unfold val_main_v19
  exact concatenate_apply_piece 1 ([⟨S4128x1024, val_main_v1 (F := Ideal) dq⟩, ⟨S4128x1024, val_main_v2 (F := Ideal) dk⟩, ⟨S4128x1024, val_main_v3 (F := Ideal) dv⟩, ⟨S4128x16, val_main_v4 (F := Ideal) df⟩, ⟨S4128x2048, val_main_v9 (F := Ideal) da dg⟩, ⟨S4128x1024, val_main_v7 (F := Ideal) dga⟩, ⟨S4128x1024, val_main_v8 (F := Ideal) dgc⟩] :
      List ((s : Shape) × (s.Idx → EReal)))
    (by decide : Shape.Concatenates [S4128x1024, S4128x1024, S4128x1024, S4128x16, S4128x2048, S4128x1024, S4128x1024] S4128x7184 1)
    (ix2 i (⟨k.val, by omega⟩ : Fin 7184)) 0 (show 0 < 7 by omega) _ (val_main_v1 (F := Ideal) dq) rfl rfl 0 rfl (ix2 i k)
    (fun b hb => by
      match b with
      | ⟨0, _⟩ => rfl
      | ⟨1, _⟩ => exact absurd rfl hb) (Nat.zero_add _)

/-- All the columns side by side, at those of the keys. -/
theorem cols_dk (k : Fin 1024) : val_main_v19 (F := Ideal) dq dk dv df da dg dga dgc (ix2 i ⟨1024 + k.val, by omega⟩) = val_main_v2 (F := Ideal) dk (ix2 i k) := by
  unfold val_main_v19
  exact concatenate_apply_piece 1 ([⟨S4128x1024, val_main_v1 (F := Ideal) dq⟩, ⟨S4128x1024, val_main_v2 (F := Ideal) dk⟩, ⟨S4128x1024, val_main_v3 (F := Ideal) dv⟩, ⟨S4128x16, val_main_v4 (F := Ideal) df⟩, ⟨S4128x2048, val_main_v9 (F := Ideal) da dg⟩, ⟨S4128x1024, val_main_v7 (F := Ideal) dga⟩, ⟨S4128x1024, val_main_v8 (F := Ideal) dgc⟩] :
      List ((s : Shape) × (s.Idx → EReal)))
    (by decide : Shape.Concatenates [S4128x1024, S4128x1024, S4128x1024, S4128x16, S4128x2048, S4128x1024, S4128x1024] S4128x7184 1)
    (ix2 i (⟨1024 + k.val, by omega⟩ : Fin 7184)) 1 (show 1 < 7 by omega) _ (val_main_v2 (F := Ideal) dk) rfl rfl 1024 rfl (ix2 i k)
    (fun b hb => by
      match b with
      | ⟨0, _⟩ => rfl
      | ⟨1, _⟩ => exact absurd rfl hb) rfl

/-- All the columns side by side, at those of the values. -/
theorem cols_dv (k : Fin 1024) : val_main_v19 (F := Ideal) dq dk dv df da dg dga dgc (ix2 i ⟨2048 + k.val, by omega⟩) = val_main_v3 (F := Ideal) dv (ix2 i k) := by
  unfold val_main_v19
  exact concatenate_apply_piece 1 ([⟨S4128x1024, val_main_v1 (F := Ideal) dq⟩, ⟨S4128x1024, val_main_v2 (F := Ideal) dk⟩, ⟨S4128x1024, val_main_v3 (F := Ideal) dv⟩, ⟨S4128x16, val_main_v4 (F := Ideal) df⟩, ⟨S4128x2048, val_main_v9 (F := Ideal) da dg⟩, ⟨S4128x1024, val_main_v7 (F := Ideal) dga⟩, ⟨S4128x1024, val_main_v8 (F := Ideal) dgc⟩] :
      List ((s : Shape) × (s.Idx → EReal)))
    (by decide : Shape.Concatenates [S4128x1024, S4128x1024, S4128x1024, S4128x16, S4128x2048, S4128x1024, S4128x1024] S4128x7184 1)
    (ix2 i (⟨2048 + k.val, by omega⟩ : Fin 7184)) 2 (show 2 < 7 by omega) _ (val_main_v3 (F := Ideal) dv) rfl rfl 2048 rfl (ix2 i k)
    (fun b hb => by
      match b with
      | ⟨0, _⟩ => rfl
      | ⟨1, _⟩ => exact absurd rfl hb) rfl

/-- All the columns side by side, at those of the forget gates. -/
theorem cols_df (k : Fin 16) : val_main_v19 (F := Ideal) dq dk dv df da dg dga dgc (ix2 i ⟨3072 + k.val, by omega⟩) = val_main_v4 (F := Ideal) df (ix2 i k) := by
  unfold val_main_v19
  exact concatenate_apply_piece 1 ([⟨S4128x1024, val_main_v1 (F := Ideal) dq⟩, ⟨S4128x1024, val_main_v2 (F := Ideal) dk⟩, ⟨S4128x1024, val_main_v3 (F := Ideal) dv⟩, ⟨S4128x16, val_main_v4 (F := Ideal) df⟩, ⟨S4128x2048, val_main_v9 (F := Ideal) da dg⟩, ⟨S4128x1024, val_main_v7 (F := Ideal) dga⟩, ⟨S4128x1024, val_main_v8 (F := Ideal) dgc⟩] :
      List ((s : Shape) × (s.Idx → EReal)))
    (by decide : Shape.Concatenates [S4128x1024, S4128x1024, S4128x1024, S4128x16, S4128x2048, S4128x1024, S4128x1024] S4128x7184 1)
    (ix2 i (⟨3072 + k.val, by omega⟩ : Fin 7184)) 3 (show 3 < 7 by omega) _ (val_main_v4 (F := Ideal) df) rfl rfl 3072 rfl (ix2 i k)
    (fun b hb => by
      match b with
      | ⟨0, _⟩ => rfl
      | ⟨1, _⟩ => exact absurd rfl hb) rfl

/-- All the columns side by side, at those of the gated linear unit. -/
theorem cols_glu (k : Fin 2048) : val_main_v19 (F := Ideal) dq dk dv df da dg dga dgc (ix2 i ⟨3088 + k.val, by omega⟩) = val_main_v9 (F := Ideal) da dg (ix2 i k) := by
  unfold val_main_v19
  exact concatenate_apply_piece 1 ([⟨S4128x1024, val_main_v1 (F := Ideal) dq⟩, ⟨S4128x1024, val_main_v2 (F := Ideal) dk⟩, ⟨S4128x1024, val_main_v3 (F := Ideal) dv⟩, ⟨S4128x16, val_main_v4 (F := Ideal) df⟩, ⟨S4128x2048, val_main_v9 (F := Ideal) da dg⟩, ⟨S4128x1024, val_main_v7 (F := Ideal) dga⟩, ⟨S4128x1024, val_main_v8 (F := Ideal) dgc⟩] :
      List ((s : Shape) × (s.Idx → EReal)))
    (by decide : Shape.Concatenates [S4128x1024, S4128x1024, S4128x1024, S4128x16, S4128x2048, S4128x1024, S4128x1024] S4128x7184 1)
    (ix2 i (⟨3088 + k.val, by omega⟩ : Fin 7184)) 4 (show 4 < 7 by omega) _ (val_main_v9 (F := Ideal) da dg) rfl rfl 3088 rfl (ix2 i k)
    (fun b hb => by
      match b with
      | ⟨0, _⟩ => rfl
      | ⟨1, _⟩ => exact absurd rfl hb) rfl

set_option maxRecDepth 16000 in
/-- All the columns side by side, at those of the attention's output gate. -/
theorem cols_dga (k : Fin 1024) : val_main_v19 (F := Ideal) dq dk dv df da dg dga dgc (ix2 i ⟨5136 + k.val, by omega⟩) = val_main_v7 (F := Ideal) dga (ix2 i k) := by
  unfold val_main_v19
  exact concatenate_apply_piece 1 ([⟨S4128x1024, val_main_v1 (F := Ideal) dq⟩, ⟨S4128x1024, val_main_v2 (F := Ideal) dk⟩, ⟨S4128x1024, val_main_v3 (F := Ideal) dv⟩, ⟨S4128x16, val_main_v4 (F := Ideal) df⟩, ⟨S4128x2048, val_main_v9 (F := Ideal) da dg⟩, ⟨S4128x1024, val_main_v7 (F := Ideal) dga⟩, ⟨S4128x1024, val_main_v8 (F := Ideal) dgc⟩] :
      List ((s : Shape) × (s.Idx → EReal)))
    (by decide : Shape.Concatenates [S4128x1024, S4128x1024, S4128x1024, S4128x16, S4128x2048, S4128x1024, S4128x1024] S4128x7184 1)
    (ix2 i (⟨5136 + k.val, by omega⟩ : Fin 7184)) 5 (show 5 < 7 by omega) _ (val_main_v7 (F := Ideal) dga) rfl rfl 5136 rfl (ix2 i k)
    (fun b hb => by
      match b with
      | ⟨0, _⟩ => rfl
      | ⟨1, _⟩ => exact absurd rfl hb) rfl

set_option maxRecDepth 16000 in
/-- All the columns side by side, at those of the convolution's output gate. -/
theorem cols_dgc (k : Fin 1024) : val_main_v19 (F := Ideal) dq dk dv df da dg dga dgc (ix2 i ⟨6160 + k.val, by omega⟩) = val_main_v8 (F := Ideal) dgc (ix2 i k) := by
  unfold val_main_v19
  exact concatenate_apply_piece 1 ([⟨S4128x1024, val_main_v1 (F := Ideal) dq⟩, ⟨S4128x1024, val_main_v2 (F := Ideal) dk⟩, ⟨S4128x1024, val_main_v3 (F := Ideal) dv⟩, ⟨S4128x16, val_main_v4 (F := Ideal) df⟩, ⟨S4128x2048, val_main_v9 (F := Ideal) da dg⟩, ⟨S4128x1024, val_main_v7 (F := Ideal) dga⟩, ⟨S4128x1024, val_main_v8 (F := Ideal) dgc⟩] :
      List ((s : Shape) × (s.Idx → EReal)))
    (by decide : Shape.Concatenates [S4128x1024, S4128x1024, S4128x1024, S4128x16, S4128x2048, S4128x1024, S4128x1024] S4128x7184 1)
    (ix2 i (⟨6160 + k.val, by omega⟩ : Fin 7184)) 6 (show 6 < 7 by omega) _ (val_main_v8 (F := Ideal) dgc) rfl rfl 6160 rfl (ix2 i k)
    (fun b hb => by
      match b with
      | ⟨0, _⟩ => rfl
      | ⟨1, _⟩ => exact absurd rfl hb) rfl

/-- The first half of the gated linear unit's columns. -/
theorem cols_da (k : Fin 1024) : val_main_v19 (F := Ideal) dq dk dv df da dg dga dgc (ix2 i ⟨3088 + k.val, by omega⟩) = val_main_v5 (F := Ideal) da (ix2 i k) := by
  refine (congrArg _ (congrArg (ix2 i) (Fin.ext rfl))).trans ((cols_glu dq dk dv df da dg dga dgc i ⟨k.val, by omega⟩).trans ?_)
  unfold val_main_v9
  exact concatenate_apply_piece 1 ([⟨S4128x1024, val_main_v5 (F := Ideal) da⟩, ⟨S4128x1024, val_main_v6 (F := Ideal) dg⟩] : List ((s : Shape) × (s.Idx → EReal)))
    (by decide : Shape.Concatenates [S4128x1024, S4128x1024] S4128x2048 1)
    (ix2 i (⟨k.val, by omega⟩ : Fin 2048)) 0 (show 0 < 2 by omega) _ (val_main_v5 (F := Ideal) da) rfl rfl 0 rfl (ix2 i k)
    (fun b hb => by
      match b with
      | ⟨0, _⟩ => rfl
      | ⟨1, _⟩ => exact absurd rfl hb) (Nat.zero_add _)

/-- The second half of the gated linear unit's columns. -/
theorem cols_dg (k : Fin 1024) : val_main_v19 (F := Ideal) dq dk dv df da dg dga dgc (ix2 i ⟨4112 + k.val, by omega⟩) = val_main_v6 (F := Ideal) dg (ix2 i k) := by
  refine (congrArg _ (congrArg (ix2 i) (Fin.ext (Nat.add_assoc 3088 1024 k.val)))).trans ((cols_glu dq dk dv df da dg dga dgc i ⟨1024 + k.val, by omega⟩).trans ?_)
  unfold val_main_v9
  exact concatenate_apply_piece 1 ([⟨S4128x1024, val_main_v5 (F := Ideal) da⟩, ⟨S4128x1024, val_main_v6 (F := Ideal) dg⟩] : List ((s : Shape) × (s.Idx → EReal)))
    (by decide : Shape.Concatenates [S4128x1024, S4128x1024] S4128x2048 1)
    (ix2 i (⟨1024 + k.val, by omega⟩ : Fin 2048)) 1 (show 1 < 2 by omega) _ (val_main_v6 (F := Ideal) dg) rfl rfl 1024 rfl (ix2 i k)
    (fun b hb => by
      match b with
      | ⟨0, _⟩ => rfl
      | ⟨1, _⟩ => exact absurd rfl hb) rfl

end

/-- The reference's gradient at an entry, input by input. -/
theorem entry (i : Fin 4128) (j : Fin 1024) : (val_main_v21 (F := Ideal) w dq dk dv df da dg dga dgc (ix2 i j) : EReal)
      = (((((((∑ k : Fin 1024, (dq (ix2 i k) * w (ix2 j ⟨k.val, by omega⟩) : EReal)) + (∑ k : Fin 1024, (dk (ix2 i k) * w (ix2 j ⟨1024 + k.val, by omega⟩) : EReal))) + (∑ k : Fin 1024, (dv (ix2 i k) * w (ix2 j ⟨2048 + k.val, by omega⟩) : EReal))) + (∑ k : Fin 1024, (da (ix2 i k) * w (ix2 j ⟨3088 + k.val, by omega⟩) : EReal))) + (∑ k : Fin 1024, (dg (ix2 i k) * w (ix2 j ⟨4112 + k.val, by omega⟩) : EReal))) + (∑ k : Fin 1024, (dga (ix2 i k) * w (ix2 j ⟨5136 + k.val, by omega⟩) : EReal))) + (∑ k : Fin 1024, (dgc (ix2 i k) * w (ix2 j ⟨6160 + k.val, by omega⟩) : EReal))) + (∑ k : Fin 16, (df (ix2 i k) * w (ix2 j ⟨3072 + k.val, by omega⟩) : EReal)) := by
  refine (val_main_v20_apply w dq dk dv df da dg dga dgc (ix2 i j)).trans ?_
  have hs (k : Fin 7184) : (val_main_v19 (F := Ideal) dq dk dv df da dg dga dgc (lidx_main_v20 (ix2 i j) k) * val_main_v0 (F := Ideal) w (ridx_main_v20 (ix2 i j) k) : EReal)
      = val_main_v19 (F := Ideal) dq dk dv df da dg dga dgc (ix2 i k) * w (ix2 j k) :=
    congrArg₂ (fun a b : EReal => a * b) (congrArg _ (ValueIdx.eq_ix2 _)) (congrArg w (ValueIdx.eq_ix2 _))
  rw [Finset.sum_congr rfl fun k _ => hs k]
  rw [sum_cut 6160 1024 7184 rfl, sum_cut 5136 1024 6160 rfl, sum_cut 4112 1024 5136 rfl, sum_cut 3088 1024 4112 rfl,
    sum_cut 3072 16 3088 rfl, sum_cut 2048 1024 3072 rfl, sum_cut 1024 1024 2048 rfl]
  have e {a b c d e f g h : EReal} : ((((((a + b) + c) + h) + d) + e) + f) + g = ((((((a + b) + c) + d) + e) + f) + g) + h := by
    abel
  refine Eq.trans ?_ e
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (Finset.sum_congr rfl fun k _ => congrArg (fun a : EReal => a * w (ix2 j ⟨k.val, by omega⟩)) (cols_dq dq dk dv df da dg dga dgc i k)) (Finset.sum_congr rfl fun k _ => congrArg (fun a : EReal => a * w (ix2 j ⟨1024 + k.val, by omega⟩)) (cols_dk dq dk dv df da dg dga dgc i k))) (Finset.sum_congr rfl fun k _ => congrArg (fun a : EReal => a * w (ix2 j ⟨2048 + k.val, by omega⟩)) (cols_dv dq dk dv df da dg dga dgc i k))) (Finset.sum_congr rfl fun k _ => congrArg (fun a : EReal => a * w (ix2 j ⟨3072 + k.val, by omega⟩)) (cols_df dq dk dv df da dg dga dgc i k))) (Finset.sum_congr rfl fun k _ => congrArg (fun a : EReal => a * w (ix2 j ⟨3088 + k.val, by omega⟩)) (cols_da dq dk dv df da dg dga dgc i k))) (Finset.sum_congr rfl fun k _ => congrArg (fun a : EReal => a * w (ix2 j ⟨4112 + k.val, by omega⟩)) (cols_dg dq dk dv df da dg dga dgc i k))) (Finset.sum_congr rfl fun k _ => congrArg (fun a : EReal => a * w (ix2 j ⟨5136 + k.val, by omega⟩)) (cols_dga dq dk dv df da dg dga dgc i k))) (Finset.sum_congr rfl fun k _ => congrArg (fun a : EReal => a * w (ix2 j ⟨6160 + k.val, by omega⟩)) (cols_dgc dq dk dv df da dg dga dgc i k)))

end Cert.Reference13Ideal.Read

namespace Cert.Kernel13Ideal.Gen

open Idealize.ShloMosaic hiding ix1 ix2 ix3 ix4 ix5
open Idealize.ShloMosaic.ValueIdx Cert.Products Cert.Kernel13Ideal
open Idealize.ShloMosaic.TcCoe Idealize.SL.Sem
open Idealize.ShloMosaic.Pipeline (Dat)

variable (m : (ℓ : Loc nD τ sig) → Buf (Elt Ideal) ℓ) (c : Dev nD)

/-- What a step leaves at an entry of its block. -/
theorem step (x0 : Vec Ideal S688x1024 .bf16) (x1 : Vec Ideal S1024x512 .bf16) (x2 : Vec Ideal S688x1024 .bf16) (x3 : Vec Ideal S1024x512 .bf16) (x4 : Vec Ideal S688x1024 .bf16) (x5 : Vec Ideal S1024x512 .bf16) (x6 : Vec Ideal S688x1024 .bf16) (x7 : Vec Ideal S1024x512 .bf16) (x8 : Vec Ideal S688x1024 .bf16) (x9 : Vec Ideal S1024x512 .bf16) (x10 : Vec Ideal S688x1024 .bf16) (x11 : Vec Ideal S1024x512 .bf16) (x12 : Vec Ideal S688x1024 .bf16) (x13 : Vec Ideal S1024x512 .bf16) (x14 : Vec Ideal S688x128 .bf16) (x15 : Vec Ideal S128x512 .bf16) (x16 : Vec Ideal S8x128 .f32)
    (i : Fin 688) (j : Fin 512) : (out0_17 x0 x1 x2 x3 x4 x5 x6 x7 x8 x9 x10 x11 x12 x13 x14 x15 x16 (ix2 i j) : EReal)
      = (((((((∑ k : Fin 1024, (x0 (ix2 i k) * x1 (ix2 k j) : EReal)) + (∑ k : Fin 1024, (x2 (ix2 i k) * x3 (ix2 k j) : EReal))) + (∑ k : Fin 1024, (x4 (ix2 i k) * x5 (ix2 k j) : EReal))) + (∑ k : Fin 1024, (x6 (ix2 i k) * x7 (ix2 k j) : EReal))) + (∑ k : Fin 1024, (x8 (ix2 i k) * x9 (ix2 k j) : EReal))) + (∑ k : Fin 1024, (x10 (ix2 i k) * x11 (ix2 k j) : EReal))) + (∑ k : Fin 1024, (x12 (ix2 i k) * x13 (ix2 k j) : EReal))) + (∑ k : Fin 128, (x14 (ix2 i k) * x15 (ix2 k j) : EReal)) := by
  unfold out0_17
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  unfold k0_pay1 k0_pay2 k0_pay3
  simp only [shapeCast_self]
  have p (x : Vec Ideal S688x1024 .bf16) (w : Vec Ideal S1024x512 .bf16) :
      (matmul dot_S688x1024_S1024x512_S688x512_1_0_0_1_n_n none x (w : FVec Ideal S1024x512 .bf16)
        (constant (F := Ideal) S688x512 .f32 0x00000000#32) (ix2 i j) : EReal) = ∑ k : Fin 1024, (x (ix2 i k) * w (ix2 k j) : EReal) :=
    nn (φ := .bf16) (ψ := .bf16) x w i j
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (p x0 x1) (p x2 x3)) (p x4 x5)) (p x6 x7)) (p x8 x9)) (p x10 x11)) (p x12 x13)) (nn (φ := .bf16) (ψ := .bf16) x14 x15 i j))

/-- The host hands the kernel the matrix transposed. -/
theorem host_transpose (i : Fin 7184) (k : Fin 1024) : (V (F := Ideal) m c main_v0 (ix2 i k) : EReal) = m (c, main_arg0) (ix2 k i) := by
  unfold V
  simp only [List.flatten_cons, List.flatten_nil, List.cons_append, List.nil_append, List.append_nil, hostOps0, hostOps0_1, hostOps0_2,
    StableHlo.TRef.binary, StableHlo.TRef.nullary, StableHlo.TRef.unary, StableHlo.TRef.toBuf, StableHlo.TRef.ofBuf, cast_eq]
  after_results_simp
  exact transpose_apply [1, 0] (m (c, main_arg0)) _ (ix2 i k) (ix2 k i) (fun b => match b with
    | ⟨0, _⟩ => rfl
    | ⟨1, _⟩ => rfl)

/-- The host hands the kernel the forget gates' gradient in the first 16 of 128 columns, -/
theorem host_pad_inside (i : Fin 4128) (k : Fin 16) : (V (F := Ideal) m c main_v1 (ix2 i ⟨k.val, by omega⟩) : EReal) = m (c, main_arg4) (ix2 i k) := by
  unfold V
  simp only [List.flatten_cons, List.flatten_nil, List.cons_append, List.nil_append, List.append_nil, hostOps0, hostOps0_1, hostOps0_2,
    StableHlo.TRef.binary, StableHlo.TRef.nullary, StableHlo.TRef.unary, StableHlo.TRef.toBuf, StableHlo.TRef.ofBuf, cast_eq]
  after_results_simp
  exact pad_apply_of_inside _ _ _ _ _ _ _ _ (ix2 i k) (fun a => match a with
    | ⟨0, _⟩ => by dsimp [ix2]; omega
    | ⟨1, _⟩ => by dsimp [ix2]; omega)

/-- and zeros beside them. -/
theorem host_pad_beside (i : Fin 4128) (k : Fin 112) : (V (F := Ideal) m c main_v1 (ix2 i ⟨16 + k.val, by omega⟩) : EReal) = (0 : EReal) := by
  unfold V
  simp only [List.flatten_cons, List.flatten_nil, List.cons_append, List.nil_append, List.append_nil, hostOps0, hostOps0_1, hostOps0_2,
    StableHlo.TRef.binary, StableHlo.TRef.nullary, StableHlo.TRef.unary, StableHlo.TRef.toBuf, StableHlo.TRef.ofBuf, cast_eq]
  after_results_simp
  refine (pad_apply_of_not_inside _ _ _ _ _ _ _ _ (1 : Fin 2) ?_).trans ?_
  · dsimp [ix2]
    omega
  · exact sitofp_zero (φ := .bf16)

theorem idx1 : ∀ t : Fin cfg0.N, win0_1.index t = ![0, 512 * (t.val % 2)] :=
  (by decide +kernel : ∀ t : Fin grid0.N, _)

theorem idx3 : ∀ t : Fin cfg0.N, win0_3.index t = ![1024, 512 * (t.val % 2)] :=
  (by decide +kernel : ∀ t : Fin grid0.N, _)

theorem idx5 : ∀ t : Fin cfg0.N, win0_5.index t = ![2048, 512 * (t.val % 2)] :=
  (by decide +kernel : ∀ t : Fin grid0.N, _)

theorem idx7 : ∀ t : Fin cfg0.N, win0_7.index t = ![3088, 512 * (t.val % 2)] :=
  (by decide +kernel : ∀ t : Fin grid0.N, _)

theorem idx9 : ∀ t : Fin cfg0.N, win0_9.index t = ![4112, 512 * (t.val % 2)] :=
  (by decide +kernel : ∀ t : Fin grid0.N, _)

theorem idx11 : ∀ t : Fin cfg0.N, win0_11.index t = ![5136, 512 * (t.val % 2)] :=
  (by decide +kernel : ∀ t : Fin grid0.N, _)

theorem idx13 : ∀ t : Fin cfg0.N, win0_13.index t = ![6160, 512 * (t.val % 2)] :=
  (by decide +kernel : ∀ t : Fin grid0.N, _)

theorem idx15 : ∀ t : Fin cfg0.N, win0_15.index t = ![3072, 512 * (t.val % 2)] :=
  (by decide +kernel : ∀ t : Fin grid0.N, _)

/-- The index maps. -/
theorem idx : ∀ t : Fin cfg0.N, (win0_0.index t = ![t.val / 2, 0] ∧ win0_2.index t = ![t.val / 2, 0] ∧ win0_4.index t = ![t.val / 2, 0] ∧ win0_6.index t = ![t.val / 2, 0] ∧ win0_8.index t = ![t.val / 2, 0] ∧ win0_10.index t = ![t.val / 2, 0] ∧ win0_12.index t = ![t.val / 2, 0] ∧ win0_14.index t = ![t.val / 2, 0])
    ∧ win0_17.index t = ![t.val / 2, t.val % 2] :=
  (by decide +kernel : ∀ t : Fin grid0.N, _)

section

variable (t : Fin cfg0.N)

theorem rows0 (i : Fin 688) (k : Fin 1024) (hi : 688 * (t.val / 2) + i.val < 4128) :
    iblk m c 0 t (ix2 i k) = m (c, main_arg1) (ix2 ⟨688 * (t.val / 2) + i.val, hi⟩ k) := by
  rw [show m (c, main_arg1) = V m c main_arg1 from (V_main_arg1 m c).symm]
  blk_ext [iblk, idx t] <;> dsimp [ix2] <;> omega

theorem rows1 (i : Fin 688) (k : Fin 1024) (hi : 688 * (t.val / 2) + i.val < 4128) :
    iblk m c 2 t (ix2 i k) = m (c, main_arg2) (ix2 ⟨688 * (t.val / 2) + i.val, hi⟩ k) := by
  rw [show m (c, main_arg2) = V m c main_arg2 from (V_main_arg2 m c).symm]
  blk_ext [iblk, idx t] <;> dsimp [ix2] <;> omega

theorem rows2 (i : Fin 688) (k : Fin 1024) (hi : 688 * (t.val / 2) + i.val < 4128) :
    iblk m c 4 t (ix2 i k) = m (c, main_arg3) (ix2 ⟨688 * (t.val / 2) + i.val, hi⟩ k) := by
  rw [show m (c, main_arg3) = V m c main_arg3 from (V_main_arg3 m c).symm]
  blk_ext [iblk, idx t] <;> dsimp [ix2] <;> omega

theorem rows3 (i : Fin 688) (k : Fin 1024) (hi : 688 * (t.val / 2) + i.val < 4128) :
    iblk m c 6 t (ix2 i k) = m (c, main_arg5) (ix2 ⟨688 * (t.val / 2) + i.val, hi⟩ k) := by
  rw [show m (c, main_arg5) = V m c main_arg5 from (V_main_arg5 m c).symm]
  blk_ext [iblk, idx t] <;> dsimp [ix2] <;> omega

theorem rows4 (i : Fin 688) (k : Fin 1024) (hi : 688 * (t.val / 2) + i.val < 4128) :
    iblk m c 8 t (ix2 i k) = m (c, main_arg6) (ix2 ⟨688 * (t.val / 2) + i.val, hi⟩ k) := by
  rw [show m (c, main_arg6) = V m c main_arg6 from (V_main_arg6 m c).symm]
  blk_ext [iblk, idx t] <;> dsimp [ix2] <;> omega

theorem rows5 (i : Fin 688) (k : Fin 1024) (hi : 688 * (t.val / 2) + i.val < 4128) :
    iblk m c 10 t (ix2 i k) = m (c, main_arg7) (ix2 ⟨688 * (t.val / 2) + i.val, hi⟩ k) := by
  rw [show m (c, main_arg7) = V m c main_arg7 from (V_main_arg7 m c).symm]
  blk_ext [iblk, idx t] <;> dsimp [ix2] <;> omega

theorem rows6 (i : Fin 688) (k : Fin 1024) (hi : 688 * (t.val / 2) + i.val < 4128) :
    iblk m c 12 t (ix2 i k) = m (c, main_arg8) (ix2 ⟨688 * (t.val / 2) + i.val, hi⟩ k) := by
  rw [show m (c, main_arg8) = V m c main_arg8 from (V_main_arg8 m c).symm]
  blk_ext [iblk, idx t] <;> dsimp [ix2] <;> omega

theorem weights0 (k : Fin 1024) (j : Fin 512) (hj : 512 * (t.val % 2) + j.val < 1024) :
    (iblk m c 1 t (ix2 k j) : EReal) = m (c, main_arg0) (ix2 ⟨512 * (t.val % 2) + j.val, hj⟩ ⟨k.val, by omega⟩) := by
  refine Eq.trans ?_ (host_transpose m c _ _)
  unfold iblk
  refine congrArg (V m c main_v0) (funext fun a => Fin.ext ?_)
  match a with
  | ⟨0, _⟩ =>
    refine (Pipeline.Window.rect_emb_val_off win0_1 t (ix2 k j) 0).trans ?_
    rw [(idx1 t)]
    exact Nat.zero_add _
  | ⟨1, _⟩ =>
    refine (Pipeline.Window.rect_emb_val_off win0_1 t (ix2 k j) 1).trans ?_
    rw [(idx1 t)]
    rfl

theorem weights1 (k : Fin 1024) (j : Fin 512) (hj : 512 * (t.val % 2) + j.val < 1024) :
    (iblk m c 3 t (ix2 k j) : EReal) = m (c, main_arg0) (ix2 ⟨512 * (t.val % 2) + j.val, hj⟩ ⟨1024 + k.val, by omega⟩) := by
  refine Eq.trans ?_ (host_transpose m c _ _)
  unfold iblk
  refine congrArg (V m c main_v0) (funext fun a => Fin.ext ?_)
  match a with
  | ⟨0, _⟩ =>
    refine (Pipeline.Window.rect_emb_val_off win0_3 t (ix2 k j) 0).trans ?_
    rw [(idx3 t)]
    exact rfl
  | ⟨1, _⟩ =>
    refine (Pipeline.Window.rect_emb_val_off win0_3 t (ix2 k j) 1).trans ?_
    rw [(idx3 t)]
    rfl

theorem weights2 (k : Fin 1024) (j : Fin 512) (hj : 512 * (t.val % 2) + j.val < 1024) :
    (iblk m c 5 t (ix2 k j) : EReal) = m (c, main_arg0) (ix2 ⟨512 * (t.val % 2) + j.val, hj⟩ ⟨2048 + k.val, by omega⟩) := by
  refine Eq.trans ?_ (host_transpose m c _ _)
  unfold iblk
  refine congrArg (V m c main_v0) (funext fun a => Fin.ext ?_)
  match a with
  | ⟨0, _⟩ =>
    refine (Pipeline.Window.rect_emb_val_off win0_5 t (ix2 k j) 0).trans ?_
    rw [(idx5 t)]
    exact rfl
  | ⟨1, _⟩ =>
    refine (Pipeline.Window.rect_emb_val_off win0_5 t (ix2 k j) 1).trans ?_
    rw [(idx5 t)]
    rfl

theorem weights3 (k : Fin 1024) (j : Fin 512) (hj : 512 * (t.val % 2) + j.val < 1024) :
    (iblk m c 7 t (ix2 k j) : EReal) = m (c, main_arg0) (ix2 ⟨512 * (t.val % 2) + j.val, hj⟩ ⟨3088 + k.val, by omega⟩) := by
  refine Eq.trans ?_ (host_transpose m c _ _)
  unfold iblk
  refine congrArg (V m c main_v0) (funext fun a => Fin.ext ?_)
  match a with
  | ⟨0, _⟩ =>
    refine (Pipeline.Window.rect_emb_val_off win0_7 t (ix2 k j) 0).trans ?_
    rw [(idx7 t)]
    exact rfl
  | ⟨1, _⟩ =>
    refine (Pipeline.Window.rect_emb_val_off win0_7 t (ix2 k j) 1).trans ?_
    rw [(idx7 t)]
    rfl

theorem weights4 (k : Fin 1024) (j : Fin 512) (hj : 512 * (t.val % 2) + j.val < 1024) :
    (iblk m c 9 t (ix2 k j) : EReal) = m (c, main_arg0) (ix2 ⟨512 * (t.val % 2) + j.val, hj⟩ ⟨4112 + k.val, by omega⟩) := by
  refine Eq.trans ?_ (host_transpose m c _ _)
  unfold iblk
  refine congrArg (V m c main_v0) (funext fun a => Fin.ext ?_)
  match a with
  | ⟨0, _⟩ =>
    refine (Pipeline.Window.rect_emb_val_off win0_9 t (ix2 k j) 0).trans ?_
    rw [(idx9 t)]
    exact rfl
  | ⟨1, _⟩ =>
    refine (Pipeline.Window.rect_emb_val_off win0_9 t (ix2 k j) 1).trans ?_
    rw [(idx9 t)]
    rfl

theorem weights5 (k : Fin 1024) (j : Fin 512) (hj : 512 * (t.val % 2) + j.val < 1024) :
    (iblk m c 11 t (ix2 k j) : EReal) = m (c, main_arg0) (ix2 ⟨512 * (t.val % 2) + j.val, hj⟩ ⟨5136 + k.val, by omega⟩) := by
  refine Eq.trans ?_ (host_transpose m c _ _)
  unfold iblk
  refine congrArg (V m c main_v0) (funext fun a => Fin.ext ?_)
  match a with
  | ⟨0, _⟩ =>
    refine (Pipeline.Window.rect_emb_val_off win0_11 t (ix2 k j) 0).trans ?_
    rw [(idx11 t)]
    exact rfl
  | ⟨1, _⟩ =>
    refine (Pipeline.Window.rect_emb_val_off win0_11 t (ix2 k j) 1).trans ?_
    rw [(idx11 t)]
    rfl

theorem weights6 (k : Fin 1024) (j : Fin 512) (hj : 512 * (t.val % 2) + j.val < 1024) :
    (iblk m c 13 t (ix2 k j) : EReal) = m (c, main_arg0) (ix2 ⟨512 * (t.val % 2) + j.val, hj⟩ ⟨6160 + k.val, by omega⟩) := by
  refine Eq.trans ?_ (host_transpose m c _ _)
  unfold iblk
  refine congrArg (V m c main_v0) (funext fun a => Fin.ext ?_)
  match a with
  | ⟨0, _⟩ =>
    refine (Pipeline.Window.rect_emb_val_off win0_13 t (ix2 k j) 0).trans ?_
    rw [(idx13 t)]
    exact rfl
  | ⟨1, _⟩ =>
    refine (Pipeline.Window.rect_emb_val_off win0_13 t (ix2 k j) 1).trans ?_
    rw [(idx13 t)]
    rfl

theorem weights7 (k : Fin 128) (j : Fin 512) (hj : 512 * (t.val % 2) + j.val < 1024) :
    (iblk m c 15 t (ix2 k j) : EReal) = m (c, main_arg0) (ix2 ⟨512 * (t.val % 2) + j.val, hj⟩ ⟨3072 + k.val, by omega⟩) := by
  refine Eq.trans ?_ (host_transpose m c _ _)
  unfold iblk
  refine congrArg (V m c main_v0) (funext fun a => Fin.ext ?_)
  match a with
  | ⟨0, _⟩ =>
    refine (Pipeline.Window.rect_emb_val_off win0_15 t (ix2 k j) 0).trans ?_
    rw [(idx15 t)]
    exact rfl
  | ⟨1, _⟩ =>
    refine (Pipeline.Window.rect_emb_val_off win0_15 t (ix2 k j) 1).trans ?_
    rw [(idx15 t)]
    rfl

theorem rows7 (i : Fin 688) (k : Fin 16) (hi : 688 * (t.val / 2) + i.val < 4128) :
    (iblk m c 14 t (ix2 i ⟨k.val, by omega⟩) : EReal) = m (c, main_arg4) (ix2 ⟨688 * (t.val / 2) + i.val, hi⟩ k) := by
  refine Eq.trans ?_ (host_pad_inside m c _ k)
  blk_ext [iblk, idx t] <;> dsimp [ix2] <;> omega

theorem rows7_beside (i : Fin 688) (k : Fin 112) (hi : 688 * (t.val / 2) + i.val < 4128) :
    (iblk m c 14 t (ix2 i ⟨16 + k.val, by omega⟩) : EReal) = (0 : EReal) := by
  refine Eq.trans ?_ (host_pad_beside m c ⟨688 * (t.val / 2) + i.val, hi⟩ k)
  blk_ext [iblk, idx t] <;> dsimp [ix2] <;> omega

/-- A step's block is the reference's. -/
theorem point (i : Fin 688) (j : Fin 512) (hi : 688 * (t.val / 2) + i.val < 4128) (hj : 512 * (t.val % 2) + j.val < 1024) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 i j)
      = Cert.Reference13Ideal.Read.val_main_v21 (F := Ideal) (m (c, main_arg0)) (m (c, main_arg1)) (m (c, main_arg2)) (m (c, main_arg3)) (m (c, main_arg4)) (m (c, main_arg5)) (m (c, main_arg6)) (m (c, main_arg7)) (m (c, main_arg8)) (ix2 ⟨_, hi⟩ ⟨_, hj⟩) := by
  refine (step _ _ _ _ _ _ _ _ _ _ _ _ _ _ _ _ _ i j).trans (Eq.trans ?_ (Cert.Reference13Ideal.Read.entry _ _ _ _ _ _ _ _ _ _ _ ).symm)
  have hf := Cert.Reference13Ideal.Read.padded (fun k => iblk m c 14 t (ix2 i k)) (fun k => iblk m c 15 t (ix2 k j)) (fun k => m (c, main_arg4) (ix2 ⟨688 * (t.val / 2) + i.val, hi⟩ k))
    (fun k => m (c, main_arg0) (ix2 ⟨512 * (t.val % 2) + j.val, hj⟩ ⟨3072 + k.val, by omega⟩))
    (fun k => rows7 m c t i k hi) (fun k => weights7 m c t _ j hj) (fun k => rows7_beside m c t i k hi)
  have h0 := Finset.sum_congr (rfl : (Finset.univ : Finset (Fin 1024)) = Finset.univ) fun k _ =>
    congrArg₂ (fun a b : EReal => a * b) (rows0 m c t i k hi) (weights0 m c t k j hj)
  have h1 := Finset.sum_congr (rfl : (Finset.univ : Finset (Fin 1024)) = Finset.univ) fun k _ =>
    congrArg₂ (fun a b : EReal => a * b) (rows1 m c t i k hi) (weights1 m c t k j hj)
  have h2 := Finset.sum_congr (rfl : (Finset.univ : Finset (Fin 1024)) = Finset.univ) fun k _ =>
    congrArg₂ (fun a b : EReal => a * b) (rows2 m c t i k hi) (weights2 m c t k j hj)
  have h3 := Finset.sum_congr (rfl : (Finset.univ : Finset (Fin 1024)) = Finset.univ) fun k _ =>
    congrArg₂ (fun a b : EReal => a * b) (rows3 m c t i k hi) (weights3 m c t k j hj)
  have h4 := Finset.sum_congr (rfl : (Finset.univ : Finset (Fin 1024)) = Finset.univ) fun k _ =>
    congrArg₂ (fun a b : EReal => a * b) (rows4 m c t i k hi) (weights4 m c t k j hj)
  have h5 := Finset.sum_congr (rfl : (Finset.univ : Finset (Fin 1024)) = Finset.univ) fun k _ =>
    congrArg₂ (fun a b : EReal => a * b) (rows5 m c t i k hi) (weights5 m c t k j hj)
  have h6 := Finset.sum_congr (rfl : (Finset.univ : Finset (Fin 1024)) = Finset.univ) fun k _ =>
    congrArg₂ (fun a b : EReal => a * b) (rows6 m c t i k hi) (weights6 m c t k j hj)
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) h0 h1) h2) h3) h4) h5) h6) hf)

end

/-- The kernel's result is the reference's. -/
theorem array : (dats m 0 c).arrAt 17 (cfgs 0).N
    = Cert.Reference13Ideal.Read.val_main_v21 (F := Ideal) (m (c, main_arg0)) (m (c, main_arg1)) (m (c, main_arg2)) (m (c, main_arg3)) (m (c, main_arg4)) (m (c, main_arg5)) (m (c, main_arg6)) (m (c, main_arg7)) (m (c, main_arg8)) := by
  refine (dats m 0 c).arrAt_eq_of_covers 17 _ (by decide +kernel) fun t hf y => ?_
  have h0 : (y 0).val < 688 := (y 0).isLt
  have h1 : (y 1).val < 512 := (y 1).isLt
  have ht : t.val < 12 := lt_of_lt_of_eq t.isLt N_0
  have hi : 688 * (t.val / 2) + (y 0).val < 4128 := by omega
  have hj : 512 * (t.val % 2) + (y 1).val < 1024 := by omega
  have hy : (win0_17.blk t).view.emb y = ix2 ⟨688 * (t.val / 2) + (y 0).val, hi⟩ ⟨512 * (t.val % 2) + (y 1).val, hj⟩ := by
    blk_ext [idx t] <;> dsimp [ix2, ix3] <;> omega
  blk_simp
  rw [after0_17, hy]
  exact (congrArg _ (ValueIdx.eq_ix2 y)).trans (point m c t (y 0) (y 1) hi hj)

end Cert.Kernel13Ideal.Gen

end
-- ==== Proof.ProductClaims.lean ====
/- The claims of the kernels that multiply matrices: each runs and leaves its arguments as they were, so does its reference,
   and from equal arguments the two end holding equal results. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.MlpDown
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.MlpUpRows
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MlpUpWeights
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.MlpUp
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MlpDownRows
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.ProjQkv
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.ProjGlu
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.ProjGates
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.MixOut
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.MixOutRows
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.MixOutWeights
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.ProjIn
public import Idealize.ShloMosaic.Adequacy
public import Idealize.ShloMosaic.Init

@[expose] public section

noncomputable section

namespace Cert.Proof

open Idealize.ShloMosaic Idealize.SL.Sem

/-- A function of two arguments, its arguments replaced by equal ones. -/
theorem congr2 {α0 α1 β : Type} {a0 b0 : α0} {a1 b1 : α1} (h0 : a0 = b0) (h1 : a1 = b1)
    (f : α0 → α1 → β) : f a0 a1 = f b0 b1 := by
  rw [h0, h1]

/-- A function of three arguments, its arguments replaced by equal ones. -/
theorem congr3 {α0 α1 α2 β : Type} {a0 b0 : α0} {a1 b1 : α1} {a2 b2 : α2} (h0 : a0 = b0) (h1 : a1 = b1) (h2 : a2 = b2)
    (f : α0 → α1 → α2 → β) : f a0 a1 a2 = f b0 b1 b2 := by
  rw [h0, h1, h2]

/-- A function of nine arguments, its arguments replaced by equal ones. -/
theorem congr9 {α0 α1 α2 α3 α4 α5 α6 α7 α8 β : Type} {a0 b0 : α0} {a1 b1 : α1} {a2 b2 : α2} {a3 b3 : α3} {a4 b4 : α4} {a5 b5 : α5} {a6 b6 : α6} {a7 b7 : α7} {a8 b8 : α8} (h0 : a0 = b0) (h1 : a1 = b1) (h2 : a2 = b2) (h3 : a3 = b3) (h4 : a4 = b4) (h5 : a5 = b5) (h6 : a6 = b6) (h7 : a7 = b7) (h8 : a8 = b8)
    (f : α0 → α1 → α2 → α3 → α4 → α5 → α6 → α7 → α8 → β) : f a0 a1 a2 a3 a4 a5 a6 a7 a8 = f b0 b1 b2 b3 b4 b5 b6 b7 b8 := by
  rw [h0, h1, h2, h3, h4, h5, h6, h7, h8]

/-! ## Gradient of the MLP's hidden rows -/

/-- The kernel runs and leaves its arguments as they were. -/
theorem frame_kernel2 : Cert.quiescent_Kernel2 := fun m ρ _ => Cert.Kernel2.Gen.frame m ρ

/-- So does the idealized kernel. -/
theorem frame_ideal2 : Cert.quiescent_Kernel2Ideal := fun m ρ _ => Cert.Kernel2Ideal.Gen.frame m ρ

/-- So does the reference. -/
theorem frame_reference2 : Cert.quiescent_Reference2Ideal := fun m ρ _ =>
  (θ_run _ _ _).mono (fun r h => ⟨fun c => (h c).2, sem_eq_zero_of_no_sems (by decide) r.2⟩) (Cert.Reference2Ideal.Value.run m ρ)

section

attribute [local irreducible] Cert.Reference2Ideal.Read.val_main_v15

/-- From equal arguments the idealized kernel ends holding what the reference ends holding. -/
theorem values2 : Cert.algebraic_Kernel2Ideal_Reference2Ideal := by
  intro m g m' g' _ hagree
  refine ⟨fun c => (Cert.Kernel2Ideal.Gen.dats m 0 c).arrAt 3 Cert.Kernel2Ideal.cfg0.N, Cert.Kernel2Ideal.Value.run_blocks m g,
    (θ_run _ _ _).mono (fun r h c => ⟨(h c).1.trans ?_, (h c).2⟩) (Cert.Reference2Ideal.Value.run m' g')⟩
  refine (Cert.Reference2Ideal.Read.val_main_v15_eq _ _ _ ).trans (Eq.trans ?_ (Cert.Kernel2Ideal.Gen.array m c).symm)
  exact congr3 (hagree c).1 (hagree c).2.1 (hagree c).2.2 Cert.Reference2Ideal.Read.val_main_v15

end

/-! ## Gradient of the MLP's input rows -/

/-- The kernel runs and leaves its arguments as they were. -/
theorem frame_kernel3 : Cert.quiescent_Kernel3 := fun m ρ _ => Cert.Kernel3.Gen.frame m ρ

/-- So does the idealized kernel. -/
theorem frame_ideal3 : Cert.quiescent_Kernel3Ideal := fun m ρ _ => Cert.Kernel3Ideal.Gen.frame m ρ

/-- So does the reference. -/
theorem frame_reference3 : Cert.quiescent_Reference3Ideal := fun m ρ _ =>
  (θ_run _ _ _).mono (fun r h => ⟨fun c => (h c).2, sem_eq_zero_of_no_sems (by decide) r.2⟩) (Cert.Reference3Ideal.Value.run m ρ)

section

attribute [local irreducible] Cert.Reference3Ideal.Read.val_main_v7

/-- From equal arguments the idealized kernel ends holding what the reference ends holding. -/
theorem values3 : Cert.algebraic_Kernel3Ideal_Reference3Ideal := by
  intro m g m' g' _ hagree
  refine ⟨fun c => (Cert.Kernel3Ideal.Gen.dats m 0 c).arrAt 16 Cert.Kernel3Ideal.cfg0.N, Cert.Kernel3Ideal.Value.run_blocks m g,
    (θ_run _ _ _).mono (fun r h c => ⟨(h c).1.trans ?_, (h c).2⟩) (Cert.Reference3Ideal.Value.run m' g')⟩
  refine (Cert.Reference3Ideal.Read.val_main_v7_eq _ _ ).trans (Eq.trans ?_ (Cert.Kernel3Ideal.Gen.array m c).symm)
  exact congr2 (hagree c).1 (hagree c).2 Cert.Reference3Ideal.Read.val_main_v7

end

/-! ## Gradient of the MLP's up weights -/

/-- The kernel runs and leaves its arguments as they were. -/
theorem frame_kernel4 : Cert.quiescent_Kernel4 := fun m ρ _ => Cert.Kernel4.Gen.frame m ρ

/-- So does the idealized kernel. -/
theorem frame_ideal4 : Cert.quiescent_Kernel4Ideal := fun m ρ _ => Cert.Kernel4Ideal.Gen.frame m ρ

/-- So does the reference. -/
theorem frame_reference4 : Cert.quiescent_Reference4Ideal := fun m ρ _ =>
  (θ_run _ _ _).mono (fun r h => ⟨fun c => (h c).2, sem_eq_zero_of_no_sems (by decide) r.2⟩) (Cert.Reference4Ideal.Value.run m ρ)

section

attribute [local irreducible] Cert.Reference4Ideal.Read.val_main_v8

/-- From equal arguments the idealized kernel ends holding what the reference ends holding. -/
theorem values4 : Cert.algebraic_Kernel4Ideal_Reference4Ideal := by
  intro m g m' g' _ hagree
  refine ⟨fun c => (Cert.Kernel4Ideal.Gen.dats m 0 c).arrAt 2 Cert.Kernel4Ideal.cfg0.N, Cert.Kernel4Ideal.Value.run_blocks m g,
    (θ_run _ _ _).mono (fun r h c => ⟨(h c).1.trans ?_, (h c).2⟩) (Cert.Reference4Ideal.Value.run m' g')⟩
  refine (Cert.Reference4Ideal.Read.val_main_v8_eq _ _ ).trans (Eq.trans ?_ (Cert.Kernel4Ideal.Gen.array m c).symm)
  exact congr2 (hagree c).1 (hagree c).2 Cert.Reference4Ideal.Read.val_main_v8

end

/-! ## The MLP's hidden rows -/

/-- The kernel runs and leaves its arguments as they were. -/
theorem frame_kernel5 : Cert.quiescent_Kernel5 := fun m ρ _ => Cert.Kernel5.Gen.frame m ρ

/-- So does the idealized kernel. -/
theorem frame_ideal5 : Cert.quiescent_Kernel5Ideal := fun m ρ _ => Cert.Kernel5Ideal.Gen.frame m ρ

/-- So does the reference. -/
theorem frame_reference5 : Cert.quiescent_Reference5Ideal := fun m ρ _ =>
  (θ_run _ _ _).mono (fun r h => ⟨fun c => (h c).2, sem_eq_zero_of_no_sems (by decide) r.2⟩) (Cert.Reference5Ideal.Value.run m ρ)

section

attribute [local irreducible] Cert.Reference5Ideal.Read.val_main_v6

/-- From equal arguments the idealized kernel ends holding what the reference ends holding. -/
theorem values5 : Cert.algebraic_Kernel5Ideal_Reference5Ideal := by
  intro m g m' g' _ hagree
  refine ⟨fun c => (Cert.Kernel5Ideal.Gen.dats m 0 c).arrAt 2 Cert.Kernel5Ideal.cfg0.N, Cert.Kernel5Ideal.Value.run_blocks m g,
    (θ_run _ _ _).mono (fun r h c => ⟨(h c).1.trans ?_, (h c).2⟩) (Cert.Reference5Ideal.Value.run m' g')⟩
  refine (Cert.Reference5Ideal.Read.val_main_v6_eq _ _ ).trans (Eq.trans ?_ (Cert.Kernel5Ideal.Gen.array m c).symm)
  exact congr2 (hagree c).1 (hagree c).2 Cert.Reference5Ideal.Read.val_main_v6

end

/-! ## The MLP's output rows -/

/-- The kernel runs and leaves its arguments as they were. -/
theorem frame_kernel6 : Cert.quiescent_Kernel6 := fun m ρ _ => Cert.Kernel6.Gen.frame m ρ

/-- So does the idealized kernel. -/
theorem frame_ideal6 : Cert.quiescent_Kernel6Ideal := fun m ρ _ => Cert.Kernel6Ideal.Gen.frame m ρ

/-- So does the reference. -/
theorem frame_reference6 : Cert.quiescent_Reference6Ideal := fun m ρ _ =>
  (θ_run _ _ _).mono (fun r h => ⟨fun c => (h c).2, sem_eq_zero_of_no_sems (by decide) r.2⟩) (Cert.Reference6Ideal.Value.run m ρ)

section

attribute [local irreducible] Cert.Reference6Ideal.Read.val_main_v5

/-- From equal arguments the idealized kernel ends holding what the reference ends holding. -/
theorem values6 : Cert.algebraic_Kernel6Ideal_Reference6Ideal := by
  intro m g m' g' _ hagree
  refine ⟨fun c => (Cert.Kernel6Ideal.Gen.dats m 0 c).arrAt 2 Cert.Kernel6Ideal.cfg0.N, Cert.Kernel6Ideal.Value.run_blocks m g,
    (θ_run _ _ _).mono (fun r h c => ⟨(h c).1.trans ?_, (h c).2⟩) (Cert.Reference6Ideal.Value.run m' g')⟩
  refine (Cert.Reference6Ideal.Read.val_main_v5_eq _ _ ).trans (Eq.trans ?_ (Cert.Kernel6Ideal.Gen.array m c).symm)
  exact congr2 (hagree c).1 (hagree c).2 Cert.Reference6Ideal.Read.val_main_v5

end

/-! ## Query, key and value projection -/

/-- The kernel runs and leaves its arguments as they were. -/
theorem frame_kernel7 : Cert.quiescent_Kernel7 := fun m ρ _ => Cert.Kernel7.Gen.frame m ρ

/-- So does the idealized kernel. -/
theorem frame_ideal7 : Cert.quiescent_Kernel7Ideal := fun m ρ _ => Cert.Kernel7Ideal.Gen.frame m ρ

/-- So does the reference. -/
theorem frame_reference7 : Cert.quiescent_Reference7Ideal := fun m ρ _ =>
  (θ_run _ _ _).mono (fun r h => ⟨fun c => (h c).2, sem_eq_zero_of_no_sems (by decide) r.2⟩) (Cert.Reference7Ideal.Value.run m ρ)

section

attribute [local irreducible] Cert.Reference7Ideal.Read.val_main_v4

/-- From equal arguments the idealized kernel ends holding what the reference ends holding. -/
theorem values7 : Cert.algebraic_Kernel7Ideal_Reference7Ideal := by
  intro m g m' g' _ hagree
  refine ⟨fun c => (Cert.Kernel7Ideal.Gen.dats m 0 c).arrAt 3 Cert.Kernel7Ideal.cfg0.N, Cert.Kernel7Ideal.Value.run_blocks m g,
    (θ_run _ _ _).mono (fun r h c => ⟨(h c).1.trans ?_, (h c).2⟩) (Cert.Reference7Ideal.Value.run m' g')⟩
  refine (Cert.Reference7Ideal.Read.val_main_v4_eq _ _ ).trans (Eq.trans ?_ (Cert.Kernel7Ideal.Gen.array m c).symm)
  exact congr2 (hagree c).1 (hagree c).2 Cert.Reference7Ideal.Read.val_main_v4

end

/-! ## Gated linear unit's projection -/

/-- The kernel runs and leaves its arguments as they were. -/
theorem frame_kernel8 : Cert.quiescent_Kernel8 := fun m ρ _ => Cert.Kernel8.Gen.frame m ρ

/-- So does the idealized kernel. -/
theorem frame_ideal8 : Cert.quiescent_Kernel8Ideal := fun m ρ _ => Cert.Kernel8Ideal.Gen.frame m ρ

/-- So does the reference. -/
theorem frame_reference8 : Cert.quiescent_Reference8Ideal := fun m ρ _ =>
  (θ_run _ _ _).mono (fun r h => ⟨fun c => (h c).2, sem_eq_zero_of_no_sems (by decide) r.2⟩) (Cert.Reference8Ideal.Value.run m ρ)

section

attribute [local irreducible] Cert.Reference8Ideal.Read.val_main_v4

/-- From equal arguments the idealized kernel ends holding what the reference ends holding. -/
theorem values8 : Cert.algebraic_Kernel8Ideal_Reference8Ideal := by
  intro m g m' g' _ hagree
  refine ⟨fun c => (Cert.Kernel8Ideal.Gen.dats m 0 c).arrAt 3 Cert.Kernel8Ideal.cfg0.N, Cert.Kernel8Ideal.Value.run_blocks m g,
    (θ_run _ _ _).mono (fun r h c => ⟨(h c).1.trans ?_, (h c).2⟩) (Cert.Reference8Ideal.Value.run m' g')⟩
  refine (Cert.Reference8Ideal.Read.val_main_v4_eq _ _ ).trans (Eq.trans ?_ (Cert.Kernel8Ideal.Gen.array m c).symm)
  exact congr2 (hagree c).1 (hagree c).2 Cert.Reference8Ideal.Read.val_main_v4

end

/-! ## Output gates' projection -/

/-- The kernel runs and leaves its arguments as they were. -/
theorem frame_kernel9 : Cert.quiescent_Kernel9 := fun m ρ _ => Cert.Kernel9.Gen.frame m ρ

/-- So does the idealized kernel. -/
theorem frame_ideal9 : Cert.quiescent_Kernel9Ideal := fun m ρ _ => Cert.Kernel9Ideal.Gen.frame m ρ

/-- So does the reference. -/
theorem frame_reference9 : Cert.quiescent_Reference9Ideal := fun m ρ _ =>
  (θ_run _ _ _).mono (fun r h => ⟨fun c => (h c).2, sem_eq_zero_of_no_sems (by decide) r.2⟩) (Cert.Reference9Ideal.Value.run m ρ)

section

attribute [local irreducible] Cert.Reference9Ideal.Read.val_main_v4

/-- From equal arguments the idealized kernel ends holding what the reference ends holding. -/
theorem values9 : Cert.algebraic_Kernel9Ideal_Reference9Ideal := by
  intro m g m' g' _ hagree
  refine ⟨fun c => (Cert.Kernel9Ideal.Gen.dats m 0 c).arrAt 3 Cert.Kernel9Ideal.cfg0.N, Cert.Kernel9Ideal.Value.run_blocks m g,
    (θ_run _ _ _).mono (fun r h c => ⟨(h c).1.trans ?_, (h c).2⟩) (Cert.Reference9Ideal.Value.run m' g')⟩
  refine (Cert.Reference9Ideal.Read.val_main_v4_eq _ _ ).trans (Eq.trans ?_ (Cert.Kernel9Ideal.Gen.array m c).symm)
  exact congr2 (hagree c).1 (hagree c).2 Cert.Reference9Ideal.Read.val_main_v4

end

/-! ## Mixer's output projection -/

/-- The kernel runs and leaves its arguments as they were. -/
theorem frame_kernel10 : Cert.quiescent_Kernel10 := fun m ρ _ => Cert.Kernel10.Gen.frame m ρ

/-- So does the idealized kernel. -/
theorem frame_ideal10 : Cert.quiescent_Kernel10Ideal := fun m ρ _ => Cert.Kernel10Ideal.Gen.frame m ρ

/-- So does the reference. -/
theorem frame_reference10 : Cert.quiescent_Reference10Ideal := fun m ρ _ =>
  (θ_run _ _ _).mono (fun r h => ⟨fun c => (h c).2, sem_eq_zero_of_no_sems (by decide) r.2⟩) (Cert.Reference10Ideal.Value.run m ρ)

section

attribute [local irreducible] Cert.Reference10Ideal.Read.val_main_v3

/-- From equal arguments the idealized kernel ends holding what the reference ends holding. -/
theorem values10 : Cert.algebraic_Kernel10Ideal_Reference10Ideal := by
  intro m g m' g' _ hagree
  refine ⟨fun c => (Cert.Kernel10Ideal.Gen.dats m 0 c).arrAt 2 Cert.Kernel10Ideal.cfg0.N, Cert.Kernel10Ideal.Value.run_blocks m g,
    (θ_run _ _ _).mono (fun r h c => ⟨(h c).1.trans ?_, (h c).2⟩) (Cert.Reference10Ideal.Value.run m' g')⟩
  refine (Cert.Reference10Ideal.Read.val_main_v3_eq _ _ ).trans (Eq.trans ?_ (Cert.Kernel10Ideal.Gen.array m c).symm)
  exact congr2 (hagree c).1 (hagree c).2 Cert.Reference10Ideal.Read.val_main_v3

end

/-! ## Gradient of the rows through the mixer's output projection -/

/-- The kernel runs and leaves its arguments as they were. -/
theorem frame_kernel11 : Cert.quiescent_Kernel11 := fun m ρ _ => Cert.Kernel11.Gen.frame m ρ

/-- So does the idealized kernel. -/
theorem frame_ideal11 : Cert.quiescent_Kernel11Ideal := fun m ρ _ => Cert.Kernel11Ideal.Gen.frame m ρ

/-- So does the reference. -/
theorem frame_reference11 : Cert.quiescent_Reference11Ideal := fun m ρ _ =>
  (θ_run _ _ _).mono (fun r h => ⟨fun c => (h c).2, sem_eq_zero_of_no_sems (by decide) r.2⟩) (Cert.Reference11Ideal.Value.run m ρ)

section

attribute [local irreducible] Cert.Reference11Ideal.Read.val_main_v5

/-- From equal arguments the idealized kernel ends holding what the reference ends holding. -/
theorem values11 : Cert.algebraic_Kernel11Ideal_Reference11Ideal := by
  intro m g m' g' _ hagree
  refine ⟨fun c => (Cert.Kernel11Ideal.Gen.dats m 0 c).arrAt 2 Cert.Kernel11Ideal.cfg0.N, Cert.Kernel11Ideal.Value.run_blocks m g,
    (θ_run _ _ _).mono (fun r h c => ⟨(h c).1.trans ?_, (h c).2⟩) (Cert.Reference11Ideal.Value.run m' g')⟩
  refine (Cert.Reference11Ideal.Read.val_main_v5_eq _ _ ).trans (Eq.trans ?_ (Cert.Kernel11Ideal.Gen.array m c).symm)
  exact congr2 (hagree c).1 (hagree c).2 Cert.Reference11Ideal.Read.val_main_v5

end

/-! ## Gradient of the mixer's output projection -/

/-- The kernel runs and leaves its arguments as they were. -/
theorem frame_kernel12 : Cert.quiescent_Kernel12 := fun m ρ _ => Cert.Kernel12.Gen.frame m ρ

/-- So does the idealized kernel. -/
theorem frame_ideal12 : Cert.quiescent_Kernel12Ideal := fun m ρ _ => Cert.Kernel12Ideal.Gen.frame m ρ

/-- So does the reference. -/
theorem frame_reference12 : Cert.quiescent_Reference12Ideal := fun m ρ _ =>
  (θ_run _ _ _).mono (fun r h => ⟨fun c => (h c).2, sem_eq_zero_of_no_sems (by decide) r.2⟩) (Cert.Reference12Ideal.Value.run m ρ)

section

attribute [local irreducible] Cert.Reference12Ideal.Read.val_main_v6

/-- From equal arguments the idealized kernel ends holding what the reference ends holding. -/
theorem values12 : Cert.algebraic_Kernel12Ideal_Reference12Ideal := by
  intro m g m' g' _ hagree
  refine ⟨fun c => (Cert.Kernel12Ideal.Gen.dats m 0 c).arrAt 2 Cert.Kernel12Ideal.cfg0.N, Cert.Kernel12Ideal.Value.run_blocks m g,
    (θ_run _ _ _).mono (fun r h c => ⟨(h c).1.trans ?_, (h c).2⟩) (Cert.Reference12Ideal.Value.run m' g')⟩
  refine (Cert.Reference12Ideal.Read.val_main_v6_eq _ _ ).trans (Eq.trans ?_ (Cert.Kernel12Ideal.Gen.array m c).symm)
  exact congr2 (hagree c).1 (hagree c).2 Cert.Reference12Ideal.Read.val_main_v6

end

/-! ## Gradient of the rows through the input projection -/

/-- The kernel runs and leaves its arguments as they were. -/
theorem frame_kernel13 : Cert.quiescent_Kernel13 := fun m ρ _ => Cert.Kernel13.Gen.frame m ρ

/-- So does the idealized kernel. -/
theorem frame_ideal13 : Cert.quiescent_Kernel13Ideal := fun m ρ _ => Cert.Kernel13Ideal.Gen.frame m ρ

/-- So does the reference. -/
theorem frame_reference13 : Cert.quiescent_Reference13Ideal := fun m ρ _ =>
  (θ_run _ _ _).mono (fun r h => ⟨fun c => (h c).2, sem_eq_zero_of_no_sems (by decide) r.2⟩) (Cert.Reference13Ideal.Value.run m ρ)

section

attribute [local irreducible] Cert.Reference13Ideal.Read.val_main_v21

/-- From equal arguments the idealized kernel ends holding what the reference ends holding. -/
theorem values13 : Cert.algebraic_Kernel13Ideal_Reference13Ideal := by
  intro m g m' g' _ hagree
  refine ⟨fun c => (Cert.Kernel13Ideal.Gen.dats m 0 c).arrAt 17 Cert.Kernel13Ideal.cfg0.N, Cert.Kernel13Ideal.Value.run_blocks m g,
    (θ_run _ _ _).mono (fun r h c => ⟨(h c).1.trans ?_, (h c).2⟩) (Cert.Reference13Ideal.Value.run m' g')⟩
  refine (Cert.Reference13Ideal.Read.val_main_v21_eq _ _ _ _ _ _ _ _ _ ).trans (Eq.trans ?_ (Cert.Kernel13Ideal.Gen.array m c).symm)
  exact congr9 (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2 Cert.Reference13Ideal.Read.val_main_v21

end

end Cert.Proof

end
-- ==== Proof.MergeBwd.lean ====
/- The derivative of the merge of the two mixers through their gates. -/
module

public import proofs.«01_k».proof.Proof.Gen.Kernel14Ideal.Value
public import proofs.«01_k».proof.Proof.Gen.Reference14Ideal.Read
public import proofs.«01_k».proof.Proof.Products
public import Idealize.ShloMosaic.Lib.Pipeline.ValueKit

@[expose] public section

noncomputable section

namespace Cert.Gate

open Idealize.ShloMosaic

/-- The sigmoid. -/
def sigmoid (x : Ideal .f32) : Ideal .f32 :=
  FloatOps.divf (FloatOps.ofBits .f32 0x3F800000#32) (FloatOps.addf (FloatOps.ofBits .f32 0x3F800000#32) (FloatOps.exp (FloatOps.negf x)))

/-- Its complement. -/
def rest (x : Ideal .f32) : Ideal .f32 := FloatOps.subf (FloatOps.ofBits .f32 0x3F800000#32) (sigmoid x)

/-- Zero less a number is its negative. -/
theorem zero_less (x : Ideal .f32) : FloatOps.subf (FloatOps.ofBits .f32 0x00000000#32) x = FloatOps.negf x :=
  (congrArg (fun z : EReal => z - (x : EReal)) Ideal.ofBits_zero_f32).trans (zero_sub (x : EReal))

end Cert.Gate

namespace Cert.Reference14Ideal.Read

open Idealize.ShloMosaic hiding ix1 ix2 ix3 ix4 ix5
open Idealize.ShloMosaic.ValueIdx Cert.Products Cert.Reference14Ideal Cert.Gate

variable (d : (⟨S4128x1024, .bf16⟩ : BufTy).Contents (Elt Ideal)) (g : (⟨S4128x2048, .bf16⟩ : BufTy).Contents (Elt Ideal))
  (a e : (⟨S4128x1024, .bf16⟩ : BufTy).Contents (Elt Ideal)) (b : (⟨S1x1024, .f32⟩ : BufTy).Contents (Elt Ideal)) (i : Fin 4128) (j : Fin 1024)

/-- The attention's gate. -/
theorem gate_a : (val_main_v11 (F := Ideal) g (ix2 i j) : EReal) = sigmoid (g (ix2 i ⟨j.val, by omega⟩)) := by
  rw [val_main_v11_apply, val_main_v10_apply, val_main_v9_apply, val_main_v8_apply, val_main_v7_apply, val_main_v6_apply, val_main_v4_apply, val_main_v1_apply,
    val_main_cst_apply, val_main_cst_0_apply]
  exact congrArg (fun y => (sigmoid (g y) : EReal)) (ValueIdx.eq_ix2 _)

/-- The convolution's gate. -/
theorem gate_c : (val_main_v21 (F := Ideal) g (ix2 i j) : EReal) = sigmoid (g (ix2 i ⟨1024 + j.val, by omega⟩)) := by
  rw [val_main_v21_apply, val_main_v20_apply, val_main_v19_apply, val_main_v18_apply, val_main_v17_apply, val_main_v16_apply, val_main_v5_apply, val_main_v1_apply,
    val_main_cst_2_apply, val_main_cst_3_apply]
  exact congrArg (fun y => (sigmoid (g y) : EReal)) (ValueIdx.eq_ix2 _)

/-- The reference's derivative by the attention's output. -/
theorem entry_a : (val_main_v37 (F := Ideal) d g (ix2 i j) : EReal) = (d (ix2 i j) : EReal) * sigmoid (g (ix2 i ⟨j.val, by omega⟩)) := by
  rw [val_main_v37_apply, val_main_v34_apply, val_main_v0_apply]
  exact (congrArg (fun z : EReal => z * (d (ix2 i j) : EReal)) (gate_a g i j)).trans (mul_comm (_ : EReal) _)

/-- That by the convolution's output. -/
theorem entry_c : (val_main_v29 (F := Ideal) d g (ix2 i j) : EReal) = (d (ix2 i j) : EReal) * sigmoid (g (ix2 i ⟨1024 + j.val, by omega⟩)) := by
  rw [val_main_v29_apply, val_main_v0_apply]
  exact (congrArg (fun z : EReal => z * (d (ix2 i j) : EReal)) (gate_c g i j)).trans (mul_comm (_ : EReal) _)

/-- That by the attention's gate. -/
theorem entry_ga : (val_main_v39 (F := Ideal) d g a (ix2 i j) : EReal)
    = (d (ix2 i j) : EReal) * (a (ix2 i j) : EReal) * sigmoid (g (ix2 i ⟨j.val, by omega⟩)) * rest (g (ix2 i ⟨j.val, by omega⟩)) := by
  rw [val_main_v39_apply, val_main_v36_apply, val_main_v35_apply, val_main_v0_apply, val_main_v2_apply, val_main_v14_apply, val_main_v13_apply, val_main_v12_apply,
    val_main_cst_1_apply]
  exact (congrArg (fun z : EReal => (d (ix2 i j) : EReal) * (a (ix2 i j) : EReal) * (z * (Ideal.ofBits .f32 0x3F800000#32 - z))) (gate_a g i j)).trans
    (mul_assoc (_ : EReal) _ _).symm

/-- That by the convolution's gate. -/
theorem entry_gc : (val_main_v40 (F := Ideal) d g e b (ix2 i j) : EReal)
    = (d (ix2 i j) : EReal) * ((e (ix2 i j) : EReal) + (b (ix2 0 j) : EReal)) * sigmoid (g (ix2 i ⟨1024 + j.val, by omega⟩))
      * rest (g (ix2 i ⟨1024 + j.val, by omega⟩)) := by
  rw [val_main_v40_apply, val_main_v33_apply, val_main_v30_apply, val_main_v26_apply, val_main_v25_apply, val_main_v0_apply, val_main_v3_apply, val_main_v24_apply,
    val_main_v23_apply, val_main_v22_apply, val_main_cst_4_apply, show idx_main_v25 (ix2 i j) = ix2 0 j from ValueIdx.eq_ix2 _]
  exact (congrArg (fun z : EReal => (d (ix2 i j) : EReal) * ((e (ix2 i j) : EReal) + (b (ix2 0 j) : EReal)) * (z * (Ideal.ofBits .f32 0x3F800000#32 - z)))
    (gate_c g i j)).trans (mul_assoc (_ : EReal) _ _).symm

/-- That by the convolution's bias. -/
theorem entry_b (k : Fin 1) : (val_main_v32 (F := Ideal) d g (ix2 k j) : EReal) = ∑ i : Fin 4128, (val_main_v29 (F := Ideal) d g (ix2 i j) : EReal) := by
  rw [val_main_v32_apply, val_main_v31_apply]
  refine (congrArg (· + _) Ideal.ofBits_zero_f32).trans ((zero_add _).trans (Finset.sum_congr rfl fun i _ => ?_))
  refine congrArg (fun y => (val_main_v29 (F := Ideal) d g y : EReal)) (funext fun y => Fin.ext ?_)
  match y with
  | ⟨0, _⟩ => rfl
  | ⟨1, _⟩ => have := k.isLt; show k.val * 1024 + j.val = j.val; omega

end Cert.Reference14Ideal.Read

namespace Cert.Kernel14Ideal.Gen

open Idealize.ShloMosaic hiding ix1 ix2 ix3 ix4 ix5
open Idealize.ShloMosaic.ValueIdx Cert.Products Cert.Kernel14Ideal Cert.Gate
open Idealize.ShloMosaic.TcCoe Idealize.SL.Sem
open Idealize.ShloMosaic.Pipeline (Dat)

variable (m : (ℓ : Loc nD τ sig) → Buf (Elt Ideal) ℓ) (c : Dev nD)

section

variable (x0 x1 x2 x3 x4 : Vec Ideal S688x512 .bf16) (x5 : Vec Ideal S1x512 .f32) (i : Fin 688) (j : Fin 512)

theorem sig5 (y) : k0_pay5 x1 y = sigmoid (x1 y) :=
  congrArg (fun z => FloatOps.divf (FloatOps.ofBits .f32 0x3F800000#32) (FloatOps.addf (FloatOps.ofBits .f32 0x3F800000#32) (FloatOps.exp z))) (zero_less (x1 y))

theorem sig6 (y) : k0_pay6 x2 y = sigmoid (x2 y) :=
  congrArg (fun z => FloatOps.divf (FloatOps.ofBits .f32 0x3F800000#32) (FloatOps.addf (FloatOps.ofBits .f32 0x3F800000#32) (FloatOps.exp z))) (zero_less (x2 y))

/-- A step's derivative by the attention's output. -/
theorem step_a (y) : (k0_pay8 x0 x1 y : EReal) = (x0 y : EReal) * sigmoid (x1 y) :=
  congrArg (fun z : EReal => (x0 y : EReal) * z) (sig5 x1 y)

/-- That by the convolution's output. -/
theorem step_c (y) : (k0_pay7 x0 x2 y : EReal) = (x0 y : EReal) * sigmoid (x2 y) :=
  congrArg (fun z : EReal => (x0 y : EReal) * z) (sig6 x2 y)

/-- That by the attention's gate. -/
theorem step_ga (y) : (k0_pay10 x0 x1 x3 y : EReal) = (x0 y : EReal) * (x3 y : EReal) * sigmoid (x1 y) * rest (x1 y) :=
  congrArg (fun z : EReal => (x0 y : EReal) * (x3 y : EReal) * z * (Ideal.ofBits .f32 0x3F800000#32 - z)) (sig5 x1 y)

/-- That by the convolution's gate. -/
theorem step_gc : (k0_pay1 (k0_pay4 x0) (k0_pay6 x2) x4 x5 (ix2 i j) : EReal)
    = (x0 (ix2 i j) : EReal) * ((x4 (ix2 i j) : EReal) + (x5 (ix2 0 j) : EReal)) * sigmoid (x2 (ix2 i j)) * rest (x2 (ix2 i j)) := by
  have hb : (broadcastTo S688x512 x5 broadcasts_S1x512_S688x512 (ix2 i j) : EReal) = x5 (ix2 0 j) := broadcastTo_1b_ab_apply _ _ _ _
  refine Eq.trans ?_ (congrArg (fun z : EReal => (x0 (ix2 i j) : EReal) * ((x4 (ix2 i j) : EReal) + (x5 (ix2 0 j) : EReal)) * z
    * (Ideal.ofBits .f32 0x3F800000#32 - z)) (sig6 x2 (ix2 i j)))
  exact congrArg (fun z : EReal => (x0 (ix2 i j) : EReal) * ((x4 (ix2 i j) : EReal) + z) * (k0_pay6 x2 (ix2 i j) : EReal)
    * (Ideal.ofBits .f32 0x3F800000#32 - (k0_pay6 x2 (ix2 i j) : EReal))) hb

/-- A block's columns, summed. -/
def columns (y : S1x512.Idx) : EReal := ∑ i : Fin 688, (k0_pay7 x0 x2 (ix2 i (y 1)) : EReal)

/-- What a step adds to the derivative by the bias. -/
theorem step_b (x : FVec Ideal S688x512 .f32) (acc : Vec Ideal S1x512 .f32) (y : S1x512.Idx) :
    (k0_pay3 x acc y : EReal) = (acc y : EReal) + ∑ i : Fin 688, (x (ix2 i (y 1)) : EReal) := by
  rw [ValueIdx.eq_ix2 y]
  unfold k0_pay3
  refine congrArg₂ (fun p q : EReal => p + q) (congrFun (shapeCast_self acc _) _) ((shapeCast_a_1a_apply _ _ _ _).trans ((Ideal.multiReduction_add_single _ _ _ _ _ _).trans
    (Finset.sum_congr rfl fun k _ => congrArg (fun a => (x a : EReal)) (funext fun a => Fin.ext ?_))))
  match a with
  | ⟨0, _⟩ => rfl
  | ⟨1, _⟩ => rfl

end

/-! What the body leaves in each output's buffer. -/

theorem left6 (t : Fin cfg0.N) : (outsAt0 m c t.val t.isLt).1 = k0_pay8 (iblk m c 0 t) (iblk m c 1 t) := by
  by_cases h : t.val % 6 = 0
  · rw [outsAt0_A m c t h]; frame_out
  · rw [outsAt0_B m c t h]; frame_out

theorem left7 (t : Fin cfg0.N) : (outsAt0 m c t.val t.isLt).2.1 = k0_pay9 (iblk m c 0 t) (iblk m c 2 t) := by
  by_cases h : t.val % 6 = 0
  · rw [outsAt0_A m c t h]; frame_out
  · rw [outsAt0_B m c t h]; frame_out

theorem left8 (t : Fin cfg0.N) : (outsAt0 m c t.val t.isLt).2.2.1 = k0_pay10 (iblk m c 0 t) (iblk m c 1 t) (iblk m c 3 t) := by
  by_cases h : t.val % 6 = 0
  · rw [outsAt0_A m c t h]; frame_out
  · rw [outsAt0_B m c t h]; frame_out

theorem left9 (t : Fin cfg0.N) : (outsAt0 m c t.val t.isLt).2.2.2.1 = k0_pay1 (k0_pay4 (iblk m c 0 t)) (k0_pay6 (iblk m c 2 t)) (iblk m c 4 t) (iblk m c 5 t) := by
  by_cases h : t.val % 6 = 0
  · rw [outsAt0_A m c t h]; frame_out
  · rw [outsAt0_B m c t h]; frame_out

/-- The sum down a block's rows, once all its steps are through. -/
theorem left10 (t : Fin cfg0.N) (h : t.val % 6 = 6 - 1) (y : S1x512.Idx) : ((outsAt0 m c t.val t.isLt).2.2.2.2 y : EReal)
    = ∑ s : Fin 6, columns (iblk m c 0 ⟨6 * (t.val / 6) + s.val, Pipeline.run_point_lt_of_flush t h s⟩)
        (iblk m c 2 ⟨6 * (t.val / 6) + s.val, Pipeline.run_point_lt_of_flush t h s⟩) y := by
  rw [Pipeline.eq_sum_fin_of_reset_step_apply_of_flush (M := EReal) (fun n h => (outsAt0 m c n h).2.2.2.2) 6 (fun _ => (0 : EReal))
    (fun t y => columns (iblk m c 0 t) (iblk m c 2 t) y)
    (fun t h y => by
      have hp : (outsAt0 m c t.val t.isLt).2.2.2.2 = k0_pay3 (k0_pay7 (iblk m c 0 t) (iblk m c 2 t)) (k0_pay2 (F := Ideal)) := by
        rw [outsAt0_A m c t h]; frame_out
      rw [hp]
      exact (step_b _ _ _).trans (congrArg (· + _) Ideal.ofBits_zero_f32))
    (fun t h y => by
      have hp : (outsAt0 m c t.val t.isLt).2.2.2.2 = k0_pay3 (k0_pay7 (iblk m c 0 t) (iblk m c 2 t))
          (outsAt0 m c (t.val - 1) (Nat.lt_of_le_of_lt (Nat.sub_le _ _) t.isLt)).2.2.2.2 := by
        rw [outsAt0_B m c t h]; frame_out
      rw [hp]
      exact step_b _ _ _) t h y]
  exact zero_add (_ : EReal)

/-- The index maps. -/
theorem idx : ∀ t : Fin cfg0.N, win0_0.index t = ![t.val % 6, t.val / 6] ∧ win0_1.index t = ![t.val % 6, t.val / 6]
    ∧ win0_2.index t = ![t.val % 6, 2 + t.val / 6] ∧ win0_3.index t = ![t.val % 6, t.val / 6] ∧ win0_4.index t = ![t.val % 6, t.val / 6]
    ∧ win0_5.index t = ![0, t.val / 6] ∧ win0_6.index t = ![t.val % 6, t.val / 6] ∧ win0_7.index t = ![t.val % 6, t.val / 6]
    ∧ win0_8.index t = ![t.val % 6, t.val / 6] ∧ win0_9.index t = ![t.val % 6, t.val / 6] ∧ win0_10.index t = ![0, t.val / 6] :=
  (by decide +kernel : ∀ t : Fin grid0.N, _)

section

variable (t : Fin cfg0.N) (i : Fin 688) (j : Fin 512) (hi : 688 * (t.val % 6) + i.val < 4128) (hj : 512 * (t.val / 6) + j.val < 1024)

theorem block0 : iblk m c 0 t (ix2 i j) = m (c, main_arg0) (ix2 ⟨688 * (t.val % 6) + i.val, hi⟩ ⟨512 * (t.val / 6) + j.val, hj⟩) := by
  rw [show m (c, main_arg0) = V m c main_arg0 from (V_main_arg0 m c).symm]
  blk_ext [iblk, idx t] <;> dsimp [ix2] <;> omega

theorem block1 : iblk m c 1 t (ix2 i j) = m (c, main_arg1) (ix2 ⟨688 * (t.val % 6) + i.val, hi⟩ ⟨512 * (t.val / 6) + j.val, by omega⟩) := by
  rw [show m (c, main_arg1) = V m c main_arg1 from (V_main_arg1 m c).symm]
  blk_ext [iblk, idx t] <;> dsimp [ix2] <;> omega

theorem block2 : iblk m c 2 t (ix2 i j) = m (c, main_arg1) (ix2 ⟨688 * (t.val % 6) + i.val, hi⟩ ⟨1024 + (512 * (t.val / 6) + j.val), by omega⟩) := by
  rw [show m (c, main_arg1) = V m c main_arg1 from (V_main_arg1 m c).symm]
  blk_ext [iblk, idx t] <;> dsimp [ix2] <;> omega

theorem block3 : iblk m c 3 t (ix2 i j) = m (c, main_arg2) (ix2 ⟨688 * (t.val % 6) + i.val, hi⟩ ⟨512 * (t.val / 6) + j.val, hj⟩) := by
  rw [show m (c, main_arg2) = V m c main_arg2 from (V_main_arg2 m c).symm]
  blk_ext [iblk, idx t] <;> dsimp [ix2] <;> omega

theorem block4 : iblk m c 4 t (ix2 i j) = m (c, main_arg3) (ix2 ⟨688 * (t.val % 6) + i.val, hi⟩ ⟨512 * (t.val / 6) + j.val, hj⟩) := by
  rw [show m (c, main_arg3) = V m c main_arg3 from (V_main_arg3 m c).symm]
  blk_ext [iblk, idx t] <;> dsimp [ix2] <;> omega

theorem block5 : iblk m c 5 t (ix2 0 j) = m (c, main_arg4) (ix2 0 ⟨512 * (t.val / 6) + j.val, hj⟩) := by
  rw [show m (c, main_arg4) = V m c main_arg4 from (V_main_arg4 m c).symm]
  blk_ext [iblk, idx t] <;> dsimp [ix2] <;> omega

theorem point_a : ((k0_pay8 (iblk m c 0 t) (iblk m c 1 t)) (ix2 i j) : EReal) = Cert.Reference14Ideal.Read.val_main_v37 (F := Ideal) (m (c, main_arg0)) (m (c, main_arg1)) (ix2 ⟨_, hi⟩ ⟨_, hj⟩) := by
  refine (step_a _ _ _).trans (Eq.trans ?_ (Cert.Reference14Ideal.Read.entry_a _ _ _ _).symm)
  rw [block0 m c t i j hi hj, block1 m c t i j hi hj]

theorem point_c : ((k0_pay9 (iblk m c 0 t) (iblk m c 2 t)) (ix2 i j) : EReal) = Cert.Reference14Ideal.Read.val_main_v38 (F := Ideal) (m (c, main_arg0)) (m (c, main_arg1)) (ix2 ⟨_, hi⟩ ⟨_, hj⟩) := by
  refine (step_c _ _ _).trans (Eq.trans ?_ (Cert.Reference14Ideal.Read.entry_c _ _ _ _).symm)
  rw [block0 m c t i j hi hj, block2 m c t i j hi hj]

theorem point_ga : ((k0_pay10 (iblk m c 0 t) (iblk m c 1 t) (iblk m c 3 t)) (ix2 i j) : EReal) = Cert.Reference14Ideal.Read.val_main_v39 (F := Ideal) (m (c, main_arg0)) (m (c, main_arg1)) (m (c, main_arg2)) (ix2 ⟨_, hi⟩ ⟨_, hj⟩) := by
  refine (step_ga _ _ _ _).trans (Eq.trans ?_ (Cert.Reference14Ideal.Read.entry_ga _ _ _ _ _).symm)
  rw [block0 m c t i j hi hj, block1 m c t i j hi hj, block3 m c t i j hi hj]

theorem point_gc : ((k0_pay1 (k0_pay4 (iblk m c 0 t)) (k0_pay6 (iblk m c 2 t)) (iblk m c 4 t) (iblk m c 5 t)) (ix2 i j) : EReal) = Cert.Reference14Ideal.Read.val_main_v40 (F := Ideal) (m (c, main_arg0)) (m (c, main_arg1)) (m (c, main_arg3)) (m (c, main_arg4)) (ix2 ⟨_, hi⟩ ⟨_, hj⟩) := by
  refine (step_gc _ _ _ _ i j).trans (Eq.trans ?_ (Cert.Reference14Ideal.Read.entry_gc _ _ _ _ _ _).symm)
  rw [block0 m c t i j hi hj, block2 m c t i j hi hj, block4 m c t i j hi hj, block5 m c t j hj]

end

/-- A block's columns summed are the reference's terms. -/
theorem point_b (t : Fin cfg0.N) (y : S1x512.Idx) (hy : 512 * (t.val / 6) + (y 1).val < 1024) (ht : t.val % 6 < 6) : columns (iblk m c 0 t) (iblk m c 2 t) y
    = ∑ i : Fin 688, (Cert.Reference14Ideal.Read.val_main_v29 (F := Ideal) (m (c, main_arg0)) (m (c, main_arg1))
        (ix2 ⟨688 * (t.val % 6) + i.val, by omega⟩ ⟨512 * (t.val / 6) + (y 1).val, hy⟩) : EReal) := by
  unfold columns
  refine Finset.sum_congr rfl fun i _ => ?_
  exact point_c m c t i (y 1) (by omega) hy

/-- The kernel's derivative by the attention's output is the reference's. -/
theorem array_a : (dats m 0 c).arrAt 6 (cfgs 0).N = Cert.Reference14Ideal.Read.val_main_v37 (F := Ideal) (m (c, main_arg0)) (m (c, main_arg1)) := by
  refine (dats m 0 c).arrAt_eq_of_covers 6 _ (by decide +kernel) fun t hf y => ?_
  have h0 : (y 0).val < 688 := (y 0).isLt
  have h1 : (y 1).val < 512 := (y 1).isLt
  have ht : t.val < 12 := lt_of_lt_of_eq t.isLt N_0
  have hi : 688 * (t.val % 6) + (y 0).val < 4128 := by omega
  have hj : 512 * (t.val / 6) + (y 1).val < 1024 := by omega
  have hy : (win0_6.blk t).view.emb y = ix2 ⟨688 * (t.val % 6) + (y 0).val, hi⟩ ⟨512 * (t.val / 6) + (y 1).val, hj⟩ := by
    blk_ext [idx t] <;> dsimp [ix2] <;> omega
  blk_simp
  rw [after0_6, hy, left6]
  exact (congrArg _ (ValueIdx.eq_ix2 y)).trans (point_a m c t (y 0) (y 1) hi hj)

/-- The kernel's derivative by the convolution's output is the reference's. -/
theorem array_c : (dats m 0 c).arrAt 7 (cfgs 0).N = Cert.Reference14Ideal.Read.val_main_v38 (F := Ideal) (m (c, main_arg0)) (m (c, main_arg1)) := by
  refine (dats m 0 c).arrAt_eq_of_covers 7 _ (by decide +kernel) fun t hf y => ?_
  have h0 : (y 0).val < 688 := (y 0).isLt
  have h1 : (y 1).val < 512 := (y 1).isLt
  have ht : t.val < 12 := lt_of_lt_of_eq t.isLt N_0
  have hi : 688 * (t.val % 6) + (y 0).val < 4128 := by omega
  have hj : 512 * (t.val / 6) + (y 1).val < 1024 := by omega
  have hy : (win0_7.blk t).view.emb y = ix2 ⟨688 * (t.val % 6) + (y 0).val, hi⟩ ⟨512 * (t.val / 6) + (y 1).val, hj⟩ := by
    blk_ext [idx t] <;> dsimp [ix2] <;> omega
  blk_simp
  rw [after0_7, hy, left7]
  exact (congrArg _ (ValueIdx.eq_ix2 y)).trans (point_c m c t (y 0) (y 1) hi hj)

/-- The kernel's derivative by the attention's gate is the reference's. -/
theorem array_ga : (dats m 0 c).arrAt 8 (cfgs 0).N = Cert.Reference14Ideal.Read.val_main_v39 (F := Ideal) (m (c, main_arg0)) (m (c, main_arg1)) (m (c, main_arg2)) := by
  refine (dats m 0 c).arrAt_eq_of_covers 8 _ (by decide +kernel) fun t hf y => ?_
  have h0 : (y 0).val < 688 := (y 0).isLt
  have h1 : (y 1).val < 512 := (y 1).isLt
  have ht : t.val < 12 := lt_of_lt_of_eq t.isLt N_0
  have hi : 688 * (t.val % 6) + (y 0).val < 4128 := by omega
  have hj : 512 * (t.val / 6) + (y 1).val < 1024 := by omega
  have hy : (win0_8.blk t).view.emb y = ix2 ⟨688 * (t.val % 6) + (y 0).val, hi⟩ ⟨512 * (t.val / 6) + (y 1).val, hj⟩ := by
    blk_ext [idx t] <;> dsimp [ix2] <;> omega
  blk_simp
  rw [after0_8, hy, left8]
  exact (congrArg _ (ValueIdx.eq_ix2 y)).trans (point_ga m c t (y 0) (y 1) hi hj)

/-- The kernel's derivative by the convolution's gate is the reference's. -/
theorem array_gc : (dats m 0 c).arrAt 9 (cfgs 0).N = Cert.Reference14Ideal.Read.val_main_v40 (F := Ideal) (m (c, main_arg0)) (m (c, main_arg1)) (m (c, main_arg3)) (m (c, main_arg4)) := by
  refine (dats m 0 c).arrAt_eq_of_covers 9 _ (by decide +kernel) fun t hf y => ?_
  have h0 : (y 0).val < 688 := (y 0).isLt
  have h1 : (y 1).val < 512 := (y 1).isLt
  have ht : t.val < 12 := lt_of_lt_of_eq t.isLt N_0
  have hi : 688 * (t.val % 6) + (y 0).val < 4128 := by omega
  have hj : 512 * (t.val / 6) + (y 1).val < 1024 := by omega
  have hy : (win0_9.blk t).view.emb y = ix2 ⟨688 * (t.val % 6) + (y 0).val, hi⟩ ⟨512 * (t.val / 6) + (y 1).val, hj⟩ := by
    blk_ext [idx t] <;> dsimp [ix2] <;> omega
  blk_simp
  rw [after0_9, hy, left9]
  exact (congrArg _ (ValueIdx.eq_ix2 y)).trans (point_gc m c t (y 0) (y 1) hi hj)

/-- The kernel's derivative by the bias is the reference's. -/
theorem array_b : (dats m 0 c).arrAt 10 (cfgs 0).N = Cert.Reference14Ideal.Read.val_main_v32 (F := Ideal) (m (c, main_arg0)) (m (c, main_arg1)) := by
  refine (dats m 0 c).arrAt_eq_of_covers 10 _ (by decide +kernel) fun t hf y => ?_
  have h0 : (y 0).val < 1 := (y 0).isLt
  have h1 : (y 1).val < 512 := (y 1).isLt
  have ht : t.val < 12 := lt_of_lt_of_eq t.isLt N_0
  have hr : t.val % 6 = 6 - 1 := (flush0_10 t).mp hf
  have hj : 512 * (t.val / 6) + (y 1).val < 1024 := by omega
  have hy : (win0_10.blk t).view.emb y = ix2 (0 : Fin 1) ⟨512 * (t.val / 6) + (y 1).val, hj⟩ := by
    blk_ext [idx t] <;> dsimp [ix2] <;> omega
  blk_simp
  rw [after0_10, hy]
  refine (left10 m c t hr y).trans (Eq.trans ?_ (Cert.Reference14Ideal.Read.entry_b _ _ _ _).symm)
  refine Eq.trans ?_ (sum_stretches 6 688 4128 rfl _).symm
  refine Finset.sum_congr rfl fun s _ => ?_
  have hs := s.isLt
  refine (point_b m c ⟨6 * (t.val / 6) + s.val, Pipeline.run_point_lt_of_flush t hr s⟩ y (by dsimp only; omega) (by omega)).trans ?_
  refine Finset.sum_congr rfl fun k _ => ?_
  refine congrArg (fun a => (Cert.Reference14Ideal.Read.val_main_v29 (F := Ideal) (m (c, main_arg0)) (m (c, main_arg1)) a : EReal)) ?_
  refine congrArg₂ ix2 (Fin.ext ?_) (Fin.ext ?_)
  · dsimp only; omega
  · dsimp only; omega

end Cert.Kernel14Ideal.Gen

end
-- ==== Proof.Optimizer.lean ====
/- The optimiser's step at one entry. -/
module

public import proofs.«01_k».proof.Proof.Products

@[expose] public section

noncomputable section

namespace Cert.Optimizer

open Idealize.ShloMosaic

/-- The eight devices' terms, one after another. -/
theorem sum_eight (f : Fin 8 → EReal) : ∑ d, f d = f 0 + f 1 + f 2 + f 3 + f 4 + f 5 + f 6 + f 7 := Fin.sum_univ_eight f

variable (g m v w : Ideal .f32)

/-- The first moment after the step. -/
def moment : Ideal .f32 :=
  FloatOps.addf (FloatOps.mulf (FloatOps.ofBits .f32 0x3F666666#32) m) (FloatOps.mulf (FloatOps.ofBits .f32 0x3DCCCCCD#32) g)

/-- The second moment after it. -/
def square : Ideal .f32 :=
  FloatOps.addf (FloatOps.mulf (FloatOps.ofBits .f32 0x3F7FBE77#32) v) (FloatOps.mulf (FloatOps.ofBits .f32 0x3A83126F#32) (FloatOps.mulf g g))

/-- The change, from the moments after the step. -/
def change (s q w : Ideal .f32) : Ideal .f32 :=
  FloatOps.mulf (FloatOps.ofBits .f32 0xBA83126F#32) (FloatOps.addf
    (FloatOps.divf (FloatOps.divf s (FloatOps.ofBits .f32 0x3F26BD02#32))
      (FloatOps.addf (FloatOps.sqrt (FloatOps.divf q (FloatOps.ofBits .f32 0x3C231ACC#32))) (FloatOps.ofBits .f32 0x322BCC77#32)))
    (FloatOps.mulf (FloatOps.ofBits .f32 0x3C23D70A#32) w))

/-- The change. -/
def delta : Ideal .f32 := change (moment g m) (square g v) w

end Cert.Optimizer

end
-- ==== Proof.OptSquare.lean ====
/- The optimiser's step on a share of a square matrix: the gradient summed over the devices, the change, and the two moments. -/
module

public import proofs.«01_k».proof.Proof.Gen.Kernel15Ideal.Value
public import proofs.«01_k».proof.Proof.Gen.Reference15Ideal.Read
public import proofs.«01_k».proof.Proof.Optimizer
public import Idealize.ShloMosaic.Lib.Pipeline.ValueKit

@[expose] public section

noncomputable section

namespace Cert.Reference15Ideal.Read

open Idealize.ShloMosaic hiding ix1 ix2 ix3 ix4 ix5
open Idealize.ShloMosaic.ValueIdx Cert.Products Cert.Reference15Ideal Cert.Optimizer

variable (p : (⟨S8x128x1024, .bf16⟩ : BufTy).Contents (Elt Ideal)) (w m v : (⟨S128x1024, .f32⟩ : BufTy).Contents (Elt Ideal)) (i : Fin 128) (j : Fin 1024)

/-- The reference's gradient at an entry. -/
theorem entry_grad : (val_main_v1 (F := Ideal) p (ix2 i j) : EReal) = ∑ d : Fin 8, (p (ix3 d i j) : EReal) :=
  (val_main_v1_apply p (ix2 i j)).trans ((congrArg (· + _) Ideal.ofBits_zero_f32).trans ((zero_add _).trans
    (Finset.sum_congr rfl fun d _ => congrArg (fun a => (p a : EReal)) (ValueIdx.eq_ix3 _))))

/-- Its first moment. -/
theorem entry_moment : val_main_v6 (F := Ideal) p m (ix2 i j) = moment (val_main_v1 (F := Ideal) p (ix2 i j)) (m (ix2 i j)) := by
  rw [val_main_v6_apply, val_main_v3_apply, val_main_v5_apply, val_main_v2_apply, val_main_v4_apply, val_main_cst_0_apply, val_main_cst_1_apply]
  rfl

/-- Its second moment. -/
theorem entry_square : val_main_v12 (F := Ideal) p v (ix2 i j) = square (val_main_v1 (F := Ideal) p (ix2 i j)) (v (ix2 i j)) := by
  rw [val_main_v12_apply, val_main_v8_apply, val_main_v11_apply, val_main_v9_apply, val_main_v7_apply, val_main_v10_apply, val_main_cst_2_apply, val_main_cst_3_apply]
  rfl

/-- Its change. -/
theorem entry_delta : val_main_v25 (F := Ideal) p w m v (ix2 i j)
    = delta (val_main_v1 (F := Ideal) p (ix2 i j)) (m (ix2 i j)) (v (ix2 i j)) (w (ix2 i j)) := by
  rw [val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, entry_moment, entry_square, val_main_cst_4_apply, val_main_cst_5_apply,
    val_main_cst_6_apply, val_main_cst_7_apply, val_main_cst_8_apply]
  rfl

end Cert.Reference15Ideal.Read

namespace Cert.Kernel15Ideal.Gen

open Idealize.ShloMosaic hiding ix1 ix2 ix3 ix4 ix5
open Idealize.ShloMosaic.ValueIdx Cert.Products Cert.Kernel15Ideal Cert.Optimizer
open Idealize.ShloMosaic.TcCoe Idealize.SL.Sem
open Idealize.ShloMosaic.Pipeline (Dat)

variable (m : (ℓ : Loc nD τ sig) → Buf (Elt Ideal) ℓ) (c : Dev nD)

section

variable (x0 : Vec Ideal S8x128x1024 .bf16) (x1 x2 x3 : Vec Ideal S128x1024 .f32) (i : Fin 128) (j : Fin 1024)

/-- The eight parts' sum at an entry. -/
def total : EReal := ∑ d : Fin 8, (x0 (ix3 d i j) : EReal)

/-- One device's part, at an entry. -/
theorem part (d : Fin 8) (h : ∀ a, ![d.val, 0, 0] a + S1x128x1024.size a ≤ S8x128x1024.size a) :
    (shapeCast S128x1024 (View.ld x0 (Rect.unit (s := S8x128x1024) ![d.val, 0, 0] S1x128x1024.size h)) shapeCasts_S1x128x1024_S128x1024 (ix2 i j) : EReal) = x0 (ix3 d i j) := by
  refine (shapeCast_1ab_ab_apply _ _ i j).trans ?_
  refine congrArg (fun a => (x0 a : EReal)) (funext fun a => Fin.ext ?_)
  match a with
  | ⟨0, _⟩ => show d.val + 1 * 0 = d.val; omega
  | ⟨1, _⟩ => show 0 + 1 * i.val = i.val; omega
  | ⟨2, _⟩ => show 0 + 1 * j.val = j.val; omega

/-- The gradient a step sums, at an entry. -/
theorem summed : (k0_pay5 x0 x1 x2 x3 (ix2 i j) : EReal) = total x0 i j := by
  unfold total
  rw [sum_eight]
  unfold k0_pay5 k0_pay4
  exact congrArg₂ (· + ·) (congrArg₂ (· + ·) (congrArg₂ (· + ·) (congrArg₂ (· + ·) (congrArg₂ (· + ·) (congrArg₂ (· + ·) (congrArg₂ (· + ·)
    (part x0 i j 0 _) (part x0 i j 1 _)) (part x0 i j 2 _)) (part x0 i j 3 _)) (part x0 i j 4 _)) (part x0 i j 5 _)) (part x0 i j 6 _)) (part x0 i j 7 _)

/-- What a step leaves of the gradient. -/
theorem step_grad : (out0_4 x0 x1 x2 x3 (ix2 i j) : EReal) = total x0 i j := by
  unfold out0_4
  rw [View.canon_cons_unit_lit _ _ _ (by decide)]
  exact summed x0 x1 x2 x3 i j

/-- What it leaves of the change. -/
theorem step_delta : out0_5 x0 x1 x2 x3 (ix2 i j) = delta (total x0 i j) (x2 (ix2 i j)) (x3 (ix2 i j)) (x1 (ix2 i j)) := by
  unfold out0_5
  rw [View.canon_cons_unit_lit _ _ _ (by decide), View.ld_unit_lit _ _ (by decide), View.ld_unit_lit _ _ (by decide), View.ld_unit_lit _ _ (by decide)]
  exact congrArg (fun g => delta g (x2 (ix2 i j)) (x3 (ix2 i j)) (x1 (ix2 i j))) (summed x0 x1 x2 x3 i j)

/-- What it leaves of the first moment. -/
theorem step_moment : out0_6 x0 x1 x2 x3 (ix2 i j) = moment (total x0 i j) (x2 (ix2 i j)) := by
  unfold out0_6
  rw [View.canon_cons_unit_lit _ _ _ (by decide), View.ld_unit_lit _ _ (by decide)]
  exact congrArg (fun g => moment g (x2 (ix2 i j))) (summed x0 x1 x2 x3 i j)

/-- What it leaves of the second moment. -/
theorem step_square : out0_7 x0 x1 x2 x3 (ix2 i j) = square (total x0 i j) (x3 (ix2 i j)) := by
  unfold out0_7
  rw [View.canon_cons_unit_lit _ _ _ (by decide), View.ld_unit_lit _ _ (by decide)]
  exact congrArg (fun g => square g (x3 (ix2 i j))) (summed x0 x1 x2 x3 i j)

end

/-- The index maps. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section

variable (t : Fin cfg0.N) (i : Fin 128) (j : Fin 1024) (hi : 128 * t.val + i.val < 128)

theorem block0 (d : Fin 8) : iblk m c 0 t (ix3 d i j) = m (c, main_arg0) (ix3 d ⟨128 * t.val + i.val, hi⟩ j) := by
  rw [show m (c, main_arg0) = V m c main_arg0 from (V_main_arg0 m c).symm]
  blk_ext [iblk, idx t] <;> dsimp [ix2, ix3] <;> omega

theorem block1 : iblk m c 1 t (ix2 i j) = m (c, main_arg1) (ix2 ⟨128 * t.val + i.val, hi⟩ j) := by
  rw [show m (c, main_arg1) = V m c main_arg1 from (V_main_arg1 m c).symm]
  blk_ext [iblk, idx t] <;> dsimp [ix2, ix3] <;> omega

theorem block2 : iblk m c 2 t (ix2 i j) = m (c, main_arg2) (ix2 ⟨128 * t.val + i.val, hi⟩ j) := by
  rw [show m (c, main_arg2) = V m c main_arg2 from (V_main_arg2 m c).symm]
  blk_ext [iblk, idx t] <;> dsimp [ix2, ix3] <;> omega

theorem block3 : iblk m c 3 t (ix2 i j) = m (c, main_arg3) (ix2 ⟨128 * t.val + i.val, hi⟩ j) := by
  rw [show m (c, main_arg3) = V m c main_arg3 from (V_main_arg3 m c).symm]
  blk_ext [iblk, idx t] <;> dsimp [ix2, ix3] <;> omega

/-- The gradient a step sums is the reference's. -/
theorem blocks0 : total (iblk m c 0 t) i j = Cert.Reference15Ideal.Read.val_main_v1 (F := Ideal) (m (c, main_arg0)) (ix2 ⟨_, hi⟩ j) := by
  refine Eq.trans ?_ (Cert.Reference15Ideal.Read.entry_grad _ _ _).symm
  unfold total
  exact Finset.sum_congr rfl fun d _ => block0 m c t i j hi d

theorem point_grad : out0_4 (iblk m c 0 t) (iblk m c 1 t) (iblk m c 2 t) (iblk m c 3 t) (ix2 i j)
    = Cert.Reference15Ideal.Read.val_main_v1 (F := Ideal) (m (c, main_arg0)) (ix2 ⟨_, hi⟩ j) :=
  (step_grad _ _ _ _ i j).trans (blocks0 m c t i j hi)

theorem point_delta : out0_5 (iblk m c 0 t) (iblk m c 1 t) (iblk m c 2 t) (iblk m c 3 t) (ix2 i j)
    = Cert.Reference15Ideal.Read.val_main_v25 (F := Ideal) (m (c, main_arg0)) (m (c, main_arg1)) (m (c, main_arg2)) (m (c, main_arg3)) (ix2 ⟨_, hi⟩ j) := by
  refine (step_delta _ _ _ _ i j).trans (Eq.trans ?_ (Cert.Reference15Ideal.Read.entry_delta _ _ _ _ _ _).symm)
  rw [blocks0 m c t i j hi, block2 m c t i j hi, block3 m c t i j hi, block1 m c t i j hi]

theorem point_moment : out0_6 (iblk m c 0 t) (iblk m c 1 t) (iblk m c 2 t) (iblk m c 3 t) (ix2 i j)
    = Cert.Reference15Ideal.Read.val_main_v6 (F := Ideal) (m (c, main_arg0)) (m (c, main_arg2)) (ix2 ⟨_, hi⟩ j) := by
  refine (step_moment _ _ _ _ i j).trans (Eq.trans ?_ (Cert.Reference15Ideal.Read.entry_moment _ _ _ _).symm)
  rw [blocks0 m c t i j hi, block2 m c t i j hi]

theorem point_square : out0_7 (iblk m c 0 t) (iblk m c 1 t) (iblk m c 2 t) (iblk m c 3 t) (ix2 i j)
    = Cert.Reference15Ideal.Read.val_main_v12 (F := Ideal) (m (c, main_arg0)) (m (c, main_arg3)) (ix2 ⟨_, hi⟩ j) := by
  refine (step_square _ _ _ _ i j).trans (Eq.trans ?_ (Cert.Reference15Ideal.Read.entry_square _ _ _ _).symm)
  rw [blocks0 m c t i j hi, block3 m c t i j hi]

end

/-- The kernel's gradient is the reference's. -/
theorem array_grad : (dats m 0 c).arrAt 4 (cfgs 0).N
    = Cert.Reference15Ideal.Read.val_main_v1 (F := Ideal) (m (c, main_arg0)) := by
  refine (dats m 0 c).arrAt_eq_of_covers 4 _ (by decide +kernel) fun t hf y => ?_
  have h0 : (y 0).val < 128 := (y 0).isLt
  have h1 : (y 1).val < 1024 := (y 1).isLt
  have ht : t.val < 1 := lt_of_lt_of_eq t.isLt N_0
  have hi : 128 * t.val + (y 0).val < 128 := by omega
  have hy : (win0_4.blk t).view.emb y = ix2 ⟨128 * t.val + (y 0).val, hi⟩ (y 1) := by
    blk_ext [idx t] <;> dsimp [ix2, ix3] <;> omega
  blk_simp
  rw [after0_4, hy]
  exact (congrArg _ (ValueIdx.eq_ix2 y)).trans (point_grad m c t (y 0) (y 1) hi)

/-- The kernel's change is the reference's. -/
theorem array_delta : (dats m 0 c).arrAt 5 (cfgs 0).N
    = Cert.Reference15Ideal.Read.val_main_v25 (F := Ideal) (m (c, main_arg0)) (m (c, main_arg1)) (m (c, main_arg2)) (m (c, main_arg3)) := by
  refine (dats m 0 c).arrAt_eq_of_covers 5 _ (by decide +kernel) fun t hf y => ?_
  have h0 : (y 0).val < 128 := (y 0).isLt
  have h1 : (y 1).val < 1024 := (y 1).isLt
  have ht : t.val < 1 := lt_of_lt_of_eq t.isLt N_0
  have hi : 128 * t.val + (y 0).val < 128 := by omega
  have hy : (win0_5.blk t).view.emb y = ix2 ⟨128 * t.val + (y 0).val, hi⟩ (y 1) := by
    blk_ext [idx t] <;> dsimp [ix2, ix3] <;> omega
  blk_simp
  rw [after0_5, hy]
  exact (congrArg _ (ValueIdx.eq_ix2 y)).trans (point_delta m c t (y 0) (y 1) hi)

/-- The kernel's first moment is the reference's. -/
theorem array_moment : (dats m 0 c).arrAt 6 (cfgs 0).N
    = Cert.Reference15Ideal.Read.val_main_v6 (F := Ideal) (m (c, main_arg0)) (m (c, main_arg2)) := by
  refine (dats m 0 c).arrAt_eq_of_covers 6 _ (by decide +kernel) fun t hf y => ?_
  have h0 : (y 0).val < 128 := (y 0).isLt
  have h1 : (y 1).val < 1024 := (y 1).isLt
  have ht : t.val < 1 := lt_of_lt_of_eq t.isLt N_0
  have hi : 128 * t.val + (y 0).val < 128 := by omega
  have hy : (win0_6.blk t).view.emb y = ix2 ⟨128 * t.val + (y 0).val, hi⟩ (y 1) := by
    blk_ext [idx t] <;> dsimp [ix2, ix3] <;> omega
  blk_simp
  rw [after0_6, hy]
  exact (congrArg _ (ValueIdx.eq_ix2 y)).trans (point_moment m c t (y 0) (y 1) hi)

/-- The kernel's second moment is the reference's. -/
theorem array_square : (dats m 0 c).arrAt 7 (cfgs 0).N
    = Cert.Reference15Ideal.Read.val_main_v12 (F := Ideal) (m (c, main_arg0)) (m (c, main_arg3)) := by
  refine (dats m 0 c).arrAt_eq_of_covers 7 _ (by decide +kernel) fun t hf y => ?_
  have h0 : (y 0).val < 128 := (y 0).isLt
  have h1 : (y 1).val < 1024 := (y 1).isLt
  have ht : t.val < 1 := lt_of_lt_of_eq t.isLt N_0
  have hi : 128 * t.val + (y 0).val < 128 := by omega
  have hy : (win0_7.blk t).view.emb y = ix2 ⟨128 * t.val + (y 0).val, hi⟩ (y 1) := by
    blk_ext [idx t] <;> dsimp [ix2, ix3] <;> omega
  blk_simp
  rw [after0_7, hy]
  exact (congrArg _ (ValueIdx.eq_ix2 y)).trans (point_square m c t (y 0) (y 1) hi)

end Cert.Kernel15Ideal.Gen

end
-- ==== Proof.OptMlpDown.lean ====
/- The optimiser's step on a share of the MLP's down matrix: the gradient summed over the devices, the change, and the two moments. -/
module

public import proofs.«01_k».proof.Proof.Gen.Kernel16Ideal.Value
public import proofs.«01_k».proof.Proof.Gen.Reference16Ideal.Read
public import proofs.«01_k».proof.Proof.Optimizer
public import Idealize.ShloMosaic.Lib.Pipeline.ValueKit

@[expose] public section

noncomputable section

namespace Cert.Reference16Ideal.Read

open Idealize.ShloMosaic hiding ix1 ix2 ix3 ix4 ix5
open Idealize.ShloMosaic.ValueIdx Cert.Products Cert.Reference16Ideal Cert.Optimizer

variable (p : (⟨S8x512x1024, .bf16⟩ : BufTy).Contents (Elt Ideal)) (w m v : (⟨S512x1024, .f32⟩ : BufTy).Contents (Elt Ideal)) (i : Fin 512) (j : Fin 1024)

/-- The reference's gradient at an entry. -/
theorem entry_grad : (val_main_v1 (F := Ideal) p (ix2 i j) : EReal) = ∑ d : Fin 8, (p (ix3 d i j) : EReal) :=
  (val_main_v1_apply p (ix2 i j)).trans ((congrArg (· + _) Ideal.ofBits_zero_f32).trans ((zero_add _).trans
    (Finset.sum_congr rfl fun d _ => congrArg (fun a => (p a : EReal)) (ValueIdx.eq_ix3 _))))

/-- Its first moment. -/
theorem entry_moment : val_main_v6 (F := Ideal) p m (ix2 i j) = moment (val_main_v1 (F := Ideal) p (ix2 i j)) (m (ix2 i j)) := by
  rw [val_main_v6_apply, val_main_v3_apply, val_main_v5_apply, val_main_v2_apply, val_main_v4_apply, val_main_cst_0_apply, val_main_cst_1_apply]
  rfl

/-- Its second moment. -/
theorem entry_square : val_main_v12 (F := Ideal) p v (ix2 i j) = square (val_main_v1 (F := Ideal) p (ix2 i j)) (v (ix2 i j)) := by
  rw [val_main_v12_apply, val_main_v8_apply, val_main_v11_apply, val_main_v9_apply, val_main_v7_apply, val_main_v10_apply, val_main_cst_2_apply, val_main_cst_3_apply]
  rfl

/-- Its change. -/
theorem entry_delta : val_main_v25 (F := Ideal) p w m v (ix2 i j)
    = delta (val_main_v1 (F := Ideal) p (ix2 i j)) (m (ix2 i j)) (v (ix2 i j)) (w (ix2 i j)) := by
  rw [val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, entry_moment, entry_square, val_main_cst_4_apply, val_main_cst_5_apply,
    val_main_cst_6_apply, val_main_cst_7_apply, val_main_cst_8_apply]
  rfl

end Cert.Reference16Ideal.Read

namespace Cert.Kernel16Ideal.Gen

open Idealize.ShloMosaic hiding ix1 ix2 ix3 ix4 ix5
open Idealize.ShloMosaic.ValueIdx Cert.Products Cert.Kernel16Ideal Cert.Optimizer
open Idealize.ShloMosaic.TcCoe Idealize.SL.Sem
open Idealize.ShloMosaic.Pipeline (Dat)

variable (m : (ℓ : Loc nD τ sig) → Buf (Elt Ideal) ℓ) (c : Dev nD)

section

variable (x0 : Vec Ideal S8x128x1024 .bf16) (x1 x2 x3 : Vec Ideal S128x1024 .f32) (i : Fin 128) (j : Fin 1024)

/-- The eight parts' sum at an entry. -/
def total : EReal := ∑ d : Fin 8, (x0 (ix3 d i j) : EReal)

/-- One device's part, at an entry. -/
theorem part (d : Fin 8) (h : ∀ a, ![d.val, 0, 0] a + S1x128x1024.size a ≤ S8x128x1024.size a) :
    (shapeCast S128x1024 (View.ld x0 (Rect.unit (s := S8x128x1024) ![d.val, 0, 0] S1x128x1024.size h)) shapeCasts_S1x128x1024_S128x1024 (ix2 i j) : EReal) = x0 (ix3 d i j) := by
  refine (shapeCast_1ab_ab_apply _ _ i j).trans ?_
  refine congrArg (fun a => (x0 a : EReal)) (funext fun a => Fin.ext ?_)
  match a with
  | ⟨0, _⟩ => show d.val + 1 * 0 = d.val; omega
  | ⟨1, _⟩ => show 0 + 1 * i.val = i.val; omega
  | ⟨2, _⟩ => show 0 + 1 * j.val = j.val; omega

/-- The gradient a step sums, at an entry. -/
theorem summed : (k0_pay5 x0 x1 x2 x3 (ix2 i j) : EReal) = total x0 i j := by
  unfold total
  rw [sum_eight]
  unfold k0_pay5 k0_pay4
  exact congrArg₂ (· + ·) (congrArg₂ (· + ·) (congrArg₂ (· + ·) (congrArg₂ (· + ·) (congrArg₂ (· + ·) (congrArg₂ (· + ·) (congrArg₂ (· + ·)
    (part x0 i j 0 _) (part x0 i j 1 _)) (part x0 i j 2 _)) (part x0 i j 3 _)) (part x0 i j 4 _)) (part x0 i j 5 _)) (part x0 i j 6 _)) (part x0 i j 7 _)

/-- What a step leaves of the gradient. -/
theorem step_grad : (out0_4 x0 x1 x2 x3 (ix2 i j) : EReal) = total x0 i j := by
  unfold out0_4
  rw [View.canon_cons_unit_lit _ _ _ (by decide)]
  exact summed x0 x1 x2 x3 i j

/-- What it leaves of the change. -/
theorem step_delta : out0_5 x0 x1 x2 x3 (ix2 i j) = delta (total x0 i j) (x2 (ix2 i j)) (x3 (ix2 i j)) (x1 (ix2 i j)) := by
  unfold out0_5
  rw [View.canon_cons_unit_lit _ _ _ (by decide), View.ld_unit_lit _ _ (by decide), View.ld_unit_lit _ _ (by decide), View.ld_unit_lit _ _ (by decide)]
  exact congrArg (fun g => delta g (x2 (ix2 i j)) (x3 (ix2 i j)) (x1 (ix2 i j))) (summed x0 x1 x2 x3 i j)

/-- What it leaves of the first moment. -/
theorem step_moment : out0_6 x0 x1 x2 x3 (ix2 i j) = moment (total x0 i j) (x2 (ix2 i j)) := by
  unfold out0_6
  rw [View.canon_cons_unit_lit _ _ _ (by decide), View.ld_unit_lit _ _ (by decide)]
  exact congrArg (fun g => moment g (x2 (ix2 i j))) (summed x0 x1 x2 x3 i j)

/-- What it leaves of the second moment. -/
theorem step_square : out0_7 x0 x1 x2 x3 (ix2 i j) = square (total x0 i j) (x3 (ix2 i j)) := by
  unfold out0_7
  rw [View.canon_cons_unit_lit _ _ _ (by decide), View.ld_unit_lit _ _ (by decide)]
  exact congrArg (fun g => square g (x3 (ix2 i j))) (summed x0 x1 x2 x3 i j)

end

/-- The index maps. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section

variable (t : Fin cfg0.N) (i : Fin 128) (j : Fin 1024) (hi : 128 * t.val + i.val < 512)

theorem block0 (d : Fin 8) : iblk m c 0 t (ix3 d i j) = m (c, main_arg0) (ix3 d ⟨128 * t.val + i.val, hi⟩ j) := by
  rw [show m (c, main_arg0) = V m c main_arg0 from (V_main_arg0 m c).symm]
  blk_ext [iblk, idx t] <;> dsimp [ix2, ix3] <;> omega

theorem block1 : iblk m c 1 t (ix2 i j) = m (c, main_arg1) (ix2 ⟨128 * t.val + i.val, hi⟩ j) := by
  rw [show m (c, main_arg1) = V m c main_arg1 from (V_main_arg1 m c).symm]
  blk_ext [iblk, idx t] <;> dsimp [ix2, ix3] <;> omega

theorem block2 : iblk m c 2 t (ix2 i j) = m (c, main_arg2) (ix2 ⟨128 * t.val + i.val, hi⟩ j) := by
  rw [show m (c, main_arg2) = V m c main_arg2 from (V_main_arg2 m c).symm]
  blk_ext [iblk, idx t] <;> dsimp [ix2, ix3] <;> omega

theorem block3 : iblk m c 3 t (ix2 i j) = m (c, main_arg3) (ix2 ⟨128 * t.val + i.val, hi⟩ j) := by
  rw [show m (c, main_arg3) = V m c main_arg3 from (V_main_arg3 m c).symm]
  blk_ext [iblk, idx t] <;> dsimp [ix2, ix3] <;> omega

/-- The gradient a step sums is the reference's. -/
theorem blocks0 : total (iblk m c 0 t) i j = Cert.Reference16Ideal.Read.val_main_v1 (F := Ideal) (m (c, main_arg0)) (ix2 ⟨_, hi⟩ j) := by
  refine Eq.trans ?_ (Cert.Reference16Ideal.Read.entry_grad _ _ _).symm
  unfold total
  exact Finset.sum_congr rfl fun d _ => block0 m c t i j hi d

theorem point_grad : out0_4 (iblk m c 0 t) (iblk m c 1 t) (iblk m c 2 t) (iblk m c 3 t) (ix2 i j)
    = Cert.Reference16Ideal.Read.val_main_v1 (F := Ideal) (m (c, main_arg0)) (ix2 ⟨_, hi⟩ j) :=
  (step_grad _ _ _ _ i j).trans (blocks0 m c t i j hi)

theorem point_delta : out0_5 (iblk m c 0 t) (iblk m c 1 t) (iblk m c 2 t) (iblk m c 3 t) (ix2 i j)
    = Cert.Reference16Ideal.Read.val_main_v25 (F := Ideal) (m (c, main_arg0)) (m (c, main_arg1)) (m (c, main_arg2)) (m (c, main_arg3)) (ix2 ⟨_, hi⟩ j) := by
  refine (step_delta _ _ _ _ i j).trans (Eq.trans ?_ (Cert.Reference16Ideal.Read.entry_delta _ _ _ _ _ _).symm)
  rw [blocks0 m c t i j hi, block2 m c t i j hi, block3 m c t i j hi, block1 m c t i j hi]

theorem point_moment : out0_6 (iblk m c 0 t) (iblk m c 1 t) (iblk m c 2 t) (iblk m c 3 t) (ix2 i j)
    = Cert.Reference16Ideal.Read.val_main_v6 (F := Ideal) (m (c, main_arg0)) (m (c, main_arg2)) (ix2 ⟨_, hi⟩ j) := by
  refine (step_moment _ _ _ _ i j).trans (Eq.trans ?_ (Cert.Reference16Ideal.Read.entry_moment _ _ _ _).symm)
  rw [blocks0 m c t i j hi, block2 m c t i j hi]

theorem point_square : out0_7 (iblk m c 0 t) (iblk m c 1 t) (iblk m c 2 t) (iblk m c 3 t) (ix2 i j)
    = Cert.Reference16Ideal.Read.val_main_v12 (F := Ideal) (m (c, main_arg0)) (m (c, main_arg3)) (ix2 ⟨_, hi⟩ j) := by
  refine (step_square _ _ _ _ i j).trans (Eq.trans ?_ (Cert.Reference16Ideal.Read.entry_square _ _ _ _).symm)
  rw [blocks0 m c t i j hi, block3 m c t i j hi]

end

/-- The kernel's gradient is the reference's. -/
theorem array_grad : (dats m 0 c).arrAt 4 (cfgs 0).N
    = Cert.Reference16Ideal.Read.val_main_v1 (F := Ideal) (m (c, main_arg0)) := by
  refine (dats m 0 c).arrAt_eq_of_covers 4 _ (by decide +kernel) fun t hf y => ?_
  have h0 : (y 0).val < 128 := (y 0).isLt
  have h1 : (y 1).val < 1024 := (y 1).isLt
  have ht : t.val < 4 := lt_of_lt_of_eq t.isLt N_0
  have hi : 128 * t.val + (y 0).val < 512 := by omega
  have hy : (win0_4.blk t).view.emb y = ix2 ⟨128 * t.val + (y 0).val, hi⟩ (y 1) := by
    blk_ext [idx t] <;> dsimp [ix2, ix3] <;> omega
  blk_simp
  rw [after0_4, hy]
  exact (congrArg _ (ValueIdx.eq_ix2 y)).trans (point_grad m c t (y 0) (y 1) hi)

/-- The kernel's change is the reference's. -/
theorem array_delta : (dats m 0 c).arrAt 5 (cfgs 0).N
    = Cert.Reference16Ideal.Read.val_main_v25 (F := Ideal) (m (c, main_arg0)) (m (c, main_arg1)) (m (c, main_arg2)) (m (c, main_arg3)) := by
  refine (dats m 0 c).arrAt_eq_of_covers 5 _ (by decide +kernel) fun t hf y => ?_
  have h0 : (y 0).val < 128 := (y 0).isLt
  have h1 : (y 1).val < 1024 := (y 1).isLt
  have ht : t.val < 4 := lt_of_lt_of_eq t.isLt N_0
  have hi : 128 * t.val + (y 0).val < 512 := by omega
  have hy : (win0_5.blk t).view.emb y = ix2 ⟨128 * t.val + (y 0).val, hi⟩ (y 1) := by
    blk_ext [idx t] <;> dsimp [ix2, ix3] <;> omega
  blk_simp
  rw [after0_5, hy]
  exact (congrArg _ (ValueIdx.eq_ix2 y)).trans (point_delta m c t (y 0) (y 1) hi)

/-- The kernel's first moment is the reference's. -/
theorem array_moment : (dats m 0 c).arrAt 6 (cfgs 0).N
    = Cert.Reference16Ideal.Read.val_main_v6 (F := Ideal) (m (c, main_arg0)) (m (c, main_arg2)) := by
  refine (dats m 0 c).arrAt_eq_of_covers 6 _ (by decide +kernel) fun t hf y => ?_
  have h0 : (y 0).val < 128 := (y 0).isLt
  have h1 : (y 1).val < 1024 := (y 1).isLt
  have ht : t.val < 4 := lt_of_lt_of_eq t.isLt N_0
  have hi : 128 * t.val + (y 0).val < 512 := by omega
  have hy : (win0_6.blk t).view.emb y = ix2 ⟨128 * t.val + (y 0).val, hi⟩ (y 1) := by
    blk_ext [idx t] <;> dsimp [ix2, ix3] <;> omega
  blk_simp
  rw [after0_6, hy]
  exact (congrArg _ (ValueIdx.eq_ix2 y)).trans (point_moment m c t (y 0) (y 1) hi)

/-- The kernel's second moment is the reference's. -/
theorem array_square : (dats m 0 c).arrAt 7 (cfgs 0).N
    = Cert.Reference16Ideal.Read.val_main_v12 (F := Ideal) (m (c, main_arg0)) (m (c, main_arg3)) := by
  refine (dats m 0 c).arrAt_eq_of_covers 7 _ (by decide +kernel) fun t hf y => ?_
  have h0 : (y 0).val < 128 := (y 0).isLt
  have h1 : (y 1).val < 1024 := (y 1).isLt
  have ht : t.val < 4 := lt_of_lt_of_eq t.isLt N_0
  have hi : 128 * t.val + (y 0).val < 512 := by omega
  have hy : (win0_7.blk t).view.emb y = ix2 ⟨128 * t.val + (y 0).val, hi⟩ (y 1) := by
    blk_ext [idx t] <;> dsimp [ix2, ix3] <;> omega
  blk_simp
  rw [after0_7, hy]
  exact (congrArg _ (ValueIdx.eq_ix2 y)).trans (point_square m c t (y 0) (y 1) hi)

end Cert.Kernel16Ideal.Gen

end
-- ==== Proof.OptMlpUp.lean ====
/- The optimiser's step on a share of the MLP's up matrix: the gradient summed over the devices, the change, and the two moments. -/
module

public import proofs.«01_k».proof.Proof.Gen.Kernel17Ideal.Value
public import proofs.«01_k».proof.Proof.Gen.Reference17Ideal.Read
public import proofs.«01_k».proof.Proof.Optimizer
public import Idealize.ShloMosaic.Lib.Pipeline.ValueKit

@[expose] public section

noncomputable section

namespace Cert.Reference17Ideal.Read

open Idealize.ShloMosaic hiding ix1 ix2 ix3 ix4 ix5
open Idealize.ShloMosaic.ValueIdx Cert.Products Cert.Reference17Ideal Cert.Optimizer

variable (p : (⟨S8x1024x512, .bf16⟩ : BufTy).Contents (Elt Ideal)) (w m v : (⟨S1024x512, .f32⟩ : BufTy).Contents (Elt Ideal)) (i : Fin 1024) (j : Fin 512)

/-- The reference's gradient at an entry. -/
theorem entry_grad : (val_main_v1 (F := Ideal) p (ix2 i j) : EReal) = ∑ d : Fin 8, (p (ix3 d i j) : EReal) :=
  (val_main_v1_apply p (ix2 i j)).trans ((congrArg (· + _) Ideal.ofBits_zero_f32).trans ((zero_add _).trans
    (Finset.sum_congr rfl fun d _ => congrArg (fun a => (p a : EReal)) (ValueIdx.eq_ix3 _))))

/-- Its first moment. -/
theorem entry_moment : val_main_v6 (F := Ideal) p m (ix2 i j) = moment (val_main_v1 (F := Ideal) p (ix2 i j)) (m (ix2 i j)) := by
  rw [val_main_v6_apply, val_main_v3_apply, val_main_v5_apply, val_main_v2_apply, val_main_v4_apply, val_main_cst_0_apply, val_main_cst_1_apply]
  rfl

/-- Its second moment. -/
theorem entry_square : val_main_v12 (F := Ideal) p v (ix2 i j) = square (val_main_v1 (F := Ideal) p (ix2 i j)) (v (ix2 i j)) := by
  rw [val_main_v12_apply, val_main_v8_apply, val_main_v11_apply, val_main_v9_apply, val_main_v7_apply, val_main_v10_apply, val_main_cst_2_apply, val_main_cst_3_apply]
  rfl

/-- Its change. -/
theorem entry_delta : val_main_v25 (F := Ideal) p w m v (ix2 i j)
    = delta (val_main_v1 (F := Ideal) p (ix2 i j)) (m (ix2 i j)) (v (ix2 i j)) (w (ix2 i j)) := by
  rw [val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, entry_moment, entry_square, val_main_cst_4_apply, val_main_cst_5_apply,
    val_main_cst_6_apply, val_main_cst_7_apply, val_main_cst_8_apply]
  rfl

end Cert.Reference17Ideal.Read

namespace Cert.Kernel17Ideal.Gen

open Idealize.ShloMosaic hiding ix1 ix2 ix3 ix4 ix5
open Idealize.ShloMosaic.ValueIdx Cert.Products Cert.Kernel17Ideal Cert.Optimizer
open Idealize.ShloMosaic.TcCoe Idealize.SL.Sem
open Idealize.ShloMosaic.Pipeline (Dat)

variable (m : (ℓ : Loc nD τ sig) → Buf (Elt Ideal) ℓ) (c : Dev nD)

section

variable (x0 : Vec Ideal S8x128x512 .bf16) (x1 x2 x3 : Vec Ideal S128x512 .f32) (i : Fin 128) (j : Fin 512)

/-- The eight parts' sum at an entry. -/
def total : EReal := ∑ d : Fin 8, (x0 (ix3 d i j) : EReal)

/-- One device's part, at an entry. -/
theorem part (d : Fin 8) (h : ∀ a, ![d.val, 0, 0] a + S1x128x512.size a ≤ S8x128x512.size a) :
    (shapeCast S128x512 (View.ld x0 (Rect.unit (s := S8x128x512) ![d.val, 0, 0] S1x128x512.size h)) shapeCasts_S1x128x512_S128x512 (ix2 i j) : EReal) = x0 (ix3 d i j) := by
  refine (shapeCast_1ab_ab_apply _ _ i j).trans ?_
  refine congrArg (fun a => (x0 a : EReal)) (funext fun a => Fin.ext ?_)
  match a with
  | ⟨0, _⟩ => show d.val + 1 * 0 = d.val; omega
  | ⟨1, _⟩ => show 0 + 1 * i.val = i.val; omega
  | ⟨2, _⟩ => show 0 + 1 * j.val = j.val; omega

/-- The gradient a step sums, at an entry. -/
theorem summed : (k0_pay5 x0 x1 x2 x3 (ix2 i j) : EReal) = total x0 i j := by
  unfold total
  rw [sum_eight]
  unfold k0_pay5 k0_pay4
  exact congrArg₂ (· + ·) (congrArg₂ (· + ·) (congrArg₂ (· + ·) (congrArg₂ (· + ·) (congrArg₂ (· + ·) (congrArg₂ (· + ·) (congrArg₂ (· + ·)
    (part x0 i j 0 _) (part x0 i j 1 _)) (part x0 i j 2 _)) (part x0 i j 3 _)) (part x0 i j 4 _)) (part x0 i j 5 _)) (part x0 i j 6 _)) (part x0 i j 7 _)

/-- What a step leaves of the gradient. -/
theorem step_grad : (out0_4 x0 x1 x2 x3 (ix2 i j) : EReal) = total x0 i j := by
  unfold out0_4
  rw [View.canon_cons_unit_lit _ _ _ (by decide)]
  exact summed x0 x1 x2 x3 i j

/-- What it leaves of the change. -/
theorem step_delta : out0_5 x0 x1 x2 x3 (ix2 i j) = delta (total x0 i j) (x2 (ix2 i j)) (x3 (ix2 i j)) (x1 (ix2 i j)) := by
  unfold out0_5
  rw [View.canon_cons_unit_lit _ _ _ (by decide), View.ld_unit_lit _ _ (by decide), View.ld_unit_lit _ _ (by decide), View.ld_unit_lit _ _ (by decide)]
  exact congrArg (fun g => delta g (x2 (ix2 i j)) (x3 (ix2 i j)) (x1 (ix2 i j))) (summed x0 x1 x2 x3 i j)

/-- What it leaves of the first moment. -/
theorem step_moment : out0_6 x0 x1 x2 x3 (ix2 i j) = moment (total x0 i j) (x2 (ix2 i j)) := by
  unfold out0_6
  rw [View.canon_cons_unit_lit _ _ _ (by decide), View.ld_unit_lit _ _ (by decide)]
  exact congrArg (fun g => moment g (x2 (ix2 i j))) (summed x0 x1 x2 x3 i j)

/-- What it leaves of the second moment. -/
theorem step_square : out0_7 x0 x1 x2 x3 (ix2 i j) = square (total x0 i j) (x3 (ix2 i j)) := by
  unfold out0_7
  rw [View.canon_cons_unit_lit _ _ _ (by decide), View.ld_unit_lit _ _ (by decide)]
  exact congrArg (fun g => square g (x3 (ix2 i j))) (summed x0 x1 x2 x3 i j)

end

/-- The index maps. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section

variable (t : Fin cfg0.N) (i : Fin 128) (j : Fin 512) (hi : 128 * t.val + i.val < 1024)

theorem block0 (d : Fin 8) : iblk m c 0 t (ix3 d i j) = m (c, main_arg0) (ix3 d ⟨128 * t.val + i.val, hi⟩ j) := by
  rw [show m (c, main_arg0) = V m c main_arg0 from (V_main_arg0 m c).symm]
  blk_ext [iblk, idx t] <;> dsimp [ix2, ix3] <;> omega

theorem block1 : iblk m c 1 t (ix2 i j) = m (c, main_arg1) (ix2 ⟨128 * t.val + i.val, hi⟩ j) := by
  rw [show m (c, main_arg1) = V m c main_arg1 from (V_main_arg1 m c).symm]
  blk_ext [iblk, idx t] <;> dsimp [ix2, ix3] <;> omega

theorem block2 : iblk m c 2 t (ix2 i j) = m (c, main_arg2) (ix2 ⟨128 * t.val + i.val, hi⟩ j) := by
  rw [show m (c, main_arg2) = V m c main_arg2 from (V_main_arg2 m c).symm]
  blk_ext [iblk, idx t] <;> dsimp [ix2, ix3] <;> omega

theorem block3 : iblk m c 3 t (ix2 i j) = m (c, main_arg3) (ix2 ⟨128 * t.val + i.val, hi⟩ j) := by
  rw [show m (c, main_arg3) = V m c main_arg3 from (V_main_arg3 m c).symm]
  blk_ext [iblk, idx t] <;> dsimp [ix2, ix3] <;> omega

/-- The gradient a step sums is the reference's. -/
theorem blocks0 : total (iblk m c 0 t) i j = Cert.Reference17Ideal.Read.val_main_v1 (F := Ideal) (m (c, main_arg0)) (ix2 ⟨_, hi⟩ j) := by
  refine Eq.trans ?_ (Cert.Reference17Ideal.Read.entry_grad _ _ _).symm
  unfold total
  exact Finset.sum_congr rfl fun d _ => block0 m c t i j hi d

theorem point_grad : out0_4 (iblk m c 0 t) (iblk m c 1 t) (iblk m c 2 t) (iblk m c 3 t) (ix2 i j)
    = Cert.Reference17Ideal.Read.val_main_v1 (F := Ideal) (m (c, main_arg0)) (ix2 ⟨_, hi⟩ j) :=
  (step_grad _ _ _ _ i j).trans (blocks0 m c t i j hi)

theorem point_delta : out0_5 (iblk m c 0 t) (iblk m c 1 t) (iblk m c 2 t) (iblk m c 3 t) (ix2 i j)
    = Cert.Reference17Ideal.Read.val_main_v25 (F := Ideal) (m (c, main_arg0)) (m (c, main_arg1)) (m (c, main_arg2)) (m (c, main_arg3)) (ix2 ⟨_, hi⟩ j) := by
  refine (step_delta _ _ _ _ i j).trans (Eq.trans ?_ (Cert.Reference17Ideal.Read.entry_delta _ _ _ _ _ _).symm)
  rw [blocks0 m c t i j hi, block2 m c t i j hi, block3 m c t i j hi, block1 m c t i j hi]

theorem point_moment : out0_6 (iblk m c 0 t) (iblk m c 1 t) (iblk m c 2 t) (iblk m c 3 t) (ix2 i j)
    = Cert.Reference17Ideal.Read.val_main_v6 (F := Ideal) (m (c, main_arg0)) (m (c, main_arg2)) (ix2 ⟨_, hi⟩ j) := by
  refine (step_moment _ _ _ _ i j).trans (Eq.trans ?_ (Cert.Reference17Ideal.Read.entry_moment _ _ _ _).symm)
  rw [blocks0 m c t i j hi, block2 m c t i j hi]

theorem point_square : out0_7 (iblk m c 0 t) (iblk m c 1 t) (iblk m c 2 t) (iblk m c 3 t) (ix2 i j)
    = Cert.Reference17Ideal.Read.val_main_v12 (F := Ideal) (m (c, main_arg0)) (m (c, main_arg3)) (ix2 ⟨_, hi⟩ j) := by
  refine (step_square _ _ _ _ i j).trans (Eq.trans ?_ (Cert.Reference17Ideal.Read.entry_square _ _ _ _).symm)
  rw [blocks0 m c t i j hi, block3 m c t i j hi]

end

/-- The kernel's gradient is the reference's. -/
theorem array_grad : (dats m 0 c).arrAt 4 (cfgs 0).N
    = Cert.Reference17Ideal.Read.val_main_v1 (F := Ideal) (m (c, main_arg0)) := by
  refine (dats m 0 c).arrAt_eq_of_covers 4 _ (by decide +kernel) fun t hf y => ?_
  have h0 : (y 0).val < 128 := (y 0).isLt
  have h1 : (y 1).val < 512 := (y 1).isLt
  have ht : t.val < 8 := lt_of_lt_of_eq t.isLt N_0
  have hi : 128 * t.val + (y 0).val < 1024 := by omega
  have hy : (win0_4.blk t).view.emb y = ix2 ⟨128 * t.val + (y 0).val, hi⟩ (y 1) := by
    blk_ext [idx t] <;> dsimp [ix2, ix3] <;> omega
  blk_simp
  rw [after0_4, hy]
  exact (congrArg _ (ValueIdx.eq_ix2 y)).trans (point_grad m c t (y 0) (y 1) hi)

/-- The kernel's change is the reference's. -/
theorem array_delta : (dats m 0 c).arrAt 5 (cfgs 0).N
    = Cert.Reference17Ideal.Read.val_main_v25 (F := Ideal) (m (c, main_arg0)) (m (c, main_arg1)) (m (c, main_arg2)) (m (c, main_arg3)) := by
  refine (dats m 0 c).arrAt_eq_of_covers 5 _ (by decide +kernel) fun t hf y => ?_
  have h0 : (y 0).val < 128 := (y 0).isLt
  have h1 : (y 1).val < 512 := (y 1).isLt
  have ht : t.val < 8 := lt_of_lt_of_eq t.isLt N_0
  have hi : 128 * t.val + (y 0).val < 1024 := by omega
  have hy : (win0_5.blk t).view.emb y = ix2 ⟨128 * t.val + (y 0).val, hi⟩ (y 1) := by
    blk_ext [idx t] <;> dsimp [ix2, ix3] <;> omega
  blk_simp
  rw [after0_5, hy]
  exact (congrArg _ (ValueIdx.eq_ix2 y)).trans (point_delta m c t (y 0) (y 1) hi)

/-- The kernel's first moment is the reference's. -/
theorem array_moment : (dats m 0 c).arrAt 6 (cfgs 0).N
    = Cert.Reference17Ideal.Read.val_main_v6 (F := Ideal) (m (c, main_arg0)) (m (c, main_arg2)) := by
  refine (dats m 0 c).arrAt_eq_of_covers 6 _ (by decide +kernel) fun t hf y => ?_
  have h0 : (y 0).val < 128 := (y 0).isLt
  have h1 : (y 1).val < 512 := (y 1).isLt
  have ht : t.val < 8 := lt_of_lt_of_eq t.isLt N_0
  have hi : 128 * t.val + (y 0).val < 1024 := by omega
  have hy : (win0_6.blk t).view.emb y = ix2 ⟨128 * t.val + (y 0).val, hi⟩ (y 1) := by
    blk_ext [idx t] <;> dsimp [ix2, ix3] <;> omega
  blk_simp
  rw [after0_6, hy]
  exact (congrArg _ (ValueIdx.eq_ix2 y)).trans (point_moment m c t (y 0) (y 1) hi)

/-- The kernel's second moment is the reference's. -/
theorem array_square : (dats m 0 c).arrAt 7 (cfgs 0).N
    = Cert.Reference17Ideal.Read.val_main_v12 (F := Ideal) (m (c, main_arg0)) (m (c, main_arg3)) := by
  refine (dats m 0 c).arrAt_eq_of_covers 7 _ (by decide +kernel) fun t hf y => ?_
  have h0 : (y 0).val < 128 := (y 0).isLt
  have h1 : (y 1).val < 512 := (y 1).isLt
  have ht : t.val < 8 := lt_of_lt_of_eq t.isLt N_0
  have hi : 128 * t.val + (y 0).val < 1024 := by omega
  have hy : (win0_7.blk t).view.emb y = ix2 ⟨128 * t.val + (y 0).val, hi⟩ (y 1) := by
    blk_ext [idx t] <;> dsimp [ix2, ix3] <;> omega
  blk_simp
  rw [after0_7, hy]
  exact (congrArg _ (ValueIdx.eq_ix2 y)).trans (point_square m c t (y 0) (y 1) hi)

end Cert.Kernel17Ideal.Gen

end
-- ==== Proof.OptIn.lean ====
/- The optimiser's step on a share of the input projection's matrix, transposed: the gradient summed over the devices, the change, and the two moments. -/
module

public import proofs.«01_k».proof.Proof.Gen.Kernel18Ideal.Value
public import proofs.«01_k».proof.Proof.Gen.Reference18Ideal.Read
public import proofs.«01_k».proof.Proof.Optimizer
public import Idealize.ShloMosaic.Lib.Pipeline.ValueKit

@[expose] public section

noncomputable section

namespace Cert.Reference18Ideal.Read

open Idealize.ShloMosaic hiding ix1 ix2 ix3 ix4 ix5
open Idealize.ShloMosaic.ValueIdx Cert.Products Cert.Reference18Ideal Cert.Optimizer

variable (p : (⟨S8x898x1024, .bf16⟩ : BufTy).Contents (Elt Ideal)) (w m v : (⟨S898x1024, .f32⟩ : BufTy).Contents (Elt Ideal)) (i : Fin 898) (j : Fin 1024)

/-- The reference's gradient at an entry. -/
theorem entry_grad : (val_main_v1 (F := Ideal) p (ix2 i j) : EReal) = ∑ d : Fin 8, (p (ix3 d i j) : EReal) :=
  (val_main_v1_apply p (ix2 i j)).trans ((congrArg (· + _) Ideal.ofBits_zero_f32).trans ((zero_add _).trans
    (Finset.sum_congr rfl fun d _ => congrArg (fun a => (p a : EReal)) (ValueIdx.eq_ix3 _))))

/-- Its first moment. -/
theorem entry_moment : val_main_v6 (F := Ideal) p m (ix2 i j) = moment (val_main_v1 (F := Ideal) p (ix2 i j)) (m (ix2 i j)) := by
  rw [val_main_v6_apply, val_main_v3_apply, val_main_v5_apply, val_main_v2_apply, val_main_v4_apply, val_main_cst_0_apply, val_main_cst_1_apply]
  rfl

/-- Its second moment. -/
theorem entry_square : val_main_v12 (F := Ideal) p v (ix2 i j) = square (val_main_v1 (F := Ideal) p (ix2 i j)) (v (ix2 i j)) := by
  rw [val_main_v12_apply, val_main_v8_apply, val_main_v11_apply, val_main_v9_apply, val_main_v7_apply, val_main_v10_apply, val_main_cst_2_apply, val_main_cst_3_apply]
  rfl

/-- Its change. -/
theorem entry_delta : val_main_v25 (F := Ideal) p w m v (ix2 i j)
    = delta (val_main_v1 (F := Ideal) p (ix2 i j)) (m (ix2 i j)) (v (ix2 i j)) (w (ix2 i j)) := by
  rw [val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, entry_moment, entry_square, val_main_cst_4_apply, val_main_cst_5_apply,
    val_main_cst_6_apply, val_main_cst_7_apply, val_main_cst_8_apply]
  rfl

end Cert.Reference18Ideal.Read

namespace Cert.Kernel18Ideal.Gen

open Idealize.ShloMosaic hiding ix1 ix2 ix3 ix4 ix5
open Idealize.ShloMosaic.ValueIdx Cert.Products Cert.Kernel18Ideal Cert.Optimizer
open Idealize.ShloMosaic.TcCoe Idealize.SL.Sem
open Idealize.ShloMosaic.Pipeline (Dat)

variable (m : (ℓ : Loc nD τ sig) → Buf (Elt Ideal) ℓ) (c : Dev nD)

section

variable (x0 : Vec Ideal S8x898x256 .bf16) (x1 x2 x3 : Vec Ideal S898x256 .f32) (i : Fin 898) (j : Fin 256)

/-- The eight parts' sum at an entry. -/
def total : EReal := ∑ d : Fin 8, (x0 (ix3 d i j) : EReal)

/-- One device's part, at an entry. -/
theorem part (d : Fin 8) (h : ∀ a, ![d.val, 0, 0] a + S1x898x256.size a ≤ S8x898x256.size a) :
    (shapeCast S898x256 (View.ld x0 (Rect.unit (s := S8x898x256) ![d.val, 0, 0] S1x898x256.size h)) shapeCasts_S1x898x256_S898x256 (ix2 i j) : EReal) = x0 (ix3 d i j) := by
  refine (shapeCast_1ab_ab_apply _ _ i j).trans ?_
  refine congrArg (fun a => (x0 a : EReal)) (funext fun a => Fin.ext ?_)
  match a with
  | ⟨0, _⟩ => show d.val + 1 * 0 = d.val; omega
  | ⟨1, _⟩ => show 0 + 1 * i.val = i.val; omega
  | ⟨2, _⟩ => show 0 + 1 * j.val = j.val; omega

/-- The gradient a step sums, at an entry. -/
theorem summed : (k0_pay5 x0 x1 x2 x3 (ix2 i j) : EReal) = total x0 i j := by
  unfold total
  rw [sum_eight]
  unfold k0_pay5 k0_pay4
  exact congrArg₂ (· + ·) (congrArg₂ (· + ·) (congrArg₂ (· + ·) (congrArg₂ (· + ·) (congrArg₂ (· + ·) (congrArg₂ (· + ·) (congrArg₂ (· + ·)
    (part x0 i j 0 _) (part x0 i j 1 _)) (part x0 i j 2 _)) (part x0 i j 3 _)) (part x0 i j 4 _)) (part x0 i j 5 _)) (part x0 i j 6 _)) (part x0 i j 7 _)

/-- What a step leaves of the gradient. -/
theorem step_grad : (out0_4 x0 x1 x2 x3 (ix2 i j) : EReal) = total x0 i j := by
  unfold out0_4
  rw [View.canon_cons_unit_lit _ _ _ (by decide)]
  exact summed x0 x1 x2 x3 i j

/-- What it leaves of the change. -/
theorem step_delta : out0_5 x0 x1 x2 x3 (ix2 i j) = delta (total x0 i j) (x2 (ix2 i j)) (x3 (ix2 i j)) (x1 (ix2 i j)) := by
  unfold out0_5
  rw [View.canon_cons_unit_lit _ _ _ (by decide), View.ld_unit_lit _ _ (by decide), View.ld_unit_lit _ _ (by decide), View.ld_unit_lit _ _ (by decide)]
  exact congrArg (fun g => delta g (x2 (ix2 i j)) (x3 (ix2 i j)) (x1 (ix2 i j))) (summed x0 x1 x2 x3 i j)

/-- What it leaves of the first moment. -/
theorem step_moment : out0_6 x0 x1 x2 x3 (ix2 i j) = moment (total x0 i j) (x2 (ix2 i j)) := by
  unfold out0_6
  rw [View.canon_cons_unit_lit _ _ _ (by decide), View.ld_unit_lit _ _ (by decide)]
  exact congrArg (fun g => moment g (x2 (ix2 i j))) (summed x0 x1 x2 x3 i j)

/-- What it leaves of the second moment. -/
theorem step_square : out0_7 x0 x1 x2 x3 (ix2 i j) = square (total x0 i j) (x3 (ix2 i j)) := by
  unfold out0_7
  rw [View.canon_cons_unit_lit _ _ _ (by decide), View.ld_unit_lit _ _ (by decide)]
  exact congrArg (fun g => square g (x3 (ix2 i j))) (summed x0 x1 x2 x3 i j)

end

/-- The index maps. -/
theorem idx : ∀ t : Fin cfg0.N, win0_0.index t = ![0, 0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] :=
  (by decide +kernel : ∀ t : Fin grid0.N, _)

section

variable (t : Fin cfg0.N) (i : Fin 898) (j : Fin 256) (hj : 256 * t.val + j.val < 1024)

theorem block0 (d : Fin 8) : iblk m c 0 t (ix3 d i j) = m (c, main_arg0) (ix3 d i ⟨256 * t.val + j.val, hj⟩) := by
  rw [show m (c, main_arg0) = V m c main_arg0 from (V_main_arg0 m c).symm]
  blk_ext [iblk, idx t] <;> dsimp [ix2, ix3] <;> omega

theorem block1 : iblk m c 1 t (ix2 i j) = m (c, main_arg1) (ix2 i ⟨256 * t.val + j.val, hj⟩) := by
  rw [show m (c, main_arg1) = V m c main_arg1 from (V_main_arg1 m c).symm]
  blk_ext [iblk, idx t] <;> dsimp [ix2, ix3] <;> omega

theorem block2 : iblk m c 2 t (ix2 i j) = m (c, main_arg2) (ix2 i ⟨256 * t.val + j.val, hj⟩) := by
  rw [show m (c, main_arg2) = V m c main_arg2 from (V_main_arg2 m c).symm]
  blk_ext [iblk, idx t] <;> dsimp [ix2, ix3] <;> omega

theorem block3 : iblk m c 3 t (ix2 i j) = m (c, main_arg3) (ix2 i ⟨256 * t.val + j.val, hj⟩) := by
  rw [show m (c, main_arg3) = V m c main_arg3 from (V_main_arg3 m c).symm]
  blk_ext [iblk, idx t] <;> dsimp [ix2, ix3] <;> omega

/-- The gradient a step sums is the reference's. -/
theorem blocks0 : total (iblk m c 0 t) i j = Cert.Reference18Ideal.Read.val_main_v1 (F := Ideal) (m (c, main_arg0)) (ix2 i ⟨_, hj⟩) := by
  refine Eq.trans ?_ (Cert.Reference18Ideal.Read.entry_grad _ _ _).symm
  unfold total
  exact Finset.sum_congr rfl fun d _ => block0 m c t i j hj d

theorem point_grad : out0_4 (iblk m c 0 t) (iblk m c 1 t) (iblk m c 2 t) (iblk m c 3 t) (ix2 i j)
    = Cert.Reference18Ideal.Read.val_main_v1 (F := Ideal) (m (c, main_arg0)) (ix2 i ⟨_, hj⟩) :=
  (step_grad _ _ _ _ i j).trans (blocks0 m c t i j hj)

theorem point_delta : out0_5 (iblk m c 0 t) (iblk m c 1 t) (iblk m c 2 t) (iblk m c 3 t) (ix2 i j)
    = Cert.Reference18Ideal.Read.val_main_v25 (F := Ideal) (m (c, main_arg0)) (m (c, main_arg1)) (m (c, main_arg2)) (m (c, main_arg3)) (ix2 i ⟨_, hj⟩) := by
  refine (step_delta _ _ _ _ i j).trans (Eq.trans ?_ (Cert.Reference18Ideal.Read.entry_delta _ _ _ _ _ _).symm)
  rw [blocks0 m c t i j hj, block2 m c t i j hj, block3 m c t i j hj, block1 m c t i j hj]

theorem point_moment : out0_6 (iblk m c 0 t) (iblk m c 1 t) (iblk m c 2 t) (iblk m c 3 t) (ix2 i j)
    = Cert.Reference18Ideal.Read.val_main_v6 (F := Ideal) (m (c, main_arg0)) (m (c, main_arg2)) (ix2 i ⟨_, hj⟩) := by
  refine (step_moment _ _ _ _ i j).trans (Eq.trans ?_ (Cert.Reference18Ideal.Read.entry_moment _ _ _ _).symm)
  rw [blocks0 m c t i j hj, block2 m c t i j hj]

theorem point_square : out0_7 (iblk m c 0 t) (iblk m c 1 t) (iblk m c 2 t) (iblk m c 3 t) (ix2 i j)
    = Cert.Reference18Ideal.Read.val_main_v12 (F := Ideal) (m (c, main_arg0)) (m (c, main_arg3)) (ix2 i ⟨_, hj⟩) := by
  refine (step_square _ _ _ _ i j).trans (Eq.trans ?_ (Cert.Reference18Ideal.Read.entry_square _ _ _ _).symm)
  rw [blocks0 m c t i j hj, block3 m c t i j hj]

end

/-- The kernel's gradient is the reference's. -/
theorem array_grad : (dats m 0 c).arrAt 4 (cfgs 0).N
    = Cert.Reference18Ideal.Read.val_main_v1 (F := Ideal) (m (c, main_arg0)) := by
  refine (dats m 0 c).arrAt_eq_of_covers 4 _ (by decide +kernel) fun t hf y => ?_
  have h0 : (y 0).val < 898 := (y 0).isLt
  have h1 : (y 1).val < 256 := (y 1).isLt
  have ht : t.val < 4 := lt_of_lt_of_eq t.isLt N_0
  have hj : 256 * t.val + (y 1).val < 1024 := by omega
  have hy : (win0_4.blk t).view.emb y = ix2 (y 0) ⟨256 * t.val + (y 1).val, hj⟩ := by
    blk_ext [idx t] <;> dsimp [ix2, ix3] <;> omega
  blk_simp
  rw [after0_4, hy]
  exact (congrArg _ (ValueIdx.eq_ix2 y)).trans (point_grad m c t (y 0) (y 1) hj)

/-- The kernel's change is the reference's. -/
theorem array_delta : (dats m 0 c).arrAt 5 (cfgs 0).N
    = Cert.Reference18Ideal.Read.val_main_v25 (F := Ideal) (m (c, main_arg0)) (m (c, main_arg1)) (m (c, main_arg2)) (m (c, main_arg3)) := by
  refine (dats m 0 c).arrAt_eq_of_covers 5 _ (by decide +kernel) fun t hf y => ?_
  have h0 : (y 0).val < 898 := (y 0).isLt
  have h1 : (y 1).val < 256 := (y 1).isLt
  have ht : t.val < 4 := lt_of_lt_of_eq t.isLt N_0
  have hj : 256 * t.val + (y 1).val < 1024 := by omega
  have hy : (win0_5.blk t).view.emb y = ix2 (y 0) ⟨256 * t.val + (y 1).val, hj⟩ := by
    blk_ext [idx t] <;> dsimp [ix2, ix3] <;> omega
  blk_simp
  rw [after0_5, hy]
  exact (congrArg _ (ValueIdx.eq_ix2 y)).trans (point_delta m c t (y 0) (y 1) hj)

/-- The kernel's first moment is the reference's. -/
theorem array_moment : (dats m 0 c).arrAt 6 (cfgs 0).N
    = Cert.Reference18Ideal.Read.val_main_v6 (F := Ideal) (m (c, main_arg0)) (m (c, main_arg2)) := by
  refine (dats m 0 c).arrAt_eq_of_covers 6 _ (by decide +kernel) fun t hf y => ?_
  have h0 : (y 0).val < 898 := (y 0).isLt
  have h1 : (y 1).val < 256 := (y 1).isLt
  have ht : t.val < 4 := lt_of_lt_of_eq t.isLt N_0
  have hj : 256 * t.val + (y 1).val < 1024 := by omega
  have hy : (win0_6.blk t).view.emb y = ix2 (y 0) ⟨256 * t.val + (y 1).val, hj⟩ := by
    blk_ext [idx t] <;> dsimp [ix2, ix3] <;> omega
  blk_simp
  rw [after0_6, hy]
  exact (congrArg _ (ValueIdx.eq_ix2 y)).trans (point_moment m c t (y 0) (y 1) hj)

/-- The kernel's second moment is the reference's. -/
theorem array_square : (dats m 0 c).arrAt 7 (cfgs 0).N
    = Cert.Reference18Ideal.Read.val_main_v12 (F := Ideal) (m (c, main_arg0)) (m (c, main_arg3)) := by
  refine (dats m 0 c).arrAt_eq_of_covers 7 _ (by decide +kernel) fun t hf y => ?_
  have h0 : (y 0).val < 898 := (y 0).isLt
  have h1 : (y 1).val < 256 := (y 1).isLt
  have ht : t.val < 4 := lt_of_lt_of_eq t.isLt N_0
  have hj : 256 * t.val + (y 1).val < 1024 := by omega
  have hy : (win0_7.blk t).view.emb y = ix2 (y 0) ⟨256 * t.val + (y 1).val, hj⟩ := by
    blk_ext [idx t] <;> dsimp [ix2, ix3] <;> omega
  blk_simp
  rw [after0_7, hy]
  exact (congrArg _ (ValueIdx.eq_ix2 y)).trans (point_square m c t (y 0) (y 1) hj)

end Cert.Kernel18Ideal.Gen

end
-- ==== Proof.OptMeta.lean ====
/- The optimiser's step on the prefix rows: the gradient summed over the devices, the change, and the two moments. -/
module

public import proofs.«01_k».proof.Proof.Gen.Kernel19Ideal.Value
public import proofs.«01_k».proof.Proof.Gen.Reference19Ideal.Read
public import proofs.«01_k».proof.Proof.Optimizer
public import Idealize.ShloMosaic.Lib.Pipeline.ValueKit

@[expose] public section

noncomputable section

namespace Cert.Reference19Ideal.Read

open Idealize.ShloMosaic hiding ix1 ix2 ix3 ix4 ix5
open Idealize.ShloMosaic.ValueIdx Cert.Products Cert.Reference19Ideal Cert.Optimizer

variable (p : (⟨S8x16x128, .f32⟩ : BufTy).Contents (Elt Ideal)) (w m v : (⟨S16x128, .f32⟩ : BufTy).Contents (Elt Ideal)) (i : Fin 16) (j : Fin 128)

/-- The reference's gradient at an entry. -/
theorem entry_grad : (val_main_v0 (F := Ideal) p (ix2 i j) : EReal) = ∑ d : Fin 8, (p (ix3 d i j) : EReal) :=
  (val_main_v0_apply p (ix2 i j)).trans ((congrArg (· + _) Ideal.ofBits_zero_f32).trans ((zero_add _).trans
    (Finset.sum_congr rfl fun d _ => congrArg (fun a => (p a : EReal)) (ValueIdx.eq_ix3 _))))

/-- Its first moment. -/
theorem entry_moment : val_main_v5 (F := Ideal) p m (ix2 i j) = moment (val_main_v0 (F := Ideal) p (ix2 i j)) (m (ix2 i j)) := by
  rw [val_main_v5_apply, val_main_v2_apply, val_main_v4_apply, val_main_v1_apply, val_main_v3_apply, val_main_cst_0_apply, val_main_cst_1_apply]
  rfl

/-- Its second moment. -/
theorem entry_square : val_main_v11 (F := Ideal) p v (ix2 i j) = square (val_main_v0 (F := Ideal) p (ix2 i j)) (v (ix2 i j)) := by
  rw [val_main_v11_apply, val_main_v7_apply, val_main_v10_apply, val_main_v8_apply, val_main_v6_apply, val_main_v9_apply, val_main_cst_2_apply, val_main_cst_3_apply]
  rfl

/-- Its change. -/
theorem entry_delta : val_main_v24 (F := Ideal) p w m v (ix2 i j)
    = delta (val_main_v0 (F := Ideal) p (ix2 i j)) (m (ix2 i j)) (v (ix2 i j)) (w (ix2 i j)) := by
  rw [val_main_v24_apply, val_main_v23_apply, val_main_v22_apply, val_main_v21_apply, val_main_v20_apply, val_main_v19_apply, val_main_v18_apply, val_main_v17_apply,
    val_main_v16_apply, val_main_v15_apply, val_main_v14_apply, val_main_v13_apply, val_main_v12_apply, entry_moment, entry_square, val_main_cst_4_apply, val_main_cst_5_apply,
    val_main_cst_6_apply, val_main_cst_7_apply, val_main_cst_8_apply]
  rfl

end Cert.Reference19Ideal.Read

namespace Cert.Kernel19Ideal.Gen

open Idealize.ShloMosaic hiding ix1 ix2 ix3 ix4 ix5
open Idealize.ShloMosaic.ValueIdx Cert.Products Cert.Kernel19Ideal Cert.Optimizer
open Idealize.ShloMosaic.TcCoe Idealize.SL.Sem
open Idealize.ShloMosaic.Pipeline (Dat)

variable (m : (ℓ : Loc nD τ sig) → Buf (Elt Ideal) ℓ) (c : Dev nD)

section

variable (x0 : Vec Ideal S8x16x128 .f32) (x1 x2 x3 : Vec Ideal S16x128 .f32) (i : Fin 16) (j : Fin 128)

/-- The eight parts' sum at an entry. -/
def total : EReal := ∑ d : Fin 8, (x0 (ix3 d i j) : EReal)

/-- One device's part, at an entry. -/
theorem part (d : Fin 8) (h : ∀ a, ![d.val, 0, 0] a + S1x16x128.size a ≤ S8x16x128.size a) :
    (shapeCast S16x128 (View.ld x0 (Rect.unit (s := S8x16x128) ![d.val, 0, 0] S1x16x128.size h)) shapeCasts_S1x16x128_S16x128 (ix2 i j) : EReal) = x0 (ix3 d i j) := by
  refine (shapeCast_1ab_ab_apply _ _ i j).trans ?_
  refine congrArg (fun a => (x0 a : EReal)) (funext fun a => Fin.ext ?_)
  match a with
  | ⟨0, _⟩ => show d.val + 1 * 0 = d.val; omega
  | ⟨1, _⟩ => show 0 + 1 * i.val = i.val; omega
  | ⟨2, _⟩ => show 0 + 1 * j.val = j.val; omega

/-- The gradient a step sums, at an entry. -/
theorem summed : (k0_pay5 x0 x1 x2 x3 (ix2 i j) : EReal) = total x0 i j := by
  unfold total
  rw [sum_eight]
  unfold k0_pay5 k0_pay3
  exact congrArg₂ (· + ·) (congrArg₂ (· + ·) (congrArg₂ (· + ·) (congrArg₂ (· + ·) (congrArg₂ (· + ·) (congrArg₂ (· + ·) (congrArg₂ (· + ·)
    (part x0 i j 0 _) (part x0 i j 1 _)) (part x0 i j 2 _)) (part x0 i j 3 _)) (part x0 i j 4 _)) (part x0 i j 5 _)) (part x0 i j 6 _)) (part x0 i j 7 _)

/-- What a step leaves of the gradient. -/
theorem step_grad : (out0_4 x0 x1 x2 x3 (ix2 i j) : EReal) = total x0 i j := by
  unfold out0_4
  rw [View.canon_cons_unit_lit _ _ _ (by decide)]
  exact summed x0 x1 x2 x3 i j

/-- The first moment a step computes, at an entry. -/
theorem moved : k0_pay6 x0 x1 x2 x3 (ix2 i j) = moment (total x0 i j) (x2 (ix2 i j)) := by
  have h := summed x0 x1 x2 x3 i j
  show FloatOps.addf (FloatOps.mulf (FloatOps.ofBits .f32 0x3F666666#32) (View.ld x2 r0_8 (ix2 i j)))
    (FloatOps.mulf (FloatOps.ofBits .f32 0x3DCCCCCD#32) (k0_pay5 x0 x1 x2 x3 (ix2 i j))) = _
  rw [View.ld_unit_lit _ _ (by decide)]
  exact congrArg (fun g => moment g (x2 (ix2 i j))) h

/-- What it leaves of the change. -/
theorem step_delta : out0_5 x0 x1 x2 x3 (ix2 i j) = delta (total x0 i j) (x2 (ix2 i j)) (x3 (ix2 i j)) (x1 (ix2 i j)) := by
  unfold out0_5
  rw [View.canon_cons_unit_lit _ _ _ (by decide), View.ld_unit_lit _ _ (by decide), View.ld_unit_lit _ _ (by decide)]
  exact congrArg₂ (fun s g => change s (square g (x3 (ix2 i j))) (x1 (ix2 i j))) (moved x0 x1 x2 x3 i j) (summed x0 x1 x2 x3 i j)

/-- What it leaves of the first moment. -/
theorem step_moment : out0_6 x0 x1 x2 x3 (ix2 i j) = moment (total x0 i j) (x2 (ix2 i j)) := by
  unfold out0_6
  rw [View.canon_cons_unit_lit _ _ _ (by decide)]
  exact moved x0 x1 x2 x3 i j

/-- What it leaves of the second moment. -/
theorem step_square : out0_7 x0 x1 x2 x3 (ix2 i j) = square (total x0 i j) (x3 (ix2 i j)) := by
  unfold out0_7
  rw [View.canon_cons_unit_lit _ _ _ (by decide), View.ld_unit_lit _ _ (by decide)]
  exact congrArg (fun g => square g (x3 (ix2 i j))) (summed x0 x1 x2 x3 i j)

end

/-- The index maps. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section

variable (t : Fin cfg0.N) (i : Fin 16) (j : Fin 128) (hi : 16 * t.val + i.val < 16)

theorem block0 (d : Fin 8) : iblk m c 0 t (ix3 d i j) = m (c, main_arg0) (ix3 d ⟨16 * t.val + i.val, hi⟩ j) := by
  rw [show m (c, main_arg0) = V m c main_arg0 from (V_main_arg0 m c).symm]
  blk_ext [iblk, idx t] <;> dsimp [ix2, ix3] <;> omega

theorem block1 : iblk m c 1 t (ix2 i j) = m (c, main_arg1) (ix2 ⟨16 * t.val + i.val, hi⟩ j) := by
  rw [show m (c, main_arg1) = V m c main_arg1 from (V_main_arg1 m c).symm]
  blk_ext [iblk, idx t] <;> dsimp [ix2, ix3] <;> omega

theorem block2 : iblk m c 2 t (ix2 i j) = m (c, main_arg2) (ix2 ⟨16 * t.val + i.val, hi⟩ j) := by
  rw [show m (c, main_arg2) = V m c main_arg2 from (V_main_arg2 m c).symm]
  blk_ext [iblk, idx t] <;> dsimp [ix2, ix3] <;> omega

theorem block3 : iblk m c 3 t (ix2 i j) = m (c, main_arg3) (ix2 ⟨16 * t.val + i.val, hi⟩ j) := by
  rw [show m (c, main_arg3) = V m c main_arg3 from (V_main_arg3 m c).symm]
  blk_ext [iblk, idx t] <;> dsimp [ix2, ix3] <;> omega

/-- The gradient a step sums is the reference's. -/
theorem blocks0 : total (iblk m c 0 t) i j = Cert.Reference19Ideal.Read.val_main_v0 (F := Ideal) (m (c, main_arg0)) (ix2 ⟨_, hi⟩ j) := by
  refine Eq.trans ?_ (Cert.Reference19Ideal.Read.entry_grad _ _ _).symm
  unfold total
  exact Finset.sum_congr rfl fun d _ => block0 m c t i j hi d

theorem point_grad : out0_4 (iblk m c 0 t) (iblk m c 1 t) (iblk m c 2 t) (iblk m c 3 t) (ix2 i j)
    = Cert.Reference19Ideal.Read.val_main_v0 (F := Ideal) (m (c, main_arg0)) (ix2 ⟨_, hi⟩ j) :=
  (step_grad _ _ _ _ i j).trans (blocks0 m c t i j hi)

theorem point_delta : out0_5 (iblk m c 0 t) (iblk m c 1 t) (iblk m c 2 t) (iblk m c 3 t) (ix2 i j)
    = Cert.Reference19Ideal.Read.val_main_v24 (F := Ideal) (m (c, main_arg0)) (m (c, main_arg1)) (m (c, main_arg2)) (m (c, main_arg3)) (ix2 ⟨_, hi⟩ j) := by
  refine (step_delta _ _ _ _ i j).trans (Eq.trans ?_ (Cert.Reference19Ideal.Read.entry_delta _ _ _ _ _ _).symm)
  rw [blocks0 m c t i j hi, block2 m c t i j hi, block3 m c t i j hi, block1 m c t i j hi]

theorem point_moment : out0_6 (iblk m c 0 t) (iblk m c 1 t) (iblk m c 2 t) (iblk m c 3 t) (ix2 i j)
    = Cert.Reference19Ideal.Read.val_main_v5 (F := Ideal) (m (c, main_arg0)) (m (c, main_arg2)) (ix2 ⟨_, hi⟩ j) := by
  refine (step_moment _ _ _ _ i j).trans (Eq.trans ?_ (Cert.Reference19Ideal.Read.entry_moment _ _ _ _).symm)
  rw [blocks0 m c t i j hi, block2 m c t i j hi]

theorem point_square : out0_7 (iblk m c 0 t) (iblk m c 1 t) (iblk m c 2 t) (iblk m c 3 t) (ix2 i j)
    = Cert.Reference19Ideal.Read.val_main_v11 (F := Ideal) (m (c, main_arg0)) (m (c, main_arg3)) (ix2 ⟨_, hi⟩ j) := by
  refine (step_square _ _ _ _ i j).trans (Eq.trans ?_ (Cert.Reference19Ideal.Read.entry_square _ _ _ _).symm)
  rw [blocks0 m c t i j hi, block3 m c t i j hi]

end

/-- The kernel's gradient is the reference's. -/
theorem array_grad : (dats m 0 c).arrAt 4 (cfgs 0).N
    = Cert.Reference19Ideal.Read.val_main_v0 (F := Ideal) (m (c, main_arg0)) := by
  refine (dats m 0 c).arrAt_eq_of_covers 4 _ (by decide +kernel) fun t hf y => ?_
  have h0 : (y 0).val < 16 := (y 0).isLt
  have h1 : (y 1).val < 128 := (y 1).isLt
  have ht : t.val < 1 := lt_of_lt_of_eq t.isLt N_0
  have hi : 16 * t.val + (y 0).val < 16 := by omega
  have hy : (win0_4.blk t).view.emb y = ix2 ⟨16 * t.val + (y 0).val, hi⟩ (y 1) := by
    blk_ext [idx t] <;> dsimp [ix2, ix3] <;> omega
  blk_simp
  rw [after0_4, hy]
  exact (congrArg _ (ValueIdx.eq_ix2 y)).trans (point_grad m c t (y 0) (y 1) hi)

/-- The kernel's change is the reference's. -/
theorem array_delta : (dats m 0 c).arrAt 5 (cfgs 0).N
    = Cert.Reference19Ideal.Read.val_main_v24 (F := Ideal) (m (c, main_arg0)) (m (c, main_arg1)) (m (c, main_arg2)) (m (c, main_arg3)) := by
  refine (dats m 0 c).arrAt_eq_of_covers 5 _ (by decide +kernel) fun t hf y => ?_
  have h0 : (y 0).val < 16 := (y 0).isLt
  have h1 : (y 1).val < 128 := (y 1).isLt
  have ht : t.val < 1 := lt_of_lt_of_eq t.isLt N_0
  have hi : 16 * t.val + (y 0).val < 16 := by omega
  have hy : (win0_5.blk t).view.emb y = ix2 ⟨16 * t.val + (y 0).val, hi⟩ (y 1) := by
    blk_ext [idx t] <;> dsimp [ix2, ix3] <;> omega
  blk_simp
  rw [after0_5, hy]
  exact (congrArg _ (ValueIdx.eq_ix2 y)).trans (point_delta m c t (y 0) (y 1) hi)

/-- The kernel's first moment is the reference's. -/
theorem array_moment : (dats m 0 c).arrAt 6 (cfgs 0).N
    = Cert.Reference19Ideal.Read.val_main_v5 (F := Ideal) (m (c, main_arg0)) (m (c, main_arg2)) := by
  refine (dats m 0 c).arrAt_eq_of_covers 6 _ (by decide +kernel) fun t hf y => ?_
  have h0 : (y 0).val < 16 := (y 0).isLt
  have h1 : (y 1).val < 128 := (y 1).isLt
  have ht : t.val < 1 := lt_of_lt_of_eq t.isLt N_0
  have hi : 16 * t.val + (y 0).val < 16 := by omega
  have hy : (win0_6.blk t).view.emb y = ix2 ⟨16 * t.val + (y 0).val, hi⟩ (y 1) := by
    blk_ext [idx t] <;> dsimp [ix2, ix3] <;> omega
  blk_simp
  rw [after0_6, hy]
  exact (congrArg _ (ValueIdx.eq_ix2 y)).trans (point_moment m c t (y 0) (y 1) hi)

/-- The kernel's second moment is the reference's. -/
theorem array_square : (dats m 0 c).arrAt 7 (cfgs 0).N
    = Cert.Reference19Ideal.Read.val_main_v11 (F := Ideal) (m (c, main_arg0)) (m (c, main_arg3)) := by
  refine (dats m 0 c).arrAt_eq_of_covers 7 _ (by decide +kernel) fun t hf y => ?_
  have h0 : (y 0).val < 16 := (y 0).isLt
  have h1 : (y 1).val < 128 := (y 1).isLt
  have ht : t.val < 1 := lt_of_lt_of_eq t.isLt N_0
  have hi : 16 * t.val + (y 0).val < 16 := by omega
  have hy : (win0_7.blk t).view.emb y = ix2 ⟨16 * t.val + (y 0).val, hi⟩ (y 1) := by
    blk_ext [idx t] <;> dsimp [ix2, ix3] <;> omega
  blk_simp
  rw [after0_7, hy]
  exact (congrArg _ (ValueIdx.eq_ix2 y)).trans (point_square m c t (y 0) (y 1) hi)

end Cert.Kernel19Ideal.Gen

end
-- ==== Proof.OptConv.lean ====
/- The optimiser's step on a share of the convolution's taps: the gradient summed over the devices, the change, and the two moments. -/
module

public import proofs.«01_k».proof.Proof.Gen.Kernel20Ideal.Value
public import proofs.«01_k».proof.Proof.Gen.Reference20Ideal.Read
public import proofs.«01_k».proof.Proof.Optimizer
public import Idealize.ShloMosaic.Lib.Pipeline.ValueKit

@[expose] public section

noncomputable section

namespace Cert.Reference20Ideal.Read

open Idealize.ShloMosaic hiding ix1 ix2 ix3 ix4 ix5
open Idealize.ShloMosaic.ValueIdx Cert.Products Cert.Reference20Ideal Cert.Optimizer

variable (p : (⟨S8x31x128, .f32⟩ : BufTy).Contents (Elt Ideal)) (w m v : (⟨S31x128, .f32⟩ : BufTy).Contents (Elt Ideal)) (i : Fin 31) (j : Fin 128)

/-- The reference's gradient at an entry. -/
theorem entry_grad : (val_main_v0 (F := Ideal) p (ix2 i j) : EReal) = ∑ d : Fin 8, (p (ix3 d i j) : EReal) :=
  (val_main_v0_apply p (ix2 i j)).trans ((congrArg (· + _) Ideal.ofBits_zero_f32).trans ((zero_add _).trans
    (Finset.sum_congr rfl fun d _ => congrArg (fun a => (p a : EReal)) (ValueIdx.eq_ix3 _))))

/-- Its first moment. -/
theorem entry_moment : val_main_v5 (F := Ideal) p m (ix2 i j) = moment (val_main_v0 (F := Ideal) p (ix2 i j)) (m (ix2 i j)) := by
  rw [val_main_v5_apply, val_main_v2_apply, val_main_v4_apply, val_main_v1_apply, val_main_v3_apply, val_main_cst_0_apply, val_main_cst_1_apply]
  rfl

/-- Its second moment. -/
theorem entry_square : val_main_v11 (F := Ideal) p v (ix2 i j) = square (val_main_v0 (F := Ideal) p (ix2 i j)) (v (ix2 i j)) := by
  rw [val_main_v11_apply, val_main_v7_apply, val_main_v10_apply, val_main_v8_apply, val_main_v6_apply, val_main_v9_apply, val_main_cst_2_apply, val_main_cst_3_apply]
  rfl

/-- Its change. -/
theorem entry_delta : val_main_v24 (F := Ideal) p w m v (ix2 i j)
    = delta (val_main_v0 (F := Ideal) p (ix2 i j)) (m (ix2 i j)) (v (ix2 i j)) (w (ix2 i j)) := by
  rw [val_main_v24_apply, val_main_v23_apply, val_main_v22_apply, val_main_v21_apply, val_main_v20_apply, val_main_v19_apply, val_main_v18_apply, val_main_v17_apply,
    val_main_v16_apply, val_main_v15_apply, val_main_v14_apply, val_main_v13_apply, val_main_v12_apply, entry_moment, entry_square, val_main_cst_4_apply, val_main_cst_5_apply,
    val_main_cst_6_apply, val_main_cst_7_apply, val_main_cst_8_apply]
  rfl

end Cert.Reference20Ideal.Read

namespace Cert.Kernel20Ideal.Gen

open Idealize.ShloMosaic hiding ix1 ix2 ix3 ix4 ix5
open Idealize.ShloMosaic.ValueIdx Cert.Products Cert.Kernel20Ideal Cert.Optimizer
open Idealize.ShloMosaic.TcCoe Idealize.SL.Sem
open Idealize.ShloMosaic.Pipeline (Dat)

variable (m : (ℓ : Loc nD τ sig) → Buf (Elt Ideal) ℓ) (c : Dev nD)

section

variable (x0 : Vec Ideal S8x31x128 .f32) (x1 x2 x3 : Vec Ideal S31x128 .f32) (i : Fin 31) (j : Fin 128)

/-- The eight parts' sum at an entry. -/
def total : EReal := ∑ d : Fin 8, (x0 (ix3 d i j) : EReal)

/-- One device's part, at an entry. -/
theorem part (d : Fin 8) (h : ∀ a, ![d.val, 0, 0] a + S1x31x128.size a ≤ S8x31x128.size a) :
    (shapeCast S31x128 (View.ld x0 (Rect.unit (s := S8x31x128) ![d.val, 0, 0] S1x31x128.size h)) shapeCasts_S1x31x128_S31x128 (ix2 i j) : EReal) = x0 (ix3 d i j) := by
  refine (shapeCast_1ab_ab_apply _ _ i j).trans ?_
  refine congrArg (fun a => (x0 a : EReal)) (funext fun a => Fin.ext ?_)
  match a with
  | ⟨0, _⟩ => show d.val + 1 * 0 = d.val; omega
  | ⟨1, _⟩ => show 0 + 1 * i.val = i.val; omega
  | ⟨2, _⟩ => show 0 + 1 * j.val = j.val; omega

/-- The gradient a step sums, at an entry. -/
theorem summed : (k0_pay5 x0 x1 x2 x3 (ix2 i j) : EReal) = total x0 i j := by
  unfold total
  rw [sum_eight]
  unfold k0_pay5 k0_pay3
  exact congrArg₂ (· + ·) (congrArg₂ (· + ·) (congrArg₂ (· + ·) (congrArg₂ (· + ·) (congrArg₂ (· + ·) (congrArg₂ (· + ·) (congrArg₂ (· + ·)
    (part x0 i j 0 _) (part x0 i j 1 _)) (part x0 i j 2 _)) (part x0 i j 3 _)) (part x0 i j 4 _)) (part x0 i j 5 _)) (part x0 i j 6 _)) (part x0 i j 7 _)

/-- What a step leaves of the gradient. -/
theorem step_grad : (out0_4 x0 x1 x2 x3 (ix2 i j) : EReal) = total x0 i j := by
  unfold out0_4
  rw [View.canon_cons_unit_lit _ _ _ (by decide)]
  exact summed x0 x1 x2 x3 i j

/-- The first moment a step computes, at an entry. -/
theorem moved : k0_pay6 x0 x1 x2 x3 (ix2 i j) = moment (total x0 i j) (x2 (ix2 i j)) := by
  have h := summed x0 x1 x2 x3 i j
  show FloatOps.addf (FloatOps.mulf (FloatOps.ofBits .f32 0x3F666666#32) (View.ld x2 r0_8 (ix2 i j)))
    (FloatOps.mulf (FloatOps.ofBits .f32 0x3DCCCCCD#32) (k0_pay5 x0 x1 x2 x3 (ix2 i j))) = _
  rw [View.ld_unit_lit _ _ (by decide)]
  exact congrArg (fun g => moment g (x2 (ix2 i j))) h

/-- What it leaves of the change. -/
theorem step_delta : out0_5 x0 x1 x2 x3 (ix2 i j) = delta (total x0 i j) (x2 (ix2 i j)) (x3 (ix2 i j)) (x1 (ix2 i j)) := by
  unfold out0_5
  rw [View.canon_cons_unit_lit _ _ _ (by decide), View.ld_unit_lit _ _ (by decide), View.ld_unit_lit _ _ (by decide)]
  exact congrArg₂ (fun s g => change s (square g (x3 (ix2 i j))) (x1 (ix2 i j))) (moved x0 x1 x2 x3 i j) (summed x0 x1 x2 x3 i j)

/-- What it leaves of the first moment. -/
theorem step_moment : out0_6 x0 x1 x2 x3 (ix2 i j) = moment (total x0 i j) (x2 (ix2 i j)) := by
  unfold out0_6
  rw [View.canon_cons_unit_lit _ _ _ (by decide)]
  exact moved x0 x1 x2 x3 i j

/-- What it leaves of the second moment. -/
theorem step_square : out0_7 x0 x1 x2 x3 (ix2 i j) = square (total x0 i j) (x3 (ix2 i j)) := by
  unfold out0_7
  rw [View.canon_cons_unit_lit _ _ _ (by decide), View.ld_unit_lit _ _ (by decide)]
  exact congrArg (fun g => square g (x3 (ix2 i j))) (summed x0 x1 x2 x3 i j)

end

/-- The index maps. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section

variable (t : Fin cfg0.N) (i : Fin 31) (j : Fin 128) (hi : 31 * t.val + i.val < 31)

theorem block0 (d : Fin 8) : iblk m c 0 t (ix3 d i j) = m (c, main_arg0) (ix3 d ⟨31 * t.val + i.val, hi⟩ j) := by
  rw [show m (c, main_arg0) = V m c main_arg0 from (V_main_arg0 m c).symm]
  blk_ext [iblk, idx t] <;> dsimp [ix2, ix3] <;> omega

theorem block1 : iblk m c 1 t (ix2 i j) = m (c, main_arg1) (ix2 ⟨31 * t.val + i.val, hi⟩ j) := by
  rw [show m (c, main_arg1) = V m c main_arg1 from (V_main_arg1 m c).symm]
  blk_ext [iblk, idx t] <;> dsimp [ix2, ix3] <;> omega

theorem block2 : iblk m c 2 t (ix2 i j) = m (c, main_arg2) (ix2 ⟨31 * t.val + i.val, hi⟩ j) := by
  rw [show m (c, main_arg2) = V m c main_arg2 from (V_main_arg2 m c).symm]
  blk_ext [iblk, idx t] <;> dsimp [ix2, ix3] <;> omega

theorem block3 : iblk m c 3 t (ix2 i j) = m (c, main_arg3) (ix2 ⟨31 * t.val + i.val, hi⟩ j) := by
  rw [show m (c, main_arg3) = V m c main_arg3 from (V_main_arg3 m c).symm]
  blk_ext [iblk, idx t] <;> dsimp [ix2, ix3] <;> omega

/-- The gradient a step sums is the reference's. -/
theorem blocks0 : total (iblk m c 0 t) i j = Cert.Reference20Ideal.Read.val_main_v0 (F := Ideal) (m (c, main_arg0)) (ix2 ⟨_, hi⟩ j) := by
  refine Eq.trans ?_ (Cert.Reference20Ideal.Read.entry_grad _ _ _).symm
  unfold total
  exact Finset.sum_congr rfl fun d _ => block0 m c t i j hi d

theorem point_grad : out0_4 (iblk m c 0 t) (iblk m c 1 t) (iblk m c 2 t) (iblk m c 3 t) (ix2 i j)
    = Cert.Reference20Ideal.Read.val_main_v0 (F := Ideal) (m (c, main_arg0)) (ix2 ⟨_, hi⟩ j) :=
  (step_grad _ _ _ _ i j).trans (blocks0 m c t i j hi)

theorem point_delta : out0_5 (iblk m c 0 t) (iblk m c 1 t) (iblk m c 2 t) (iblk m c 3 t) (ix2 i j)
    = Cert.Reference20Ideal.Read.val_main_v24 (F := Ideal) (m (c, main_arg0)) (m (c, main_arg1)) (m (c, main_arg2)) (m (c, main_arg3)) (ix2 ⟨_, hi⟩ j) := by
  refine (step_delta _ _ _ _ i j).trans (Eq.trans ?_ (Cert.Reference20Ideal.Read.entry_delta _ _ _ _ _ _).symm)
  rw [blocks0 m c t i j hi, block2 m c t i j hi, block3 m c t i j hi, block1 m c t i j hi]

theorem point_moment : out0_6 (iblk m c 0 t) (iblk m c 1 t) (iblk m c 2 t) (iblk m c 3 t) (ix2 i j)
    = Cert.Reference20Ideal.Read.val_main_v5 (F := Ideal) (m (c, main_arg0)) (m (c, main_arg2)) (ix2 ⟨_, hi⟩ j) := by
  refine (step_moment _ _ _ _ i j).trans (Eq.trans ?_ (Cert.Reference20Ideal.Read.entry_moment _ _ _ _).symm)
  rw [blocks0 m c t i j hi, block2 m c t i j hi]

theorem point_square : out0_7 (iblk m c 0 t) (iblk m c 1 t) (iblk m c 2 t) (iblk m c 3 t) (ix2 i j)
    = Cert.Reference20Ideal.Read.val_main_v11 (F := Ideal) (m (c, main_arg0)) (m (c, main_arg3)) (ix2 ⟨_, hi⟩ j) := by
  refine (step_square _ _ _ _ i j).trans (Eq.trans ?_ (Cert.Reference20Ideal.Read.entry_square _ _ _ _).symm)
  rw [blocks0 m c t i j hi, block3 m c t i j hi]

end

/-- The kernel's gradient is the reference's. -/
theorem array_grad : (dats m 0 c).arrAt 4 (cfgs 0).N
    = Cert.Reference20Ideal.Read.val_main_v0 (F := Ideal) (m (c, main_arg0)) := by
  refine (dats m 0 c).arrAt_eq_of_covers 4 _ (by decide +kernel) fun t hf y => ?_
  have h0 : (y 0).val < 31 := (y 0).isLt
  have h1 : (y 1).val < 128 := (y 1).isLt
  have ht : t.val < 1 := lt_of_lt_of_eq t.isLt N_0
  have hi : 31 * t.val + (y 0).val < 31 := by omega
  have hy : (win0_4.blk t).view.emb y = ix2 ⟨31 * t.val + (y 0).val, hi⟩ (y 1) := by
    blk_ext [idx t] <;> dsimp [ix2, ix3] <;> omega
  blk_simp
  rw [after0_4, hy]
  exact (congrArg _ (ValueIdx.eq_ix2 y)).trans (point_grad m c t (y 0) (y 1) hi)

/-- The kernel's change is the reference's. -/
theorem array_delta : (dats m 0 c).arrAt 5 (cfgs 0).N
    = Cert.Reference20Ideal.Read.val_main_v24 (F := Ideal) (m (c, main_arg0)) (m (c, main_arg1)) (m (c, main_arg2)) (m (c, main_arg3)) := by
  refine (dats m 0 c).arrAt_eq_of_covers 5 _ (by decide +kernel) fun t hf y => ?_
  have h0 : (y 0).val < 31 := (y 0).isLt
  have h1 : (y 1).val < 128 := (y 1).isLt
  have ht : t.val < 1 := lt_of_lt_of_eq t.isLt N_0
  have hi : 31 * t.val + (y 0).val < 31 := by omega
  have hy : (win0_5.blk t).view.emb y = ix2 ⟨31 * t.val + (y 0).val, hi⟩ (y 1) := by
    blk_ext [idx t] <;> dsimp [ix2, ix3] <;> omega
  blk_simp
  rw [after0_5, hy]
  exact (congrArg _ (ValueIdx.eq_ix2 y)).trans (point_delta m c t (y 0) (y 1) hi)

/-- The kernel's first moment is the reference's. -/
theorem array_moment : (dats m 0 c).arrAt 6 (cfgs 0).N
    = Cert.Reference20Ideal.Read.val_main_v5 (F := Ideal) (m (c, main_arg0)) (m (c, main_arg2)) := by
  refine (dats m 0 c).arrAt_eq_of_covers 6 _ (by decide +kernel) fun t hf y => ?_
  have h0 : (y 0).val < 31 := (y 0).isLt
  have h1 : (y 1).val < 128 := (y 1).isLt
  have ht : t.val < 1 := lt_of_lt_of_eq t.isLt N_0
  have hi : 31 * t.val + (y 0).val < 31 := by omega
  have hy : (win0_6.blk t).view.emb y = ix2 ⟨31 * t.val + (y 0).val, hi⟩ (y 1) := by
    blk_ext [idx t] <;> dsimp [ix2, ix3] <;> omega
  blk_simp
  rw [after0_6, hy]
  exact (congrArg _ (ValueIdx.eq_ix2 y)).trans (point_moment m c t (y 0) (y 1) hi)

/-- The kernel's second moment is the reference's. -/
theorem array_square : (dats m 0 c).arrAt 7 (cfgs 0).N
    = Cert.Reference20Ideal.Read.val_main_v11 (F := Ideal) (m (c, main_arg0)) (m (c, main_arg3)) := by
  refine (dats m 0 c).arrAt_eq_of_covers 7 _ (by decide +kernel) fun t hf y => ?_
  have h0 : (y 0).val < 31 := (y 0).isLt
  have h1 : (y 1).val < 128 := (y 1).isLt
  have ht : t.val < 1 := lt_of_lt_of_eq t.isLt N_0
  have hi : 31 * t.val + (y 0).val < 31 := by omega
  have hy : (win0_7.blk t).view.emb y = ix2 ⟨31 * t.val + (y 0).val, hi⟩ (y 1) := by
    blk_ext [idx t] <;> dsimp [ix2, ix3] <;> omega
  blk_simp
  rw [after0_7, hy]
  exact (congrArg _ (ValueIdx.eq_ix2 y)).trans (point_square m c t (y 0) (y 1) hi)

end Cert.Kernel20Ideal.Gen

end
-- ==== Proof.OptSmall.lean ====
/- The optimiser's step on the weights of one axis, side by side in one row: the gradient summed over the devices, the change, and the two moments. -/
module

public import proofs.«01_k».proof.Proof.Gen.Kernel21Ideal.Value
public import proofs.«01_k».proof.Proof.Gen.Reference21Ideal.Read
public import proofs.«01_k».proof.Proof.Optimizer
public import Idealize.ShloMosaic.Lib.Pipeline.ValueKit

@[expose] public section

noncomputable section

namespace Cert.Reference21Ideal.Read

open Idealize.ShloMosaic hiding ix1 ix2 ix3 ix4 ix5
open Idealize.ShloMosaic.ValueIdx Cert.Products Cert.Reference21Ideal Cert.Optimizer

variable (p : (⟨S8x1x9344, .f32⟩ : BufTy).Contents (Elt Ideal)) (w m v : (⟨S1x9344, .f32⟩ : BufTy).Contents (Elt Ideal)) (i : Fin 1) (j : Fin 9344)

/-- The reference's gradient at an entry. -/
theorem entry_grad : (val_main_v0 (F := Ideal) p (ix2 i j) : EReal) = ∑ d : Fin 8, (p (ix3 d i j) : EReal) :=
  (val_main_v0_apply p (ix2 i j)).trans ((congrArg (· + _) Ideal.ofBits_zero_f32).trans ((zero_add _).trans
    (Finset.sum_congr rfl fun d _ => congrArg (fun a => (p a : EReal)) (ValueIdx.eq_ix3 _))))

/-- Its first moment. -/
theorem entry_moment : val_main_v5 (F := Ideal) p m (ix2 i j) = moment (val_main_v0 (F := Ideal) p (ix2 i j)) (m (ix2 i j)) := by
  rw [val_main_v5_apply, val_main_v2_apply, val_main_v4_apply, val_main_v1_apply, val_main_v3_apply, val_main_cst_0_apply, val_main_cst_1_apply]
  rfl

/-- Its second moment. -/
theorem entry_square : val_main_v11 (F := Ideal) p v (ix2 i j) = square (val_main_v0 (F := Ideal) p (ix2 i j)) (v (ix2 i j)) := by
  rw [val_main_v11_apply, val_main_v7_apply, val_main_v10_apply, val_main_v8_apply, val_main_v6_apply, val_main_v9_apply, val_main_cst_2_apply, val_main_cst_3_apply]
  rfl

/-- Its change. -/
theorem entry_delta : val_main_v24 (F := Ideal) p w m v (ix2 i j)
    = delta (val_main_v0 (F := Ideal) p (ix2 i j)) (m (ix2 i j)) (v (ix2 i j)) (w (ix2 i j)) := by
  rw [val_main_v24_apply, val_main_v23_apply, val_main_v22_apply, val_main_v21_apply, val_main_v20_apply, val_main_v19_apply, val_main_v18_apply, val_main_v17_apply,
    val_main_v16_apply, val_main_v15_apply, val_main_v14_apply, val_main_v13_apply, val_main_v12_apply, entry_moment, entry_square, val_main_cst_4_apply, val_main_cst_5_apply,
    val_main_cst_6_apply, val_main_cst_7_apply, val_main_cst_8_apply]
  rfl

end Cert.Reference21Ideal.Read

namespace Cert.Kernel21Ideal.Gen

open Idealize.ShloMosaic hiding ix1 ix2 ix3 ix4 ix5
open Idealize.ShloMosaic.ValueIdx Cert.Products Cert.Kernel21Ideal Cert.Optimizer
open Idealize.ShloMosaic.TcCoe Idealize.SL.Sem
open Idealize.ShloMosaic.Pipeline (Dat)

variable (m : (ℓ : Loc nD τ sig) → Buf (Elt Ideal) ℓ) (c : Dev nD)

section

variable (x0 : Vec Ideal S8x1x9344 .f32) (x1 x2 x3 : Vec Ideal S1x9344 .f32) (i : Fin 1) (j : Fin 9344)

/-- The eight parts' sum at an entry. -/
def total : EReal := ∑ d : Fin 8, (x0 (ix3 d i j) : EReal)

/-- One device's part, at an entry. -/
theorem part (d : Fin 8) (h : ∀ a, ![d.val, 0, 0] a + S1x1x9344.size a ≤ S8x1x9344.size a) :
    (shapeCast S1x9344 (View.ld x0 (Rect.unit (s := S8x1x9344) ![d.val, 0, 0] S1x1x9344.size h)) shapeCasts_S1x1x9344_S1x9344 (ix2 i j) : EReal) = x0 (ix3 d i j) := by
  refine (shapeCast_1ab_ab_apply _ _ i j).trans ?_
  refine congrArg (fun a => (x0 a : EReal)) (funext fun a => Fin.ext ?_)
  match a with
  | ⟨0, _⟩ => show d.val + 1 * 0 = d.val; omega
  | ⟨1, _⟩ => show 0 + 1 * i.val = i.val; omega
  | ⟨2, _⟩ => show 0 + 1 * j.val = j.val; omega

/-- The gradient a step sums, at an entry. -/
theorem summed : (k0_pay5 x0 x1 x2 x3 (ix2 i j) : EReal) = total x0 i j := by
  unfold total
  rw [sum_eight]
  unfold k0_pay5 k0_pay3
  exact congrArg₂ (· + ·) (congrArg₂ (· + ·) (congrArg₂ (· + ·) (congrArg₂ (· + ·) (congrArg₂ (· + ·) (congrArg₂ (· + ·) (congrArg₂ (· + ·)
    (part x0 i j 0 _) (part x0 i j 1 _)) (part x0 i j 2 _)) (part x0 i j 3 _)) (part x0 i j 4 _)) (part x0 i j 5 _)) (part x0 i j 6 _)) (part x0 i j 7 _)

/-- What a step leaves of the gradient. -/
theorem step_grad : (out0_4 x0 x1 x2 x3 (ix2 i j) : EReal) = total x0 i j := by
  unfold out0_4
  rw [View.canon_cons_unit_lit _ _ _ (by decide)]
  exact summed x0 x1 x2 x3 i j

/-- The first moment a step computes, at an entry. -/
theorem moved : k0_pay6 x0 x1 x2 x3 (ix2 i j) = moment (total x0 i j) (x2 (ix2 i j)) := by
  have h := summed x0 x1 x2 x3 i j
  show FloatOps.addf (FloatOps.mulf (FloatOps.ofBits .f32 0x3F666666#32) (View.ld x2 r0_8 (ix2 i j)))
    (FloatOps.mulf (FloatOps.ofBits .f32 0x3DCCCCCD#32) (k0_pay5 x0 x1 x2 x3 (ix2 i j))) = _
  rw [View.ld_unit_lit _ _ (by decide)]
  exact congrArg (fun g => moment g (x2 (ix2 i j))) h

/-- What it leaves of the change. -/
theorem step_delta : out0_5 x0 x1 x2 x3 (ix2 i j) = delta (total x0 i j) (x2 (ix2 i j)) (x3 (ix2 i j)) (x1 (ix2 i j)) := by
  unfold out0_5
  rw [View.canon_cons_unit_lit _ _ _ (by decide), View.ld_unit_lit _ _ (by decide), View.ld_unit_lit _ _ (by decide)]
  exact congrArg₂ (fun s g => change s (square g (x3 (ix2 i j))) (x1 (ix2 i j))) (moved x0 x1 x2 x3 i j) (summed x0 x1 x2 x3 i j)

/-- What it leaves of the first moment. -/
theorem step_moment : out0_6 x0 x1 x2 x3 (ix2 i j) = moment (total x0 i j) (x2 (ix2 i j)) := by
  unfold out0_6
  rw [View.canon_cons_unit_lit _ _ _ (by decide)]
  exact moved x0 x1 x2 x3 i j

/-- What it leaves of the second moment. -/
theorem step_square : out0_7 x0 x1 x2 x3 (ix2 i j) = square (total x0 i j) (x3 (ix2 i j)) := by
  unfold out0_7
  rw [View.canon_cons_unit_lit _ _ _ (by decide), View.ld_unit_lit _ _ (by decide)]
  exact congrArg (fun g => square g (x3 (ix2 i j))) (summed x0 x1 x2 x3 i j)

end

/-- The index maps. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section

variable (t : Fin cfg0.N) (i : Fin 1) (j : Fin 9344) (hi : 1 * t.val + i.val < 1)

theorem block0 (d : Fin 8) : iblk m c 0 t (ix3 d i j) = m (c, main_arg0) (ix3 d ⟨1 * t.val + i.val, hi⟩ j) := by
  rw [show m (c, main_arg0) = V m c main_arg0 from (V_main_arg0 m c).symm]
  blk_ext [iblk, idx t] <;> dsimp [ix2, ix3] <;> omega

theorem block1 : iblk m c 1 t (ix2 i j) = m (c, main_arg1) (ix2 ⟨1 * t.val + i.val, hi⟩ j) := by
  rw [show m (c, main_arg1) = V m c main_arg1 from (V_main_arg1 m c).symm]
  blk_ext [iblk, idx t] <;> dsimp [ix2, ix3] <;> omega

theorem block2 : iblk m c 2 t (ix2 i j) = m (c, main_arg2) (ix2 ⟨1 * t.val + i.val, hi⟩ j) := by
  rw [show m (c, main_arg2) = V m c main_arg2 from (V_main_arg2 m c).symm]
  blk_ext [iblk, idx t] <;> dsimp [ix2, ix3] <;> omega

theorem block3 : iblk m c 3 t (ix2 i j) = m (c, main_arg3) (ix2 ⟨1 * t.val + i.val, hi⟩ j) := by
  rw [show m (c, main_arg3) = V m c main_arg3 from (V_main_arg3 m c).symm]
  blk_ext [iblk, idx t] <;> dsimp [ix2, ix3] <;> omega

/-- The gradient a step sums is the reference's. -/
theorem blocks0 : total (iblk m c 0 t) i j = Cert.Reference21Ideal.Read.val_main_v0 (F := Ideal) (m (c, main_arg0)) (ix2 ⟨_, hi⟩ j) := by
  refine Eq.trans ?_ (Cert.Reference21Ideal.Read.entry_grad _ _ _).symm
  unfold total
  exact Finset.sum_congr rfl fun d _ => block0 m c t i j hi d

theorem point_grad : out0_4 (iblk m c 0 t) (iblk m c 1 t) (iblk m c 2 t) (iblk m c 3 t) (ix2 i j)
    = Cert.Reference21Ideal.Read.val_main_v0 (F := Ideal) (m (c, main_arg0)) (ix2 ⟨_, hi⟩ j) :=
  (step_grad _ _ _ _ i j).trans (blocks0 m c t i j hi)

theorem point_delta : out0_5 (iblk m c 0 t) (iblk m c 1 t) (iblk m c 2 t) (iblk m c 3 t) (ix2 i j)
    = Cert.Reference21Ideal.Read.val_main_v24 (F := Ideal) (m (c, main_arg0)) (m (c, main_arg1)) (m (c, main_arg2)) (m (c, main_arg3)) (ix2 ⟨_, hi⟩ j) := by
  refine (step_delta _ _ _ _ i j).trans (Eq.trans ?_ (Cert.Reference21Ideal.Read.entry_delta _ _ _ _ _ _).symm)
  rw [blocks0 m c t i j hi, block2 m c t i j hi, block3 m c t i j hi, block1 m c t i j hi]

theorem point_moment : out0_6 (iblk m c 0 t) (iblk m c 1 t) (iblk m c 2 t) (iblk m c 3 t) (ix2 i j)
    = Cert.Reference21Ideal.Read.val_main_v5 (F := Ideal) (m (c, main_arg0)) (m (c, main_arg2)) (ix2 ⟨_, hi⟩ j) := by
  refine (step_moment _ _ _ _ i j).trans (Eq.trans ?_ (Cert.Reference21Ideal.Read.entry_moment _ _ _ _).symm)
  rw [blocks0 m c t i j hi, block2 m c t i j hi]

theorem point_square : out0_7 (iblk m c 0 t) (iblk m c 1 t) (iblk m c 2 t) (iblk m c 3 t) (ix2 i j)
    = Cert.Reference21Ideal.Read.val_main_v11 (F := Ideal) (m (c, main_arg0)) (m (c, main_arg3)) (ix2 ⟨_, hi⟩ j) := by
  refine (step_square _ _ _ _ i j).trans (Eq.trans ?_ (Cert.Reference21Ideal.Read.entry_square _ _ _ _).symm)
  rw [blocks0 m c t i j hi, block3 m c t i j hi]

end

/-- The kernel's gradient is the reference's. -/
theorem array_grad : (dats m 0 c).arrAt 4 (cfgs 0).N
    = Cert.Reference21Ideal.Read.val_main_v0 (F := Ideal) (m (c, main_arg0)) := by
  refine (dats m 0 c).arrAt_eq_of_covers 4 _ (by decide +kernel) fun t hf y => ?_
  have h0 : (y 0).val < 1 := (y 0).isLt
  have h1 : (y 1).val < 9344 := (y 1).isLt
  have ht : t.val < 1 := lt_of_lt_of_eq t.isLt N_0
  have hi : 1 * t.val + (y 0).val < 1 := by omega
  have hy : (win0_4.blk t).view.emb y = ix2 ⟨1 * t.val + (y 0).val, hi⟩ (y 1) := by
    blk_ext [idx t] <;> dsimp [ix2, ix3] <;> omega
  blk_simp
  rw [after0_4, hy]
  exact (congrArg _ (ValueIdx.eq_ix2 y)).trans (point_grad m c t (y 0) (y 1) hi)

/-- The kernel's change is the reference's. -/
theorem array_delta : (dats m 0 c).arrAt 5 (cfgs 0).N
    = Cert.Reference21Ideal.Read.val_main_v24 (F := Ideal) (m (c, main_arg0)) (m (c, main_arg1)) (m (c, main_arg2)) (m (c, main_arg3)) := by
  refine (dats m 0 c).arrAt_eq_of_covers 5 _ (by decide +kernel) fun t hf y => ?_
  have h0 : (y 0).val < 1 := (y 0).isLt
  have h1 : (y 1).val < 9344 := (y 1).isLt
  have ht : t.val < 1 := lt_of_lt_of_eq t.isLt N_0
  have hi : 1 * t.val + (y 0).val < 1 := by omega
  have hy : (win0_5.blk t).view.emb y = ix2 ⟨1 * t.val + (y 0).val, hi⟩ (y 1) := by
    blk_ext [idx t] <;> dsimp [ix2, ix3] <;> omega
  blk_simp
  rw [after0_5, hy]
  exact (congrArg _ (ValueIdx.eq_ix2 y)).trans (point_delta m c t (y 0) (y 1) hi)

/-- The kernel's first moment is the reference's. -/
theorem array_moment : (dats m 0 c).arrAt 6 (cfgs 0).N
    = Cert.Reference21Ideal.Read.val_main_v5 (F := Ideal) (m (c, main_arg0)) (m (c, main_arg2)) := by
  refine (dats m 0 c).arrAt_eq_of_covers 6 _ (by decide +kernel) fun t hf y => ?_
  have h0 : (y 0).val < 1 := (y 0).isLt
  have h1 : (y 1).val < 9344 := (y 1).isLt
  have ht : t.val < 1 := lt_of_lt_of_eq t.isLt N_0
  have hi : 1 * t.val + (y 0).val < 1 := by omega
  have hy : (win0_6.blk t).view.emb y = ix2 ⟨1 * t.val + (y 0).val, hi⟩ (y 1) := by
    blk_ext [idx t] <;> dsimp [ix2, ix3] <;> omega
  blk_simp
  rw [after0_6, hy]
  exact (congrArg _ (ValueIdx.eq_ix2 y)).trans (point_moment m c t (y 0) (y 1) hi)

/-- The kernel's second moment is the reference's. -/
theorem array_square : (dats m 0 c).arrAt 7 (cfgs 0).N
    = Cert.Reference21Ideal.Read.val_main_v11 (F := Ideal) (m (c, main_arg0)) (m (c, main_arg3)) := by
  refine (dats m 0 c).arrAt_eq_of_covers 7 _ (by decide +kernel) fun t hf y => ?_
  have h0 : (y 0).val < 1 := (y 0).isLt
  have h1 : (y 1).val < 9344 := (y 1).isLt
  have ht : t.val < 1 := lt_of_lt_of_eq t.isLt N_0
  have hi : 1 * t.val + (y 0).val < 1 := by omega
  have hy : (win0_7.blk t).view.emb y = ix2 ⟨1 * t.val + (y 0).val, hi⟩ (y 1) := by
    blk_ext [idx t] <;> dsimp [ix2, ix3] <;> omega
  blk_simp
  rw [after0_7, hy]
  exact (congrArg _ (ValueIdx.eq_ix2 y)).trans (point_square m c t (y 0) (y 1) hi)

end Cert.Kernel21Ideal.Gen

end
-- ==== Proof.Norm.lean ====
/- The derivative of a row over its root mean square, over the extended reals. -/
module

public import proofs.«01_k».proof.Proof.Products

@[expose] public section

noncomputable section

namespace Cert.Norm

open Idealize.ShloMosaic

/-- The number of a row's entries. -/
def width : EReal := Ideal.ofBits .f32 0x44800000#32

/-- What is added to the mean square. -/
def eps : EReal := Ideal.ofBits .f32 0x358637BD#32

/-- Minus one half. -/
def minusHalf : EReal := Ideal.ofBits .f32 0xBF000000#32

theorem width_eq : width = ((1024 : ℝ) : EReal) := by
  simp [width, Ideal.ofBits, Ideal.ieee, -EReal.coe_mul]; norm_num

theorem minusHalf_eq : minusHalf = ((-(1 / 2) : ℝ) : EReal) := by
  simp [minusHalf, Ideal.ofBits, Ideal.ieee, -EReal.coe_mul]; norm_num

theorem eps_eq : ∃ e : ℝ, 0 < e ∧ eps = (e : EReal) := by
  refine ⟨8796093 / 8796093022208, by norm_num, ?_⟩
  simp [eps, Ideal.ofBits, Ideal.ieee, -EReal.coe_mul]; norm_num

theorem div_width (x : EReal) : Ideal.div x width = x * (((1 / 1024 : ℝ)) : EReal) := by
  rw [Ideal.div, width_eq, if_neg (by norm_num [← EReal.coe_zero]), ← EReal.coe_inv, one_div]

/-- One over the number of a row's entries. -/
def perEntry : EReal := Ideal.ofBits .f32 0x3A800000#32

/-- Half of that. -/
def halfPerEntry : EReal := Ideal.ofBits .f32 0x3A000000#32

theorem perEntry_eq : perEntry = ((1 / 1024 : ℝ) : EReal) := by
  simp [perEntry, Ideal.ofBits, Ideal.ieee, -EReal.coe_mul]; norm_num

theorem halfPerEntry_eq : halfPerEntry = ((1 / 2048 : ℝ) : EReal) := by
  simp [halfPerEntry, Ideal.ofBits, Ideal.ieee, -EReal.coe_mul]; norm_num

theorem half_f32 : Ideal.ofBits .f32 0x3F000000#32 = ((1 / 2 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

/-- Twice an error, times half, over the number of entries. -/
theorem slope (x : EReal) : Ideal.div (Ideal.ofBits .f32 0x3F000000#32 * Ideal.ofBits .f32 0x3F800000#32) width
    * (Ideal.ofBits .f32 0x40000000#32 * x) = x * perEntry := by
  rw [div_width, half_f32, one_f32, two_f32, perEntry_eq, ← mul_assoc, mul_comm x, ← EReal.coe_mul, ← EReal.coe_mul, ← EReal.coe_mul]
  norm_num

variable {n : ℕ} (h d : Fin n → EReal) (j : Fin n)

/-- A row's mean square, and a little more. -/
def meanSquare : EReal := Ideal.div (∑ k, h k * h k) width + eps

/-- Its root's inverse. -/
def scale : EReal := Ideal.rsqrt (meanSquare h)

theorem square_nonneg (x : EReal) : 0 ≤ x * x := by
  rcases le_total 0 x with h0 | h0
  · exact mul_nonneg h0 h0
  · have h1 : 0 ≤ -x := by rwa [EReal.le_neg, neg_zero]
    have := mul_nonneg h1 h1
    rwa [neg_mul_neg] at this

/-- The mean square is infinite or a positive real. -/
theorem meanSquare_cases : meanSquare h = ⊤ ∨ ∃ x : ℝ, 0 < x ∧ meanSquare h = (x : EReal) := by
  obtain ⟨e, he, h1⟩ := eps_eq
  have h0 : 0 ≤ Ideal.div (∑ k, h k * h k) width := by
    rw [div_width]
    exact mul_nonneg (Finset.sum_nonneg fun k _ => square_nonneg _) (by exact_mod_cast (by norm_num : (0 : ℝ) ≤ 1 / 1024))
  unfold meanSquare
  rw [h1]
  generalize Ideal.div (∑ k, h k * h k) width = y at h0
  induction y with
  | bot => exact absurd h0 (by simp)
  | top => exact Or.inl (by simp)
  | coe y =>
    have : 0 ≤ y := by exact_mod_cast h0
    exact Or.inr ⟨y + e, by linarith, by push_cast; rfl⟩

theorem sum_mul_real {n : ℕ} (f : Fin n → EReal) {r : ℝ} (hr : 0 ≤ r) : ∑ k, f k * (r : EReal) = (∑ k, f k) * (r : EReal) := by
  refine Finset.induction_on (Finset.univ : Finset (Fin n)) (by simp) fun a s ha ih => ?_
  rw [Finset.sum_insert ha, Finset.sum_insert ha, ih, EReal.right_distrib_of_nonneg_of_ne_top (by exact_mod_cast hr) (EReal.coe_ne_top r)]

/-- Half the sum of the rows' means of squares, term by term. -/
theorem half_means {n : ℕ} (f : Fin n → EReal) : Ideal.ofBits .f32 0x3F000000#32 * ∑ k, Ideal.div (f k) width = ∑ k, f k * halfPerEntry := by
  simp only [div_width]
  rw [halfPerEntry_eq, sum_mul_real f (by norm_num), sum_mul_real f (by norm_num), half_f32, mul_comm, mul_assoc, ← EReal.coe_mul]
  norm_num

theorem twice (x : EReal) : x + x = x * ((2 : ℝ) : EReal) := by
  rw [show ((2 : ℝ) : EReal) = 1 + 1 by rw [← EReal.coe_one, ← EReal.coe_add]; norm_num,
    EReal.left_distrib_of_nonneg (by norm_num) (by norm_num), mul_one]

/-- The derivative by an entry, with the mean of the products taken out. -/
def byMean : EReal := scale h * (d j - h j * scale h * Ideal.div (∑ k, d k * (h k * scale h)) width)

/-- What the derivative of the mean square carries to each of the two factors. -/
def carried : EReal := Ideal.div ((∑ k, h k * d k) * (minusHalf * Ideal.div (scale h) (meanSquare h))) width

/-- The two ways of writing the derivative agree, whatever the entries. -/
theorem byMean_eq : byMean h d j = d j * scale h + h j * carried h d + carried h d * h j := by
  unfold byMean carried
  rw [mul_comm _ (h j), add_assoc]
  rcases meanSquare_cases h with hv | ⟨x, hx, hv⟩
  · have hs : scale h = 0 := by rw [scale, hv]; rfl
    have hd : Ideal.div 0 (⊤ : EReal) = 0 := by simp [Ideal.div]
    rw [hs, hv, hd, mul_zero, mul_zero]
    simp [div_width]
  · have hs : scale h = (((Real.sqrt x)⁻¹ : ℝ) : EReal) := by
      rw [scale, hv, Ideal.rsqrt_coe, if_neg (by linarith), if_neg (by linarith)]
    have hq : (Real.sqrt x)⁻¹ * (Real.sqrt x)⁻¹ = x⁻¹ := by rw [← mul_inv, Real.mul_self_sqrt hx.le]
    have hr : 0 ≤ (Real.sqrt x)⁻¹ := inv_nonneg.2 (Real.sqrt_nonneg x)
    rw [hs, hv]
    generalize (Real.sqrt x)⁻¹ = r at hq hr
    have hd : Ideal.div ((r : ℝ) : EReal) ((x : ℝ) : EReal) = ((r * x⁻¹ : ℝ) : EReal) := by
      rw [Ideal.div, if_neg (by exact_mod_cast hx.ne'), ← EReal.coe_inv, ← EReal.coe_mul]
    have e1 : (∑ k, d k * (h k * (r : EReal))) = (∑ k, h k * d k) * (r : EReal) := by
      rw [← sum_mul_real _ hr]
      exact Finset.sum_congr rfl fun k _ => by rw [← mul_assoc, mul_comm (d k)]
    rw [hd, e1, div_width, div_width, minusHalf_eq, twice]
    generalize ∑ k, h k * d k = S
    rw [sub_eq_add_neg, EReal.left_distrib_of_nonneg_of_ne_top (by exact_mod_cast hr) (EReal.coe_ne_top r), mul_comm (r : EReal) (d j)]
    refine congrArg (d j * (r : EReal) + ·) ?_
    have l : (r : EReal) * -(h j * (r : EReal) * (S * (r : EReal) * ((1 / 1024 : ℝ) : EReal))) = h j * S * ((-(r * r * r * (1 / 1024)) : ℝ) : EReal) := by
      rw [mul_neg, EReal.coe_neg, mul_neg]
      push_cast
      congr 1
      ac_rfl
    have e : h j * (S * (((-(1 / 2) : ℝ) : EReal) * ((r * x⁻¹ : ℝ) : EReal)) * ((1 / 1024 : ℝ) : EReal)) * ((2 : ℝ) : EReal)
        = h j * S * ((-(1 / 2) * (r * x⁻¹) * (1 / 1024) * 2 : ℝ) : EReal) := by
      rw [EReal.coe_mul (-(1 / 2) * (r * x⁻¹) * (1 / 1024)), EReal.coe_mul (-(1 / 2) * (r * x⁻¹)), EReal.coe_mul (-(1 / 2)) (r * x⁻¹)]
      ac_rfl
    rw [l, e, ← hq]
    congr 2
    ring

theorem half_total {n : ℕ} (f : Fin n → EReal) : halfPerEntry * ∑ k, f k = ∑ k, f k * halfPerEntry := by
  rw [halfPerEntry_eq, sum_mul_real f (by norm_num), mul_comm]

/-- A sum over the rows after the prefix of each sequence is that over all rows, where the prefix's terms are zero. -/
theorem sum_after_prefix (f : Fin 4128 → EReal) (hf : ∀ i : Fin 4128, i.val % 2064 < 16 → f i = 0) :
    ∑ i, f i = ∑ b : Fin 2, ∑ t : Fin 2048, f ⟨2064 * b.val + (16 + t.val), by omega⟩ := by
  rw [Products.sum_stretches 2 2064 4128 rfl f]
  refine Finset.sum_congr rfl fun b _ => ?_
  rw [Products.sum_cut 16 2048 2064 rfl]
  rw [Finset.sum_eq_zero fun k _ => hf _ (by have := b.isLt; have := k.isLt; show (2064 * b.val + k.val) % 2064 < 16; omega), zero_add]

end Cert.Norm

end
-- ==== Proof.RmsBwd.lean ====
/- The derivative of the second norm, onto the residual's. -/
module

public import proofs.«01_k».proof.Proof.Gen.Kernel22Ideal.Value
public import proofs.«01_k».proof.Proof.Gen.Reference22Ideal.Read
public import proofs.«01_k».proof.Proof.Norm
public import Idealize.ShloMosaic.Lib.Pipeline.ValueKit

@[expose] public section

noncomputable section

namespace Cert.Reference22Ideal.Read

open Idealize.ShloMosaic hiding ix1 ix2 ix3 ix4 ix5
open Idealize.ShloMosaic.ValueIdx Cert.Products Cert.Reference22Ideal Cert.Norm

variable (d : (⟨S4128x1024, .bf16⟩ : BufTy).Contents (Elt Ideal)) (x : (⟨S4128x1024, .f32⟩ : BufTy).Contents (Elt Ideal))
  (g : (⟨S1x1024, .f32⟩ : BufTy).Contents (Elt Ideal)) (e : (⟨S4128x1024, .bf16⟩ : BufTy).Contents (Elt Ideal)) (i : Fin 4128) (j : Fin 1024)

/-- A row of the normed array. -/
def row (k : Fin 1024) : EReal := x (ix2 i k)

/-- A row of the derivative, times the norm's weights. -/
def weighted (k : Fin 1024) : EReal := (d (ix2 i k) : EReal) * (g (ix2 0 k) : EReal)

theorem mean (k : Fin 1) : (val_main_v6 (F := Ideal) x (ix2 i k) : EReal) = meanSquare (row x i) := by
  rw [val_main_v6_apply, val_main_v4_apply, val_main_v2_apply, val_main_v1_apply, val_main_v3_apply, val_main_v5_apply]
  refine congrArg (fun z : EReal => Ideal.div z width + eps) ?_
  refine (congrArg (· + _) Ideal.ofBits_zero_f32).trans ((zero_add _).trans (Finset.sum_congr rfl fun k _ => ?_))
  exact congrArg (fun y => (x y : EReal) * (x y : EReal)) (ValueIdx.eq_ix2 _)

theorem root (k : Fin 1) : (val_main_v7 (F := Ideal) x (ix2 i k) : EReal) = scale (row x i) := by
  rw [val_main_v7_apply]
  exact congrArg Ideal.rsqrt (mean x i k)

theorem entry_n : (val_main_v12 (F := Ideal) x (ix2 i j) : EReal) = row x i j * scale (row x i) := by
  rw [val_main_v12_apply, val_main_v11_apply]
  exact congrArg (fun z : EReal => row x i j * z) ((congrArg (fun y => (val_main_v7 (F := Ideal) x y : EReal)) (ValueIdx.eq_ix2 _)).trans (root x i 0))

theorem entry_w : (val_main_v20 (F := Ideal) d g (ix2 i j) : EReal) = weighted d g i j := by
  rw [val_main_v20_apply, val_main_v19_apply, val_main_v15_apply]
  exact congrArg (fun y => (d (ix2 i j) : EReal) * (g y : EReal)) (ValueIdx.eq_ix2 _)

theorem entry_c : (val_main_v30 (F := Ideal) d x g (ix2 i j) : EReal) = carried (row x i) (weighted d g i) := by
  rw [val_main_v30_apply, val_main_v29_apply]
  refine (congrArg (· + _) Ideal.ofBits_zero_f32).trans ((zero_add _).trans ((Fin.sum_univ_one _).trans ?_))
  refine (congrArg (fun y => (val_main_v28 (F := Ideal) d x g y : EReal)) (a₂ := (ix2 i 0 : S4128x1.Idx)) (funext fun a => Fin.ext ?_)).trans ?_
  · match a with
    | ⟨0, _⟩ => rfl
    | ⟨1, _⟩ => rfl
  rw [val_main_v28_apply, val_main_v26_apply, val_main_v27_apply, val_main_v23_apply, val_main_v22_apply, val_main_v10_apply, val_main_v8_apply,
    val_main_v9_apply]
  refine congrArg (fun z : EReal => Ideal.div z width) (congrArg₂ (fun p q : EReal => p * q) ?_ ?_)
  · refine (congrArg (· + _) Ideal.ofBits_zero_f32).trans ((zero_add _).trans (Finset.sum_congr rfl fun k _ => ?_))
    rw [val_main_v21_apply]
    refine (congrArg (fun y => (x y : EReal) * (val_main_v20 (F := Ideal) d g y : EReal)) (a₂ := ix2 i k) (funext fun a => Fin.ext ?_)).trans
      (congrArg (fun z : EReal => row x i k * z) (entry_w d g i k))
    match a with
    | ⟨0, _⟩ => show i.val * 1 + 0 = i.val; omega
    | ⟨1, _⟩ => rfl
  · exact congrArg₂ (fun p q : EReal => minusHalf * Ideal.div p q) (root x i _) (mean x i _)

/-- The reference's derivative by the normed array. -/
theorem entry_h : (val_main_v37 (F := Ideal) d x g e (ix2 i j) : EReal) = (e (ix2 i j) : EReal) + byMean (row x i) (weighted d g i) j := by
  rw [byMean_eq, val_main_v37_apply, val_main_v36_apply, val_main_v35_apply, val_main_v34_apply, val_main_v32_apply, val_main_v33_apply, val_main_v31_apply,
    val_main_v25_apply, val_main_v24_apply]
  have h1 := entry_w d g i j
  have h2 : (val_main_v7 (F := Ideal) x (idx_main_v24 (ix2 i j)) : EReal) = scale (row x i) :=
    (congrArg (fun y => (val_main_v7 (F := Ideal) x y : EReal)) (ValueIdx.eq_ix2 _)).trans (root x i 0)
  have h3 := entry_c d x g i j
  refine congrArg (fun z : EReal => (e (ix2 i j) : EReal) + z) ?_
  exact congrArg₂ (fun p q : EReal => p + q) (congrArg₂ (fun p q : EReal => p + q) (congrArg₂ (fun p q : EReal => p * q) h1 h2)
    (congrArg (fun z : EReal => row x i j * z) h3)) (congrArg (fun z : EReal => z * row x i j) h3)

/-- A row's part of the derivative by the norm's weights. -/
def part : EReal := (d (ix2 i j) : EReal) * (row x i j * scale (row x i))

/-- That derivative. -/
theorem entry_g (k : Fin 1) : (val_main_v18 (F := Ideal) d x (ix2 k j) : EReal) = ∑ i : Fin 4128, part d x i j := by
  rw [val_main_v18_apply, val_main_v17_apply]
  refine (congrArg (· + _) Ideal.ofBits_zero_f32).trans ((zero_add _).trans (Finset.sum_congr rfl fun i _ => ?_))
  refine (congrArg (fun y => (val_main_v16 (F := Ideal) d x y : EReal)) (a₂ := ix2 i j) (funext fun y => Fin.ext ?_)).trans ?_
  · match y with
    | ⟨0, _⟩ => rfl
    | ⟨1, _⟩ => have := k.isLt; show k.val * 1024 + j.val = j.val; omega
  · rw [val_main_v16_apply, val_main_v15_apply]
    exact (congrArg (fun z : EReal => z * (d (ix2 i j) : EReal)) (entry_n x i j)).trans (mul_comm (_ : EReal) _)

end Cert.Reference22Ideal.Read

namespace Cert.Kernel22Ideal.Gen

open Idealize.ShloMosaic hiding ix1 ix2 ix3 ix4 ix5
open Idealize.ShloMosaic.ValueIdx Cert.Products Cert.Kernel22Ideal Cert.Norm
open Idealize.ShloMosaic.TcCoe Idealize.SL.Sem
open Idealize.ShloMosaic.Pipeline (Dat)

variable (m : (ℓ : Loc nD τ sig) → Buf (Elt Ideal) ℓ) (c : Dev nD)

section

variable (x0 x3 : Vec Ideal S688x1024 .bf16) (x1 : Vec Ideal S688x1024 .f32) (x2 : Vec Ideal S1x1024 .f32) (i : Fin 688) (j : Fin 1024)

/-- A row of a block. -/
def brow (k : Fin 1024) : EReal := x1 (ix2 i k)

/-- A row of a block of the derivative, times the norm's weights. -/
def bweighted (k : Fin 1024) : EReal := (x0 (ix2 i k) : EReal) * (x2 (ix2 0 k) : EReal)

/-- A block's row sum, in a column. -/
theorem row_sum (x : FVec Ideal S688x1024 .f32) (k : Fin 1) :
    (shapeCast S688x1 (multiReduction .add [1] S688 x 0x00000000#32 reduces_S688x1024_S688 (.inl rfl) rfl) shapeCasts_S688_S688x1 (ix2 i k) : EReal)
      = ∑ l : Fin 1024, (x (ix2 i l) : EReal) := by
  refine (shapeCast_a_a1_apply _ _ _ _).trans ((Ideal.multiReduction_add_single _ _ _ _ _ _).trans
    (Finset.sum_congr rfl fun k _ => congrArg (fun a => (x a : EReal)) (funext fun a => Fin.ext ?_)))
  match a with
  | ⟨0, _⟩ => rfl
  | ⟨1, _⟩ => rfl

/-- A column repeated across the columns. -/
theorem across (x : FVec Ideal S688x1 .f32) : (broadcastTo S688x1024 x broadcasts_S688x1_S688x1024 (ix2 i j) : EReal) = x (ix2 i 0) := by
  refine congrArg (fun a => (x a : EReal)) (funext fun a => Fin.ext ?_)
  match a with
  | ⟨0, _⟩ => rfl
  | ⟨1, _⟩ => rfl

theorem step_r (k : Fin 1) : (k0_pay2 x1 (ix2 i k) : EReal) = scale (brow x1 i) :=
  congrArg (fun z : EReal => Ideal.rsqrt (Ideal.div z width + eps)) (row_sum i _ k)

theorem step_n : (k0_pay3 x1 (ix2 i j) : EReal) = brow x1 i j * scale (brow x1 i) :=
  congrArg (fun z : EReal => brow x1 i j * z) ((across i j _).trans (step_r x1 i 0))

theorem step_w : (mulf (k0_pay4 x0) (broadcastTo S688x1024 x2 broadcasts_S1x1024_S688x1024) (ix2 i j) : EReal) = bweighted x0 x2 i j :=
  congrArg (fun z : EReal => (x0 (ix2 i j) : EReal) * z) (broadcastTo_1b_ab_apply _ _ _ _)

/-- A step's derivative by the normed array. -/
theorem step_h : (k0_pay5 x1 x0 x2 x3 (ix2 i j) : EReal) = (x3 (ix2 i j) : EReal) + byMean (brow x1 i) (bweighted x0 x2 i) j := by
  have h1 := (across i j (k0_pay2 x1)).trans (step_r x1 i 0)
  have h2 := step_w x0 x2 i j
  have h3 := step_n x1 i j
  have h4 : (broadcastTo S688x1024 (divf (shapeCast S688x1 (multiReduction .add [1] S688
        (mulf (mulf (k0_pay4 x0) (broadcastTo S688x1024 x2 broadcasts_S1x1024_S688x1024)) (k0_pay3 x1)) 0x00000000#32 reduces_S688x1024_S688 (.inl rfl) rfl)
        shapeCasts_S688_S688x1) (broadcast S688x1 (Scalar.ofBits .f32 0x44800000#32))) broadcasts_S688x1_S688x1024 (ix2 i j) : EReal)
      = Ideal.div (∑ k, bweighted x0 x2 i k * (brow x1 i k * scale (brow x1 i))) width :=
    (across i j _).trans (congrArg (fun z : EReal => Ideal.div z width) ((row_sum i _ 0).trans
      (Finset.sum_congr rfl fun k _ => congrArg₂ (fun p q : EReal => p * q) (step_w x0 x2 i k) (step_n x1 i k))))
  exact congrArg (fun z : EReal => (x3 (ix2 i j) : EReal) + z) (congrArg₂ (fun p q : EReal => p * q) h1
    (congrArg₂ (fun p q : EReal => p - q) h2 (congrArg₂ (fun p q : EReal => p * q) h3 h4)))

/-- A block's columns, summed. -/
def columns (y : S1x1024.Idx) : EReal := ∑ i : Fin 688, (x0 (ix2 i (y 1)) : EReal) * (brow x1 i (y 1) * scale (brow x1 i))

/-- What a step adds to the derivative by the norm's weights. -/
theorem step_g (acc : Vec Ideal S1x1024 .f32) (y : S1x1024.Idx) :
    (k0_pay1 (k0_pay3 x1) (k0_pay4 x0) acc y : EReal) = (acc y : EReal) + columns x0 x1 y := by
  rw [ValueIdx.eq_ix2 y]
  unfold k0_pay1
  refine congrArg₂ (fun p q : EReal => p + q) (congrFun (shapeCast_self acc _) _) ((shapeCast_a_1a_apply _ _ _ _).trans ((Ideal.multiReduction_add_single _ _ _ _ _ _).trans
    (Finset.sum_congr rfl fun k _ => ?_)))
  refine (congrArg (fun a => (x0 a : EReal) * (k0_pay3 x1 a : EReal)) (a₂ := ix2 k (y 1)) (funext fun a => Fin.ext ?_)).trans
    (congrArg (fun z : EReal => (x0 (ix2 k (y 1)) : EReal) * z) (step_n x1 k (y 1)))
  match a with
  | ⟨0, _⟩ => rfl
  | ⟨1, _⟩ => rfl

end

/-! What the body leaves in each output's buffer. -/

theorem left4 (t : Fin cfg0.N) : (outsAt0 m c t.val t.isLt).1 = k0_pay5 (iblk m c 1 t) (iblk m c 0 t) (iblk m c 2 t) (iblk m c 3 t) := by
  by_cases h : t.val % 6 = 0
  · rw [outsAt0_A m c t h]; frame_out
  · rw [outsAt0_B m c t h]; frame_out

/-- The sum down a block's rows, once all its steps are through. -/
theorem left5 (t : Fin cfg0.N) (h : t.val % 6 = 6 - 1) (y : S1x1024.Idx) : ((outsAt0 m c t.val t.isLt).2 y : EReal)
    = ∑ s : Fin 6, columns (iblk m c 0 ⟨6 * (t.val / 6) + s.val, Pipeline.run_point_lt_of_flush t h s⟩)
        (iblk m c 1 ⟨6 * (t.val / 6) + s.val, Pipeline.run_point_lt_of_flush t h s⟩) y := by
  rw [Pipeline.eq_sum_fin_of_reset_step_apply_of_flush (M := EReal) (fun n h => (outsAt0 m c n h).2) 6 (fun _ => (0 : EReal))
    (fun t y => columns (iblk m c 0 t) (iblk m c 1 t) y)
    (fun t h y => by
      have hp : (outsAt0 m c t.val t.isLt).2 = k0_pay1 (k0_pay3 (iblk m c 1 t)) (k0_pay4 (iblk m c 0 t)) (k0_pay6 (F := Ideal)) := by
        rw [outsAt0_A m c t h]; frame_out
      rw [hp]
      exact (step_g _ _ _ _).trans (congrArg (· + _) Ideal.ofBits_zero_f32))
    (fun t h y => by
      have hp : (outsAt0 m c t.val t.isLt).2 = k0_pay1 (k0_pay3 (iblk m c 1 t)) (k0_pay4 (iblk m c 0 t))
          (outsAt0 m c (t.val - 1) (Nat.lt_of_le_of_lt (Nat.sub_le _ _) t.isLt)).2 := by
        rw [outsAt0_B m c t h]; frame_out
      rw [hp]
      exact step_g _ _ _ _) t h y]
  exact zero_add (_ : EReal)

/-- The index maps. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

section

variable (t : Fin cfg0.N) (i : Fin 688) (j : Fin 1024) (hi : 688 * t.val + i.val < 4128)

theorem block0 : iblk m c 0 t (ix2 i j) = m (c, main_arg0) (ix2 ⟨688 * t.val + i.val, hi⟩ j) := by
  rw [show m (c, main_arg0) = V m c main_arg0 from (V_main_arg0 m c).symm]
  blk_ext [iblk, idx t] <;> dsimp [ix2] <;> omega

theorem block1 : iblk m c 1 t (ix2 i j) = m (c, main_arg1) (ix2 ⟨688 * t.val + i.val, hi⟩ j) := by
  rw [show m (c, main_arg1) = V m c main_arg1 from (V_main_arg1 m c).symm]
  blk_ext [iblk, idx t] <;> dsimp [ix2] <;> omega

theorem block2 : iblk m c 2 t (ix2 0 j) = m (c, main_arg2) (ix2 0 j) := by
  rw [show m (c, main_arg2) = V m c main_arg2 from (V_main_arg2 m c).symm]
  blk_ext [iblk, idx t] <;> dsimp [ix2] <;> omega

theorem block3 : iblk m c 3 t (ix2 i j) = m (c, main_arg3) (ix2 ⟨688 * t.val + i.val, hi⟩ j) := by
  rw [show m (c, main_arg3) = V m c main_arg3 from (V_main_arg3 m c).symm]
  blk_ext [iblk, idx t] <;> dsimp [ix2] <;> omega

theorem row1 : brow (iblk m c 1 t) i = Cert.Reference22Ideal.Read.row (m (c, main_arg1)) ⟨688 * t.val + i.val, hi⟩ :=
  funext fun k => block1 m c t i k hi

theorem weighted1 : bweighted (iblk m c 0 t) (iblk m c 2 t) i
    = Cert.Reference22Ideal.Read.weighted (m (c, main_arg0)) (m (c, main_arg2)) ⟨688 * t.val + i.val, hi⟩ :=
  funext fun k => congrArg₂ (fun p q : EReal => p * q) (block0 m c t i k hi) (block2 m c t k)

theorem point_h : ((k0_pay5 (iblk m c 1 t) (iblk m c 0 t) (iblk m c 2 t) (iblk m c 3 t)) (ix2 i j) : EReal)
    = Cert.Reference22Ideal.Read.val_main_v37 (F := Ideal) (m (c, main_arg0)) (m (c, main_arg1)) (m (c, main_arg2)) (m (c, main_arg3)) (ix2 ⟨_, hi⟩ j) := by
  refine (step_h _ _ _ _ _ _).trans (Eq.trans ?_ (Cert.Reference22Ideal.Read.entry_h _ _ _ _ _ _).symm)
  rw [block3 m c t i j hi, row1 m c t i hi, weighted1 m c t i hi]

end

/-- A block's columns summed are the reference's terms. -/
theorem point_g (t : Fin cfg0.N) (y : S1x1024.Idx) (ht : t.val < 6) : columns (iblk m c 0 t) (iblk m c 1 t) y
    = ∑ i : Fin 688, Cert.Reference22Ideal.Read.part (m (c, main_arg0)) (m (c, main_arg1)) ⟨688 * t.val + i.val, by omega⟩ (y 1) := by
  unfold columns
  refine Finset.sum_congr rfl fun i _ => ?_
  rw [block0 m c t i (y 1) (by omega), row1 m c t i (by omega)]
  rfl

/-- The kernel's derivative by the normed array is the reference's. -/
theorem array_h : (dats m 0 c).arrAt 4 (cfgs 0).N
    = Cert.Reference22Ideal.Read.val_main_v37 (F := Ideal) (m (c, main_arg0)) (m (c, main_arg1)) (m (c, main_arg2)) (m (c, main_arg3)) := by
  refine (dats m 0 c).arrAt_eq_of_covers 4 _ (by decide +kernel) fun t hf y => ?_
  have h0 : (y 0).val < 688 := (y 0).isLt
  have h1 : (y 1).val < 1024 := (y 1).isLt
  have ht : t.val < 6 := lt_of_lt_of_eq t.isLt N_0
  have hi : 688 * t.val + (y 0).val < 4128 := by omega
  have hy : (win0_4.blk t).view.emb y = ix2 ⟨688 * t.val + (y 0).val, hi⟩ (⟨(y 1).val, h1⟩ : Fin 1024) := by
    blk_ext [idx t] <;> dsimp [ix2] <;> omega
  blk_simp
  rw [after0_4, hy, left4]
  exact (congrArg _ (ValueIdx.eq_ix2 y)).trans (point_h m c t (y 0) (y 1) hi)

/-- The kernel's derivative by the norm's weights is the reference's. -/
theorem array_g : (dats m 0 c).arrAt 5 (cfgs 0).N = Cert.Reference22Ideal.Read.val_main_v18 (F := Ideal) (m (c, main_arg0)) (m (c, main_arg1)) := by
  refine (dats m 0 c).arrAt_eq_of_covers 5 _ (by decide +kernel) fun t hf y => ?_
  have h0 : (y 0).val < 1 := (y 0).isLt
  have h1 : (y 1).val < 1024 := (y 1).isLt
  have ht : t.val < 6 := lt_of_lt_of_eq t.isLt N_0
  have hr : t.val % 6 = 6 - 1 := (flush0_5 t).mp hf
  have hy : (win0_5.blk t).view.emb y = ix2 (0 : Fin 1) (⟨(y 1).val, h1⟩ : Fin 1024) := by
    blk_ext [idx t] <;> dsimp [ix2] <;> omega
  blk_simp
  rw [after0_5, hy]
  refine (left5 m c t hr y).trans (Eq.trans ?_ (Cert.Reference22Ideal.Read.entry_g _ _ _ _).symm)
  refine Eq.trans ?_ (sum_stretches 6 688 4128 rfl _).symm
  refine Finset.sum_congr rfl fun s _ => ?_
  have hs := s.isLt
  refine (point_g m c ⟨6 * (t.val / 6) + s.val, Pipeline.run_point_lt_of_flush t hr s⟩ y (by dsimp only; omega)).trans ?_
  refine Finset.sum_congr rfl fun k _ => ?_
  refine congrArg (fun a : Fin 4128 => Cert.Reference22Ideal.Read.part (m (c, main_arg0)) (m (c, main_arg1)) a (y 1)) (Fin.ext ?_)
  dsimp only; omega

end Cert.Kernel22Ideal.Gen

end
-- ==== Proof.FinalLoss.lean ====
/- The last norm, the loss and its derivative. -/
module

public import proofs.«01_k».proof.Proof.Gen.Kernel23Ideal.Value
public import proofs.«01_k».proof.Proof.Gen.Reference23Ideal.Read
public import proofs.«01_k».proof.Proof.Norm
public import Idealize.ShloMosaic.Lib.KernelVsHost
public import Idealize.ShloMosaic.Lib.WordCmp
public import Idealize.ShloMosaic.Lib.Pipeline.ValueKit

@[expose] public section

noncomputable section

namespace Cert.Reference23Ideal.Read

open Idealize.ShloMosaic hiding ix1 ix2 ix3 ix4 ix5
open Idealize.ShloMosaic.ValueIdx Cert.Reference23Ideal Cert.Norm

variable (x : (⟨S4128x1024, .f32⟩ : BufTy).Contents (Elt Ideal)) (d : (⟨S4128x1024, .bf16⟩ : BufTy).Contents (Elt Ideal))
  (e : (⟨S4128x1024, .f32⟩ : BufTy).Contents (Elt Ideal)) (g : (⟨S1x1024, .f32⟩ : BufTy).Contents (Elt Ideal)) (i : Fin 4128) (j : Fin 1024)

/-- A row of the last layer's output. -/
def row (k : Fin 1024) : EReal := (x (ix2 i k) : EReal) + (d (ix2 i k) : EReal)

/-- What an output misses its target by. -/
def miss (k : Fin 1024) : EReal := row x d i k * scale (row x d i) * (g (ix2 0 k) : EReal) - (e (ix2 i k) : EReal)

/-- That past the prefix, and zero on it. -/
def kept (k : Fin 1024) : EReal := if 16 ≤ i.val % 2064 then miss x d e g i k else 0

/-- The derivative by an output, times the norm's weights. -/
def weighted (k : Fin 1024) : EReal := kept x d e g i k * perEntry * (g (ix2 0 k) : EReal)

/-- A row's part of the derivative by the norm's weights. -/
def part : EReal := kept x d e g i j * perEntry * (row x d i j * scale (row x d i))

/-- A row's squared misses, summed. -/
def squares : EReal := ∑ k : Fin 1024, kept x d e g i k * kept x d e g i k

theorem mean (k : Fin 1) : (val_main_v8 (F := Ideal) x d (ix2 i k) : EReal) = meanSquare (row x d i) := by
  rw [val_main_v8_apply, val_main_v6_apply, val_main_v4_apply, val_main_v3_apply, val_main_v5_apply, val_main_v7_apply]
  refine congrArg (fun z : EReal => Ideal.div z width + eps) ?_
  refine (congrArg (· + _) Ideal.ofBits_zero_f32).trans ((zero_add _).trans (Finset.sum_congr rfl fun k _ => ?_))
  exact congrArg (fun y => ((x y : EReal) + (d y : EReal)) * ((x y : EReal) + (d y : EReal))) (ValueIdx.eq_ix2 _)

theorem root (k : Fin 1) : (val_main_v9 (F := Ideal) x d (ix2 i k) : EReal) = scale (row x d i) := by
  rw [val_main_v9_apply]
  exact congrArg Ideal.rsqrt (mean x d i k)

theorem entry_n : (val_main_v14 (F := Ideal) x d (ix2 i j) : EReal) = row x d i j * scale (row x d i) := by
  rw [val_main_v14_apply, val_main_v13_apply]
  exact congrArg (fun z : EReal => row x d i j * z) ((congrArg (fun y => (val_main_v9 (F := Ideal) x d y : EReal)) (ValueIdx.eq_ix2 _)).trans (root x d i 0))

theorem entry_y : (val_main_v16 (F := Ideal) x d g (ix2 i j) : EReal) = row x d i j * scale (row x d i) * (g (ix2 0 j) : EReal) := by
  rw [val_main_v16_apply, val_main_v15_apply]
  exact congrArg₂ (fun p q : EReal => p * q) (entry_n x d i j) (congrArg (fun y => (g y : EReal)) (ValueIdx.eq_ix2 _))

/-- The reference's errors. -/
theorem entry_e (b : Fin 2) (t : Fin 2048) (h : 2064 * b.val + (16 + t.val) < 4128) :
    (val_main_v21 (F := Ideal) x d e g (ix3 b t j) : EReal) = miss x d e g ⟨2064 * b.val + (16 + t.val), h⟩ j := by
  have hj := j.isLt
  rw [val_main_v21_apply, val_main_v18_apply, val_main_v17_apply, val_main_v20_apply, val_main_v19_apply]
  refine congrArg₂ (fun p q : EReal => p - q) ((congrArg (fun y => (val_main_v16 (F := Ideal) x d g y : EReal))
    (a₂ := ix2 ⟨2064 * b.val + (16 + t.val), h⟩ j) (funext fun a => Fin.ext ?_)).trans (entry_y x d g _ j))
    (congrArg (fun y => (e y : EReal)) (funext fun a => Fin.ext ?_))
  · match a with
    | ⟨0, _⟩ => show ((b.val * 2064 + (16 + t.val)) * 1024 + j.val) / 1024 = 2064 * b.val + (16 + t.val); omega
    | ⟨1, _⟩ => show ((b.val * 2064 + (16 + t.val)) * 1024 + j.val) % 1024 = j.val; omega
  · match a with
    | ⟨0, _⟩ => show ((b.val * 2064 + (16 + t.val)) * 1024 + j.val) / 1024 = 2064 * b.val + (16 + t.val); omega
    | ⟨1, _⟩ => show ((b.val * 2064 + (16 + t.val)) * 1024 + j.val) % 1024 = j.val; omega

theorem entry_s (b : Fin 2) (t : Fin 2048) (h : 2064 * b.val + (16 + t.val) < 4128) :
    (val_main_v35 (F := Ideal) x d e g (ix3 b t j) : EReal) = miss x d e g ⟨2064 * b.val + (16 + t.val), h⟩ j * perEntry := by
  rw [val_main_v35_apply, val_main_v34_apply, val_main_v33_apply, val_main_v31_apply, val_main_v30_apply, val_main_v32_apply, val_main_v24_apply, val_main_v23_apply]
  exact (slope _).trans (congrArg (fun z : EReal => z * perEntry) (entry_e x d e g j b t h))

/-- The reference's derivative by the output. -/
theorem entry_p : (val_main_v37 (F := Ideal) x d e g (ix2 i j) : EReal) = kept x d e g i j * perEntry := by
  have hi := i.isLt
  have hj := j.isLt
  rw [val_main_v37_apply]
  unfold val_main_v36 kept
  by_cases h : 16 ≤ i.val % 2064
  · rw [if_pos h]
    have hb : i.val / 2064 < 2 := by omega
    have ht : i.val % 2064 - 16 < 2048 := by omega
    have hr : 2064 * (i.val / 2064) + (16 + (i.val % 2064 - 16)) = i.val := by omega
    refine (pad_apply_of_inside _ _ _ _ _ _ _ _ (ix3 (⟨i.val / 2064, hb⟩ : Fin 2) (⟨i.val % 2064 - 16, ht⟩ : Fin 2048) j) fun a => ?_).trans
      ((entry_s x d e g j ⟨_, hb⟩ ⟨_, ht⟩ (by dsimp only; omega)).trans ?_)
    · match a with
      | ⟨0, _⟩ => show (i.val * 1024 + j.val) / 2113536 = 0 + (i.val / 2064) * (0 + 1); omega
      | ⟨1, _⟩ => show (i.val * 1024 + j.val) / 1024 % 2064 = 16 + (i.val % 2064 - 16) * (0 + 1); omega
      | ⟨2, _⟩ => show (i.val * 1024 + j.val) % 1024 = 0 + j.val * (0 + 1); omega
    · exact congrArg (fun a : Fin 4128 => miss x d e g a j * perEntry) (Fin.ext hr)
  · rw [if_neg h, zero_mul]
    refine (pad_apply_of_not_inside _ _ _ _ _ _ _ _ 1 fun hc => h ?_).trans Ideal.ofBits_zero_f32
    have h1 : 16 ≤ (i.val * 1024 + j.val) / 1024 % 2064 := hc.1
    omega

theorem entry_w : (val_main_v42 (F := Ideal) x d e g (ix2 i j) : EReal) = weighted x d e g i j := by
  rw [val_main_v42_apply, val_main_v41_apply]
  exact congrArg₂ (fun p q : EReal => p * q) (entry_p x d e g i j) (congrArg (fun y => (g y : EReal)) (ValueIdx.eq_ix2 _))

theorem entry_c : (val_main_v52 (F := Ideal) x d e g (ix2 i j) : EReal) = carried (row x d i) (weighted x d e g i) := by
  rw [val_main_v52_apply, val_main_v51_apply]
  refine (congrArg (· + _) Ideal.ofBits_zero_f32).trans ((zero_add _).trans ((Fin.sum_univ_one _).trans ?_))
  refine (congrArg (fun y => (val_main_v50 (F := Ideal) x d e g y : EReal)) (a₂ := (ix2 i 0 : S4128x1.Idx)) (funext fun a => Fin.ext ?_)).trans ?_
  · match a with
    | ⟨0, _⟩ => rfl
    | ⟨1, _⟩ => rfl
  rw [val_main_v50_apply, val_main_v48_apply, val_main_v49_apply, val_main_v45_apply, val_main_v44_apply, val_main_v12_apply, val_main_v10_apply,
    val_main_v11_apply]
  refine congrArg (fun z : EReal => Ideal.div z width) (congrArg₂ (fun p q : EReal => p * q) ?_ ?_)
  · refine (congrArg (· + _) Ideal.ofBits_zero_f32).trans ((zero_add _).trans (Finset.sum_congr rfl fun k _ => ?_))
    rw [val_main_v43_apply]
    refine (congrArg (fun y => ((x y : EReal) + (d y : EReal)) * (val_main_v42 (F := Ideal) x d e g y : EReal)) (a₂ := ix2 i k) (funext fun a => Fin.ext ?_)).trans
      (congrArg (fun z : EReal => row x d i k * z) (entry_w x d e g i k))
    match a with
    | ⟨0, _⟩ => show i.val * 1 + 0 = i.val; omega
    | ⟨1, _⟩ => rfl
  · exact congrArg₂ (fun p q : EReal => minusHalf * Ideal.div p q) (root x d i _) (mean x d i _)

/-- The reference's derivative by the last layer's output. -/
theorem entry_h : (val_main_v57 (F := Ideal) x d e g (ix2 i j) : EReal) = byMean (row x d i) (weighted x d e g i) j := by
  rw [byMean_eq, val_main_v57_apply, val_main_v56_apply, val_main_v54_apply, val_main_v55_apply, val_main_v53_apply, val_main_v47_apply, val_main_v46_apply]
  have h1 := entry_w x d e g i j
  have h2 : (val_main_v9 (F := Ideal) x d (idx_main_v46 (ix2 i j)) : EReal) = scale (row x d i) :=
    (congrArg (fun y => (val_main_v9 (F := Ideal) x d y : EReal)) (ValueIdx.eq_ix2 _)).trans (root x d i 0)
  have h3 := entry_c x d e g i j
  exact congrArg₂ (fun p q : EReal => p + q) (congrArg₂ (fun p q : EReal => p + q) (congrArg₂ (fun p q : EReal => p * q) h1 h2)
    (congrArg (fun z : EReal => row x d i j * z) h3)) (congrArg (fun z : EReal => z * row x d i j) h3)

/-- That by the norm's weights. -/
theorem entry_g (k : Fin 1) : (val_main_v40 (F := Ideal) x d e g (ix2 k j) : EReal) = ∑ i : Fin 4128, part x d e g i j := by
  rw [val_main_v40_apply, val_main_v39_apply]
  refine (congrArg (· + _) Ideal.ofBits_zero_f32).trans ((zero_add _).trans (Finset.sum_congr rfl fun i _ => ?_))
  refine (congrArg (fun y => (val_main_v38 (F := Ideal) x d e g y : EReal)) (a₂ := ix2 i j) (funext fun y => Fin.ext ?_)).trans ?_
  · match y with
    | ⟨0, _⟩ => rfl
    | ⟨1, _⟩ => have := k.isLt; show k.val * 1024 + j.val = j.val; omega
  · rw [val_main_v38_apply]
    exact (congrArg₂ (fun p q : EReal => p * q) (entry_n x d i j) (entry_p x d e g i j)).trans (mul_comm (_ : EReal) _)

theorem squares_prefix (h : i.val % 2064 < 16) : squares x d e g i = 0 :=
  Finset.sum_eq_zero fun k _ => by rw [kept, if_neg (by omega), zero_mul]

/-- The reference's loss. -/
theorem entry_l (y : S8x128.Idx) : (val_main_v58 (F := Ideal) x d e g y : EReal) = ∑ i : Fin 4128, squares x d e g i * halfPerEntry := by
  rw [← half_means, val_main_v58_apply, val_main_v29_apply, val_main_v28_apply]
  refine congrArg (fun z : EReal => Ideal.ofBits .f32 0x3F000000#32 * z) ?_
  refine (congrArg (· + _) Ideal.ofBits_zero_f32).trans ((zero_add _).trans ?_)
  rw [sum_after_prefix _ fun i hi => by rw [squares_prefix x d e g i hi, div_width, zero_mul]]
  refine (ValueIdx.sum_idx2 (M := EReal) (n0 := 2) (n1 := 2048) (fun j => (val_main_v27 (F := Ideal) x d e g j : EReal))).trans
    (Finset.sum_congr rfl fun b _ => Finset.sum_congr rfl fun t _ => ?_)
  have hb := b.isLt
  have ht := t.isLt
  have h : 2064 * b.val + (16 + t.val) < 4128 := by omega
  rw [val_main_v27_apply, val_main_v25_apply, val_main_v26_apply]
  refine congrArg (fun z : EReal => Ideal.div z width) ((congrArg (· + _) Ideal.ofBits_zero_f32).trans ((zero_add _).trans (Finset.sum_congr rfl fun k _ => ?_)))
  rw [val_main_v22_apply, kept, if_pos (by dsimp only; omega)]
  have hk := entry_e x d e g k b t h
  refine (congrArg (fun y => (val_main_v21 (F := Ideal) x d e g y : EReal) * (val_main_v21 (F := Ideal) x d e g y : EReal)) (a₂ := (ix3 b t k : S2x2048x1024.Idx))
    (funext fun a => Fin.ext ?_)).trans (congrArg₂ (fun p q : EReal => p * q) hk hk)
  match a with
  | ⟨0, _⟩ => rfl
  | ⟨1, _⟩ => rfl
  | ⟨2, _⟩ => rfl

end Cert.Reference23Ideal.Read

namespace Cert.Kernel23Ideal.Gen

open Idealize.ShloMosaic hiding ix1 ix2 ix3 ix4 ix5
open Idealize.ShloMosaic.ValueIdx Cert.Kernel23Ideal Cert.Norm
open Idealize.ShloMosaic.TcCoe Idealize.SL.Sem
open Idealize.ShloMosaic.Pipeline (Dat)

variable (m : (ℓ : Loc nD τ sig) → Buf (Elt Ideal) ℓ) (c : Dev nD)

section

variable (q : grid0.Coords) (x0 x2 : Vec Ideal S688x1024 .f32) (x1 : Vec Ideal S688x1024 .bf16) (x3 : Vec Ideal S1x1024 .f32) (i : Fin 688) (j : Fin 1024)

/-- A row of a block of the last layer's output. -/
def brow (k : Fin 1024) : EReal := (x0 (ix2 i k) : EReal) + (x1 (ix2 i k) : EReal)

/-- What a block's outputs miss their targets by. -/
def bmiss (k : Fin 1024) : EReal := brow x0 x1 i k * scale (brow x0 x1 i) * (x3 (ix2 0 k) : EReal) - (x2 (ix2 i k) : EReal)

/-- That past the prefix, and zero on it. -/
def bkept (k : Fin 1024) : EReal := if 16 ≤ (q 1).val * 688 + i.val then bmiss x0 x2 x1 x3 i k else 0

/-- The derivative by a block's outputs, times the norm's weights. -/
def bweighted (k : Fin 1024) : EReal := bkept q x0 x2 x1 x3 i k * perEntry * (x3 (ix2 0 k) : EReal)

/-- A block's row sum, in a column. -/
theorem row_sum (x : FVec Ideal S688x1024 .f32) (k : Fin 1) :
    (shapeCast S688x1 (multiReduction .add [1] S688 x 0x00000000#32 reduces_S688x1024_S688 (.inl rfl) rfl) shapeCasts_S688_S688x1 (ix2 i k) : EReal)
      = ∑ l : Fin 1024, (x (ix2 i l) : EReal) := by
  refine (shapeCast_a_a1_apply _ _ _ _).trans ((Ideal.multiReduction_add_single _ _ _ _ _ _).trans
    (Finset.sum_congr rfl fun k _ => congrArg (fun a => (x a : EReal)) (funext fun a => Fin.ext ?_)))
  match a with
  | ⟨0, _⟩ => rfl
  | ⟨1, _⟩ => rfl

/-- A column repeated across the columns. -/
theorem across {α : Type} (x : S688x1.Idx → α) : broadcastTo S688x1024 x broadcasts_S688x1_S688x1024 (ix2 i j) = x (ix2 i 0) := by
  refine congrArg x (funext fun a => Fin.ext ?_)
  match a with
  | ⟨0, _⟩ => rfl
  | ⟨1, _⟩ => rfl

theorem step_r (k : Fin 1) : (k0_pay5 x0 x1 (ix2 i k) : EReal) = scale (brow x0 x1 i) :=
  congrArg (fun z : EReal => Ideal.rsqrt (Ideal.div z width + eps)) (row_sum i _ k)

theorem step_n : (k0_pay6 x0 x1 (ix2 i j) : EReal) = brow x0 x1 i j * scale (brow x0 x1 i) :=
  congrArg (fun z : EReal => brow x0 x1 i j * z) ((across i j _).trans (step_r x0 x1 i 0))

/-- A step's errors. -/
theorem step_e : (k0_pay7 q x0 x1 x3 x2 (ix2 i j) : EReal) = bkept q x0 x2 x1 x3 i j := by
  have hq : (q 1).val < 3 := (q 1).isLt
  have hi := i.isLt
  have hw : (broadcastTo S688x1024 (shapeCast S688x1 (cmpi .sge (addi (broadcast S688x1 (Scalar.muli (BitVec.ofNat 32 (q 1).val) 688#32))
      (iota .tc S688x1 32 [0] iota_S688x1_d0_w32)) (broadcast S688x1 16#32)) shapeCasts_S688x1_S688x1) broadcasts_S688x1_S688x1024 (ix2 i j))
        = IntOp.cmpi .sge (BitVec.ofNat 32 ((q 1).val * 688 + i.val)) (BitVec.ofNat 32 16) := by
    refine (across i j _).trans ((congrFun (shapeCast_self _ _) _).trans ?_)
    refine congrArg (fun z => IntOp.cmpi .sge z (BitVec.ofNat 32 16)) ?_
    show BitVec.ofNat 32 (q 1).val * BitVec.ofNat 32 688 + BitVec.ofNat 32 (0 * 688 + i.val) = _
    rw [BitVec.ofNat_mul_ofNat, BitVec.ofNat_add_ofNat, Nat.zero_mul, Nat.zero_add]
  have hd : (subf (mulf (k0_pay6 x0 x1) (broadcastTo S688x1024 x3 broadcasts_S1x1024_S688x1024)) x2 (ix2 i j) : EReal) = bmiss x0 x2 x1 x3 i j :=
    congrArg₂ (fun a b : EReal => a * b - (x2 (ix2 i j) : EReal)) (step_n x0 x1 i j) (broadcastTo_1b_ab_apply _ _ _ _)
  refine (congrArg (fun z => (Scalar.select z (subf (mulf (k0_pay6 x0 x1) (broadcastTo S688x1024 x3 broadcasts_S1x1024_S688x1024)) x2 (ix2 i j))
    (Ideal.ofBits .f32 0x00000000#32) : EReal)) hw).trans ?_
  unfold Scalar.select bkept
  rw [show (1 : BitVec 1) = 1#1 from rfl]
  by_cases h : 16 ≤ (q 1).val * 688 + i.val
  · rw [if_pos h, if_pos ((WordCmp.cmpi_sge_ofNat_eq_one_iff (w := 32) (by omega) (by omega)).2 h)]
    exact hd
  · rw [if_neg h, if_neg fun h' => h ((WordCmp.cmpi_sge_ofNat_eq_one_iff (w := 32) (by omega) (by omega)).1 h')]
    exact Ideal.ofBits_zero_f32

theorem step_p : (k0_pay8 q x0 x1 x3 x2 (ix2 i j) : EReal) = bkept q x0 x2 x1 x3 i j * perEntry :=
  congrArg (fun z : EReal => z * perEntry) (step_e q x0 x2 x1 x3 i j)

theorem step_w : (mulf (k0_pay8 q x0 x1 x3 x2) (broadcastTo S688x1024 x3 broadcasts_S1x1024_S688x1024) (ix2 i j) : EReal) = bweighted q x0 x2 x1 x3 i j :=
  congrArg₂ (fun a b : EReal => a * b) (step_p q x0 x2 x1 x3 i j) (broadcastTo_1b_ab_apply _ _ _ _)

/-- A step's derivative by the last layer's output. -/
theorem step_h : (k0_pay3 (k0_pay5 x0 x1) (k0_pay6 x0 x1) x3 (k0_pay8 q x0 x1 x3 x2) (ix2 i j) : EReal)
    = byMean (brow x0 x1 i) (bweighted q x0 x2 x1 x3 i) j := by
  have h1 := (across i j (k0_pay5 x0 x1)).trans (step_r x0 x1 i 0)
  have h2 := step_w q x0 x2 x1 x3 i j
  have h3 := step_n x0 x1 i j
  have h4 : (broadcastTo S688x1024 (divf (shapeCast S688x1 (multiReduction .add [1] S688
        (mulf (mulf (k0_pay8 q x0 x1 x3 x2) (broadcastTo S688x1024 x3 broadcasts_S1x1024_S688x1024)) (k0_pay6 x0 x1)) 0x00000000#32 reduces_S688x1024_S688 (.inl rfl) rfl)
        shapeCasts_S688_S688x1) (broadcast S688x1 (Scalar.ofBits .f32 0x44800000#32))) broadcasts_S688x1_S688x1024 (ix2 i j) : EReal)
      = Ideal.div (∑ k, bweighted q x0 x2 x1 x3 i k * (brow x0 x1 i k * scale (brow x0 x1 i))) width :=
    (across i j _).trans (congrArg (fun z : EReal => Ideal.div z width) ((row_sum i _ 0).trans
      (Finset.sum_congr rfl fun k _ => congrArg₂ (fun p q : EReal => p * q) (step_w q x0 x2 x1 x3 i k) (step_n x0 x1 i k))))
  exact congrArg₂ (fun p q : EReal => p * q) h1 (congrArg₂ (fun p q : EReal => p - q) h2 (congrArg₂ (fun p q : EReal => p * q) h3 h4))

/-- A block's columns, summed. -/
def columns (y : S1x1024.Idx) : EReal := ∑ i : Fin 688, bkept q x0 x2 x1 x3 i (y 1) * perEntry * (brow x0 x1 i (y 1) * scale (brow x0 x1 i))

/-- What a step adds to the derivative by the norm's weights. -/
theorem step_g (acc : Vec Ideal S1x1024 .f32) (y : S1x1024.Idx) :
    (k0_pay2 (k0_pay6 x0 x1) (k0_pay8 q x0 x1 x3 x2) acc y : EReal) = (acc y : EReal) + columns q x0 x2 x1 x3 y := by
  rw [ValueIdx.eq_ix2 y]
  unfold k0_pay2
  refine congrArg₂ (fun p q : EReal => p + q) (congrFun (shapeCast_self acc _) _) ((shapeCast_a_1a_apply _ _ _ _).trans ((Ideal.multiReduction_add_single _ _ _ _ _ _).trans
    (Finset.sum_congr rfl fun k _ => ?_)))
  refine (congrArg (fun a => (k0_pay8 q x0 x1 x3 x2 a : EReal) * (k0_pay6 x0 x1 a : EReal)) (a₂ := ix2 k (y 1)) (funext fun a => Fin.ext ?_)).trans
    (congrArg₂ (fun p q : EReal => p * q) (step_p q x0 x2 x1 x3 k (y 1)) (step_n x0 x1 k (y 1)))
  match a with
  | ⟨0, _⟩ => rfl
  | ⟨1, _⟩ => rfl

/-- A block's part of the loss. -/
def blockLoss : EReal := ∑ i : Fin 688, (∑ k : Fin 1024, bkept q x0 x2 x1 x3 i k * bkept q x0 x2 x1 x3 i k) * halfPerEntry

/-- The sum of a block's entries. -/
def grand (x : FVec Ideal S688x1024 .f32) : EReal := ∑ i : Fin 688, ∑ k : Fin 1024, (x (ix2 i k) : EReal)

theorem total (x : FVec Ideal S688x1024 .f32) : (extractAt ![0, 0, 0] (shapeCast S1x1x1 (multiReduction .add [1, 2] S1 (shapeCast S1x688x1024 x
    shapeCasts_S688x1024_S1x688x1024) 0x00000000#32 reduces_S1x688x1024_S1 (.inl rfl) rfl) shapeCasts_S1_S1x1x1) inpos_S1x1x1_p0_0_0) = grand x := by
  refine (Ideal.multiReduction_add_total (shapeCast S1x688x1024 x shapeCasts_S688x1024_S1x688x1024) _ reduces_S1x688x1024_S1 (by decide) (.inl rfl) rfl _).trans ?_
  refine (Equiv.sum_comp (M := EReal) (Shape.reshapeEquiv shapeCasts_S688x1024_S1x688x1024) (fun a => (x a : EReal))).trans ?_
  exact ValueIdx.sum_idx2 (M := EReal) (n0 := 688) (n1 := 1024) (fun a => (x a : EReal))

/-- What a step adds to the loss, from its errors. -/
theorem add_l (v : FVec Ideal S688x1024 .f32) (acc : Vec Ideal S8x128 .f32) (y : S8x128.Idx) :
    (k0_pay1 v acc y : EReal) = (acc y : EReal) + halfPerEntry * grand (mulf v v) := by
  have h := total (mulf v v)
  unfold k0_pay1
  dsimp only
  rw [h]
  generalize grand (mulf v v) = z
  exact congrArg₂ (fun p q : EReal => p + q) (congrFun (shapeCast_self acc _) _) rfl

/-- What a step adds to the loss. -/
theorem step_l (acc : Vec Ideal S8x128 .f32) (y : S8x128.Idx) :
    (k0_pay1 (k0_pay7 q x0 x1 x3 x2) acc y : EReal) = (acc y : EReal) + blockLoss q x0 x2 x1 x3 := by
  refine (add_l _ acc y).trans (congrArg (fun z : EReal => (acc y : EReal) + z) ?_)
  refine Eq.trans ?_ (half_total fun i : Fin 688 => ∑ k : Fin 1024, bkept q x0 x2 x1 x3 i k * bkept q x0 x2 x1 x3 i k)
  refine congrArg (fun z : EReal => halfPerEntry * z) (Finset.sum_congr rfl fun i _ => Finset.sum_congr rfl fun k _ => ?_)
  exact congrArg₂ (fun p q : EReal => p * q) (step_e q x0 x2 x1 x3 i k) (step_e q x0 x2 x1 x3 i k)

end

/-! What the body leaves in each output's buffer. -/

theorem left4 (t : Fin cfg0.N) : (outsAt0 m c t.val t.isLt).1 = k0_pay3 (k0_pay5 (iblk m c 0 t) (iblk m c 1 t)) (k0_pay6 (iblk m c 0 t) (iblk m c 1 t)) (iblk m c 3 t)
    (k0_pay8 (grid0.coords t) (iblk m c 0 t) (iblk m c 1 t) (iblk m c 3 t) (iblk m c 2 t)) := by
  by_cases h : t.val % 6 = 0
  · rw [outsAt0_A m c t h]; frame_out
  · rw [outsAt0_B m c t h]; frame_out

/-- The loss, once all the steps are through. -/
theorem left5 (t : Fin cfg0.N) (h : t.val % 6 = 6 - 1) (y : S8x128.Idx) : ((outsAt0 m c t.val t.isLt).2.1 y : EReal)
    = ∑ s : Fin 6, (fun t : Fin cfg0.N => blockLoss (grid0.coords t) (iblk m c 0 t) (iblk m c 2 t) (iblk m c 1 t) (iblk m c 3 t))
        ⟨6 * (t.val / 6) + s.val, Pipeline.run_point_lt_of_flush t h s⟩ := by
  rw [Pipeline.eq_sum_fin_of_reset_step_apply_of_flush (M := EReal) (fun n h => (outsAt0 m c n h).2.1) 6 (fun _ => (0 : EReal))
    (fun t _ => blockLoss (grid0.coords t) (iblk m c 0 t) (iblk m c 2 t) (iblk m c 1 t) (iblk m c 3 t))
    (fun t h y => by
      have hp : (outsAt0 m c t.val t.isLt).2.1 = k0_pay1 (k0_pay7 (grid0.coords t) (iblk m c 0 t) (iblk m c 1 t) (iblk m c 3 t) (iblk m c 2 t)) (k0_pay9 (F := Ideal)) := by
        rw [outsAt0_A m c t h]; frame_out
      rw [hp]
      exact (step_l _ _ _ _ _ _ _).trans (congrArg (· + _) Ideal.ofBits_zero_f32))
    (fun t h y => by
      have hp : (outsAt0 m c t.val t.isLt).2.1 = k0_pay1 (k0_pay7 (grid0.coords t) (iblk m c 0 t) (iblk m c 1 t) (iblk m c 3 t) (iblk m c 2 t))
          (outsAt0 m c (t.val - 1) (Nat.lt_of_le_of_lt (Nat.sub_le _ _) t.isLt)).2.1 := by
        rw [outsAt0_B m c t h]; frame_out
      rw [hp]
      exact step_l _ _ _ _ _ _ _) t h y]
  exact zero_add (_ : EReal)

/-- The sum down the columns, once all the steps are through. -/
theorem left6 (t : Fin cfg0.N) (h : t.val % 6 = 6 - 1) (y : S1x1024.Idx) : ((outsAt0 m c t.val t.isLt).2.2 y : EReal)
    = ∑ s : Fin 6, (fun t : Fin cfg0.N => columns (grid0.coords t) (iblk m c 0 t) (iblk m c 2 t) (iblk m c 1 t) (iblk m c 3 t) y)
        ⟨6 * (t.val / 6) + s.val, Pipeline.run_point_lt_of_flush t h s⟩ := by
  rw [Pipeline.eq_sum_fin_of_reset_step_apply_of_flush (M := EReal) (fun n h => (outsAt0 m c n h).2.2) 6 (fun _ => (0 : EReal))
    (fun t y => columns (grid0.coords t) (iblk m c 0 t) (iblk m c 2 t) (iblk m c 1 t) (iblk m c 3 t) y)
    (fun t h y => by
      have hp : (outsAt0 m c t.val t.isLt).2.2 = k0_pay2 (k0_pay6 (iblk m c 0 t) (iblk m c 1 t))
          (k0_pay8 (grid0.coords t) (iblk m c 0 t) (iblk m c 1 t) (iblk m c 3 t) (iblk m c 2 t)) (k0_pay10 (F := Ideal)) := by
        rw [outsAt0_A m c t h]; frame_out
      rw [hp]
      exact (step_g _ _ _ _ _ _ _).trans (congrArg (· + _) Ideal.ofBits_zero_f32))
    (fun t h y => by
      have hp : (outsAt0 m c t.val t.isLt).2.2 = k0_pay2 (k0_pay6 (iblk m c 0 t) (iblk m c 1 t))
          (k0_pay8 (grid0.coords t) (iblk m c 0 t) (iblk m c 1 t) (iblk m c 3 t) (iblk m c 2 t))
          (outsAt0 m c (t.val - 1) (Nat.lt_of_le_of_lt (Nat.sub_le _ _) t.isLt)).2.2 := by
        rw [outsAt0_B m c t h]; frame_out
      rw [hp]
      exact step_g _ _ _ _ _ _ _) t h y]
  exact zero_add (_ : EReal)

/-- The index maps, and where in its sequence a block lies. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] :=
  (by decide +kernel : ∀ t : Fin grid0.N, _)

theorem coord : ∀ t : Fin cfg0.N, (grid0.coords t 1).val = t.val % 3 := (by decide +kernel : ∀ t : Fin grid0.N, _)

section

variable (t : Fin cfg0.N) (i : Fin 688) (j : Fin 1024) (hi : 688 * t.val + i.val < 4128)

theorem block0 : iblk m c 0 t (ix2 i j) = m (c, main_arg0) (ix2 ⟨688 * t.val + i.val, hi⟩ j) := by
  rw [show m (c, main_arg0) = V m c main_arg0 from (V_main_arg0 m c).symm]
  blk_ext [iblk, idx t] <;> dsimp [ix2] <;> omega

theorem block1 : iblk m c 1 t (ix2 i j) = m (c, main_arg1) (ix2 ⟨688 * t.val + i.val, hi⟩ j) := by
  rw [show m (c, main_arg1) = V m c main_arg1 from (V_main_arg1 m c).symm]
  blk_ext [iblk, idx t] <;> dsimp [ix2] <;> omega

theorem block2 : iblk m c 2 t (ix2 i j) = m (c, main_arg2) (ix2 ⟨688 * t.val + i.val, hi⟩ j) := by
  rw [show m (c, main_arg2) = V m c main_arg2 from (V_main_arg2 m c).symm]
  blk_ext [iblk, idx t] <;> dsimp [ix2] <;> omega

theorem block3 : iblk m c 3 t (ix2 0 j) = m (c, main_arg3) (ix2 0 j) := by
  rw [show m (c, main_arg3) = V m c main_arg3 from (V_main_arg3 m c).symm]
  blk_ext [iblk, idx t] <;> dsimp [ix2] <;> omega

theorem row1 : brow (iblk m c 0 t) (iblk m c 1 t) i = Cert.Reference23Ideal.Read.row (m (c, main_arg0)) (m (c, main_arg1)) ⟨688 * t.val + i.val, hi⟩ :=
  funext fun k => congrArg₂ (fun p q : EReal => p + q) (block0 m c t i k hi) (block1 m c t i k hi)

theorem kept1 : bkept (grid0.coords t) (iblk m c 0 t) (iblk m c 2 t) (iblk m c 1 t) (iblk m c 3 t) i
    = Cert.Reference23Ideal.Read.kept (m (c, main_arg0)) (m (c, main_arg1)) (m (c, main_arg2)) (m (c, main_arg3)) ⟨688 * t.val + i.val, hi⟩ := funext fun k => by
  have h := i.isLt
  have ht : t.val < 6 := lt_of_lt_of_eq t.isLt N_0
  have hd : bmiss (iblk m c 0 t) (iblk m c 2 t) (iblk m c 1 t) (iblk m c 3 t) i k
      = Cert.Reference23Ideal.Read.miss (m (c, main_arg0)) (m (c, main_arg1)) (m (c, main_arg2)) (m (c, main_arg3)) ⟨688 * t.val + i.val, hi⟩ k := by
    unfold bmiss
    rw [row1 m c t i hi, block2 m c t i k hi, block3 m c t k]
    rfl
  unfold bkept
  rw [hd, coord t]
  unfold Cert.Reference23Ideal.Read.kept
  exact if_congr (by dsimp only; omega) rfl rfl

theorem weighted1 : bweighted (grid0.coords t) (iblk m c 0 t) (iblk m c 2 t) (iblk m c 1 t) (iblk m c 3 t) i
    = Cert.Reference23Ideal.Read.weighted (m (c, main_arg0)) (m (c, main_arg1)) (m (c, main_arg2)) (m (c, main_arg3)) ⟨688 * t.val + i.val, hi⟩ :=
  funext fun k => by
    unfold bweighted
    rw [kept1 m c t i hi, block3 m c t k]
    rfl

theorem point_h : ((k0_pay3 (k0_pay5 (iblk m c 0 t) (iblk m c 1 t)) (k0_pay6 (iblk m c 0 t) (iblk m c 1 t)) (iblk m c 3 t)
    (k0_pay8 (grid0.coords t) (iblk m c 0 t) (iblk m c 1 t) (iblk m c 3 t) (iblk m c 2 t))) (ix2 i j) : EReal)
    = Cert.Reference23Ideal.Read.val_main_v57 (F := Ideal) (m (c, main_arg0)) (m (c, main_arg1)) (m (c, main_arg2)) (m (c, main_arg3)) (ix2 ⟨_, hi⟩ j) := by
  refine (step_h _ _ _ _ _ _ _).trans (Eq.trans ?_ (Cert.Reference23Ideal.Read.entry_h _ _ _ _ _ _).symm)
  rw [row1 m c t i hi, weighted1 m c t i hi]

end

/-- A block's columns summed are the reference's terms. -/
theorem point_g (t : Fin cfg0.N) (y : S1x1024.Idx) (ht : t.val < 6) : columns (grid0.coords t) (iblk m c 0 t) (iblk m c 2 t) (iblk m c 1 t) (iblk m c 3 t) y
    = ∑ i : Fin 688, Cert.Reference23Ideal.Read.part (m (c, main_arg0)) (m (c, main_arg1)) (m (c, main_arg2)) (m (c, main_arg3)) ⟨688 * t.val + i.val, by omega⟩ (y 1) := by
  unfold columns
  refine Finset.sum_congr rfl fun i _ => ?_
  rw [kept1 m c t i (by omega), row1 m c t i (by omega)]
  rfl

/-- A block's part of the loss is the reference's terms. -/
theorem point_l (t : Fin cfg0.N) (ht : t.val < 6) : blockLoss (grid0.coords t) (iblk m c 0 t) (iblk m c 2 t) (iblk m c 1 t) (iblk m c 3 t)
    = ∑ i : Fin 688, Cert.Reference23Ideal.Read.squares (m (c, main_arg0)) (m (c, main_arg1)) (m (c, main_arg2)) (m (c, main_arg3)) ⟨688 * t.val + i.val, by omega⟩
        * halfPerEntry := by
  unfold blockLoss
  refine Finset.sum_congr rfl fun i _ => ?_
  rw [kept1 m c t i (by omega)]
  rfl

/-- The kernel's derivative by the last layer's output is the reference's. -/
theorem array_h : (dats m 0 c).arrAt 4 (cfgs 0).N
    = Cert.Reference23Ideal.Read.val_main_v57 (F := Ideal) (m (c, main_arg0)) (m (c, main_arg1)) (m (c, main_arg2)) (m (c, main_arg3)) := by
  refine (dats m 0 c).arrAt_eq_of_covers 4 _ (by decide +kernel) fun t hf y => ?_
  have h0 : (y 0).val < 688 := (y 0).isLt
  have h1 : (y 1).val < 1024 := (y 1).isLt
  have ht : t.val < 6 := lt_of_lt_of_eq t.isLt N_0
  have hi : 688 * t.val + (y 0).val < 4128 := by omega
  have hy : (win0_4.blk t).view.emb y = ix2 ⟨688 * t.val + (y 0).val, hi⟩ (⟨(y 1).val, h1⟩ : Fin 1024) := by
    blk_ext [idx t] <;> dsimp [ix2] <;> omega
  blk_simp
  rw [after0_4, hy, left4]
  exact (congrArg _ (ValueIdx.eq_ix2 y)).trans (point_h m c t (y 0) (y 1) hi)

/-- The kernel's loss is the reference's. -/
theorem array_l : (dats m 0 c).arrAt 5 (cfgs 0).N
    = Cert.Reference23Ideal.Read.val_main_v58 (F := Ideal) (m (c, main_arg0)) (m (c, main_arg1)) (m (c, main_arg2)) (m (c, main_arg3)) := by
  refine (dats m 0 c).arrAt_eq_of_covers 5 _ (by decide +kernel) fun t hf y => ?_
  have ht : t.val < 6 := lt_of_lt_of_eq t.isLt N_0
  have hr : t.val % 6 = 6 - 1 := (flush0_5 t).mp hf
  blk_simp
  rw [after0_5]
  refine (left5 m c t hr y).trans (Eq.trans ?_ (Cert.Reference23Ideal.Read.entry_l _ _ _ _ _).symm)
  refine Eq.trans ?_ (Products.sum_stretches 6 688 4128 rfl _).symm
  refine Finset.sum_congr rfl fun s _ => ?_
  have hs := s.isLt
  refine (point_l m c ⟨6 * (t.val / 6) + s.val, Pipeline.run_point_lt_of_flush t hr s⟩ (by dsimp only; omega)).trans ?_
  refine Finset.sum_congr rfl fun k _ => ?_
  refine congrArg (fun a : Fin 4128 => Cert.Reference23Ideal.Read.squares (m (c, main_arg0)) (m (c, main_arg1)) (m (c, main_arg2)) (m (c, main_arg3)) a
    * halfPerEntry) (Fin.ext ?_)
  dsimp only; omega

/-- The kernel's derivative by the norm's weights is the reference's. -/
theorem array_g : (dats m 0 c).arrAt 6 (cfgs 0).N
    = Cert.Reference23Ideal.Read.val_main_v40 (F := Ideal) (m (c, main_arg0)) (m (c, main_arg1)) (m (c, main_arg2)) (m (c, main_arg3)) := by
  refine (dats m 0 c).arrAt_eq_of_covers 6 _ (by decide +kernel) fun t hf y => ?_
  have h0 : (y 0).val < 1 := (y 0).isLt
  have h1 : (y 1).val < 1024 := (y 1).isLt
  have ht : t.val < 6 := lt_of_lt_of_eq t.isLt N_0
  have hr : t.val % 6 = 6 - 1 := (flush0_6 t).mp hf
  have hy : (win0_6.blk t).view.emb y = ix2 (0 : Fin 1) (⟨(y 1).val, h1⟩ : Fin 1024) := by
    blk_ext [idx t] <;> dsimp [ix2] <;> omega
  blk_simp
  rw [after0_6, hy]
  refine (left6 m c t hr y).trans (Eq.trans ?_ (Cert.Reference23Ideal.Read.entry_g _ _ _ _ _ _).symm)
  refine Eq.trans ?_ (Products.sum_stretches 6 688 4128 rfl _).symm
  refine Finset.sum_congr rfl fun s _ => ?_
  have hs := s.isLt
  refine (point_g m c ⟨6 * (t.val / 6) + s.val, Pipeline.run_point_lt_of_flush t hr s⟩ y (by dsimp only; omega)).trans ?_
  refine Finset.sum_congr rfl fun k _ => ?_
  refine congrArg (fun a : Fin 4128 => Cert.Reference23Ideal.Read.part (m (c, main_arg0)) (m (c, main_arg1)) (m (c, main_arg2)) (m (c, main_arg3)) a (y 1)) (Fin.ext ?_)
  dsimp only; omega

end Cert.Kernel23Ideal.Gen

end
-- ==== Proof.StepClaims.lean ====
/- The claims of the merge's derivative, of the optimiser's steps, of the second norm's derivative and of the loss: each kernel
   runs and leaves its arguments as they were, so does its reference, and from equal arguments the two end holding equal results. -/
module

public import proofs.«01_k».proof.Defs
public import proofs.«01_k».proof.Proof.ProductClaims
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.MergeBwd
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.OptSquare
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.OptMlpDown
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.OptMlpUp
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.OptIn
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.OptMeta
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.OptConv
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.OptSmall
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.RmsBwd
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.FinalLoss
public import Idealize.ShloMosaic.Adequacy
public import Idealize.ShloMosaic.Init

@[expose] public section

noncomputable section

namespace Cert.Proof

open Idealize.ShloMosaic Idealize.SL.Sem

/-- A function of four arguments, its arguments replaced by equal ones. -/
theorem congr4 {α0 α1 α2 α3 β : Type} {a0 b0 : α0} {a1 b1 : α1} {a2 b2 : α2} {a3 b3 : α3} (h0 : a0 = b0) (h1 : a1 = b1) (h2 : a2 = b2) (h3 : a3 = b3)
    (f : α0 → α1 → α2 → α3 → β) : f a0 a1 a2 a3 = f b0 b1 b2 b3 := by
  rw [h0, h1, h2, h3]

/-! ## The merge's derivative -/

/-- The kernel runs and leaves its arguments as they were. -/
theorem frame_kernel14 : Cert.quiescent_Kernel14 := fun m ρ _ => Cert.Kernel14.Gen.frame m ρ

/-- So does the idealized kernel. -/
theorem frame_ideal14 : Cert.quiescent_Kernel14Ideal := fun m ρ _ => Cert.Kernel14Ideal.Gen.frame m ρ

/-- So does the reference. -/
theorem frame_reference14 : Cert.quiescent_Reference14Ideal := fun m ρ _ =>
  (θ_run _ _ _).mono (fun r h => ⟨fun c => (h c).2.2.2.2.2, sem_eq_zero_of_no_sems (by decide) r.2⟩) (Cert.Reference14Ideal.Value.run m ρ)

section

attribute [local irreducible] Cert.Reference14Ideal.Read.val_main_v37 Cert.Reference14Ideal.Read.val_main_v38 Cert.Reference14Ideal.Read.val_main_v39 Cert.Reference14Ideal.Read.val_main_v40 Cert.Reference14Ideal.Read.val_main_v32

/-- From equal arguments the idealized kernel ends holding what the reference ends holding. -/
theorem values14 : Cert.algebraic_Kernel14Ideal_Reference14Ideal := by
  intro m g m' g' _ hagree
  refine ⟨fun c => (Cert.Kernel14Ideal.Gen.dats m 0 c).arrAt 6 Cert.Kernel14Ideal.cfg0.N, fun c => (Cert.Kernel14Ideal.Gen.dats m 0 c).arrAt 7 Cert.Kernel14Ideal.cfg0.N, fun c => (Cert.Kernel14Ideal.Gen.dats m 0 c).arrAt 8 Cert.Kernel14Ideal.cfg0.N, fun c => (Cert.Kernel14Ideal.Gen.dats m 0 c).arrAt 9 Cert.Kernel14Ideal.cfg0.N, fun c => (Cert.Kernel14Ideal.Gen.dats m 0 c).arrAt 10 Cert.Kernel14Ideal.cfg0.N,
    Cert.Kernel14Ideal.Value.run_blocks m g, (θ_run _ _ _).mono (fun r h c => ?_) (Cert.Reference14Ideal.Value.run m' g')⟩
  obtain ⟨h0, h1, h2, h3, h4, k⟩ := h c
  obtain ⟨a0, a1, a2, a3, a4⟩ := hagree c
  refine ⟨h0.trans ?_, h1.trans ?_, h2.trans ?_, h3.trans ?_, h4.trans ?_, k⟩
  · exact (Cert.Reference14Ideal.Read.val_main_v37_eq _ _ ).trans ((congr2 a0 a1 Cert.Reference14Ideal.Read.val_main_v37).trans (Cert.Kernel14Ideal.Gen.array_a m c).symm)
  · exact (Cert.Reference14Ideal.Read.val_main_v38_eq _ _ ).trans ((congr2 a0 a1 Cert.Reference14Ideal.Read.val_main_v38).trans (Cert.Kernel14Ideal.Gen.array_c m c).symm)
  · exact (Cert.Reference14Ideal.Read.val_main_v39_eq _ _ _ ).trans ((congr3 a0 a1 a2 Cert.Reference14Ideal.Read.val_main_v39).trans (Cert.Kernel14Ideal.Gen.array_ga m c).symm)
  · exact (Cert.Reference14Ideal.Read.val_main_v40_eq _ _ _ _ ).trans ((congr4 a0 a1 a3 a4 Cert.Reference14Ideal.Read.val_main_v40).trans (Cert.Kernel14Ideal.Gen.array_gc m c).symm)
  · exact (Cert.Reference14Ideal.Read.val_main_v32_eq _ _ ).trans ((congr2 a0 a1 Cert.Reference14Ideal.Read.val_main_v32).trans (Cert.Kernel14Ideal.Gen.array_b m c).symm)

end

/-! ## The optimiser's step on a square weight's share -/

/-- The kernel runs and leaves its arguments as they were. -/
theorem frame_kernel15 : Cert.quiescent_Kernel15 := fun m ρ _ => Cert.Kernel15.Gen.frame m ρ

/-- So does the idealized kernel. -/
theorem frame_ideal15 : Cert.quiescent_Kernel15Ideal := fun m ρ _ => Cert.Kernel15Ideal.Gen.frame m ρ

/-- So does the reference. -/
theorem frame_reference15 : Cert.quiescent_Reference15Ideal := fun m ρ _ =>
  (θ_run _ _ _).mono (fun r h => ⟨fun c => (h c).2.2.2.2, sem_eq_zero_of_no_sems (by decide) r.2⟩) (Cert.Reference15Ideal.Value.run m ρ)

section

attribute [local irreducible] Cert.Reference15Ideal.Read.val_main_v1 Cert.Reference15Ideal.Read.val_main_v25 Cert.Reference15Ideal.Read.val_main_v6 Cert.Reference15Ideal.Read.val_main_v12

/-- From equal arguments the idealized kernel ends holding what the reference ends holding. -/
theorem values15 : Cert.algebraic_Kernel15Ideal_Reference15Ideal := by
  intro m g m' g' _ hagree
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N, fun c => (Cert.Kernel15Ideal.Gen.dats m 0 c).arrAt 6 Cert.Kernel15Ideal.cfg0.N, fun c => (Cert.Kernel15Ideal.Gen.dats m 0 c).arrAt 7 Cert.Kernel15Ideal.cfg0.N,
    Cert.Kernel15Ideal.Value.run_blocks m g, (θ_run _ _ _).mono (fun r h c => ?_) (Cert.Reference15Ideal.Value.run m' g')⟩
  obtain ⟨h0, h1, h2, h3, k⟩ := h c
  obtain ⟨a0, a1, a2, a3⟩ := hagree c
  refine ⟨h0.trans ?_, h1.trans ?_, h2.trans ?_, h3.trans ?_, k⟩
  · exact (Cert.Reference15Ideal.Read.val_main_v1_eq _ ).trans ((congrArg Cert.Reference15Ideal.Read.val_main_v1 a0).trans (Cert.Kernel15Ideal.Gen.array_grad m c).symm)
  · exact (Cert.Reference15Ideal.Read.val_main_v25_eq _ _ _ _ ).trans ((congr4 a0 a1 a2 a3 Cert.Reference15Ideal.Read.val_main_v25).trans (Cert.Kernel15Ideal.Gen.array_delta m c).symm)
  · exact (Cert.Reference15Ideal.Read.val_main_v6_eq _ _ ).trans ((congr2 a0 a2 Cert.Reference15Ideal.Read.val_main_v6).trans (Cert.Kernel15Ideal.Gen.array_moment m c).symm)
  · exact (Cert.Reference15Ideal.Read.val_main_v12_eq _ _ ).trans ((congr2 a0 a3 Cert.Reference15Ideal.Read.val_main_v12).trans (Cert.Kernel15Ideal.Gen.array_square m c).symm)

end

/-! ## The optimiser's step on the MLP's down weight's share -/

/-- The kernel runs and leaves its arguments as they were. -/
theorem frame_kernel16 : Cert.quiescent_Kernel16 := fun m ρ _ => Cert.Kernel16.Gen.frame m ρ

/-- So does the idealized kernel. -/
theorem frame_ideal16 : Cert.quiescent_Kernel16Ideal := fun m ρ _ => Cert.Kernel16Ideal.Gen.frame m ρ

/-- So does the reference. -/
theorem frame_reference16 : Cert.quiescent_Reference16Ideal := fun m ρ _ =>
  (θ_run _ _ _).mono (fun r h => ⟨fun c => (h c).2.2.2.2, sem_eq_zero_of_no_sems (by decide) r.2⟩) (Cert.Reference16Ideal.Value.run m ρ)

section

attribute [local irreducible] Cert.Reference16Ideal.Read.val_main_v1 Cert.Reference16Ideal.Read.val_main_v25 Cert.Reference16Ideal.Read.val_main_v6 Cert.Reference16Ideal.Read.val_main_v12

/-- From equal arguments the idealized kernel ends holding what the reference ends holding. -/
theorem values16 : Cert.algebraic_Kernel16Ideal_Reference16Ideal := by
  intro m g m' g' _ hagree
  refine ⟨fun c => (Cert.Kernel16Ideal.Gen.dats m 0 c).arrAt 4 Cert.Kernel16Ideal.cfg0.N, fun c => (Cert.Kernel16Ideal.Gen.dats m 0 c).arrAt 5 Cert.Kernel16Ideal.cfg0.N, fun c => (Cert.Kernel16Ideal.Gen.dats m 0 c).arrAt 6 Cert.Kernel16Ideal.cfg0.N, fun c => (Cert.Kernel16Ideal.Gen.dats m 0 c).arrAt 7 Cert.Kernel16Ideal.cfg0.N,
    Cert.Kernel16Ideal.Value.run_blocks m g, (θ_run _ _ _).mono (fun r h c => ?_) (Cert.Reference16Ideal.Value.run m' g')⟩
  obtain ⟨h0, h1, h2, h3, k⟩ := h c
  obtain ⟨a0, a1, a2, a3⟩ := hagree c
  refine ⟨h0.trans ?_, h1.trans ?_, h2.trans ?_, h3.trans ?_, k⟩
  · exact (Cert.Reference16Ideal.Read.val_main_v1_eq _ ).trans ((congrArg Cert.Reference16Ideal.Read.val_main_v1 a0).trans (Cert.Kernel16Ideal.Gen.array_grad m c).symm)
  · exact (Cert.Reference16Ideal.Read.val_main_v25_eq _ _ _ _ ).trans ((congr4 a0 a1 a2 a3 Cert.Reference16Ideal.Read.val_main_v25).trans (Cert.Kernel16Ideal.Gen.array_delta m c).symm)
  · exact (Cert.Reference16Ideal.Read.val_main_v6_eq _ _ ).trans ((congr2 a0 a2 Cert.Reference16Ideal.Read.val_main_v6).trans (Cert.Kernel16Ideal.Gen.array_moment m c).symm)
  · exact (Cert.Reference16Ideal.Read.val_main_v12_eq _ _ ).trans ((congr2 a0 a3 Cert.Reference16Ideal.Read.val_main_v12).trans (Cert.Kernel16Ideal.Gen.array_square m c).symm)

end

/-! ## The optimiser's step on the MLP's up weight's share -/

/-- The kernel runs and leaves its arguments as they were. -/
theorem frame_kernel17 : Cert.quiescent_Kernel17 := fun m ρ _ => Cert.Kernel17.Gen.frame m ρ

/-- So does the idealized kernel. -/
theorem frame_ideal17 : Cert.quiescent_Kernel17Ideal := fun m ρ _ => Cert.Kernel17Ideal.Gen.frame m ρ

/-- So does the reference. -/
theorem frame_reference17 : Cert.quiescent_Reference17Ideal := fun m ρ _ =>
  (θ_run _ _ _).mono (fun r h => ⟨fun c => (h c).2.2.2.2, sem_eq_zero_of_no_sems (by decide) r.2⟩) (Cert.Reference17Ideal.Value.run m ρ)

section

attribute [local irreducible] Cert.Reference17Ideal.Read.val_main_v1 Cert.Reference17Ideal.Read.val_main_v25 Cert.Reference17Ideal.Read.val_main_v6 Cert.Reference17Ideal.Read.val_main_v12

/-- From equal arguments the idealized kernel ends holding what the reference ends holding. -/
theorem values17 : Cert.algebraic_Kernel17Ideal_Reference17Ideal := by
  intro m g m' g' _ hagree
  refine ⟨fun c => (Cert.Kernel17Ideal.Gen.dats m 0 c).arrAt 4 Cert.Kernel17Ideal.cfg0.N, fun c => (Cert.Kernel17Ideal.Gen.dats m 0 c).arrAt 5 Cert.Kernel17Ideal.cfg0.N, fun c => (Cert.Kernel17Ideal.Gen.dats m 0 c).arrAt 6 Cert.Kernel17Ideal.cfg0.N, fun c => (Cert.Kernel17Ideal.Gen.dats m 0 c).arrAt 7 Cert.Kernel17Ideal.cfg0.N,
    Cert.Kernel17Ideal.Value.run_blocks m g, (θ_run _ _ _).mono (fun r h c => ?_) (Cert.Reference17Ideal.Value.run m' g')⟩
  obtain ⟨h0, h1, h2, h3, k⟩ := h c
  obtain ⟨a0, a1, a2, a3⟩ := hagree c
  refine ⟨h0.trans ?_, h1.trans ?_, h2.trans ?_, h3.trans ?_, k⟩
  · exact (Cert.Reference17Ideal.Read.val_main_v1_eq _ ).trans ((congrArg Cert.Reference17Ideal.Read.val_main_v1 a0).trans (Cert.Kernel17Ideal.Gen.array_grad m c).symm)
  · exact (Cert.Reference17Ideal.Read.val_main_v25_eq _ _ _ _ ).trans ((congr4 a0 a1 a2 a3 Cert.Reference17Ideal.Read.val_main_v25).trans (Cert.Kernel17Ideal.Gen.array_delta m c).symm)
  · exact (Cert.Reference17Ideal.Read.val_main_v6_eq _ _ ).trans ((congr2 a0 a2 Cert.Reference17Ideal.Read.val_main_v6).trans (Cert.Kernel17Ideal.Gen.array_moment m c).symm)
  · exact (Cert.Reference17Ideal.Read.val_main_v12_eq _ _ ).trans ((congr2 a0 a3 Cert.Reference17Ideal.Read.val_main_v12).trans (Cert.Kernel17Ideal.Gen.array_square m c).symm)

end

/-! ## The optimiser's step on the input projection's share, transposed -/

/-- The kernel runs and leaves its arguments as they were. -/
theorem frame_kernel18 : Cert.quiescent_Kernel18 := fun m ρ _ => Cert.Kernel18.Gen.frame m ρ

/-- So does the idealized kernel. -/
theorem frame_ideal18 : Cert.quiescent_Kernel18Ideal := fun m ρ _ => Cert.Kernel18Ideal.Gen.frame m ρ

/-- So does the reference. -/
theorem frame_reference18 : Cert.quiescent_Reference18Ideal := fun m ρ _ =>
  (θ_run _ _ _).mono (fun r h => ⟨fun c => (h c).2.2.2.2, sem_eq_zero_of_no_sems (by decide) r.2⟩) (Cert.Reference18Ideal.Value.run m ρ)

section

attribute [local irreducible] Cert.Reference18Ideal.Read.val_main_v1 Cert.Reference18Ideal.Read.val_main_v25 Cert.Reference18Ideal.Read.val_main_v6 Cert.Reference18Ideal.Read.val_main_v12

/-- From equal arguments the idealized kernel ends holding what the reference ends holding. -/
theorem values18 : Cert.algebraic_Kernel18Ideal_Reference18Ideal := by
  intro m g m' g' _ hagree
  refine ⟨fun c => (Cert.Kernel18Ideal.Gen.dats m 0 c).arrAt 4 Cert.Kernel18Ideal.cfg0.N, fun c => (Cert.Kernel18Ideal.Gen.dats m 0 c).arrAt 5 Cert.Kernel18Ideal.cfg0.N, fun c => (Cert.Kernel18Ideal.Gen.dats m 0 c).arrAt 6 Cert.Kernel18Ideal.cfg0.N, fun c => (Cert.Kernel18Ideal.Gen.dats m 0 c).arrAt 7 Cert.Kernel18Ideal.cfg0.N,
    Cert.Kernel18Ideal.Value.run_blocks m g, (θ_run _ _ _).mono (fun r h c => ?_) (Cert.Reference18Ideal.Value.run m' g')⟩
  obtain ⟨h0, h1, h2, h3, k⟩ := h c
  obtain ⟨a0, a1, a2, a3⟩ := hagree c
  refine ⟨h0.trans ?_, h1.trans ?_, h2.trans ?_, h3.trans ?_, k⟩
  · exact (Cert.Reference18Ideal.Read.val_main_v1_eq _ ).trans ((congrArg Cert.Reference18Ideal.Read.val_main_v1 a0).trans (Cert.Kernel18Ideal.Gen.array_grad m c).symm)
  · exact (Cert.Reference18Ideal.Read.val_main_v25_eq _ _ _ _ ).trans ((congr4 a0 a1 a2 a3 Cert.Reference18Ideal.Read.val_main_v25).trans (Cert.Kernel18Ideal.Gen.array_delta m c).symm)
  · exact (Cert.Reference18Ideal.Read.val_main_v6_eq _ _ ).trans ((congr2 a0 a2 Cert.Reference18Ideal.Read.val_main_v6).trans (Cert.Kernel18Ideal.Gen.array_moment m c).symm)
  · exact (Cert.Reference18Ideal.Read.val_main_v12_eq _ _ ).trans ((congr2 a0 a3 Cert.Reference18Ideal.Read.val_main_v12).trans (Cert.Kernel18Ideal.Gen.array_square m c).symm)

end

/-! ## The optimiser's step on the prefix rows -/

/-- The kernel runs and leaves its arguments as they were. -/
theorem frame_kernel19 : Cert.quiescent_Kernel19 := fun m ρ _ => Cert.Kernel19.Gen.frame m ρ

/-- So does the idealized kernel. -/
theorem frame_ideal19 : Cert.quiescent_Kernel19Ideal := fun m ρ _ => Cert.Kernel19Ideal.Gen.frame m ρ

/-- So does the reference. -/
theorem frame_reference19 : Cert.quiescent_Reference19Ideal := fun m ρ _ =>
  (θ_run _ _ _).mono (fun r h => ⟨fun c => (h c).2.2.2.2, sem_eq_zero_of_no_sems (by decide) r.2⟩) (Cert.Reference19Ideal.Value.run m ρ)

section

attribute [local irreducible] Cert.Reference19Ideal.Read.val_main_v0 Cert.Reference19Ideal.Read.val_main_v24 Cert.Reference19Ideal.Read.val_main_v5 Cert.Reference19Ideal.Read.val_main_v11

/-- From equal arguments the idealized kernel ends holding what the reference ends holding. -/
theorem values19 : Cert.algebraic_Kernel19Ideal_Reference19Ideal := by
  intro m g m' g' _ hagree
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N,
    Cert.Kernel19Ideal.Value.run_blocks m g, (θ_run _ _ _).mono (fun r h c => ?_) (Cert.Reference19Ideal.Value.run m' g')⟩
  obtain ⟨h0, h1, h2, h3, k⟩ := h c
  obtain ⟨a0, a1, a2, a3⟩ := hagree c
  refine ⟨h0.trans ?_, h1.trans ?_, h2.trans ?_, h3.trans ?_, k⟩
  · exact (Cert.Reference19Ideal.Read.val_main_v0_eq _ ).trans ((congrArg Cert.Reference19Ideal.Read.val_main_v0 a0).trans (Cert.Kernel19Ideal.Gen.array_grad m c).symm)
  · exact (Cert.Reference19Ideal.Read.val_main_v24_eq _ _ _ _ ).trans ((congr4 a0 a1 a2 a3 Cert.Reference19Ideal.Read.val_main_v24).trans (Cert.Kernel19Ideal.Gen.array_delta m c).symm)
  · exact (Cert.Reference19Ideal.Read.val_main_v5_eq _ _ ).trans ((congr2 a0 a2 Cert.Reference19Ideal.Read.val_main_v5).trans (Cert.Kernel19Ideal.Gen.array_moment m c).symm)
  · exact (Cert.Reference19Ideal.Read.val_main_v11_eq _ _ ).trans ((congr2 a0 a3 Cert.Reference19Ideal.Read.val_main_v11).trans (Cert.Kernel19Ideal.Gen.array_square m c).symm)

end

/-! ## The optimiser's step on the taps' share -/

/-- The kernel runs and leaves its arguments as they were. -/
theorem frame_kernel20 : Cert.quiescent_Kernel20 := fun m ρ _ => Cert.Kernel20.Gen.frame m ρ

/-- So does the idealized kernel. -/
theorem frame_ideal20 : Cert.quiescent_Kernel20Ideal := fun m ρ _ => Cert.Kernel20Ideal.Gen.frame m ρ

/-- So does the reference. -/
theorem frame_reference20 : Cert.quiescent_Reference20Ideal := fun m ρ _ =>
  (θ_run _ _ _).mono (fun r h => ⟨fun c => (h c).2.2.2.2, sem_eq_zero_of_no_sems (by decide) r.2⟩) (Cert.Reference20Ideal.Value.run m ρ)

section

attribute [local irreducible] Cert.Reference20Ideal.Read.val_main_v0 Cert.Reference20Ideal.Read.val_main_v24 Cert.Reference20Ideal.Read.val_main_v5 Cert.Reference20Ideal.Read.val_main_v11

/-- From equal arguments the idealized kernel ends holding what the reference ends holding. -/
theorem values20 : Cert.algebraic_Kernel20Ideal_Reference20Ideal := by
  intro m g m' g' _ hagree
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, fun c => (Cert.Kernel20Ideal.Gen.dats m 0 c).arrAt 6 Cert.Kernel20Ideal.cfg0.N, fun c => (Cert.Kernel20Ideal.Gen.dats m 0 c).arrAt 7 Cert.Kernel20Ideal.cfg0.N,
    Cert.Kernel20Ideal.Value.run_blocks m g, (θ_run _ _ _).mono (fun r h c => ?_) (Cert.Reference20Ideal.Value.run m' g')⟩
  obtain ⟨h0, h1, h2, h3, k⟩ := h c
  obtain ⟨a0, a1, a2, a3⟩ := hagree c
  refine ⟨h0.trans ?_, h1.trans ?_, h2.trans ?_, h3.trans ?_, k⟩
  · exact (Cert.Reference20Ideal.Read.val_main_v0_eq _ ).trans ((congrArg Cert.Reference20Ideal.Read.val_main_v0 a0).trans (Cert.Kernel20Ideal.Gen.array_grad m c).symm)
  · exact (Cert.Reference20Ideal.Read.val_main_v24_eq _ _ _ _ ).trans ((congr4 a0 a1 a2 a3 Cert.Reference20Ideal.Read.val_main_v24).trans (Cert.Kernel20Ideal.Gen.array_delta m c).symm)
  · exact (Cert.Reference20Ideal.Read.val_main_v5_eq _ _ ).trans ((congr2 a0 a2 Cert.Reference20Ideal.Read.val_main_v5).trans (Cert.Kernel20Ideal.Gen.array_moment m c).symm)
  · exact (Cert.Reference20Ideal.Read.val_main_v11_eq _ _ ).trans ((congr2 a0 a3 Cert.Reference20Ideal.Read.val_main_v11).trans (Cert.Kernel20Ideal.Gen.array_square m c).symm)

end

/-! ## The optimiser's step on the weights of one axis -/

/-- The kernel runs and leaves its arguments as they were. -/
theorem frame_kernel21 : Cert.quiescent_Kernel21 := fun m ρ _ => Cert.Kernel21.Gen.frame m ρ

/-- So does the idealized kernel. -/
theorem frame_ideal21 : Cert.quiescent_Kernel21Ideal := fun m ρ _ => Cert.Kernel21Ideal.Gen.frame m ρ

/-- So does the reference. -/
theorem frame_reference21 : Cert.quiescent_Reference21Ideal := fun m ρ _ =>
  (θ_run _ _ _).mono (fun r h => ⟨fun c => (h c).2.2.2.2, sem_eq_zero_of_no_sems (by decide) r.2⟩) (Cert.Reference21Ideal.Value.run m ρ)

section

attribute [local irreducible] Cert.Reference21Ideal.Read.val_main_v0 Cert.Reference21Ideal.Read.val_main_v24 Cert.Reference21Ideal.Read.val_main_v5 Cert.Reference21Ideal.Read.val_main_v11

/-- From equal arguments the idealized kernel ends holding what the reference ends holding. -/
theorem values21 : Cert.algebraic_Kernel21Ideal_Reference21Ideal := by
  intro m g m' g' _ hagree
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N, fun c => (Cert.Kernel21Ideal.Gen.dats m 0 c).arrAt 6 Cert.Kernel21Ideal.cfg0.N, fun c => (Cert.Kernel21Ideal.Gen.dats m 0 c).arrAt 7 Cert.Kernel21Ideal.cfg0.N,
    Cert.Kernel21Ideal.Value.run_blocks m g, (θ_run _ _ _).mono (fun r h c => ?_) (Cert.Reference21Ideal.Value.run m' g')⟩
  obtain ⟨h0, h1, h2, h3, k⟩ := h c
  obtain ⟨a0, a1, a2, a3⟩ := hagree c
  refine ⟨h0.trans ?_, h1.trans ?_, h2.trans ?_, h3.trans ?_, k⟩
  · exact (Cert.Reference21Ideal.Read.val_main_v0_eq _ ).trans ((congrArg Cert.Reference21Ideal.Read.val_main_v0 a0).trans (Cert.Kernel21Ideal.Gen.array_grad m c).symm)
  · exact (Cert.Reference21Ideal.Read.val_main_v24_eq _ _ _ _ ).trans ((congr4 a0 a1 a2 a3 Cert.Reference21Ideal.Read.val_main_v24).trans (Cert.Kernel21Ideal.Gen.array_delta m c).symm)
  · exact (Cert.Reference21Ideal.Read.val_main_v5_eq _ _ ).trans ((congr2 a0 a2 Cert.Reference21Ideal.Read.val_main_v5).trans (Cert.Kernel21Ideal.Gen.array_moment m c).symm)
  · exact (Cert.Reference21Ideal.Read.val_main_v11_eq _ _ ).trans ((congr2 a0 a3 Cert.Reference21Ideal.Read.val_main_v11).trans (Cert.Kernel21Ideal.Gen.array_square m c).symm)

end

/-! ## The second norm's derivative -/

/-- The kernel runs and leaves its arguments as they were. -/
theorem frame_kernel22 : Cert.quiescent_Kernel22 := fun m ρ _ => Cert.Kernel22.Gen.frame m ρ

/-- So does the idealized kernel. -/
theorem frame_ideal22 : Cert.quiescent_Kernel22Ideal := fun m ρ _ => Cert.Kernel22Ideal.Gen.frame m ρ

/-- So does the reference. -/
theorem frame_reference22 : Cert.quiescent_Reference22Ideal := fun m ρ _ =>
  (θ_run _ _ _).mono (fun r h => ⟨fun c => (h c).2.2, sem_eq_zero_of_no_sems (by decide) r.2⟩) (Cert.Reference22Ideal.Value.run m ρ)

section

attribute [local irreducible] Cert.Reference22Ideal.Read.val_main_v37 Cert.Reference22Ideal.Read.val_main_v18

/-- From equal arguments the idealized kernel ends holding what the reference ends holding. -/
theorem values22 : Cert.algebraic_Kernel22Ideal_Reference22Ideal := by
  intro m g m' g' _ hagree
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N,
    Cert.Kernel22Ideal.Value.run_blocks m g, (θ_run _ _ _).mono (fun r h c => ?_) (Cert.Reference22Ideal.Value.run m' g')⟩
  obtain ⟨h0, h1, k⟩ := h c
  obtain ⟨a0, a1, a2, a3⟩ := hagree c
  refine ⟨h0.trans ?_, h1.trans ?_, k⟩
  · exact (Cert.Reference22Ideal.Read.val_main_v37_eq _ _ _ _ ).trans ((congr4 a0 a1 a2 a3 Cert.Reference22Ideal.Read.val_main_v37).trans (Cert.Kernel22Ideal.Gen.array_h m c).symm)
  · exact (Cert.Reference22Ideal.Read.val_main_v18_eq _ _ ).trans ((congr2 a0 a1 Cert.Reference22Ideal.Read.val_main_v18).trans (Cert.Kernel22Ideal.Gen.array_g m c).symm)

end

/-! ## The loss and its derivatives -/

/-- The kernel runs and leaves its arguments as they were. -/
theorem frame_kernel23 : Cert.quiescent_Kernel23 := fun m ρ _ => Cert.Kernel23.Gen.frame m ρ

/-- So does the idealized kernel. -/
theorem frame_ideal23 : Cert.quiescent_Kernel23Ideal := fun m ρ _ => Cert.Kernel23Ideal.Gen.frame m ρ

/-- So does the reference. -/
theorem frame_reference23 : Cert.quiescent_Reference23Ideal := fun m ρ _ =>
  (θ_run _ _ _).mono (fun r h => ⟨fun c => (h c).2.2.2, sem_eq_zero_of_no_sems (by decide) r.2⟩) (Cert.Reference23Ideal.Value.run m ρ)

section

attribute [local irreducible] Cert.Reference23Ideal.Read.val_main_v57 Cert.Reference23Ideal.Read.val_main_v58 Cert.Reference23Ideal.Read.val_main_v40

/-- From equal arguments the idealized kernel ends holding what the reference ends holding. -/
theorem values23 : Cert.algebraic_Kernel23Ideal_Reference23Ideal := by
  intro m g m' g' _ hagree
  refine ⟨fun c => (Cert.Kernel23Ideal.Gen.dats m 0 c).arrAt 4 Cert.Kernel23Ideal.cfg0.N, fun c => (Cert.Kernel23Ideal.Gen.dats m 0 c).arrAt 5 Cert.Kernel23Ideal.cfg0.N, fun c => (Cert.Kernel23Ideal.Gen.dats m 0 c).arrAt 6 Cert.Kernel23Ideal.cfg0.N,
    Cert.Kernel23Ideal.Value.run_blocks m g, (θ_run _ _ _).mono (fun r h c => ?_) (Cert.Reference23Ideal.Value.run m' g')⟩
  obtain ⟨h0, h1, h2, k⟩ := h c
  obtain ⟨a0, a1, a2, a3⟩ := hagree c
  refine ⟨h0.trans ?_, h1.trans ?_, h2.trans ?_, k⟩
  · exact (Cert.Reference23Ideal.Read.val_main_v57_eq m' c).trans ((congr4 a0 a1 a2 a3 Cert.Reference23Ideal.Read.val_main_v57).trans (Cert.Kernel23Ideal.Gen.array_h m c).symm)
  · exact (Cert.Reference23Ideal.Read.val_main_v58_eq _ _ _ _ ).trans ((congr4 a0 a1 a2 a3 Cert.Reference23Ideal.Read.val_main_v58).trans (Cert.Kernel23Ideal.Gen.array_l m c).symm)
  · exact (Cert.Reference23Ideal.Read.val_main_v40_eq _ _ _ _ ).trans ((congr4 a0 a1 a2 a3 Cert.Reference23Ideal.Read.val_main_v40).trans (Cert.Kernel23Ideal.Gen.array_g m c).symm)

end

end Cert.Proof

end
-- ==== Proof.lean ====
/- The claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Meet
public import proofs.«01_k».proof.Proof.Finite
public import proofs.«01_k».proof.Proof.ProductClaims
public import proofs.«01_k».proof.Proof.StepClaims
public import Idealize.ShloMosaic.Adequacy
public import Idealize.ShloMosaic.Init

@[expose] public section

noncomputable section

namespace Cert.Proof

open Idealize.ShloMosaic Idealize.SL.Sem Cert.Kernel

/-- The kernel runs and leaves its arguments as they were. -/
theorem frame_kernel : Cert.quiescent_Kernel := fun m ρ _ => Cert.Kernel.Gen.frame m ρ

/-- The idealized kernel runs and leaves its arguments as they were. -/
theorem frame_ideal : Cert.quiescent_KernelIdeal := fun m ρ _ => Cert.KernelIdeal.Gen.frame m ρ

/-- The reference's run, as the claims state it. -/
theorem frame_reference : Cert.quiescent_ReferenceIdeal := fun m ρ _ =>
  (θ_run _ _ _).mono (fun r h => ⟨fun c => (h c).2.2.2.2.2, sem_eq_zero_of_no_sems (by decide) r.2⟩)
    (Cert.ReferenceIdeal.Value.run m ρ)

attribute [local irreducible] Cert.ReferenceIdeal.Read.val_main_v110 Cert.ReferenceIdeal.Read.val_main_v112
  Cert.ReferenceIdeal.Read.val_main_v114 Cert.ReferenceIdeal.Read.val_main_v108 Cert.ReferenceIdeal.Read.val_main_v116
  Cert.ReferenceIdeal.Value.res_main_v110 Cert.ReferenceIdeal.Value.res_main_v112 Cert.ReferenceIdeal.Value.res_main_v114
  Cert.ReferenceIdeal.Value.res_main_v108 Cert.ReferenceIdeal.Value.res_main_v116

section

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD} {I : Cert.Attention.Inputs}
  (a0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))
  (H : Cert.ReferenceIdeal.Entries.Reads (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) I)
include a0 a1 a2 H

/-- The kernel's query gradients are the reference's, from equal arguments. -/
theorem same_dq : (Cert.KernelIdeal.Gen.dats m 0 c).arrAt 7 Cert.KernelIdeal.cfg0.N = Cert.ReferenceIdeal.Value.res_main_v110 m' c :=
  (Cert.KernelIdeal.Gen.meet_dq m c H).trans ((congr3 a0 a1 a2 Cert.ReferenceIdeal.Read.val_main_v110).symm.trans
    (Cert.ReferenceIdeal.Read.val_main_v110_eq m' c).symm)

/-- The kernel's key gradients are the reference's, from equal arguments. -/
theorem same_dk : (Cert.KernelIdeal.Gen.dats m 0 c).arrAt 8 Cert.KernelIdeal.cfg0.N = Cert.ReferenceIdeal.Value.res_main_v112 m' c :=
  (Cert.KernelIdeal.Gen.meet_dk m c H).trans ((congr3 a0 a1 a2 Cert.ReferenceIdeal.Read.val_main_v112).symm.trans
    (Cert.ReferenceIdeal.Read.val_main_v112_eq m' c).symm)

/-- The kernel's value gradients are the reference's, from equal arguments. -/
theorem same_dv : (Cert.KernelIdeal.Gen.dats m 0 c).arrAt 9 Cert.KernelIdeal.cfg0.N = Cert.ReferenceIdeal.Value.res_main_v114 m' c :=
  (Cert.KernelIdeal.Gen.meet_dv m c H).trans ((congr3 a0 a1 a2 Cert.ReferenceIdeal.Read.val_main_v114).symm.trans
    (Cert.ReferenceIdeal.Read.val_main_v114_eq m' c).symm)

/-- The kernel's key side's running-sum gradients are the reference's, from equal arguments. -/
theorem same_dcumK : (Cert.KernelIdeal.Gen.dats m 0 c).arrAt 10 Cert.KernelIdeal.cfg0.N = Cert.ReferenceIdeal.Value.res_main_v108 m' c :=
  (Cert.KernelIdeal.Gen.meet_dcumK m c H).trans ((congr3 a0 a1 a2 Cert.ReferenceIdeal.Read.val_main_v108).symm.trans
    (Cert.ReferenceIdeal.Read.val_main_v108_eq m' c).symm)

/-- The kernel's query side's running-sum gradients are the reference's, from equal arguments. -/
theorem same_dcumQ : (Cert.KernelIdeal.Gen.dats m 0 c).arrAt 11 Cert.KernelIdeal.cfg0.N = Cert.ReferenceIdeal.Value.res_main_v116 m' c :=
  (Cert.KernelIdeal.Gen.meet_dcumQ m c H).trans ((congr3 a0 a1 a2 Cert.ReferenceIdeal.Read.val_main_v116).symm.trans
    (Cert.ReferenceIdeal.Read.val_main_v116_eq m' c).symm)

end

/-- From real arguments the idealized kernel ends holding what the reference ends holding. -/
theorem values : Cert.algebraic_KernelIdeal_ReferenceIdeal_pre_finite (hPre_finite := Cert.Pre_finite.facts) := by
  intro m g m' g' hpre hagree
  refine ⟨fun c => Cert.ReferenceIdeal.Value.res_main_v110 m' c, fun c => Cert.ReferenceIdeal.Value.res_main_v112 m' c,
    fun c => Cert.ReferenceIdeal.Value.res_main_v114 m' c, fun c => Cert.ReferenceIdeal.Value.res_main_v108 m' c,
    fun c => Cert.ReferenceIdeal.Value.res_main_v116 m' c, ?_, Cert.ReferenceIdeal.Value.run m' g'⟩
  refine (θ_run _ _ _).mono (fun r h c => ?_) (Cert.KernelIdeal.Value.run_blocks m g)
  obtain ⟨h0, h1, h2, h3, h4, k0, k1, k2⟩ := h c
  obtain ⟨I, H⟩ := @Cert.Pre_finite.reads Cert.Pre_finite.facts _ _ _ (hpre c)
  obtain ⟨a0, a1, a2⟩ := hagree c
  exact ⟨h0.trans (same_dq a0 a1 a2 H), h1.trans (same_dk a0 a1 a2 H), h2.trans (same_dv a0 a1 a2 H),
    h3.trans (same_dcumK a0 a1 a2 H), h4.trans (same_dcumQ a0 a1 a2 H), k0, k1, k2⟩

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Pre_finite.facts,
    frame_kernel, frame_ideal, fun m ρ _ => frame_ideal m ρ trivial, frame_reference, fun m ρ _ => frame_reference m ρ trivial,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel18, frame_ideal18, frame_reference18,
    frame_kernel19, frame_ideal19, frame_reference19,
    frame_kernel20, frame_ideal20, frame_reference20,
    frame_kernel21, frame_ideal21, frame_reference21,
    frame_kernel22, frame_ideal22, frame_reference22,
    frame_kernel23, frame_ideal23, frame_reference23,
    ⟨IdealRules.named_const.statement _ _ _ _ _ rfl, IdealRules.named_const.statement _ _ _ _ _ rfl⟩, values,
    trivial, values2, trivial, values3, trivial, values4, trivial, values5, trivial, values6, trivial, values7, trivial, values8, trivial, values9, trivial, values10, trivial, values11, trivial, values12, trivial, values13,
    trivial, values14, trivial, values15, trivial, values16, trivial, values17, trivial, values18, trivial, values19, trivial, values20, trivial, values21, trivial, values22, trivial, values23⟩

end Cert.Proof

end
